-- ==== Defs.lean ====
def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite_ffn_mid [hPre_finite_ffn_mid : Cert.Pre_finite_ffn_mid.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite_ffn_mid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)) (m ((c.tc : Thread Cert.FfnMidIdeal.nD Cert.FfnMidIdeal.τ).loc Cert.FfnMidIdeal.main_arg5))) = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite_ffn_mid [hPre_finite_ffn_mid : Cert.Pre_finite_ffn_mid.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite_ffn_mid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn_bwd [hPre_finite_attn_bwd : Cert.Pre_finite_attn_bwd.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn_bwd [hPre_finite_attn_bwd : Cert.Pre_finite_attn_bwd.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn_bwd.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_OBwd (m : (ℓ : Loc Cert.OBwd.nD Cert.OBwd.τ Cert.OBwd.sig) → Buf (Elt Bits) ℓ) : Prop :=
  True

def Pre_OBwdIdeal (m : (ℓ : Loc Cert.OBwdIdeal.nD Cert.OBwdIdeal.τ Cert.OBwdIdeal.sig) → Buf (Elt Ideal) ℓ) : Prop :=
  True

def Pre_OBwdIdeal_finite_o_bwd [hPre_finite_o_bwd : Cert.Pre_finite_o_bwd.Facts] (m : (ℓ : Loc Cert.OBwdIdeal.nD Cert.OBwdIdeal.τ Cert.OBwdIdeal.sig) → Buf (Elt Ideal) ℓ) : Prop :=
  ∀ c : Dev Cert.OBwdIdeal.nD,
    (Cert.Pre_finite_o_bwd.fn (F := Ideal) (m ((c.tc : Thread Cert.OBwdIdeal.nD Cert.OBwdIdeal.τ).loc Cert.OBwdIdeal.main_arg0)) (m ((c.tc : Thread Cert.OBwdIdeal.nD Cert.OBwdIdeal.τ).loc Cert.OBwdIdeal.main_arg1)) (m ((c.tc : Thread Cert.OBwdIdeal.nD Cert.OBwdIdeal.τ).loc Cert.OBwdIdeal.main_arg2))) = (fun _ => 1#1)

def Pre_OBwdRefIdeal (m : (ℓ : Loc Cert.OBwdRefIdeal.nD Cert.OBwdRefIdeal.τ Cert.OBwdRefIdeal.sig) → Buf (Elt Ideal) ℓ) : Prop :=
  True

def Pre_OBwdRefIdeal_finite_o_bwd [hPre_finite_o_bwd : Cert.Pre_finite_o_bwd.Facts] (m : (ℓ : Loc Cert.OBwdRefIdeal.nD Cert.OBwdRefIdeal.τ Cert.OBwdRefIdeal.sig) → Buf (Elt Ideal) ℓ) : Prop :=
  ∀ c : Dev Cert.OBwdRefIdeal.nD,
    (Cert.Pre_finite_o_bwd.fn (F := Ideal) (m ((c.tc : Thread Cert.OBwdRefIdeal.nD Cert.OBwdRefIdeal.τ).loc Cert.OBwdRefIdeal.main_arg0)) (m ((c.tc : Thread Cert.OBwdRefIdeal.nD Cert.OBwdRefIdeal.τ).loc Cert.OBwdRefIdeal.main_arg1)) (m ((c.tc : Thread Cert.OBwdRefIdeal.nD Cert.OBwdRefIdeal.τ).loc Cert.OBwdRefIdeal.main_arg2))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in_bwd [hPre_finite_in_bwd : Cert.Pre_finite_in_bwd.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in_bwd.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_finite_in_bwd [hPre_finite_in_bwd : Cert.Pre_finite_in_bwd.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_finite_in_bwd.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffn_in [hPre_finite_ffn_in : Cert.Pre_finite_ffn_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7)) (m ((c.tc : Thread Cert.FfnInIdeal.nD Cert.FfnInIdeal.τ).loc Cert.FfnInIdeal.main_arg8)) (m ((c.tc : Thread Cert.FfnInIdeal.nD Cert.FfnInIdeal.τ).loc Cert.FfnInIdeal.main_arg9)) (m ((c.tc : Thread Cert.FfnInIdeal.nD Cert.FfnInIdeal.τ).loc Cert.FfnInIdeal.main_arg10))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffn_in [hPre_finite_ffn_in : Cert.Pre_finite_ffn_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6)) (m ((c.tc : Thread Cert.FfnInRefIdeal.nD Cert.FfnInRefIdeal.τ).loc Cert.FfnInRefIdeal.main_arg7)) (m ((c.tc : Thread Cert.FfnInRefIdeal.nD Cert.FfnInRefIdeal.τ).loc Cert.FfnInRefIdeal.main_arg8)) (m ((c.tc : Thread Cert.FfnInRefIdeal.nD Cert.FfnInRefIdeal.τ).loc Cert.FfnInRefIdeal.main_arg9)) (m ((c.tc : Thread Cert.FfnInRefIdeal.nD Cert.FfnInRefIdeal.τ).loc Cert.FfnInRefIdeal.main_arg10))) = (fun _ => 1#1)

def Pre_PleLoss (m : (ℓ : Loc Cert.PleLoss.nD Cert.PleLoss.τ Cert.PleLoss.sig) → Buf (Elt Bits) ℓ) : Prop :=
  True

def Pre_PleLossIdeal (m : (ℓ : Loc Cert.PleLossIdeal.nD Cert.PleLossIdeal.τ Cert.PleLossIdeal.sig) → Buf (Elt Ideal) ℓ) : Prop :=
  True

def Pre_PleLossIdeal_finite_ple_loss [hPre_finite_ple_loss : Cert.Pre_finite_ple_loss.Facts] (m : (ℓ : Loc Cert.PleLossIdeal.nD Cert.PleLossIdeal.τ Cert.PleLossIdeal.sig) → Buf (Elt Ideal) ℓ) : Prop :=
  ∀ c : Dev Cert.PleLossIdeal.nD,
    (Cert.Pre_finite_ple_loss.fn (F := Ideal) (m ((c.tc : Thread Cert.PleLossIdeal.nD Cert.PleLossIdeal.τ).loc Cert.PleLossIdeal.main_arg0)) (m ((c.tc : Thread Cert.PleLossIdeal.nD Cert.PleLossIdeal.τ).loc Cert.PleLossIdeal.main_arg1)) (m ((c.tc : Thread Cert.PleLossIdeal.nD Cert.PleLossIdeal.τ).loc Cert.PleLossIdeal.main_arg2)) (m ((c.tc : Thread Cert.PleLossIdeal.nD Cert.PleLossIdeal.τ).loc Cert.PleLossIdeal.main_arg3)) (m ((c.tc : Thread Cert.PleLossIdeal.nD Cert.PleLossIdeal.τ).loc Cert.PleLossIdeal.main_arg4)) (m ((c.tc : Thread Cert.PleLossIdeal.nD Cert.PleLossIdeal.τ).loc Cert.PleLossIdeal.main_arg5)) (m ((c.tc : Thread Cert.PleLossIdeal.nD Cert.PleLossIdeal.τ).loc Cert.PleLossIdeal.main_arg6)) (m ((c.tc : Thread Cert.PleLossIdeal.nD Cert.PleLossIdeal.τ).loc Cert.PleLossIdeal.main_arg7)) (m ((c.tc : Thread Cert.PleLossIdeal.nD Cert.PleLossIdeal.τ).loc Cert.PleLossIdeal.main_arg8)) (m ((c.tc : Thread Cert.PleLossIdeal.nD Cert.PleLossIdeal.τ).loc Cert.PleLossIdeal.main_arg9))) = (fun _ => 1#1)

def Pre_PleLossRefIdeal (m : (ℓ : Loc Cert.PleLossRefIdeal.nD Cert.PleLossRefIdeal.τ Cert.PleLossRefIdeal.sig) → Buf (Elt Ideal) ℓ) : Prop :=
  True

def Pre_PleLossRefIdeal_finite_ple_loss [hPre_finite_ple_loss : Cert.Pre_finite_ple_loss.Facts] (m : (ℓ : Loc Cert.PleLossRefIdeal.nD Cert.PleLossRefIdeal.τ Cert.PleLossRefIdeal.sig) → Buf (Elt Ideal) ℓ) : Prop :=
  ∀ c : Dev Cert.PleLossRefIdeal.nD,
    (Cert.Pre_finite_ple_loss.fn (F := Ideal) (m ((c.tc : Thread Cert.PleLossRefIdeal.nD Cert.PleLossRefIdeal.τ).loc Cert.PleLossRefIdeal.main_arg0)) (m ((c.tc : Thread Cert.PleLossRefIdeal.nD Cert.PleLossRefIdeal.τ).loc Cert.PleLossRefIdeal.main_arg1)) (m ((c.tc : Thread Cert.PleLossRefIdeal.nD Cert.PleLossRefIdeal.τ).loc Cert.PleLossRefIdeal.main_arg2)) (m ((c.tc : Thread Cert.PleLossRefIdeal.nD Cert.PleLossRefIdeal.τ).loc Cert.PleLossRefIdeal.main_arg3)) (m ((c.tc : Thread Cert.PleLossRefIdeal.nD Cert.PleLossRefIdeal.τ).loc Cert.PleLossRefIdeal.main_arg4)) (m ((c.tc : Thread Cert.PleLossRefIdeal.nD Cert.PleLossRefIdeal.τ).loc Cert.PleLossRefIdeal.main_arg5)) (m ((c.tc : Thread Cert.PleLossRefIdeal.nD Cert.PleLossRefIdeal.τ).loc Cert.PleLossRefIdeal.main_arg6)) (m ((c.tc : Thread Cert.PleLossRefIdeal.nD Cert.PleLossRefIdeal.τ).loc Cert.PleLossRefIdeal.main_arg7)) (m ((c.tc : Thread Cert.PleLossRefIdeal.nD Cert.PleLossRefIdeal.τ).loc Cert.PleLossRefIdeal.main_arg8)) (m ((c.tc : Thread Cert.PleLossRefIdeal.nD Cert.PleLossRefIdeal.τ).loc Cert.PleLossRefIdeal.main_arg9))) = (fun _ => 1#1)

def Pre_QkvBwd (m : (ℓ : Loc Cert.QkvBwd.nD Cert.QkvBwd.τ Cert.QkvBwd.sig) → Buf (Elt Bits) ℓ) : Prop :=
  True

def Pre_QkvBwdIdeal (m : (ℓ : Loc Cert.QkvBwdIdeal.nD Cert.QkvBwdIdeal.τ Cert.QkvBwdIdeal.sig) → Buf (Elt Ideal) ℓ) : Prop :=
  True

def Pre_QkvBwdIdeal_finite_qkv_bwd [hPre_finite_qkv_bwd : Cert.Pre_finite_qkv_bwd.Facts] (m : (ℓ : Loc Cert.QkvBwdIdeal.nD Cert.QkvBwdIdeal.τ Cert.QkvBwdIdeal.sig) → Buf (Elt Ideal) ℓ) : Prop :=
  ∀ c : Dev Cert.QkvBwdIdeal.nD,
    (Cert.Pre_finite_qkv_bwd.fn (F := Ideal) (m ((c.tc : Thread Cert.QkvBwdIdeal.nD Cert.QkvBwdIdeal.τ).loc Cert.QkvBwdIdeal.main_arg0)) (m ((c.tc : Thread Cert.QkvBwdIdeal.nD Cert.QkvBwdIdeal.τ).loc Cert.QkvBwdIdeal.main_arg1)) (m ((c.tc : Thread Cert.QkvBwdIdeal.nD Cert.QkvBwdIdeal.τ).loc Cert.QkvBwdIdeal.main_arg2)) (m ((c.tc : Thread Cert.QkvBwdIdeal.nD Cert.QkvBwdIdeal.τ).loc Cert.QkvBwdIdeal.main_arg3)) (m ((c.tc : Thread Cert.QkvBwdIdeal.nD Cert.QkvBwdIdeal.τ).loc Cert.QkvBwdIdeal.main_arg4)) (m ((c.tc : Thread Cert.QkvBwdIdeal.nD Cert.QkvBwdIdeal.τ).loc Cert.QkvBwdIdeal.main_arg5)) (m ((c.tc : Thread Cert.QkvBwdIdeal.nD Cert.QkvBwdIdeal.τ).loc Cert.QkvBwdIdeal.main_arg6)) (m ((c.tc : Thread Cert.QkvBwdIdeal.nD Cert.QkvBwdIdeal.τ).loc Cert.QkvBwdIdeal.main_arg7)) (m ((c.tc : Thread Cert.QkvBwdIdeal.nD Cert.QkvBwdIdeal.τ).loc Cert.QkvBwdIdeal.main_arg8)) (m ((c.tc : Thread Cert.QkvBwdIdeal.nD Cert.QkvBwdIdeal.τ).loc Cert.QkvBwdIdeal.main_arg9))) = (fun _ => 1#1)

def Pre_QkvBwdRefIdeal (m : (ℓ : Loc Cert.QkvBwdRefIdeal.nD Cert.QkvBwdRefIdeal.τ Cert.QkvBwdRefIdeal.sig) → Buf (Elt Ideal) ℓ) : Prop :=
  True

def Pre_QkvBwdRefIdeal_finite_qkv_bwd [hPre_finite_qkv_bwd : Cert.Pre_finite_qkv_bwd.Facts] (m : (ℓ : Loc Cert.QkvBwdRefIdeal.nD Cert.QkvBwdRefIdeal.τ Cert.QkvBwdRefIdeal.sig) → Buf (Elt Ideal) ℓ) : Prop :=
  ∀ c : Dev Cert.QkvBwdRefIdeal.nD,
    (Cert.Pre_finite_qkv_bwd.fn (F := Ideal) (m ((c.tc : Thread Cert.QkvBwdRefIdeal.nD Cert.QkvBwdRefIdeal.τ).loc Cert.QkvBwdRefIdeal.main_arg0)) (m ((c.tc : Thread Cert.QkvBwdRefIdeal.nD Cert.QkvBwdRefIdeal.τ).loc Cert.QkvBwdRefIdeal.main_arg1)) (m ((c.tc : Thread Cert.QkvBwdRefIdeal.nD Cert.QkvBwdRefIdeal.τ).loc Cert.QkvBwdRefIdeal.main_arg2)) (m ((c.tc : Thread Cert.QkvBwdRefIdeal.nD Cert.QkvBwdRefIdeal.τ).loc Cert.QkvBwdRefIdeal.main_arg3)) (m ((c.tc : Thread Cert.QkvBwdRefIdeal.nD Cert.QkvBwdRefIdeal.τ).loc Cert.QkvBwdRefIdeal.main_arg4)) (m ((c.tc : Thread Cert.QkvBwdRefIdeal.nD Cert.QkvBwdRefIdeal.τ).loc Cert.QkvBwdRefIdeal.main_arg5)) (m ((c.tc : Thread Cert.QkvBwdRefIdeal.nD Cert.QkvBwdRefIdeal.τ).loc Cert.QkvBwdRefIdeal.main_arg6)) (m ((c.tc : Thread Cert.QkvBwdRefIdeal.nD Cert.QkvBwdRefIdeal.τ).loc Cert.QkvBwdRefIdeal.main_arg7)) (m ((c.tc : Thread Cert.QkvBwdRefIdeal.nD Cert.QkvBwdRefIdeal.τ).loc Cert.QkvBwdRefIdeal.main_arg8)) (m ((c.tc : Thread Cert.QkvBwdRefIdeal.nD Cert.QkvBwdRefIdeal.τ).loc Cert.QkvBwdRefIdeal.main_arg9))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidIdeal_pre_finite_ffn_mid [hFfnMidIdeal : Cert.FfnMidIdeal.Facts] [hPre_finite_ffn_mid : Cert.Pre_finite_ffn_mid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite_ffn_mid m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnMidRefIdeal_pre_finite_ffn_mid [hFfnMidRefIdeal : Cert.FfnMidRefIdeal.Facts] [hPre_finite_ffn_mid : Cert.Pre_finite_ffn_mid.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite_ffn_mid m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn_bwd [hAttnBwdIdeal : Cert.AttnBwdIdeal.Facts] [hPre_finite_attn_bwd : Cert.Pre_finite_attn_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn_bwd m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_attn_bwd [hAttnBwdRefIdeal : Cert.AttnBwdRefIdeal.Facts] [hPre_finite_attn_bwd : Cert.Pre_finite_attn_bwd.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn_bwd m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_OBwd [hOBwd : Cert.OBwd.Facts] : Prop :=
  ∀ (m : (ℓ : Loc Cert.OBwd.nD Cert.OBwd.τ Cert.OBwd.sig) → Buf (Elt Bits) ℓ) (g : Dev Cert.OBwd.nD → PrngReg), Pre_OBwd m →
    θ_run (Cert.OBwd.defs (F := Bits)) (onTc (τ := Cert.OBwd.τ) (Cert.OBwd.main (F := Bits))) ⟨m, fun _ => 0, g⟩ (fun r => (∀ c : Dev Cert.OBwd.nD,
      r.2.mem ((c.tc : Thread Cert.OBwd.nD Cert.OBwd.τ).loc Cert.OBwd.main_arg0) = m ((c.tc : Thread Cert.OBwd.nD Cert.OBwd.τ).loc Cert.OBwd.main_arg0)
      ∧ r.2.mem ((c.tc : Thread Cert.OBwd.nD Cert.OBwd.τ).loc Cert.OBwd.main_arg1) = m ((c.tc : Thread Cert.OBwd.nD Cert.OBwd.τ).loc Cert.OBwd.main_arg1)
      ∧ r.2.mem ((c.tc : Thread Cert.OBwd.nD Cert.OBwd.τ).loc Cert.OBwd.main_arg2) = m ((c.tc : Thread Cert.OBwd.nD Cert.OBwd.τ).loc Cert.OBwd.main_arg2))
      ∧ r.2.sem = fun _ => 0)

def quiescent_OBwdIdeal [hOBwdIdeal : Cert.OBwdIdeal.Facts] : Prop :=
  ∀ (m : (ℓ : Loc Cert.OBwdIdeal.nD Cert.OBwdIdeal.τ Cert.OBwdIdeal.sig) → Buf (Elt Ideal) ℓ) (g : Dev Cert.OBwdIdeal.nD → PrngReg), Pre_OBwdIdeal m →
    θ_run (Cert.OBwdIdeal.defs (F := Ideal)) (onTc (τ := Cert.OBwdIdeal.τ) (Cert.OBwdIdeal.main (F := Ideal))) ⟨m, fun _ => 0, g⟩ (fun r => (∀ c : Dev Cert.OBwdIdeal.nD,
      r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
      ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
      ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ r.2.sem = fun _ => 0)

def quiescent_OBwdIdeal_pre_finite_o_bwd [hOBwdIdeal : Cert.OBwdIdeal.Facts] [hPre_finite_o_bwd : Cert.Pre_finite_o_bwd.Facts] : Prop :=
  ∀ (m : (ℓ : Loc Cert.OBwdIdeal.nD Cert.OBwdIdeal.τ Cert.OBwdIdeal.sig) → Buf (Elt Ideal) ℓ) (g : Dev Cert.OBwdIdeal.nD → PrngReg), Pre_OBwdIdeal_finite_o_bwd m →
    θ_run (Cert.OBwdIdeal.defs (F := Ideal)) (onTc (τ := Cert.OBwdIdeal.τ) (Cert.OBwdIdeal.main (F := Ideal))) ⟨m, fun _ => 0, g⟩ (fun r => (∀ c : Dev Cert.OBwdIdeal.nD,
      r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
      ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
      ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ r.2.sem = fun _ => 0)

def quiescent_OBwdRefIdeal [hOBwdRefIdeal : Cert.OBwdRefIdeal.Facts] : Prop :=
  ∀ (m : (ℓ : Loc Cert.OBwdRefIdeal.nD Cert.OBwdRefIdeal.τ Cert.OBwdRefIdeal.sig) → Buf (Elt Ideal) ℓ) (g : Dev Cert.OBwdRefIdeal.nD → PrngReg), Pre_OBwdRefIdeal m →
    θ_run (Cert.OBwdRefIdeal.defs (F := Ideal)) (onTc (τ := Cert.OBwdRefIdeal.τ) (Cert.OBwdRefIdeal.main (F := Ideal))) ⟨m, fun _ => 0, g⟩ (fun r => (∀ c : Dev Cert.OBwdRefIdeal.nD,
      r.2.mem ((c.tc : Thread Cert.OBwdRefIdeal.nD Cert.OBwdRefIdeal.τ).loc Cert.OBwdRefIdeal.main_arg0) = m ((c.tc : Thread Cert.OBwdRefIdeal.nD Cert.OBwdRefIdeal.τ).loc Cert.OBwdRefIdeal.main_arg0)
      ∧ r.2.mem ((c.tc : Thread Cert.OBwdRefIdeal.nD Cert.OBwdRefIdeal.τ).loc Cert.OBwdRefIdeal.main_arg1) = m ((c.tc : Thread Cert.OBwdRefIdeal.nD Cert.OBwdRefIdeal.τ).loc Cert.OBwdRefIdeal.main_arg1)
      ∧ r.2.mem ((c.tc : Thread Cert.OBwdRefIdeal.nD Cert.OBwdRefIdeal.τ).loc Cert.OBwdRefIdeal.main_arg2) = m ((c.tc : Thread Cert.OBwdRefIdeal.nD Cert.OBwdRefIdeal.τ).loc Cert.OBwdRefIdeal.main_arg2))
      ∧ r.2.sem = fun _ => 0)

def quiescent_OBwdRefIdeal_pre_finite_o_bwd [hOBwdRefIdeal : Cert.OBwdRefIdeal.Facts] [hPre_finite_o_bwd : Cert.Pre_finite_o_bwd.Facts] : Prop :=
  ∀ (m : (ℓ : Loc Cert.OBwdRefIdeal.nD Cert.OBwdRefIdeal.τ Cert.OBwdRefIdeal.sig) → Buf (Elt Ideal) ℓ) (g : Dev Cert.OBwdRefIdeal.nD → PrngReg), Pre_OBwdRefIdeal_finite_o_bwd m →
    θ_run (Cert.OBwdRefIdeal.defs (F := Ideal)) (onTc (τ := Cert.OBwdRefIdeal.τ) (Cert.OBwdRefIdeal.main (F := Ideal))) ⟨m, fun _ => 0, g⟩ (fun r => (∀ c : Dev Cert.OBwdRefIdeal.nD,
      r.2.mem ((c.tc : Thread Cert.OBwdRefIdeal.nD Cert.OBwdRefIdeal.τ).loc Cert.OBwdRefIdeal.main_arg0) = m ((c.tc : Thread Cert.OBwdRefIdeal.nD Cert.OBwdRefIdeal.τ).loc Cert.OBwdRefIdeal.main_arg0)
      ∧ r.2.mem ((c.tc : Thread Cert.OBwdRefIdeal.nD Cert.OBwdRefIdeal.τ).loc Cert.OBwdRefIdeal.main_arg1) = m ((c.tc : Thread Cert.OBwdRefIdeal.nD Cert.OBwdRefIdeal.τ).loc Cert.OBwdRefIdeal.main_arg1)
      ∧ r.2.mem ((c.tc : Thread Cert.OBwdRefIdeal.nD Cert.OBwdRefIdeal.τ).loc Cert.OBwdRefIdeal.main_arg2) = m ((c.tc : Thread Cert.OBwdRefIdeal.nD Cert.OBwdRefIdeal.τ).loc Cert.OBwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_finite_in_bwd [hInBwdIdeal : Cert.InBwdIdeal.Facts] [hPre_finite_in_bwd : Cert.Pre_finite_in_bwd.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in_bwd m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_finite_in_bwd [hInBwdRefIdeal : Cert.InBwdRefIdeal.Facts] [hPre_finite_in_bwd : Cert.Pre_finite_in_bwd.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_finite_in_bwd m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7)
      ∧ r.2.mem ((c.tc : Thread Cert.FfnIn.nD Cert.FfnIn.τ).loc Cert.FfnIn.main_arg8) = m ((c.tc : Thread Cert.FfnIn.nD Cert.FfnIn.τ).loc Cert.FfnIn.main_arg8)
      ∧ r.2.mem ((c.tc : Thread Cert.FfnIn.nD Cert.FfnIn.τ).loc Cert.FfnIn.main_arg9) = m ((c.tc : Thread Cert.FfnIn.nD Cert.FfnIn.τ).loc Cert.FfnIn.main_arg9)
      ∧ r.2.mem ((c.tc : Thread Cert.FfnIn.nD Cert.FfnIn.τ).loc Cert.FfnIn.main_arg10) = m ((c.tc : Thread Cert.FfnIn.nD Cert.FfnIn.τ).loc Cert.FfnIn.main_arg10))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
      ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
      ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ r.2.sem = fun _ => 0)

def quiescent_FfnInIdeal_pre_finite_ffn_in [hFfnInIdeal : Cert.FfnInIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffn_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
      ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
      ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
      ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8)
      ∧ r.2.mem ((c.tc : Thread Cert.FfnInRefIdeal.nD Cert.FfnInRefIdeal.τ).loc Cert.FfnInRefIdeal.main_arg9) = m ((c.tc : Thread Cert.FfnInRefIdeal.nD Cert.FfnInRefIdeal.τ).loc Cert.FfnInRefIdeal.main_arg9)
      ∧ r.2.mem ((c.tc : Thread Cert.FfnInRefIdeal.nD Cert.FfnInRefIdeal.τ).loc Cert.FfnInRefIdeal.main_arg10) = m ((c.tc : Thread Cert.FfnInRefIdeal.nD Cert.FfnInRefIdeal.τ).loc Cert.FfnInRefIdeal.main_arg10))
      ∧ r.2.sem = fun _ => 0)

def quiescent_FfnInRefIdeal_pre_finite_ffn_in [hFfnInRefIdeal : Cert.FfnInRefIdeal.Facts] [hPre_finite_ffn_in : Cert.Pre_finite_ffn_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffn_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6)
      ∧ r.2.mem ((c.tc : Thread Cert.FfnInRefIdeal.nD Cert.FfnInRefIdeal.τ).loc Cert.FfnInRefIdeal.main_arg7) = m ((c.tc : Thread Cert.FfnInRefIdeal.nD Cert.FfnInRefIdeal.τ).loc Cert.FfnInRefIdeal.main_arg7)
      ∧ r.2.mem ((c.tc : Thread Cert.FfnInRefIdeal.nD Cert.FfnInRefIdeal.τ).loc Cert.FfnInRefIdeal.main_arg8) = m ((c.tc : Thread Cert.FfnInRefIdeal.nD Cert.FfnInRefIdeal.τ).loc Cert.FfnInRefIdeal.main_arg8)
      ∧ r.2.mem ((c.tc : Thread Cert.FfnInRefIdeal.nD Cert.FfnInRefIdeal.τ).loc Cert.FfnInRefIdeal.main_arg9) = m ((c.tc : Thread Cert.FfnInRefIdeal.nD Cert.FfnInRefIdeal.τ).loc Cert.FfnInRefIdeal.main_arg9)
      ∧ r.2.mem ((c.tc : Thread Cert.FfnInRefIdeal.nD Cert.FfnInRefIdeal.τ).loc Cert.FfnInRefIdeal.main_arg10) = m ((c.tc : Thread Cert.FfnInRefIdeal.nD Cert.FfnInRefIdeal.τ).loc Cert.FfnInRefIdeal.main_arg10))
      ∧ r.2.sem = fun _ => 0)

def quiescent_PleLoss [hPleLoss : Cert.PleLoss.Facts] : Prop :=
  ∀ (m : (ℓ : Loc Cert.PleLoss.nD Cert.PleLoss.τ Cert.PleLoss.sig) → Buf (Elt Bits) ℓ) (g : Dev Cert.PleLoss.nD → PrngReg), Pre_PleLoss m →
    θ_run (Cert.PleLoss.defs (F := Bits)) (onTc (τ := Cert.PleLoss.τ) (Cert.PleLoss.main (F := Bits))) ⟨m, fun _ => 0, g⟩ (fun r => (∀ c : Dev Cert.PleLoss.nD,
      r.2.mem ((c.tc : Thread Cert.PleLoss.nD Cert.PleLoss.τ).loc Cert.PleLoss.main_arg0) = m ((c.tc : Thread Cert.PleLoss.nD Cert.PleLoss.τ).loc Cert.PleLoss.main_arg0)
      ∧ r.2.mem ((c.tc : Thread Cert.PleLoss.nD Cert.PleLoss.τ).loc Cert.PleLoss.main_arg1) = m ((c.tc : Thread Cert.PleLoss.nD Cert.PleLoss.τ).loc Cert.PleLoss.main_arg1)
      ∧ r.2.mem ((c.tc : Thread Cert.PleLoss.nD Cert.PleLoss.τ).loc Cert.PleLoss.main_arg2) = m ((c.tc : Thread Cert.PleLoss.nD Cert.PleLoss.τ).loc Cert.PleLoss.main_arg2)
      ∧ r.2.mem ((c.tc : Thread Cert.PleLoss.nD Cert.PleLoss.τ).loc Cert.PleLoss.main_arg3) = m ((c.tc : Thread Cert.PleLoss.nD Cert.PleLoss.τ).loc Cert.PleLoss.main_arg3)
      ∧ r.2.mem ((c.tc : Thread Cert.PleLoss.nD Cert.PleLoss.τ).loc Cert.PleLoss.main_arg4) = m ((c.tc : Thread Cert.PleLoss.nD Cert.PleLoss.τ).loc Cert.PleLoss.main_arg4)
      ∧ r.2.mem ((c.tc : Thread Cert.PleLoss.nD Cert.PleLoss.τ).loc Cert.PleLoss.main_arg5) = m ((c.tc : Thread Cert.PleLoss.nD Cert.PleLoss.τ).loc Cert.PleLoss.main_arg5)
      ∧ r.2.mem ((c.tc : Thread Cert.PleLoss.nD Cert.PleLoss.τ).loc Cert.PleLoss.main_arg6) = m ((c.tc : Thread Cert.PleLoss.nD Cert.PleLoss.τ).loc Cert.PleLoss.main_arg6)
      ∧ r.2.mem ((c.tc : Thread Cert.PleLoss.nD Cert.PleLoss.τ).loc Cert.PleLoss.main_arg7) = m ((c.tc : Thread Cert.PleLoss.nD Cert.PleLoss.τ).loc Cert.PleLoss.main_arg7)
      ∧ r.2.mem ((c.tc : Thread Cert.PleLoss.nD Cert.PleLoss.τ).loc Cert.PleLoss.main_arg8) = m ((c.tc : Thread Cert.PleLoss.nD Cert.PleLoss.τ).loc Cert.PleLoss.main_arg8)
      ∧ r.2.mem ((c.tc : Thread Cert.PleLoss.nD Cert.PleLoss.τ).loc Cert.PleLoss.main_arg9) = m ((c.tc : Thread Cert.PleLoss.nD Cert.PleLoss.τ).loc Cert.PleLoss.main_arg9))
      ∧ r.2.sem = fun _ => 0)

def quiescent_PleLossIdeal [hPleLossIdeal : Cert.PleLossIdeal.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5)
      ∧ r.2.mem ((c.tc : Thread Cert.PleLossIdeal.nD Cert.PleLossIdeal.τ).loc Cert.PleLossIdeal.main_arg6) = m ((c.tc : Thread Cert.PleLossIdeal.nD Cert.PleLossIdeal.τ).loc Cert.PleLossIdeal.main_arg6)
      ∧ r.2.mem ((c.tc : Thread Cert.PleLossIdeal.nD Cert.PleLossIdeal.τ).loc Cert.PleLossIdeal.main_arg7) = m ((c.tc : Thread Cert.PleLossIdeal.nD Cert.PleLossIdeal.τ).loc Cert.PleLossIdeal.main_arg7)
      ∧ r.2.mem ((c.tc : Thread Cert.PleLossIdeal.nD Cert.PleLossIdeal.τ).loc Cert.PleLossIdeal.main_arg8) = m ((c.tc : Thread Cert.PleLossIdeal.nD Cert.PleLossIdeal.τ).loc Cert.PleLossIdeal.main_arg8)
      ∧ r.2.mem ((c.tc : Thread Cert.PleLossIdeal.nD Cert.PleLossIdeal.τ).loc Cert.PleLossIdeal.main_arg9) = m ((c.tc : Thread Cert.PleLossIdeal.nD Cert.PleLossIdeal.τ).loc Cert.PleLossIdeal.main_arg9))
      ∧ r.2.sem = fun _ => 0)

def quiescent_PleLossIdeal_pre_finite_ple_loss [hPleLossIdeal : Cert.PleLossIdeal.Facts] [hPre_finite_ple_loss : Cert.Pre_finite_ple_loss.Facts] : Prop :=
  ∀ (m : (ℓ : Loc Cert.PleLossIdeal.nD Cert.PleLossIdeal.τ Cert.PleLossIdeal.sig) → Buf (Elt Ideal) ℓ) (g : Dev Cert.PleLossIdeal.nD → PrngReg), Pre_PleLossIdeal_finite_ple_loss m →
    θ_run (Cert.PleLossIdeal.defs (F := Ideal)) (onTc (τ := Cert.PleLossIdeal.τ) (Cert.PleLossIdeal.main (F := Ideal))) ⟨m, fun _ => 0, g⟩ (fun r => (∀ c : Dev Cert.PleLossIdeal.nD,
      r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
      ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
      ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
      ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
      ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
      ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5)
      ∧ r.2.mem ((c.tc : Thread Cert.PleLossIdeal.nD Cert.PleLossIdeal.τ).loc Cert.PleLossIdeal.main_arg6) = m ((c.tc : Thread Cert.PleLossIdeal.nD Cert.PleLossIdeal.τ).loc Cert.PleLossIdeal.main_arg6)
      ∧ r.2.mem ((c.tc : Thread Cert.PleLossIdeal.nD Cert.PleLossIdeal.τ).loc Cert.PleLossIdeal.main_arg7) = m ((c.tc : Thread Cert.PleLossIdeal.nD Cert.PleLossIdeal.τ).loc Cert.PleLossIdeal.main_arg7)
      ∧ r.2.mem ((c.tc : Thread Cert.PleLossIdeal.nD Cert.PleLossIdeal.τ).loc Cert.PleLossIdeal.main_arg8) = m ((c.tc : Thread Cert.PleLossIdeal.nD Cert.PleLossIdeal.τ).loc Cert.PleLossIdeal.main_arg8)
      ∧ r.2.mem ((c.tc : Thread Cert.PleLossIdeal.nD Cert.PleLossIdeal.τ).loc Cert.PleLossIdeal.main_arg9) = m ((c.tc : Thread Cert.PleLossIdeal.nD Cert.PleLossIdeal.τ).loc Cert.PleLossIdeal.main_arg9))
      ∧ r.2.sem = fun _ => 0)

def quiescent_PleLossRefIdeal [hPleLossRefIdeal : Cert.PleLossRefIdeal.Facts] : Prop :=
  ∀ (m : (ℓ : Loc Cert.PleLossRefIdeal.nD Cert.PleLossRefIdeal.τ Cert.PleLossRefIdeal.sig) → Buf (Elt Ideal) ℓ) (g : Dev Cert.PleLossRefIdeal.nD → PrngReg), Pre_PleLossRefIdeal m →
    θ_run (Cert.PleLossRefIdeal.defs (F := Ideal)) (onTc (τ := Cert.PleLossRefIdeal.τ) (Cert.PleLossRefIdeal.main (F := Ideal))) ⟨m, fun _ => 0, g⟩ (fun r => (∀ c : Dev Cert.PleLossRefIdeal.nD,
      r.2.mem ((c.tc : Thread Cert.PleLossRefIdeal.nD Cert.PleLossRefIdeal.τ).loc Cert.PleLossRefIdeal.main_arg0) = m ((c.tc : Thread Cert.PleLossRefIdeal.nD Cert.PleLossRefIdeal.τ).loc Cert.PleLossRefIdeal.main_arg0)
      ∧ r.2.mem ((c.tc : Thread Cert.PleLossRefIdeal.nD Cert.PleLossRefIdeal.τ).loc Cert.PleLossRefIdeal.main_arg1) = m ((c.tc : Thread Cert.PleLossRefIdeal.nD Cert.PleLossRefIdeal.τ).loc Cert.PleLossRefIdeal.main_arg1)
      ∧ r.2.mem ((c.tc : Thread Cert.PleLossRefIdeal.nD Cert.PleLossRefIdeal.τ).loc Cert.PleLossRefIdeal.main_arg2) = m ((c.tc : Thread Cert.PleLossRefIdeal.nD Cert.PleLossRefIdeal.τ).loc Cert.PleLossRefIdeal.main_arg2)
      ∧ r.2.mem ((c.tc : Thread Cert.PleLossRefIdeal.nD Cert.PleLossRefIdeal.τ).loc Cert.PleLossRefIdeal.main_arg3) = m ((c.tc : Thread Cert.PleLossRefIdeal.nD Cert.PleLossRefIdeal.τ).loc Cert.PleLossRefIdeal.main_arg3)
      ∧ r.2.mem ((c.tc : Thread Cert.PleLossRefIdeal.nD Cert.PleLossRefIdeal.τ).loc Cert.PleLossRefIdeal.main_arg4) = m ((c.tc : Thread Cert.PleLossRefIdeal.nD Cert.PleLossRefIdeal.τ).loc Cert.PleLossRefIdeal.main_arg4)
      ∧ r.2.mem ((c.tc : Thread Cert.PleLossRefIdeal.nD Cert.PleLossRefIdeal.τ).loc Cert.PleLossRefIdeal.main_arg5) = m ((c.tc : Thread Cert.PleLossRefIdeal.nD Cert.PleLossRefIdeal.τ).loc Cert.PleLossRefIdeal.main_arg5)
      ∧ r.2.mem ((c.tc : Thread Cert.PleLossRefIdeal.nD Cert.PleLossRefIdeal.τ).loc Cert.PleLossRefIdeal.main_arg6) = m ((c.tc : Thread Cert.PleLossRefIdeal.nD Cert.PleLossRefIdeal.τ).loc Cert.PleLossRefIdeal.main_arg6)
      ∧ r.2.mem ((c.tc : Thread Cert.PleLossRefIdeal.nD Cert.PleLossRefIdeal.τ).loc Cert.PleLossRefIdeal.main_arg7) = m ((c.tc : Thread Cert.PleLossRefIdeal.nD Cert.PleLossRefIdeal.τ).loc Cert.PleLossRefIdeal.main_arg7)
      ∧ r.2.mem ((c.tc : Thread Cert.PleLossRefIdeal.nD Cert.PleLossRefIdeal.τ).loc Cert.PleLossRefIdeal.main_arg8) = m ((c.tc : Thread Cert.PleLossRefIdeal.nD Cert.PleLossRefIdeal.τ).loc Cert.PleLossRefIdeal.main_arg8)
      ∧ r.2.mem ((c.tc : Thread Cert.PleLossRefIdeal.nD Cert.PleLossRefIdeal.τ).loc Cert.PleLossRefIdeal.main_arg9) = m ((c.tc : Thread Cert.PleLossRefIdeal.nD Cert.PleLossRefIdeal.τ).loc Cert.PleLossRefIdeal.main_arg9))
      ∧ r.2.sem = fun _ => 0)

def quiescent_PleLossRefIdeal_pre_finite_ple_loss [hPleLossRefIdeal : Cert.PleLossRefIdeal.Facts] [hPre_finite_ple_loss : Cert.Pre_finite_ple_loss.Facts] : Prop :=
  ∀ (m : (ℓ : Loc Cert.PleLossRefIdeal.nD Cert.PleLossRefIdeal.τ Cert.PleLossRefIdeal.sig) → Buf (Elt Ideal) ℓ) (g : Dev Cert.PleLossRefIdeal.nD → PrngReg), Pre_PleLossRefIdeal_finite_ple_loss m →
    θ_run (Cert.PleLossRefIdeal.defs (F := Ideal)) (onTc (τ := Cert.PleLossRefIdeal.τ) (Cert.PleLossRefIdeal.main (F := Ideal))) ⟨m, fun _ => 0, g⟩ (fun r => (∀ c : Dev Cert.PleLossRefIdeal.nD,
      r.2.mem ((c.tc : Thread Cert.PleLossRefIdeal.nD Cert.PleLossRefIdeal.τ).loc Cert.PleLossRefIdeal.main_arg0) = m ((c.tc : Thread Cert.PleLossRefIdeal.nD Cert.PleLossRefIdeal.τ).loc Cert.PleLossRefIdeal.main_arg0)
      ∧ r.2.mem ((c.tc : Thread Cert.PleLossRefIdeal.nD Cert.PleLossRefIdeal.τ).loc Cert.PleLossRefIdeal.main_arg1) = m ((c.tc : Thread Cert.PleLossRefIdeal.nD Cert.PleLossRefIdeal.τ).loc Cert.PleLossRefIdeal.main_arg1)
      ∧ r.2.mem ((c.tc : Thread Cert.PleLossRefIdeal.nD Cert.PleLossRefIdeal.τ).loc Cert.PleLossRefIdeal.main_arg2) = m ((c.tc : Thread Cert.PleLossRefIdeal.nD Cert.PleLossRefIdeal.τ).loc Cert.PleLossRefIdeal.main_arg2)
      ∧ r.2.mem ((c.tc : Thread Cert.PleLossRefIdeal.nD Cert.PleLossRefIdeal.τ).loc Cert.PleLossRefIdeal.main_arg3) = m ((c.tc : Thread Cert.PleLossRefIdeal.nD Cert.PleLossRefIdeal.τ).loc Cert.PleLossRefIdeal.main_arg3)
      ∧ r.2.mem ((c.tc : Thread Cert.PleLossRefIdeal.nD Cert.PleLossRefIdeal.τ).loc Cert.PleLossRefIdeal.main_arg4) = m ((c.tc : Thread Cert.PleLossRefIdeal.nD Cert.PleLossRefIdeal.τ).loc Cert.PleLossRefIdeal.main_arg4)
      ∧ r.2.mem ((c.tc : Thread Cert.PleLossRefIdeal.nD Cert.PleLossRefIdeal.τ).loc Cert.PleLossRefIdeal.main_arg5) = m ((c.tc : Thread Cert.PleLossRefIdeal.nD Cert.PleLossRefIdeal.τ).loc Cert.PleLossRefIdeal.main_arg5)
      ∧ r.2.mem ((c.tc : Thread Cert.PleLossRefIdeal.nD Cert.PleLossRefIdeal.τ).loc Cert.PleLossRefIdeal.main_arg6) = m ((c.tc : Thread Cert.PleLossRefIdeal.nD Cert.PleLossRefIdeal.τ).loc Cert.PleLossRefIdeal.main_arg6)
      ∧ r.2.mem ((c.tc : Thread Cert.PleLossRefIdeal.nD Cert.PleLossRefIdeal.τ).loc Cert.PleLossRefIdeal.main_arg7) = m ((c.tc : Thread Cert.PleLossRefIdeal.nD Cert.PleLossRefIdeal.τ).loc Cert.PleLossRefIdeal.main_arg7)
      ∧ r.2.mem ((c.tc : Thread Cert.PleLossRefIdeal.nD Cert.PleLossRefIdeal.τ).loc Cert.PleLossRefIdeal.main_arg8) = m ((c.tc : Thread Cert.PleLossRefIdeal.nD Cert.PleLossRefIdeal.τ).loc Cert.PleLossRefIdeal.main_arg8)
      ∧ r.2.mem ((c.tc : Thread Cert.PleLossRefIdeal.nD Cert.PleLossRefIdeal.τ).loc Cert.PleLossRefIdeal.main_arg9) = m ((c.tc : Thread Cert.PleLossRefIdeal.nD Cert.PleLossRefIdeal.τ).loc Cert.PleLossRefIdeal.main_arg9))
      ∧ r.2.sem = fun _ => 0)

def quiescent_QkvBwd [hQkvBwd : Cert.QkvBwd.Facts] : Prop :=
  ∀ (m : (ℓ : Loc Cert.QkvBwd.nD Cert.QkvBwd.τ Cert.QkvBwd.sig) → Buf (Elt Bits) ℓ) (g : Dev Cert.QkvBwd.nD → PrngReg), Pre_QkvBwd m →
    θ_run (Cert.QkvBwd.defs (F := Bits)) (onTc (τ := Cert.QkvBwd.τ) (Cert.QkvBwd.main (F := Bits))) ⟨m, fun _ => 0, g⟩ (fun r => (∀ c : Dev Cert.QkvBwd.nD,
      r.2.mem ((c.tc : Thread Cert.QkvBwd.nD Cert.QkvBwd.τ).loc Cert.QkvBwd.main_arg0) = m ((c.tc : Thread Cert.QkvBwd.nD Cert.QkvBwd.τ).loc Cert.QkvBwd.main_arg0)
      ∧ r.2.mem ((c.tc : Thread Cert.QkvBwd.nD Cert.QkvBwd.τ).loc Cert.QkvBwd.main_arg1) = m ((c.tc : Thread Cert.QkvBwd.nD Cert.QkvBwd.τ).loc Cert.QkvBwd.main_arg1)
      ∧ r.2.mem ((c.tc : Thread Cert.QkvBwd.nD Cert.QkvBwd.τ).loc Cert.QkvBwd.main_arg2) = m ((c.tc : Thread Cert.QkvBwd.nD Cert.QkvBwd.τ).loc Cert.QkvBwd.main_arg2)
      ∧ r.2.mem ((c.tc : Thread Cert.QkvBwd.nD Cert.QkvBwd.τ).loc Cert.QkvBwd.main_arg3) = m ((c.tc : Thread Cert.QkvBwd.nD Cert.QkvBwd.τ).loc Cert.QkvBwd.main_arg3)
      ∧ r.2.mem ((c.tc : Thread Cert.QkvBwd.nD Cert.QkvBwd.τ).loc Cert.QkvBwd.main_arg4) = m ((c.tc : Thread Cert.QkvBwd.nD Cert.QkvBwd.τ).loc Cert.QkvBwd.main_arg4)
      ∧ r.2.mem ((c.tc : Thread Cert.QkvBwd.nD Cert.QkvBwd.τ).loc Cert.QkvBwd.main_arg5) = m ((c.tc : Thread Cert.QkvBwd.nD Cert.QkvBwd.τ).loc Cert.QkvBwd.main_arg5)
      ∧ r.2.mem ((c.tc : Thread Cert.QkvBwd.nD Cert.QkvBwd.τ).loc Cert.QkvBwd.main_arg6) = m ((c.tc : Thread Cert.QkvBwd.nD Cert.QkvBwd.τ).loc Cert.QkvBwd.main_arg6)
      ∧ r.2.mem ((c.tc : Thread Cert.QkvBwd.nD Cert.QkvBwd.τ).loc Cert.QkvBwd.main_arg7) = m ((c.tc : Thread Cert.QkvBwd.nD Cert.QkvBwd.τ).loc Cert.QkvBwd.main_arg7)
      ∧ r.2.mem ((c.tc : Thread Cert.QkvBwd.nD Cert.QkvBwd.τ).loc Cert.QkvBwd.main_arg8) = m ((c.tc : Thread Cert.QkvBwd.nD Cert.QkvBwd.τ).loc Cert.QkvBwd.main_arg8)
      ∧ r.2.mem ((c.tc : Thread Cert.QkvBwd.nD Cert.QkvBwd.τ).loc Cert.QkvBwd.main_arg9) = m ((c.tc : Thread Cert.QkvBwd.nD Cert.QkvBwd.τ).loc Cert.QkvBwd.main_arg9))
      ∧ r.2.sem = fun _ => 0)

def quiescent_QkvBwdIdeal [hQkvBwdIdeal : Cert.QkvBwdIdeal.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9))
      ∧ r.2.sem = fun _ => 0)

def quiescent_QkvBwdIdeal_pre_finite_qkv_bwd [hQkvBwdIdeal : Cert.QkvBwdIdeal.Facts] [hPre_finite_qkv_bwd : Cert.Pre_finite_qkv_bwd.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg), Pre_QkvBwdIdeal_finite_qkv_bwd m →
    θ_run (Cert.QkvBwdIdeal.defs (F := Ideal)) (onTc (τ := Cert.QkvBwdIdeal.τ) (Cert.QkvBwdIdeal.main (F := Ideal))) ⟨m, fun _ => 0, g⟩ (fun r => (∀ c : Dev Cert.QkvBwdIdeal.nD,
      r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
      ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
      ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
      ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
      ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
      ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
      ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
      ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
      ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
      ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9))
      ∧ r.2.sem = fun _ => 0)

def quiescent_QkvBwdRefIdeal [hQkvBwdRefIdeal : Cert.QkvBwdRefIdeal.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
      ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
      ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4)
      ∧ r.2.mem ((c.tc : Thread Cert.QkvBwdRefIdeal.nD Cert.QkvBwdRefIdeal.τ).loc Cert.QkvBwdRefIdeal.main_arg5) = m ((c.tc : Thread Cert.QkvBwdRefIdeal.nD Cert.QkvBwdRefIdeal.τ).loc Cert.QkvBwdRefIdeal.main_arg5)
      ∧ r.2.mem ((c.tc : Thread Cert.QkvBwdRefIdeal.nD Cert.QkvBwdRefIdeal.τ).loc Cert.QkvBwdRefIdeal.main_arg6) = m ((c.tc : Thread Cert.QkvBwdRefIdeal.nD Cert.QkvBwdRefIdeal.τ).loc Cert.QkvBwdRefIdeal.main_arg6)
      ∧ r.2.mem ((c.tc : Thread Cert.QkvBwdRefIdeal.nD Cert.QkvBwdRefIdeal.τ).loc Cert.QkvBwdRefIdeal.main_arg7) = m ((c.tc : Thread Cert.QkvBwdRefIdeal.nD Cert.QkvBwdRefIdeal.τ).loc Cert.QkvBwdRefIdeal.main_arg7)
      ∧ r.2.mem ((c.tc : Thread Cert.QkvBwdRefIdeal.nD Cert.QkvBwdRefIdeal.τ).loc Cert.QkvBwdRefIdeal.main_arg8) = m ((c.tc : Thread Cert.QkvBwdRefIdeal.nD Cert.QkvBwdRefIdeal.τ).loc Cert.QkvBwdRefIdeal.main_arg8)
      ∧ r.2.mem ((c.tc : Thread Cert.QkvBwdRefIdeal.nD Cert.QkvBwdRefIdeal.τ).loc Cert.QkvBwdRefIdeal.main_arg9) = m ((c.tc : Thread Cert.QkvBwdRefIdeal.nD Cert.QkvBwdRefIdeal.τ).loc Cert.QkvBwdRefIdeal.main_arg9))
      ∧ r.2.sem = fun _ => 0)

def quiescent_QkvBwdRefIdeal_pre_finite_qkv_bwd [hQkvBwdRefIdeal : Cert.QkvBwdRefIdeal.Facts] [hPre_finite_qkv_bwd : Cert.Pre_finite_qkv_bwd.Facts] : Prop :=
  ∀ (m : (ℓ : Loc Cert.QkvBwdRefIdeal.nD Cert.QkvBwdRefIdeal.τ Cert.QkvBwdRefIdeal.sig) → Buf (Elt Ideal) ℓ) (g : Dev Cert.QkvBwdRefIdeal.nD → PrngReg), Pre_QkvBwdRefIdeal_finite_qkv_bwd m →
    θ_run (Cert.QkvBwdRefIdeal.defs (F := Ideal)) (onTc (τ := Cert.QkvBwdRefIdeal.τ) (Cert.QkvBwdRefIdeal.main (F := Ideal))) ⟨m, fun _ => 0, g⟩ (fun r => (∀ c : Dev Cert.QkvBwdRefIdeal.nD,
      r.2.mem ((c.tc : Thread Cert.QkvBwdRefIdeal.nD Cert.QkvBwdRefIdeal.τ).loc Cert.QkvBwdRefIdeal.main_arg0) = m ((c.tc : Thread Cert.QkvBwdRefIdeal.nD Cert.QkvBwdRefIdeal.τ).loc Cert.QkvBwdRefIdeal.main_arg0)
      ∧ r.2.mem ((c.tc : Thread Cert.QkvBwdRefIdeal.nD Cert.QkvBwdRefIdeal.τ).loc Cert.QkvBwdRefIdeal.main_arg1) = m ((c.tc : Thread Cert.QkvBwdRefIdeal.nD Cert.QkvBwdRefIdeal.τ).loc Cert.QkvBwdRefIdeal.main_arg1)
      ∧ r.2.mem ((c.tc : Thread Cert.QkvBwdRefIdeal.nD Cert.QkvBwdRefIdeal.τ).loc Cert.QkvBwdRefIdeal.main_arg2) = m ((c.tc : Thread Cert.QkvBwdRefIdeal.nD Cert.QkvBwdRefIdeal.τ).loc Cert.QkvBwdRefIdeal.main_arg2)
      ∧ r.2.mem ((c.tc : Thread Cert.QkvBwdRefIdeal.nD Cert.QkvBwdRefIdeal.τ).loc Cert.QkvBwdRefIdeal.main_arg3) = m ((c.tc : Thread Cert.QkvBwdRefIdeal.nD Cert.QkvBwdRefIdeal.τ).loc Cert.QkvBwdRefIdeal.main_arg3)
      ∧ r.2.mem ((c.tc : Thread Cert.QkvBwdRefIdeal.nD Cert.QkvBwdRefIdeal.τ).loc Cert.QkvBwdRefIdeal.main_arg4) = m ((c.tc : Thread Cert.QkvBwdRefIdeal.nD Cert.QkvBwdRefIdeal.τ).loc Cert.QkvBwdRefIdeal.main_arg4)
      ∧ r.2.mem ((c.tc : Thread Cert.QkvBwdRefIdeal.nD Cert.QkvBwdRefIdeal.τ).loc Cert.QkvBwdRefIdeal.main_arg5) = m ((c.tc : Thread Cert.QkvBwdRefIdeal.nD Cert.QkvBwdRefIdeal.τ).loc Cert.QkvBwdRefIdeal.main_arg5)
      ∧ r.2.mem ((c.tc : Thread Cert.QkvBwdRefIdeal.nD Cert.QkvBwdRefIdeal.τ).loc Cert.QkvBwdRefIdeal.main_arg6) = m ((c.tc : Thread Cert.QkvBwdRefIdeal.nD Cert.QkvBwdRefIdeal.τ).loc Cert.QkvBwdRefIdeal.main_arg6)
      ∧ r.2.mem ((c.tc : Thread Cert.QkvBwdRefIdeal.nD Cert.QkvBwdRefIdeal.τ).loc Cert.QkvBwdRefIdeal.main_arg7) = m ((c.tc : Thread Cert.QkvBwdRefIdeal.nD Cert.QkvBwdRefIdeal.τ).loc Cert.QkvBwdRefIdeal.main_arg7)
      ∧ r.2.mem ((c.tc : Thread Cert.QkvBwdRefIdeal.nD Cert.QkvBwdRefIdeal.τ).loc Cert.QkvBwdRefIdeal.main_arg8) = m ((c.tc : Thread Cert.QkvBwdRefIdeal.nD Cert.QkvBwdRefIdeal.τ).loc Cert.QkvBwdRefIdeal.main_arg8)
      ∧ r.2.mem ((c.tc : Thread Cert.QkvBwdRefIdeal.nD Cert.QkvBwdRefIdeal.τ).loc Cert.QkvBwdRefIdeal.main_arg9) = m ((c.tc : Thread Cert.QkvBwdRefIdeal.nD Cert.QkvBwdRefIdeal.τ).loc Cert.QkvBwdRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_FfnMid_FfnMidIdeal : Prop :=
  True

def algebraic_FfnMidIdeal_FfnMidRefIdeal_pre_finite_ffn_mid [hFfnMidIdeal : Cert.FfnMidIdeal.Facts] [hFfnMidRefIdeal : Cert.FfnMidRefIdeal.Facts] [hPre_finite_ffn_mid : Cert.Pre_finite_ffn_mid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite_ffn_mid m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v12)) (v1 : (c : Dev Cert.FfnMidIdeal.nD) → Buf (Elt Ideal) ((c.tc : Thread Cert.FfnMidIdeal.nD Cert.FfnMidIdeal.τ).loc Cert.FfnMidIdeal.main_v13)) (v2 : (c : Dev Cert.FfnMidIdeal.nD) → Buf (Elt Ideal) ((c.tc : Thread Cert.FfnMidIdeal.nD Cert.FfnMidIdeal.τ).loc Cert.FfnMidIdeal.main_v14)) (v3 : (c : Dev Cert.FfnMidIdeal.nD) → Buf (Elt Ideal) ((c.tc : Thread Cert.FfnMidIdeal.nD Cert.FfnMidIdeal.τ).loc Cert.FfnMidIdeal.main_v15)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v12) = v0 c
          ∧ r.2.mem ((c.tc : Thread Cert.FfnMidIdeal.nD Cert.FfnMidIdeal.τ).loc Cert.FfnMidIdeal.main_v13) = v1 c
          ∧ r.2.mem ((c.tc : Thread Cert.FfnMidIdeal.nD Cert.FfnMidIdeal.τ).loc Cert.FfnMidIdeal.main_v14) = v2 c
          ∧ r.2.mem ((c.tc : Thread Cert.FfnMidIdeal.nD Cert.FfnMidIdeal.τ).loc Cert.FfnMidIdeal.main_v15) = v3 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v22) = v0 c
          ∧ r.2.mem ((c.tc : Thread Cert.FfnMidRefIdeal.nD Cert.FfnMidRefIdeal.τ).loc Cert.FfnMidRefIdeal.main_v20) = v1 c
          ∧ r.2.mem ((c.tc : Thread Cert.FfnMidRefIdeal.nD Cert.FfnMidRefIdeal.τ).loc Cert.FfnMidRefIdeal.main_v13) = v2 c
          ∧ r.2.mem ((c.tc : Thread Cert.FfnMidRefIdeal.nD Cert.FfnMidRefIdeal.τ).loc Cert.FfnMidRefIdeal.main_v17) = v3 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_AttnBwd_AttnBwdIdeal : Prop :=
  IdealRules.named_const.Statement Cert.AttnBwdIdeal.κ "mask" .f32 0xF149F2CA#32 ⊥
  ∧ IdealRules.named_const.Statement Cert.AttnBwdIdeal.κ "exp2" .f32 0x3E16C740#32 (((3424635 / 33554432) * (Real.log 2)⁻¹ : ℝ) : EReal)

def algebraic_AttnBwdIdeal_AttnBwdRefIdeal_pre_finite_attn_bwd [hAttnBwdIdeal : Cert.AttnBwdIdeal.Facts] [hAttnBwdRefIdeal : Cert.AttnBwdRefIdeal.Facts] [hPre_finite_attn_bwd : Cert.Pre_finite_attn_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn_bwd m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v58)) (v1 : (c : Dev Cert.AttnBwdIdeal.nD) → Buf (Elt Ideal) ((c.tc : Thread Cert.AttnBwdIdeal.nD Cert.AttnBwdIdeal.τ).loc Cert.AttnBwdIdeal.main_v60)) (v2 : (c : Dev Cert.AttnBwdIdeal.nD) → Buf (Elt Ideal) ((c.tc : Thread Cert.AttnBwdIdeal.nD Cert.AttnBwdIdeal.τ).loc Cert.AttnBwdIdeal.main_v62)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v58) = v0 c
          ∧ r.2.mem ((c.tc : Thread Cert.AttnBwdIdeal.nD Cert.AttnBwdIdeal.τ).loc Cert.AttnBwdIdeal.main_v60) = v1 c
          ∧ r.2.mem ((c.tc : Thread Cert.AttnBwdIdeal.nD Cert.AttnBwdIdeal.τ).loc Cert.AttnBwdIdeal.main_v62) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v66) = v0 c
          ∧ r.2.mem ((c.tc : Thread Cert.AttnBwdRefIdeal.nD Cert.AttnBwdRefIdeal.τ).loc Cert.AttnBwdRefIdeal.main_v64) = v1 c
          ∧ r.2.mem ((c.tc : Thread Cert.AttnBwdRefIdeal.nD Cert.AttnBwdRefIdeal.τ).loc Cert.AttnBwdRefIdeal.main_v46) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_OBwd_OBwdIdeal : Prop :=
  True

def algebraic_OBwdIdeal_OBwdRefIdeal_pre_finite_o_bwd [hOBwdIdeal : Cert.OBwdIdeal.Facts] [hOBwdRefIdeal : Cert.OBwdRefIdeal.Facts] [hPre_finite_o_bwd : Cert.Pre_finite_o_bwd.Facts] : Prop :=
  ∀ (m : (ℓ : Loc Cert.OBwdIdeal.nD Cert.OBwdIdeal.τ Cert.OBwdIdeal.sig) → Buf (Elt Ideal) ℓ) (g : Dev Cert.OBwdIdeal.nD → PrngReg)
    (m' : (ℓ : Loc Cert.OBwdRefIdeal.nD Cert.OBwdRefIdeal.τ Cert.OBwdRefIdeal.sig) → Buf (Elt Ideal) ℓ) (g' : Dev Cert.OBwdRefIdeal.nD → PrngReg), Pre_OBwdIdeal_finite_o_bwd m →
    (∀ c : Dev Cert.OBwdIdeal.nD,
      m' ((c.tc : Thread Cert.OBwdRefIdeal.nD Cert.OBwdRefIdeal.τ).loc Cert.OBwdRefIdeal.main_arg0) = m ((c.tc : Thread Cert.OBwdIdeal.nD Cert.OBwdIdeal.τ).loc Cert.OBwdIdeal.main_arg0)
      ∧ m' ((c.tc : Thread Cert.OBwdRefIdeal.nD Cert.OBwdRefIdeal.τ).loc Cert.OBwdRefIdeal.main_arg1) = m ((c.tc : Thread Cert.OBwdIdeal.nD Cert.OBwdIdeal.τ).loc Cert.OBwdIdeal.main_arg1)
      ∧ m' ((c.tc : Thread Cert.OBwdRefIdeal.nD Cert.OBwdRefIdeal.τ).loc Cert.OBwdRefIdeal.main_arg2) = m ((c.tc : Thread Cert.OBwdIdeal.nD Cert.OBwdIdeal.τ).loc Cert.OBwdIdeal.main_arg2)) →
    ∃ (v0 : (c : Dev Cert.OBwdIdeal.nD) → Buf (Elt Ideal) ((c.tc : Thread Cert.OBwdIdeal.nD Cert.OBwdIdeal.τ).loc Cert.OBwdIdeal.main_v6_0)) (v1 : (c : Dev Cert.OBwdIdeal.nD) → Buf (Elt Ideal) ((c.tc : Thread Cert.OBwdIdeal.nD Cert.OBwdIdeal.τ).loc Cert.OBwdIdeal.main_v9)) (v2 : (c : Dev Cert.OBwdIdeal.nD) → Buf (Elt Ideal) ((c.tc : Thread Cert.OBwdIdeal.nD Cert.OBwdIdeal.τ).loc Cert.OBwdIdeal.main_v13)),
      θ_run (Cert.OBwdIdeal.defs (F := Ideal)) (onTc (τ := Cert.OBwdIdeal.τ) (Cert.OBwdIdeal.main (F := Ideal))) ⟨m, fun _ => 0, g⟩ (fun r => ∀ c : Dev Cert.OBwdIdeal.nD,
          r.2.mem ((c.tc : Thread Cert.OBwdIdeal.nD Cert.OBwdIdeal.τ).loc Cert.OBwdIdeal.main_v6_0) = v0 c
          ∧ r.2.mem ((c.tc : Thread Cert.OBwdIdeal.nD Cert.OBwdIdeal.τ).loc Cert.OBwdIdeal.main_v9) = v1 c
          ∧ r.2.mem ((c.tc : Thread Cert.OBwdIdeal.nD Cert.OBwdIdeal.τ).loc Cert.OBwdIdeal.main_v13) = v2 c
          ∧ r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
          ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1)
          ∧ r.2.mem ((c.tc : Thread Cert.OBwdIdeal.nD Cert.OBwdIdeal.τ).loc Cert.OBwdIdeal.main_arg2) = m ((c.tc : Thread Cert.OBwdIdeal.nD Cert.OBwdIdeal.τ).loc Cert.OBwdIdeal.main_arg2))
      ∧ θ_run (Cert.OBwdRefIdeal.defs (F := Ideal)) (onTc (τ := Cert.OBwdRefIdeal.τ) (Cert.OBwdRefIdeal.main (F := Ideal))) ⟨m', fun _ => 0, g'⟩ (fun r => ∀ c : Dev Cert.OBwdRefIdeal.nD,
          r.2.mem ((c.tc : Thread Cert.OBwdRefIdeal.nD Cert.OBwdRefIdeal.τ).loc Cert.OBwdRefIdeal.main_v2) = v0 c
          ∧ r.2.mem ((c.tc : Thread Cert.OBwdRefIdeal.nD Cert.OBwdRefIdeal.τ).loc Cert.OBwdRefIdeal.main_v4) = v1 c
          ∧ r.2.mem ((c.tc : Thread Cert.OBwdRefIdeal.nD Cert.OBwdRefIdeal.τ).loc Cert.OBwdRefIdeal.main_v7) = v2 c
          ∧ r.2.mem ((c.tc : Thread Cert.OBwdRefIdeal.nD Cert.OBwdRefIdeal.τ).loc Cert.OBwdRefIdeal.main_arg0) = m' ((c.tc : Thread Cert.OBwdRefIdeal.nD Cert.OBwdRefIdeal.τ).loc Cert.OBwdRefIdeal.main_arg0)
          ∧ r.2.mem ((c.tc : Thread Cert.OBwdRefIdeal.nD Cert.OBwdRefIdeal.τ).loc Cert.OBwdRefIdeal.main_arg1) = m' ((c.tc : Thread Cert.OBwdRefIdeal.nD Cert.OBwdRefIdeal.τ).loc Cert.OBwdRefIdeal.main_arg1)
          ∧ r.2.mem ((c.tc : Thread Cert.OBwdRefIdeal.nD Cert.OBwdRefIdeal.τ).loc Cert.OBwdRefIdeal.main_arg2) = m' ((c.tc : Thread Cert.OBwdRefIdeal.nD Cert.OBwdRefIdeal.τ).loc Cert.OBwdRefIdeal.main_arg2))

def preserves_InBwd_InBwdIdeal : Prop :=
  True

def algebraic_InBwdIdeal_InBwdRefIdeal_pre_finite_in_bwd [hInBwdIdeal : Cert.InBwdIdeal.Facts] [hInBwdRefIdeal : Cert.InBwdRefIdeal.Facts] [hPre_finite_in_bwd : Cert.Pre_finite_in_bwd.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_finite_in_bwd m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v19_0)) (v1 : (c : Dev Cert.InBwdIdeal.nD) → Buf (Elt Ideal) ((c.tc : Thread Cert.InBwdIdeal.nD Cert.InBwdIdeal.τ).loc Cert.InBwdIdeal.main_v19_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v19_0) = v0 c
          ∧ r.2.mem ((c.tc : Thread Cert.InBwdIdeal.nD Cert.InBwdIdeal.τ).loc Cert.InBwdIdeal.main_v19_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v39) = v0 c
          ∧ r.2.mem ((c.tc : Thread Cert.InBwdRefIdeal.nD Cert.InBwdRefIdeal.τ).loc Cert.InBwdRefIdeal.main_v40) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_FfnIn_FfnInIdeal : Prop :=
  True

def algebraic_FfnInIdeal_FfnInRefIdeal_pre_finite_ffn_in [hFfnInIdeal : Cert.FfnInIdeal.Facts] [hFfnInRefIdeal : Cert.FfnInRefIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffn_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)
      ∧ m' ((c.tc : Thread Cert.FfnInRefIdeal.nD Cert.FfnInRefIdeal.τ).loc Cert.FfnInRefIdeal.main_arg7) = m ((c.tc : Thread Cert.FfnInIdeal.nD Cert.FfnInIdeal.τ).loc Cert.FfnInIdeal.main_arg7)
      ∧ m' ((c.tc : Thread Cert.FfnInRefIdeal.nD Cert.FfnInRefIdeal.τ).loc Cert.FfnInRefIdeal.main_arg8) = m ((c.tc : Thread Cert.FfnInIdeal.nD Cert.FfnInIdeal.τ).loc Cert.FfnInIdeal.main_arg8)
      ∧ m' ((c.tc : Thread Cert.FfnInRefIdeal.nD Cert.FfnInRefIdeal.τ).loc Cert.FfnInRefIdeal.main_arg9) = m ((c.tc : Thread Cert.FfnInIdeal.nD Cert.FfnInIdeal.τ).loc Cert.FfnInIdeal.main_arg9)
      ∧ m' ((c.tc : Thread Cert.FfnInRefIdeal.nD Cert.FfnInRefIdeal.τ).loc Cert.FfnInRefIdeal.main_arg10) = m ((c.tc : Thread Cert.FfnInIdeal.nD Cert.FfnInIdeal.τ).loc Cert.FfnInIdeal.main_arg10)) →
    ∃ (v0 : (c : Dev Cert.FfnInIdeal.nD) → Buf (Elt Ideal) ((c.tc : Thread Cert.FfnInIdeal.nD Cert.FfnInIdeal.τ).loc Cert.FfnInIdeal.main_v17_0)) (v1 : (c : Dev Cert.FfnInIdeal.nD) → Buf (Elt Ideal) ((c.tc : Thread Cert.FfnInIdeal.nD Cert.FfnInIdeal.τ).loc Cert.FfnInIdeal.main_v18)) (v2 : (c : Dev Cert.FfnInIdeal.nD) → Buf (Elt Ideal) ((c.tc : Thread Cert.FfnInIdeal.nD Cert.FfnInIdeal.τ).loc Cert.FfnInIdeal.main_v17_3)) (v3 : (c : Dev Cert.FfnInIdeal.nD) → Buf (Elt Ideal) ((c.tc : Thread Cert.FfnInIdeal.nD Cert.FfnInIdeal.τ).loc Cert.FfnInIdeal.main_v17_2)) (v4 : (c : Dev Cert.FfnInIdeal.nD) → Buf (Elt Ideal) ((c.tc : Thread Cert.FfnInIdeal.nD Cert.FfnInIdeal.τ).loc Cert.FfnInIdeal.main_v14_0)) (v5 : (c : Dev Cert.FfnInIdeal.nD) → Buf (Elt Ideal) ((c.tc : Thread Cert.FfnInIdeal.nD Cert.FfnInIdeal.τ).loc Cert.FfnInIdeal.main_v14_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v17_0) = v0 c
          ∧ r.2.mem ((c.tc : Thread Cert.FfnInIdeal.nD Cert.FfnInIdeal.τ).loc Cert.FfnInIdeal.main_v18) = v1 c
          ∧ r.2.mem ((c.tc : Thread Cert.FfnInIdeal.nD Cert.FfnInIdeal.τ).loc Cert.FfnInIdeal.main_v17_3) = v2 c
          ∧ r.2.mem ((c.tc : Thread Cert.FfnInIdeal.nD Cert.FfnInIdeal.τ).loc Cert.FfnInIdeal.main_v17_2) = v3 c
          ∧ r.2.mem ((c.tc : Thread Cert.FfnInIdeal.nD Cert.FfnInIdeal.τ).loc Cert.FfnInIdeal.main_v14_0) = v4 c
          ∧ r.2.mem ((c.tc : Thread Cert.FfnInIdeal.nD Cert.FfnInIdeal.τ).loc Cert.FfnInIdeal.main_v14_1) = v5 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7)
          ∧ r.2.mem ((c.tc : Thread Cert.FfnInIdeal.nD Cert.FfnInIdeal.τ).loc Cert.FfnInIdeal.main_arg8) = m ((c.tc : Thread Cert.FfnInIdeal.nD Cert.FfnInIdeal.τ).loc Cert.FfnInIdeal.main_arg8)
          ∧ r.2.mem ((c.tc : Thread Cert.FfnInIdeal.nD Cert.FfnInIdeal.τ).loc Cert.FfnInIdeal.main_arg9) = m ((c.tc : Thread Cert.FfnInIdeal.nD Cert.FfnInIdeal.τ).loc Cert.FfnInIdeal.main_arg9)
          ∧ r.2.mem ((c.tc : Thread Cert.FfnInIdeal.nD Cert.FfnInIdeal.τ).loc Cert.FfnInIdeal.main_arg10) = m ((c.tc : Thread Cert.FfnInIdeal.nD Cert.FfnInIdeal.τ).loc Cert.FfnInIdeal.main_arg10))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v65) = v0 c
          ∧ r.2.mem ((c.tc : Thread Cert.FfnInRefIdeal.nD Cert.FfnInRefIdeal.τ).loc Cert.FfnInRefIdeal.main_v87) = v1 c
          ∧ r.2.mem ((c.tc : Thread Cert.FfnInRefIdeal.nD Cert.FfnInRefIdeal.τ).loc Cert.FfnInRefIdeal.main_v88) = v2 c
          ∧ r.2.mem ((c.tc : Thread Cert.FfnInRefIdeal.nD Cert.FfnInRefIdeal.τ).loc Cert.FfnInRefIdeal.main_v66) = v3 c
          ∧ r.2.mem ((c.tc : Thread Cert.FfnInRefIdeal.nD Cert.FfnInRefIdeal.τ).loc Cert.FfnInRefIdeal.main_v4) = v4 c
          ∧ r.2.mem ((c.tc : Thread Cert.FfnInRefIdeal.nD Cert.FfnInRefIdeal.τ).loc Cert.FfnInRefIdeal.main_v22) = v5 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6)
          ∧ r.2.mem ((c.tc : Thread Cert.FfnInRefIdeal.nD Cert.FfnInRefIdeal.τ).loc Cert.FfnInRefIdeal.main_arg7) = m' ((c.tc : Thread Cert.FfnInRefIdeal.nD Cert.FfnInRefIdeal.τ).loc Cert.FfnInRefIdeal.main_arg7)
          ∧ r.2.mem ((c.tc : Thread Cert.FfnInRefIdeal.nD Cert.FfnInRefIdeal.τ).loc Cert.FfnInRefIdeal.main_arg8) = m' ((c.tc : Thread Cert.FfnInRefIdeal.nD Cert.FfnInRefIdeal.τ).loc Cert.FfnInRefIdeal.main_arg8)
          ∧ r.2.mem ((c.tc : Thread Cert.FfnInRefIdeal.nD Cert.FfnInRefIdeal.τ).loc Cert.FfnInRefIdeal.main_arg9) = m' ((c.tc : Thread Cert.FfnInRefIdeal.nD Cert.FfnInRefIdeal.τ).loc Cert.FfnInRefIdeal.main_arg9)
          ∧ r.2.mem ((c.tc : Thread Cert.FfnInRefIdeal.nD Cert.FfnInRefIdeal.τ).loc Cert.FfnInRefIdeal.main_arg10) = m' ((c.tc : Thread Cert.FfnInRefIdeal.nD Cert.FfnInRefIdeal.τ).loc Cert.FfnInRefIdeal.main_arg10))

def preserves_PleLoss_PleLossIdeal : Prop :=
  True

def algebraic_PleLossIdeal_PleLossRefIdeal_pre_finite_ple_loss [hPleLossIdeal : Cert.PleLossIdeal.Facts] [hPleLossRefIdeal : Cert.PleLossRefIdeal.Facts] [hPre_finite_ple_loss : Cert.Pre_finite_ple_loss.Facts] : Prop :=
  ∀ (m : (ℓ : Loc Cert.PleLossIdeal.nD Cert.PleLossIdeal.τ Cert.PleLossIdeal.sig) → Buf (Elt Ideal) ℓ) (g : Dev Cert.PleLossIdeal.nD → PrngReg)
    (m' : (ℓ : Loc Cert.PleLossRefIdeal.nD Cert.PleLossRefIdeal.τ Cert.PleLossRefIdeal.sig) → Buf (Elt Ideal) ℓ) (g' : Dev Cert.PleLossRefIdeal.nD → PrngReg), Pre_PleLossIdeal_finite_ple_loss m →
    (∀ c : Dev Cert.PleLossIdeal.nD,
      m' ((c.tc : Thread Cert.PleLossRefIdeal.nD Cert.PleLossRefIdeal.τ).loc Cert.PleLossRefIdeal.main_arg0) = m ((c.tc : Thread Cert.PleLossIdeal.nD Cert.PleLossIdeal.τ).loc Cert.PleLossIdeal.main_arg0)
      ∧ m' ((c.tc : Thread Cert.PleLossRefIdeal.nD Cert.PleLossRefIdeal.τ).loc Cert.PleLossRefIdeal.main_arg1) = m ((c.tc : Thread Cert.PleLossIdeal.nD Cert.PleLossIdeal.τ).loc Cert.PleLossIdeal.main_arg1)
      ∧ m' ((c.tc : Thread Cert.PleLossRefIdeal.nD Cert.PleLossRefIdeal.τ).loc Cert.PleLossRefIdeal.main_arg2) = m ((c.tc : Thread Cert.PleLossIdeal.nD Cert.PleLossIdeal.τ).loc Cert.PleLossIdeal.main_arg2)
      ∧ m' ((c.tc : Thread Cert.PleLossRefIdeal.nD Cert.PleLossRefIdeal.τ).loc Cert.PleLossRefIdeal.main_arg3) = m ((c.tc : Thread Cert.PleLossIdeal.nD Cert.PleLossIdeal.τ).loc Cert.PleLossIdeal.main_arg3)
      ∧ m' ((c.tc : Thread Cert.PleLossRefIdeal.nD Cert.PleLossRefIdeal.τ).loc Cert.PleLossRefIdeal.main_arg4) = m ((c.tc : Thread Cert.PleLossIdeal.nD Cert.PleLossIdeal.τ).loc Cert.PleLossIdeal.main_arg4)
      ∧ m' ((c.tc : Thread Cert.PleLossRefIdeal.nD Cert.PleLossRefIdeal.τ).loc Cert.PleLossRefIdeal.main_arg5) = m ((c.tc : Thread Cert.PleLossIdeal.nD Cert.PleLossIdeal.τ).loc Cert.PleLossIdeal.main_arg5)
      ∧ m' ((c.tc : Thread Cert.PleLossRefIdeal.nD Cert.PleLossRefIdeal.τ).loc Cert.PleLossRefIdeal.main_arg6) = m ((c.tc : Thread Cert.PleLossIdeal.nD Cert.PleLossIdeal.τ).loc Cert.PleLossIdeal.main_arg6)
      ∧ m' ((c.tc : Thread Cert.PleLossRefIdeal.nD Cert.PleLossRefIdeal.τ).loc Cert.PleLossRefIdeal.main_arg7) = m ((c.tc : Thread Cert.PleLossIdeal.nD Cert.PleLossIdeal.τ).loc Cert.PleLossIdeal.main_arg7)
      ∧ m' ((c.tc : Thread Cert.PleLossRefIdeal.nD Cert.PleLossRefIdeal.τ).loc Cert.PleLossRefIdeal.main_arg8) = m ((c.tc : Thread Cert.PleLossIdeal.nD Cert.PleLossIdeal.τ).loc Cert.PleLossIdeal.main_arg8)
      ∧ m' ((c.tc : Thread Cert.PleLossRefIdeal.nD Cert.PleLossRefIdeal.τ).loc Cert.PleLossRefIdeal.main_arg9) = m ((c.tc : Thread Cert.PleLossIdeal.nD Cert.PleLossIdeal.τ).loc Cert.PleLossIdeal.main_arg9)) →
    ∃ (v0 : (c : Dev Cert.PleLossIdeal.nD) → Buf (Elt Ideal) ((c.tc : Thread Cert.PleLossIdeal.nD Cert.PleLossIdeal.τ).loc Cert.PleLossIdeal.main_v10)) (v1 : (c : Dev Cert.PleLossIdeal.nD) → Buf (Elt Ideal) ((c.tc : Thread Cert.PleLossIdeal.nD Cert.PleLossIdeal.τ).loc Cert.PleLossIdeal.main_v11)) (v2 : (c : Dev Cert.PleLossIdeal.nD) → Buf (Elt Ideal) ((c.tc : Thread Cert.PleLossIdeal.nD Cert.PleLossIdeal.τ).loc Cert.PleLossIdeal.main_v12)) (v3 : (c : Dev Cert.PleLossIdeal.nD) → Buf (Elt Ideal) ((c.tc : Thread Cert.PleLossIdeal.nD Cert.PleLossIdeal.τ).loc Cert.PleLossIdeal.main_v9_2)) (v4 : (c : Dev Cert.PleLossIdeal.nD) → Buf (Elt Ideal) ((c.tc : Thread Cert.PleLossIdeal.nD Cert.PleLossIdeal.τ).loc Cert.PleLossIdeal.main_v13)) (v5 : (c : Dev Cert.PleLossIdeal.nD) → Buf (Elt Ideal) ((c.tc : Thread Cert.PleLossIdeal.nD Cert.PleLossIdeal.τ).loc Cert.PleLossIdeal.main_v14)) (v6 : (c : Dev Cert.PleLossIdeal.nD) → Buf (Elt Ideal) ((c.tc : Thread Cert.PleLossIdeal.nD Cert.PleLossIdeal.τ).loc Cert.PleLossIdeal.main_v15)) (v7 : (c : Dev Cert.PleLossIdeal.nD) → Buf (Elt Ideal) ((c.tc : Thread Cert.PleLossIdeal.nD Cert.PleLossIdeal.τ).loc Cert.PleLossIdeal.main_v9_7)) (v8 : (c : Dev Cert.PleLossIdeal.nD) → Buf (Elt Ideal) ((c.tc : Thread Cert.PleLossIdeal.nD Cert.PleLossIdeal.τ).loc Cert.PleLossIdeal.main_v9_8)) (v9 : (c : Dev Cert.PleLossIdeal.nD) → Buf (Elt Ideal) ((c.tc : Thread Cert.PleLossIdeal.nD Cert.PleLossIdeal.τ).loc Cert.PleLossIdeal.main_v9_9)),
      θ_run (Cert.PleLossIdeal.defs (F := Ideal)) (onTc (τ := Cert.PleLossIdeal.τ) (Cert.PleLossIdeal.main (F := Ideal))) ⟨m, fun _ => 0, g⟩ (fun r => ∀ c : Dev Cert.PleLossIdeal.nD,
          r.2.mem ((c.tc : Thread Cert.PleLossIdeal.nD Cert.PleLossIdeal.τ).loc Cert.PleLossIdeal.main_v10) = v0 c
          ∧ r.2.mem ((c.tc : Thread Cert.PleLossIdeal.nD Cert.PleLossIdeal.τ).loc Cert.PleLossIdeal.main_v11) = v1 c
          ∧ r.2.mem ((c.tc : Thread Cert.PleLossIdeal.nD Cert.PleLossIdeal.τ).loc Cert.PleLossIdeal.main_v12) = v2 c
          ∧ r.2.mem ((c.tc : Thread Cert.PleLossIdeal.nD Cert.PleLossIdeal.τ).loc Cert.PleLossIdeal.main_v9_2) = v3 c
          ∧ r.2.mem ((c.tc : Thread Cert.PleLossIdeal.nD Cert.PleLossIdeal.τ).loc Cert.PleLossIdeal.main_v13) = v4 c
          ∧ r.2.mem ((c.tc : Thread Cert.PleLossIdeal.nD Cert.PleLossIdeal.τ).loc Cert.PleLossIdeal.main_v14) = v5 c
          ∧ r.2.mem ((c.tc : Thread Cert.PleLossIdeal.nD Cert.PleLossIdeal.τ).loc Cert.PleLossIdeal.main_v15) = v6 c
          ∧ r.2.mem ((c.tc : Thread Cert.PleLossIdeal.nD Cert.PleLossIdeal.τ).loc Cert.PleLossIdeal.main_v9_7) = v7 c
          ∧ r.2.mem ((c.tc : Thread Cert.PleLossIdeal.nD Cert.PleLossIdeal.τ).loc Cert.PleLossIdeal.main_v9_8) = v8 c
          ∧ r.2.mem ((c.tc : Thread Cert.PleLossIdeal.nD Cert.PleLossIdeal.τ).loc Cert.PleLossIdeal.main_v9_9) = v9 c
          ∧ r.2.mem ((c.tc : Thread Cert.PleLossIdeal.nD Cert.PleLossIdeal.τ).loc Cert.PleLossIdeal.main_arg0) = m ((c.tc : Thread Cert.PleLossIdeal.nD Cert.PleLossIdeal.τ).loc Cert.PleLossIdeal.main_arg0)
          ∧ r.2.mem ((c.tc : Thread Cert.PleLossIdeal.nD Cert.PleLossIdeal.τ).loc Cert.PleLossIdeal.main_arg1) = m ((c.tc : Thread Cert.PleLossIdeal.nD Cert.PleLossIdeal.τ).loc Cert.PleLossIdeal.main_arg1)
          ∧ r.2.mem ((c.tc : Thread Cert.PleLossIdeal.nD Cert.PleLossIdeal.τ).loc Cert.PleLossIdeal.main_arg2) = m ((c.tc : Thread Cert.PleLossIdeal.nD Cert.PleLossIdeal.τ).loc Cert.PleLossIdeal.main_arg2)
          ∧ r.2.mem ((c.tc : Thread Cert.PleLossIdeal.nD Cert.PleLossIdeal.τ).loc Cert.PleLossIdeal.main_arg3) = m ((c.tc : Thread Cert.PleLossIdeal.nD Cert.PleLossIdeal.τ).loc Cert.PleLossIdeal.main_arg3)
          ∧ r.2.mem ((c.tc : Thread Cert.PleLossIdeal.nD Cert.PleLossIdeal.τ).loc Cert.PleLossIdeal.main_arg4) = m ((c.tc : Thread Cert.PleLossIdeal.nD Cert.PleLossIdeal.τ).loc Cert.PleLossIdeal.main_arg4)
          ∧ r.2.mem ((c.tc : Thread Cert.PleLossIdeal.nD Cert.PleLossIdeal.τ).loc Cert.PleLossIdeal.main_arg5) = m ((c.tc : Thread Cert.PleLossIdeal.nD Cert.PleLossIdeal.τ).loc Cert.PleLossIdeal.main_arg5)
          ∧ r.2.mem ((c.tc : Thread Cert.PleLossIdeal.nD Cert.PleLossIdeal.τ).loc Cert.PleLossIdeal.main_arg6) = m ((c.tc : Thread Cert.PleLossIdeal.nD Cert.PleLossIdeal.τ).loc Cert.PleLossIdeal.main_arg6)
          ∧ r.2.mem ((c.tc : Thread Cert.PleLossIdeal.nD Cert.PleLossIdeal.τ).loc Cert.PleLossIdeal.main_arg7) = m ((c.tc : Thread Cert.PleLossIdeal.nD Cert.PleLossIdeal.τ).loc Cert.PleLossIdeal.main_arg7)
          ∧ r.2.mem ((c.tc : Thread Cert.PleLossIdeal.nD Cert.PleLossIdeal.τ).loc Cert.PleLossIdeal.main_arg8) = m ((c.tc : Thread Cert.PleLossIdeal.nD Cert.PleLossIdeal.τ).loc Cert.PleLossIdeal.main_arg8)
          ∧ r.2.mem ((c.tc : Thread Cert.PleLossIdeal.nD Cert.PleLossIdeal.τ).loc Cert.PleLossIdeal.main_arg9) = m ((c.tc : Thread Cert.PleLossIdeal.nD Cert.PleLossIdeal.τ).loc Cert.PleLossIdeal.main_arg9))
      ∧ θ_run (Cert.PleLossRefIdeal.defs (F := Ideal)) (onTc (τ := Cert.PleLossRefIdeal.τ) (Cert.PleLossRefIdeal.main (F := Ideal))) ⟨m', fun _ => 0, g'⟩ (fun r => ∀ c : Dev Cert.PleLossRefIdeal.nD,
          r.2.mem ((c.tc : Thread Cert.PleLossRefIdeal.nD Cert.PleLossRefIdeal.τ).loc Cert.PleLossRefIdeal.main_v63) = v0 c
          ∧ r.2.mem ((c.tc : Thread Cert.PleLossRefIdeal.nD Cert.PleLossRefIdeal.τ).loc Cert.PleLossRefIdeal.main_arg4) = v1 c
          ∧ r.2.mem ((c.tc : Thread Cert.PleLossRefIdeal.nD Cert.PleLossRefIdeal.τ).loc Cert.PleLossRefIdeal.main_v20) = v2 c
          ∧ r.2.mem ((c.tc : Thread Cert.PleLossRefIdeal.nD Cert.PleLossRefIdeal.τ).loc Cert.PleLossRefIdeal.main_v78) = v3 c
          ∧ r.2.mem ((c.tc : Thread Cert.PleLossRefIdeal.nD Cert.PleLossRefIdeal.τ).loc Cert.PleLossRefIdeal.main_v72) = v4 c
          ∧ r.2.mem ((c.tc : Thread Cert.PleLossRefIdeal.nD Cert.PleLossRefIdeal.τ).loc Cert.PleLossRefIdeal.main_v98) = v5 c
          ∧ r.2.mem ((c.tc : Thread Cert.PleLossRefIdeal.nD Cert.PleLossRefIdeal.τ).loc Cert.PleLossRefIdeal.main_v119) = v6 c
          ∧ r.2.mem ((c.tc : Thread Cert.PleLossRefIdeal.nD Cert.PleLossRefIdeal.τ).loc Cert.PleLossRefIdeal.main_v99) = v7 c
          ∧ r.2.mem ((c.tc : Thread Cert.PleLossRefIdeal.nD Cert.PleLossRefIdeal.τ).loc Cert.PleLossRefIdeal.main_v76) = v8 c
          ∧ r.2.mem ((c.tc : Thread Cert.PleLossRefIdeal.nD Cert.PleLossRefIdeal.τ).loc Cert.PleLossRefIdeal.main_v120) = v9 c
          ∧ r.2.mem ((c.tc : Thread Cert.PleLossRefIdeal.nD Cert.PleLossRefIdeal.τ).loc Cert.PleLossRefIdeal.main_arg0) = m' ((c.tc : Thread Cert.PleLossRefIdeal.nD Cert.PleLossRefIdeal.τ).loc Cert.PleLossRefIdeal.main_arg0)
          ∧ r.2.mem ((c.tc : Thread Cert.PleLossRefIdeal.nD Cert.PleLossRefIdeal.τ).loc Cert.PleLossRefIdeal.main_arg1) = m' ((c.tc : Thread Cert.PleLossRefIdeal.nD Cert.PleLossRefIdeal.τ).loc Cert.PleLossRefIdeal.main_arg1)
          ∧ r.2.mem ((c.tc : Thread Cert.PleLossRefIdeal.nD Cert.PleLossRefIdeal.τ).loc Cert.PleLossRefIdeal.main_arg2) = m' ((c.tc : Thread Cert.PleLossRefIdeal.nD Cert.PleLossRefIdeal.τ).loc Cert.PleLossRefIdeal.main_arg2)
          ∧ r.2.mem ((c.tc : Thread Cert.PleLossRefIdeal.nD Cert.PleLossRefIdeal.τ).loc Cert.PleLossRefIdeal.main_arg3) = m' ((c.tc : Thread Cert.PleLossRefIdeal.nD Cert.PleLossRefIdeal.τ).loc Cert.PleLossRefIdeal.main_arg3)
          ∧ r.2.mem ((c.tc : Thread Cert.PleLossRefIdeal.nD Cert.PleLossRefIdeal.τ).loc Cert.PleLossRefIdeal.main_arg4) = m' ((c.tc : Thread Cert.PleLossRefIdeal.nD Cert.PleLossRefIdeal.τ).loc Cert.PleLossRefIdeal.main_arg4)
          ∧ r.2.mem ((c.tc : Thread Cert.PleLossRefIdeal.nD Cert.PleLossRefIdeal.τ).loc Cert.PleLossRefIdeal.main_arg5) = m' ((c.tc : Thread Cert.PleLossRefIdeal.nD Cert.PleLossRefIdeal.τ).loc Cert.PleLossRefIdeal.main_arg5)
          ∧ r.2.mem ((c.tc : Thread Cert.PleLossRefIdeal.nD Cert.PleLossRefIdeal.τ).loc Cert.PleLossRefIdeal.main_arg6) = m' ((c.tc : Thread Cert.PleLossRefIdeal.nD Cert.PleLossRefIdeal.τ).loc Cert.PleLossRefIdeal.main_arg6)
          ∧ r.2.mem ((c.tc : Thread Cert.PleLossRefIdeal.nD Cert.PleLossRefIdeal.τ).loc Cert.PleLossRefIdeal.main_arg7) = m' ((c.tc : Thread Cert.PleLossRefIdeal.nD Cert.PleLossRefIdeal.τ).loc Cert.PleLossRefIdeal.main_arg7)
          ∧ r.2.mem ((c.tc : Thread Cert.PleLossRefIdeal.nD Cert.PleLossRefIdeal.τ).loc Cert.PleLossRefIdeal.main_arg8) = m' ((c.tc : Thread Cert.PleLossRefIdeal.nD Cert.PleLossRefIdeal.τ).loc Cert.PleLossRefIdeal.main_arg8)
          ∧ r.2.mem ((c.tc : Thread Cert.PleLossRefIdeal.nD Cert.PleLossRefIdeal.τ).loc Cert.PleLossRefIdeal.main_arg9) = m' ((c.tc : Thread Cert.PleLossRefIdeal.nD Cert.PleLossRefIdeal.τ).loc Cert.PleLossRefIdeal.main_arg9))

def preserves_QkvBwd_QkvBwdIdeal : Prop :=
  True

def algebraic_QkvBwdIdeal_QkvBwdRefIdeal_pre_finite_qkv_bwd [hQkvBwdIdeal : Cert.QkvBwdIdeal.Facts] [hQkvBwdRefIdeal : Cert.QkvBwdRefIdeal.Facts] [hPre_finite_qkv_bwd : Cert.Pre_finite_qkv_bwd.Facts] : Prop :=
  ∀ (m : (ℓ : Loc Cert.QkvBwdIdeal.nD Cert.QkvBwdIdeal.τ Cert.QkvBwdIdeal.sig) → Buf (Elt Ideal) ℓ) (g : Dev Cert.QkvBwdIdeal.nD → PrngReg)
    (m' : (ℓ : Loc Cert.QkvBwdRefIdeal.nD Cert.QkvBwdRefIdeal.τ Cert.QkvBwdRefIdeal.sig) → Buf (Elt Ideal) ℓ) (g' : Dev Cert.QkvBwdRefIdeal.nD → PrngReg), Pre_QkvBwdIdeal_finite_qkv_bwd m →
    (∀ c : Dev Cert.QkvBwdIdeal.nD,
      m' ((c.tc : Thread Cert.QkvBwdRefIdeal.nD Cert.QkvBwdRefIdeal.τ).loc Cert.QkvBwdRefIdeal.main_arg0) = m ((c.tc : Thread Cert.QkvBwdIdeal.nD Cert.QkvBwdIdeal.τ).loc Cert.QkvBwdIdeal.main_arg0)
      ∧ m' ((c.tc : Thread Cert.QkvBwdRefIdeal.nD Cert.QkvBwdRefIdeal.τ).loc Cert.QkvBwdRefIdeal.main_arg1) = m ((c.tc : Thread Cert.QkvBwdIdeal.nD Cert.QkvBwdIdeal.τ).loc Cert.QkvBwdIdeal.main_arg1)
      ∧ m' ((c.tc : Thread Cert.QkvBwdRefIdeal.nD Cert.QkvBwdRefIdeal.τ).loc Cert.QkvBwdRefIdeal.main_arg2) = m ((c.tc : Thread Cert.QkvBwdIdeal.nD Cert.QkvBwdIdeal.τ).loc Cert.QkvBwdIdeal.main_arg2)
      ∧ m' ((c.tc : Thread Cert.QkvBwdRefIdeal.nD Cert.QkvBwdRefIdeal.τ).loc Cert.QkvBwdRefIdeal.main_arg3) = m ((c.tc : Thread Cert.QkvBwdIdeal.nD Cert.QkvBwdIdeal.τ).loc Cert.QkvBwdIdeal.main_arg3)
      ∧ m' ((c.tc : Thread Cert.QkvBwdRefIdeal.nD Cert.QkvBwdRefIdeal.τ).loc Cert.QkvBwdRefIdeal.main_arg4) = m ((c.tc : Thread Cert.QkvBwdIdeal.nD Cert.QkvBwdIdeal.τ).loc Cert.QkvBwdIdeal.main_arg4)
      ∧ m' ((c.tc : Thread Cert.QkvBwdRefIdeal.nD Cert.QkvBwdRefIdeal.τ).loc Cert.QkvBwdRefIdeal.main_arg5) = m ((c.tc : Thread Cert.QkvBwdIdeal.nD Cert.QkvBwdIdeal.τ).loc Cert.QkvBwdIdeal.main_arg5)
      ∧ m' ((c.tc : Thread Cert.QkvBwdRefIdeal.nD Cert.QkvBwdRefIdeal.τ).loc Cert.QkvBwdRefIdeal.main_arg6) = m ((c.tc : Thread Cert.QkvBwdIdeal.nD Cert.QkvBwdIdeal.τ).loc Cert.QkvBwdIdeal.main_arg6)
      ∧ m' ((c.tc : Thread Cert.QkvBwdRefIdeal.nD Cert.QkvBwdRefIdeal.τ).loc Cert.QkvBwdRefIdeal.main_arg7) = m ((c.tc : Thread Cert.QkvBwdIdeal.nD Cert.QkvBwdIdeal.τ).loc Cert.QkvBwdIdeal.main_arg7)
      ∧ m' ((c.tc : Thread Cert.QkvBwdRefIdeal.nD Cert.QkvBwdRefIdeal.τ).loc Cert.QkvBwdRefIdeal.main_arg8) = m ((c.tc : Thread Cert.QkvBwdIdeal.nD Cert.QkvBwdIdeal.τ).loc Cert.QkvBwdIdeal.main_arg8)
      ∧ m' ((c.tc : Thread Cert.QkvBwdRefIdeal.nD Cert.QkvBwdRefIdeal.τ).loc Cert.QkvBwdRefIdeal.main_arg9) = m ((c.tc : Thread Cert.QkvBwdIdeal.nD Cert.QkvBwdIdeal.τ).loc Cert.QkvBwdIdeal.main_arg9)) →
    ∃ (v0 : (c : Dev Cert.QkvBwdIdeal.nD) → Buf (Elt Ideal) ((c.tc : Thread Cert.QkvBwdIdeal.nD Cert.QkvBwdIdeal.τ).loc Cert.QkvBwdIdeal.main_v82)) (v1 : (c : Dev Cert.QkvBwdIdeal.nD) → Buf (Elt Ideal) ((c.tc : Thread Cert.QkvBwdIdeal.nD Cert.QkvBwdIdeal.τ).loc Cert.QkvBwdIdeal.main_v84)) (v2 : (c : Dev Cert.QkvBwdIdeal.nD) → Buf (Elt Ideal) ((c.tc : Thread Cert.QkvBwdIdeal.nD Cert.QkvBwdIdeal.τ).loc Cert.QkvBwdIdeal.main_v87)) (v3 : (c : Dev Cert.QkvBwdIdeal.nD) → Buf (Elt Ideal) ((c.tc : Thread Cert.QkvBwdIdeal.nD Cert.QkvBwdIdeal.τ).loc Cert.QkvBwdIdeal.main_v80_4)) (v4 : (c : Dev Cert.QkvBwdIdeal.nD) → Buf (Elt Ideal) ((c.tc : Thread Cert.QkvBwdIdeal.nD Cert.QkvBwdIdeal.τ).loc Cert.QkvBwdIdeal.main_v80_5)) (v5 : (c : Dev Cert.QkvBwdIdeal.nD) → Buf (Elt Ideal) ((c.tc : Thread Cert.QkvBwdIdeal.nD Cert.QkvBwdIdeal.τ).loc Cert.QkvBwdIdeal.main_v90)) (v6 : (c : Dev Cert.QkvBwdIdeal.nD) → Buf (Elt Ideal) ((c.tc : Thread Cert.QkvBwdIdeal.nD Cert.QkvBwdIdeal.τ).loc Cert.QkvBwdIdeal.main_v93)) (v7 : (c : Dev Cert.QkvBwdIdeal.nD) → Buf (Elt Ideal) ((c.tc : Thread Cert.QkvBwdIdeal.nD Cert.QkvBwdIdeal.τ).loc Cert.QkvBwdIdeal.main_v96)),
      θ_run (Cert.QkvBwdIdeal.defs (F := Ideal)) (onTc (τ := Cert.QkvBwdIdeal.τ) (Cert.QkvBwdIdeal.main (F := Ideal))) ⟨m, fun _ => 0, g⟩ (fun r => ∀ c : Dev Cert.QkvBwdIdeal.nD,
          r.2.mem ((c.tc : Thread Cert.QkvBwdIdeal.nD Cert.QkvBwdIdeal.τ).loc Cert.QkvBwdIdeal.main_v82) = v0 c
          ∧ r.2.mem ((c.tc : Thread Cert.QkvBwdIdeal.nD Cert.QkvBwdIdeal.τ).loc Cert.QkvBwdIdeal.main_v84) = v1 c
          ∧ r.2.mem ((c.tc : Thread Cert.QkvBwdIdeal.nD Cert.QkvBwdIdeal.τ).loc Cert.QkvBwdIdeal.main_v87) = v2 c
          ∧ r.2.mem ((c.tc : Thread Cert.QkvBwdIdeal.nD Cert.QkvBwdIdeal.τ).loc Cert.QkvBwdIdeal.main_v80_4) = v3 c
          ∧ r.2.mem ((c.tc : Thread Cert.QkvBwdIdeal.nD Cert.QkvBwdIdeal.τ).loc Cert.QkvBwdIdeal.main_v80_5) = v4 c
          ∧ r.2.mem ((c.tc : Thread Cert.QkvBwdIdeal.nD Cert.QkvBwdIdeal.τ).loc Cert.QkvBwdIdeal.main_v90) = v5 c
          ∧ r.2.mem ((c.tc : Thread Cert.QkvBwdIdeal.nD Cert.QkvBwdIdeal.τ).loc Cert.QkvBwdIdeal.main_v93) = v6 c
          ∧ r.2.mem ((c.tc : Thread Cert.QkvBwdIdeal.nD Cert.QkvBwdIdeal.τ).loc Cert.QkvBwdIdeal.main_v96) = v7 c
          ∧ r.2.mem ((c.tc : Thread Cert.QkvBwdIdeal.nD Cert.QkvBwdIdeal.τ).loc Cert.QkvBwdIdeal.main_arg0) = m ((c.tc : Thread Cert.QkvBwdIdeal.nD Cert.QkvBwdIdeal.τ).loc Cert.QkvBwdIdeal.main_arg0)
          ∧ r.2.mem ((c.tc : Thread Cert.QkvBwdIdeal.nD Cert.QkvBwdIdeal.τ).loc Cert.QkvBwdIdeal.main_arg1) = m ((c.tc : Thread Cert.QkvBwdIdeal.nD Cert.QkvBwdIdeal.τ).loc Cert.QkvBwdIdeal.main_arg1)
          ∧ r.2.mem ((c.tc : Thread Cert.QkvBwdIdeal.nD Cert.QkvBwdIdeal.τ).loc Cert.QkvBwdIdeal.main_arg2) = m ((c.tc : Thread Cert.QkvBwdIdeal.nD Cert.QkvBwdIdeal.τ).loc Cert.QkvBwdIdeal.main_arg2)
          ∧ r.2.mem ((c.tc : Thread Cert.QkvBwdIdeal.nD Cert.QkvBwdIdeal.τ).loc Cert.QkvBwdIdeal.main_arg3) = m ((c.tc : Thread Cert.QkvBwdIdeal.nD Cert.QkvBwdIdeal.τ).loc Cert.QkvBwdIdeal.main_arg3)
          ∧ r.2.mem ((c.tc : Thread Cert.QkvBwdIdeal.nD Cert.QkvBwdIdeal.τ).loc Cert.QkvBwdIdeal.main_arg4) = m ((c.tc : Thread Cert.QkvBwdIdeal.nD Cert.QkvBwdIdeal.τ).loc Cert.QkvBwdIdeal.main_arg4)
          ∧ r.2.mem ((c.tc : Thread Cert.QkvBwdIdeal.nD Cert.QkvBwdIdeal.τ).loc Cert.QkvBwdIdeal.main_arg5) = m ((c.tc : Thread Cert.QkvBwdIdeal.nD Cert.QkvBwdIdeal.τ).loc Cert.QkvBwdIdeal.main_arg5)
          ∧ r.2.mem ((c.tc : Thread Cert.QkvBwdIdeal.nD Cert.QkvBwdIdeal.τ).loc Cert.QkvBwdIdeal.main_arg6) = m ((c.tc : Thread Cert.QkvBwdIdeal.nD Cert.QkvBwdIdeal.τ).loc Cert.QkvBwdIdeal.main_arg6)
          ∧ r.2.mem ((c.tc : Thread Cert.QkvBwdIdeal.nD Cert.QkvBwdIdeal.τ).loc Cert.QkvBwdIdeal.main_arg7) = m ((c.tc : Thread Cert.QkvBwdIdeal.nD Cert.QkvBwdIdeal.τ).loc Cert.QkvBwdIdeal.main_arg7)
          ∧ r.2.mem ((c.tc : Thread Cert.QkvBwdIdeal.nD Cert.QkvBwdIdeal.τ).loc Cert.QkvBwdIdeal.main_arg8) = m ((c.tc : Thread Cert.QkvBwdIdeal.nD Cert.QkvBwdIdeal.τ).loc Cert.QkvBwdIdeal.main_arg8)
          ∧ r.2.mem ((c.tc : Thread Cert.QkvBwdIdeal.nD Cert.QkvBwdIdeal.τ).loc Cert.QkvBwdIdeal.main_arg9) = m ((c.tc : Thread Cert.QkvBwdIdeal.nD Cert.QkvBwdIdeal.τ).loc Cert.QkvBwdIdeal.main_arg9))
      ∧ θ_run (Cert.QkvBwdRefIdeal.defs (F := Ideal)) (onTc (τ := Cert.QkvBwdRefIdeal.τ) (Cert.QkvBwdRefIdeal.main (F := Ideal))) ⟨m', fun _ => 0, g'⟩ (fun r => ∀ c : Dev Cert.QkvBwdRefIdeal.nD,
          r.2.mem ((c.tc : Thread Cert.QkvBwdRefIdeal.nD Cert.QkvBwdRefIdeal.τ).loc Cert.QkvBwdRefIdeal.main_v195) = v0 c
          ∧ r.2.mem ((c.tc : Thread Cert.QkvBwdRefIdeal.nD Cert.QkvBwdRefIdeal.τ).loc Cert.QkvBwdRefIdeal.main_v150) = v1 c
          ∧ r.2.mem ((c.tc : Thread Cert.QkvBwdRefIdeal.nD Cert.QkvBwdRefIdeal.τ).loc Cert.QkvBwdRefIdeal.main_v127) = v2 c
          ∧ r.2.mem ((c.tc : Thread Cert.QkvBwdRefIdeal.nD Cert.QkvBwdRefIdeal.τ).loc Cert.QkvBwdRefIdeal.main_v196) = v3 c
          ∧ r.2.mem ((c.tc : Thread Cert.QkvBwdRefIdeal.nD Cert.QkvBwdRefIdeal.τ).loc Cert.QkvBwdRefIdeal.main_v151) = v4 c
          ∧ r.2.mem ((c.tc : Thread Cert.QkvBwdRefIdeal.nD Cert.QkvBwdRefIdeal.τ).loc Cert.QkvBwdRefIdeal.main_v172) = v5 c
          ∧ r.2.mem ((c.tc : Thread Cert.QkvBwdRefIdeal.nD Cert.QkvBwdRefIdeal.τ).loc Cert.QkvBwdRefIdeal.main_v197) = v6 c
          ∧ r.2.mem ((c.tc : Thread Cert.QkvBwdRefIdeal.nD Cert.QkvBwdRefIdeal.τ).loc Cert.QkvBwdRefIdeal.main_v198) = v7 c
          ∧ r.2.mem ((c.tc : Thread Cert.QkvBwdRefIdeal.nD Cert.QkvBwdRefIdeal.τ).loc Cert.QkvBwdRefIdeal.main_arg0) = m' ((c.tc : Thread Cert.QkvBwdRefIdeal.nD Cert.QkvBwdRefIdeal.τ).loc Cert.QkvBwdRefIdeal.main_arg0)
          ∧ r.2.mem ((c.tc : Thread Cert.QkvBwdRefIdeal.nD Cert.QkvBwdRefIdeal.τ).loc Cert.QkvBwdRefIdeal.main_arg1) = m' ((c.tc : Thread Cert.QkvBwdRefIdeal.nD Cert.QkvBwdRefIdeal.τ).loc Cert.QkvBwdRefIdeal.main_arg1)
          ∧ r.2.mem ((c.tc : Thread Cert.QkvBwdRefIdeal.nD Cert.QkvBwdRefIdeal.τ).loc Cert.QkvBwdRefIdeal.main_arg2) = m' ((c.tc : Thread Cert.QkvBwdRefIdeal.nD Cert.QkvBwdRefIdeal.τ).loc Cert.QkvBwdRefIdeal.main_arg2)
          ∧ r.2.mem ((c.tc : Thread Cert.QkvBwdRefIdeal.nD Cert.QkvBwdRefIdeal.τ).loc Cert.QkvBwdRefIdeal.main_arg3) = m' ((c.tc : Thread Cert.QkvBwdRefIdeal.nD Cert.QkvBwdRefIdeal.τ).loc Cert.QkvBwdRefIdeal.main_arg3)
          ∧ r.2.mem ((c.tc : Thread Cert.QkvBwdRefIdeal.nD Cert.QkvBwdRefIdeal.τ).loc Cert.QkvBwdRefIdeal.main_arg4) = m' ((c.tc : Thread Cert.QkvBwdRefIdeal.nD Cert.QkvBwdRefIdeal.τ).loc Cert.QkvBwdRefIdeal.main_arg4)
          ∧ r.2.mem ((c.tc : Thread Cert.QkvBwdRefIdeal.nD Cert.QkvBwdRefIdeal.τ).loc Cert.QkvBwdRefIdeal.main_arg5) = m' ((c.tc : Thread Cert.QkvBwdRefIdeal.nD Cert.QkvBwdRefIdeal.τ).loc Cert.QkvBwdRefIdeal.main_arg5)
          ∧ r.2.mem ((c.tc : Thread Cert.QkvBwdRefIdeal.nD Cert.QkvBwdRefIdeal.τ).loc Cert.QkvBwdRefIdeal.main_arg6) = m' ((c.tc : Thread Cert.QkvBwdRefIdeal.nD Cert.QkvBwdRefIdeal.τ).loc Cert.QkvBwdRefIdeal.main_arg6)
          ∧ r.2.mem ((c.tc : Thread Cert.QkvBwdRefIdeal.nD Cert.QkvBwdRefIdeal.τ).loc Cert.QkvBwdRefIdeal.main_arg7) = m' ((c.tc : Thread Cert.QkvBwdRefIdeal.nD Cert.QkvBwdRefIdeal.τ).loc Cert.QkvBwdRefIdeal.main_arg7)
          ∧ r.2.mem ((c.tc : Thread Cert.QkvBwdRefIdeal.nD Cert.QkvBwdRefIdeal.τ).loc Cert.QkvBwdRefIdeal.main_arg8) = m' ((c.tc : Thread Cert.QkvBwdRefIdeal.nD Cert.QkvBwdRefIdeal.τ).loc Cert.QkvBwdRefIdeal.main_arg8)
          ∧ r.2.mem ((c.tc : Thread Cert.QkvBwdRefIdeal.nD Cert.QkvBwdRefIdeal.τ).loc Cert.QkvBwdRefIdeal.main_arg9) = m' ((c.tc : Thread Cert.QkvBwdRefIdeal.nD Cert.QkvBwdRefIdeal.τ).loc Cert.QkvBwdRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v10)) (v1 : (c : Dev Cert.InProjIdeal.nD) → Buf (Elt Ideal) ((c.tc : Thread Cert.InProjIdeal.nD Cert.InProjIdeal.τ).loc Cert.InProjIdeal.main_v15)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10) = v0 c
          ∧ r.2.mem ((c.tc : Thread Cert.InProjIdeal.nD Cert.InProjIdeal.τ).loc Cert.InProjIdeal.main_v15) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_v14) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hFfnMid : Cert.FfnMid.Facts) (hFfnMidIdeal : Cert.FfnMidIdeal.Facts) (hFfnMidRefIdeal : Cert.FfnMidRefIdeal.Facts) (hAttnBwd : Cert.AttnBwd.Facts) (hAttnBwdIdeal : Cert.AttnBwdIdeal.Facts) (hAttnBwdRefIdeal : Cert.AttnBwdRefIdeal.Facts) (hOBwd : Cert.OBwd.Facts) (hOBwdIdeal : Cert.OBwdIdeal.Facts) (hOBwdRefIdeal : Cert.OBwdRefIdeal.Facts) (hInBwd : Cert.InBwd.Facts) (hInBwdIdeal : Cert.InBwdIdeal.Facts) (hInBwdRefIdeal : Cert.InBwdRefIdeal.Facts) (hFfnIn : Cert.FfnIn.Facts) (hFfnInIdeal : Cert.FfnInIdeal.Facts) (hFfnInRefIdeal : Cert.FfnInRefIdeal.Facts) (hPleLoss : Cert.PleLoss.Facts) (hPleLossIdeal : Cert.PleLossIdeal.Facts) (hPleLossRefIdeal : Cert.PleLossRefIdeal.Facts) (hQkvBwd : Cert.QkvBwd.Facts) (hQkvBwdIdeal : Cert.QkvBwdIdeal.Facts) (hQkvBwdRefIdeal : Cert.QkvBwdRefIdeal.Facts) (hInProj : Cert.InProj.Facts) (hInProjIdeal : Cert.InProjIdeal.Facts) (hInProjRefIdeal : Cert.InProjRefIdeal.Facts) (hPre_finite_ffn_mid : Cert.Pre_finite_ffn_mid.Facts) (hPre_finite_attn_bwd : Cert.Pre_finite_attn_bwd.Facts) (hPre_finite_o_bwd : Cert.Pre_finite_o_bwd.Facts) (hPre_finite_in_bwd : Cert.Pre_finite_in_bwd.Facts) (hPre_finite_ffn_in : Cert.Pre_finite_ffn_in.Facts) (hPre_finite_ple_loss : Cert.Pre_finite_ple_loss.Facts) (hPre_finite_qkv_bwd : Cert.Pre_finite_qkv_bwd.Facts),
    quiescent_FfnMid (hFfnMid := hFfnMid)
    ∧ quiescent_FfnMidIdeal (hFfnMidIdeal := hFfnMidIdeal)
    ∧ quiescent_FfnMidIdeal_pre_finite_ffn_mid (hFfnMidIdeal := hFfnMidIdeal) (hPre_finite_ffn_mid := hPre_finite_ffn_mid)
    ∧ quiescent_FfnMidRefIdeal (hFfnMidRefIdeal := hFfnMidRefIdeal)
    ∧ quiescent_FfnMidRefIdeal_pre_finite_ffn_mid (hFfnMidRefIdeal := hFfnMidRefIdeal) (hPre_finite_ffn_mid := hPre_finite_ffn_mid)
    ∧ quiescent_AttnBwd (hAttnBwd := hAttnBwd)
    ∧ quiescent_AttnBwdIdeal (hAttnBwdIdeal := hAttnBwdIdeal)
    ∧ quiescent_AttnBwdIdeal_pre_finite_attn_bwd (hAttnBwdIdeal := hAttnBwdIdeal) (hPre_finite_attn_bwd := hPre_finite_attn_bwd)
    ∧ quiescent_AttnBwdRefIdeal (hAttnBwdRefIdeal := hAttnBwdRefIdeal)
    ∧ quiescent_AttnBwdRefIdeal_pre_finite_attn_bwd (hAttnBwdRefIdeal := hAttnBwdRefIdeal) (hPre_finite_attn_bwd := hPre_finite_attn_bwd)
    ∧ quiescent_OBwd (hOBwd := hOBwd)
    ∧ quiescent_OBwdIdeal (hOBwdIdeal := hOBwdIdeal)
    ∧ quiescent_OBwdIdeal_pre_finite_o_bwd (hOBwdIdeal := hOBwdIdeal) (hPre_finite_o_bwd := hPre_finite_o_bwd)
    ∧ quiescent_OBwdRefIdeal (hOBwdRefIdeal := hOBwdRefIdeal)
    ∧ quiescent_OBwdRefIdeal_pre_finite_o_bwd (hOBwdRefIdeal := hOBwdRefIdeal) (hPre_finite_o_bwd := hPre_finite_o_bwd)
    ∧ quiescent_InBwd (hInBwd := hInBwd)
    ∧ quiescent_InBwdIdeal (hInBwdIdeal := hInBwdIdeal)
    ∧ quiescent_InBwdIdeal_pre_finite_in_bwd (hInBwdIdeal := hInBwdIdeal) (hPre_finite_in_bwd := hPre_finite_in_bwd)
    ∧ quiescent_InBwdRefIdeal (hInBwdRefIdeal := hInBwdRefIdeal)
    ∧ quiescent_InBwdRefIdeal_pre_finite_in_bwd (hInBwdRefIdeal := hInBwdRefIdeal) (hPre_finite_in_bwd := hPre_finite_in_bwd)
    ∧ quiescent_FfnIn (hFfnIn := hFfnIn)
    ∧ quiescent_FfnInIdeal (hFfnInIdeal := hFfnInIdeal)
    ∧ quiescent_FfnInIdeal_pre_finite_ffn_in (hFfnInIdeal := hFfnInIdeal) (hPre_finite_ffn_in := hPre_finite_ffn_in)
    ∧ quiescent_FfnInRefIdeal (hFfnInRefIdeal := hFfnInRefIdeal)
    ∧ quiescent_FfnInRefIdeal_pre_finite_ffn_in (hFfnInRefIdeal := hFfnInRefIdeal) (hPre_finite_ffn_in := hPre_finite_ffn_in)
    ∧ quiescent_PleLoss (hPleLoss := hPleLoss)
    ∧ quiescent_PleLossIdeal (hPleLossIdeal := hPleLossIdeal)
    ∧ quiescent_PleLossIdeal_pre_finite_ple_loss (hPleLossIdeal := hPleLossIdeal) (hPre_finite_ple_loss := hPre_finite_ple_loss)
    ∧ quiescent_PleLossRefIdeal (hPleLossRefIdeal := hPleLossRefIdeal)
    ∧ quiescent_PleLossRefIdeal_pre_finite_ple_loss (hPleLossRefIdeal := hPleLossRefIdeal) (hPre_finite_ple_loss := hPre_finite_ple_loss)
    ∧ quiescent_QkvBwd (hQkvBwd := hQkvBwd)
    ∧ quiescent_QkvBwdIdeal (hQkvBwdIdeal := hQkvBwdIdeal)
    ∧ quiescent_QkvBwdIdeal_pre_finite_qkv_bwd (hQkvBwdIdeal := hQkvBwdIdeal) (hPre_finite_qkv_bwd := hPre_finite_qkv_bwd)
    ∧ quiescent_QkvBwdRefIdeal (hQkvBwdRefIdeal := hQkvBwdRefIdeal)
    ∧ quiescent_QkvBwdRefIdeal_pre_finite_qkv_bwd (hQkvBwdRefIdeal := hQkvBwdRefIdeal) (hPre_finite_qkv_bwd := hPre_finite_qkv_bwd)
    ∧ quiescent_InProj (hInProj := hInProj)
    ∧ quiescent_InProjIdeal (hInProjIdeal := hInProjIdeal)
    ∧ quiescent_InProjRefIdeal (hInProjRefIdeal := hInProjRefIdeal)
    ∧ preserves_FfnMid_FfnMidIdeal
    ∧ algebraic_FfnMidIdeal_FfnMidRefIdeal_pre_finite_ffn_mid (hFfnMidIdeal := hFfnMidIdeal) (hFfnMidRefIdeal := hFfnMidRefIdeal) (hPre_finite_ffn_mid := hPre_finite_ffn_mid)
    ∧ preserves_AttnBwd_AttnBwdIdeal
    ∧ algebraic_AttnBwdIdeal_AttnBwdRefIdeal_pre_finite_attn_bwd (hAttnBwdIdeal := hAttnBwdIdeal) (hAttnBwdRefIdeal := hAttnBwdRefIdeal) (hPre_finite_attn_bwd := hPre_finite_attn_bwd)
    ∧ preserves_OBwd_OBwdIdeal
    ∧ algebraic_OBwdIdeal_OBwdRefIdeal_pre_finite_o_bwd (hOBwdIdeal := hOBwdIdeal) (hOBwdRefIdeal := hOBwdRefIdeal) (hPre_finite_o_bwd := hPre_finite_o_bwd)
    ∧ preserves_InBwd_InBwdIdeal
    ∧ algebraic_InBwdIdeal_InBwdRefIdeal_pre_finite_in_bwd (hInBwdIdeal := hInBwdIdeal) (hInBwdRefIdeal := hInBwdRefIdeal) (hPre_finite_in_bwd := hPre_finite_in_bwd)
    ∧ preserves_FfnIn_FfnInIdeal
    ∧ algebraic_FfnInIdeal_FfnInRefIdeal_pre_finite_ffn_in (hFfnInIdeal := hFfnInIdeal) (hFfnInRefIdeal := hFfnInRefIdeal) (hPre_finite_ffn_in := hPre_finite_ffn_in)
    ∧ preserves_PleLoss_PleLossIdeal
    ∧ algebraic_PleLossIdeal_PleLossRefIdeal_pre_finite_ple_loss (hPleLossIdeal := hPleLossIdeal) (hPleLossRefIdeal := hPleLossRefIdeal) (hPre_finite_ple_loss := hPre_finite_ple_loss)
    ∧ preserves_QkvBwd_QkvBwdIdeal
    ∧ algebraic_QkvBwdIdeal_QkvBwdRefIdeal_pre_finite_qkv_bwd (hQkvBwdIdeal := hQkvBwdIdeal) (hQkvBwdRefIdeal := hQkvBwdRefIdeal) (hPre_finite_qkv_bwd := hPre_finite_qkv_bwd)
    ∧ preserves_InProj_InProjIdeal
    ∧ algebraic_InProjIdeal_InProjRefIdeal (hInProjIdeal := hInProjIdeal) (hInProjRefIdeal := hInProjRefIdeal)
-- ==== Pre_finite_attn_bwd.lean ====
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S1x8192x8x96 .f32) (main_arg1 : FVec F S1x8192x8x96 .f32) (main_arg2 : FVec F S1x8192x8x64 .f32) (main_arg3 : FVec F S1x8192x512 .f32) : IVec S_ 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_c : IVec S_ 1 := constantI S_ 1 1#1
  let main_v3 : IVec S_ 1 := (fun x v => Host.reduce IntOp.andi x v reducesTo_S1x8192x8x96_S_d0_1_2_3 h_S_) main_v2 main_c
  let main_v4 : FVec F S1x8192x8x96 .f32 := Host.absf main_arg1
  let main_cst_0 : FVec F S_ .f32 := constant S_ .f32 0x7F800000#32
  let main_v5 : FVec F S1x8192x8x96 .f32 := broadcastInDim S1x8192x8x96 ![] bcast_S_S1x8192x8x96 main_cst_0
  let main_v6 : IVec S1x8192x8x96 1 := cmpf .olt main_v4 main_v5
  let main_c_1 : IVec S_ 1 := constantI S_ 1 1#1
  let main_v7 : IVec S_ 1 := (fun x v => Host.reduce IntOp.andi x v reducesTo_S1x8192x8x96_S_d0_1_2_3 h_S_) main_v6 main_c_1
  let main_v8 : FVec F S1x8192x8x64 .f32 := Host.absf main_arg2
  let main_cst_2 : FVec F S_ .f32 := constant S_ .f32 0x7F800000#32
  let main_v9 : FVec F S1x8192x8x64 .f32 := broadcastInDim S1x8192x8x64 ![] bcast_S_S1x8192x8x64 main_cst_2
  let main_v10 : IVec S1x8192x8x64 1 := cmpf .olt main_v8 main_v9
  let main_c_3 : IVec S_ 1 := constantI S_ 1 1#1
  let main_v11 : IVec S_ 1 := (fun x v => Host.reduce IntOp.andi x v reducesTo_S1x8192x8x64_S_d0_1_2_3 h_S_) main_v10 main_c_3
  let main_v12 : FVec F S1x8192x512 .f32 := Host.absf main_arg3
  let main_cst_4 : FVec F S_ .f32 := constant S_ .f32 0x7F800000#32
  let main_v13 : FVec F S1x8192x512 .f32 := broadcastInDim S1x8192x512 ![] bcast_S_S1x8192x512 main_cst_4
  let main_v14 : IVec S1x8192x512 1 := cmpf .olt main_v12 main_v13
  let main_c_5 : IVec S_ 1 := constantI S_ 1 1#1
  let main_v15 : IVec S_ 1 := (fun x v => Host.reduce IntOp.andi x v reducesTo_S1x8192x512_S_d0_1_2 h_S_) main_v14 main_c_5
  fn_part1 (F := F) main_v3 main_v7 main_v11 main_v15
-- ==== Pre_finite_ffn_in.lean ====
abbrev S8192x1024 : Shape := ⟨2, ![8192, 1024]⟩
abbrev S1x8192x512 : Shape := ⟨3, ![1, 8192, 512]⟩
abbrev S1x1024x1024 : Shape := ⟨3, ![1, 1024, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x8192x512 : S_.BroadcastsInDim S1x8192x512 (![] : Fin 0 → Fin S1x8192x512.rank)
  reducesTo_S1x8192x512_S_d0_1_2 : S1x8192x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S8192x1024 .f32) (main_arg9 : FVec F S8192x2816 .f32) (main_arg10 : FVec F S8192x2816 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x1024 .f32 := Host.absf main_arg8
  let main_cst_14 : FVec F S_ .f32 := constant S_ .f32 0x7F800000#32
  let main_v33 : FVec F S8192x1024 .f32 := broadcastInDim S8192x1024 ![] bcast_S_S8192x1024 main_cst_14
  let main_v34 : IVec S8192x1024 1 := cmpf .olt main_v32 main_v33
  let main_c_15 : IVec S_ 1 := constantI S_ 1 1#1
  let main_v35 : IVec S_ 1 := (fun x v => Host.reduce IntOp.andi x v reducesTo_S8192x1024_S_d0_1 h_S_) main_v34 main_c_15
  let main_v36 : FVec F S8192x2816 .f32 := Host.absf main_arg9
  let main_cst_16 : FVec F S_ .f32 := constant S_ .f32 0x7F800000#32
  let main_v37 : FVec F S8192x2816 .f32 := broadcastInDim S8192x2816 ![] bcast_S_S8192x2816 main_cst_16
  let main_v38 : IVec S8192x2816 1 := cmpf .olt main_v36 main_v37
  let main_c_17 : IVec S_ 1 := constantI S_ 1 1#1
  let main_v39 : IVec S_ 1 := (fun x v => Host.reduce IntOp.andi x v reducesTo_S8192x2816_S_d0_1 h_S_) main_v38 main_c_17
  let main_v40 : FVec F S8192x2816 .f32 := Host.absf main_arg10
  let main_cst_18 : FVec F S_ .f32 := constant S_ .f32 0x7F800000#32
  let main_v41 : FVec F S8192x2816 .f32 := broadcastInDim S8192x2816 ![] bcast_S_S8192x2816 main_cst_18
  let main_v42 : IVec S8192x2816 1 := cmpf .olt main_v40 main_v41
  let main_c_19 : IVec S_ 1 := constantI S_ 1 1#1
  let main_v43 : IVec S_ 1 := (fun x v => Host.reduce IntOp.andi x v reducesTo_S8192x2816_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x1024 .f32) (main_arg5 : FVec F S1x1024 .f32) (main_arg6 : FVec F S1024x2816 .f32) (main_arg7 : FVec F S1024x2816 .f32) (main_arg8 : FVec F S8192x1024 .f32) (main_arg9 : FVec F S8192x2816 .f32) (main_arg10 : FVec F S8192x2816 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1024x2816 .f32 := Host.absf main_arg6
  let main_cst_10 : FVec F S_ .f32 := constant S_ .f32 0x7F800000#32
  let main_v25 : FVec F S1024x2816 .f32 := broadcastInDim S1024x2816 ![] bcast_S_S1024x2816 main_cst_10
  let main_v26 : IVec S1024x2816 1 := cmpf .olt main_v24 main_v25
  let main_c_11 : IVec S_ 1 := constantI S_ 1 1#1
  let main_v27 : IVec S_ 1 := (fun x v => Host.reduce IntOp.andi x v reducesTo_S1024x2816_S_d0_1 h_S_) main_v26 main_c_11
  let main_v28 : FVec F S1024x2816 .f32 := Host.absf main_arg7
  let main_cst_12 : FVec F S_ .f32 := constant S_ .f32 0x7F800000#32
  let main_v29 : FVec F S1024x2816 .f32 := broadcastInDim S1024x2816 ![] bcast_S_S1024x2816 main_cst_12
  let main_v30 : IVec S1024x2816 1 := cmpf .olt main_v28 main_v29
  let main_c_13 : IVec S_ 1 := constantI S_ 1 1#1
  let main_v31 : IVec S_ 1 := (fun x v => Host.reduce IntOp.andi x v reducesTo_S1024x2816_S_d0_1 h_S_) main_v30 main_c_13
  fn_part2 (F := F) main_arg8 main_arg9 main_arg10 main_v3 main_v7 main_v11 main_v15 main_v19 main_v23 main_v27 main_v31

def fn {F : FTy → Type} [FloatOps F] (main_arg0 : FVec F S8192x1024 .f32) (main_arg1 : FVec F S1x8192x512 .f32) (main_arg2 : FVec F S1x8192x512 .f32) (main_arg3 : FVec F S1x1024x1024 .f32) (main_arg4 : FVec F S1x1024 .f32) (main_arg5 : FVec F S1x1024 .f32) (main_arg6 : FVec F S1024x2816 .f32) (main_arg7 : FVec F S1024x2816 .f32) (main_arg8 : FVec F S8192x1024 .f32) (main_arg9 : FVec F S8192x2816 .f32) (main_arg10 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x8192x512 .f32 := Host.absf main_arg1
  let main_cst_0 : FVec F S_ .f32 := constant S_ .f32 0x7F800000#32
  let main_v5 : FVec F S1x8192x512 .f32 := broadcastInDim S1x8192x512 ![] bcast_S_S1x8192x512 main_cst_0
  let main_v6 : IVec S1x8192x512 1 := cmpf .olt main_v4 main_v5
  let main_c_1 : IVec S_ 1 := constantI S_ 1 1#1
  let main_v7 : IVec S_ 1 := (fun x v => Host.reduce IntOp.andi x v reducesTo_S1x8192x512_S_d0_1_2 h_S_) main_v6 main_c_1
  let main_v8 : FVec F S1x8192x512 .f32 := Host.absf main_arg2
  let main_cst_2 : FVec F S_ .f32 := constant S_ .f32 0x7F800000#32
  let main_v9 : FVec F S1x8192x512 .f32 := broadcastInDim S1x8192x512 ![] bcast_S_S1x8192x512 main_cst_2
  let main_v10 : IVec S1x8192x512 1 := cmpf .olt main_v8 main_v9
  let main_c_3 : IVec S_ 1 := constantI S_ 1 1#1
  let main_v11 : IVec S_ 1 := (fun x v => Host.reduce IntOp.andi x v reducesTo_S1x8192x512_S_d0_1_2 h_S_) main_v10 main_c_3
  let main_v12 : FVec F S1x1024x1024 .f32 := Host.absf main_arg3
  let main_cst_4 : FVec F S_ .f32 := constant S_ .f32 0x7F800000#32
  let main_v13 : FVec F S1x1024x1024 .f32 := broadcastInDim S1x1024x1024 ![] bcast_S_S1x1024x1024 main_cst_4
  let main_v14 : IVec S1x1024x1024 1 := cmpf .olt main_v12 main_v13
  let main_c_5 : IVec S_ 1 := constantI S_ 1 1#1
  let main_v15 : IVec S_ 1 := (fun x v => Host.reduce IntOp.andi x v reducesTo_S1x1024x1024_S_d0_1_2 h_S_) main_v14 main_c_5
  fn_part1 (F := F) main_arg4 main_arg5 main_arg6 main_arg7 main_arg8 main_arg9 main_arg10 main_v3 main_v7 main_v11 main_v15
-- ==== Pre_finite_ffn_mid.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_in_bwd.lean ====
abbrev S8192x1024 : Shape := ⟨2, ![8192, 1024]⟩
abbrev S1x1024 : Shape := ⟨2, ![1, 1024]⟩
abbrev S1024x2720 : Shape := ⟨2, ![1024, 2720]⟩
abbrev S8192x2720 : Shape := ⟨2, ![8192, 2720]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2720 : S_.BroadcastsInDim S1024x2720 (![] : Fin 0 → Fin S1024x2720.rank)
  reducesTo_S1024x2720_S_d0_1 : S1024x2720.ReducesTo [0, 1] S_
  bcast_S_S8192x2720 : S_.BroadcastsInDim S8192x2720 (![] : Fin 0 → Fin S8192x2720.rank)
  reducesTo_S8192x2720_S_d0_1 : S8192x2720.ReducesTo [0, 1] S_

variable [Facts]

def fn_part1 {F : FTy → Type} [FloatOps F] (main_arg4 : FVec F S8192x2720 .f32) (main_v3 : IVec S_ 1) (main_v7 : IVec S_ 1) (main_v11 : IVec S_ 1) (main_v15 : IVec S_ 1) : IVec S_ 1 :=
  let main_v16 : FVec F S8192x2720 .f32 := Host.absf main_arg4
  let main_cst_6 : FVec F S_ .f32 := constant S_ .f32 0x7F800000#32
  let main_v17 : FVec F S8192x2720 .f32 := broadcastInDim S8192x2720 ![] bcast_S_S8192x2720 main_cst_6
  let main_v18 : IVec S8192x2720 1 := cmpf .olt main_v16 main_v17
  let main_c_7 : IVec S_ 1 := constantI S_ 1 1#1
  let main_v19 : IVec S_ 1 := (fun x v => Host.reduce IntOp.andi x v reducesTo_S8192x2720_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S1x1024 .f32) (main_arg2 : FVec F S1024x2720 .f32) (main_arg3 : FVec F S8192x1024 .f32) (main_arg4 : FVec F S8192x2720 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2720 .f32 := Host.absf main_arg2
  let main_cst_2 : FVec F S_ .f32 := constant S_ .f32 0x7F800000#32
  let main_v9 : FVec F S1024x2720 .f32 := broadcastInDim S1024x2720 ![] bcast_S_S1024x2720 main_cst_2
  let main_v10 : IVec S1024x2720 1 := cmpf .olt main_v8 main_v9
  let main_c_3 : IVec S_ 1 := constantI S_ 1 1#1
  let main_v11 : IVec S_ 1 := (fun x v => Host.reduce IntOp.andi x v reducesTo_S1024x2720_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_v3 main_v7 main_v11 main_v15
-- ==== Pre_finite_o_bwd.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S8192x512 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v3 main_v7
  let main_v13 : IVec S_ 1 := andi main_v12 main_v11
  main_v13
-- ==== Pre_finite_ple_loss.lean ====
abbrev S8192x2816 : Shape := ⟨2, ![8192, 2816]⟩
abbrev S8192x1024 : Shape := ⟨2, ![8192, 1024]⟩
abbrev S1x1024 : Shape := ⟨2, ![1, 1024]⟩
abbrev S2816x1024 : Shape := ⟨2, ![2816, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1x1024 .f32) (main_arg9 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S8192x1024 .f32 := Host.absf main_arg9
  let main_cst_16 : FVec F S_ .f32 := constant S_ .f32 0x7F800000#32
  let main_v37 : FVec F S8192x1024 .f32 := broadcastInDim S8192x1024 ![] bcast_S_S8192x1024 main_cst_16
  let main_v38 : IVec S8192x1024 1 := cmpf .olt main_v36 main_v37
  let main_c_17 : IVec S_ 1 := constantI S_ 1 1#1
  let main_v39 : IVec S_ 1 := (fun x v => Host.reduce IntOp.andi x v reducesTo_S8192x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S8192x256 .f32) (main_arg5 : FVec F S256x1024 .f32) (main_arg6 : FVec F S1x1024 .f32) (main_arg7 : FVec F S1024x1024 .f32) (main_arg8 : FVec F S1x1024 .f32) (main_arg9 : FVec F S8192x1024 .f32) (main_v3 : IVec S_ 1) (main_v7 : IVec S_ 1) (main_v11 : IVec S_ 1) (main_v15 : IVec S_ 1) : IVec S_ 1 :=
  let main_v16 : FVec F S8192x256 .f32 := Host.absf main_arg4
  let main_cst_6 : FVec F S_ .f32 := constant S_ .f32 0x7F800000#32
  let main_v17 : FVec F S8192x256 .f32 := broadcastInDim S8192x256 ![] bcast_S_S8192x256 main_cst_6
  let main_v18 : IVec S8192x256 1 := cmpf .olt main_v16 main_v17
  let main_c_7 : IVec S_ 1 := constantI S_ 1 1#1
  let main_v19 : IVec S_ 1 := (fun x v => Host.reduce IntOp.andi x v reducesTo_S8192x256_S_d0_1 h_S_) main_v18 main_c_7
  let main_v20 : FVec F S256x1024 .f32 := Host.absf main_arg5
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1024x1024 .f32 := Host.absf main_arg7
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_arg8 main_arg9 main_v3 main_v7 main_v11 main_v15 main_v19 main_v23 main_v27 main_v31

def fn {F : FTy → Type} [FloatOps F] (main_arg0 : FVec F S8192x2816 .f32) (main_arg1 : FVec F S8192x1024 .f32) (main_arg2 : FVec F S1x1024 .f32) (main_arg3 : FVec F S2816x1024 .f32) (main_arg4 : FVec F S8192x256 .f32) (main_arg5 : FVec F S256x1024 .f32) (main_arg6 : FVec F S1x1024 .f32) (main_arg7 : FVec F S1024x1024 .f32) (main_arg8 : FVec F S1x1024 .f32) (main_arg9 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_arg5 main_arg6 main_arg7 main_arg8 main_arg9 main_v3 main_v7 main_v11 main_v15
-- ==== Pre_finite_qkv_bwd.lean ====
abbrev S1x8192x384 : Shape := ⟨3, ![1, 8192, 384]⟩
abbrev S1x8192x256 : Shape := ⟨3, ![1, 8192, 256]⟩
abbrev S1x8192 : Shape := ⟨2, ![1, 8192]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x8192x8x96 : Shape := ⟨4, ![1, 8192, 8, 96]⟩
abbrev S1x8192x8x64 : Shape := ⟨4, ![1, 8192, 8, 64]⟩
abbrev S_ : Shape := ⟨0, ![]⟩

class Facts : Prop where
  bcast_S_S1x8192x384 : S_.BroadcastsInDim S1x8192x384 (![] : Fin 0 → Fin S1x8192x384.rank)
  reducesTo_S1x8192x384_S_d0_1_2 : S1x8192x384.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x384 : S_.BroadcastsInDim S1x384 (![] : Fin 0 → Fin S1x384.rank)
  reducesTo_S1x384_S_d0_1 : S1x384.ReducesTo [0, 1] S_
  bcast_S_S384x768 : S_.BroadcastsInDim S384x768 (![] : Fin 0 → Fin S384x768.rank)
  reducesTo_S384x768_S_d0_1 : S384x768.ReducesTo [0, 1] S_
  bcast_S_S1x256 : S_.BroadcastsInDim S1x256 (![] : Fin 0 → Fin S1x256.rank)
  reducesTo_S1x256_S_d0_1 : S1x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_

variable [Facts]

def fn_part2 {F : FTy → Type} [FloatOps F] (main_arg9 : FVec F S1x8192x8x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x8192x8x64 .f32 := Host.absf main_arg9
  let main_cst_14 : FVec F S_ .f32 := constant S_ .f32 0x7F800000#32
  let main_v33 : FVec F S1x8192x8x64 .f32 := broadcastInDim S1x8192x8x64 ![] bcast_S_S1x8192x8x64 main_cst_14
  let main_v34 : IVec S1x8192x8x64 1 := cmpf .olt main_v32 main_v33
  let main_c_15 : IVec S_ 1 := constantI S_ 1 1#1
  let main_v35 : IVec S_ 1 := (fun x v => Host.reduce IntOp.andi x v reducesTo_S1x8192x8x64_S_d0_1_2_3 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg5 : FVec F S1x256 .f32) (main_arg6 : FVec F S256x1024 .f32) (main_arg7 : FVec F S1x8192x8x96 .f32) (main_arg8 : FVec F S1x8192x8x96 .f32) (main_arg9 : FVec F S1x8192x8x64 .f32) (main_v3 : IVec S_ 1) (main_v7 : IVec S_ 1) (main_v11 : IVec S_ 1) (main_v15 : IVec S_ 1) : IVec S_ 1 :=
  let main_v16 : FVec F S1x256 .f32 := Host.absf main_arg5
  let main_cst_6 : FVec F S_ .f32 := constant S_ .f32 0x7F800000#32
  let main_v17 : FVec F S1x256 .f32 := broadcastInDim S1x256 ![] bcast_S_S1x256 main_cst_6
  let main_v18 : IVec S1x256 1 := cmpf .olt main_v16 main_v17
  let main_c_7 : IVec S_ 1 := constantI S_ 1 1#1
  let main_v19 : IVec S_ 1 := (fun x v => Host.reduce IntOp.andi x v reducesTo_S1x256_S_d0_1 h_S_) main_v18 main_c_7
  let main_v20 : FVec F S256x1024 .f32 := Host.absf main_arg6
  let main_cst_8 : FVec F S_ .f32 := constant S_ .f32 0x7F800000#32
  let main_v21 : FVec F S256x1024 .f32 := broadcastInDim S256x1024 ![] bcast_S_S256x1024 main_cst_8
  let main_v22 : IVec S256x1024 1 := cmpf .olt main_v20 main_v21
  let main_c_9 : IVec S_ 1 := constantI S_ 1 1#1
  let main_v23 : IVec S_ 1 := (fun x v => Host.reduce IntOp.andi x v reducesTo_S256x1024_S_d0_1 h_S_) main_v22 main_c_9
  let main_v24 : FVec F S1x8192x8x96 .f32 := Host.absf main_arg7
  let main_cst_10 : FVec F S_ .f32 := constant S_ .f32 0x7F800000#32
  let main_v25 : FVec F S1x8192x8x96 .f32 := broadcastInDim S1x8192x8x96 ![] bcast_S_S1x8192x8x96 main_cst_10
  let main_v26 : IVec S1x8192x8x96 1 := cmpf .olt main_v24 main_v25
  let main_c_11 : IVec S_ 1 := constantI S_ 1 1#1
  let main_v27 : IVec S_ 1 := (fun x v => Host.reduce IntOp.andi x v reducesTo_S1x8192x8x96_S_d0_1_2_3 h_S_) main_v26 main_c_11
  let main_v28 : FVec F S1x8192x8x96 .f32 := Host.absf main_arg8
  let main_cst_12 : FVec F S_ .f32 := constant S_ .f32 0x7F800000#32
  let main_v29 : FVec F S1x8192x8x96 .f32 := broadcastInDim S1x8192x8x96 ![] bcast_S_S1x8192x8x96 main_cst_12
  let main_v30 : IVec S1x8192x8x96 1 := cmpf .olt main_v28 main_v29
  let main_c_13 : IVec S_ 1 := constantI S_ 1 1#1
  let main_v31 : IVec S_ 1 := (fun x v => Host.reduce IntOp.andi x v reducesTo_S1x8192x8x96_S_d0_1_2_3 h_S_) main_v30 main_c_13
  fn_part2 (F := F) main_arg9 main_v3 main_v7 main_v11 main_v15 main_v19 main_v23 main_v27 main_v31

def fn {F : FTy → Type} [FloatOps F] (main_arg0 : FVec F S1x8192x384 .f32) (main_arg1 : FVec F S1x8192x256 .f32) (main_arg2 : IVec S1x8192 32) (main_arg3 : FVec F S1x384 .f32) (main_arg4 : FVec F S384x768 .f32) (main_arg5 : FVec F S1x256 .f32) (main_arg6 : FVec F S256x1024 .f32) (main_arg7 : FVec F S1x8192x8x96 .f32) (main_arg8 : FVec F S1x8192x8x96 .f32) (main_arg9 : FVec F S1x8192x8x64 .f32) : IVec S_ 1 :=
  let main_v0 : FVec F S1x8192x384 .f32 := Host.absf main_arg0
  let main_cst : FVec F S_ .f32 := constant S_ .f32 0x7F800000#32
  let main_v1 : FVec F S1x8192x384 .f32 := broadcastInDim S1x8192x384 ![] bcast_S_S1x8192x384 main_cst
  let main_v2 : IVec S1x8192x384 1 := cmpf .olt main_v0 main_v1
  let main_c : IVec S_ 1 := constantI S_ 1 1#1
  let main_v3 : IVec S_ 1 := (fun x v => Host.reduce IntOp.andi x v reducesTo_S1x8192x384_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : FVec F S1x384 .f32 := Host.absf main_arg3
  let main_cst_2 : FVec F S_ .f32 := constant S_ .f32 0x7F800000#32
  let main_v9 : FVec F S1x384 .f32 := broadcastInDim S1x384 ![] bcast_S_S1x384 main_cst_2
  let main_v10 : IVec S1x384 1 := cmpf .olt main_v8 main_v9
  let main_c_3 : IVec S_ 1 := constantI S_ 1 1#1
  let main_v11 : IVec S_ 1 := (fun x v => Host.reduce IntOp.andi x v reducesTo_S1x384_S_d0_1 h_S_) main_v10 main_c_3
  let main_v12 : FVec F S384x768 .f32 := Host.absf main_arg4
  let main_cst_4 : FVec F S_ .f32 := constant S_ .f32 0x7F800000#32
  let main_v13 : FVec F S384x768 .f32 := broadcastInDim S384x768 ![] bcast_S_S384x768 main_cst_4
  let main_v14 : IVec S384x768 1 := cmpf .olt main_v12 main_v13
  let main_c_5 : IVec S_ 1 := constantI S_ 1 1#1
  let main_v15 : IVec S_ 1 := (fun x v => Host.reduce IntOp.andi x v reducesTo_S384x768_S_d0_1 h_S_) main_v14 main_c_5
  fn_part1 (F := F) main_arg5 main_arg6 main_arg7 main_arg8 main_arg9 main_v3 main_v7 main_v11 main_v15
-- ==== FfnMid.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .bf16⟩
  | .hbm, ⟨8, _⟩ => ⟨S8x352x1024, .bf16⟩
  | .hbm, ⟨9, _⟩ => ⟨S2816x1024, .f32⟩
  | .hbm, ⟨10, _⟩ => ⟨S2816x1024, .bf16⟩
  | .hbm, ⟨11, _⟩ => ⟨S8x352x1024, .bf16⟩
  | .hbm, ⟨12, _⟩ => ⟨S2816x1024, .bf16⟩
  | .hbm, ⟨13, _⟩ => ⟨S8x352x1024, .bf16⟩
  | .hbm, ⟨14, _⟩ => ⟨S8x1056x1024, .bf16⟩
  | .hbm, ⟨15, _⟩ => ⟨S8192x1024, .bf16⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S8192x1024, .bf16⟩
  | .hbm, ⟨20, _⟩ => ⟨S8192x2816, .bf16⟩
  | .hbm, ⟨21, _⟩ => ⟨S8192x2816, .bf16⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x2816, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S8x352x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8x352x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnMidRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== AttnBwd.lean ====
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S8192x8x96 : Shape := ⟨3, ![8192, 8, 96]⟩
abbrev S_ : Shape := ⟨0, ![]⟩
abbrev S8192x8x128 : Shape := ⟨3, ![8192, 8, 128]⟩
abbrev S8192x1024 : Shape := ⟨2, ![8192, 1024]⟩
abbrev S8192x8x64 : Shape := ⟨3, ![8192, 8, 64]⟩
abbrev S1x8x8192x8192 : Shape := ⟨4, ![1, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S8x1x8192 : Shape := ⟨3, ![8, 1, 8192]⟩
abbrev S8x8x8192 : Shape := ⟨3, ![8, 8, 8192]⟩
abbrev S4x16x8192 : Shape := ⟨3, ![4, 16, 8192]⟩
abbrev S8192x8 : Shape := ⟨2, ![8192, 8]⟩
abbrev S8192x256 : Shape := ⟨2, ![8192, 256]⟩
abbrev S512x256 : Shape := ⟨2, ![512, 256]⟩
abbrev S1x16x8192 : Shape := ⟨3, ![1, 16, 8192]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S1x8192x8x128 : Shape := ⟨4, ![1, 8192, 8, 128]⟩

abbrev nBuf : Space → Nat
  | .hbm => 86
  | .vmem => 22
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x512, .f32⟩
  | .hbm, ⟨4, _⟩ => ⟨S8192x8x96, .f32⟩
  | .hbm, ⟨5, _⟩ => ⟨S_, .i32⟩
  | .hbm, ⟨6, _⟩ => ⟨S_, .f32⟩
  | .hbm, ⟨7, _⟩ => ⟨S8192x8x128, .f32⟩
  | .hbm, ⟨8, _⟩ => ⟨S8192x1024, .f32⟩
  | .hbm, ⟨9, _⟩ => ⟨S8192x1024, .bf16⟩
  | .hbm, ⟨10, _⟩ => ⟨S8192x8x96, .f32⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S8192x8x64, .f32⟩
  | .hbm, ⟨17, _⟩ => ⟨S_, .f32⟩
  | .hbm, ⟨18, _⟩ => ⟨S_, .f32⟩
  | .hbm, ⟨19, _⟩ => ⟨S8192x8x128, .f32⟩
  | .hbm, ⟨20, _⟩ => ⟨S8192x1024, .f32⟩
  | .hbm, ⟨21, _⟩ => ⟨S8192x1024, .bf16⟩
  | .hbm, ⟨22, _⟩ => ⟨S1x8x8192x8192, .f32⟩
  | .hbm, ⟨23, _⟩ => ⟨S_, .f32⟩
  | .hbm, ⟨24, _⟩ => ⟨S1x8x8192x8192, .f32⟩
  | .hbm, ⟨25, _⟩ => ⟨S1x8x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S1x1x8192x8192, .i1⟩
  | .hbm, ⟨33, _⟩ => ⟨S_, .f32⟩
  | .hbm, ⟨34, _⟩ => ⟨S_, .f32⟩
  | .hbm, ⟨35, _⟩ => ⟨S1x8x8192x8192, .i1⟩
  | .hbm, ⟨36, _⟩ => ⟨S1x8x8192x8192, .f32⟩
  | .hbm, ⟨37, _⟩ => ⟨S1x8x8192x8192, .f32⟩
  | .hbm, ⟨38, _⟩ => ⟨S_, .f32⟩
  | .hbm, ⟨39, _⟩ => ⟨S1x8x8192, .f32⟩
  | .hbm, ⟨40, _⟩ => ⟨S1x8x8192x1, .f32⟩
  | .hbm, ⟨41, _⟩ => ⟨S1x8x8192x8192, .f32⟩
  | .hbm, ⟨42, _⟩ => ⟨S1x8x8192x8192, .f32⟩
  | .hbm, ⟨43, _⟩ => ⟨S1x8x8192x8192, .f32⟩
  | .hbm, ⟨44, _⟩ => ⟨S_, .f32⟩
  | .hbm, ⟨45, _⟩ => ⟨S1x8x8192, .f32⟩
  | .hbm, ⟨46, _⟩ => ⟨S1x8x8192x1, .f32⟩
  | .hbm, ⟨47, _⟩ => ⟨S1x8x8192x8192, .f32⟩
  | .hbm, ⟨48, _⟩ => ⟨S1x8x8192x8192, .f32⟩
  | .hbm, ⟨49, _⟩ => ⟨S1x8x64x8192, .f32⟩
  | .hbm, ⟨50, _⟩ => ⟨S1x8192x8x64, .f32⟩
  | .hbm, ⟨51, _⟩ => ⟨S1x8x8192x1, .f32⟩
  | .hbm, ⟨52, _⟩ => ⟨S1x8x8192x1, .f32⟩
  | .hbm, ⟨53, _⟩ => ⟨S_, .f32⟩
  | .hbm, ⟨54, _⟩ => ⟨S1x8x8192x1, .f32⟩
  | .hbm, ⟨55, _⟩ => ⟨S1x8x8192x1, .f32⟩
  | .hbm, ⟨56, _⟩ => ⟨S1x8x8192x1, .f32⟩
  | .hbm, ⟨57, _⟩ => ⟨S8x8192, .f32⟩
  | .hbm, ⟨58, _⟩ => ⟨S8x1x8192, .f32⟩
  | .hbm, ⟨59, _⟩ => ⟨S8x8x8192, .f32⟩
  | .hbm, ⟨60, _⟩ => ⟨S4x16x8192, .f32⟩
  | .hbm, ⟨61, _⟩ => ⟨S1x8192x8x64, .f32⟩
  | .hbm, ⟨62, _⟩ => ⟨S8192x8x64, .f32⟩
  | .hbm, ⟨63, _⟩ => ⟨S8192x8x64, .f32⟩
  | .hbm, ⟨64, _⟩ => ⟨S8192x8x64, .f32⟩
  | .hbm, ⟨65, _⟩ => ⟨S_, .f32⟩
  | .hbm, ⟨66, _⟩ => ⟨S8192x8, .f32⟩
  | .hbm, ⟨67, _⟩ => ⟨S8x8192, .f32⟩
  | .hbm, ⟨68, _⟩ => ⟨S8x1x8192, .f32⟩
  | .hbm, ⟨69, _⟩ => ⟨S8x8x8192, .f32⟩
  | .hbm, ⟨70, _⟩ => ⟨S4x16x8192, .f32⟩
  | .hbm, ⟨71, _⟩ => ⟨S8192x8x64, .f32⟩
  | .hbm, ⟨72, _⟩ => ⟨S_, .i32⟩
  | .hbm, ⟨73, _⟩ => ⟨S_, .f32⟩
  | .hbm, ⟨74, _⟩ => ⟨S8192x8x128, .f32⟩
  | .hbm, ⟨75, _⟩ => ⟨S8192x1024, .f32⟩
  | .hbm, ⟨76, _⟩ => ⟨S8192x1024, .bf16⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x8192x8x128, .f32⟩
  | .hbm, ⟨81, _⟩ => ⟨S1x8192x8x96, .f32⟩
  | .hbm, ⟨82, _⟩ => ⟨S1x8192x8x128, .f32⟩
  | .hbm, ⟨83, _⟩ => ⟨S1x8192x8x96, .f32⟩
  | .hbm, ⟨84, _⟩ => ⟨S1x8192x8x128, .f32⟩
  | .hbm, ⟨85, _⟩ => ⟨S1x8192x8x64, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x256, .bf16⟩
  | .local _ .vmem, ⟨7, _⟩ => ⟨S8192x256, .bf16⟩
  | .local _ .vmem, ⟨8, _⟩ => ⟨S1x16x8192, .f32⟩
  | .local _ .vmem, ⟨9, _⟩ => ⟨S1x16x8192, .f32⟩
  | .local _ .vmem, ⟨10, _⟩ => ⟨S1x16x8192, .f32⟩
  | .local _ .vmem, ⟨11, _⟩ => ⟨S1x16x8192, .f32⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_call4_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v21 : BitVec 32 := Scalar.muli arg1 c512_i32
  v21
def k0_off1 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v23 : Index := Scalar.indexCast v22
  let c0_11 : Index := 0#32
  ![v23.toNat, 0]
def k0_off2 (i : grid0.Coords) : Fin 3 → Nat :=
  let c0_17 : Index := 0#32
  let c0_18 : Index := 0#32
  let arg1 : BitVec 32 := BitVec.ofNat 32 (i 1).val
  let c512_i32 : BitVec 32 := 512#32
  let v21 : BitVec 32 := Scalar.muli arg1 c512_i32
  let v22 : BitVec 32 := v21
  let v35 : Index := Scalar.indexCast v22
  ![0, 0, v35.toNat]
def k0_off3 (i : grid0.Coords) : Fin 2 → Nat :=
  let arg1 : BitVec 32 := BitVec.ofNat 32 (i 1).val
  let c512_i32 : BitVec 32 := 512#32
  let v21 : BitVec 32 := Scalar.muli arg1 c512_i32
  let v22 : BitVec 32 := v21
  let v73 : Index := Scalar.indexCast v22
  let c128 : Index := 128#32
  ![v73.toNat, 128]
def k0_off4 (i : grid0.Coords) : Fin 3 → Nat :=
  let c0_43 : Index := 0#32
  let c8 : Index := 8#32
  let arg1 : BitVec 32 := BitVec.ofNat 32 (i 1).val
  let c512_i32 : BitVec 32 := 512#32
  let v21 : BitVec 32 := Scalar.muli arg1 c512_i32
  let v22 : BitVec 32 := v21
  let v85 : Index := Scalar.indexCast v22
  ![0, 8, v85.toNat]
@[reducible] def k0_t1_loop (i : grid0.Coords) : Scf.Loop 32 :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_65 : BitVec 32 := 1#32
  ⟨v123, v128, c1_i32_65⟩
def k0_mult2 (i : grid0.Coords) (k0_t1 : Fin (k0_t1_loop i).trips) : BitVec 32 :=
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  v144
def k0_off5 (i : grid0.Coords) (k0_t1 : Fin (k0_t1_loop i).trips) : Fin 2 → Nat :=
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v146 : Index := Scalar.indexCast v145
  let c0_87 : Index := 0#32
  ![v146.toNat, 0]
def k0_off6 (i : grid0.Coords) (k0_t1 : Fin (k0_t1_loop i).trips) : Fin 3 → Nat :=
  let c0_92 : Index := 0#32
  let c0_93 : Index := 0#32
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v155 : Index := Scalar.indexCast v145
  ![0, 0, v155.toNat]
def k0_off7 (i : grid0.Coords) (k0_t1 : Fin (k0_t1_loop i).trips) : Fin 2 → Nat :=
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v193 : Index := Scalar.indexCast v145
  let c128_113 : Index := 128#32
  ![v193.toNat, 128]
def k0_off8 (i : grid0.Coords) (k0_t1 : Fin (k0_t1_loop i).trips) : Fin 3 → Nat :=
  let c0_118 : Index := 0#32
  let c8_119 : Index := 8#32
  let arg1 : BitVec 32 := BitVec.ofNat 32 (i 1).val
  let c1_i32 : BitVec 32 := 1#32
  let v123 : BitVec 32 := Scalar.addi arg1 c1_i32
  let c1_i32_65 : BitVec 32 := 1#32
  let arg15 : BitVec 32 := Scf.iv v123 c1_i32_65 k0_t1
  let c512_i32_86 : BitVec 32 := 512#32
  let v144 : BitVec 32 := Scalar.muli arg15 c512_i32_86
  let v145 : BitVec 32 := v144
  let v202 : Index := Scalar.indexCast v145
  ![0, 8, v202.toNat]
@[reducible] def k0_t2_loop (i : grid0.Coords) : Scf.Loop 32 :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let v125 : BitVec 32 := Scalar.addi v123 v124
  let c1_i32_66 : BitVec 32 := 1#32
  ⟨v128, v125, c1_i32_66⟩
def k0_mult3 (i : grid0.Coords) (k0_t2 : Fin (k0_t2_loop i).trips) : BitVec 32 :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  v144
def k0_off9 (i : grid0.Coords) (k0_t2 : Fin (k0_t2_loop i).trips) : Fin 2 → Nat :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v146 : Index := Scalar.indexCast v145
  let c0_87 : Index := 0#32
  ![v146.toNat, 0]
def k0_off10 (i : grid0.Coords) (k0_t2 : Fin (k0_t2_loop i).trips) : Fin 3 → Nat :=
  let c0_92 : Index := 0#32
  let c0_93 : Index := 0#32
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v155 : Index := Scalar.indexCast v145
  ![0, 0, v155.toNat]
def k0_off11 (i : grid0.Coords) (k0_t2 : Fin (k0_t2_loop i).trips) : Fin 2 → Nat :=
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v193 : Index := Scalar.indexCast v145
  let c128_113 : Index := 128#32
  ![v193.toNat, 128]
def k0_off12 (i : grid0.Coords) (k0_t2 : Fin (k0_t2_loop i).trips) : Fin 3 → Nat :=
  let c0_118 : Index := 0#32
  let c8_119 : Index := 8#32
  let arg1 : BitVec 32 := BitVec.ofNat 32 (i 1).val
  let c1_i32 : BitVec 32 := 1#32
  let v123 : BitVec 32 := Scalar.addi arg1 c1_i32
  let c16_i32 : BitVec 32 := 16#32
  let v124 : BitVec 32 := Scalar.subi c16_i32 v123
  let c1_i32_64 : BitVec 32 := 1#32
  let v126 : BitVec 32 := Scalar.divsi v124 c1_i32_64
  let v127 : BitVec 32 := Scalar.muli v126 c1_i32_64
  let v128 : BitVec 32 := Scalar.addi v123 v127
  let c1_i32_66 : BitVec 32 := 1#32
  let arg15 : BitVec 32 := Scf.iv v128 c1_i32_66 k0_t2
  let c512_i32_86 : BitVec 32 := 512#32
  let v144 : BitVec 32 := Scalar.muli arg15 c512_i32_86
  let v145 : BitVec 32 := v144
  let v202 : Index := Scalar.indexCast v145
  ![0, 8, v202.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwdIdeal.lean ====
variable {F : FTy → Type} [FloatOps F] [Named F]
def κ : String → Option EReal := fun
  | "exp2" => some (((3424635 / 33554432) * (Real.log 2)⁻¹ : ℝ) : EReal)
  | "mask" => some ⊥
  | _ => none
-- ==== AttnBwdRefIdeal.lean ====
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S1x8x8192x8192 : Shape := ⟨4, ![1, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S1x8x8192x96 : Shape := ⟨4, ![1, 8, 8192, 96]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192x512, .f32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x1x8192x8192, .i1⟩
  | .hbm, ⟨15, _⟩ => ⟨S_, .f32⟩
  | .hbm, ⟨16, _⟩ => ⟨S_, .f32⟩
  | .hbm, ⟨17, _⟩ => ⟨S1x8x8192x8192, .i1⟩
  | .hbm, ⟨18, _⟩ => ⟨S1x8x8192x8192, .f32⟩
  | .hbm, ⟨19, _⟩ => ⟨S1x8x8192x8192, .f32⟩
  | .hbm, ⟨20, _⟩ => ⟨S_, .f32⟩
  | .hbm, ⟨21, _⟩ => ⟨S1x8x8192x8192, .f32⟩
  | .hbm, ⟨22, _⟩ => ⟨S_, .f32⟩
  | .hbm, ⟨23, _⟩ => ⟨S1x8x8192, .f32⟩
  | .hbm, ⟨24, _⟩ => ⟨S1x8x8192x1, .f32⟩
  | .hbm, ⟨25, _⟩ => ⟨S1x8x8192x8192, .f32⟩
  | .hbm, ⟨26, _⟩ => ⟨S1x8x8192x8192, .i1⟩
  | .hbm, ⟨27, _⟩ => ⟨S1x8x8192x8192, .f32⟩
  | .hbm, ⟨28, _⟩ => ⟨S_, .f32⟩
  | .hbm, ⟨29, _⟩ => ⟨S1x8x8192, .f32⟩
  | .hbm, ⟨30, _⟩ => ⟨S_, .f32⟩
  | .hbm, ⟨31, _⟩ => ⟨S1x8x8192, .f32⟩
  | .hbm, ⟨32, _⟩ => ⟨S1x8x8192, .f32⟩
  | .hbm, ⟨33, _⟩ => ⟨S_, .f32⟩
  | .hbm, ⟨34, _⟩ => ⟨S1x8x8192, .f32⟩
  | .hbm, ⟨35, _⟩ => ⟨S1x8x8192, .i1⟩
  | .hbm, ⟨36, _⟩ => ⟨S_, .f32⟩
  | .hbm, ⟨37, _⟩ => ⟨S1x8x8192, .f32⟩
  | .hbm, ⟨38, _⟩ => ⟨S1x8x8192, .i1⟩
  | .hbm, ⟨39, _⟩ => ⟨S_, .f32⟩
  | .hbm, ⟨40, _⟩ => ⟨S1x8x8192, .f32⟩
  | .hbm, ⟨41, _⟩ => ⟨S_, .f32⟩
  | .hbm, ⟨42, _⟩ => ⟨S1x8x8192, .f32⟩
  | .hbm, ⟨43, _⟩ => ⟨S_, .f32⟩
  | .hbm, ⟨44, _⟩ => ⟨S1x8x8192, .f32⟩
  | .hbm, ⟨45, _⟩ => ⟨S1x8x8192, .f32⟩
  | .hbm, ⟨46, _⟩ => ⟨S1x8x8192, .f32⟩
  | .hbm, ⟨47, _⟩ => ⟨S1x8x8192x1, .f32⟩
  | .hbm, ⟨48, _⟩ => ⟨S1x8x8192x8192, .f32⟩
  | .hbm, ⟨49, _⟩ => ⟨S1x8x8192x8192, .f32⟩
  | .hbm, ⟨50, _⟩ => ⟨S1x8x8192x8192, .f32⟩
  | .hbm, ⟨51, _⟩ => ⟨S_, .f32⟩
  | .hbm, ⟨52, _⟩ => ⟨S1x8x8192, .f32⟩
  | .hbm, ⟨53, _⟩ => ⟨S1x8x8192x1, .f32⟩
  | .hbm, ⟨54, _⟩ => ⟨S1x8x8192x8192, .f32⟩
  | .hbm, ⟨55, _⟩ => ⟨S1x8x8192x8192, .f32⟩
  | .hbm, ⟨56, _⟩ => ⟨S1x8x8192x1, .f32⟩
  | .hbm, ⟨57, _⟩ => ⟨S_, .f32⟩
  | .hbm, ⟨58, _⟩ => ⟨S1x8x8192x1, .f32⟩
  | .hbm, ⟨59, _⟩ => ⟨S1x8x8192x1, .f32⟩
  | .hbm, ⟨60, _⟩ => ⟨S1x8x64x8192, .f32⟩
  | .hbm, ⟨61, _⟩ => ⟨S1x8192x8x64, .f32⟩
  | .hbm, ⟨62, _⟩ => ⟨S1x8192x512, .f32⟩
  | .hbm, ⟨63, _⟩ => ⟨S1x8192x8x64, .f32⟩
  | .hbm, ⟨64, _⟩ => ⟨S1x8x64x8192, .f32⟩
  | .hbm, ⟨65, _⟩ => ⟨S1x8x8192x8192, .f32⟩
  | .hbm, ⟨66, _⟩ => ⟨S1x8x64x8192, .f32⟩
  | .hbm, ⟨67, _⟩ => ⟨S1x8192x8x64, .f32⟩
  | .hbm, ⟨68, _⟩ => ⟨S1x8x8192x8192, .f32⟩
  | .hbm, ⟨69, _⟩ => ⟨S1x8x8192x8192, .f32⟩
  | .hbm, ⟨70, _⟩ => ⟨S1x8x8192x8192, .f32⟩
  | .hbm, ⟨71, _⟩ => ⟨S_, .f32⟩
  | .hbm, ⟨72, _⟩ => ⟨S1x8x8192, .f32⟩
  | .hbm, ⟨73, _⟩ => ⟨S1x8x8192x1, .f32⟩
  | .hbm, ⟨74, _⟩ => ⟨S1x8x8192x1, .f32⟩
  | .hbm, ⟨75, _⟩ => ⟨S1x8x8192x8192, .f32⟩
  | .hbm, ⟨76, _⟩ => ⟨S1x8x8192x8192, .f32⟩
  | .hbm, ⟨77, _⟩ => ⟨S_, .f32⟩
  | .hbm, ⟨78, _⟩ => ⟨S8x8192, .f32⟩
  | .hbm, ⟨79, _⟩ => ⟨S1x8x8192, .f32⟩
  | .hbm, ⟨80, _⟩ => ⟨S1x8x8192x8192, .f32⟩
  | .hbm, ⟨81, _⟩ => ⟨S1x8x8192x8192, .f32⟩
  | .hbm, ⟨82, _⟩ => ⟨S1x8x8192x8192, .f32⟩
  | .hbm, ⟨83, _⟩ => ⟨S_, .f32⟩
  | .hbm, ⟨84, _⟩ => ⟨S1x8x8192x8192, .f32⟩
  | .hbm, ⟨85, _⟩ => ⟨S1x8x8192x8192, .f32⟩
  | .hbm, ⟨86, _⟩ => ⟨S_, .f32⟩
  | .hbm, ⟨87, _⟩ => ⟨S1x8x8192x8192, .f32⟩
  | .hbm, ⟨88, _⟩ => ⟨S1x8x8192x8192, .f32⟩
  | .hbm, ⟨89, _⟩ => ⟨S1x8x8192x96, .f32⟩
  | .hbm, ⟨90, _⟩ => ⟨S1x8192x8x96, .f32⟩
  | .hbm, ⟨91, _⟩ => ⟨S1x8x8192x96, .f32⟩
  | .hbm, ⟨92, _⟩ => ⟨S1x8192x8x96, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== OBwd.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S4x16x8192 : Shape := ⟨3, ![4, 16, 8192]⟩
abbrev S512x512 : Shape := ⟨2, ![512, 512]⟩
abbrev S4x16x512 : Shape := ⟨3, ![4, 16, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S8x512 : Shape := ⟨2, ![8, 512]⟩
abbrev S16x512 : Shape := ⟨2, ![16, 512]⟩
abbrev S1x16x512 : Shape := ⟨3, ![1, 16, 512]⟩
abbrev S8192x8x128 : Shape := ⟨3, ![8192, 8, 128]⟩
abbrev S8192x8x64 : Shape := ⟨3, ![8192, 8, 64]⟩
abbrev S8x8x8192 : Shape := ⟨3, ![8, 8, 8192]⟩
abbrev S8x1x8192 : Shape := ⟨3, ![8, 1, 8192]⟩
abbrev S8x8192 : Shape := ⟨2, ![8, 8192]⟩
abbrev S8192x8 : Shape := ⟨2, ![8192, 8]⟩

abbrev nBuf : Space → Nat
  | .hbm => 21
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x1024, .f32⟩
  | .hbm, ⟨3, _⟩ => ⟨S1024x1024, .bf16⟩
  | .hbm, ⟨4, _⟩ => ⟨S8192x1024, .bf16⟩
  | .hbm, ⟨5, _⟩ => ⟨S512x1024, .bf16⟩
  | .hbm, ⟨6, _⟩ => ⟨S8x64x1024, .bf16⟩
  | .hbm, ⟨7, _⟩ => ⟨S_, .i32⟩
  | .hbm, ⟨8, _⟩ => ⟨S_, .bf16⟩
  | .hbm, ⟨9, _⟩ => ⟨S8x128x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S4x16x8192, .f32⟩
  | .hbm, ⟨14, _⟩ => ⟨S8192x1024, .f32⟩
  | .hbm, ⟨15, _⟩ => ⟨S8192x8x128, .f32⟩
  | .hbm, ⟨16, _⟩ => ⟨S8192x8x64, .f32⟩
  | .hbm, ⟨17, _⟩ => ⟨S8x8x8192, .f32⟩
  | .hbm, ⟨18, _⟩ => ⟨S8x1x8192, .f32⟩
  | .hbm, ⟨19, _⟩ => ⟨S8x8192, .f32⟩
  | .hbm, ⟨20, _⟩ => ⟨S8192x8, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x16x512, .f32⟩
  | .local _ .vmem, ⟨11, _⟩ => ⟨S4x16x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OBwdRefIdeal.lean ====
abbrev S8192x1024 : Shape := ⟨2, ![8192, 1024]⟩
abbrev S8192x512 : Shape := ⟨2, ![8192, 512]⟩
abbrev S1024x1024 : Shape := ⟨2, ![1024, 1024]⟩
abbrev S_ : Shape := ⟨0, ![]⟩
abbrev S8192x8x64 : Shape := ⟨3, ![8192, 8, 64]⟩
abbrev S8192x8 : Shape := ⟨2, ![8192, 8]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x8x64, .f32⟩
  | .hbm, ⟨9, _⟩ => ⟨S8192x8x64, .f32⟩
  | .hbm, ⟨10, _⟩ => ⟨S8192x8x64, .f32⟩
  | .hbm, ⟨11, _⟩ => ⟨S_, .f32⟩
  | .hbm, ⟨12, _⟩ => ⟨S8192x8, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== InBwd.lean ====
abbrev S8192x1024 : Shape := ⟨2, ![8192, 1024]⟩
abbrev S1x1024 : Shape := ⟨2, ![1, 1024]⟩
abbrev S1024x2720 : Shape := ⟨2, ![1024, 2720]⟩
abbrev S8192x2720 : Shape := ⟨2, ![8192, 2720]⟩
abbrev S8192x2048 : Shape := ⟨2, ![8192, 2048]⟩
abbrev S8192x256 : Shape := ⟨2, ![8192, 256]⟩
abbrev S8192x384 : Shape := ⟨2, ![8192, 384]⟩
abbrev S8192x32 : Shape := ⟨2, ![8192, 32]⟩
abbrev S_ : Shape := ⟨0, ![]⟩
abbrev S8192x128 : Shape := ⟨2, ![8192, 128]⟩
abbrev S2720x1024 : Shape := ⟨2, ![2720, 1024]⟩
abbrev S2048x1024 : Shape := ⟨2, ![2048, 1024]⟩
abbrev S256x1024 : Shape := ⟨2, ![256, 1024]⟩
abbrev S384x1024 : Shape := ⟨2, ![384, 1024]⟩
abbrev S64x1024 : Shape := ⟨2, ![64, 1024]⟩
abbrev S32x1024 : Shape := ⟨2, ![32, 1024]⟩
abbrev S2816x1024 : Shape := ⟨2, ![2816, 1024]⟩
abbrev S128x1024 : Shape := ⟨2, ![128, 1024]⟩
abbrev S256x2048 : Shape := ⟨2, ![256, 2048]⟩
abbrev S256x256 : Shape := ⟨2, ![256, 256]⟩
abbrev S256x384 : Shape := ⟨2, ![256, 384]⟩
abbrev S256x128 : Shape := ⟨2, ![256, 128]⟩
abbrev S256 : Shape := ⟨1, ![256]⟩
abbrev S256x1 : Shape := ⟨2, ![256, 1]⟩
abbrev S1024 : Shape := ⟨1, ![1024]⟩

abbrev nBuf : Space → Nat
  | .hbm => 30
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2720, .f32⟩
  | .hbm, ⟨3, _⟩ => ⟨S8192x1024, .f32⟩
  | .hbm, ⟨4, _⟩ => ⟨S8192x2720, .f32⟩
  | .hbm, ⟨5, _⟩ => ⟨S8192x2720, .bf16⟩
  | .hbm, ⟨6, _⟩ => ⟨S8192x2048, .bf16⟩
  | .hbm, ⟨7, _⟩ => ⟨S8192x256, .bf16⟩
  | .hbm, ⟨8, _⟩ => ⟨S8192x384, .bf16⟩
  | .hbm, ⟨9, _⟩ => ⟨S8192x32, .bf16⟩
  | .hbm, ⟨10, _⟩ => ⟨S_, .i32⟩
  | .hbm, ⟨11, _⟩ => ⟨S_, .bf16⟩
  | .hbm, ⟨12, _⟩ => ⟨S8192x128, .bf16⟩
  | .hbm, ⟨13, _⟩ => ⟨S2720x1024, .f32⟩
  | .hbm, ⟨14, _⟩ => ⟨S2720x1024, .bf16⟩
  | .hbm, ⟨15, _⟩ => ⟨S2048x1024, .bf16⟩
  | .hbm, ⟨16, _⟩ => ⟨S256x1024, .bf16⟩
  | .hbm, ⟨17, _⟩ => ⟨S384x1024, .bf16⟩
  | .hbm, ⟨18, _⟩ => ⟨S_, .bf16⟩
  | .hbm, ⟨19, _⟩ => ⟨S64x1024, .bf16⟩
  | .hbm, ⟨20, _⟩ => ⟨S32x1024, .bf16⟩
  | .hbm, ⟨21, _⟩ => ⟨S_, .bf16⟩
  | .hbm, ⟨22, _⟩ => ⟨S32x1024, .bf16⟩
  | .hbm, ⟨23, _⟩ => ⟨S2816x1024, .bf16⟩
  | .hbm, ⟨24, _⟩ => ⟨S2048x1024, .bf16⟩
  | .hbm, ⟨25, _⟩ => ⟨S256x1024, .bf16⟩
  | .hbm, ⟨26, _⟩ => ⟨S384x1024, .bf16⟩
  | .hbm, ⟨27, _⟩ => ⟨S128x1024, .bf16⟩
  | .hbm, ⟨28, _⟩ => ⟨S8192x1024, .f32⟩
  | .hbm, ⟨29, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x256, .bf16⟩
  | .local _ .vmem, ⟨3, _⟩ => ⟨S256x256, .bf16⟩
  | .local _ .vmem, ⟨4, _⟩ => ⟨S256x384, .bf16⟩
  | .local _ .vmem, ⟨5, _⟩ => ⟨S256x384, .bf16⟩
  | .local _ .vmem, ⟨6, _⟩ => ⟨S256x128, .bf16⟩
  | .local _ .vmem, ⟨7, _⟩ => ⟨S256x128, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2048x1024, .bf16⟩
  | .local _ .vmem, ⟨14, _⟩ => ⟨S256x1024, .bf16⟩
  | .local _ .vmem, ⟨15, _⟩ => ⟨S384x1024, .bf16⟩
  | .local _ .vmem, ⟨16, _⟩ => ⟨S128x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== InBwdRefIdeal.lean ====
abbrev S8192x1024 : Shape := ⟨2, ![8192, 1024]⟩
abbrev S1x1024 : Shape := ⟨2, ![1, 1024]⟩
abbrev S1024x2720 : Shape := ⟨2, ![1024, 2720]⟩
abbrev S8192x2720 : Shape := ⟨2, ![8192, 2720]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2720, .f32⟩
  | .hbm, ⟨3, _⟩ => ⟨S8192x1024, .f32⟩
  | .hbm, ⟨4, _⟩ => ⟨S8192x2720, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2720, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnIn.lean ====
abbrev S8192x1024 : Shape := ⟨2, ![8192, 1024]⟩
abbrev S1x8192x512 : Shape := ⟨3, ![1, 8192, 512]⟩
abbrev S1x1024x1024 : Shape := ⟨3, ![1, 1024, 1024]⟩
abbrev S1x1024 : Shape := ⟨2, ![1, 1024]⟩
abbrev S1024x2816 : Shape := ⟨2, ![1024, 2816]⟩
abbrev S8192x2816 : Shape := ⟨2, ![8192, 2816]⟩
abbrev S2816x1024 : Shape := ⟨2, ![2816, 1024]⟩
abbrev S8x352x1024 : Shape := ⟨3, ![8, 352, 1024]⟩
abbrev S8x704x1024 : Shape := ⟨3, ![8, 704, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 34
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S1x8192x512, .f32⟩
  | .hbm, ⟨2, _⟩ => ⟨S1x8192x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S2816x1024, .bf16⟩
  | .hbm, ⟨13, _⟩ => ⟨S8x352x1024, .bf16⟩
  | .hbm, ⟨14, _⟩ => ⟨S2816x1024, .f32⟩
  | .hbm, ⟨15, _⟩ => ⟨S2816x1024, .bf16⟩
  | .hbm, ⟨16, _⟩ => ⟨S8x352x1024, .bf16⟩
  | .hbm, ⟨17, _⟩ => ⟨S8x704x1024, .bf16⟩
  | .hbm, ⟨18, _⟩ => ⟨S8192x512, .f32⟩
  | .hbm, ⟨19, _⟩ => ⟨S8192x512, .bf16⟩
  | .hbm, ⟨20, _⟩ => ⟨S8192x512, .f32⟩
  | .hbm, ⟨21, _⟩ => ⟨S1024x1024, .f32⟩
  | .hbm, ⟨22, _⟩ => ⟨S1024x1024, .bf16⟩
  | .hbm, ⟨23, _⟩ => ⟨S512x1024, .bf16⟩
  | .hbm, ⟨24, _⟩ => ⟨S512x1024, .bf16⟩
  | .hbm, ⟨25, _⟩ => ⟨S8192x1024, .f32⟩
  | .hbm, ⟨26, _⟩ => ⟨S8192x1024, .f32⟩
  | .hbm, ⟨27, _⟩ => ⟨S8192x2816, .bf16⟩
  | .hbm, ⟨28, _⟩ => ⟨S8192x2816, .bf16⟩
  | .hbm, ⟨29, _⟩ => ⟨S8192x1024, .f32⟩
  | .hbm, ⟨30, _⟩ => ⟨S8192x1024, .bf16⟩
  | .hbm, ⟨31, _⟩ => ⟨S1x1024, .f32⟩
  | .hbm, ⟨32, _⟩ => ⟨S1x1024, .f32⟩
  | .hbm, ⟨33, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x512, .bf16⟩
  | .local _ .vmem, ⟨14, _⟩ => ⟨S512x512, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S1x1024, .f32⟩
  | .local _ .vmem, ⟨27, _⟩ => ⟨S8x352x1024, .bf16⟩
  | .local _ .vmem, ⟨28, _⟩ => ⟨S8x352x1024, .bf16⟩
  | .local _ .vmem, ⟨29, _⟩ => ⟨S256x1024, .f32⟩
  | .local _ .vmem, ⟨30, _⟩ => ⟨S256x1024, .f32⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | .local _ .vmem, ⟨34, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg12_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28
abbrev cc1_sem10_0 : DmaSem sig := 29
abbrev cc1_sem10_1 : DmaSem sig := 30
abbrev cc1_sem11_0 : DmaSem sig := 31
abbrev cc1_sem12_0 : DmaSem sig := 32

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S8x352x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S8x352x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]
-- ==== FfnInRefIdeal.lean ====
abbrev S8192x1024 : Shape := ⟨2, ![8192, 1024]⟩
abbrev S1x8192x512 : Shape := ⟨3, ![1, 8192, 512]⟩
abbrev S1x1024x1024 : Shape := ⟨3, ![1, 1024, 1024]⟩
abbrev S1x1024 : Shape := ⟨2, ![1, 1024]⟩
abbrev S1024x2816 : Shape := ⟨2, ![1024, 2816]⟩
abbrev S8192x2816 : Shape := ⟨2, ![8192, 2816]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x8192x512, .f32⟩
  | .hbm, ⟨2, _⟩ => ⟨S1x8192x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x1024, .f32⟩
  | .hbm, ⟨9, _⟩ => ⟨S8192x2816, .f32⟩
  | .hbm, ⟨10, _⟩ => ⟨S8192x2816, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== PleLoss.lean ====
abbrev S8192x2816 : Shape := ⟨2, ![8192, 2816]⟩
abbrev S8192x1024 : Shape := ⟨2, ![8192, 1024]⟩
abbrev S1x1024 : Shape := ⟨2, ![1, 1024]⟩
abbrev S2816x1024 : Shape := ⟨2, ![2816, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024 : Shape := ⟨1, ![1024]⟩

abbrev nBuf : Space → Nat
  | .hbm => 38
  | .vmem => 42
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1x1024, .f32⟩
  | .hbm, ⟨3, _⟩ => ⟨S2816x1024, .f32⟩
  | .hbm, ⟨4, _⟩ => ⟨S8192x256, .f32⟩
  | .hbm, ⟨5, _⟩ => ⟨S256x1024, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S8192x1024, .f32⟩
  | .hbm, ⟨10, _⟩ => ⟨S8192x2816, .bf16⟩
  | .hbm, ⟨11, _⟩ => ⟨S_, .bf16⟩
  | .hbm, ⟨12, _⟩ => ⟨S8x704x1024, .bf16⟩
  | .hbm, ⟨13, _⟩ => ⟨S2816x1024, .bf16⟩
  | .hbm, ⟨14, _⟩ => ⟨S8x352x1024, .bf16⟩
  | .hbm, ⟨15, _⟩ => ⟨S8x1056x1024, .bf16⟩
  | .hbm, ⟨16, _⟩ => ⟨S8192x1024, .f32⟩
  | .hbm, ⟨17, _⟩ => ⟨S8192x1024, .f32⟩
  | .hbm, ⟨18, _⟩ => ⟨S1024x256, .f32⟩
  | .hbm, ⟨19, _⟩ => ⟨S1024x256, .bf16⟩
  | .hbm, ⟨20, _⟩ => ⟨S1024x1024, .bf16⟩
  | .hbm, ⟨21, _⟩ => ⟨S8192x256, .bf16⟩
  | .hbm, ⟨22, _⟩ => ⟨S8192x1024, .bf16⟩
  | .hbm, ⟨23, _⟩ => ⟨S8192x1024, .f32⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S_, .f32⟩
  | .hbm, ⟨33, _⟩ => ⟨S8192x256, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x1024, .bf16⟩
  | .local _ .vmem, ⟨22, _⟩ => ⟨S1024x256, .bf16⟩
  | .local _ .vmem, ⟨23, _⟩ => ⟨S1024x1024, .bf16⟩
  | .local _ .vmem, ⟨24, _⟩ => ⟨S512x256, .bf16⟩
  | .local _ .vmem, ⟨25, _⟩ => ⟨S512x256, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S512x256, .bf16⟩
  | .local _ .vmem, ⟨41, _⟩ => ⟨S512x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_stg17_0 : Ref sig .tc := ⟨.vmem, 37, rfl⟩
abbrev cc1_stg18_0 : Ref sig .tc := ⟨.vmem, 38, rfl⟩
abbrev cc1_stg19_0 : Ref sig .tc := ⟨.vmem, 39, rfl⟩
abbrev cc1_scratch0 : Ref sig .tc := ⟨.vmem, 40, rfl⟩
abbrev cc1_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem14_1 : DmaSem sig := 33
abbrev cc1_sem15_0 : DmaSem sig := 34
abbrev cc1_sem15_1 : DmaSem sig := 35
abbrev cc1_sem16_0 : DmaSem sig := 36
abbrev cc1_sem17_0 : DmaSem sig := 37
abbrev cc1_sem18_0 : DmaSem sig := 38
abbrev cc1_sem19_0 : DmaSem sig := 39

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 1], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1024x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, true]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, true]

abbrev stage1_10 : Fin 2 → Memref sig .tc .vmem S512x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S512x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 1 → Memref sig .tc .vmem S1x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]
-- ==== PleLossRefIdeal.lean ====
abbrev S8192x2816 : Shape := ⟨2, ![8192, 2816]⟩
abbrev S8192x1024 : Shape := ⟨2, ![8192, 1024]⟩
abbrev S1x1024 : Shape := ⟨2, ![1, 1024]⟩
abbrev S2816x1024 : Shape := ⟨2, ![2816, 1024]⟩
abbrev S8192x256 : Shape := ⟨2, ![8192, 256]⟩
abbrev S256x1024 : Shape := ⟨2, ![256, 1024]⟩
abbrev S1024x1024 : Shape := ⟨2, ![1024, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 163
  | .vmem => 0
  | .smem => 0
  | _ => 0

abbrev hbmTy0_0 (i : Nat) : BufTy := match i % 128 with
  | 0 => ⟨S8192x2816, .f32⟩
  | 1 => ⟨S8192x1024, .f32⟩
  | 2 => ⟨S1x1024, .f32⟩
  | 3 => ⟨S2816x1024, .f32⟩
  | 4 => ⟨S8192x256, .f32⟩
  | 5 => ⟨S256x1024, .f32⟩
  | 6 => ⟨S1x1024, .f32⟩
  | 7 => ⟨S1024x1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192x1024, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1024, .f32⟩
  | 53 => ⟨S8192x1024, .f32⟩
  | 54 => ⟨S1x1024, .f32⟩
  | 55 => ⟨S8192x1024, .f32⟩
  | 56 => ⟨S8192x1024, .f32⟩
  | 57 => ⟨S8192x1024, .f32⟩
  | 58 => ⟨S1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S_, .f32⟩
  | 83 => ⟨S8192, .f32⟩
  | 84 => ⟨S_, .f32⟩
  | 85 => ⟨S8192, .f32⟩
  | 86 => ⟨S8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S8192, .f32⟩
  | 95 => ⟨S_, .f32⟩
  | 96 => ⟨S8192, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x2816, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S1x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S1x1024, .f32⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_cst_16 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_cst_20 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_22 : Ref sig .tc := ⟨.hbm, 117, rfl⟩
abbrev main_v84 : Ref sig .tc := ⟨.hbm, 118, rfl⟩
abbrev main_v85 : Ref sig .tc := ⟨.hbm, 119, rfl⟩
abbrev main_cst_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_24 : Ref sig .tc := ⟨.hbm, 126, rfl⟩
abbrev main_v91 : Ref sig .tc := ⟨.hbm, 127, rfl⟩
abbrev main_v92 : Ref sig .tc := ⟨.hbm, 128, rfl⟩
abbrev main_cst_25 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_26 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_27 : Ref sig .tc := ⟨.hbm, 143, rfl⟩
abbrev main_v105 : Ref sig .tc := ⟨.hbm, 144, rfl⟩
abbrev main_v106 : Ref sig .tc := ⟨.hbm, 145, rfl⟩
abbrev main_cst_28 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_29 : Ref sig .tc := ⟨.hbm, 152, rfl⟩
abbrev main_v112 : Ref sig .tc := ⟨.hbm, 153, rfl⟩
abbrev main_v113 : Ref sig .tc := ⟨.hbm, 154, rfl⟩
abbrev main_cst_30 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩

abbrev nD : Nat := 1
abbrev τ : Topo := Topo.v7x

variable {F : FTy → Type} [FloatOps F]
-- ==== QkvBwd.lean ====
abbrev S1x8192x384 : Shape := ⟨3, ![1, 8192, 384]⟩
abbrev S1x8192x256 : Shape := ⟨3, ![1, 8192, 256]⟩
abbrev S1x8192 : Shape := ⟨2, ![1, 8192]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x8192x8x96 : Shape := ⟨4, ![1, 8192, 8, 96]⟩
abbrev S1x8192x8x64 : Shape := ⟨4, ![1, 8192, 8, 64]⟩
abbrev S8192x1 : Shape := ⟨2, ![8192, 1]⟩
abbrev S64 : Shape := ⟨1, ![64]⟩
abbrev S_ : Shape := ⟨0, ![]⟩
abbrev S16 : Shape := ⟨1, ![16]⟩
abbrev S32 : Shape := ⟨1, ![32]⟩
abbrev S128 : Shape := ⟨1, ![128]⟩
abbrev S1x128 : Shape := ⟨2, ![1, 128]⟩
abbrev S8192x128 : Shape := ⟨2, ![8192, 128]⟩
abbrev S1 : Shape := ⟨1, ![1]⟩
abbrev S8192x256 : Shape := ⟨2, ![8192, 256]⟩
abbrev S8192x2048 : Shape := ⟨2, ![8192, 2048]⟩
abbrev S8192x384 : Shape := ⟨2, ![8192, 384]⟩
abbrev S8192x2816 : Shape := ⟨2, ![8192, 2816]⟩
abbrev S8192x8x96 : Shape := ⟨3, ![8192, 8, 96]⟩
abbrev S8192x8x128 : Shape := ⟨3, ![8192, 8, 128]⟩
abbrev S8192x1024 : Shape := ⟨2, ![8192, 1024]⟩
abbrev S8192x8x64 : Shape := ⟨3, ![8192, 8, 64]⟩
abbrev S1024x256 : Shape := ⟨2, ![1024, 256]⟩
abbrev S8x128x256 : Shape := ⟨3, ![8, 128, 256]⟩
abbrev S768x384 : Shape := ⟨2, ![768, 384]⟩
abbrev S8x96x384 : Shape := ⟨3, ![8, 96, 384]⟩
abbrev S8x128x384 : Shape := ⟨3, ![8, 128, 384]⟩
abbrev S1024x384 : Shape := ⟨2, ![1024, 384]⟩
abbrev S8x64x256 : Shape := ⟨3, ![8, 64, 256]⟩
abbrev S512x1024 : Shape := ⟨2, ![512, 1024]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S384 : Shape := ⟨1, ![384]⟩
abbrev S256 : Shape := ⟨1, ![256]⟩
abbrev S8192x32 : Shape := ⟨2, ![8192, 32]⟩
abbrev S1x8192x32 : Shape := ⟨3, ![1, 8192, 32]⟩
abbrev S1x8192x8x128 : Shape := ⟨4, ![1, 8192, 8, 128]⟩

abbrev nBuf : Space → Nat
  | .hbm => 218
  | .vmem => 38
  | .smem => 0
  | _ => 0

abbrev hbmTy0_0 (i : Nat) : BufTy := match i % 128 with
  | 0 => ⟨S1x8192x384, .f32⟩
  | 1 => ⟨S1x8192x256, .f32⟩
  | 2 => ⟨S1x8192, .i32⟩
  | 3 => ⟨S1x384, .f32⟩
  | 4 => ⟨S384x768, .f32⟩
  | 5 => ⟨S1x256, .f32⟩
  | 6 => ⟨S256x1024, .f32⟩
  | 7 => ⟨S1x8192x8x96, .f32⟩
  | 8 => ⟨S1x8192x8x96, .f32⟩
  | 9 => ⟨S1x8192x8x64, .f32⟩
  | 10 => ⟨S1x8192, .f32⟩
  | 11 => ⟨S8192x1, .f32⟩
  | 12 => ⟨S64, .f32⟩
  | 13 => ⟨S_, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S32, .f32⟩
  | 34 => ⟨S128, .f32⟩
  | 35 => ⟨S1x128, .f32⟩
  | 36 => ⟨S8192x128, .i32⟩
  | 37 => ⟨S8192x128, .f32⟩
  | 38 => ⟨S8192x128, .f32⟩
  | 39 => ⟨S8192x128, .f32⟩
  | 40 => ⟨S8192x128, .f32⟩
  | 41 => ⟨S8192x128, .f32⟩
  | 42 => ⟨S_, .i32⟩
  | 43 => ⟨S8192x128, .i32⟩
  | 44 => ⟨S8192x128, .i1⟩
  | 45 => ⟨S_, .i32⟩
  | 46 => ⟨S8192x128, .i32⟩
  | 47 => ⟨S8192x128, .i1⟩
  | 48 => ⟨S_, .i32⟩
  | 49 => ⟨S8192x128, .i32⟩
  | 50 => ⟨S8192x128, .i1⟩
  | 51 => ⟨S8192x128, .i1⟩
  | 52 => ⟨S_, .i32⟩
  | 53 => ⟨S1, .i32⟩
  | 54 => ⟨S1, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i1⟩
  | 69 => ⟨S_, .i32⟩
  | 70 => ⟨S_, .i1⟩
  | 71 => ⟨S_, .i1⟩
  | 72 => ⟨S_, .i1⟩
  | 73 => ⟨S_, .i32⟩
  | 74 => ⟨S_, .i32⟩
  | 75 => ⟨S8192x256, .f32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S8192x128, .f32⟩
  | 85 => ⟨S8192x128, .f32⟩
  | 86 => ⟨S8192x128, .f32⟩
  | 87 => ⟨S_, .i32⟩
  | 88 => ⟨S1, .i32⟩
  | 89 => ⟨S1, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i1⟩
  | 104 => ⟨S_, .i32⟩
  | 105 => ⟨S_, .i1⟩
  | 106 => ⟨S_, .i1⟩
  | 107 => ⟨S_, .i1⟩
  | 108 => ⟨S_, .i32⟩
  | 109 => ⟨S_, .i32⟩
  | 110 => ⟨S8192x256, .f32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S8192x128, .f32⟩
  | 120 => ⟨S8192x128, .f32⟩
  | 121 => ⟨S_, .f32⟩
  | 122 => ⟨S_, .f32⟩
  | 123 => ⟨S8192x128, .f32⟩
  | 124 => ⟨S8192x128, .f32⟩
  | 125 => ⟨S_, .f32⟩
  | 126 => ⟨S_, .f32⟩
  | 127 => ⟨S8192x128, .f32⟩
  | _ => ⟨S1x8192x384, .f32⟩

abbrev hbmTy0_1 (i : Nat) : BufTy := match i % 128 with
  | 0 => ⟨S8192x128, .f32⟩
  | 1 => ⟨S_, .i32⟩
  | 2 => ⟨S8192x128, .i32⟩
  | 3 => ⟨S8192x128, .i1⟩
  | 4 => ⟨S_, .i32⟩
  | 5 => ⟨S8192x128, .i32⟩
  | 6 => ⟨S8192x128, .i1⟩
  | 7 => ⟨S8192x128, .i1⟩
  | 8 => ⟨S8192x128, .f32⟩
  | 9 => ⟨S_, .f32⟩
  | 10 => ⟨S_, .f32⟩
  | 11 => ⟨S8192x128, .f32⟩
  | 12 => ⟨S8192x128, .f32⟩
  | 13 => ⟨S_, .i32⟩
  | 14 => ⟨S8192x128, .i32⟩
  | 15 => ⟨S8192x128, .i1⟩
  | 16 => ⟨S_, .i32⟩
  | 17 => ⟨S8192x128, .i32⟩
  | 18 => ⟨S8192x128, .i1⟩
  | 19 => ⟨S8192x128, .i1⟩
  | 20 => ⟨S_, .f32⟩
  | 21 => ⟨S_, .f32⟩
  | 22 => ⟨S8192x128, .f32⟩
  | 23 => ⟨S8192x128, .f32⟩
  | 24 => ⟨S_, .f32⟩
  | 25 => ⟨S8192x2048, .f32⟩
  | 26 => ⟨S8192x256, .f32⟩
  | 27 => ⟨S8192x384, .f32⟩
  | 28 => ⟨S_, .f32⟩
  | 29 => ⟨S8192x128, .f32⟩
  | 30 => ⟨S8192x2816, .f32⟩
  | 31 => ⟨S8192x8x96, .f32⟩
  | 32 => ⟨S_, .i32⟩
  | 33 => ⟨S_, .f32⟩
  | 34 => ⟨S8192x8x128, .f32⟩
  | 35 => ⟨S8192x1024, .f32⟩
  | 36 => ⟨S8192x8x96, .f32⟩
  | 37 => ⟨S_, .i32⟩
  | 38 => ⟨S_, .f32⟩
  | 39 => ⟨S8192x8x128, .f32⟩
  | 40 => ⟨S8192x1024, .f32⟩
  | 41 => ⟨S8192x8x64, .f32⟩
  | 42 => ⟨S_, .i32⟩
  | 43 => ⟨S_, .f32⟩
  | 44 => ⟨S8192x8x128, .f32⟩
  | 45 => ⟨S8192x1024, .f32⟩
  | 46 => ⟨S1024x256, .f32⟩
  | 47 => ⟨S1024x256, .bf16⟩
  | 48 => ⟨S8x128x256, .bf16⟩
  | 49 => ⟨S768x384, .f32⟩
  | 50 => ⟨S768x384, .bf16⟩
  | 51 => ⟨S8x96x384, .bf16⟩
  | 52 => ⟨S_, .i32⟩
  | 53 => ⟨S_, .bf16⟩
  | 54 => ⟨S8x128x384, .bf16⟩
  | 55 => ⟨S1024x384, .bf16⟩
  | 56 => ⟨S8x64x256, .bf16⟩
  | 57 => ⟨S_, .i32⟩
  | 58 => ⟨S_, .bf16⟩
  | 59 => ⟨S8x128x256, .bf16⟩
  | 60 => ⟨S1024x256, .bf16⟩
  | 61 => ⟨S8x64x256, .bf16⟩
  | 62 => ⟨S_, .i32⟩
  | 63 => ⟨S_, .bf16⟩
  | 64 => ⟨S8x128x256, .bf16⟩
  | 65 => ⟨S1024x256, .bf16⟩
  | 66 => ⟨S8192x1024, .bf16⟩
  | 67 => ⟨S8192x1024, .bf16⟩
  | 68 => ⟨S8192x1024, .bf16⟩
  | 69 => ⟨S8192x128, .bf16⟩
  | 70 => ⟨S1x384, .f32⟩
  | 71 => ⟨S1x256, .f32⟩
  | 72 => ⟨S8192x384, .bf16⟩
  | 73 => ⟨S8192x256, .bf16⟩
  | 74 => ⟨S8192x384, .f32⟩
  | 75 => ⟨S1x8192x384, .f32⟩
  | 76 => ⟨S8192x256, .f32⟩
  | 77 => ⟨S1x8192x256, .f32⟩
  | 78 => ⟨S8192x128, .f32⟩
  | 79 => ⟨S8192x32, .f32⟩
  | 80 => ⟨S1x8192x32, .f32⟩
  | 81 => ⟨S8192x1024, .f32⟩
  | 82 => ⟨S1x8192x8x128, .f32⟩
  | 83 => ⟨S1x8192x8x96, .f32⟩
  | 84 => ⟨S8192x1024, .f32⟩
  | 85 => ⟨S1x8192x8x128, .f32⟩
  | 86 => ⟨S1x8192x8x64, .f32⟩
  | 87 => ⟨S8192x1024, .f32⟩
  | 88 => ⟨S1x8192x8x128, .f32⟩
  | 89 => ⟨S1x8192x8x64, .f32⟩
  | _ => ⟨S1x8192x384, .f32⟩

abbrev hbmTy (i : Nat) : BufTy := match i / 128 with
  | 0 => hbmTy0_0 i
  | 1 => hbmTy0_1 i
  | _ => ⟨S1x8192x384, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x384, .f32⟩
  | .local _ .vmem, ⟨13, _⟩ => ⟨S512x384, .f32⟩
  | .local _ .vmem, ⟨14, _⟩ => ⟨S512x256, .f32⟩
  | .local _ .vmem, ⟨15, _⟩ => ⟨S512x256, .f32⟩
  | .local _ .vmem, ⟨16, _⟩ => ⟨S1x384, .f32⟩
  | .local _ .vmem, ⟨17, _⟩ => ⟨S1x256, .f32⟩
  | .local _ .vmem, ⟨18, _⟩ => ⟨S1024x384, .bf16⟩
  | .local _ .vmem, ⟨19, _⟩ => ⟨S1024x256, .bf16⟩
  | .local _ .vmem, ⟨20, _⟩ => ⟨S1024x256, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x128, .bf16⟩
  | .local _ .vmem, ⟨28, _⟩ => ⟨S512x128, .bf16⟩
  | .local _ .vmem, ⟨29, _⟩ => ⟨S1x384, .f32⟩
  | .local _ .vmem, ⟨30, _⟩ => ⟨S1x256, .f32⟩
  | .local _ .vmem, ⟨31, _⟩ => ⟨S512x384, .bf16⟩
  | .local _ .vmem, ⟨32, _⟩ => ⟨S512x384, .bf16⟩
  | .local _ .vmem, ⟨33, _⟩ => ⟨S512x256, .bf16⟩
  | .local _ .vmem, ⟨34, _⟩ => ⟨S512x256, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | _, _ => ⟨S1x8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_c : Ref sig .tc := ⟨.hbm, 57, rfl⟩
abbrev main_call0_c_0 : Ref sig .tc := ⟨.hbm, 58, rfl⟩
abbrev main_call0_v4 : Ref sig .tc := ⟨.hbm, 59, rfl⟩
abbrev main_call0_call0_c : Ref sig .tc := ⟨.hbm, 60, rfl⟩
abbrev main_call0_call0_v0 : Ref sig .tc := ⟨.hbm, 61, rfl⟩
abbrev main_call0_call0_c_0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_c_1 : Ref sig .tc := ⟨.hbm, 65, rfl⟩
abbrev main_call0_call0_v3 : Ref sig .tc := ⟨.hbm, 66, rfl⟩
abbrev main_call0_call0_c_2 : Ref sig .tc := ⟨.hbm, 67, rfl⟩
abbrev main_call0_call0_v4 : Ref sig .tc := ⟨.hbm, 68, rfl⟩
abbrev main_call0_call0_c_3 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_v5 : Ref sig .tc := ⟨.hbm, 74, rfl⟩
abbrev main_call0_v6 : Ref sig .tc := ⟨.hbm, 75, rfl⟩
abbrev main_call0_c_1 : Ref sig .tc := ⟨.hbm, 76, rfl⟩
abbrev main_call0_v7 : Ref sig .tc := ⟨.hbm, 77, rfl⟩
abbrev main_call0_c_2 : Ref sig .tc := ⟨.hbm, 78, rfl⟩
abbrev main_call0_v8 : Ref sig .tc := ⟨.hbm, 79, rfl⟩
abbrev main_call0_c_3 : Ref sig .tc := ⟨.hbm, 80, rfl⟩
abbrev main_call0_v9 : Ref sig .tc := ⟨.hbm, 81, rfl⟩
abbrev main_call0_v10 : Ref sig .tc := ⟨.hbm, 82, rfl⟩
abbrev main_call0_c_4 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_c_9 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_c : Ref sig .tc := ⟨.hbm, 92, rfl⟩
abbrev main_call2_c_0 : Ref sig .tc := ⟨.hbm, 93, rfl⟩
abbrev main_call2_v4 : Ref sig .tc := ⟨.hbm, 94, rfl⟩
abbrev main_call2_call0_c : Ref sig .tc := ⟨.hbm, 95, rfl⟩
abbrev main_call2_call0_v0 : Ref sig .tc := ⟨.hbm, 96, rfl⟩
abbrev main_call2_call0_c_0 : Ref sig .tc := ⟨.hbm, 97, rfl⟩
abbrev main_call2_call0_v1 : Ref sig .tc := ⟨.hbm, 98, rfl⟩
abbrev main_call2_call0_v2 : Ref sig .tc := ⟨.hbm, 99, rfl⟩
abbrev main_call2_call0_c_1 : Ref sig .tc := ⟨.hbm, 100, rfl⟩
abbrev main_call2_call0_v3 : Ref sig .tc := ⟨.hbm, 101, rfl⟩
abbrev main_call2_call0_c_2 : Ref sig .tc := ⟨.hbm, 102, rfl⟩
abbrev main_call2_call0_v4 : Ref sig .tc := ⟨.hbm, 103, rfl⟩
abbrev main_call2_call0_c_3 : Ref sig .tc := ⟨.hbm, 104, rfl⟩
abbrev main_call2_call0_v5 : Ref sig .tc := ⟨.hbm, 105, rfl⟩
abbrev main_call2_call0_v6 : Ref sig .tc := ⟨.hbm, 106, rfl⟩
abbrev main_call2_call0_v7 : Ref sig .tc := ⟨.hbm, 107, rfl⟩
abbrev main_call2_call0_v8 : Ref sig .tc := ⟨.hbm, 108, rfl⟩
abbrev main_call2_v5 : Ref sig .tc := ⟨.hbm, 109, rfl⟩
abbrev main_call2_v6 : Ref sig .tc := ⟨.hbm, 110, rfl⟩
abbrev main_call2_c_1 : Ref sig .tc := ⟨.hbm, 111, rfl⟩
abbrev main_call2_v7 : Ref sig .tc := ⟨.hbm, 112, rfl⟩
abbrev main_call2_c_2 : Ref sig .tc := ⟨.hbm, 113, rfl⟩
abbrev main_call2_v8 : Ref sig .tc := ⟨.hbm, 114, rfl⟩
abbrev main_call2_c_3 : Ref sig .tc := ⟨.hbm, 115, rfl⟩
abbrev main_call2_v9 : Ref sig .tc := ⟨.hbm, 116, rfl⟩
abbrev main_call2_v10 : Ref sig .tc := ⟨.hbm, 117, rfl⟩
abbrev main_call2_c_4 : Ref sig .tc := ⟨.hbm, 118, rfl⟩
abbrev main_v35 : Ref sig .tc := ⟨.hbm, 119, rfl⟩
abbrev main_v36 : Ref sig .tc := ⟨.hbm, 120, rfl⟩
abbrev main_cst_10 : Ref sig .tc := ⟨.hbm, 121, rfl⟩
abbrev main_call4_v0 : Ref sig .tc := ⟨.hbm, 122, rfl⟩
abbrev main_call4_v1 : Ref sig .tc := ⟨.hbm, 123, rfl⟩
abbrev main_v37 : Ref sig .tc := ⟨.hbm, 124, rfl⟩
abbrev main_cst_11 : Ref sig .tc := ⟨.hbm, 125, rfl⟩
abbrev main_call5_v0 : Ref sig .tc := ⟨.hbm, 126, rfl⟩
abbrev main_call5_v1 : Ref sig .tc := ⟨.hbm, 127, rfl⟩
abbrev main_v38 : Ref sig .tc := ⟨.hbm, 128, rfl⟩
abbrev main_c_12 : Ref sig .tc := ⟨.hbm, 129, rfl⟩
abbrev main_v39 : Ref sig .tc := ⟨.hbm, 130, rfl⟩
abbrev main_v40 : Ref sig .tc := ⟨.hbm, 131, rfl⟩
abbrev main_c_13 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_cst_14 : Ref sig .tc := ⟨.hbm, 137, rfl⟩
abbrev main_call6_v0 : Ref sig .tc := ⟨.hbm, 138, rfl⟩
abbrev main_call6_v1 : Ref sig .tc := ⟨.hbm, 139, rfl⟩
abbrev main_v45 : Ref sig .tc := ⟨.hbm, 140, rfl⟩
abbrev main_c_15 : Ref sig .tc := ⟨.hbm, 141, rfl⟩
abbrev main_v46 : Ref sig .tc := ⟨.hbm, 142, rfl⟩
abbrev main_v47 : Ref sig .tc := ⟨.hbm, 143, rfl⟩
abbrev main_c_16 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_cst_17 : Ref sig .tc := ⟨.hbm, 148, rfl⟩
abbrev main_call7_v0 : Ref sig .tc := ⟨.hbm, 149, rfl⟩
abbrev main_call7_v1 : Ref sig .tc := ⟨.hbm, 150, rfl⟩
abbrev main_v51 : Ref sig .tc := ⟨.hbm, 151, rfl⟩
abbrev main_cst_18 : Ref sig .tc := ⟨.hbm, 152, rfl⟩
abbrev main_v52 : Ref sig .tc := ⟨.hbm, 153, rfl⟩
abbrev main_v53 : Ref sig .tc := ⟨.hbm, 154, rfl⟩
abbrev main_v54 : Ref sig .tc := ⟨.hbm, 155, rfl⟩
abbrev main_cst_19 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_c_20 : Ref sig .tc := ⟨.hbm, 160, rfl⟩
abbrev main_call8_v0 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_c_21 : Ref sig .tc := ⟨.hbm, 165, rfl⟩
abbrev main_call9_v0 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_c_22 : Ref sig .tc := ⟨.hbm, 170, rfl⟩
abbrev main_call10_v0 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_c_23 : Ref sig .tc := ⟨.hbm, 180, rfl⟩
abbrev main_call11_v0 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_c_24 : Ref sig .tc := ⟨.hbm, 185, rfl⟩
abbrev main_call12_v0 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_c_25 : Ref sig .tc := ⟨.hbm, 190, rfl⟩
abbrev main_call13_v0 : Ref sig .tc := ⟨.hbm, 191, rfl⟩
abbrev main_v78 : Ref sig .tc := ⟨.hbm, 192, rfl⟩
abbrev main_v79 : Ref sig .tc := ⟨.hbm, 193, rfl⟩
abbrev main_v80_0 : Ref sig .tc := ⟨.hbm, 194, rfl⟩
abbrev main_v80_1 : Ref sig .tc := ⟨.hbm, 195, rfl⟩
abbrev main_v80_2 : Ref sig .tc := ⟨.hbm, 196, rfl⟩
abbrev main_v80_3 : Ref sig .tc := ⟨.hbm, 197, rfl⟩
abbrev main_v80_4 : Ref sig .tc := ⟨.hbm, 198, rfl⟩
abbrev main_v80_5 : Ref sig .tc := ⟨.hbm, 199, rfl⟩
abbrev main_v80_6 : Ref sig .tc := ⟨.hbm, 200, rfl⟩
abbrev main_v80_7 : Ref sig .tc := ⟨.hbm, 201, rfl⟩
abbrev main_v81 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem18_0 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S512x384 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== QkvBwdRefIdeal.lean ====
abbrev S1x8192x384 : Shape := ⟨3, ![1, 8192, 384]⟩
abbrev S1x8192x256 : Shape := ⟨3, ![1, 8192, 256]⟩
abbrev S1x8192 : Shape := ⟨2, ![1, 8192]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x8192x8x96 : Shape := ⟨4, ![1, 8192, 8, 96]⟩
abbrev S1x8192x8x64 : Shape := ⟨4, ![1, 8192, 8, 64]⟩
abbrev S_ : Shape := ⟨0, ![]⟩
abbrev S1x8192x32 : Shape := ⟨3, ![1, 8192, 32]⟩
abbrev S1x8192x8x128 : Shape := ⟨4, ![1, 8192, 8, 128]⟩
abbrev S384 : Shape := ⟨1, ![384]⟩
abbrev S1x8192x1 : Shape := ⟨3, ![1, 8192, 1]⟩
abbrev S1x1x384 : Shape := ⟨3, ![1, 1, 384]⟩
abbrev S1x8192x768 : Shape := ⟨3, ![1, 8192, 768]⟩
abbrev S1x8192x8x32 : Shape := ⟨4, ![1, 8192, 8, 32]⟩
abbrev S16 : Shape := ⟨1, ![16]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x16 : Shape := ⟨4, ![1, 8192, 8, 16]⟩
abbrev S256 : Shape := ⟨1, ![256]⟩
abbrev S1x1x256 : Shape := ⟨3, ![1, 1, 256]⟩
abbrev S1x8192x1024 : Shape := ⟨3, ![1, 8192, 1024]⟩
abbrev S1x8192x1x32 : Shape := ⟨4, ![1, 8192, 1, 32]⟩
abbrev S8192x32 : Shape := ⟨2, ![8192, 32]⟩
abbrev S8192 : Shape := ⟨1, ![8192]⟩

abbrev nBuf : Space → Nat
  | .hbm => 246
  | .vmem => 0
  | .smem => 0
  | _ => 0

abbrev hbmTy0_0 (i : Nat) : BufTy := match i % 128 with
  | 0 => ⟨S1x8192x384, .f32⟩
  | 1 => ⟨S1x8192x256, .f32⟩
  | 2 => ⟨S1x8192, .i32⟩
  | 3 => ⟨S1x384, .f32⟩
  | 4 => ⟨S384x768, .f32⟩
  | 5 => ⟨S1x256, .f32⟩
  | 6 => ⟨S256x1024, .f32⟩
  | 7 => ⟨S1x8192x8x96, .f32⟩
  | 8 => ⟨S1x8192x8x96, .f32⟩
  | 9 => ⟨S1x8192x8x64, .f32⟩
  | 10 => ⟨S_, .f32⟩
  | 11 => ⟨S1x8192x32, .f32⟩
  | 12 => ⟨S_, .f32⟩
  | 13 => ⟨S1x8192x8x96, .f32⟩
  | 14 => ⟨S_, .f32⟩
  | 15 => ⟨S1x8192x8x128, .f32⟩
  | 16 => ⟨S384, .f32⟩
  | 17 => ⟨S1x8192x384, .f32⟩
  | 18 => ⟨S_, .f32⟩
  | 19 => ⟨S1x8192, .f32⟩
  | 20 => ⟨S1x8192x1, .f32⟩
  | 21 => ⟨S_, .f32⟩
  | 22 => ⟨S1x8192x1, .f32⟩
  | 23 => ⟨S1x8192x1, .f32⟩
  | 24 => ⟨S_, .f32⟩
  | 25 => ⟨S1x8192x1, .f32⟩
  | 26 => ⟨S1x8192x1, .f32⟩
  | 27 => ⟨S1x8192x1, .f32⟩
  | 28 => ⟨S1x8192x1, .f32⟩
  | 29 => ⟨S_, .f32⟩
  | 30 => ⟨S1x8192x1, .f32⟩
  | 31 => ⟨S1x8192x1, .f32⟩
  | 32 => ⟨S1x8192x384, .f32⟩
  | 33 => ⟨S1x8192x384, .f32⟩
  | 34 => ⟨S1x1x384, .f32⟩
  | 35 => ⟨S1x8192x384, .f32⟩
  | 36 => ⟨S1x8192x384, .f32⟩
  | 37 => ⟨S1x8192x768, .f32⟩
  | 38 => ⟨S1x8192x8x96, .f32⟩
  | 39 => ⟨S1x8192x8x96, .f32⟩
  | 40 => ⟨S1x8192x8x64, .f32⟩
  | 41 => ⟨S1x8192x8x32, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S1x8192, .f32⟩
  | 53 => ⟨S1x8192x1, .f32⟩
  | 54 => ⟨S1x1x16, .f32⟩
  | 55 => ⟨S1x8192x16, .f32⟩
  | 56 => ⟨S1x8192x16, .f32⟩
  | 57 => ⟨S1x8192x16, .f32⟩
  | 58 => ⟨S1x8192x16, .f32⟩
  | 59 => ⟨S1x8192x1x16, .f32⟩
  | 60 => ⟨S1x8192x16, .f32⟩
  | 61 => ⟨S1x8192x1x16, .f32⟩
  | 62 => ⟨S1x8192x8x16, .f32⟩
  | 63 => ⟨S1x8192x8x16, .f32⟩
  | 64 => ⟨S1x8192x8x16, .f32⟩
  | 65 => ⟨S1x8192x8x16, .f32⟩
  | 66 => ⟨S1x8192x8x16, .f32⟩
  | 67 => ⟨S1x8192x8x16, .f32⟩
  | 68 => ⟨S1x8192x8x16, .f32⟩
  | 69 => ⟨S1x8192x8x16, .f32⟩
  | 70 => ⟨S1x8192x8x16, .f32⟩
  | 71 => ⟨S1x8192x8x16, .f32⟩
  | 72 => ⟨S1x8192x8x16, .f32⟩
  | 73 => ⟨S1x8192x8x16, .f32⟩
  | 74 => ⟨S1x8192x8x32, .f32⟩
  | 75 => ⟨S1x8192x8x96, .f32⟩
  | 76 => ⟨S256, .f32⟩
  | 77 => ⟨S1x8192x256, .f32⟩
  | 78 => ⟨S_, .f32⟩
  | 79 => ⟨S1x8192, .f32⟩
  | 80 => ⟨S1x8192x1, .f32⟩
  | 81 => ⟨S_, .f32⟩
  | 82 => ⟨S1x8192x1, .f32⟩
  | 83 => ⟨S1x8192x1, .f32⟩
  | 84 => ⟨S_, .f32⟩
  | 85 => ⟨S1x8192x1, .f32⟩
  | 86 => ⟨S1x8192x1, .f32⟩
  | 87 => ⟨S1x8192x1, .f32⟩
  | 88 => ⟨S1x8192x1, .f32⟩
  | 89 => ⟨S_, .f32⟩
  | 90 => ⟨S1x8192x1, .f32⟩
  | 91 => ⟨S1x8192x1, .f32⟩
  | 92 => ⟨S1x8192x256, .f32⟩
  | 93 => ⟨S1x8192x256, .f32⟩
  | 94 => ⟨S1x1x256, .f32⟩
  | 95 => ⟨S1x8192x256, .f32⟩
  | 96 => ⟨S1x8192x256, .f32⟩
  | 97 => ⟨S1x8192x1024, .f32⟩
  | 98 => ⟨S1x8192x8x128, .f32⟩
  | 99 => ⟨S1x8192x8x128, .f32⟩
  | 100 => ⟨S1x8192x1x32, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S1x8192, .f32⟩
  | 112 => ⟨S1x8192x1, .f32⟩
  | 113 => ⟨S1x1x16, .f32⟩
  | 114 => ⟨S1x8192x16, .f32⟩
  | 115 => ⟨S1x8192x16, .f32⟩
  | 116 => ⟨S1x8192x16, .f32⟩
  | 117 => ⟨S1x8192x16, .f32⟩
  | 118 => ⟨S1x8192x1x16, .f32⟩
  | 119 => ⟨S1x8192x16, .f32⟩
  | 120 => ⟨S1x8192x1x16, .f32⟩
  | 121 => ⟨S1x8192x1x16, .f32⟩
  | 122 => ⟨S1x8192x1x16, .f32⟩
  | 123 => ⟨S1x8192x1x16, .f32⟩
  | 124 => ⟨S1x8192x1x16, .f32⟩
  | 125 => ⟨S1x8192x1x16, .f32⟩
  | 126 => ⟨S1x8192x1x16, .f32⟩
  | 127 => ⟨S1x8192x1x16, .f32⟩
  | _ => ⟨S1x8192x384, .f32⟩

abbrev hbmTy0_1 (i : Nat) : BufTy := match i % 128 with
  | 0 => ⟨S1x8192x1x16, .f32⟩
  | 1 => ⟨S1x8192x1x32, .f32⟩
  | 2 => ⟨S1x8192x8x64, .f32⟩
  | 3 => ⟨S1x8192x8x32, .f32⟩
  | 4 => ⟨S1x8192x8x96, .f32⟩
  | 5 => ⟨S1x8192x8x64, .f32⟩
  | 6 => ⟨S_, .f32⟩
  | 7 => ⟨S1x8192x8x128, .f32⟩
  | 8 => ⟨S1x8192x8x64, .f32⟩
  | 9 => ⟨S1x8192x8x32, .f32⟩
  | 10 => ⟨S_, .f32⟩
  | 11 => ⟨S8192x32, .f32⟩
  | 12 => ⟨S1x8192x1x32, .f32⟩
  | 13 => ⟨S_, .f32⟩
  | 14 => ⟨S1x8192x8x128, .f32⟩
  | 15 => ⟨S1x8192x8x128, .f32⟩
  | 16 => ⟨S1x8192x1x16, .f32⟩
  | 17 => ⟨S1x8192x1x16, .f32⟩
  | 18 => ⟨S1x8192x1x16, .f32⟩
  | 19 => ⟨S1x8192x1x16, .f32⟩
  | 20 => ⟨S1x8192x1x16, .f32⟩
  | 21 => ⟨S1x8192x1x16, .f32⟩
  | 22 => ⟨S1x8192x1x16, .f32⟩
  | 23 => ⟨S1x8192x1x16, .f32⟩
  | 24 => ⟨S1x8192x1x16, .f32⟩
  | 25 => ⟨S_, .f32⟩
  | 26 => ⟨S1x8192x1x32, .f32⟩
  | 27 => ⟨S_, .f32⟩
  | 28 => ⟨S1x8192x1x32, .f32⟩
  | 29 => ⟨S1x8192x1x32, .f32⟩
  | 30 => ⟨S_, .f32⟩
  | 31 => ⟨S8192x32, .f32⟩
  | 32 => ⟨S1x8192x32, .f32⟩
  | 33 => ⟨S1x8192x1024, .f32⟩
  | 34 => ⟨S1x8192x256, .f32⟩
  | 35 => ⟨S1x8192x256, .f32⟩
  | 36 => ⟨S_, .f32⟩
  | 37 => ⟨S1x256, .f32⟩
  | 38 => ⟨S1x1x256, .f32⟩
  | 39 => ⟨S1x8192x256, .f32⟩
  | 40 => ⟨S1x8192x256, .f32⟩
  | 41 => ⟨S_, .f32⟩
  | 42 => ⟨S256, .f32⟩
  | 43 => ⟨S1x8192x256, .f32⟩
  | 44 => ⟨S_, .f32⟩
  | 45 => ⟨S1x8192, .f32⟩
  | 46 => ⟨S1x8192x1, .f32⟩
  | 47 => ⟨S1x8192x256, .f32⟩
  | 48 => ⟨S1x8192x256, .f32⟩
  | 49 => ⟨S1x8192x1, .f32⟩
  | 50 => ⟨S_, .f32⟩
  | 51 => ⟨S1x8192x1, .f32⟩
  | 52 => ⟨S1x8192x1, .f32⟩
  | 53 => ⟨S_, .f32⟩
  | 54 => ⟨S8192, .f32⟩
  | 55 => ⟨S1x8192, .f32⟩
  | 56 => ⟨S1x8192x256, .f32⟩
  | 57 => ⟨S1x8192x256, .f32⟩
  | 58 => ⟨S1x8192x256, .f32⟩
  | 59 => ⟨S1x8192x256, .f32⟩
  | 60 => ⟨S1x8192x256, .f32⟩
  | 61 => ⟨S1x256, .f32⟩
  | 62 => ⟨S1x8192x8x64, .f32⟩
  | 63 => ⟨S1x8192x8x32, .f32⟩
  | 64 => ⟨S1x8192x8x16, .f32⟩
  | 65 => ⟨S1x8192x8x16, .f32⟩
  | 66 => ⟨S1x8192x8x16, .f32⟩
  | 67 => ⟨S1x8192x8x16, .f32⟩
  | 68 => ⟨S1x8192x8x16, .f32⟩
  | 69 => ⟨S1x8192x8x16, .f32⟩
  | 70 => ⟨S1x8192x8x16, .f32⟩
  | 71 => ⟨S1x8192x8x16, .f32⟩
  | 72 => ⟨S1x8192x8x16, .f32⟩
  | 73 => ⟨S1x8192x8x16, .f32⟩
  | 74 => ⟨S1x8192x8x16, .f32⟩
  | 75 => ⟨S1x8192x8x16, .f32⟩
  | 76 => ⟨S1x8192x8x16, .f32⟩
  | 77 => ⟨S_, .f32⟩
  | 78 => ⟨S1x8192x8x32, .f32⟩
  | 79 => ⟨S_, .f32⟩
  | 80 => ⟨S1x8192x8x32, .f32⟩
  | 81 => ⟨S1x8192x8x32, .f32⟩
  | 82 => ⟨S_, .f32⟩
  | 83 => ⟨S1x8192x8x96, .f32⟩
  | 84 => ⟨S_, .f32⟩
  | 85 => ⟨S1x8192x8x96, .f32⟩
  | 86 => ⟨S1x8192x8x96, .f32⟩
  | 87 => ⟨S1x8192x768, .f32⟩
  | 88 => ⟨S1x8192x384, .f32⟩
  | 89 => ⟨S1x8192x384, .f32⟩
  | 90 => ⟨S_, .f32⟩
  | 91 => ⟨S1x384, .f32⟩
  | 92 => ⟨S1x1x384, .f32⟩
  | 93 => ⟨S1x8192x384, .f32⟩
  | 94 => ⟨S1x8192x384, .f32⟩
  | 95 => ⟨S_, .f32⟩
  | 96 => ⟨S384, .f32⟩
  | 97 => ⟨S1x8192x384, .f32⟩
  | 98 => ⟨S_, .f32⟩
  | 99 => ⟨S1x8192, .f32⟩
  | 100 => ⟨S1x8192x1, .f32⟩
  | 101 => ⟨S1x8192x384, .f32⟩
  | 102 => ⟨S1x8192x384, .f32⟩
  | 103 => ⟨S1x8192x1, .f32⟩
  | 104 => ⟨S_, .f32⟩
  | 105 => ⟨S1x8192x1, .f32⟩
  | 106 => ⟨S1x8192x1, .f32⟩
  | 107 => ⟨S_, .f32⟩
  | 108 => ⟨S8192, .f32⟩
  | 109 => ⟨S1x8192, .f32⟩
  | 110 => ⟨S1x8192x384, .f32⟩
  | 111 => ⟨S1x8192x384, .f32⟩
  | 112 => ⟨S1x8192x384, .f32⟩
  | 113 => ⟨S1x8192x384, .f32⟩
  | 114 => ⟨S1x8192x384, .f32⟩
  | 115 => ⟨S1x384, .f32⟩
  | 116 => ⟨S1x8192x8x64, .f32⟩
  | 117 => ⟨S1x8192x8x64, .f32⟩
  | _ => ⟨S1x8192x384, .f32⟩

abbrev hbmTy (i : Nat) : BufTy := match i / 128 with
  | 0 => hbmTy0_0 i
  | 1 => hbmTy0_1 i
  | _ => ⟨S1x8192x384, .f32⟩

abbrev bufTy : (tb : Table) → Fin (tcTables nBuf tb) → BufTy
  | .hbm, ⟨i, _⟩ => hbmTy i
  | _, _ => ⟨S1x8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_16 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_17 : Ref sig .tc := ⟨.hbm, 138, rfl⟩
abbrev main_v110 : Ref sig .tc := ⟨.hbm, 139, rfl⟩
abbrev main_v111 : Ref sig .tc := ⟨.hbm, 140, rfl⟩
abbrev main_cst_18 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_19 : Ref sig .tc := ⟨.hbm, 153, rfl⟩
abbrev main_v123 : Ref sig .tc := ⟨.hbm, 154, rfl⟩
abbrev main_cst_20 : Ref sig .tc := ⟨.hbm, 155, rfl⟩
abbrev main_v124 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_22 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_23 : Ref sig .tc := ⟨.hbm, 169, rfl⟩
abbrev main_v135 : Ref sig .tc := ⟨.hbm, 170, rfl⟩
abbrev main_v136 : Ref sig .tc := ⟨.hbm, 171, rfl⟩
abbrev main_cst_24 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_25 : Ref sig .tc := ⟨.hbm, 178, rfl⟩
abbrev main_v142 : Ref sig .tc := ⟨.hbm, 179, rfl⟩
abbrev main_v143 : Ref sig .tc := ⟨.hbm, 180, rfl⟩
abbrev main_cst_26 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_cst_27 : Ref sig .tc := ⟨.hbm, 205, rfl⟩
abbrev main_v167 : Ref sig .tc := ⟨.hbm, 206, rfl⟩
abbrev main_cst_28 : Ref sig .tc := ⟨.hbm, 207, rfl⟩
abbrev main_v168 : Ref sig .tc := ⟨.hbm, 208, rfl⟩
abbrev main_v169 : Ref sig .tc := ⟨.hbm, 209, rfl⟩
abbrev main_cst_29 : Ref sig .tc := ⟨.hbm, 210, rfl⟩
abbrev main_v170 : Ref sig .tc := ⟨.hbm, 211, rfl⟩
abbrev main_cst_30 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_31 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_32 : Ref sig .tc := ⟨.hbm, 223, rfl⟩
abbrev main_v180 : Ref sig .tc := ⟨.hbm, 224, rfl⟩
abbrev main_v181 : Ref sig .tc := ⟨.hbm, 225, rfl⟩
abbrev main_cst_33 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_34 : Ref sig .tc := ⟨.hbm, 232, rfl⟩
abbrev main_v187 : Ref sig .tc := ⟨.hbm, 233, rfl⟩
abbrev main_v188 : Ref sig .tc := ⟨.hbm, 234, rfl⟩
abbrev main_cst_35 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S1024x2720 : Shape := ⟨2, ![1024, 2720]⟩
abbrev S2720x1024 : Shape := ⟨2, ![2720, 1024]⟩
abbrev S2048x1024 : Shape := ⟨2, ![2048, 1024]⟩
abbrev S256x1024 : Shape := ⟨2, ![256, 1024]⟩
abbrev S384x1024 : Shape := ⟨2, ![384, 1024]⟩
abbrev S_ : Shape := ⟨0, ![]⟩
abbrev S64x1024 : Shape := ⟨2, ![64, 1024]⟩
abbrev S32x1024 : Shape := ⟨2, ![32, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S8192x2048 : Shape := ⟨2, ![8192, 2048]⟩
abbrev S8192x384 : Shape := ⟨2, ![8192, 384]⟩
abbrev S8192x256 : Shape := ⟨2, ![8192, 256]⟩
abbrev S8192x32 : Shape := ⟨2, ![8192, 32]⟩
abbrev S8192x2720 : Shape := ⟨2, ![8192, 2720]⟩

abbrev nBuf : Space → Nat
  | .hbm => 22
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2720, .f32⟩
  | .hbm, ⟨3, _⟩ => ⟨S2720x1024, .f32⟩
  | .hbm, ⟨4, _⟩ => ⟨S2720x1024, .bf16⟩
  | .hbm, ⟨5, _⟩ => ⟨S2048x1024, .bf16⟩
  | .hbm, ⟨6, _⟩ => ⟨S256x1024, .bf16⟩
  | .hbm, ⟨7, _⟩ => ⟨S384x1024, .bf16⟩
  | .hbm, ⟨8, _⟩ => ⟨S_, .bf16⟩
  | .hbm, ⟨9, _⟩ => ⟨S64x1024, .bf16⟩
  | .hbm, ⟨10, _⟩ => ⟨S32x1024, .bf16⟩
  | .hbm, ⟨11, _⟩ => ⟨S_, .bf16⟩
  | .hbm, ⟨12, _⟩ => ⟨S32x1024, .bf16⟩
  | .hbm, ⟨13, _⟩ => ⟨S2816x1024, .bf16⟩
  | .hbm, ⟨14, _⟩ => ⟨S8192x1024, .bf16⟩
  | .hbm, ⟨15, _⟩ => ⟨S8192x2816, .f32⟩
  | .hbm, ⟨16, _⟩ => ⟨S8192x1024, .f32⟩
  | .hbm, ⟨17, _⟩ => ⟨S8192x2048, .f32⟩
  | .hbm, ⟨18, _⟩ => ⟨S8192x384, .f32⟩
  | .hbm, ⟨19, _⟩ => ⟨S8192x256, .f32⟩
  | .hbm, ⟨20, _⟩ => ⟨S8192x32, .f32⟩
  | .hbm, ⟨21, _⟩ => ⟨S8192x2720, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .f32⟩
  | .local _ .vmem, ⟨7, _⟩ => ⟨S512x2816, .f32⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x1024 : Shape := ⟨2, ![8192, 1024]⟩
abbrev S1x1024 : Shape := ⟨2, ![1, 1024]⟩
abbrev S1024x2720 : Shape := ⟨2, ![1024, 2720]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2720 : Shape := ⟨2, ![8192, 2720]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2720, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2720, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.FfnMidRun.lean ====
/- One run of `FfnMidIdeal`: what every buffer outside the regions holds at the end. -/
module

public import proofs.«01_k».proof.Proof.Gen.FfnMidIdeal.Frame

@[expose] public section

set_option maxRecDepth 16384

noncomputable section

namespace Cert.FfnMidIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnMidIdeal Cert.FfnMidIdeal.Gen

variable {F : FTy → Type} [FloatOps F]
variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents and every counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.FfnMidIdeal.Val

end
-- ==== Proof.RealKit.lean ====
/- Arithmetic shared by the value proofs: which extended reals are real numbers, and how the operations act on those. -/
module

public import Idealize.ShloMosaic.Lib.Pipeline.ValueKit
public import Idealize.ShloMosaic.Lib.ReduceAll
public import Idealize.ShloMosaic.Lib.IdealHost
public import Idealize.ShloMosaic.Lib.Claim

@[expose] public section

noncomputable section

namespace Cert.RealKit

open Idealize.ShloMosaic

/-- The cast of a real array. -/
abbrev up {ι : Type} (x : ι → ℝ) : ι → EReal := fun i => (x i : EReal)

theorem real_of_abs_lt {x : EReal} (h : max x (-x) < ⊤) : x = ((x.toReal : ℝ) : EReal) := by
  have h1 : x ≠ ⊤ := fun e => by subst e; simp at h
  have h2 : x ≠ ⊥ := fun e => by subst e; simp at h
  exact (EReal.coe_toReal h1 h2).symm

/-- The printed test "every entry's absolute value is below infinity" makes an array one of real numbers. -/
theorem real_of_all {S S0 S1 : Shape} [Subsingleton S0.Idx] {axes : List (Fin S.rank)} {dims : Fin S1.rank → Fin S.rank} (x : FVec Ideal S .f32) (hb : S1.BroadcastsInDim S dims)
    (hr : S.ReducesTo axes S0) (hu : 0 < S1.numel) (j : S0.Idx)
    (e : Host.reduce IntOp.andi (cmpf .olt (Host.absf x) (broadcastInDim S dims hb (constant S1 .f32 0x7F800000#32)))
      (constantI S1 1 1#1) hr hu j = 1#1) : x = up fun i => (x i).toReal := by
  funext i
  have h := Host.reduce_andi_all _ _ _ _ j e i
  refine real_of_abs_lt ?_
  have h' : Ideal.cmp .olt (max (x i) (-(x i))) (Ideal.ofBits .f32 0x7F800000#32) = 1#1 := h
  have ht : Ideal.ofBits .f32 0x7F800000#32 = ⊤ := by simp [Ideal.ofBits, Ideal.ieee]
  rw [ht] at h'
  by_contra hn
  simp [Ideal.cmp, hn] at h'

theorem and_split {S : Shape} (x y : IVec S 1) (j : S.Idx) : andi x y j = 1#1 ↔ x j = 1#1 ∧ y j = 1#1 :=
  ⟨fun h => IntOp.andi_eq_one.1 h, fun h => IntOp.andi_eq_one.2 h⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_one' : (1 : EReal) = ((1 : ℝ) : EReal) := rfl

theorem coe_div {x y : ℝ} (h : y ≠ 0) : Ideal.div (x : EReal) (y : EReal) = ((x / y : ℝ) : EReal) := by
  rw [Ideal.div_coe h, ← EReal.coe_mul, mul_one_div]

theorem coe_rsqrt {x : ℝ} (h : 0 < x) : Ideal.rsqrt (x : EReal) = (((√x)⁻¹ : ℝ) : EReal) := by
  rw [Ideal.rsqrt_coe, if_neg h.le.not_gt, if_neg h.ne']

/-- The logistic function. -/
def sgm (x : ℝ) : ℝ := 1 / (1 + Real.exp (-x))

theorem coe_sgm (x : ℝ) : Ideal.div 1 (1 + Ideal.exp (-(x : EReal))) = ((sgm x : ℝ) : EReal) := by
  have h : (1 + Real.exp (-x)) ≠ 0 := by positivity
  rw [← EReal.coe_neg, Ideal.exp_coe, ← EReal.coe_one, ← EReal.coe_add, coe_div h, sgm]

/-- The single-precision number nearest to a millionth. -/
def eps : ℝ := 8796093 * (2 : ℝ) ^ (-43 : ℤ)

theorem eps_pos : 0 < eps := by unfold eps; positivity
/-- The value of a single-precision word of sign 0, exponent field `e` (neither 0 nor 255) and fraction field `f`. -/
theorem ofBits_f32 (b : BitVec 32) (e f : ℕ) (hs : b.extractLsb' 31 1 = 0#1) (he : (b.extractLsb' 23 8).toNat = e)
    (hf : (b.extractLsb' 0 23).toNat = f) (h0 : e ≠ 0) (h1 : e ≠ 255) :
    Ideal.ofBits .f32 b = (((8388608 + f : ℕ) * (2 : ℝ) ^ ((e : ℤ) - 150) : ℝ) : EReal) := by
  simp only [Ideal.ofBits, Ideal.ieee, Nat.reduceAdd]
  rw [hs, he, hf, if_neg (by simpa using h1), if_neg h0]
  norm_num
  ring_nf

theorem ofBits_eps : Ideal.ofBits .f32 0x358637BD#32 = ((eps : ℝ) : EReal) := by
  rw [ofBits_f32 _ 107 407485 (by decide) (by decide) (by decide) (by decide) (by decide), eps]; norm_num
theorem ofBits_1024 : Ideal.ofBits .f32 0x44800000#32 = ((1024 : ℝ) : EReal) := by
  rw [ofBits_f32 _ 137 0 (by decide) (by decide) (by decide) (by decide) (by decide)]; norm_num

/-- The reciprocal of a row's root mean square. -/
def irms {n : ℕ} (d : ℝ) (x : Fin n → ℝ) : ℝ := (√((∑ k, x k * x k) / d + eps))⁻¹

theorem coe_irms {n : ℕ} {d : ℝ} (hd : 0 < d) (x : Fin n → ℝ) :
    Ideal.rsqrt (Ideal.div (∑ k, (x k : EReal) * (x k : EReal)) (d : EReal) + (eps : EReal)) = ((irms d x : ℝ) : EReal) := by
  have h0 : 0 ≤ ∑ k, x k * x k := Finset.sum_nonneg fun k _ => mul_self_nonneg _
  have h : 0 < (∑ k, x k * x k) / d + eps := by have := eps_pos; positivity
  simp only [← EReal.coe_mul, coe_sum]
  rw [coe_div hd.ne', ← EReal.coe_add, coe_rsqrt h, irms]

end Cert.RealKit

end
-- ==== Proof.FfnMidValue.lean ====
/- What `FfnMidIdeal` leaves in its four results, on real arguments. -/
module

public import proofs.«01_k».proof.Defs
public import proofs.«01_k».proof.Proof.Gen.FfnMidIdeal.Frame
public import proofs.«01_k».proof.Proof.RealKit

@[expose] public section

set_option maxRecDepth 16384

noncomputable section

namespace Cert.FfnMidIdeal.Val

open Idealize.ShloMosaic Idealize.ShloMosaic.TcCoe Idealize.SL.Sem Cert.RealKit
open Idealize.ShloMosaic.Pipeline (Dat)
open Cert.FfnMidIdeal Cert.FfnMidIdeal.Gen

variable (m : (ℓ : Loc nD τ sig) → Buf (Elt Ideal) ℓ) (ρ : Dev nD → PrngReg)

theorem idx0 : ∀ t : Fin cfg0.N, win0_0.index t = ![t.val, 0] ∧ win0_1.index t = ![0, 0] ∧ win0_2.index t = ![0, 0, 0]
    ∧ win0_3.index t = ![0, 1, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The three feed-forward weights as the kernel packs them. -/
def slabOf (wg wu : FVec Ideal S1024x2816 .f32) (wd : FVec Ideal S2816x1024 .f32) : FVec Ideal S8x1056x1024 .bf16 :=
  concatenate S8x1056x1024 1 [⟨S8x352x1024, shapeCast S8x352x1024 (truncf .bf16 (transpose S2816x1024 [1, 0] wg transposes_S1024x2816_S2816x1024_1_0) bitsLt_bf16_f32) shapeCasts_S2816x1024_S8x352x1024⟩,
    ⟨S8x352x1024, shapeCast S8x352x1024 (truncf .bf16 (transpose S2816x1024 [1, 0] wu transposes_S1024x2816_S2816x1024_1_0) bitsLt_bf16_f32) shapeCasts_S2816x1024_S8x352x1024⟩,
    ⟨S8x352x1024, shapeCast S8x352x1024 (truncf .bf16 wd bitsLt_bf16_f32) shapeCasts_S2816x1024_S8x352x1024⟩] concatenates_S8x352x1024_S8x352x1024_S8x352x1024_S8x1056x1024_d1

theorem slab (c : Dev nD) : V1 m ρ c main_v8 = slabOf (m ((c : Thread nD τ).loc main_arg2)) (m ((c : Thread nD τ).loc main_arg3)) (m ((c : Thread nD τ).loc main_arg4)) := by
  unfold slabOf
  show StableHlo.after hostOps0 (W0 m ρ c) (Proc.devRef .tc main_v8) = _
  after_results_simp
  try rfl

theorem slabOf_gate (wg wu : FVec Ideal S1024x2816 .f32) (wd : FVec Ideal S2816x1024 .f32) (n : Fin 2816) (k : Fin 1024) (d : Fin 8) (r : Fin 1056)
    (hd : d.val = n.val / 352) (hr : r.val = n.val % 352) : slabOf wg wu wd (ix3 d r k) = wg (ix2 k n) := by
  have := n.isLt
  pointwise [slabOf]
  rw [dif_pos (by omega)]
  blk_ext []

theorem slabOf_up (wg wu : FVec Ideal S1024x2816 .f32) (wd : FVec Ideal S2816x1024 .f32) (n : Fin 2816) (k : Fin 1024) (d : Fin 8) (r : Fin 1056)
    (hd : d.val = n.val / 352) (hr : r.val = 352 + n.val % 352) : slabOf wg wu wd (ix3 d r k) = wu (ix2 k n) := by
  have := n.isLt
  pointwise [slabOf]
  rw [dif_neg (by omega), dif_pos (by omega)]
  blk_ext []

theorem slabOf_down (wg wu : FVec Ideal S1024x2816 .f32) (wd : FVec Ideal S2816x1024 .f32) (n : Fin 2816) (k : Fin 1024) (d : Fin 8) (r : Fin 1056)
    (hd : d.val = n.val / 352) (hr : r.val = 704 + n.val % 352) : slabOf wg wu wd (ix3 d r k) = wd (ix2 n k) := by
  have := n.isLt
  pointwise [slabOf]
  rw [dif_neg (by omega), dif_neg (by omega)]
  blk_ext []

section Region0

variable (V : (c : Dev nD) → (b : Ref sig .tc) → Buf (Elt Ideal) ((c : Thread nD τ).loc b)) (c : Dev nD)

theorem blk0_2 (t : Fin cfg0.N) (d : Fin 8) (r : Fin 352) (k : Fin 1024) :
    (iblk0 V c 2 t : FVec Ideal S8x352x1024 .bf16) (ix3 d r k) = (V c main_v8 : FVec Ideal S8x1056x1024 .bf16) (ix3 d ⟨r.val, by omega⟩ k) := by
  blk_ext [iblk0, idx0 t]

theorem blk0_3 (t : Fin cfg0.N) (d : Fin 8) (r : Fin 352) (k : Fin 1024) :
    (iblk0 V c 3 t : FVec Ideal S8x352x1024 .bf16) (ix3 d r k) = (V c main_v8 : FVec Ideal S8x1056x1024 .bf16) (ix3 d ⟨352 + r.val, by omega⟩ k) := by
  blk_ext [iblk0, idx0 t]

theorem blk0_0 (t : Fin cfg0.N) (r : Fin 256) (k : Fin 1024) (T : Fin 8192) (hT : T.val = t.val * 256 + r.val) :
    (iblk0 V c 0 t : FVec Ideal S256x1024 .f32) (ix2 r k) = (V c main_arg0 : FVec Ideal S8192x1024 .f32) (ix2 T k) := by
  blk_ext [iblk0, idx0 t]

theorem blk0_1 (t : Fin cfg0.N) (k : Fin 1024) :
    (iblk0 V c 1 t : FVec Ideal S1x1024 .f32) (ix2 0 k) = (V c main_arg1 : FVec Ideal S1x1024 .f32) (ix2 0 k) := by
  blk_ext [iblk0, idx0 t]

set_option maxHeartbeats 1600000 in
theorem after5 (t : Fin cfg0.N) : (dat0 V c).after 5 t
    = k0_pay10 (k0_pay3 (iblk0 V c 0 t) (iblk0 V c 1 t)) (iblk0 V c 2 t) (k0_pay3 (iblk0 V c 0 t) (iblk0 V c 1 t)) (iblk0 V c 3 t) := by
  rw [after0_5]
  unfold outsAt0
  dsimp only
  frame_out

set_option maxHeartbeats 1600000 in
theorem after6 (t : Fin cfg0.N) : (dat0 V c).after 6 t
    = k0_pay11 (k0_pay3 (iblk0 V c 0 t) (iblk0 V c 1 t)) (iblk0 V c 2 t) := by
  rw [after0_6]
  unfold outsAt0
  dsimp only
  frame_out

theorem after4 (t : Fin cfg0.N) : (dat0 V c).after 4 t = k0_pay4 (iblk0 V c 0 t) (iblk0 V c 1 t) := by
  rw [after0_4]
  unfold outsAt0
  dsimp only
  frame_out

set_option maxHeartbeats 1600000 in
theorem after7 (t : Fin cfg0.N) : (dat0 V c).after 7 t
    = k0_pay1 (k0_pay9 (k0_pay3 (iblk0 V c 0 t) (iblk0 V c 1 t)) (iblk0 V c 2 t) (k0_pay3 (iblk0 V c 0 t) (iblk0 V c 1 t)) (iblk0 V c 3 t)) := by
  rw [after0_7]
  unfold outsAt0
  dsimp only
  frame_out

/-- The normalised rows, the two feed-forward products and the two factors of the gate's derivative, over the real numbers. -/
def hn (H : S8192x1024.Idx → ℝ) (G : S1x1024.Idx → ℝ) (t : Fin 8192) (k : Fin 1024) : ℝ :=
  H (ix2 t k) * irms 1024 (fun k => H (ix2 t k)) * G (ix2 0 k)
def prod (H : S8192x1024.Idx → ℝ) (G : S1x1024.Idx → ℝ) (W : S1024x2816.Idx → ℝ) (t : Fin 8192) (n : Fin 2816) : ℝ :=
  ∑ k, hn H G t k * W (ix2 k n)
def fa (a b : ℝ) : ℝ := b * (sgm a * (1 + a * (1 - sgm a)))
def fb (a : ℝ) : ℝ := a * sgm a

theorem pay3_apply (x : FVec Ideal S256x1024 .f32) (g : FVec Ideal S1x1024 .f32) (X : Fin 1024 → ℝ) (G : S1x1024.Idx → ℝ) (r : Fin 256)
    (hx : ∀ k, x (ix2 r k) = X k) (hg : ∀ k, g (ix2 0 k) = G (ix2 0 k)) (k : Fin 1024) :
    k0_pay3 (F := Ideal) x g (ix2 r k) = ((X k * irms 1024 X * G (ix2 0 k) : ℝ) : EReal) := by
  pointwise [k0_pay3, k0_pay2]
  simp only [hx, hg, ofBits_1024, ofBits_eps]
  rw [coe_irms (by norm_num), EReal.coe_mul, EReal.coe_mul]

theorem pay10_apply (n : FVec Ideal S256x1024 .bf16) (w : FVec Ideal S8x352x1024 .bf16) (w' : FVec Ideal S8x352x1024 .bf16) (r : Fin 256)
    (N : Fin 1024 → ℝ) (A B : Fin 1024 → Fin 2816 → ℝ)
    (hn : ∀ k, n (ix2 r k) = N k)
    (hw : ∀ (l : Fin 2816) k h h', w (ix3 ⟨l.val / 352, h⟩ ⟨l.val % 352, h'⟩ k) = A k l)
    (hw' : ∀ (l : Fin 2816) k h h', w' (ix3 ⟨l.val / 352, h⟩ ⟨l.val % 352, h'⟩ k) = B k l) (l : Fin 2816) :
    k0_pay10 (F := Ideal) n w n w' (ix2 r l) = ((fa (∑ k, N k * A k l) (∑ k, N k * B k l) : ℝ) : EReal) := by
  pointwise [k0_pay10, k0_pay7, k0_pay5, k0_pay6]
  simp only [hn, hw, hw', zero_sub, ← EReal.coe_mul, coe_sum, coe_sgm]
  simp only [coe_one', ← EReal.coe_mul, ← EReal.coe_sub, ← EReal.coe_add]
  rfl

theorem pay11_apply (n : FVec Ideal S256x1024 .bf16) (w : FVec Ideal S8x352x1024 .bf16) (r : Fin 256)
    (N : Fin 1024 → ℝ) (A : Fin 1024 → Fin 2816 → ℝ)
    (hn : ∀ k, n (ix2 r k) = N k)
    (hw : ∀ (l : Fin 2816) k h h', w (ix3 ⟨l.val / 352, h⟩ ⟨l.val % 352, h'⟩ k) = A k l) (l : Fin 2816) :
    k0_pay11 (F := Ideal) n w (ix2 r l) = ((fb (∑ k, N k * A k l) : ℝ) : EReal) := by
  pointwise [k0_pay11, k0_pay8, k0_pay7, k0_pay5]
  simp only [hn, hw, zero_sub, ← EReal.coe_mul, coe_sum, coe_sgm]
  rfl

theorem pay9_apply (n : FVec Ideal S256x1024 .bf16) (w : FVec Ideal S8x352x1024 .bf16) (w' : FVec Ideal S8x352x1024 .bf16) (r : Fin 256)
    (N : Fin 1024 → ℝ) (A B : Fin 1024 → Fin 2816 → ℝ)
    (hn : ∀ k, n (ix2 r k) = N k)
    (hw : ∀ (l : Fin 2816) k h h', w (ix3 ⟨l.val / 352, h⟩ ⟨l.val % 352, h'⟩ k) = A k l)
    (hw' : ∀ (l : Fin 2816) k h h', w' (ix3 ⟨l.val / 352, h⟩ ⟨l.val % 352, h'⟩ k) = B k l) (l : Fin 2816) :
    k0_pay1 (F := Ideal) (k0_pay9 n w n w') (ix2 r l) = ((fb (∑ k, N k * A k l) * ∑ k, N k * B k l : ℝ) : EReal) := by
  pointwise [k0_pay1, k0_pay9, k0_pay8, k0_pay7, k0_pay5, k0_pay6]
  simp only [hn, hw, hw', zero_sub, ← EReal.coe_mul, coe_sum, coe_sgm]
  rfl

variable {H : S8192x1024.Idx → ℝ} {G : S1x1024.Idx → ℝ} {A B : S1024x2816.Idx → ℝ} {D : FVec Ideal S2816x1024 .f32}
  (hH : V c main_arg0 = up H) (hG : V c main_arg1 = up G) (hS : V c main_v8 = slabOf (up A) (up B) D)
include hH hG hS

theorem nrm (t : Fin cfg0.N) (r : Fin 256) (T : Fin 8192) (hT : T.val = t.val * 256 + r.val) (k : Fin 1024) :
    k0_pay3 (F := Ideal) (iblk0 V c 0 t) (iblk0 V c 1 t) (ix2 r k) = (hn H G T k : EReal) :=
  pay3_apply _ _ (fun k => H (ix2 T k)) G r (fun k => (blk0_0 V c t r k T hT).trans (congrFun hH _)) (fun k => (blk0_1 V c t k).trans (congrFun hG _)) k

theorem gate (t : Fin cfg0.N) (l : Fin 2816) (k : Fin 1024) (h h') :
    (iblk0 V c 2 t : FVec Ideal S8x352x1024 .bf16) (ix3 ⟨l.val / 352, h⟩ ⟨l.val % 352, h'⟩ k) = (A (ix2 k l) : EReal) :=
  (blk0_2 V c t _ _ k).trans ((congrFun hS _).trans (slabOf_gate _ _ _ l k _ _ rfl rfl))

theorem upw (t : Fin cfg0.N) (l : Fin 2816) (k : Fin 1024) (h h') :
    (iblk0 V c 3 t : FVec Ideal S8x352x1024 .bf16) (ix3 ⟨l.val / 352, h⟩ ⟨l.val % 352, h'⟩ k) = (B (ix2 k l) : EReal) :=
  (blk0_3 V c t _ _ k).trans ((congrFun hS _).trans (slabOf_up _ _ _ l k _ _ rfl rfl))

set_option maxHeartbeats 1600000 in
theorem final0_5 : (dat0 V c).arrAt 5 cfg0.N = up fun i : S8192x2816.Idx => fa (prod H G A (i 0) (i 1)) (prod H G B (i 0) (i 1)) := by
  refine (dat0 V c).arrAt_eq_of_covers 5 _ (by decide +kernel) fun t _ y => ?_
  have ht : t.val < 32 := t.isLt.trans_eq N_0
  idx_vars y
  have e : ((cfg0.win 5).blk t).view.emb (ix2 y0 y1) = ix2 (⟨t.val * 256 + y0.val, by omega⟩ : Fin 8192) y1 := by blk_ext [idx0 t]
  rw [e]
  blk_simp
  rw [after5]
  exact pay10_apply _ _ _ y0 _ (fun k l => A (ix2 k l)) (fun k l => B (ix2 k l)) (nrm V c hH hG hS t y0 _ rfl)
    (gate V c hH hG hS t) (upw V c hH hG hS t) y1

set_option maxHeartbeats 1600000 in
theorem final0_6 : (dat0 V c).arrAt 6 cfg0.N = up fun i : S8192x2816.Idx => fb (prod H G A (i 0) (i 1)) := by
  refine (dat0 V c).arrAt_eq_of_covers 6 _ (by decide +kernel) fun t _ y => ?_
  have ht : t.val < 32 := t.isLt.trans_eq N_0
  idx_vars y
  have e : ((cfg0.win 6).blk t).view.emb (ix2 y0 y1) = ix2 (⟨t.val * 256 + y0.val, by omega⟩ : Fin 8192) y1 := by blk_ext [idx0 t]
  rw [e]
  blk_simp
  rw [after6]
  exact pay11_apply _ _ y0 _ (fun k l => A (ix2 k l)) (nrm V c hH hG hS t y0 _ rfl) (gate V c hH hG hS t) y1

theorem final0_4 : (dat0 V c).arrAt 4 cfg0.N = up fun i : S8192x1024.Idx => hn H G (i 0) (i 1) := by
  refine (dat0 V c).arrAt_eq_of_covers 4 _ (by decide +kernel) fun t _ y => ?_
  have ht : t.val < 32 := t.isLt.trans_eq N_0
  idx_vars y
  have e : ((cfg0.win 4).blk t).view.emb (ix2 y0 y1) = ix2 (⟨t.val * 256 + y0.val, by omega⟩ : Fin 8192) y1 := by blk_ext [idx0 t]
  rw [e]
  blk_simp
  rw [after4]
  refine Eq.trans (b := k0_pay3 (F := Ideal) (iblk0 V c 0 t) (iblk0 V c 1 t) (ix2 y0 y1)) ?_ (nrm V c hH hG hS t y0 ⟨t.val * 256 + y0.val, by omega⟩ rfl y1)
  pointwise [k0_pay4, k0_pay3]

set_option maxHeartbeats 1600000 in
theorem final0_7 : (dat0 V c).arrAt 7 cfg0.N = up fun i : S8192x2816.Idx => fb (prod H G A (i 0) (i 1)) * prod H G B (i 0) (i 1) := by
  refine (dat0 V c).arrAt_eq_of_covers 7 _ (by decide +kernel) fun t _ y => ?_
  have ht : t.val < 32 := t.isLt.trans_eq N_0
  idx_vars y
  have e : ((cfg0.win 7).blk t).view.emb (ix2 y0 y1) = ix2 (⟨t.val * 256 + y0.val, by omega⟩ : Fin 8192) y1 := by blk_ext [idx0 t]
  rw [e]
  blk_simp
  rw [after7]
  exact pay9_apply _ _ _ y0 _ (fun k l => A (ix2 k l)) (fun k l => B (ix2 k l)) (nrm V c hH hG hS t y0 _ rfl)
    (gate V c hH hG hS t) (upw V c hH hG hS t) y1

end Region0

theorem idx1 : ∀ t : Fin cfg1.N, win1_0.index t = ![t.val, 0] ∧ win1_1.index t = ![0, 2, 0] ∧ win1_2.index t = ![t.val, 0]
    ∧ win1_3.index t = ![t.val, 0] ∧ win1_4.index t = ![t.val, 0] ∧ win1_5.index t = ![t.val, 0] :=
  (by decide +kernel : ∀ t : Fin grid1.N, _)

/-- The gradient of the gated product, over the real numbers. -/
def dprod (D : S2816x1024.Idx → ℝ) (U : S8192x1024.Idx → ℝ) (t : Fin 8192) (n : Fin 2816) : ℝ := ∑ k, U (ix2 t k) * D (ix2 n k)

section Region1

variable (V : (c : Dev nD) → (b : Ref sig .tc) → Buf (Elt Ideal) ((c : Thread nD τ).loc b)) (c : Dev nD)

theorem blk1_0 (t : Fin cfg1.N) (r : Fin 256) (k : Fin 1024) (T : Fin 8192) (hT : T.val = t.val * 256 + r.val) :
    (iblk1 V c 0 t : FVec Ideal S256x1024 .bf16) (ix2 r k) = (V c main_v10 : FVec Ideal S8192x1024 .bf16) (ix2 T k) := by
  blk_ext [iblk1, idx1 t]

theorem blk1_1 (t : Fin cfg1.N) (d : Fin 8) (r : Fin 352) (k : Fin 1024) :
    (iblk1 V c 1 t : FVec Ideal S8x352x1024 .bf16) (ix3 d r k) = (V c main_v8 : FVec Ideal S8x1056x1024 .bf16) (ix3 d ⟨704 + r.val, by omega⟩ k) := by
  blk_ext [iblk1, idx1 t]

theorem blk1_2 (t : Fin cfg1.N) (r : Fin 256) (k : Fin 2816) (T : Fin 8192) (hT : T.val = t.val * 256 + r.val) :
    (iblk1 V c 2 t : FVec Ideal S256x2816 .bf16) (ix2 r k) = (V c main_v9_1 : FVec Ideal S8192x2816 .bf16) (ix2 T k) := by
  blk_ext [iblk1, idx1 t]

theorem blk1_3 (t : Fin cfg1.N) (r : Fin 256) (k : Fin 2816) (T : Fin 8192) (hT : T.val = t.val * 256 + r.val) :
    (iblk1 V c 3 t : FVec Ideal S256x2816 .bf16) (ix2 r k) = (V c main_v9_2 : FVec Ideal S8192x2816 .bf16) (ix2 T k) := by
  blk_ext [iblk1, idx1 t]

theorem after4' (t : Fin cfg1.N) : (dat1 V c).after 4 t = k1_pay2 (iblk1 V c 0 t) (iblk1 V c 1 t) (iblk1 V c 2 t) := by
  rw [after1_4]; unfold out1_4; frame_out

theorem after5' (t : Fin cfg1.N) : (dat1 V c).after 5 t = k1_pay3 (iblk1 V c 0 t) (iblk1 V c 1 t) (iblk1 V c 3 t) := by
  rw [after1_5]; unfold out1_5; frame_out

theorem pay2'_apply (x : FVec Ideal S256x1024 .bf16) (w : FVec Ideal S8x352x1024 .bf16) (f : FVec Ideal S256x2816 .bf16) (r : Fin 256)
    (X : Fin 1024 → ℝ) (W : Fin 2816 → Fin 1024 → ℝ) (f' : Fin 2816 → ℝ) (hx : ∀ k, x (ix2 r k) = X k)
    (hw : ∀ (l : Fin 2816) k h h', w (ix3 ⟨l.val / 352, h⟩ ⟨l.val % 352, h'⟩ k) = W l k) (hf : ∀ l, f (ix2 r l) = f' l) (l : Fin 2816) :
    k1_pay2 (F := Ideal) x w f (ix2 r l) = (((∑ k, X k * W l k) * f' l : ℝ) : EReal) := by
  pointwise [k1_pay2, k1_pay1]
  simp only [hx, hw, hf, ← EReal.coe_mul, coe_sum]

theorem pay3'_apply (x : FVec Ideal S256x1024 .bf16) (w : FVec Ideal S8x352x1024 .bf16) (f : FVec Ideal S256x2816 .bf16) (r : Fin 256)
    (X : Fin 1024 → ℝ) (W : Fin 2816 → Fin 1024 → ℝ) (f' : Fin 2816 → ℝ) (hx : ∀ k, x (ix2 r k) = X k)
    (hw : ∀ (l : Fin 2816) k h h', w (ix3 ⟨l.val / 352, h⟩ ⟨l.val % 352, h'⟩ k) = W l k) (hf : ∀ l, f (ix2 r l) = f' l) (l : Fin 2816) :
    k1_pay3 (F := Ideal) x w f (ix2 r l) = (((∑ k, X k * W l k) * f' l : ℝ) : EReal) := by
  pointwise [k1_pay3, k1_pay1]
  simp only [hx, hw, hf, ← EReal.coe_mul, coe_sum]

variable {U : S8192x1024.Idx → ℝ} {D : S2816x1024.Idx → ℝ} {wg wu : FVec Ideal S1024x2816 .f32} {FA : S8192x2816.Idx → ℝ}
  (hU : V c main_v10 = up U) (hS : V c main_v8 = slabOf wg wu (up D))
include hU hS

theorem down (t : Fin cfg1.N) (l : Fin 2816) (k : Fin 1024) (h h') :
    (iblk1 V c 1 t : FVec Ideal S8x352x1024 .bf16) (ix3 ⟨l.val / 352, h⟩ ⟨l.val % 352, h'⟩ k) = (D (ix2 l k) : EReal) :=
  (blk1_1 V c t _ _ k).trans ((congrFun hS _).trans (slabOf_down _ _ _ l k _ _ rfl rfl))

set_option maxHeartbeats 1600000 in
theorem final1_4 (hF : V c main_v9_1 = up FA) :
    (dat1 V c).arrAt 4 cfg1.N = up fun i : S8192x2816.Idx => dprod D U (i 0) (i 1) * FA i := by
  refine (dat1 V c).arrAt_eq_of_covers 4 _ (by decide +kernel) fun t _ y => ?_
  have ht : t.val < 32 := t.isLt.trans_eq N_1
  idx_vars y
  have e : ((cfg1.win 4).blk t).view.emb (ix2 y0 y1) = ix2 (⟨t.val * 256 + y0.val, by omega⟩ : Fin 8192) y1 := by blk_ext [idx1 t]
  rw [e]
  blk_simp
  rw [after4']
  exact pay2'_apply _ _ _ y0 _ (fun l k => D (ix2 l k)) (fun l => FA (ix2 _ l)) (fun k => (blk1_0 V c t y0 k _ rfl).trans (congrFun hU _))
    (down V c hU hS t) (fun l => (blk1_2 V c t y0 l _ rfl).trans (congrFun hF _)) y1

set_option maxHeartbeats 1600000 in
theorem final1_5 (hF : V c main_v9_2 = up FA) :
    (dat1 V c).arrAt 5 cfg1.N = up fun i : S8192x2816.Idx => dprod D U (i 0) (i 1) * FA i := by
  refine (dat1 V c).arrAt_eq_of_covers 5 _ (by decide +kernel) fun t _ y => ?_
  have ht : t.val < 32 := t.isLt.trans_eq N_1
  idx_vars y
  have e : ((cfg1.win 5).blk t).view.emb (ix2 y0 y1) = ix2 (⟨t.val * 256 + y0.val, by omega⟩ : Fin 8192) y1 := by blk_ext [idx1 t]
  rw [e]
  blk_simp
  rw [after5']
  exact pay3'_apply _ _ _ y0 _ (fun l k => D (ix2 l k)) (fun l => FA (ix2 _ l)) (fun k => (blk1_0 V c t y0 k _ rfl).trans (congrFun hU _))
    (down V c hU hS t) (fun l => (blk1_3 V c t y0 l _ rfl).trans (congrFun hF _)) y1

end Region1

/-- The two gradients, over the real numbers. -/
def gradA (H : S8192x1024.Idx → ℝ) (G : S1x1024.Idx → ℝ) (A B : S1024x2816.Idx → ℝ) (D : S2816x1024.Idx → ℝ) (U : S8192x1024.Idx → ℝ) (i : S8192x2816.Idx) : ℝ :=
  dprod D U (i 0) (i 1) * fa (prod H G A (i 0) (i 1)) (prod H G B (i 0) (i 1))
def gradB (H : S8192x1024.Idx → ℝ) (G : S1x1024.Idx → ℝ) (A : S1024x2816.Idx → ℝ) (D : S2816x1024.Idx → ℝ) (U : S8192x1024.Idx → ℝ) (i : S8192x2816.Idx) : ℝ :=
  dprod D U (i 0) (i 1) * fb (prod H G A (i 0) (i 1))

/-- The gated product, over the real numbers. -/
def gated (H : S8192x1024.Idx → ℝ) (G : S1x1024.Idx → ℝ) (A B : S1024x2816.Idx → ℝ) (i : S8192x2816.Idx) : ℝ :=
  fb (prod H G A (i 0) (i 1)) * prod H G B (i 0) (i 1)

/-- What the forward call leaves in a buffer that no later line writes. -/
theorem kept (c : Dev nD) (r : Ref sig .tc) (h3 : r ∉ hostOps1_W) (h4 : ∀ w : Fin cfg1.W, Pipeline.arrRef spec1 w = r → (cfg1.win w).isOut = false) :
    W4 m ρ c (Proc.devRef .tc r) = W2 m ρ c (Proc.devRef .tc r) :=
  (W4_of m ρ c r h4).trans (W3_of m ρ c r h3)

section Whole

variable {H U : S8192x1024.Idx → ℝ} {G : S1x1024.Idx → ℝ} {A B : S1024x2816.Idx → ℝ} {D : S2816x1024.Idx → ℝ} (c : Dev nD)
  (hH : m ((c : Thread nD τ).loc main_arg0) = up H) (hG : m ((c : Thread nD τ).loc main_arg1) = up G) (hA : m ((c : Thread nD τ).loc main_arg2) = up A)
  (hB : m ((c : Thread nD τ).loc main_arg3) = up B) (hD : m ((c : Thread nD τ).loc main_arg4) = up D) (hU : m ((c : Thread nD τ).loc main_arg5) = up U)
include hH hG hA hB hD hU

theorem slab3 : V3 m ρ c main_v8 = slabOf (up A) (up B) (up D) := by
  refine (W3_of m ρ c main_v8 (by decide)).trans ((W2_of m ρ c main_v8 (by decide)).trans ?_)
  refine (slab m ρ c).trans ?_
  rw [hA, hB, hD]

theorem dff3 : V3 m ρ c main_v10 = up U := by
  have h : W2 m ρ c (Proc.devRef .tc main_arg5) = up U := (W2_args m ρ c main_arg5 (by decide)).trans hU
  refine Eq.trans (b := (truncf .bf16 (W2 m ρ c (Proc.devRef .tc main_arg5) : FVec Ideal S8192x1024 .f32) bitsLt_bf16_f32 : FVec Ideal S8192x1024 .bf16)) ?_ h
  show StableHlo.after hostOps1 (W2 m ρ c) (Proc.devRef .tc main_v10) = _
  after_results_simp
  try rfl

theorem fa3 : V3 m ρ c main_v9_1 = up fun i : S8192x2816.Idx => fa (prod H G A (i 0) (i 1)) (prod H G B (i 0) (i 1)) := by
  refine (W3_of m ρ c main_v9_1 (by decide)).trans ((W2_arr m ρ c 5).trans ?_)
  exact final0_5 (V1 m ρ) c ((W1_args m ρ c main_arg0 (by decide)).trans hH) ((W1_args m ρ c main_arg1 (by decide)).trans hG)
    ((slab m ρ c).trans (by rw [hA, hB]))

theorem fb3 : V3 m ρ c main_v9_2 = up fun i : S8192x2816.Idx => fb (prod H G A (i 0) (i 1)) := by
  refine (W3_of m ρ c main_v9_2 (by decide)).trans ((W2_arr m ρ c 6).trans ?_)
  exact final0_6 (V1 m ρ) c ((W1_args m ρ c main_arg0 (by decide)).trans hH) ((W1_args m ρ c main_arg1 (by decide)).trans hG)
    ((slab m ρ c).trans (by rw [hA, hB]))

theorem da_eq : W5 m ρ c (Proc.devRef .tc main_v12) = up (gradA H G A B D U) := by
  have h : W4 m ρ c (Proc.devRef .tc main_v11_0) = up (gradA H G A B D U) :=
    (W4_arr m ρ c 4).trans (final1_4 (V3 m ρ) c (dff3 m ρ c hH hG hA hB hD hU) (slab3 m ρ c hH hG hA hB hD hU) (fa3 m ρ c hH hG hA hB hD hU))
  refine Eq.trans (b := (extf .f32 (W4 m ρ c (Proc.devRef .tc main_v11_0) : FVec Ideal S8192x2816 .bf16) bitsLt_bf16_f32 : FVec Ideal S8192x2816 .f32)) ?_ h
  show StableHlo.after hostOps2 (W4 m ρ c) (Proc.devRef .tc main_v12) = _
  after_results_simp
  try rfl

theorem db_eq : W5 m ρ c (Proc.devRef .tc main_v13) = up (gradB H G A D U) := by
  have h : W4 m ρ c (Proc.devRef .tc main_v11_1) = up (gradB H G A D U) :=
    (W4_arr m ρ c 5).trans (final1_5 (V3 m ρ) c (dff3 m ρ c hH hG hA hB hD hU) (slab3 m ρ c hH hG hA hB hD hU) (fb3 m ρ c hH hG hA hB hD hU))
  refine Eq.trans (b := (extf .f32 (W4 m ρ c (Proc.devRef .tc main_v11_1) : FVec Ideal S8192x2816 .bf16) bitsLt_bf16_f32 : FVec Ideal S8192x2816 .f32)) ?_ h
  show StableHlo.after hostOps2 (W4 m ρ c) (Proc.devRef .tc main_v13) = _
  after_results_simp
  try rfl

theorem hn_eq : W5 m ρ c (Proc.devRef .tc main_v14) = up fun i : S8192x1024.Idx => hn H G (i 0) (i 1) := by
  have h : W4 m ρ c (Proc.devRef .tc main_v9_0) = up fun i : S8192x1024.Idx => hn H G (i 0) (i 1) :=
    (kept m ρ c main_v9_0 (by decide) (by decide)).trans ((W2_arr m ρ c 4).trans
      (final0_4 (V1 m ρ) c ((W1_args m ρ c main_arg0 (by decide)).trans hH) ((W1_args m ρ c main_arg1 (by decide)).trans hG)
        ((slab m ρ c).trans (by rw [hA, hB]))))
  refine Eq.trans (b := (extf .f32 (W4 m ρ c (Proc.devRef .tc main_v9_0) : FVec Ideal S8192x1024 .bf16) bitsLt_bf16_f32 : FVec Ideal S8192x1024 .f32)) ?_ h
  show StableHlo.after hostOps2 (W4 m ρ c) (Proc.devRef .tc main_v14) = _
  after_results_simp
  try rfl

theorem gated_eq : W5 m ρ c (Proc.devRef .tc main_v15) = up (gated H G A B) := by
  have h : W4 m ρ c (Proc.devRef .tc main_v9_3) = up (gated H G A B) :=
    (kept m ρ c main_v9_3 (by decide) (by decide)).trans ((W2_arr m ρ c 7).trans
      (final0_7 (V1 m ρ) c ((W1_args m ρ c main_arg0 (by decide)).trans hH) ((W1_args m ρ c main_arg1 (by decide)).trans hG)
        ((slab m ρ c).trans (by rw [hA, hB]))))
  refine Eq.trans (b := (extf .f32 (W4 m ρ c (Proc.devRef .tc main_v9_3) : FVec Ideal S8192x2816 .bf16) bitsLt_bf16_f32 : FVec Ideal S8192x2816 .f32)) ?_ h
  show StableHlo.after hostOps2 (W4 m ρ c) (Proc.devRef .tc main_v15) = _
  after_results_simp
  try rfl

end Whole

end Cert.FfnMidIdeal.Val

end
-- ==== Proof.FfnMidRef.lean ====
/- What `FfnMidRefIdeal` leaves in its four results, on real arguments. -/
module

public import proofs.«01_k».proof.Proof.FfnMidValue
public import proofs.«01_k».proof.Proof.Gen.FfnMidRefIdeal.Read

@[expose] public section

set_option maxRecDepth 16384

noncomputable section

namespace Cert.FfnMidRefIdeal.Val

open Idealize.ShloMosaic Idealize.ShloMosaic.TcCoe Idealize.SL.Sem Cert.RealKit
open Cert.FfnMidRefIdeal Cert.FfnMidRefIdeal.Gen Cert.FfnMidRefIdeal.Read Cert.FfnMidIdeal.Val

variable (H : S8192x1024.Idx → ℝ) (G : S1x1024.Idx → ℝ) (A B : S1024x2816.Idx → ℝ) (D : S2816x1024.Idx → ℝ) (U : S8192x1024.Idx → ℝ)

theorem v13 (t : Fin 8192) (k : Fin 1024) : val_main_v13 (F := Ideal) (up H) (up G) (ix2 t k) = (hn H G t k : EReal) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [ofBits_1024, ofBits_eps]
  rw [coe_irms (by norm_num), ← EReal.coe_mul, ← EReal.coe_mul]
  rfl

theorem v19 (t : Fin 8192) (n : Fin 2816) : val_main_v19 (F := Ideal) (up D) (up U) (ix2 t n) = (dprod D U t n : EReal) := by
  pointwise [val_main_v19]
  simp only [← EReal.coe_mul, coe_sum]
  rfl

theorem v14 (t : Fin 8192) (n : Fin 2816) : val_main_v14 (F := Ideal) (up H) (up G) (up A) (ix2 t n) = (prod H G A t n : EReal) := by
  pointwise [val_main_v14]
  simp only [v13, ← EReal.coe_mul, coe_sum]
  rfl

theorem v15 (t : Fin 8192) (n : Fin 2816) : val_main_v15 (F := Ideal) (up H) (up G) (up B) (ix2 t n) = (prod H G B t n : EReal) := by
  pointwise [val_main_v15]
  simp only [v13, ← EReal.coe_mul, coe_sum]
  rfl

theorem v16_2 (t : Fin 8192) (n : Fin 2816) : val_main_v16_2 (F := Ideal) (up H) (up G) (up A) (ix2 t n) = (sgm (prod H G A t n) : EReal) := by
  pointwise [val_main_v16_2, val_main_call0_v3, val_main_call0_v2, val_main_call0_v1, val_main_call0_v0, val_main_call0_cst, val_main_call0_v4, val_main_call0_cst_0]
  simp only [v14, zero_sub, coe_sgm]

theorem da_ref : val_main_v22 (F := Ideal) (up H) (up G) (up A) (up B) (up D) (up U) = up (gradA H G A B D U) := by
  funext i
  idx_vars i
  pointwise [val_main_v22, val_main_call1_v2, val_main_call1_v1, val_main_call1_v0, val_main_v21, val_main_v16_1, val_main_call0_v7, val_main_call0_v6, val_main_call0_cst_1]
  simp only [v14, v15, v19, v16_2]
  simp only [coe_one', ← EReal.coe_mul, ← EReal.coe_sub, ← EReal.coe_add]
  refine congrArg _ ?_
  show _ = dprod D U i0 i1 * fa (prod H G A i0 i1) (prod H G B i0 i1)
  unfold fa
  ring

theorem db_ref : val_main_v20 (F := Ideal) (up H) (up G) (up A) (up D) (up U) = up (gradB H G A D U) := by
  funext i
  idx_vars i
  pointwise [val_main_v20, val_main_v16_0]
  simp only [v14, v19, v16_2]
  simp only [← EReal.coe_mul]
  refine congrArg _ ?_
  show _ = dprod D U i0 i1 * fb (prod H G A i0 i1)
  unfold fb
  ring

theorem hn_ref : val_main_v13 (F := Ideal) (up H) (up G) = up fun i : S8192x1024.Idx => hn H G (i 0) (i 1) := by
  funext i
  idx_vars i
  exact v13 H G i0 i1

theorem gated_ref : val_main_v17 (F := Ideal) (up H) (up G) (up A) (up B) = up (gated H G A B) := by
  funext i
  idx_vars i
  pointwise [val_main_v17, val_main_v16_0]
  simp only [v14, v15, v16_2]
  simp only [← EReal.coe_mul]
  rfl

end Cert.FfnMidRefIdeal.Val

end
-- ==== Proof.FfnMidPair.lean ====
/- The claims about the feed-forward gate's gradient. -/
module

public import proofs.«01_k».proof.Proof.FfnMidRun
public import proofs.«01_k».proof.Proof.FfnMidRef
public import proofs.«01_k».proof.Proof.Gen.FfnMid.Frame
public import proofs.«01_k».proof.Proof.Gen.FfnMidRefIdeal.Run
public import proofs.«01_k».proof.Proof.Gen.Pre_finite_ffn_mid

@[expose] public section

noncomputable section

namespace Cert.FfnMidPair

open Idealize.ShloMosaic Idealize.ShloMosaic.TcCoe Idealize.SL.Sem Cert.RealKit Cert.FfnMidIdeal

theorem finite (m : (ℓ : Loc nD τ sig) → Buf (Elt Ideal) ℓ) (h : Cert.Pre_FfnMidIdeal_finite_ffn_mid m) (c : Dev nD) :
    ∃ (H : S8192x1024.Idx → ℝ) (G : S1x1024.Idx → ℝ) (A B : S1024x2816.Idx → ℝ) (D : S2816x1024.Idx → ℝ) (U : S8192x1024.Idx → ℝ),
      m ((c : Thread nD τ).loc main_arg0) = up H ∧ m ((c : Thread nD τ).loc main_arg1) = up G ∧ m ((c : Thread nD τ).loc main_arg2) = up A
      ∧ m ((c : Thread nD τ).loc main_arg3) = up B ∧ m ((c : Thread nD τ).loc main_arg4) = up D ∧ m ((c : Thread nD τ).loc main_arg5) = up U := by
  have e := congrFun (h c) (fun a => a.elim0)
  dsimp only [Cert.Pre_finite_ffn_mid.fn, Cert.Pre_finite_ffn_mid.fn_part1] at e
  simp only [and_split] at e
  obtain ⟨⟨⟨⟨⟨h0, h1⟩, h2⟩, h3⟩, h4⟩, h5⟩ := e
  exact ⟨_, _, _, _, _, _, real_of_all _ _ _ _ _ h0, real_of_all _ _ _ _ _ h1, real_of_all _ _ _ _ _ h2, real_of_all _ _ _ _ _ h3,
    real_of_all _ _ _ _ _ h4, real_of_all _ _ _ _ _ h5⟩

theorem value : Cert.algebraic_FfnMidIdeal_FfnMidRefIdeal_pre_finite_ffn_mid := by
  intro m g m' g' hpre hagree
  choose H G A B D U hH hG hA hB hD hU using finite m hpre
  refine ⟨fun c => up (FfnMidIdeal.Val.gradA (H c) (G c) (A c) (B c) (D c) (U c)), fun c => up (FfnMidIdeal.Val.gradB (H c) (G c) (A c) (D c) (U c)),
    fun c => up fun i : S8192x1024.Idx => FfnMidIdeal.Val.hn (H c) (G c) (i 0) (i 1), fun c => up (FfnMidIdeal.Val.gated (H c) (G c) (A c) (B c)), ?_, ?_⟩
  · refine (θ_run _ _ _).mono (fun r h c => ?_) (FfnMidIdeal.Val.run (F := Ideal) m g)
    exact ⟨(h.1 c _ (Gen.mem_uc main_v12 (by decide))).trans (FfnMidIdeal.Val.da_eq m g c (hH c) (hG c) (hA c) (hB c) (hD c) (hU c)),
      (h.1 c _ (Gen.mem_uc main_v13 (by decide))).trans (FfnMidIdeal.Val.db_eq m g c (hH c) (hG c) (hA c) (hB c) (hD c) (hU c)),
      (h.1 c _ (Gen.mem_uc main_v14 (by decide))).trans (FfnMidIdeal.Val.hn_eq m g c (hH c) (hG c) (hA c) (hB c) (hD c) (hU c)),
      (h.1 c _ (Gen.mem_uc main_v15 (by decide))).trans (FfnMidIdeal.Val.gated_eq m g c (hH c) (hG c) (hA c) (hB c) (hD c) (hU c)),
      (h.1 c _ (Gen.mem_uc main_arg0 (by decide))).trans (Gen.W5_main_arg0 m g c), (h.1 c _ (Gen.mem_uc main_arg1 (by decide))).trans (Gen.W5_main_arg1 m g c),
      (h.1 c _ (Gen.mem_uc main_arg2 (by decide))).trans (Gen.W5_main_arg2 m g c), (h.1 c _ (Gen.mem_uc main_arg3 (by decide))).trans (Gen.W5_main_arg3 m g c),
      (h.1 c _ (Gen.mem_uc main_arg4 (by decide))).trans (Gen.W5_main_arg4 m g c), (h.1 c _ (Gen.mem_uc main_arg5 (by decide))).trans (Gen.W5_main_arg5 m g c)⟩
  · refine (θ_run _ _ _).mono (fun r h c => ?_) (Cert.FfnMidRefIdeal.Value.run (F := Ideal) m' g')
    obtain ⟨a0, a1, a2, a3, a4, a5⟩ := hagree c
    obtain ⟨h0, h1, h2, h3, hr⟩ := h c
    refine ⟨h0.trans ?_, h1.trans ?_, h2.trans ?_, h3.trans ?_, hr⟩
    · rw [FfnMidRefIdeal.Read.val_main_v22_eq, a0, a1, a2, a3, a4, a5, hH, hG, hA, hB, hD, hU]
      exact FfnMidRefIdeal.Val.da_ref _ _ _ _ _ _
    · refine (FfnMidRefIdeal.Read.val_main_v20_eq _ _ _ _ _).trans ?_
      rw [a0, a1, a2, a4, a5, hH, hG, hA, hD, hU]
      exact FfnMidRefIdeal.Val.db_ref _ _ _ _ _
    · refine (FfnMidRefIdeal.Read.val_main_v13_eq _ _).trans ?_
      rw [a0, a1, hH, hG]
      exact FfnMidRefIdeal.Val.hn_ref _ _
    · refine (FfnMidRefIdeal.Read.val_main_v17_eq _ _ _ _).trans ?_
      rw [a0, a1, a2, a3, hH, hG, hA, hB]
      exact FfnMidRefIdeal.Val.gated_ref _ _ _ _

theorem frame_kernel : Cert.quiescent_FfnMid := fun m g _ => Cert.FfnMid.Gen.frame m g

theorem frame_ideal : Cert.quiescent_FfnMidIdeal := fun m g _ => Gen.frame m g

theorem frame_ref : Cert.quiescent_FfnMidRefIdeal := by
  intro m g _
  exact (θ_run _ _ _).mono (fun r h => ⟨fun c => (h c).2.2.2.2, sem_eq_zero_of_no_sems (by decide) r.2⟩) (Cert.FfnMidRefIdeal.Value.run (F := Ideal) m g)

theorem preserves : Cert.preserves_FfnMid_FfnMidIdeal := trivial

end Cert.FfnMidPair

end
-- ==== Proof.AttnBwdStep.lean ====
/- One query block of the attention backward, as a function on the contents of the accumulators, and the
   kernel's counted loop as its iteration. -/
module

public import proofs.«01_k».proof.Proof.Gen.AttnBwdIdeal.Frame
public import proofs.«01_k».proof.Proof.Gen.AttnBwdIdeal.Loops
public import Idealize.ShloMosaic.Lib.VecWindow

@[expose] public section

noncomputable section

namespace Cert.AttnBwdIdeal.Val

open Idealize.ShloMosaic Idealize.ShloMosaic.TcCoe Idealize.ShloMosaic.Tactic Cert.AttnBwdIdeal.Gen
open Idealize.ShloMosaic.VecWindow (window put)

variable {F : FTy → Type} [FloatOps F] [Named F]

/-- What the body reads at one grid point: the queries and output cotangents of a pair of heads, one block of keys and
    values, the rows' log-sums and deltas. -/
structure Ins (F : FTy → Type) where
  q : Vec F S8192x256 .bf16
  k : Vec F S512x256 .bf16
  v : Vec F S512x256 .bf16
  g : Vec F S8192x256 .bf16
  lse : Vec F S1x16x8192 .f32
  dl : Vec F S1x16x8192 .f32

/-- The accumulators: the pair's query gradient, the key and value gradients of either head. -/
@[ext] structure St (F : FTy → Type) where
  dq : Vec F S8192x256 .f32
  k0 : Vec F S512x128 .f32
  k1 : Vec F S512x128 .f32
  v0 : Vec F S512x128 .f32
  v1 : Vec F S512x128 .f32

/-- Where the rows of query block `r` of head `a` of the pair begin. -/
abbrev rowsOff (r a : ℕ) : Fin 2 → ℕ := ![r * 512, a * 128]
/-- Where the statistics of query block `r` of head `a` of the pair begin. -/
abbrev statOff (r a : ℕ) : Fin 3 → ℕ := ![0, a * 8, r * 512]

theorem rows_inb (r : Fin 16) (a : Fin 2) : ∀ b, rowsOff r a b + S512x128.size b ≤ S8192x256.size b := by
  have := r.isLt; have := a.isLt
  intro b; fin_cases b
  · show r.val * 512 + 512 ≤ 8192; omega
  · show a.val * 128 + 128 ≤ 256; omega
theorem stat_inb (r : Fin 16) (a : Fin 2) : ∀ b, statOff r a b + S1x1x512.size b ≤ S1x16x8192.size b := by
  have := r.isLt; have := a.isLt
  intro b; fin_cases b
  · show 0 + 1 ≤ 1; omega
  · show a.val * 8 + 1 ≤ 16; omega
  · show r.val * 512 + 512 ≤ 8192; omega
theorem half_inb (a : Fin 2) : ∀ b, (![0, a.val * 128] : Fin 2 → ℕ) b + S512x128.size b ≤ S512x256.size b := by
  have := a.isLt
  intro b; fin_cases b
  · show 0 + 512 ≤ 512; omega
  · show a.val * 128 + 128 ≤ 256; omega

/-- The rows of block `r`, head `a`. -/
def rows {α : Type} (x : S8192x256.Idx → α) (r : Fin 16) (a : Fin 2) : S512x128.Idx → α := window x (rowsOff r a) S512x128.size (rows_inb r a)
/-- `x` with those rows replaced. -/
def setRows {α : Type} (x : S8192x256.Idx → α) (r : Fin 16) (a : Fin 2) (w : S512x128.Idx → α) : S8192x256.Idx → α :=
  put x (rowsOff r a) S512x128.size w
/-- Head `a`'s half of a block of keys or values. -/
def half {α : Type} (x : S512x256.Idx → α) (a : Fin 2) : S512x128.Idx → α := window x ![0, a.val * 128] S512x128.size (half_inb a)
/-- The statistics of block `r`, head `a`. -/
def stat {α : Type} (x : S1x16x8192.Idx → α) (r : Fin 16) (a : Fin 2) : S1x1x512.Idx → α := window x (statOff r a) S1x1x512.size (stat_inb r a)

theorem rows_setRows {α : Type} (x : S8192x256.Idx → α) (r : Fin 16) (w : S512x128.Idx → α) :
    rows (setRows x r 0 w) r 1 = rows x r 1 :=
  VecWindow.window_put_of_disjoint x _ _ _ _ (rows_inb r 1) w 1 (Or.inr (by show 0 * 128 + 128 ≤ 1 * 128; omega))

/-- A query block's step without a mask. -/
def step (x : Ins F) (r : Fin 16) (S : St F) : St F :=
  let D : FVec F S512x512 .bf16 := k0_pay8 (rows x.q r 0) (rows x.g r 0) (half x.k 0) (stat x.lse r 0) (stat x.dl r 0) (half x.v 0)
  let dq' := setRows S.dq r 0 (k0_pay10 (k0_pay5 (half x.k 0)) D (rows S.dq r 0))
  ⟨setRows dq' r 1 (k0_pay60 (k0_pay12 (rows x.g r 1)) (k0_pay13 (half x.k 1)) (k0_pay14 (stat x.dl r 1))
      (k0_pay15 (rows x.q r 1) (half x.k 1) (stat x.lse r 1)) (half x.v 1) (rows S.dq r 1)),
    k0_pay9 (k0_pay3 (rows x.q r 0)) D S.k0,
    k0_pay59 (k0_pay11 (rows x.q r 1)) (k0_pay12 (rows x.g r 1)) (k0_pay14 (stat x.dl r 1))
      (k0_pay15 (rows x.q r 1) (half x.k 1) (stat x.lse r 1)) (half x.v 1) S.k1,
    k0_pay7 (rows x.q r 0) (rows x.g r 0) (half x.k 0) (stat x.lse r 0) S.v0,
    k0_pay57 (k0_pay16 (rows x.q r 1) (rows x.g r 1) (half x.k 1) (stat x.lse r 1) S.v1)⟩

/-! ## Where the loop's trips read and write -/

theorem word_off (j : Fin 16) : (Scalar.muli (BitVec.ofNat 32 j.val) 512#32).toNat = j.val * 512 :=
  (by decide +kernel : ∀ j : Fin 16, (Scalar.muli (BitVec.ofNat 32 j.val) 512#32).toNat = j.val * 512) j

theorem word_trips : ∀ j : Fin 16, (Scf.Loop.trips ⟨Scalar.addi (BitVec.ofNat 32 j.val) 1#32, Scalar.addi (Scalar.addi (BitVec.ofNat 32 j.val) 1#32)
    (Scalar.muli (Scalar.divsi (Scalar.subi 16#32 (Scalar.addi (BitVec.ofNat 32 j.val) 1#32)) 1#32) 1#32), 1#32⟩) = 15 - j.val := by decide +kernel

theorem trips1 (i : grid0.Coords) : (k0_t1_loop i).trips = 15 - (i 1).val := word_trips (i 1)

theorem word_trips2 : ∀ j : Fin 16, (Scf.Loop.trips ⟨Scalar.addi (Scalar.addi (BitVec.ofNat 32 j.val) 1#32)
    (Scalar.muli (Scalar.divsi (Scalar.subi 16#32 (Scalar.addi (BitVec.ofNat 32 j.val) 1#32)) 1#32) 1#32),
    Scalar.addi (Scalar.addi (BitVec.ofNat 32 j.val) 1#32) (Scalar.subi 16#32 (Scalar.addi (BitVec.ofNat 32 j.val) 1#32)), 1#32⟩) = 0 := by decide +kernel

theorem trips2 (i : grid0.Coords) : (k0_t2_loop i).trips = 0 := word_trips2 (i 1)

theorem word_iv : ∀ (j : Fin 16) (k : Fin 15), (Scalar.muli (Scf.iv (Scalar.addi (BitVec.ofNat 32 j.val) 1#32) 1#32 k.val) 512#32).toNat = (j.val + 1 + k.val) * 512 := by decide +kernel

/-- The query block trip `k` works on. -/
def blockOf (i : grid0.Coords) (k : ℕ) : Fin 16 := ⟨((i 1).val + 1 + k) % 16, Nat.mod_lt _ (by omega)⟩

theorem blockOf_val (i : grid0.Coords) (k : Fin (k0_t1_loop i).trips) : (blockOf i k.val).val = (i 1).val + 1 + k.val := by
  have h := k.isLt.trans_eq (trips1 i)
  show ((i 1).val + 1 + k.val) % 16 = _
  omega

theorem iv_off (i : grid0.Coords) (k : Fin (k0_t1_loop i).trips) :
    (Scalar.muli (Scf.iv (Scalar.addi (BitVec.ofNat 32 (i 1).val) 1#32) 1#32 k.val) 512#32).toNat = (blockOf i k.val).val * 512 := by
  have h := k.isLt.trans_eq (trips1 i)
  rw [blockOf_val]
  exact word_iv (i 1) ⟨k.val, by omega⟩

theorem off5 (i : grid0.Coords) (k : Fin (k0_t1_loop i).trips) : k0_off5 i k = rowsOff (blockOf i k.val) 0 :=
  congrArg (fun n : ℕ => (![n, 0] : Fin 2 → ℕ)) (iv_off i k)
theorem off7 (i : grid0.Coords) (k : Fin (k0_t1_loop i).trips) : k0_off7 i k = rowsOff (blockOf i k.val) 1 :=
  congrArg (fun n : ℕ => (![n, 128] : Fin 2 → ℕ)) (iv_off i k)
theorem off6 (i : grid0.Coords) (k : Fin (k0_t1_loop i).trips) : k0_off6 i k = statOff (blockOf i k.val) 0 :=
  congrArg (fun n : ℕ => (![0, 0, n] : Fin 3 → ℕ)) (iv_off i k)
theorem off8 (i : grid0.Coords) (k : Fin (k0_t1_loop i).trips) : k0_off8 i k = statOff (blockOf i k.val) 1 :=
  congrArg (fun n : ℕ => (![0, 8, n] : Fin 3 → ℕ)) (iv_off i k)

/-! ## Loads as those windows, stores as those replacements -/

section Access

variable {Val : EltTy → Type} {sg : RefSig} {κ : Kind} {sp : Space} {e : EltTy}

theorem readAt_rows (m : View sg κ sp S8192x256 e) (f : m.ty.Contents Val) {off : Fin 2 → ℕ} (inb : ∀ b, off b + S512x128.size b ≤ S8192x256.size b)
    (r : Fin 16) (a : Fin 2) (h : off = rowsOff r a) :
    m.readAt Val (Rect.unit (s := S8192x256) off S512x128.size inb).toLoadRect f = rows (m.read Val f) r a := View.readAt_unit m f inb h _
theorem readAt_stat (m : View sg κ sp S1x16x8192 e) (f : m.ty.Contents Val) {off : Fin 3 → ℕ} (inb : ∀ b, off b + S1x1x512.size b ≤ S1x16x8192.size b)
    (r : Fin 16) (a : Fin 2) (h : off = statOff r a) :
    m.readAt Val (Rect.unit (s := S1x16x8192) off S1x1x512.size inb).toLoadRect f = stat (m.read Val f) r a := View.readAt_unit m f inb h _
theorem readAt_half (m : View sg κ sp S512x256 e) (f : m.ty.Contents Val) {off : Fin 2 → ℕ} (inb : ∀ b, off b + S512x128.size b ≤ S512x256.size b)
    (a : Fin 2) (h : off = ![0, a.val * 128]) :
    m.readAt Val (Rect.unit (s := S512x256) off S512x128.size inb).toLoadRect f = half (m.read Val f) a := View.readAt_unit m f inb h _
theorem readAt_whole (m : View sg κ sp S512x128 e) (f : m.ty.Contents Val) {off : Fin 2 → ℕ} (inb : ∀ b, off b + S512x128.size b ≤ S512x128.size b) :
    m.readAt Val (Rect.unit (s := S512x128) off S512x128.size inb).toLoadRect f = m.read Val f := View.readAt_full m f inb
theorem read_setRows (m : View sg κ sp S8192x256 e) (f : m.ty.Contents Val) {off : Fin 2 → ℕ} (inb : ∀ b, off b + S512x128.size b ≤ S8192x256.size b)
    (w : S512x128.Idx → Val e) (L : List (View.Piece Val S8192x256 e)) (r : Fin 16) (a : Fin 2) (h : off = rowsOff r a) :
    m.read Val (m.writes Val f (⟨Rect.unit (s := S8192x256) off S512x128.size inb, w⟩ :: L)) = setRows (m.read Val (m.writes Val f L)) r a w :=
  View.read_writes_cons_put m f inb w L h
theorem read_whole (m : View sg κ sp S512x128 e) (f : m.ty.Contents Val) {off : Fin 2 → ℕ} (inb : ∀ b, off b + S512x128.size b ≤ S512x128.size b)
    (w : S512x128.Idx → Val e) (L : List (View.Piece Val S512x128 e)) :
    m.read Val (m.writes Val f (⟨Rect.unit (s := S512x128) off S512x128.size inb, w⟩ :: L)) = w := View.read_writes_full m f inb w L

end Access

/-! ## The loop -/

section Loop

variable (𝒱 : Variants) (c : Dev nD) (bd : Option 𝒱.V) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg1 : BitVec 32) (v22 : BitVec 32) (v75 : FVec F S512x128 .bf16) (v80 : FVec F S512x128 .bf16) (v95 : FVec F S512x512 .f32) (v107 : FVec F S512x512 .f32) (v123 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

/-- What the accumulators read. -/
abbrev readSt (f8 : BufTy.Contents (Elt F) arg8.view.ty) (f11 : BufTy.Contents (Elt F) arg11.view.ty) (f12 : BufTy.Contents (Elt F) arg12.view.ty)
    (f13 : BufTy.Contents (Elt F) arg13.view.ty) (f14 : BufTy.Contents (Elt F) arg14.view.ty) : St F :=
  ⟨arg8.view.read (Elt F) f8, arg11.view.read (Elt F) f11, arg12.view.read (Elt F) f12, arg13.view.read (Elt F) f13, arg14.view.read (Elt F) f14⟩
/-- What the inputs read. -/
abbrev readIns : Ins F :=
  ⟨arg2.view.read (Elt F) X_arg2, arg3.view.read (Elt F) X_arg3, arg4.view.read (Elt F) X_arg4, arg5.view.read (Elt F) X_arg5,
    arg6.view.read (Elt F) X_arg6, arg7.view.read (Elt F) X_arg7⟩

/-- One trip does one block's step. -/
theorem trip_read (k : Fin (k0_t1_loop i).trips) (f8 : BufTy.Contents (Elt F) arg8.view.ty) (f11 : BufTy.Contents (Elt F) arg11.view.ty)
    (f12 : BufTy.Contents (Elt F) arg12.view.ty) (f13 : BufTy.Contents (Elt F) arg13.view.ty) (f14 : BufTy.Contents (Elt F) arg14.view.ty) :
    let L := tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 k f8 f11 f12 f13 f14
    readSt arg8 arg11 arg12 arg13 arg14 (arg8.view.writes (Elt F) f8 L.1) (arg11.view.writes (Elt F) f11 L.2.1) (arg12.view.writes (Elt F) f12 L.2.2.1)
        (arg13.view.writes (Elt F) f13 L.2.2.2.1) (arg14.view.writes (Elt F) f14 L.2.2.2.2)
      = step (readIns arg2 arg3 arg4 arg5 arg6 arg7 X_arg2 X_arg3 X_arg4 X_arg5 X_arg6 X_arg7) (blockOf i k.val)
          (readSt arg8 arg11 arg12 arg13 arg14 f8 f11 f12 f13 f14) := by
  unfold tripL_k0_t1 trip_k0_t1
  unfold trip_k0_t1.sl.r trip_k0_t1.sl.r_1 trip_k0_t1.sl.r_2 trip_k0_t1.sl.r_3 trip_k0_t1.sl.r_4 trip_k0_t1.sl.r_5
    trip_k0_t1.sl.r_6 trip_k0_t1.sl.r_7 trip_k0_t1.sl.r_8 trip_k0_t1.sl.r_9 trip_k0_t1.sl.v234
  dsimp only
  refine St.ext ?_ ?_ ?_ ?_ ?_
  · refine (read_setRows arg8.view f8 _ _ _ (blockOf i k.val) 1 (off7 i k)).trans ?_
    refine (congrArg (fun x => setRows x (blockOf i k.val) 1 _) (read_setRows arg8.view f8 _ _ _ (blockOf i k.val) 0 (off5 i k))).trans ?_
    simp only [readAt_rows _ _ _ (blockOf i k.val) 0 (off5 i k), readAt_rows _ _ _ (blockOf i k.val) 1 (off7 i k), readAt_stat _ _ _ (blockOf i k.val) 0 (off6 i k),
      readAt_stat _ _ _ (blockOf i k.val) 1 (off8 i k), readAt_half _ _ inb_S512x256_S512x128_0_0 0 rfl, readAt_half _ _ inb_S512x256_S512x128_0_128 1 rfl,
      readAt_whole _ _ inb_S512x128_S512x128_0_0]
    rfl
  · refine (read_whole arg11.view f11 _ _ _).trans ?_
    simp only [readAt_rows _ _ _ (blockOf i k.val) 0 (off5 i k), readAt_rows _ _ _ (blockOf i k.val) 1 (off7 i k), readAt_stat _ _ _ (blockOf i k.val) 0 (off6 i k),
      readAt_stat _ _ _ (blockOf i k.val) 1 (off8 i k), readAt_half _ _ inb_S512x256_S512x128_0_0 0 rfl, readAt_half _ _ inb_S512x256_S512x128_0_128 1 rfl,
      readAt_whole _ _ inb_S512x128_S512x128_0_0]
    rfl
  · refine (read_whole arg12.view f12 _ _ _).trans ?_
    simp only [readAt_rows _ _ _ (blockOf i k.val) 0 (off5 i k), readAt_rows _ _ _ (blockOf i k.val) 1 (off7 i k), readAt_stat _ _ _ (blockOf i k.val) 0 (off6 i k),
      readAt_stat _ _ _ (blockOf i k.val) 1 (off8 i k), readAt_half _ _ inb_S512x256_S512x128_0_0 0 rfl, readAt_half _ _ inb_S512x256_S512x128_0_128 1 rfl,
      readAt_whole _ _ inb_S512x128_S512x128_0_0]
    rfl
  · refine (read_whole arg13.view f13 _ _ _).trans ?_
    simp only [readAt_rows _ _ _ (blockOf i k.val) 0 (off5 i k), readAt_rows _ _ _ (blockOf i k.val) 1 (off7 i k), readAt_stat _ _ _ (blockOf i k.val) 0 (off6 i k),
      readAt_stat _ _ _ (blockOf i k.val) 1 (off8 i k), readAt_half _ _ inb_S512x256_S512x128_0_0 0 rfl, readAt_half _ _ inb_S512x256_S512x128_0_128 1 rfl,
      readAt_whole _ _ inb_S512x128_S512x128_0_0]
    rfl
  · refine (read_whole arg14.view f14 _ _ _).trans ?_
    simp only [readAt_rows _ _ _ (blockOf i k.val) 0 (off5 i k), readAt_rows _ _ _ (blockOf i k.val) 1 (off7 i k), readAt_stat _ _ _ (blockOf i k.val) 0 (off6 i k),
      readAt_stat _ _ _ (blockOf i k.val) 1 (off8 i k), readAt_half _ _ inb_S512x256_S512x128_0_0 0 rfl, readAt_half _ _ inb_S512x256_S512x128_0_128 1 rfl,
      readAt_whole _ _ inb_S512x128_S512x128_0_0]
    rfl

/-- The accumulators after `k` trips from contents reading `S`. -/
def iter (x : Ins F) (i : grid0.Coords) (S : St F) : ℕ → St F
  | 0 => S
  | k + 1 => step x (blockOf i k) (iter x i S k)

variable (f8 : BufTy.Contents (Elt F) arg8.view.ty) (f11 : BufTy.Contents (Elt F) arg11.view.ty)
    (f12 : BufTy.Contents (Elt F) arg12.view.ty) (f13 : BufTy.Contents (Elt F) arg13.view.ty) (f14 : BufTy.Contents (Elt F) arg14.view.ty)

/-- What the accumulators read before trip `k`. -/
theorem loop_read (k : ℕ) (hk : k ≤ (k0_t1_loop i).trips) :
    let L := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 f8 f11 f12 f13 f14 k
    readSt arg8 arg11 arg12 arg13 arg14 (arg8.view.writes (Elt F) f8 L.1) (arg11.view.writes (Elt F) f11 L.2.1) (arg12.view.writes (Elt F) f12 L.2.2.1)
        (arg13.view.writes (Elt F) f13 L.2.2.2.1) (arg14.view.writes (Elt F) f14 L.2.2.2.2)
      = iter (readIns arg2 arg3 arg4 arg5 arg6 arg7 X_arg2 X_arg3 X_arg4 X_arg5 X_arg6 X_arg7) i
          (readSt arg8 arg11 arg12 arg13 arg14 f8 f11 f12 f13 f14) k := by
  induction k with
  | zero => rfl
  | succ k ih =>
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 f8 f11 f12 f13 f14 ⟨k, hk⟩
    dsimp only at e ⊢
    rw [e]
    simp only [View.writes_append]
    exact (trip_read 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 ⟨k, hk⟩ _ _ _ _ _).trans
      (congrArg (step _ (blockOf i k)) (ih (Nat.le_of_succ_le hk)))

end Loop

end Cert.AttnBwdIdeal.Val
-- ==== Proof.AttnBwdBody.lean ====
/- The attention backward's body at one grid point: what it leaves in the gradients' blocks, as a function on their
   contents, and its run from any contents of the scratch buffers. -/
module

public import proofs.«01_k».proof.Proof.AttnBwdStep
public import proofs.«01_k».proof.Proof.Gen.AttnBwdIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise

@[expose] public section

set_option maxRecDepth 16384

noncomputable section

namespace Cert.AttnBwdIdeal.Val

open Idealize.ShloMosaic Idealize.ShloMosaic.TcCoe Idealize.ShloMosaic.Tactic Cert.AttnBwdIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

/-- The logic's assertions over this program's memory. -/
abbrev Assert (F : FTy → Type) [FloatOps F] [Named F] := sProp (MT nD τ sig Unit (Elt F) ℕ (UR sig nD τ) ℕ)

/-- The row and column numbers the diagonal block's mask compares. -/
abbrev rowNo : IVec S512x512 32 := iota .tc S512x512 32 [0] iota_S512x512_d0_w32
abbrev colNo : IVec S512x512 32 := iota .tc S512x512 32 [1] iota_S512x512_d1_w32

/-- The step at the diagonal block `r`, with the causal mask. -/
def stepDiag (x : Ins F) (r : Fin 16) (S : St F) : St F :=
  let dq' := setRows S.dq r 0 (k0_pay47 (k0_pay45 (rows S.dq r 0)) (k0_pay46 (k0_pay37 (rows x.g r 0)) (k0_pay38 (half x.k 0))
    (k0_pay39 (rows x.q r 0) (half x.k 0)) k0_pay40 (stat x.lse r 0) (stat x.dl r 0) (half x.v 0)))
  ⟨setRows dq' r 1 (k0_pay56 (k0_pay50 (half x.k 1)) (k0_pay51 rowNo colNo (rows x.q r 1) (half x.k 1) (stat x.lse r 1))
      (k0_pay53 (rows x.g r 1) (stat x.dl r 1) (half x.v 1)) (rows S.dq r 1)),
    k0_pay44 (k0_pay36 (rows x.q r 0)) (k0_pay37 (rows x.g r 0)) (k0_pay39 (rows x.q r 0) (half x.k 0)) k0_pay40 (stat x.lse r 0) (stat x.dl r 0)
      (half x.v 0) S.k0,
    k0_pay55 (k0_pay48 (rows x.q r 1)) (k0_pay51 rowNo colNo (rows x.q r 1) (half x.k 1) (stat x.lse r 1))
      (k0_pay53 (rows x.g r 1) (stat x.dl r 1) (half x.v 1)) S.k1,
    k0_pay42 (k0_pay37 (rows x.g r 0)) (k0_pay39 (rows x.q r 0) (half x.k 0)) k0_pay40 (stat x.lse r 0) S.v0,
    k0_pay52 rowNo colNo (rows x.q r 1) (rows x.g r 1) (half x.k 1) (stat x.lse r 1) S.v1⟩

/-- Two heads' blocks side by side. -/
def join {α : Type} (a b : S512x128.Idx → α) : S512x256.Idx → α :=
  fun y => if h : (y 1).val < 128 then a (ix2 (y 0) ⟨(y 1).val, h⟩) else b (ix2 (y 0) ⟨(y 1).val - 128, by have : (y 1).val < 256 := (y 1).isLt; omega⟩)

/-- The branch conditions of the body: the first and the last key block. -/
abbrev isFirst (i : grid0.Coords) : Prop := (Scalar.cmpi .ne (Scalar.extui (Scalar.cmpi .eq (BitVec.ofNat 32 (i 1).val) 0#32)) 0#32) = 1#1
abbrev isLast (i : grid0.Coords) : Prop := (Scalar.cmpi .ne (Scalar.extui (Scalar.cmpi .eq (BitVec.ofNat 32 (i 1).val) 15#32)) 0#32) = 1#1

theorem isFirst_iff (i : grid0.Coords) : isFirst i ↔ (i 1).val = 0 :=
  (by decide +kernel : ∀ j : Fin 16, (Scalar.cmpi .ne (Scalar.extui (Scalar.cmpi .eq (BitVec.ofNat 32 j.val) 0#32)) 0#32) = 1#1 ↔ j.val = 0) (i 1)
theorem isLast_iff (i : grid0.Coords) : isLast i ↔ (i 1).val = 15 :=
  (by decide +kernel : ∀ j : Fin 16, (Scalar.cmpi .ne (Scalar.extui (Scalar.cmpi .eq (BitVec.ofNat 32 j.val) 15#32)) 0#32) = 1#1 ↔ j.val = 15) (i 1)

/-- The accumulators the point starts from: nothing gathered for its key block; the query gradient as found, or zero at
    the first key block. -/
def start (i : grid0.Coords) (dq : Vec F S8192x256 .f32) : St F :=
  ⟨if (i 1).val = 0 then k0_pay35 else dq, k0_pay31, k0_pay32, k0_pay33, k0_pay34⟩
/-- The accumulators after all query blocks from the diagonal on. -/
def gathered (x : Ins F) (i : grid0.Coords) (dq : Vec F S8192x256 .f32) : St F :=
  iter x i (stepDiag x (i 1) (start i dq)) (15 - (i 1).val)
/-- The query gradient the point leaves. -/
def dqOut (x : Ins F) (i : grid0.Coords) (dq : Vec F S8192x256 .f32) : Vec F S8192x256 .f32 :=
  if (i 1).val = 15 then k0_pay2 (gathered x i dq).dq else (gathered x i dq).dq
/-- The key gradient's block. -/
def dkOut (x : Ins F) (i : grid0.Coords) (dq : Vec F S8192x256 .f32) : Vec F S512x256 .f32 :=
  join (k0_pay65 (gathered x i dq).k0) (k0_pay1 (gathered x i dq).k1 (Scalar.ofBits .f32 0x3DD105EC#32))
/-- The value gradient's block. -/
def dvOut (x : Ins F) (i : grid0.Coords) (dq : Vec F S8192x256 .f32) : Vec F S512x256 .f32 :=
  join (gathered x i dq).v0 (gathered x i dq).v1

/-! ## What the body's stores before the loop leave -/

theorem off1 (i : grid0.Coords) : k0_off1 i = rowsOff (i 1) 0 := congrArg (fun n : ℕ => (![n, 0] : Fin 2 → ℕ)) (word_off (i 1))
theorem off3 (i : grid0.Coords) : k0_off3 i = rowsOff (i 1) 1 := congrArg (fun n : ℕ => (![n, 128] : Fin 2 → ℕ)) (word_off (i 1))
theorem off2 (i : grid0.Coords) : k0_off2 i = statOff (i 1) 0 := congrArg (fun n : ℕ => (![0, 0, n] : Fin 3 → ℕ)) (word_off (i 1))
theorem off4 (i : grid0.Coords) : k0_off4 i = statOff (i 1) 1 := congrArg (fun n : ℕ => (![0, 8, n] : Fin 3 → ℕ)) (word_off (i 1))

/-- A load of a scratch buffer that was filled whole. -/
theorem readCov_whole {Val : EltTy → Type} [∀ e, Inhabited (Val e)] {sg : RefSig} {κ : Kind} {sp : Space} {e : EltTy} (m : View sg κ sp S512x128 e)
    (w : S512x128.Idx → Val e) :
    m.readCov [⟨Rect.unit (s := S512x128) ![0, 0] S512x128.size inb_S512x128_S512x128_0_0, w⟩]
      (Rect.unit (s := S512x128) ![0, 0] S512x128.size inb_S512x128_S512x128_0_0).toLoadRect = w :=
  (readAt_whole m _ _).trans (read_whole m _ _ w [])

/-- A scratch buffer's contents after stores `R`, then `Q`, then `P`. -/
theorem cov_tail (m : View sig .tc .vmem S512x128 .f32) (P Q R : List (View.Piece (Elt F) S512x128 .f32)) :
    m.readCov (P ++ (Q ++ R)) (Rect.unit (s := S512x128) ![0, 0] S512x128.size inb_S512x128_S512x128_0_0).toLoadRect
      = m.read (Elt F) (m.writes (Elt F) (m.writes (Elt F) m.junk R) (P ++ Q)) := by
  rw [← List.append_assoc]
  exact (readAt_whole (Val := Elt F) m _ _).trans (congrArg (m.read (Elt F)) (View.writes_append m _ _ _))
theorem read_tail (m : View sig .tc .vmem S8192x256 .f32) (f : m.ty.Contents (Elt F)) (P Q R : List (View.Piece (Elt F) S8192x256 .f32)) :
    m.read (Elt F) (m.writes (Elt F) f (P ++ (Q ++ R))) = m.read (Elt F) (m.writes (Elt F) (m.writes (Elt F) f R) (P ++ Q)) := by
  rw [← List.append_assoc]
  exact congrArg (m.read (Elt F)) (View.writes_append m _ _ _)

/-- Two stores, one to either half, leave the two side by side. -/
theorem read_halves {Val : EltTy → Type} {sg : RefSig} {κ : Kind} {sp : Space} {e : EltTy} (m : View sg κ sp S512x256 e) (f : m.ty.Contents Val)
    (a b : S512x128.Idx → Val e) :
    m.read Val (m.writes Val f [⟨Rect.unit (s := S512x256) ![0, 128] S512x128.size inb_S512x256_S512x128_0_128, b⟩,
      ⟨Rect.unit (s := S512x256) ![0, 0] S512x128.size inb_S512x256_S512x128_0_0, a⟩]) = join a b := by
  refine (View.read_writes_cons_put m f _ b _ rfl).trans ?_
  rw [View.read_writes_cons_put m f inb_S512x256_S512x128_0_0 a [] rfl]
  funext y
  have hy : (y 1).val < 256 := (y 1).isLt
  have hx : (y 0).val < 512 := (y 0).isLt
  unfold put join
  by_cases h : (y 1).val < 128
  · have h1 : ¬∀ a : Fin 2, (![0, 128] : Fin 2 → ℕ) a ≤ (y a).val ∧ (y a).val < (![0, 128] : Fin 2 → ℕ) a + S512x128.size a :=
      fun H => by have := (H 1).1; change 128 ≤ (y 1).val at this; omega
    have h0 : ∀ a : Fin 2, (![0, 0] : Fin 2 → ℕ) a ≤ (y a).val ∧ (y a).val < (![0, 0] : Fin 2 → ℕ) a + S512x128.size a := by
      intro a; fin_cases a
      · show 0 ≤ (y 0).val ∧ (y 0).val < 0 + 512; omega
      · show 0 ≤ (y 1).val ∧ (y 1).val < 0 + 128; omega
    refine Eq.trans (dif_neg h1) (Eq.trans (dif_pos h0) (Eq.trans ?_ (dif_pos h).symm))
    refine congrArg a (funext fun a => ?_)
    fin_cases a
    · exact Fin.ext (by show (y 0).val - 0 = (y 0).val; omega)
    · exact Fin.ext (by show (y 1).val - 0 = (y 1).val; omega)
  · have h1 : ∀ a : Fin 2, (![0, 128] : Fin 2 → ℕ) a ≤ (y a).val ∧ (y a).val < (![0, 128] : Fin 2 → ℕ) a + S512x128.size a := by
      intro a; fin_cases a
      · show 0 ≤ (y 0).val ∧ (y 0).val < 0 + 512; omega
      · show 128 ≤ (y 1).val ∧ (y 1).val < 128 + 128; omega
    refine Eq.trans (dif_pos h1) (Eq.trans ?_ (dif_neg h).symm)
    refine congrArg b (funext fun a => ?_)
    fin_cases a
    · exact Fin.ext (by show (y 0).val - 0 = (y 0).val; omega)
    · exact Fin.ext (by show (y 1).val - 128 = (y 1).val - 128; omega)

/-- The query gradient's block at the start of a point, whole and by rows. -/
theorem start_first (i : grid0.Coords) (m : View sig .tc .vmem S8192x256 .f32) (f : m.ty.Contents (Elt F)) (dq : Vec F S8192x256 .f32)
    (h : (i 1).val = 0) :
    m.read (Elt F) (m.writes (Elt F) f [⟨Rect.unit (s := S8192x256) ![0, 0] S8192x256.size inb_S8192x256_S8192x256_0_0, k0_pay35⟩]) = (start i dq).dq :=
  (View.read_writes_full m f _ _ []).trans (if_pos h).symm
theorem rows_first0 (i : grid0.Coords) (m : View sig .tc .vmem S8192x256 .f32) (f : m.ty.Contents (Elt F)) (dq : Vec F S8192x256 .f32)
    (h : (i 1).val = 0) :
    m.readAt (Elt F) (Rect.unit (s := S8192x256) (k0_off1 i) S512x128.size (k0_off1_inb i)).toLoadRect (m.writes (Elt F) f [⟨Rect.unit (s := S8192x256) ![0, 0] S8192x256.size inb_S8192x256_S8192x256_0_0, k0_pay35⟩])
      = rows (start i dq).dq (i 1) 0 :=
  (readAt_rows m _ _ (i 1) 0 (off1 i)).trans (congrArg (fun x => rows x (i 1) 0) (start_first i m f dq h))
theorem rows_first1 (i : grid0.Coords) (m : View sig .tc .vmem S8192x256 .f32) (f : m.ty.Contents (Elt F)) (dq : Vec F S8192x256 .f32)
    (h : (i 1).val = 0) (w : S512x128.Idx → Elt F .f32) :
    m.readAt (Elt F) (Rect.unit (s := S8192x256) (k0_off3 i) S512x128.size (k0_off3_inb i)).toLoadRect (m.writes (Elt F) f [⟨Rect.unit (s := S8192x256) (k0_off1 i) S512x128.size (k0_off1_inb i), w⟩, ⟨Rect.unit (s := S8192x256) ![0, 0] S8192x256.size inb_S8192x256_S8192x256_0_0, k0_pay35⟩])
      = rows (start i dq).dq (i 1) 1 := by
  refine (readAt_rows m _ _ (i 1) 1 (off3 i)).trans ?_
  refine (congrArg (fun x => rows x (i 1) 1) (read_setRows m f _ w _ (i 1) 0 (off1 i))).trans ?_
  exact (rows_setRows _ (i 1) w).trans (congrArg (fun x => rows x (i 1) 1) (start_first i m f dq h))
theorem start_later (i : grid0.Coords) (dq : Vec F S8192x256 .f32) (h : ¬(i 1).val = 0) : dq = (start i dq).dq := (if_neg h).symm
theorem rows_later0 (i : grid0.Coords) (m : View sig .tc .vmem S8192x256 .f32) (f : m.ty.Contents (Elt F)) (dq : Vec F S8192x256 .f32)
    (hf : m.read (Elt F) f = dq) (h : ¬(i 1).val = 0) : m.readAt (Elt F) (Rect.unit (s := S8192x256) (k0_off1 i) S512x128.size (k0_off1_inb i)).toLoadRect f = rows (start i dq).dq (i 1) 0 :=
  (readAt_rows m _ _ (i 1) 0 (off1 i)).trans (congrArg (fun x => rows x (i 1) 0) (hf.trans (start_later i dq h)))
theorem rows_later1 (i : grid0.Coords) (m : View sig .tc .vmem S8192x256 .f32) (f : m.ty.Contents (Elt F)) (dq : Vec F S8192x256 .f32)
    (hf : m.read (Elt F) f = dq) (h : ¬(i 1).val = 0) : m.readAt (Elt F) (Rect.unit (s := S8192x256) (k0_off3 i) S512x128.size (k0_off3_inb i)).toLoadRect f = rows (start i dq).dq (i 1) 1 :=
  (readAt_rows m _ _ (i 1) 1 (off3 i)).trans (congrArg (fun x => rows x (i 1) 1) (hf.trans (start_later i dq h)))
/-- The last point's scaling of the whole block. -/
theorem read_last (m : View sig .tc .vmem S8192x256 .f32) (f : m.ty.Contents (Elt F)) (L : List (View.Piece (Elt F) S8192x256 .f32))
    {g : Vec F S8192x256 .f32} (h : m.read (Elt F) (m.writes (Elt F) f L) = g) :
    m.read (Elt F) (m.writes (Elt F) f (⟨Rect.unit (s := S8192x256) ![0, 0] S8192x256.size inb_S8192x256_S8192x256_0_0,
      k0_pay2 (m.readAt (Elt F) (Rect.unit (s := S8192x256) ![0, 0] S8192x256.size inb_S8192x256_S8192x256_0_0).toLoadRect (m.writes (Elt F) f L))⟩ :: L))
      = k0_pay2 g :=
  (View.read_writes_full m f _ _ L).trans (congrArg k0_pay2 ((View.readAt_full m _ _).trans h))

section Entry

variable (𝒱 : Variants) (c : Dev nD) (bd : Option 𝒱.V) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg1 : BitVec 32) (v22 : BitVec 32) (v75 : FVec F S512x128 .bf16) (v80 : FVec F S512x128 .bf16) (v95 : FVec F S512x512 .f32) (v107 : FVec F S512x512 .f32) (v123 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)

set_option maxHeartbeats 1000000 in
theorem entry_read (f8 : BufTy.Contents (Elt F) arg8.view.ty) (L8 : List (View.Piece (Elt F) S8192x256 .f32)) (dq : Vec F S8192x256 .f32)
    (R1 R3 : Vec F S512x128 .f32)
    (h8 : arg8.view.read (Elt F) (arg8.view.writes (Elt F) f8 L8) = (start i dq).dq) (hR1 : R1 = rows (start i dq).dq (i 1) 0) (hR3 : R3 = rows (start i dq).dq (i 1) 1) :
    readSt arg8 arg11 arg12 arg13 arg14
      (arg8.view.writes (Elt F) f8 (⟨Rect.unit (s := S8192x256) (k0_off3 i) S512x128.size (k0_off3_inb i), k0_pay56 (k0_pay50 (arg3.view.readAt (Elt F) (Rect.unit (s := S512x256) ![0, 128] S512x128.size inb_S512x256_S512x128_0_128).toLoadRect X_arg3)) (k0_pay51 rowNo colNo (arg2.view.readAt (Elt F) (Rect.unit (s := S8192x256) (k0_off3 i) S512x128.size (k0_off3_inb i)).toLoadRect X_arg2) (arg3.view.readAt (Elt F) (Rect.unit (s := S512x256) ![0, 128] S512x128.size inb_S512x256_S512x128_0_128).toLoadRect X_arg3) (arg6.view.readAt (Elt F) (Rect.unit (s := S1x16x8192) (k0_off4 i) S1x1x512.size (k0_off4_inb i)).toLoadRect X_arg6)) (k0_pay53 (arg5.view.readAt (Elt F) (Rect.unit (s := S8192x256) (k0_off3 i) S512x128.size (k0_off3_inb i)).toLoadRect X_arg5) (arg7.view.readAt (Elt F) (Rect.unit (s := S1x16x8192) (k0_off4 i) S1x1x512.size (k0_off4_inb i)).toLoadRect X_arg7) (arg4.view.readAt (Elt F) (Rect.unit (s := S512x256) ![0, 128] S512x128.size inb_S512x256_S512x128_0_128).toLoadRect X_arg4)) R3⟩ ::
        ⟨Rect.unit (s := S8192x256) (k0_off1 i) S512x128.size (k0_off1_inb i), k0_pay47 (k0_pay45 R1) (k0_pay46 (k0_pay37 (arg5.view.readAt (Elt F) (Rect.unit (s := S8192x256) (k0_off1 i) S512x128.size (k0_off1_inb i)).toLoadRect X_arg5)) (k0_pay38 (arg3.view.readAt (Elt F) (Rect.unit (s := S512x256) ![0, 0] S512x128.size inb_S512x256_S512x128_0_0).toLoadRect X_arg3)) (k0_pay39 (arg2.view.readAt (Elt F) (Rect.unit (s := S8192x256) (k0_off1 i) S512x128.size (k0_off1_inb i)).toLoadRect X_arg2) (arg3.view.readAt (Elt F) (Rect.unit (s := S512x256) ![0, 0] S512x128.size inb_S512x256_S512x128_0_0).toLoadRect X_arg3)) k0_pay40 (arg6.view.readAt (Elt F) (Rect.unit (s := S1x16x8192) (k0_off2 i) S1x1x512.size (k0_off2_inb i)).toLoadRect X_arg6) (arg7.view.readAt (Elt F) (Rect.unit (s := S1x16x8192) (k0_off2 i) S1x1x512.size (k0_off2_inb i)).toLoadRect X_arg7) (arg4.view.readAt (Elt F) (Rect.unit (s := S512x256) ![0, 0] S512x128.size inb_S512x256_S512x128_0_0).toLoadRect X_arg4))⟩ :: L8))
      (arg11.view.writes (Elt F) arg11.view.junk [⟨Rect.unit (s := S512x128) ![0, 0] S512x128.size inb_S512x128_S512x128_0_0, k0_pay44 (k0_pay36 (arg2.view.readAt (Elt F) (Rect.unit (s := S8192x256) (k0_off1 i) S512x128.size (k0_off1_inb i)).toLoadRect X_arg2)) (k0_pay37 (arg5.view.readAt (Elt F) (Rect.unit (s := S8192x256) (k0_off1 i) S512x128.size (k0_off1_inb i)).toLoadRect X_arg5)) (k0_pay39 (arg2.view.readAt (Elt F) (Rect.unit (s := S8192x256) (k0_off1 i) S512x128.size (k0_off1_inb i)).toLoadRect X_arg2) (arg3.view.readAt (Elt F) (Rect.unit (s := S512x256) ![0, 0] S512x128.size inb_S512x256_S512x128_0_0).toLoadRect X_arg3)) k0_pay40 (arg6.view.readAt (Elt F) (Rect.unit (s := S1x16x8192) (k0_off2 i) S1x1x512.size (k0_off2_inb i)).toLoadRect X_arg6) (arg7.view.readAt (Elt F) (Rect.unit (s := S1x16x8192) (k0_off2 i) S1x1x512.size (k0_off2_inb i)).toLoadRect X_arg7) (arg4.view.readAt (Elt F) (Rect.unit (s := S512x256) ![0, 0] S512x128.size inb_S512x256_S512x128_0_0).toLoadRect X_arg4) (arg11.view.readCov [⟨Rect.unit (s := S512x128) ![0, 0] S512x128.size inb_S512x128_S512x128_0_0, k0_pay31⟩] (Rect.unit (s := S512x128) ![0, 0] S512x128.size inb_S512x128_S512x128_0_0).toLoadRect)⟩, ⟨Rect.unit (s := S512x128) ![0, 0] S512x128.size inb_S512x128_S512x128_0_0, k0_pay31⟩])
      (arg12.view.writes (Elt F) arg12.view.junk [⟨Rect.unit (s := S512x128) ![0, 0] S512x128.size inb_S512x128_S512x128_0_0, k0_pay55 (k0_pay48 (arg2.view.readAt (Elt F) (Rect.unit (s := S8192x256) (k0_off3 i) S512x128.size (k0_off3_inb i)).toLoadRect X_arg2)) (k0_pay51 rowNo colNo (arg2.view.readAt (Elt F) (Rect.unit (s := S8192x256) (k0_off3 i) S512x128.size (k0_off3_inb i)).toLoadRect X_arg2) (arg3.view.readAt (Elt F) (Rect.unit (s := S512x256) ![0, 128] S512x128.size inb_S512x256_S512x128_0_128).toLoadRect X_arg3) (arg6.view.readAt (Elt F) (Rect.unit (s := S1x16x8192) (k0_off4 i) S1x1x512.size (k0_off4_inb i)).toLoadRect X_arg6)) (k0_pay53 (arg5.view.readAt (Elt F) (Rect.unit (s := S8192x256) (k0_off3 i) S512x128.size (k0_off3_inb i)).toLoadRect X_arg5) (arg7.view.readAt (Elt F) (Rect.unit (s := S1x16x8192) (k0_off4 i) S1x1x512.size (k0_off4_inb i)).toLoadRect X_arg7) (arg4.view.readAt (Elt F) (Rect.unit (s := S512x256) ![0, 128] S512x128.size inb_S512x256_S512x128_0_128).toLoadRect X_arg4)) (arg12.view.readCov [⟨Rect.unit (s := S512x128) ![0, 0] S512x128.size inb_S512x128_S512x128_0_0, k0_pay32⟩] (Rect.unit (s := S512x128) ![0, 0] S512x128.size inb_S512x128_S512x128_0_0).toLoadRect)⟩, ⟨Rect.unit (s := S512x128) ![0, 0] S512x128.size inb_S512x128_S512x128_0_0, k0_pay32⟩])
      (arg13.view.writes (Elt F) arg13.view.junk [⟨Rect.unit (s := S512x128) ![0, 0] S512x128.size inb_S512x128_S512x128_0_0, k0_pay42 (k0_pay37 (arg5.view.readAt (Elt F) (Rect.unit (s := S8192x256) (k0_off1 i) S512x128.size (k0_off1_inb i)).toLoadRect X_arg5)) (k0_pay39 (arg2.view.readAt (Elt F) (Rect.unit (s := S8192x256) (k0_off1 i) S512x128.size (k0_off1_inb i)).toLoadRect X_arg2) (arg3.view.readAt (Elt F) (Rect.unit (s := S512x256) ![0, 0] S512x128.size inb_S512x256_S512x128_0_0).toLoadRect X_arg3)) k0_pay40 (arg6.view.readAt (Elt F) (Rect.unit (s := S1x16x8192) (k0_off2 i) S1x1x512.size (k0_off2_inb i)).toLoadRect X_arg6) (arg13.view.readCov [⟨Rect.unit (s := S512x128) ![0, 0] S512x128.size inb_S512x128_S512x128_0_0, k0_pay33⟩] (Rect.unit (s := S512x128) ![0, 0] S512x128.size inb_S512x128_S512x128_0_0).toLoadRect)⟩, ⟨Rect.unit (s := S512x128) ![0, 0] S512x128.size inb_S512x128_S512x128_0_0, k0_pay33⟩])
      (arg14.view.writes (Elt F) arg14.view.junk [⟨Rect.unit (s := S512x128) ![0, 0] S512x128.size inb_S512x128_S512x128_0_0, k0_pay52 rowNo colNo (arg2.view.readAt (Elt F) (Rect.unit (s := S8192x256) (k0_off3 i) S512x128.size (k0_off3_inb i)).toLoadRect X_arg2) (arg5.view.readAt (Elt F) (Rect.unit (s := S8192x256) (k0_off3 i) S512x128.size (k0_off3_inb i)).toLoadRect X_arg5) (arg3.view.readAt (Elt F) (Rect.unit (s := S512x256) ![0, 128] S512x128.size inb_S512x256_S512x128_0_128).toLoadRect X_arg3) (arg6.view.readAt (Elt F) (Rect.unit (s := S1x16x8192) (k0_off4 i) S1x1x512.size (k0_off4_inb i)).toLoadRect X_arg6) (arg14.view.readCov [⟨Rect.unit (s := S512x128) ![0, 0] S512x128.size inb_S512x128_S512x128_0_0, k0_pay34⟩] (Rect.unit (s := S512x128) ![0, 0] S512x128.size inb_S512x128_S512x128_0_0).toLoadRect)⟩, ⟨Rect.unit (s := S512x128) ![0, 0] S512x128.size inb_S512x128_S512x128_0_0, k0_pay34⟩])
      = stepDiag (readIns arg2 arg3 arg4 arg5 arg6 arg7 X_arg2 X_arg3 X_arg4 X_arg5 X_arg6 X_arg7) (i 1) (start i dq) := by
  refine St.ext ?_ ?_ ?_ ?_ ?_
  · refine (read_setRows arg8.view f8 _ _ _ (i 1) 1 (off3 i)).trans ?_
    refine (congrArg (fun x => setRows x (i 1) 1 _) (read_setRows arg8.view f8 _ _ _ (i 1) 0 (off1 i))).trans ?_
    simp only [readAt_rows _ _ _ (i 1) 0 (off1 i), readAt_rows _ _ _ (i 1) 1 (off3 i), readAt_stat _ _ _ (i 1) 0 (off2 i),
      readAt_stat _ _ _ (i 1) 1 (off4 i), readAt_half _ _ inb_S512x256_S512x128_0_0 0 rfl, readAt_half _ _ inb_S512x256_S512x128_0_128 1 rfl,
      h8, hR1, hR3]
    rfl
  · refine (read_whole arg11.view _ _ _ _).trans ((congrArg (k0_pay44 _ _ _ _ _ _ _) (readCov_whole (Val := Elt F) arg11.view k0_pay31)).trans ?_)
    simp only [readAt_rows _ _ _ (i 1) 0 (off1 i), readAt_rows _ _ _ (i 1) 1 (off3 i), readAt_stat _ _ _ (i 1) 0 (off2 i),
      readAt_stat _ _ _ (i 1) 1 (off4 i), readAt_half _ _ inb_S512x256_S512x128_0_0 0 rfl, readAt_half _ _ inb_S512x256_S512x128_0_128 1 rfl,
      h8, hR1, hR3]
    rfl
  · refine (read_whole arg12.view _ _ _ _).trans ((congrArg (k0_pay55 _ _ _) (readCov_whole (Val := Elt F) arg12.view k0_pay32)).trans ?_)
    simp only [readAt_rows _ _ _ (i 1) 0 (off1 i), readAt_rows _ _ _ (i 1) 1 (off3 i), readAt_stat _ _ _ (i 1) 0 (off2 i),
      readAt_stat _ _ _ (i 1) 1 (off4 i), readAt_half _ _ inb_S512x256_S512x128_0_0 0 rfl, readAt_half _ _ inb_S512x256_S512x128_0_128 1 rfl,
      h8, hR1, hR3]
    rfl
  · refine (read_whole arg13.view _ _ _ _).trans ((congrArg (k0_pay42 _ _ _ _) (readCov_whole (Val := Elt F) arg13.view k0_pay33)).trans ?_)
    simp only [readAt_rows _ _ _ (i 1) 0 (off1 i), readAt_rows _ _ _ (i 1) 1 (off3 i), readAt_stat _ _ _ (i 1) 0 (off2 i),
      readAt_stat _ _ _ (i 1) 1 (off4 i), readAt_half _ _ inb_S512x256_S512x128_0_0 0 rfl, readAt_half _ _ inb_S512x256_S512x128_0_128 1 rfl,
      h8, hR1, hR3]
    rfl
  · refine (read_whole arg14.view _ _ _ _).trans ((congrArg (k0_pay52 _ _ _ _ _ _) (readCov_whole (Val := Elt F) arg14.view k0_pay34)).trans ?_)
    simp only [readAt_rows _ _ _ (i 1) 0 (off1 i), readAt_rows _ _ _ (i 1) 1 (off3 i), readAt_stat _ _ _ (i 1) 0 (off2 i),
      readAt_stat _ _ _ (i 1) 1 (off4 i), readAt_half _ _ inb_S512x256_S512x128_0_0 0 rfl, readAt_half _ _ inb_S512x256_S512x128_0_128 1 rfl,
      h8, hR1, hR3]
    rfl

/-- What the accumulators read after both loops: the second has no trip. -/
theorem done_read (v128 : BitVec 32) (g8 w8 : BufTy.Contents (Elt F) arg8.view.ty) (g11 w11 : BufTy.Contents (Elt F) arg11.view.ty)
    (g12 w12 : BufTy.Contents (Elt F) arg12.view.ty) (g13 w13 : BufTy.Contents (Elt F) arg13.view.ty) (g14 w14 : BufTy.Contents (Elt F) arg14.view.ty)
    (x : Ins F) (dq : Vec F S8192x256 .f32) (hx : readIns arg2 arg3 arg4 arg5 arg6 arg7 X_arg2 X_arg3 X_arg4 X_arg5 X_arg6 X_arg7 = x)
    (hS : readSt arg8 arg11 arg12 arg13 arg14 g8 g11 g12 g13 g14 = stepDiag x (i 1) (start i dq)) :
    let T := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 g8 g11 g12 g13 g14 (k0_t1_loop i).trips
    let U := pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v128 X_arg2 X_arg3 X_arg4 X_arg5 X_arg6 X_arg7 w8 w11 w12 w13 w14 (k0_t2_loop i).trips
    readSt arg8 arg11 arg12 arg13 arg14 (arg8.view.writes (Elt F) g8 (U.1 ++ T.1)) (arg11.view.writes (Elt F) g11 (U.2.1 ++ T.2.1))
        (arg12.view.writes (Elt F) g12 (U.2.2.1 ++ T.2.2.1)) (arg13.view.writes (Elt F) g13 (U.2.2.2.1 ++ T.2.2.2.1))
        (arg14.view.writes (Elt F) g14 (U.2.2.2.2 ++ T.2.2.2.2))
      = gathered x i dq := by
  have hU : pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v128 X_arg2 X_arg3 X_arg4 X_arg5 X_arg6 X_arg7 w8 w11 w12 w13 w14 (k0_t2_loop i).trips = ([], [], [], [], []) := by rw [trips2]; rfl
  dsimp only
  rw [hU]
  simp only [List.nil_append]
  refine (loop_read 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 g8 g11 g12 g13 g14 _ le_rfl).trans ?_
  rw [hx, hS, trips1]; rfl

set_option maxHeartbeats 2000000 in
/-- What the accumulators read at the end of a point, from the stores in the order they were made. -/
theorem after_read (v128 : BitVec 32) (f8 : BufTy.Contents (Elt F) arg8.view.ty) (L8 : List (View.Piece (Elt F) S8192x256 .f32))
    (w8 : BufTy.Contents (Elt F) arg8.view.ty) (w11 : BufTy.Contents (Elt F) arg11.view.ty)
    (w12 : BufTy.Contents (Elt F) arg12.view.ty) (w13 : BufTy.Contents (Elt F) arg13.view.ty) (w14 : BufTy.Contents (Elt F) arg14.view.ty)
    (x : Ins F) (dq : Vec F S8192x256 .f32) (hx : readIns arg2 arg3 arg4 arg5 arg6 arg7 X_arg2 X_arg3 X_arg4 X_arg5 X_arg6 X_arg7 = x)
    (R1 R3 : Vec F S512x128 .f32)
    (h8 : arg8.view.read (Elt F) (arg8.view.writes (Elt F) f8 L8) = (start i dq).dq) (hR1 : R1 = rows (start i dq).dq (i 1) 0) (hR3 : R3 = rows (start i dq).dq (i 1) 1) :
    let E8 : List (View.Piece (Elt F) S8192x256 .f32) := (⟨Rect.unit (s := S8192x256) (k0_off3 i) S512x128.size (k0_off3_inb i), k0_pay56 (k0_pay50 (arg3.view.readAt (Elt F) (Rect.unit (s := S512x256) ![0, 128] S512x128.size inb_S512x256_S512x128_0_128).toLoadRect X_arg3)) (k0_pay51 rowNo colNo (arg2.view.readAt (Elt F) (Rect.unit (s := S8192x256) (k0_off3 i) S512x128.size (k0_off3_inb i)).toLoadRect X_arg2) (arg3.view.readAt (Elt F) (Rect.unit (s := S512x256) ![0, 128] S512x128.size inb_S512x256_S512x128_0_128).toLoadRect X_arg3) (arg6.view.readAt (Elt F) (Rect.unit (s := S1x16x8192) (k0_off4 i) S1x1x512.size (k0_off4_inb i)).toLoadRect X_arg6)) (k0_pay53 (arg5.view.readAt (Elt F) (Rect.unit (s := S8192x256) (k0_off3 i) S512x128.size (k0_off3_inb i)).toLoadRect X_arg5) (arg7.view.readAt (Elt F) (Rect.unit (s := S1x16x8192) (k0_off4 i) S1x1x512.size (k0_off4_inb i)).toLoadRect X_arg7) (arg4.view.readAt (Elt F) (Rect.unit (s := S512x256) ![0, 128] S512x128.size inb_S512x256_S512x128_0_128).toLoadRect X_arg4)) R3⟩ ::
        ⟨Rect.unit (s := S8192x256) (k0_off1 i) S512x128.size (k0_off1_inb i), k0_pay47 (k0_pay45 R1) (k0_pay46 (k0_pay37 (arg5.view.readAt (Elt F) (Rect.unit (s := S8192x256) (k0_off1 i) S512x128.size (k0_off1_inb i)).toLoadRect X_arg5)) (k0_pay38 (arg3.view.readAt (Elt F) (Rect.unit (s := S512x256) ![0, 0] S512x128.size inb_S512x256_S512x128_0_0).toLoadRect X_arg3)) (k0_pay39 (arg2.view.readAt (Elt F) (Rect.unit (s := S8192x256) (k0_off1 i) S512x128.size (k0_off1_inb i)).toLoadRect X_arg2) (arg3.view.readAt (Elt F) (Rect.unit (s := S512x256) ![0, 0] S512x128.size inb_S512x256_S512x128_0_0).toLoadRect X_arg3)) k0_pay40 (arg6.view.readAt (Elt F) (Rect.unit (s := S1x16x8192) (k0_off2 i) S1x1x512.size (k0_off2_inb i)).toLoadRect X_arg6) (arg7.view.readAt (Elt F) (Rect.unit (s := S1x16x8192) (k0_off2 i) S1x1x512.size (k0_off2_inb i)).toLoadRect X_arg7) (arg4.view.readAt (Elt F) (Rect.unit (s := S512x256) ![0, 0] S512x128.size inb_S512x256_S512x128_0_0).toLoadRect X_arg4))⟩ :: L8)
    let E11 : List (View.Piece (Elt F) S512x128 .f32) := [⟨Rect.unit (s := S512x128) ![0, 0] S512x128.size inb_S512x128_S512x128_0_0, k0_pay44 (k0_pay36 (arg2.view.readAt (Elt F) (Rect.unit (s := S8192x256) (k0_off1 i) S512x128.size (k0_off1_inb i)).toLoadRect X_arg2)) (k0_pay37 (arg5.view.readAt (Elt F) (Rect.unit (s := S8192x256) (k0_off1 i) S512x128.size (k0_off1_inb i)).toLoadRect X_arg5)) (k0_pay39 (arg2.view.readAt (Elt F) (Rect.unit (s := S8192x256) (k0_off1 i) S512x128.size (k0_off1_inb i)).toLoadRect X_arg2) (arg3.view.readAt (Elt F) (Rect.unit (s := S512x256) ![0, 0] S512x128.size inb_S512x256_S512x128_0_0).toLoadRect X_arg3)) k0_pay40 (arg6.view.readAt (Elt F) (Rect.unit (s := S1x16x8192) (k0_off2 i) S1x1x512.size (k0_off2_inb i)).toLoadRect X_arg6) (arg7.view.readAt (Elt F) (Rect.unit (s := S1x16x8192) (k0_off2 i) S1x1x512.size (k0_off2_inb i)).toLoadRect X_arg7) (arg4.view.readAt (Elt F) (Rect.unit (s := S512x256) ![0, 0] S512x128.size inb_S512x256_S512x128_0_0).toLoadRect X_arg4) (arg11.view.readCov [⟨Rect.unit (s := S512x128) ![0, 0] S512x128.size inb_S512x128_S512x128_0_0, k0_pay31⟩] (Rect.unit (s := S512x128) ![0, 0] S512x128.size inb_S512x128_S512x128_0_0).toLoadRect)⟩, ⟨Rect.unit (s := S512x128) ![0, 0] S512x128.size inb_S512x128_S512x128_0_0, k0_pay31⟩]
    let E12 : List (View.Piece (Elt F) S512x128 .f32) := [⟨Rect.unit (s := S512x128) ![0, 0] S512x128.size inb_S512x128_S512x128_0_0, k0_pay55 (k0_pay48 (arg2.view.readAt (Elt F) (Rect.unit (s := S8192x256) (k0_off3 i) S512x128.size (k0_off3_inb i)).toLoadRect X_arg2)) (k0_pay51 rowNo colNo (arg2.view.readAt (Elt F) (Rect.unit (s := S8192x256) (k0_off3 i) S512x128.size (k0_off3_inb i)).toLoadRect X_arg2) (arg3.view.readAt (Elt F) (Rect.unit (s := S512x256) ![0, 128] S512x128.size inb_S512x256_S512x128_0_128).toLoadRect X_arg3) (arg6.view.readAt (Elt F) (Rect.unit (s := S1x16x8192) (k0_off4 i) S1x1x512.size (k0_off4_inb i)).toLoadRect X_arg6)) (k0_pay53 (arg5.view.readAt (Elt F) (Rect.unit (s := S8192x256) (k0_off3 i) S512x128.size (k0_off3_inb i)).toLoadRect X_arg5) (arg7.view.readAt (Elt F) (Rect.unit (s := S1x16x8192) (k0_off4 i) S1x1x512.size (k0_off4_inb i)).toLoadRect X_arg7) (arg4.view.readAt (Elt F) (Rect.unit (s := S512x256) ![0, 128] S512x128.size inb_S512x256_S512x128_0_128).toLoadRect X_arg4)) (arg12.view.readCov [⟨Rect.unit (s := S512x128) ![0, 0] S512x128.size inb_S512x128_S512x128_0_0, k0_pay32⟩] (Rect.unit (s := S512x128) ![0, 0] S512x128.size inb_S512x128_S512x128_0_0).toLoadRect)⟩, ⟨Rect.unit (s := S512x128) ![0, 0] S512x128.size inb_S512x128_S512x128_0_0, k0_pay32⟩]
    let E13 : List (View.Piece (Elt F) S512x128 .f32) := [⟨Rect.unit (s := S512x128) ![0, 0] S512x128.size inb_S512x128_S512x128_0_0, k0_pay42 (k0_pay37 (arg5.view.readAt (Elt F) (Rect.unit (s := S8192x256) (k0_off1 i) S512x128.size (k0_off1_inb i)).toLoadRect X_arg5)) (k0_pay39 (arg2.view.readAt (Elt F) (Rect.unit (s := S8192x256) (k0_off1 i) S512x128.size (k0_off1_inb i)).toLoadRect X_arg2) (arg3.view.readAt (Elt F) (Rect.unit (s := S512x256) ![0, 0] S512x128.size inb_S512x256_S512x128_0_0).toLoadRect X_arg3)) k0_pay40 (arg6.view.readAt (Elt F) (Rect.unit (s := S1x16x8192) (k0_off2 i) S1x1x512.size (k0_off2_inb i)).toLoadRect X_arg6) (arg13.view.readCov [⟨Rect.unit (s := S512x128) ![0, 0] S512x128.size inb_S512x128_S512x128_0_0, k0_pay33⟩] (Rect.unit (s := S512x128) ![0, 0] S512x128.size inb_S512x128_S512x128_0_0).toLoadRect)⟩, ⟨Rect.unit (s := S512x128) ![0, 0] S512x128.size inb_S512x128_S512x128_0_0, k0_pay33⟩]
    let E14 : List (View.Piece (Elt F) S512x128 .f32) := [⟨Rect.unit (s := S512x128) ![0, 0] S512x128.size inb_S512x128_S512x128_0_0, k0_pay52 rowNo colNo (arg2.view.readAt (Elt F) (Rect.unit (s := S8192x256) (k0_off3 i) S512x128.size (k0_off3_inb i)).toLoadRect X_arg2) (arg5.view.readAt (Elt F) (Rect.unit (s := S8192x256) (k0_off3 i) S512x128.size (k0_off3_inb i)).toLoadRect X_arg5) (arg3.view.readAt (Elt F) (Rect.unit (s := S512x256) ![0, 128] S512x128.size inb_S512x256_S512x128_0_128).toLoadRect X_arg3) (arg6.view.readAt (Elt F) (Rect.unit (s := S1x16x8192) (k0_off4 i) S1x1x512.size (k0_off4_inb i)).toLoadRect X_arg6) (arg14.view.readCov [⟨Rect.unit (s := S512x128) ![0, 0] S512x128.size inb_S512x128_S512x128_0_0, k0_pay34⟩] (Rect.unit (s := S512x128) ![0, 0] S512x128.size inb_S512x128_S512x128_0_0).toLoadRect)⟩, ⟨Rect.unit (s := S512x128) ![0, 0] S512x128.size inb_S512x128_S512x128_0_0, k0_pay34⟩]
    let g8 := arg8.view.writes (Elt F) f8 E8
    let g11 := arg11.view.writes (Elt F) arg11.view.junk E11
    let g12 := arg12.view.writes (Elt F) arg12.view.junk E12
    let g13 := arg13.view.writes (Elt F) arg13.view.junk E13
    let g14 := arg14.view.writes (Elt F) arg14.view.junk E14
    let T := pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 g8 g11 g12 g13 g14 (Scf.trips (k0_t1_loop i).lb (k0_t1_loop i).ub (k0_t1_loop i).st)
    let U := pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v128 X_arg2 X_arg3 X_arg4 X_arg5 X_arg6 X_arg7 w8 w11 w12 w13 w14 (Scf.trips (k0_t2_loop i).lb (k0_t2_loop i).ub (k0_t2_loop i).st)
    arg8.view.read (Elt F) (arg8.view.writes (Elt F) f8 (U.1 ++ (T.1 ++ E8))) = (gathered x i dq).dq
      ∧ arg11.view.readCov (U.2.1 ++ (T.2.1 ++ E11)) (Rect.unit (s := S512x128) ![0, 0] S512x128.size inb_S512x128_S512x128_0_0).toLoadRect = (gathered x i dq).k0
      ∧ arg12.view.readCov (U.2.2.1 ++ (T.2.2.1 ++ E12)) (Rect.unit (s := S512x128) ![0, 0] S512x128.size inb_S512x128_S512x128_0_0).toLoadRect = (gathered x i dq).k1
      ∧ arg13.view.readCov (U.2.2.2.1 ++ (T.2.2.2.1 ++ E13)) (Rect.unit (s := S512x128) ![0, 0] S512x128.size inb_S512x128_S512x128_0_0).toLoadRect = (gathered x i dq).v0
      ∧ arg14.view.readCov (U.2.2.2.2 ++ (T.2.2.2.2 ++ E14)) (Rect.unit (s := S512x128) ![0, 0] S512x128.size inb_S512x128_S512x128_0_0).toLoadRect = (gathered x i dq).v1 := by
  intro E8 E11 E12 E13 E14 g8 g11 g12 g13 g14 T U
  have hS : readSt arg8 arg11 arg12 arg13 arg14 g8 g11 g12 g13 g14 = stepDiag x (i 1) (start i dq) :=
    hx ▸ entry_read i arg2 arg3 arg4 arg5 arg6 arg7 arg8 arg11 arg12 arg13 arg14 X_arg2 X_arg3 X_arg4 X_arg5 X_arg6 X_arg7 f8 L8 dq R1 R3 h8 hR1 hR3
  have H : readSt arg8 arg11 arg12 arg13 arg14 (arg8.view.writes (Elt F) g8 (U.1 ++ T.1)) (arg11.view.writes (Elt F) g11 (U.2.1 ++ T.2.1))
        (arg12.view.writes (Elt F) g12 (U.2.2.1 ++ T.2.2.1)) (arg13.view.writes (Elt F) g13 (U.2.2.2.1 ++ T.2.2.2.1))
        (arg14.view.writes (Elt F) g14 (U.2.2.2.2 ++ T.2.2.2.2)) = gathered x i dq :=
    done_read 𝒱 c bd i arg2 harg2 arg3 harg3 arg4 harg4 arg5 harg5 arg6 harg6 arg7 harg7 arg8 harg8 arg9 harg9 arg10 harg10 arg11 harg11 arg12 harg12 arg13 harg13 arg14 harg14 arg1 v22 v75 v80 v95 v107 v123 X_arg2 X_arg3 X_arg4 X_arg5 X_arg6 X_arg7 v128 g8 w8 g11 w11 g12 w12 g13 w13 g14 w14 x dq hx hS
  clear_value U T
  refine ⟨?_, ?_, ?_, ?_, ?_⟩
  · exact (read_tail arg8.view f8 U.1 T.1 E8).trans (congrArg St.dq H)
  · exact (cov_tail arg11.view U.2.1 T.2.1 E11).trans (congrArg St.k0 H)
  · exact (cov_tail arg12.view U.2.2.1 T.2.2.1 E12).trans (congrArg St.k1 H)
  · exact (cov_tail arg13.view U.2.2.2.1 T.2.2.2.1 E13).trans (congrArg St.v0 H)
  · exact (cov_tail arg14.view U.2.2.2.2 T.2.2.2.2 E14).trans (congrArg St.v1 H)

end Entry

set_option maxHeartbeats 4000000 in
/-- The body's run. -/
theorem body_run (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S1x16x8192 .f32) (harg6 : arg6.IsWhole) (arg7 : Memref sig .tc .vmem S1x16x8192 .f32) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole)
    (x : Ins F) (dq : Vec F S8192x256 .f32) (E : Set ℕ) (K : PUnit → Assert F) :
    iprop(owns (c : Thread nD τ) arg2 fullShare x.q ∗ owns (c : Thread nD τ) arg3 fullShare x.k ∗ owns (c : Thread nD τ) arg4 fullShare x.v ∗ owns (c : Thread nD τ) arg5 fullShare x.g ∗ owns (c : Thread nD τ) arg6 fullShare x.lse ∗ owns (c : Thread nD τ) arg7 fullShare x.dl ∗ owns (c : Thread nD τ) arg8 fullShare dq ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x.q ∗ owns (c : Thread nD τ) arg3 fullShare x.k ∗ owns (c : Thread nD τ) arg4 fullShare x.v ∗ owns (c : Thread nD τ) arg5 fullShare x.g ∗ owns (c : Thread nD τ) arg6 fullShare x.lse ∗ owns (c : Thread nD τ) arg7 fullShare x.dl ∗ owns (c : Thread nD τ) arg8 fullShare (dqOut x i dq) ∗ owns (c : Thread nD τ) arg9 fullShare (dkOut x i dq) ∗ owns (c : Thread nD τ) arg10 fullShare (dvOut x i dq) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  have hcase : (isFirst i ∧ ¬isLast i) ∨ (¬isFirst i ∧ ¬isLast i) ∨ (¬isFirst i ∧ isLast i) := by
    simp only [isFirst_iff, isLast_iff]; omega
  simp only [cc0_attn_bwd_eq_skeleton]; unfold cc0_attn_bwd_skel
  simp only [k0_part5_eq_skeleton, k0_part6_eq_skeleton, k0_part7_eq_skeleton, k0_part8_eq_skeleton]
  unfold owns
  rcases hcase with ⟨h1, h2⟩ | ⟨h1, h2⟩ | ⟨h1, h2⟩
  all_goals
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, Hk⟩
    have hx : readIns arg2 arg3 arg4 arg5 arg6 arg7 f0 f1 f2 f3 f4 f5 = x := by
      unfold readIns; rw [hf0, hf1, hf2, hf3, hf4, hf5]
    sl_exec (disch := first | sl_exact h1 | sl_exact h2)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro
      first
        | have hz := (isFirst_iff i).mp h1
          exact ((after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ arg8.view.junk _ _ _ _ _ _ x dq hx _ _ (start_first i arg8.view _ dq hz) (rows_first0 i arg8.view _ dq hz) (rows_first1 i arg8.view _ dq hz _)).1).trans (if_neg (by omega)).symm
        | have hl := (isLast_iff i).mp h2
          have hz : ¬(i 1).val = 0 := by omega
          exact (read_last arg8.view f6 _ (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ f6 [] _ _ _ _ _ x dq hx _ _ (hf6.trans (start_later i dq hz)) (rows_later0 i arg8.view f6 dq hf6 hz) (rows_later1 i arg8.view f6 dq hf6 hz)).1).trans (if_pos hl).symm
        | have hl : ¬(i 1).val = 15 := fun h => h2 ((isLast_iff i).mpr h)
          have hz : ¬(i 1).val = 0 := fun h => h1 ((isFirst_iff i).mpr h)
          exact ((after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ f6 [] _ _ _ _ _ x dq hx _ _ (hf6.trans (start_later i dq hz)) (rows_later0 i arg8.view f6 dq hf6 hz) (rows_later1 i arg8.view f6 dq hf6 hz)).1).trans (if_neg hl).symm
    isplitl [H7]
    · iexists _; isplitr; swap; · iexact H7
      ipureintro
      refine (read_halves (Val := Elt F) arg9.view f7 _ _).trans ?_
      first
        | have hz := (isFirst_iff i).mp h1
          exact congrArg₂ join (congrArg k0_pay65 (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ arg8.view.junk _ _ _ _ _ _ x dq hx _ _ (start_first i arg8.view _ dq hz) (rows_first0 i arg8.view _ dq hz) (rows_first1 i arg8.view _ dq hz _)).2.1) (congrArg (fun z => k0_pay1 z _) (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ arg8.view.junk _ _ _ _ _ _ x dq hx _ _ (start_first i arg8.view _ dq hz) (rows_first0 i arg8.view _ dq hz) (rows_first1 i arg8.view _ dq hz _)).2.2.1)
        | have hz : ¬(i 1).val = 0 := fun h => h1 ((isFirst_iff i).mpr h)
          exact congrArg₂ join (congrArg k0_pay65 (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ f6 [] _ _ _ _ _ x dq hx _ _ (hf6.trans (start_later i dq hz)) (rows_later0 i arg8.view f6 dq hf6 hz) (rows_later1 i arg8.view f6 dq hf6 hz)).2.1) (congrArg (fun z => k0_pay1 z _) (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ f6 [] _ _ _ _ _ x dq hx _ _ (hf6.trans (start_later i dq hz)) (rows_later0 i arg8.view f6 dq hf6 hz) (rows_later1 i arg8.view f6 dq hf6 hz)).2.2.1)
    isplitl [H8]
    · iexists _; isplitr; swap; · iexact H8
      ipureintro
      refine (read_halves (Val := Elt F) arg10.view f8 _ _).trans ?_
      first
        | have hz := (isFirst_iff i).mp h1
          exact congrArg₂ join (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ arg8.view.junk _ _ _ _ _ _ x dq hx _ _ (start_first i arg8.view _ dq hz) (rows_first0 i arg8.view _ dq hz) (rows_first1 i arg8.view _ dq hz _)).2.2.2.1 (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ arg8.view.junk _ _ _ _ _ _ x dq hx _ _ (start_first i arg8.view _ dq hz) (rows_first0 i arg8.view _ dq hz) (rows_first1 i arg8.view _ dq hz _)).2.2.2.2
        | have hz : ¬(i 1).val = 0 := fun h => h1 ((isFirst_iff i).mpr h)
          exact congrArg₂ join (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ f6 [] _ _ _ _ _ x dq hx _ _ (hf6.trans (start_later i dq hz)) (rows_later0 i arg8.view f6 dq hf6 hz) (rows_later1 i arg8.view f6 dq hf6 hz)).2.2.2.1 (after_read Variants.none c none i arg2 harg2 arg3 harg3 arg4 harg4 arg5 harg5 arg6 harg6 arg7 harg7 arg8 harg8 arg9 harg9 arg10 harg10 arg11 harg11 arg12 harg12 arg13 harg13 arg14 harg14 _ _ _ _ _ _ _ f0 f1 f2 f3 f4 f5 _ f6 [] _ _ _ _ _ x dq hx _ _ (hf6.trans (start_later i dq hz)) (rows_later0 i arg8.view f6 dq hf6 hz) (rows_later1 i arg8.view f6 dq hf6 hz)).2.2.2.2
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnBwdIdeal.Val
-- ==== Proof.AttnMath.lean ====
/- Causal softmax attention and its gradient over the real numbers, and the row statistics the kernel takes. -/
module

public import proofs.«01_k».proof.Proof.RealKit

@[expose] public section

noncomputable section

namespace Cert.Attn

open Idealize.ShloMosaic Cert.RealKit

/-- The score scale: the single-precision word both programs multiply by. -/
def att : ℝ := 3424635 / 33554432

theorem ofBits_att : Ideal.ofBits .f32 0x3DD105EC#32 = ((att : ℝ) : EReal) := by
  rw [ofBits_f32 _ 123 5309932 (by decide) (by decide) (by decide) (by decide) (by decide), att]; norm_num

section Defs

variable (Q K : Fin 8192 → Fin 8 → Fin 96 → ℝ) (V D : Fin 8192 → Fin 8 → Fin 64 → ℝ)

/-- The score of query `i` and key `j` in head `h`, and its exponential where the key is not later than the query. -/
def score (h : Fin 8) (i j : Fin 8192) : ℝ := (∑ x, Q i h x * K j h x) * att
def ex (h : Fin 8) (i j : Fin 8192) : ℝ := if j.val ≤ i.val then Real.exp (score Q K h i j) else 0
def tot (h : Fin 8) (i : Fin 8192) : ℝ := ∑ j, ex Q K h i j
def prob (h : Fin 8) (i j : Fin 8192) : ℝ := ex Q K h i j / tot Q K h i
/-- The probabilities' cotangent, its mean under the row's probabilities, and the scores' cotangent. -/
def gp (h : Fin 8) (i j : Fin 8192) : ℝ := ∑ d, D i h d * V j h d
def mean (h : Fin 8) (i : Fin 8192) : ℝ := ∑ j, prob Q K h i j * gp V D h i j
def ds (h : Fin 8) (i j : Fin 8192) : ℝ := prob Q K h i j * (gp V D h i j - mean Q K V D h i)
/-- The gradients of the queries, keys and values. -/
def dQ (i : Fin 8192) (h : Fin 8) (x : Fin 96) : ℝ := (∑ j, ds Q K V D h i j * K j h x) * att
def dK (j : Fin 8192) (h : Fin 8) (x : Fin 96) : ℝ := (∑ i, ds Q K V D h i j * Q i h x) * att
def dV (j : Fin 8192) (h : Fin 8) (d : Fin 64) : ℝ := ∑ i, prob Q K h i j * D i h d

end Defs

variable (Q K : Fin 8192 → Fin 8 → Fin 96 → ℝ) (V D : Fin 8192 → Fin 8 → Fin 64 → ℝ) (h : Fin 8) (i j : Fin 8192)

theorem ex_nonneg : 0 ≤ ex Q K h i j := by unfold ex; split <;> positivity
theorem ex_self : 0 < ex Q K h i i := by unfold ex; rw [if_pos le_rfl]; positivity
theorem tot_pos : 0 < tot Q K h i :=
  lt_of_lt_of_le (ex_self Q K h i) (Finset.single_le_sum (f := fun j => ex Q K h i j) (fun j _ => ex_nonneg Q K h i j) (Finset.mem_univ i))
theorem prob_later (hj : i.val < j.val) : prob Q K h i j = 0 := by unfold prob ex; rw [if_neg (by omega), zero_div]
theorem ds_later (hj : i.val < j.val) : ds Q K V D h i j = 0 := by unfold ds; rw [prob_later Q K h i j hj, zero_mul]

/-- The masked score: minus infinity where the key is later than the query. -/
def mscore : EReal := if j.val ≤ i.val then (score Q K h i j : EReal) else ⊥

/-- A row's greatest score is a real number. -/
theorem rowmax_real : ∃ M : ℝ, (Finset.univ.sup fun j => mscore Q K h i j) = (M : EReal) := by
  have hne : (Finset.univ : Finset (Fin 8192)).Nonempty := ⟨i, Finset.mem_univ i⟩
  obtain ⟨j, -, hj⟩ := Finset.exists_mem_eq_sup Finset.univ hne fun j => mscore Q K h i j
  by_cases hji : j.val ≤ i.val
  · exact ⟨score Q K h i j, hj.trans (if_pos hji)⟩
  · exfalso
    have h1 : mscore Q K h i i ≤ mscore Q K h i j := hj ▸ Finset.le_sup (f := fun j => mscore Q K h i j) (Finset.mem_univ i)
    unfold mscore at h1
    rw [if_pos le_rfl, if_neg hji, le_bot_iff] at h1
    exact EReal.coe_ne_bot _ h1

/-- The exponential of a masked score less a real `M`. -/
theorem exp_mscore (M : ℝ) : Ideal.exp (mscore Q K h i j - (M : EReal)) = ((ex Q K h i j * Real.exp (-M) : ℝ) : EReal) := by
  unfold mscore ex
  split
  · rw [← EReal.coe_sub, Ideal.exp_coe, ← Real.exp_add, sub_eq_add_neg]
  · rw [EReal.bot_sub, Ideal.exp_bot, zero_mul, EReal.coe_zero]

theorem sum_exp (M : ℝ) : ∑ j, ex Q K h i j * Real.exp (-M) = tot Q K h i * Real.exp (-M) := by rw [tot, Finset.sum_mul]

theorem prob_shift (M : ℝ) : ex Q K h i j * Real.exp (-M) / (tot Q K h i * Real.exp (-M)) = prob Q K h i j := by
  rw [prob, mul_div_mul_right _ _ (Real.exp_pos _).ne']

/-- The row's log-sum does not depend on the number subtracted. -/
theorem lse_shift (M : ℝ) : M + Real.log (tot Q K h i * Real.exp (-M)) = Real.log (tot Q K h i) := by
  rw [Real.log_mul (tot_pos Q K h i).ne' (Real.exp_pos _).ne', Real.log_exp]; ring

/-- A probability from the base-two log-sum. -/
theorem prob_of_lse (hj : j.val ≤ i.val) :
    Real.rpow 2 ((∑ x, Q i h x * K j h x) * (att * (Real.log 2)⁻¹) - Real.log (tot Q K h i) / Real.log 2) = prob Q K h i j := by
  have h2 : (0 : ℝ) < 2 := by norm_num
  have hl : Real.log 2 ≠ 0 := (Real.log_pos (by norm_num)).ne'
  show (2 : ℝ) ^ (_ : ℝ) = _
  rw [Real.rpow_def_of_pos h2, prob, ex, if_pos hj, score]
  have e : Real.log 2 * ((∑ x, Q i h x * K j h x) * (att * (Real.log 2)⁻¹) - Real.log (tot Q K h i) / Real.log 2)
      = (∑ x, Q i h x * K j h x) * att - Real.log (tot Q K h i) := by field_simp
  rw [e, Real.exp_sub, Real.exp_log (tot_pos Q K h i)]

/-- The mean of the probabilities' cotangent from the output. -/
theorem mean_of_out : ∑ d, D i h d * ∑ j, V j h d * prob Q K h i j = mean Q K V D h i := by
  unfold mean gp
  simp only [Finset.mul_sum]
  rw [Finset.sum_comm]
  exact Finset.sum_congr rfl fun j _ => Finset.sum_congr rfl fun d _ => by ring

/-! ## Sums over a prefix of the sequence -/

/-- The sum of `f` over the first `n` positions. -/
def part (f : Fin 8192 → ℝ) (n : ℕ) : ℝ := ∑ i : Fin 8192, if i.val < n then f i else 0

theorem part_all (f : Fin 8192 → ℝ) : part f 8192 = ∑ i, f i := Finset.sum_congr rfl fun i _ => if_pos i.isLt
theorem part_zero (f : Fin 8192 → ℝ) (n : ℕ) (hf : ∀ i : Fin 8192, i.val < n → f i = 0) : part f n = 0 :=
  Finset.sum_eq_zero fun i _ => by split; exacts [hf i ‹_›, rfl]
theorem part_congr (f : Fin 8192 → ℝ) (n n' : ℕ) (hf : ∀ i : Fin 8192, i.val < n ↔ i.val < n' ∨ f i = 0 ∧ i.val < n) (hn : n' ≤ n) : part f n = part f n' := by
  refine Finset.sum_congr rfl fun i _ => ?_
  by_cases h1 : i.val < n'
  · rw [if_pos (by omega), if_pos h1]
  · rw [if_neg h1]
    split
    · rcases (hf i).1 ‹_› with h2 | h2
      · exact absurd h2 h1
      · exact h2.1
    · rfl

/-- One more block of 512 positions. -/
theorem part_succ (f : Fin 8192 → ℝ) (r : ℕ) (hr : r < 16) :
    part f ((r + 1) * 512) = part f (r * 512) + ∑ s : Fin 512, f ⟨r * 512 + s.val, by omega⟩ := by
  have hs : ∑ s : Fin 512, f ⟨r * 512 + s.val, by omega⟩ = ∑ i : Fin 8192, if r * 512 ≤ i.val ∧ i.val < (r + 1) * 512 then f i else 0 := by
    rw [← Finset.sum_filter]
    refine Finset.sum_bij (fun s _ => (⟨r * 512 + s.val, by omega⟩ : Fin 8192)) ?_ ?_ ?_ ?_
    · intro s _; simp only [Finset.mem_filter, Finset.mem_univ, true_and]; omega
    · intro a _ b _ e; have := congrArg Fin.val e; exact Fin.ext (by dsimp only at this; omega)
    · intro b hb
      simp only [Finset.mem_filter, Finset.mem_univ, true_and] at hb
      exact ⟨⟨b.val - r * 512, by omega⟩, Finset.mem_univ _, Fin.ext (by dsimp only; omega)⟩
    · intro s _; rfl
  rw [hs, part, part, ← Finset.sum_add_distrib]
  refine Finset.sum_congr rfl fun i _ => ?_
  by_cases h1 : i.val < r * 512
  · rw [if_pos (by omega), if_pos h1, if_neg (by omega), add_zero]
  · by_cases h2 : i.val < (r + 1) * 512
    · rw [if_pos h2, if_neg h1, if_pos (by omega), zero_add]
    · rw [if_neg h2, if_neg h1, if_neg (by omega), add_zero]

end Cert.Attn

end
-- ==== Proof.AttnBwdTile.lean ====
/- One query block of the attention backward over the extended reals: probabilities, the scores' cotangents and what
   they add to the three gradients. -/
module

public import proofs.«01_k».proof.Proof.AttnBwdBody
public import proofs.«01_k».proof.Proof.AttnMath
public import Idealize.ShloMosaic.Lib.Pointwise

@[expose] public section

set_option maxRecDepth 16384

noncomputable section

namespace Cert.AttnBwdIdeal.Val

open Idealize.ShloMosaic Idealize.ShloMosaic.TcCoe Idealize.ShloMosaic.Tactic Cert.AttnBwdIdeal Cert.AttnBwdIdeal.Gen Cert.RealKit Cert.Attn
open Idealize.ShloMosaic.VecWindow (window put)

/-! ## The two heads' bodies are one text -/

variable {F : FTy → Type} [FloatOps F] [Named F]

/-- Head `a`'s key and value accumulator. -/
def St.kOf (S : St F) (a : Fin 2) : Vec F S512x128 .f32 := match a with | 0 => S.k0 | 1 => S.k1
def St.vOf (S : St F) (a : Fin 2) : Vec F S512x128 .f32 := match a with | 0 => S.v0 | 1 => S.v1

/-- The scores' cotangent of query block `r`, head `a`: away from the diagonal and on it. -/
def tile (x : Ins F) (r : Fin 16) (a : Fin 2) : FVec F S512x512 .bf16 :=
  k0_pay8 (rows x.q r a) (rows x.g r a) (half x.k a) (stat x.lse r a) (stat x.dl r a) (half x.v a)
def tileDiag (x : Ins F) (r : Fin 16) (a : Fin 2) : FVec F S512x512 .bf16 :=
  k0_pay43 (k0_pay37 (rows x.g r a)) (k0_pay39 (rows x.q r a) (half x.k a)) k0_pay40 (stat x.lse r a) (stat x.dl r a) (half x.v a)

theorem step_v (x : Ins F) (r : Fin 16) (S : St F) (a : Fin 2) :
    (step x r S).vOf a = k0_pay7 (rows x.q r a) (rows x.g r a) (half x.k a) (stat x.lse r a) (S.vOf a) := by fin_cases a <;> rfl
theorem step_k (x : Ins F) (r : Fin 16) (S : St F) (a : Fin 2) :
    (step x r S).kOf a = k0_pay9 (k0_pay3 (rows x.q r a)) (tile x r a) (S.kOf a) := by fin_cases a <;> rfl
theorem stepDiag_v (x : Ins F) (r : Fin 16) (S : St F) (a : Fin 2) :
    (stepDiag x r S).vOf a = k0_pay42 (k0_pay37 (rows x.g r a)) (k0_pay39 (rows x.q r a) (half x.k a)) k0_pay40 (stat x.lse r a) (S.vOf a) := by
  fin_cases a <;> rfl
theorem stepDiag_k (x : Ins F) (r : Fin 16) (S : St F) (a : Fin 2) :
    (stepDiag x r S).kOf a = k0_pay9 (k0_pay3 (rows x.q r a)) (tileDiag x r a) (S.kOf a) := by fin_cases a <;> rfl

/-- Putting one head's rows of one block, read at any block and head. -/
theorem rows_set {α : Type} (y : S8192x256.Idx → α) (r : Fin 16) (b : Fin 2) (w : S512x128.Idx → α) (r' : Fin 16) (a : Fin 2) :
    rows (setRows y r b w) r' a = if r' = r ∧ a = b then w else rows y r' a := by
  have hr := r.isLt; have hr' := r'.isLt; have ha := a.isLt; have hb := b.isLt
  by_cases e : r' = r ∧ a = b
  · rw [if_pos e, e.1, e.2]
    exact VecWindow.window_put_same y (rowsOff r b) S512x128.size (rows_inb r b) w
  · rw [if_neg e]
    by_cases e1 : r'.val = r.val
    · have e2 : a.val ≠ b.val := fun h => e ⟨Fin.ext e1, Fin.ext h⟩
      exact VecWindow.window_put_of_disjoint y (rowsOff r b) S512x128.size (rowsOff r' a) S512x128.size (rows_inb r' a) w 1
        (by show a.val * 128 + 128 ≤ b.val * 128 ∨ b.val * 128 + 128 ≤ a.val * 128; omega)
    · exact VecWindow.window_put_of_disjoint y (rowsOff r b) S512x128.size (rowsOff r' a) S512x128.size (rows_inb r' a) w 0
        (by show r'.val * 512 + 512 ≤ r.val * 512 ∨ r.val * 512 + 512 ≤ r'.val * 512; omega)

/-- Replacing both heads' rows of one block. -/
theorem rows_set2 {α : Type} (y : S8192x256.Idx → α) (r : Fin 16) (w0 w1 : S512x128.Idx → α) (r' : Fin 16) (a : Fin 2) :
    rows (setRows (setRows y r 0 w0) r 1 w1) r' a = if r' = r then (match a with | 0 => w0 | 1 => w1) else rows y r' a := by
  rw [rows_set, rows_set]
  by_cases e : r' = r <;> fin_cases a <;> simp [e]

theorem step_dq (x : Ins F) (r : Fin 16) (S : St F) (r' : Fin 16) (a : Fin 2) :
    rows (step x r S).dq r' a = if r' = r then k0_pay10 (k0_pay5 (half x.k a)) (tile x r a) (rows S.dq r a) else rows S.dq r' a := by
  refine (rows_set2 S.dq r _ _ r' a).trans ?_
  fin_cases a <;> rfl
theorem stepDiag_dq (x : Ins F) (r : Fin 16) (S : St F) (r' : Fin 16) (a : Fin 2) :
    rows (stepDiag x r S).dq r' a = if r' = r then k0_pay10 (k0_pay5 (half x.k a)) (tileDiag x r a) (rows S.dq r a) else rows S.dq r' a := by
  refine (rows_set2 S.dq r _ _ r' a).trans ?_
  fin_cases a <;> rfl

/-! ## The operations, read at an entry -/

theorem named_exp2 : (Named.named κ "exp2" 0x3E16C740#32 : Ideal .f32) = ((att * (Real.log 2)⁻¹ : ℝ) : EReal) := rfl
theorem named_mask : (Named.named κ "mask" 0xF149F2CA#32 : Ideal .f32) = ⊥ := rfl

variable (q k v g : FVec Ideal S512x128 .bf16) (L E : FVec Ideal S1x1x512 .f32) (A : FVec Ideal S512x128 .f32) (T : FVec Ideal S512x512 .bf16)
  (l s : Fin 512) (y : Fin 128)

theorem p_apply : k0_pay6 (F := Ideal) q k L (ix2 l s)
    = Ideal.exp2 ((∑ z : Fin 128, k (ix2 l z) * q (ix2 s z)) * (Named.named κ "exp2" 0x3E16C740#32 : Ideal .f32) - L (ix3 0 0 s)) := by
  pointwise [k0_pay6, k0_pay5, k0_pay3]
  rfl

theorem pDiag_apply : k0_pay41 (F := Ideal) (k0_pay39 q k) k0_pay40 L (ix2 l s)
    = Ideal.exp2 ((if l.val ≤ s.val then ∑ z : Fin 128, k (ix2 l z) * q (ix2 s z) else (Named.named κ "mask" 0xF149F2CA#32 : Ideal .f32))
        * (Named.named κ "exp2" 0x3E16C740#32 : Ideal .f32) - L (ix3 0 0 s)) := by
  have h1 := l.isLt; have h2 := s.isLt
  pointwise [k0_pay41, k0_pay39, k0_pay40, k0_pay38, k0_pay36]
  word_cmp
  by_cases h : l.val ≤ s.val
  · simp only [if_pos h]; rfl
  · simp only [if_neg h]; rfl

theorem v_apply : k0_pay7 (F := Ideal) q g k L A (ix2 l y) = A (ix2 l y) + ∑ z : Fin 512, k0_pay6 (F := Ideal) q k L (ix2 l z) * g (ix2 z y) := by
  pointwise [k0_pay7, k0_pay4]
theorem vDiag_apply : k0_pay42 (F := Ideal) (k0_pay37 g) (k0_pay39 q k) k0_pay40 L A (ix2 l y)
    = A (ix2 l y) + ∑ z : Fin 512, k0_pay41 (F := Ideal) (k0_pay39 q k) k0_pay40 L (ix2 l z) * g (ix2 z y) := by
  pointwise [k0_pay42, k0_pay37]
theorem t_apply : k0_pay8 (F := Ideal) q g k L E v (ix2 l s)
    = k0_pay6 (F := Ideal) q k L (ix2 l s) * ((∑ z : Fin 128, v (ix2 l z) * g (ix2 s z)) - E (ix3 0 0 s)) := by
  pointwise [k0_pay8, k0_pay4]
theorem tDiag_apply : k0_pay43 (F := Ideal) (k0_pay37 g) (k0_pay39 q k) k0_pay40 L E v (ix2 l s)
    = k0_pay41 (F := Ideal) (k0_pay39 q k) k0_pay40 L (ix2 l s) * ((∑ z : Fin 128, v (ix2 l z) * g (ix2 s z)) - E (ix3 0 0 s)) := by
  pointwise [k0_pay43, k0_pay37]
theorem k_apply : k0_pay9 (F := Ideal) (k0_pay3 q) T A (ix2 l y) = A (ix2 l y) + ∑ z : Fin 512, T (ix2 l z) * q (ix2 z y) := by
  pointwise [k0_pay9, k0_pay3]
theorem dq_apply : k0_pay10 (F := Ideal) (k0_pay5 k) T A (ix2 s y) = A (ix2 s y) + ∑ z : Fin 512, T (ix2 z s) * k (ix2 z y) := by
  pointwise [k0_pay10, k0_pay5]

end Cert.AttnBwdIdeal.Val

end
-- ==== Proof.AttnBwdInv.lean ====
/- What a pair of heads' key block gathers, on real arguments: each accumulator is the sum over the query or key blocks
   already taken. -/
module

public import proofs.«01_k».proof.Proof.AttnBwdTile

@[expose] public section

set_option maxRecDepth 16384

noncomputable section

namespace Cert.AttnBwdIdeal.Val

open Idealize.ShloMosaic Idealize.ShloMosaic.TcCoe Idealize.ShloMosaic.Tactic Cert.AttnBwdIdeal Cert.AttnBwdIdeal.Gen Cert.RealKit Cert.Attn

/-- The first `n` of the 128 columns hold `f`, the others the number `c`. -/
def padTo (n : ℕ) (c : ℝ) (f : Fin n → ℝ) (y : Fin 128) : ℝ := if h : y.val < n then f ⟨y.val, h⟩ else c

theorem sum_pad_aux {N n m : ℕ} (hN : N = n + m) (c : ℝ) (f g : Fin n → ℝ) :
    (∑ y : Fin N, (if h : y.val < n then f ⟨y.val, h⟩ else c) * (if h : y.val < n then g ⟨y.val, h⟩ else 0)) = ∑ x, f x * g x := by
  subst hN
  rw [Fin.sum_univ_add]
  simp

theorem sum_pad (n : ℕ) (hn : n ≤ 128) (c : ℝ) (f g : Fin n → ℝ) : ∑ y, padTo n c f y * padTo n 0 g y = ∑ x, f x * g x :=
  sum_pad_aux (N := 128) (n := n) (m := 128 - n) (by omega) c f g

/-- Row `s` of block `r`, and head `a` of pair `p`. -/
def pos (r : Fin 16) (s : Fin 512) : Fin 8192 := ⟨r.val * 512 + s.val, by omega⟩
def hd (p : Fin 4) (a : Fin 2) : Fin 8 := ⟨p.val * 2 + a.val, by omega⟩

variable (Q K : Fin 8192 → Fin 8 → Fin 96 → ℝ) (V D : Fin 8192 → Fin 8 → Fin 64 → ℝ)

/-- The blocks one grid point reads, on real arguments. -/
structure Reads (x : Ins Ideal) (p : Fin 4) (j : Fin 16) : Prop where
  q : ∀ r a s y, rows x.q r a (ix2 s y) = ((padTo 96 0 (Q (pos r s) (hd p a)) y : ℝ) : EReal)
  g : ∀ r a s y, rows x.g r a (ix2 s y) = ((padTo 64 0 (D (pos r s) (hd p a)) y : ℝ) : EReal)
  k : ∀ a l y, half x.k a (ix2 l y) = ((padTo 96 0 (K (pos j l) (hd p a)) y : ℝ) : EReal)
  v : ∀ a l y, half x.v a (ix2 l y) = ((padTo 64 1 (V (pos j l) (hd p a)) y : ℝ) : EReal)
  lse : ∀ r a s, stat x.lse r a (ix3 0 0 s) = ((Real.log (tot Q K (hd p a) (pos r s)) / Real.log 2 : ℝ) : EReal)
  dl : ∀ r a s, stat x.dl r a (ix3 0 0 s) = ((mean Q K V D (hd p a) (pos r s) : ℝ) : EReal)

/-- The accumulators once the query blocks before `N` have been taken. -/
structure Inv (S : St Ideal) (p : Fin 4) (j : Fin 16) (N : ℕ) : Prop where
  v : ∀ a l y, S.vOf a (ix2 l y) = ((part (fun i => prob Q K (hd p a) i (pos j l) * padTo 64 0 (D i (hd p a)) y) (N * 512) : ℝ) : EReal)
  k : ∀ a l y, S.kOf a (ix2 l y) = ((part (fun i => ds Q K V D (hd p a) i (pos j l) * padTo 96 0 (Q i (hd p a)) y) (N * 512) : ℝ) : EReal)
  dq : ∀ r a s y, rows S.dq r a (ix2 s y)
    = ((part (fun k => ds Q K V D (hd p a) (pos r s) k * padTo 96 0 (K k (hd p a)) y) ((if r.val < N then j.val + 1 else j.val) * 512) : ℝ) : EReal)

variable {Q K V D} {x : Ins Ideal} {p : Fin 4} {j : Fin 16}

theorem scores (hx : Reads Q K V D x p j) (r : Fin 16) (a : Fin 2) (l s : Fin 512) :
    (∑ z : Fin 128, (half x.k a (ix2 l z) : EReal) * rows x.q r a (ix2 s z))
      = ((∑ z, Q (pos r s) (hd p a) z * K (pos j l) (hd p a) z : ℝ) : EReal) := by
  simp only [hx.k, hx.q, ← EReal.coe_mul, coe_sum]
  rw [sum_pad 96 (by omega)]
  exact congrArg _ (Finset.sum_congr rfl fun z _ => mul_comm _ _)

theorem cots (hx : Reads Q K V D x p j) (r : Fin 16) (a : Fin 2) (l s : Fin 512) :
    (∑ z : Fin 128, (half x.v a (ix2 l z) : EReal) * rows x.g r a (ix2 s z)) = ((gp V D (hd p a) (pos r s) (pos j l) : ℝ) : EReal) := by
  simp only [hx.v, hx.g, ← EReal.coe_mul, coe_sum]
  rw [sum_pad 64 (by omega), gp]
  exact congrArg _ (Finset.sum_congr rfl fun z _ => mul_comm _ _)

/-- The probabilities off the diagonal. -/
theorem p_real (hx : Reads Q K V D x p j) (r : Fin 16) (hr : j.val < r.val) (a : Fin 2) (l s : Fin 512) :
    k0_pay6 (F := Ideal) (rows x.q r a) (half x.k a) (stat x.lse r a) (ix2 l s) = ((prob Q K (hd p a) (pos r s) (pos j l) : ℝ) : EReal) := by
  rw [p_apply, scores hx, named_exp2, hx.lse, ← EReal.coe_mul, ← EReal.coe_sub, Ideal.exp2_coe,
    prob_of_lse Q K (hd p a) (pos r s) (pos j l) (by show j.val * 512 + l.val ≤ r.val * 512 + s.val; omega)]

/-- The probabilities on the diagonal. -/
theorem pDiag_real (hx : Reads Q K V D x p j) (a : Fin 2) (l s : Fin 512) :
    k0_pay41 (F := Ideal) (k0_pay39 (rows x.q j a) (half x.k a)) k0_pay40 (stat x.lse j a) (ix2 l s)
      = ((prob Q K (hd p a) (pos j s) (pos j l) : ℝ) : EReal) := by
  rw [pDiag_apply, scores hx, named_exp2, named_mask, hx.lse]
  by_cases h : l.val ≤ s.val
  · rw [if_pos h, ← EReal.coe_mul, ← EReal.coe_sub, Ideal.exp2_coe,
      prob_of_lse Q K (hd p a) (pos j s) (pos j l) (by show j.val * 512 + l.val ≤ j.val * 512 + s.val; omega)]
  · have hc : (0 : ℝ) < att * (Real.log 2)⁻¹ := mul_pos (by unfold att; norm_num) (inv_pos.2 (Real.log_pos (by norm_num)))
    rw [if_neg h, EReal.bot_mul_coe_of_pos hc, EReal.bot_sub, Ideal.exp2_bot,
      prob_later Q K (hd p a) (pos j s) (pos j l) (by show j.val * 512 + s.val < j.val * 512 + l.val; omega), EReal.coe_zero]

theorem tile_real (hx : Reads Q K V D x p j) (r : Fin 16) (hr : j.val < r.val) (a : Fin 2) (l s : Fin 512) :
    tile x r a (ix2 l s) = ((ds Q K V D (hd p a) (pos r s) (pos j l) : ℝ) : EReal) := by
  unfold tile
  rw [t_apply, p_real hx r hr, cots hx, hx.dl, ← EReal.coe_sub, ← EReal.coe_mul]; rfl

theorem tileDiag_real (hx : Reads Q K V D x p j) (a : Fin 2) (l s : Fin 512) :
    tileDiag x j a (ix2 l s) = ((ds Q K V D (hd p a) (pos j s) (pos j l) : ℝ) : EReal) := by
  unfold tileDiag
  rw [tDiag_apply, pDiag_real hx, cots hx, hx.dl, ← EReal.coe_sub, ← EReal.coe_mul]; rfl

/-- One more query block. -/
theorem Inv.next (hx : Reads Q K V D x p j) {S S' : St Ideal} {r : Fin 16} (P : Fin 2 → FVec Ideal S512x512 .f32) (T : Fin 2 → FVec Ideal S512x512 .bf16)
    (hj : j.val ≤ r.val) (hS : Inv Q K V D S p j r.val)
    (hP : ∀ a l s, P a (ix2 l s) = ((prob Q K (hd p a) (pos r s) (pos j l) : ℝ) : EReal))
    (hT : ∀ a l s, T a (ix2 l s) = ((ds Q K V D (hd p a) (pos r s) (pos j l) : ℝ) : EReal))
    (hv : ∀ a l y, (S'.vOf a (ix2 l y) : EReal) = (S.vOf a (ix2 l y) : EReal) + ∑ z : Fin 512, (P a (ix2 l z) : EReal) * rows x.g r a (ix2 z y))
    (hk : ∀ a, S'.kOf a = k0_pay9 (k0_pay3 (rows x.q r a)) (T a) (S.kOf a))
    (hq : ∀ r' a, rows S'.dq r' a = if r' = r then k0_pay10 (k0_pay5 (half x.k a)) (T a) (rows S.dq r a) else rows S.dq r' a) :
    Inv Q K V D S' p j (r.val + 1) := by
  refine ⟨fun a l y => ?_, fun a l y => ?_, fun r' a s y => ?_⟩
  · rw [hv, hS.v]
    simp only [hP, hx.g, ← EReal.coe_mul, coe_sum, ← EReal.coe_add]
    rw [part_succ _ r.val r.isLt]; rfl
  · rw [hk, k_apply, hS.k]
    simp only [hT, hx.q, ← EReal.coe_mul, coe_sum, ← EReal.coe_add]
    rw [part_succ _ r.val r.isLt]; rfl
  · rw [hq]
    by_cases e : r' = r
    · subst e
      rw [if_pos rfl, dq_apply, hS.dq, if_neg (by omega), if_pos (by omega)]
      simp only [hT, hx.k, ← EReal.coe_mul, coe_sum, ← EReal.coe_add]
      rw [part_succ _ j.val j.isLt]; rfl
    · have e' : r'.val ≠ r.val := fun h => e (Fin.ext h)
      rw [if_neg e, hS.dq]
      by_cases h1 : r'.val < r.val
      · rw [if_pos h1, if_pos (by omega)]
      · rw [if_neg h1, if_neg (by omega)]

theorem Inv.step (hx : Reads Q K V D x p j) {S : St Ideal} {r : Fin 16} (hj : j.val < r.val) (hS : Inv Q K V D S p j r.val) :
    Inv Q K V D (step x r S) p j (r.val + 1) :=
  Inv.next hx (fun a => k0_pay6 (F := Ideal) (rows x.q r a) (half x.k a) (stat x.lse r a)) (tile x r) hj.le hS (p_real hx r hj) (tile_real hx r hj)
    (fun a l y => by rw [step_v, v_apply]) (step_k x r S) (step_dq x r S)

theorem Inv.stepDiag (hx : Reads Q K V D x p j) {S : St Ideal} (hS : Inv Q K V D S p j j.val) :
    Inv Q K V D (stepDiag x j S) p j (j.val + 1) :=
  Inv.next hx (fun a => k0_pay41 (F := Ideal) (k0_pay39 (rows x.q j a) (half x.k a)) k0_pay40 (stat x.lse j a)) (tileDiag x j) le_rfl hS
    (pDiag_real hx) (tileDiag_real hx) (fun a l y => by rw [stepDiag_v, vDiag_apply]) (stepDiag_k x j S) (stepDiag_dq x j S)

/-- The query gradient before a key block: the keys of the blocks already taken. -/
def DqAt (Q K : Fin 8192 → Fin 8 → Fin 96 → ℝ) (V D : Fin 8192 → Fin 8 → Fin 64 → ℝ) (dq : Vec Ideal S8192x256 .f32) (p : Fin 4) (n : ℕ) : Prop :=
  ∀ r a s y, rows dq r a (ix2 s y) = ((part (fun k => ds Q K V D (hd p a) (pos r s) k * padTo 96 0 (K k (hd p a)) y) (n * 512) : ℝ) : EReal)

theorem zeroV (S : FVec Ideal S512x128 .f32) (h : S = k0_pay31 ∨ S = k0_pay32 ∨ S = k0_pay33 ∨ S = k0_pay34) (l : Fin 512) (y : Fin 128) :
    S (ix2 l y) = ((0 : ℝ) : EReal) := by
  rw [EReal.coe_zero]
  rcases h with rfl | rfl | rfl | rfl <;> pointwise [k0_pay31, k0_pay32, k0_pay33, k0_pay34]

theorem zeroQ (r : Fin 16) (a : Fin 2) (s : Fin 512) (y : Fin 128) : rows (k0_pay35 (F := Ideal)) r a (ix2 s y) = ((0 : ℝ) : EReal) :=
  (Ideal.ofBits_zero_f32 : _)

theorem Inv.start {i : grid0.Coords} (hi : (i 1).val = j.val) {dq : Vec Ideal S8192x256 .f32} (hdq : j.val ≠ 0 → DqAt Q K V D dq p j.val) :
    Inv Q K V D (start i dq) p j j.val := by
  refine ⟨fun a l y => ?_, fun a l y => ?_, fun r a s y => ?_⟩
  · rw [part_zero _ _ fun i hi => by
      rw [prob_later Q K (hd p a) i (pos j l) (by show i.val < j.val * 512 + l.val; omega), zero_mul]]
    fin_cases a
    · exact zeroV _ (Or.inr (Or.inr (Or.inl rfl))) l y
    · exact zeroV _ (Or.inr (Or.inr (Or.inr rfl))) l y
  · rw [part_zero _ _ fun i hi => by
      rw [ds_later Q K V D (hd p a) i (pos j l) (by show i.val < j.val * 512 + l.val; omega), zero_mul]]
    fin_cases a
    · exact zeroV _ (Or.inl rfl) l y
    · exact zeroV _ (Or.inr (Or.inl rfl)) l y
  · have e : part (fun k => ds Q K V D (hd p a) (pos r s) k * padTo 96 0 (K k (hd p a)) y) ((if r.val < j.val then j.val + 1 else j.val) * 512)
        = part (fun k => ds Q K V D (hd p a) (pos r s) k * padTo 96 0 (K k (hd p a)) y) (j.val * 512) := by
      by_cases h : r.val < j.val
      · rw [if_pos h, part_succ _ j.val j.isLt, Finset.sum_eq_zero, add_zero]
        intro z _
        rw [ds_later Q K V D (hd p a) (pos r s) _ (by show r.val * 512 + s.val < j.val * 512 + z.val; omega), zero_mul]
      · rw [if_neg h]
    rw [e]
    by_cases h0 : j.val = 0
    · rw [part_zero _ _ fun i hi => by omega]
      show rows (if (i 1).val = 0 then k0_pay35 (F := Ideal) else dq) r a (ix2 s y) = _
      rw [if_pos (hi.trans h0)]
      exact zeroQ r a s y
    · show rows (if (i 1).val = 0 then k0_pay35 (F := Ideal) else dq) r a (ix2 s y) = _
      rw [if_neg (by omega)]
      exact hdq h0 r a s y

theorem Inv.iter (hx : Reads Q K V D x p j) {i : grid0.Coords} (hi : (i 1).val = j.val) {S : St Ideal} (hS : Inv Q K V D S p j (j.val + 1)) :
    ∀ n, j.val + 1 + n ≤ 16 → Inv Q K V D (iter x i S n) p j (j.val + 1 + n)
  | 0, _ => hS
  | n + 1, hn => by
    have hb : (blockOf i n).val = j.val + 1 + n := by show ((i 1).val + 1 + n) % 16 = _; omega
    have h := Inv.iter hx hi hS n (by omega)
    rw [← hb] at h
    have h' := Inv.step hx (by omega) h
    rw [hb] at h'
    exact h'

/-- After all query blocks. -/
theorem Inv.gathered (hx : Reads Q K V D x p j) {i : grid0.Coords} (hi : (i 1).val = j.val) {dq : Vec Ideal S8192x256 .f32}
    (hdq : j.val ≠ 0 → DqAt Q K V D dq p j.val) : Inv Q K V D (gathered x i dq) p j 16 := by
  obtain rfl : j = (show Fin 16 from i 1) := Fin.ext hi.symm
  have hl : (i 1).val < 16 := (i 1).isLt
  have h := Inv.iter hx hi (Inv.stepDiag hx (Inv.start hi hdq)) (15 - (i 1).val) (by show (i 1).val + 1 + _ ≤ 16; omega)
  have e : (i 1).val + 1 + (15 - (i 1).val) = 16 := by omega
  change Inv Q K V D (Val.gathered x i dq) p _ ((i 1).val + 1 + (15 - (i 1).val)) at h
  rw [e] at h
  exact h

/-! ## The point's three results -/

theorem mul_pad (c : ℝ) (f : Fin 96 → ℝ) (y : Fin 128) : padTo 96 0 f y * c = padTo 96 0 (fun z => f z * c) y := by
  unfold padTo; split; exacts [rfl, zero_mul c]

theorem scaled_k (A : FVec Ideal S512x128 .f32) (l : Fin 512) (y : Fin 128) : k0_pay65 (F := Ideal) A (ix2 l y) = A (ix2 l y) * ((att : ℝ) : EReal) := by
  rw [← ofBits_att]; pointwise [k0_pay65]
theorem scaled_k' (A : FVec Ideal S512x128 .f32) (l : Fin 512) (y : Fin 128) :
    k0_pay1 (F := Ideal) A (Scalar.ofBits .f32 0x3DD105EC#32) (ix2 l y) = A (ix2 l y) * ((att : ℝ) : EReal) := by
  rw [← ofBits_att]; pointwise [k0_pay1]
theorem scaled_q (A : FVec Ideal S8192x256 .f32) (i : Fin 8192) (y : Fin 256) : k0_pay2 (F := Ideal) A (ix2 i y) = A (ix2 i y) * ((att : ℝ) : EReal) := by
  rw [← ofBits_att]; pointwise [k0_pay2]

/-- Sums over the whole sequence distribute over the padded columns. -/
theorem part_pad (n : ℕ) (w : Fin 8192 → ℝ) (f : Fin 8192 → Fin n → ℝ) (y : Fin 128) :
    part (fun i => w i * padTo n 0 (f i) y) (16 * 512) = padTo n 0 (fun z => ∑ i, w i * f i z) y := by
  rw [show 16 * 512 = 8192 from rfl, part_all]
  unfold padTo
  by_cases h : y.val < n
  · simp only [dif_pos h]
  · simp only [dif_neg h, mul_zero, Finset.sum_const_zero]

theorem dvOut_real (hx : Reads Q K V D x p j) {i : grid0.Coords} (hi : (i 1).val = j.val) {dq : Vec Ideal S8192x256 .f32}
    (hdq : j.val ≠ 0 → DqAt Q K V D dq p j.val) (a : Fin 2) (l : Fin 512) (y : Fin 128) (c : Fin 256) (hc : c.val = a.val * 128 + y.val) :
    dvOut x i dq (ix2 l c) = ((padTo 64 0 (dV Q K D (pos j l) (hd p a)) y : ℝ) : EReal) := by
  have h := (Inv.gathered hx hi hdq).v a l y
  rw [part_pad] at h
  refine Eq.trans ?_ h
  fin_cases a
  · have hc' : c.val = y.val := by simpa using hc
    exact (dif_pos (show c.val < 128 by omega)).trans (congrArg _ (by congr 1; exact Fin.ext hc'))
  · have hc' : c.val = 128 + y.val := by simpa using hc
    exact (dif_neg (show ¬ c.val < 128 by omega)).trans (congrArg _ (by congr 1; exact Fin.ext (show c.val - 128 = y.val by omega)))

theorem dkOut_real (hx : Reads Q K V D x p j) {i : grid0.Coords} (hi : (i 1).val = j.val) {dq : Vec Ideal S8192x256 .f32}
    (hdq : j.val ≠ 0 → DqAt Q K V D dq p j.val) (a : Fin 2) (l : Fin 512) (y : Fin 128) (c : Fin 256) (hc : c.val = a.val * 128 + y.val) :
    dkOut x i dq (ix2 l c) = ((padTo 96 0 (dK Q K V D (pos j l) (hd p a)) y : ℝ) : EReal) := by
  have h := (Inv.gathered hx hi hdq).k a l y
  rw [part_pad] at h
  have e : ((padTo 96 0 (dK Q K V D (pos j l) (hd p a)) y : ℝ) : EReal) = ((Val.gathered x i dq).kOf a (ix2 l y) : EReal) * ((att : ℝ) : EReal) := by
    rw [h, ← EReal.coe_mul, mul_pad]; rfl
  rw [e]
  fin_cases a
  · have hc' : c.val = y.val := by simpa using hc
    rw [show ix2 l y = ix2 l (⟨c.val, by omega⟩ : Fin 128) by congr 1; exact Fin.ext hc'.symm]
    exact (dif_pos (show c.val < 128 by omega)).trans (scaled_k _ l _)
  · have hc' : c.val = 128 + y.val := by simpa using hc
    rw [show ix2 l y = ix2 l (⟨c.val - 128, by omega⟩ : Fin 128) by congr 1; exact Fin.ext (show y.val = c.val - 128 by omega)]
    exact (dif_neg (show ¬ c.val < 128 by omega)).trans (scaled_k' _ l _)

theorem rows_at {α : Type} (z : S8192x256.Idx → α) (r : Fin 16) (a : Fin 2) (s : Fin 512) (y : Fin 128) (c : Fin 256) (hc : c.val = a.val * 128 + y.val) :
    rows z r a (ix2 s y) = z (ix2 (pos r s) c) := by
  refine congrArg z (funext fun b => Fin.ext ?_)
  fin_cases b
  · show r.val * 512 + 1 * s.val = r.val * 512 + s.val; omega
  · show a.val * 128 + 1 * y.val = c.val; omega

theorem dqOut_mid (hx : Reads Q K V D x p j) {i : grid0.Coords} (hi : (i 1).val = j.val) {dq : Vec Ideal S8192x256 .f32}
    (hdq : j.val ≠ 0 → DqAt Q K V D dq p j.val) (hj : j.val ≠ 15) : DqAt Q K V D (dqOut x i dq) p (j.val + 1) := by
  intro r a s y
  unfold dqOut
  rw [if_neg (hi ▸ hj), (Inv.gathered hx hi hdq).dq r a s y, if_pos r.isLt]

theorem dqOut_last (hx : Reads Q K V D x p j) {i : grid0.Coords} (hi : (i 1).val = j.val) {dq : Vec Ideal S8192x256 .f32}
    (hdq : j.val ≠ 0 → DqAt Q K V D dq p j.val) (hj : j.val = 15) (r : Fin 16) (a : Fin 2) (s : Fin 512) (y : Fin 128) (c : Fin 256)
    (hc : c.val = a.val * 128 + y.val) : dqOut x i dq (ix2 (pos r s) c) = ((padTo 96 0 (dQ Q K V D (pos r s) (hd p a)) y : ℝ) : EReal) := by
  have h := (Inv.gathered hx hi hdq).dq r a s y
  rw [if_pos r.isLt, hj, part_pad, rows_at _ r a s y c hc] at h
  unfold dqOut
  rw [if_pos (hi.trans hj), scaled_q, h, ← EReal.coe_mul, mul_pad]; rfl

end Cert.AttnBwdIdeal.Val

end
-- ==== Proof.AttnBwdHost.lean ====
/- The host lines around the attention backward: padded heads, the forward's row statistics, and the results' columns. -/
module

public import proofs.«01_k».proof.Proof.AttnBwdInv

@[expose] public section

set_option maxRecDepth 16384

noncomputable section

namespace Cert.AttnBwdIdeal.Val

open Idealize.ShloMosaic Idealize.ShloMosaic.TcCoe Idealize.ShloMosaic.Tactic Cert.AttnBwdIdeal Cert.AttnBwdIdeal.Gen Cert.RealKit Cert.Attn

/-- A sequence's heads padded to 128 columns, side by side. -/
def padQK (x : FVec Ideal S1x8192x8x96 .f32) : FVec Ideal S8192x1024 .bf16 :=
  truncf .bf16 (shapeCast S8192x1024 (Idealize.ShloMosaic.pad S8192x8x128 ![0, 0, 0] ![0, 0, 32] ![0, 0, 0] (shapeCast S8192x8x96 x shapeCasts_S1x8192x8x96_S8192x8x96)
    (sitofp .f32 (constantI S_ 32 0#32)) pads_S8192x8x96_S8192x8x128_000_000_0320 h_S_) shapeCasts_S8192x8x128_S8192x1024) bitsLt_bf16_f32
def padV (x : FVec Ideal S1x8192x8x64 .f32) : FVec Ideal S8192x1024 .bf16 :=
  truncf .bf16 (shapeCast S8192x1024 (Idealize.ShloMosaic.pad S8192x8x128 ![0, 0, 0] ![0, 0, 64] ![0, 0, 0] (shapeCast S8192x8x64 x shapeCasts_S1x8192x8x64_S8192x8x64)
    (id (constant S_ .f32 0x3F800000#32)) pads_S8192x8x64_S8192x8x128_000_000_0640 h_S_) shapeCasts_S8192x8x128_S8192x1024) bitsLt_bf16_f32
def padG (x : FVec Ideal S1x8192x512 .f32) : FVec Ideal S8192x1024 .bf16 :=
  truncf .bf16 (shapeCast S8192x1024 (Idealize.ShloMosaic.pad S8192x8x128 ![0, 0, 0] ![0, 0, 64] ![0, 0, 0] (shapeCast S8192x8x64 (shapeCast S1x8192x8x64 x
    shapeCasts_S1x8192x512_S1x8192x8x64) shapeCasts_S1x8192x8x64_S8192x8x64)
    (sitofp .f32 (constantI S_ 32 0#32)) pads_S8192x8x64_S8192x8x128_000_000_0640 h_S_) shapeCasts_S8192x8x128_S8192x1024) bitsLt_bf16_f32

/-- The masked scores, each row's greatest, the exponentials and their sum. -/
def scoresH (q k : FVec Ideal S1x8192x8x96 .f32) : FVec Ideal S1x8x8192x8192 .f32 :=
  select (broadcastInDim S1x8x8192x8192 ![0, 1, 2, 3] bcast_S1x1x8192x8192_S1x8x8192x8192_0_1_2_3 (broadcastInDim S1x1x8192x8192 ![2, 3]
      bcast_S8192x8192_S1x1x8192x8192_2_3 (cmpi .sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
    (mulf (Host.dotGeneral dot_S1x8192x8x96_S1x8192x8x96_S1x8x8192x8192_3_3_1_1_02_02 none q k)
      (broadcastInDim S1x8x8192x8192 ![] bcast_S_S1x8x8192x8192 (constant S_ .f32 0x3DD105EC#32)))
    (broadcastInDim S1x8x8192x8192 ![] bcast_S_S1x8x8192x8192 (id (constant S_ .f32 0xFF800000#32)))
def maxH (q k : FVec Ideal S1x8192x8x96 .f32) : FVec Ideal S1x8x8192x1 .f32 :=
  broadcastInDim S1x8x8192x1 ![0, 1, 2] bcast_S1x8x8192_S1x8x8192x1_0_1_2
    (Host.reduce FloatOps.maximumf (scoresH q k) (constant S_ .f32 0xFF800000#32) reducesTo_S1x8x8192x8192_S1x8x8192_d3 h_S_)
def expH (q k : FVec Ideal S1x8192x8x96 .f32) : FVec Ideal S1x8x8192x8192 .f32 :=
  Host.exp (subf (scoresH q k) (broadcastInDim S1x8x8192x8192 ![0, 1, 2, 3] bcast_S1x8x8192x1_S1x8x8192x8192_0_1_2_3 (maxH q k)))
def sumH (q k : FVec Ideal S1x8192x8x96 .f32) : FVec Ideal S1x8x8192x1 .f32 :=
  broadcastInDim S1x8x8192x1 ![0, 1, 2] bcast_S1x8x8192_S1x8x8192x1_0_1_2
    (Host.reduceAdd (expH q k) (constant S_ .f32 0x00000000#32) reducesTo_S1x8x8192x8192_S1x8x8192_d3 h_S_)
/-- The rows' log-sums to base two, and their deltas. -/
def lseH (q k : FVec Ideal S1x8192x8x96 .f32) : FVec Ideal S4x16x8192 .f32 :=
  shapeCast S4x16x8192 (broadcastInDim S8x8x8192 ![0, 1, 2] bcast_S8x1x8192_S8x8x8192_0_1_2 (broadcastInDim S8x1x8192 ![0, 2] bcast_S8x8192_S8x1x8192_0_2
    (shapeCast S8x8192 (Host.divf (addf (maxH q k) (Host.log (sumH q k))) (Host.log (broadcastInDim S1x8x8192x1 ![] bcast_S_S1x8x8192x1 (constant S_ .f32 0x40000000#32))))
      shapeCasts_S1x8x8192x1_S8x8192))) shapeCasts_S8x8x8192_S4x16x8192
def outH (q k : FVec Ideal S1x8192x8x96 .f32) (v : FVec Ideal S1x8192x8x64 .f32) : FVec Ideal S1x8192x8x64 .f32 :=
  transpose S1x8192x8x64 [0, 3, 1, 2] (Host.dotGeneral dot_S1x8192x8x64_S1x8x8192x8192_S1x8x64x8192_1_3_3_2_02_01 none v
    (Host.divf (expH q k) (broadcastInDim S1x8x8192x8192 ![0, 1, 2, 3] bcast_S1x8x8192x1_S1x8x8192x8192_0_1_2_3 (sumH q k))))
    transposes_S1x8x64x8192_S1x8192x8x64_0_3_1_2
def deltaH (q k : FVec Ideal S1x8192x8x96 .f32) (v : FVec Ideal S1x8192x8x64 .f32) (d : FVec Ideal S1x8192x512 .f32) : FVec Ideal S4x16x8192 .f32 :=
  shapeCast S4x16x8192 (broadcastInDim S8x8x8192 ![0, 1, 2] bcast_S8x1x8192_S8x8x8192_0_1_2 (broadcastInDim S8x1x8192 ![0, 2] bcast_S8x8192_S8x1x8192_0_2
    (transpose S8x8192 [1, 0] (Host.reduceAdd (mulf (shapeCast S8192x8x64 (shapeCast S1x8192x8x64 d shapeCasts_S1x8192x512_S1x8192x8x64)
      shapeCasts_S1x8192x8x64_S8192x8x64) (shapeCast S8192x8x64 (outH q k v) shapeCasts_S1x8192x8x64_S8192x8x64)) (constant S_ .f32 0x00000000#32)
      reducesTo_S8192x8x64_S8192x8_d2 h_S_) transposes_S8192x8_S8x8192_1_0))) shapeCasts_S8x8x8192_S4x16x8192

/-! ## Their entries -/

variable (X : S1x8192x8x96.Idx → ℝ) (Y : S1x8192x8x96.Idx → ℝ) (Z : S1x8192x8x64.Idx → ℝ) (W : S1x8192x512.Idx → ℝ)

/-- Queries or keys, values, and the output's cotangent, by position, head and column. -/
def at4 {n : ℕ} (X : (⟨4, ![1, 8192, 8, n]⟩ : Shape).Idx → ℝ) (i : Fin 8192) (h : Fin 8) (x : Fin n) : ℝ := X (ix4 0 i h x)
def atW (i : Fin 8192) (h : Fin 8) (d : Fin 64) : ℝ := W (ix3 0 i ⟨h.val * 64 + d.val, by omega⟩)

theorem ofBits_neg_inf : Ideal.ofBits .f32 0xFF800000#32 = ⊥ := by simp [Ideal.ofBits, Ideal.ieee]
theorem ofBits_two : Ideal.ofBits .f32 0x40000000#32 = ((2 : ℝ) : EReal) := by
  rw [ofBits_f32 _ 128 0 (by decide) (by decide) (by decide) (by decide) (by decide)]; norm_num

theorem sitofp_zero : (FloatOps.sitofp .f32 0#32 : Ideal .f32) = ((0 : ℝ) : EReal) := by
  show (((0#32 : BitVec 32).toInt : ℝ) : EReal) = _
  simp

theorem padQK_apply (i : Fin 8192) (h : Fin 8) (y : Fin 128) (c : Fin 1024) (hc : c.val = h.val * 128 + y.val) :
    padQK (up X) (ix2 i c) = ((padTo 96 0 (at4 X i h) y : ℝ) : EReal) := by
  have h1 := y.isLt; have h2 := h.isLt
  have e1 : c.val / 128 = h.val := by omega
  have e2 : c.val % 128 = y.val := by omega
  pointwise [padQK]
  by_cases hy : y.val < 96
  · rw [dif_pos ⟨by omega, by omega⟩, padTo, dif_pos hy]
    simp only [up, e1, e2]; rfl
  · rw [dif_neg (by omega), padTo, dif_neg hy]
    exact sitofp_zero

theorem padV_apply (i : Fin 8192) (h : Fin 8) (y : Fin 128) (c : Fin 1024) (hc : c.val = h.val * 128 + y.val) :
    padV (up Z) (ix2 i c) = ((padTo 64 1 (at4 Z i h) y : ℝ) : EReal) := by
  have h1 := y.isLt; have h2 := h.isLt
  have e1 : c.val / 128 = h.val := by omega
  have e2 : c.val % 128 = y.val := by omega
  pointwise [padV]
  by_cases hy : y.val < 64
  · rw [dif_pos ⟨by omega, by omega⟩, padTo, dif_pos hy]
    simp only [up, e1, e2]; rfl
  · rw [dif_neg (by omega), padTo, dif_neg hy]
    exact (Ideal.ofBits_one_f32 : _).trans EReal.coe_one.symm

theorem padG_apply (i : Fin 8192) (h : Fin 8) (y : Fin 128) (c : Fin 1024) (hc : c.val = h.val * 128 + y.val) :
    padG (up W) (ix2 i c) = ((padTo 64 0 (atW W i h) y : ℝ) : EReal) := by
  have h1 := y.isLt; have h2 := h.isLt
  have e1 : c.val / 128 = h.val := by omega
  have e2 : c.val % 128 = y.val := by omega
  pointwise [padG]
  by_cases hy : y.val < 64
  · rw [dif_pos ⟨by omega, by omega⟩, padTo, dif_pos hy]
    simp only [up, e1, e2]; rfl
  · rw [dif_neg (by omega), padTo, dif_neg hy]
    exact sitofp_zero

theorem scoresH_apply (h : Fin 8) (i j : Fin 8192) : scoresH (up X) (up Y) (ix4 0 h i j) = mscore (at4 X) (at4 Y) h i j := by
  have h1 := i.isLt; have h2 := j.isLt
  pointwise [scoresH]
  word_cmp
  rw [ofBits_att]
  unfold mscore
  refine if_congr Iff.rfl ?_ ?_
  · simp only [up, ← EReal.coe_mul, coe_sum]; rfl
  · exact ofBits_neg_inf

theorem maxH_apply (h : Fin 8) (i : Fin 8192) : maxH (up X) (up Y) (ix4 0 h i 0) = Finset.univ.sup fun j => mscore (at4 X) (at4 Y) h i j := by
  pointwise [maxH]
  rw [ofBits_neg_inf]
  simp only [scoresH_apply]
  exact Finset.sup_def.symm

theorem expH_apply (h : Fin 8) (i j : Fin 8192) (M : ℝ) (hM : maxH (up X) (up Y) (ix4 0 h i 0) = (M : EReal)) :
    expH (up X) (up Y) (ix4 0 h i j) = ((ex (at4 X) (at4 Y) h i j * Real.exp (-M) : ℝ) : EReal) := by
  rw [← exp_mscore, ← hM, ← scoresH_apply]
  pointwise [expH]

theorem sumH_eq (q k : FVec Ideal S1x8192x8x96 .f32) (h : Fin 8) (i : Fin 8192) : sumH q k (ix4 0 h i 0) = ∑ j : Fin 8192, expH q k (ix4 0 h i j) := by
  pointwise [sumH]

theorem sumH_apply (h : Fin 8) (i : Fin 8192) (M : ℝ) (hM : maxH (up X) (up Y) (ix4 0 h i 0) = (M : EReal)) :
    sumH (up X) (up Y) (ix4 0 h i 0) = ((tot (at4 X) (at4 Y) h i * Real.exp (-M) : ℝ) : EReal) := by
  rw [sumH_eq, ← sum_exp, ← coe_sum]
  exact Finset.sum_congr rfl fun j _ => expH_apply X Y h i j M hM

/-- A statistic of every head, repeated over eight rows, the heads in pairs. -/
theorem pairs_eq (v : FVec Ideal S8x8192 .f32) (p : Fin 4) (u : Fin 16) (h : Fin 8) (i : Fin 8192) (hu : h.val = p.val * 2 + u.val / 8) :
    shapeCast S4x16x8192 (broadcastInDim S8x8x8192 ![0, 1, 2] bcast_S8x1x8192_S8x8x8192_0_1_2 (broadcastInDim S8x1x8192 ![0, 2]
      bcast_S8x8192_S8x1x8192_0_2 v)) shapeCasts_S8x8x8192_S4x16x8192 (ix3 p u i) = v (ix2 h i) := by
  have h1 := p.isLt; have h2 := u.isLt
  have hb : p.val * 2 + u.val / 8 < 8 := by clear hu; omega
  obtain rfl : h = ⟨p.val * 2 + u.val / 8, hb⟩ := Fin.ext hu
  pointwise []

theorem flat_eq (v : FVec Ideal S1x8x8192x1 .f32) (h : Fin 8) (i : Fin 8192) :
    shapeCast S8x8192 v shapeCasts_S1x8x8192x1_S8x8192 (ix2 h i) = v (ix4 0 h i 0) := by
  pointwise []

theorem logs_eq (v w : FVec Ideal S1x8x8192x1 .f32) (h : Fin 8) (i : Fin 8192) :
    Host.divf (addf v (Host.log w)) (Host.log (broadcastInDim S1x8x8192x1 ![] bcast_S_S1x8x8192x1 (constant (F := Ideal) S_ .f32 0x40000000#32))) (ix4 0 h i 0)
      = Ideal.div (v (ix4 0 h i 0) + Ideal.log (w (ix4 0 h i 0))) (Ideal.log (Ideal.ofBits .f32 0x40000000#32)) := by
  pointwise []

theorem log_two : Ideal.log (Ideal.ofBits .f32 0x40000000#32) = ((Real.log 2 : ℝ) : EReal) := by
  rw [ofBits_two, Ideal.log_coe, if_neg (by norm_num)]

theorem log_shift (h : Fin 8) (i : Fin 8192) (M : ℝ) :
    Ideal.div ((M : EReal) + Ideal.log ((tot (at4 X) (at4 Y) h i * Real.exp (-M) : ℝ) : EReal)) ((Real.log 2 : ℝ) : EReal)
      = ((Real.log (tot (at4 X) (at4 Y) h i) / Real.log 2 : ℝ) : EReal) := by
  rw [Ideal.log_coe, if_neg (not_le.2 (mul_pos (tot_pos (at4 X) (at4 Y) h i) (Real.exp_pos (-M)))), ← EReal.coe_add, lse_shift,
    coe_div (Real.log_pos (by norm_num)).ne']

theorem lseH_eq (q k : FVec Ideal S1x8192x8x96 .f32) (p : Fin 4) (u : Fin 16) (h : Fin 8) (i : Fin 8192) (hu : h.val = p.val * 2 + u.val / 8) :
    lseH q k (ix3 p u i) = Ideal.div (maxH q k (ix4 0 h i 0) + Ideal.log (sumH q k (ix4 0 h i 0))) (Ideal.log (Ideal.ofBits .f32 0x40000000#32)) :=
  (pairs_eq _ p u h i hu).trans ((flat_eq _ h i).trans (logs_eq _ _ h i))

theorem lseH_apply (p : Fin 4) (u : Fin 16) (h : Fin 8) (i : Fin 8192) (hu : h.val = p.val * 2 + u.val / 8) :
    lseH (up X) (up Y) (ix3 p u i) = ((Real.log (tot (at4 X) (at4 Y) h i) / Real.log 2 : ℝ) : EReal) := by
  obtain ⟨M, hM⟩ := rowmax_real (at4 X) (at4 Y) h i
  rw [← maxH_apply] at hM
  rw [lseH_eq _ _ p u h i hu, log_two, hM, sumH_apply X Y h i M hM, log_shift]

theorem avgH_eq (v : FVec Ideal S1x8192x8x64 .f32) (e : FVec Ideal S1x8x8192x8192 .f32) (w : FVec Ideal S1x8x8192x1 .f32) (h : Fin 8) (i : Fin 8192)
    (d : Fin 64) : Host.dotGeneral dot_S1x8192x8x64_S1x8x8192x8192_S1x8x64x8192_1_3_3_2_02_01 none v
      (Host.divf e (broadcastInDim S1x8x8192x8192 ![0, 1, 2, 3] bcast_S1x8x8192x1_S1x8x8192x8192_0_1_2_3 w)) (ix4 0 h d i)
    = ∑ j : Fin 8192, v (ix4 0 j h d) * Ideal.div (e (ix4 0 h i j)) (w (ix4 0 h i 0)) := by
  pointwise []

theorem swap_eq (v : FVec Ideal S1x8x64x8192 .f32) (h : Fin 8) (i : Fin 8192) (d : Fin 64) :
    transpose S1x8192x8x64 [0, 3, 1, 2] v transposes_S1x8x64x8192_S1x8192x8x64_0_3_1_2 (ix4 0 i h d) = v (ix4 0 h d i) := by
  pointwise []

theorem outH_eq (q k : FVec Ideal S1x8192x8x96 .f32) (v : FVec Ideal S1x8192x8x64 .f32) (h : Fin 8) (i : Fin 8192) (d : Fin 64) :
    outH q k v (ix4 0 i h d) = ∑ j : Fin 8192, v (ix4 0 j h d) * Ideal.div (expH q k (ix4 0 h i j)) (sumH q k (ix4 0 h i 0)) :=
  (swap_eq _ h i d).trans (avgH_eq v (expH q k) (sumH q k) h i d)

theorem outH_apply (h : Fin 8) (i : Fin 8192) (d : Fin 64) :
    outH (up X) (up Y) (up Z) (ix4 0 i h d) = ((∑ j, at4 Z j h d * prob (at4 X) (at4 Y) h i j : ℝ) : EReal) := by
  obtain ⟨M, hM⟩ := rowmax_real (at4 X) (at4 Y) h i
  rw [← maxH_apply] at hM
  have ht := mul_pos (tot_pos (at4 X) (at4 Y) h i) (Real.exp_pos (-M))
  have e : ∀ j : Fin 8192, up Z (ix4 0 j h d) * Ideal.div (expH (up X) (up Y) (ix4 0 h i j)) (sumH (up X) (up Y) (ix4 0 h i 0))
      = ((at4 Z j h d * prob (at4 X) (at4 Y) h i j : ℝ) : EReal) := fun j => by
    rw [expH_apply X Y h i j M hM, sumH_apply X Y h i M hM, coe_div ht.ne', prob_shift, EReal.coe_mul]; rfl
  rw [outH_eq, ← coe_sum]
  exact Finset.sum_congr rfl fun j _ => e j

theorem deltaH_eq (q k : FVec Ideal S1x8192x8x96 .f32) (v : FVec Ideal S1x8192x8x64 .f32) (w : FVec Ideal S1x8192x512 .f32) (p : Fin 4) (u : Fin 16)
    (h : Fin 8) (i : Fin 8192) (hu : h.val = p.val * 2 + u.val / 8) :
    deltaH q k v w (ix3 p u i) = ∑ d : Fin 64, w (ix3 0 i ⟨h.val * 64 + d.val, by omega⟩) * outH q k v (ix4 0 i h d) := by
  have h1 := p.isLt; have h2 := u.isLt
  have hb : p.val * 2 + u.val / 8 < 8 := by clear hu; omega
  obtain rfl : h = ⟨p.val * 2 + u.val / 8, hb⟩ := Fin.ext hu
  pointwise [deltaH]

theorem deltaH_apply (p : Fin 4) (u : Fin 16) (h : Fin 8) (i : Fin 8192) (hu : h.val = p.val * 2 + u.val / 8) :
    deltaH (up X) (up Y) (up Z) (up W) (ix3 p u i) = ((mean (at4 X) (at4 Y) (at4 Z) (atW W) h i : ℝ) : EReal) := by
  rw [← mean_of_out, ← coe_sum, deltaH_eq _ _ _ _ p u h i hu]
  exact Finset.sum_congr rfl fun d _ => by rw [outH_apply, EReal.coe_mul]; rfl

end Cert.AttnBwdIdeal.Val

end
-- ==== Proof.AttnBwdBufs.lean ====
/- What the host lines leave in the arrays the attention backward reads. -/
module

public import proofs.«01_k».proof.Proof.AttnBwdHost

@[expose] public section

set_option maxRecDepth 16384

noncomputable section

namespace Cert.AttnBwdIdeal.Val

open Idealize.ShloMosaic Idealize.ShloMosaic.TcCoe Idealize.ShloMosaic.Tactic Cert.AttnBwdIdeal Cert.AttnBwdIdeal.Gen Cert.RealKit Cert.Attn

variable (m : (ℓ : Loc nD τ sig) → Buf (Elt Ideal) ℓ) (c : Dev nD)

set_option maxHeartbeats 4000000 in
theorem V_q : (V m c main_v3 : FVec Ideal S8192x1024 .bf16) = padQK (m ((c : Thread nD τ).loc main_arg0)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v3) = _
  unfold padQK
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

set_option maxHeartbeats 4000000 in
theorem V_k : (V m c main_v7 : FVec Ideal S8192x1024 .bf16) = padQK (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v7) = _
  unfold padQK
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

set_option maxHeartbeats 4000000 in
theorem V_v : (V m c main_v11 : FVec Ideal S8192x1024 .bf16) = padV (m ((c : Thread nD τ).loc main_arg2)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v11) = _
  unfold padV
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

set_option maxHeartbeats 4000000 in
theorem V_g : (V m c main_v55 : FVec Ideal S8192x1024 .bf16) = padG (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v55) = _
  unfold padG
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

set_option maxHeartbeats 4000000 in
theorem V_lse : (V m c main_v42 : FVec Ideal S4x16x8192 .f32) = lseH (m ((c : Thread nD τ).loc main_arg0)) (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v42) = _
  unfold lseH sumH expH maxH scoresH
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

set_option maxHeartbeats 4000000 in
theorem V_dl : (V m c main_v51 : FVec Ideal S4x16x8192 .f32) = deltaH (m ((c : Thread nD τ).loc main_arg0)) (m ((c : Thread nD τ).loc main_arg1)) (m ((c : Thread nD τ).loc main_arg2)) (m ((c : Thread nD τ).loc main_arg3)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v51) = _
  unfold deltaH outH sumH expH maxH scoresH
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  try rfl

end Cert.AttnBwdIdeal.Val

end
-- ==== Proof.AttnBwdFrame.lean ====
/- The attention backward's frame: what the body finds and leaves at every point of the grid, and the launch. -/
module

public import proofs.«01_k».proof.Proof.AttnBwdBody
public import Idealize.ShloMosaic.Lib.Claim

@[expose] public section

set_option maxRecDepth 16384

noncomputable section

namespace Cert.AttnBwdIdeal.Val

open Idealize.ShloMosaic Idealize.ShloMosaic.TcCoe Idealize.ShloMosaic.Tactic Cert.AttnBwdIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

variable (m : (ℓ : Loc nD τ sig) → Buf (Elt F) ℓ) (ρ : Dev nD → PrngReg)

theorem coord1 (t : Fin cfg0.N) : (grid0.coords t 1).val = t.val % 16 := by
  have h : (grid0.coords t 1).val = t.val / 1 % 16 := Pipeline.Grid.coords_val t 1 (by decide) rfl
  rw [h, Nat.div_one]
theorem coord0 (t : Fin cfg0.N) : (grid0.coords t 0).val = t.val / 16 % 4 := Pipeline.Grid.coords_val t 0 (by decide) rfl

/-! ## What the staging buffers hold -/

/-- What the body reads at point `t`. -/
def insAt (c : Dev nD) (t : Fin cfg0.N) : Ins F :=
  ⟨iblk m c 0 t, iblk m c 1 t, iblk m c 2 t, iblk m c 3 t, iblk m c 4 t, iblk m c 5 t⟩

/-- The query gradient gathered before point `n`. -/
def dqBefore (c : Dev nD) : ℕ → Vec F S8192x256 .f32
  | 0 => k0_pay35
  | n + 1 => if h : n < cfg0.N then dqOut (insAt m c ⟨n, h⟩) (grid0.coords ⟨n, h⟩) (dqBefore c n) else dqBefore c n

theorem dqBefore_succ (c : Dev nD) (t : Fin cfg0.N) :
    dqBefore m c (t.val + 1) = dqOut (insAt m c t) (grid0.coords t) (dqBefore m c t.val) := dif_pos t.isLt

/-- At the first key block the point forgets the contents it finds. -/
theorem gathered_first (x : Ins F) (i : grid0.Coords) (h : (i 1).val = 0) (d d' : Vec F S8192x256 .f32) : gathered x i d = gathered x i d' := by
  have e : start i d = start i d' := by unfold start; rw [if_pos h, if_pos h]
  unfold gathered; rw [e]

abbrev ms0 (t : Fin cfg0.N) : Memref sig .tc .vmem S8192x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x16x8192 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16x8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x256 .f32 := win0_8.stage (cfg0.slots t 8)
abbrev hs8 (t : Fin cfg0.N) : (ms8 t).IsWhole := hstage0_8 ((cfg0.slots t 8).cast nbuf0_8)
abbrev sc0 : Memref sig .tc .vmem S512x128 .f32 := Memref.whole cc0_scratch0
abbrev sc1 : Memref sig .tc .vmem S512x128 .f32 := Memref.whole cc0_scratch1
abbrev sc2 : Memref sig .tc .vmem S512x128 .f32 := Memref.whole cc0_scratch2
abbrev sc3 : Memref sig .tc .vmem S512x128 .f32 := Memref.whole cc0_scratch3

/-- The proof data: the inputs' blocks stay, the outputs hold the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut (insAt m c t) (grid0.coords t) (dqBefore m c t.val)
    | ⟨7, _⟩ => dkOut (insAt m c t) (grid0.coords t) (dqBefore m c t.val)
    | ⟨8, _⟩ => dvOut (insAt m c t) (grid0.coords t) (dqBefore m c t.val)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqOut (insAt m c t) (grid0.coords t) (dqBefore m c t.val) := by dsimp only [dats]
theorem after7 (c : Dev nD) (t : Fin cfg0.N) : (dats m 0 c).after 7 t = dkOut (insAt m c t) (grid0.coords t) (dqBefore m c t.val) := by dsimp only [dats]
theorem after8 (c : Dev nD) (t : Fin cfg0.N) : (dats m 0 c).after 8 t = dvOut (insAt m c t) (grid0.coords t) (dqBefore m c t.val) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Past the first key block the query gradient's buffer holds what the point before left. -/
theorem before6 (c : Dev nD) (t : Fin cfg0.N) (h : ¬t.val % 16 = 0) (d) : (dats m 0 c).before 6 t d = dqBefore m c t.val := by
  have ht : t.val ≠ 0 := fun e => h (by rw [e])
  rw [Dat.before_out_kept _ 6 rfl t ht (Bool.eq_false_iff.mpr fun e => by have := (flush0_6 _).mp e; dsimp only at this; omega) (fun _ => rfl) (fun _ _ => rfl),
    after6, ← dqBefore_succ]
  show dqBefore m c (t.val - 1 + 1) = _
  rw [Nat.sub_add_cancel (Nat.pos_of_ne_zero ht)]

/-- So the point's results are the proof data's, whatever the buffer held. -/
theorem found (c : Dev nD) (t : Fin cfg0.N) (d) :
    gathered (insAt m c t) (grid0.coords t) ((dats m 0 c).before 6 t d) = gathered (insAt m c t) (grid0.coords t) (dqBefore m c t.val) := by
  by_cases h : t.val % 16 = 0
  · exact gathered_first _ _ ((coord1 t).trans h) _ _
  · rw [before6 m c t h]

/-! ## The body at a point -/

theorem scratch_eq (c : Dev nD) :
    (Pipeline.ΦA spec0 c : Assert F)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What the body is called with at point `t`, and what it returns. -/
def bodyPre (c : Dev nD) (t : Fin cfg0.N) : Assert F :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : Assert F :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have eq : dqOut (insAt m c t) (grid0.coords t) (dqBefore m c t.val) = dqOut (insAt m c t) (grid0.coords t) ((dats m 0 c).before 6 t d6) := by
    unfold dqOut; rw [found]
  have ek : dkOut (insAt m c t) (grid0.coords t) (dqBefore m c t.val) = dkOut (insAt m c t) (grid0.coords t) ((dats m 0 c).before 6 t d6) := by
    unfold dkOut; rw [found]
  have ev : dvOut (insAt m c t) (grid0.coords t) (dqBefore m c t.val) = dvOut (insAt m c t) (grid0.coords t) ((dats m 0 c).before 6 t d6) := by
    unfold dvOut; rw [found]
  rw [eq, ek, ev]
  iapply (body_run c (grid0.coords t) (ms0 t) (hs0 t) (ms1 t) (hs1 t) (ms2 t) (hs2 t) (ms3 t) (hs3 t) (ms4 t) (hs4 t) (ms5 t) (hs5 t) (ms6 t) (hs6 t)
    (ms7 t) (hs7 t) (ms8 t) (hs8 t) sc0 (Memref.isWhole_whole _) sc1 (Memref.isWhole_whole _) sc2 (Memref.isWhole_whole _) sc3 (Memref.isWhole_whole _)
    (insAt m c t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

set_option backward.isDefEq.respectTransparency.types false in
set_option maxHeartbeats 800000 in
/-- Every execution of `main` terminates; the arrays end at what the proof data says, the semaphores at zero. -/
theorem run : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Idealize.ShloMosaic.θ_run_and (frame_of m ρ (dats m) (A_eq m) ((θ_run defs _ _).mono (fun _ h => h.1) (run m ρ)))
    ((θ_run defs _ _).mono (fun _ h => h.2) (run m ρ))

end Cert.AttnBwdIdeal.Val
-- ==== Proof.AttnBwdValue.lean ====
/- What the attention backward's arrays hold at the end, on real arguments. -/
module

public import proofs.«01_k».proof.Proof.AttnBwdBufs
public import proofs.«01_k».proof.Proof.AttnBwdFrame

@[expose] public section

set_option maxRecDepth 16384

noncomputable section

namespace Cert.AttnBwdIdeal.Val

open Idealize.ShloMosaic Idealize.ShloMosaic.TcCoe Idealize.ShloMosaic.Tactic Cert.AttnBwdIdeal Cert.AttnBwdIdeal.Gen Cert.RealKit Cert.Attn
open Idealize.SL Idealize.SL.Sem

theorem idx : ∀ t : Fin cfg0.N, win0_0.index t = ![0, t.val / 16] ∧ win0_1.index t = ![t.val % 16, t.val / 16] ∧ win0_2.index t = ![t.val % 16, t.val / 16]
    ∧ win0_3.index t = ![0, t.val / 16] ∧ win0_4.index t = ![t.val / 16, 0, 0] ∧ win0_5.index t = ![t.val / 16, 0, 0]
    ∧ win0_6.index t = ![0, t.val / 16] ∧ win0_7.index t = ![t.val % 16, t.val / 16] ∧ win0_8.index t = ![t.val % 16, t.val / 16] :=
  (by decide +kernel : ∀ t : Fin grid0.N, _)

theorem lt64 (t : Fin cfg0.N) : t.val < 64 := t.isLt.trans_eq (by decide)

/-- The pair of heads and the key block of a grid point. -/
def pairOf (t : Fin cfg0.N) : Fin 4 := ⟨t.val / 16, by have := lt64 t; omega⟩
def keyOf (t : Fin cfg0.N) : Fin 16 := ⟨t.val % 16, by omega⟩

variable (m : (ℓ : Loc nD τ sig) → Buf (Elt Ideal) ℓ) (c : Dev nD)

theorem blk_q (t : Fin cfg0.N) (i : Fin 8192) (y : Fin 256) (z : Fin 1024) (hz : z.val = t.val / 16 * 256 + y.val) :
    (iblk m c 0 t : FVec Ideal S8192x256 .bf16) (ix2 i y) = (V m c main_v3 : FVec Ideal S8192x1024 .bf16) (ix2 i z) := by
  blk_ext [iblk, idx t]

theorem blk_k (t : Fin cfg0.N) (l : Fin 512) (y : Fin 256) (i : Fin 8192) (z : Fin 1024) (hi : i.val = t.val % 16 * 512 + l.val) (hz : z.val = t.val / 16 * 256 + y.val) :
    (iblk m c 1 t : FVec Ideal S512x256 .bf16) (ix2 l y) = (V m c main_v7 : FVec Ideal S8192x1024 .bf16) (ix2 i z) := by
  blk_ext [iblk, idx t]

theorem blk_v (t : Fin cfg0.N) (l : Fin 512) (y : Fin 256) (i : Fin 8192) (z : Fin 1024) (hi : i.val = t.val % 16 * 512 + l.val) (hz : z.val = t.val / 16 * 256 + y.val) :
    (iblk m c 2 t : FVec Ideal S512x256 .bf16) (ix2 l y) = (V m c main_v11 : FVec Ideal S8192x1024 .bf16) (ix2 i z) := by
  blk_ext [iblk, idx t]

theorem blk_g (t : Fin cfg0.N) (i : Fin 8192) (y : Fin 256) (z : Fin 1024) (hz : z.val = t.val / 16 * 256 + y.val) :
    (iblk m c 3 t : FVec Ideal S8192x256 .bf16) (ix2 i y) = (V m c main_v55 : FVec Ideal S8192x1024 .bf16) (ix2 i z) := by
  blk_ext [iblk, idx t]

theorem blk_lse (t : Fin cfg0.N) (u : Fin 16) (i : Fin 8192) :
    (iblk m c 4 t : FVec Ideal S1x16x8192 .f32) (ix3 0 u i) = (V m c main_v42 : FVec Ideal S4x16x8192 .f32) (ix3 (pairOf t) u i) := by
  blk_ext [iblk, idx t, pairOf]

theorem blk_dl (t : Fin cfg0.N) (u : Fin 16) (i : Fin 8192) :
    (iblk m c 5 t : FVec Ideal S1x16x8192 .f32) (ix3 0 u i) = (V m c main_v51 : FVec Ideal S4x16x8192 .f32) (ix3 (pairOf t) u i) := by
  blk_ext [iblk, idx t, pairOf]

theorem half_at {α : Type} (z : S512x256.Idx → α) (a : Fin 2) (l : Fin 512) (y : Fin 128) : half z a (ix2 l y) = z (ix2 l ⟨a.val * 128 + y.val, by omega⟩) := by
  refine congrArg z (funext fun b => Fin.ext ?_)
  fin_cases b
  · show 0 + 1 * l.val = l.val; omega
  · show a.val * 128 + 1 * y.val = a.val * 128 + y.val; omega

theorem stat_at {α : Type} (z : S1x16x8192.Idx → α) (r : Fin 16) (a : Fin 2) (s : Fin 512) : stat z r a (ix3 0 0 s) = z (ix3 0 ⟨a.val * 8, by omega⟩ (pos r s)) := by
  refine congrArg z (funext fun b => Fin.ext ?_)
  fin_cases b
  · rfl
  · show a.val * 8 + 1 * 0 = a.val * 8; omega
  · show r.val * 512 + 1 * s.val = r.val * 512 + s.val; omega

variable {X Y : S1x8192x8x96.Idx → ℝ} {Z : S1x8192x8x64.Idx → ℝ} {W : S1x8192x512.Idx → ℝ}
variable (h0 : m ((c : Thread nD τ).loc main_arg0) = up X) (h1 : m ((c : Thread nD τ).loc main_arg1) = up Y)
variable (h2 : m ((c : Thread nD τ).loc main_arg2) = up Z) (h3 : m ((c : Thread nD τ).loc main_arg3) = up W)

include h0 in
theorem reads_q (t : Fin cfg0.N) (r : Fin 16) (a : Fin 2) (s : Fin 512) (y : Fin 128) :
    rows (iblk m c 0 t : FVec Ideal S8192x256 .bf16) r a (ix2 s y) = ((padTo 96 0 (at4 X (pos r s) (hd (pairOf t) a)) y : ℝ) : EReal) :=
  (rows_at _ r a s y ⟨a.val * 128 + y.val, by omega⟩ rfl).trans <| (blk_q m c t _ _ ⟨t.val / 16 * 256 + (a.val * 128 + y.val), by have := lt64 t; omega⟩ rfl).trans <|
    (congrFun ((V_q m c).trans (congrArg padQK h0)) _).trans <| padQK_apply X _ (hd (pairOf t) a) y _ (by show t.val / 16 * 256 + (a.val * 128 + y.val) = (t.val / 16 * 2 + a.val) * 128 + y.val; omega)

include h3 in
theorem reads_g (t : Fin cfg0.N) (r : Fin 16) (a : Fin 2) (s : Fin 512) (y : Fin 128) :
    rows (iblk m c 3 t : FVec Ideal S8192x256 .bf16) r a (ix2 s y) = ((padTo 64 0 (atW W (pos r s) (hd (pairOf t) a)) y : ℝ) : EReal) :=
  (rows_at _ r a s y ⟨a.val * 128 + y.val, by omega⟩ rfl).trans <| (blk_g m c t _ _ ⟨t.val / 16 * 256 + (a.val * 128 + y.val), by have := lt64 t; omega⟩ rfl).trans <|
    (congrFun ((V_g m c).trans (congrArg padG h3)) _).trans <| padG_apply W _ (hd (pairOf t) a) y _ (by show t.val / 16 * 256 + (a.val * 128 + y.val) = (t.val / 16 * 2 + a.val) * 128 + y.val; omega)

include h1 in
theorem reads_k (t : Fin cfg0.N) (a : Fin 2) (l : Fin 512) (y : Fin 128) :
    half (iblk m c 1 t : FVec Ideal S512x256 .bf16) a (ix2 l y) = ((padTo 96 0 (at4 Y (pos (keyOf t) l) (hd (pairOf t) a)) y : ℝ) : EReal) :=
  (half_at _ a l y).trans <| (blk_k m c t _ _ (pos (keyOf t) l) ⟨t.val / 16 * 256 + (a.val * 128 + y.val), by have := lt64 t; omega⟩ rfl rfl).trans <|
    (congrFun ((V_k m c).trans (congrArg padQK h1)) _).trans <| padQK_apply Y _ (hd (pairOf t) a) y _ (by show t.val / 16 * 256 + (a.val * 128 + y.val) = (t.val / 16 * 2 + a.val) * 128 + y.val; omega)

include h2 in
theorem reads_v (t : Fin cfg0.N) (a : Fin 2) (l : Fin 512) (y : Fin 128) :
    half (iblk m c 2 t : FVec Ideal S512x256 .bf16) a (ix2 l y) = ((padTo 64 1 (at4 Z (pos (keyOf t) l) (hd (pairOf t) a)) y : ℝ) : EReal) :=
  (half_at _ a l y).trans <| (blk_v m c t _ _ (pos (keyOf t) l) ⟨t.val / 16 * 256 + (a.val * 128 + y.val), by have := lt64 t; omega⟩ rfl rfl).trans <|
    (congrFun ((V_v m c).trans (congrArg padV h2)) _).trans <| padV_apply Z _ (hd (pairOf t) a) y _ (by show t.val / 16 * 256 + (a.val * 128 + y.val) = (t.val / 16 * 2 + a.val) * 128 + y.val; omega)

include h0 h1 in
theorem reads_lse (t : Fin cfg0.N) (r : Fin 16) (a : Fin 2) (s : Fin 512) :
    stat (iblk m c 4 t : FVec Ideal S1x16x8192 .f32) r a (ix3 0 0 s)
      = ((Real.log (tot (at4 X) (at4 Y) (hd (pairOf t) a) (pos r s)) / Real.log 2 : ℝ) : EReal) :=
  (stat_at _ r a s).trans <| (blk_lse m c t _ _).trans <| (congrFun ((V_lse m c).trans (congrArg₂ lseH h0 h1)) _).trans <|
    lseH_apply X Y (pairOf t) _ (hd (pairOf t) a) _ (by show t.val / 16 * 2 + a.val = t.val / 16 * 2 + a.val * 8 / 8; omega)

include h0 h1 h2 h3

theorem V_dl_up : (V m c main_v51 : FVec Ideal S4x16x8192 .f32) = deltaH (up X) (up Y) (up Z) (up W) := by
  refine (V_dl m c).trans ?_
  rw [← h0, ← h1, ← h2, ← h3]

theorem reads_dl (t : Fin cfg0.N) (r : Fin 16) (a : Fin 2) (s : Fin 512) :
    stat (iblk m c 5 t : FVec Ideal S1x16x8192 .f32) r a (ix3 0 0 s)
      = ((mean (at4 X) (at4 Y) (at4 Z) (atW W) (hd (pairOf t) a) (pos r s) : ℝ) : EReal) :=
  (stat_at _ r a s).trans <| (blk_dl m c t _ _).trans <| (congrFun (V_dl_up m c h0 h1 h2 h3) _).trans <|
    deltaH_apply X Y Z W (pairOf t) _ (hd (pairOf t) a) _ (by show t.val / 16 * 2 + a.val = t.val / 16 * 2 + a.val * 8 / 8; omega)

theorem reads (t : Fin cfg0.N) : Reads (at4 X) (at4 Y) (at4 Z) (atW W) (insAt m c t) (pairOf t) (keyOf t) := by
  have hq := reads_q m c h0 t
  have hg := reads_g m c h3 t
  have hk := reads_k m c h1 t
  have hv := reads_v m c h2 t
  have hl := reads_lse m c h0 h1 t
  have hd := reads_dl m c h0 h1 h2 h3 t
  unfold insAt
  generalize (iblk m c 0 t : FVec Ideal S8192x256 .bf16) = b0 at *
  generalize (iblk m c 1 t : FVec Ideal S512x256 .bf16) = b1 at *
  generalize (iblk m c 2 t : FVec Ideal S512x256 .bf16) = b2 at *
  generalize (iblk m c 3 t : FVec Ideal S8192x256 .bf16) = b3 at *
  generalize (iblk m c 4 t : FVec Ideal S1x16x8192 .f32) = b4 at *
  generalize (iblk m c 5 t : FVec Ideal S1x16x8192 .f32) = b5 at *
  exact ⟨hq, hg, hk, hv, hl, hd⟩

/-- The query gradient resident before a point that does not begin a pair. -/
theorem dqAt (n : ℕ) : ∀ (hn : n < 64), n % 16 ≠ 0 → DqAt (at4 X) (at4 Y) (at4 Z) (atW W) (dqBefore m c n) ⟨n / 16, by omega⟩ (n % 16) := by
  induction n with
  | zero => intro _ h; exact absurd rfl h
  | succ n ih =>
    intro hn h
    have hN : n < cfg0.N := (show n < 64 by omega).trans_eq (by decide)
    have e := dqOut_mid (reads m c h0 h1 h2 h3 ⟨n, hN⟩) (coord1 ⟨n, hN⟩) (fun hj => ih (by omega) hj) (by show n % 16 ≠ 15; omega)
    rw [dqBefore_succ m c ⟨n, hN⟩]
    have e1 : (⟨(n + 1) / 16, by omega⟩ : Fin 4) = pairOf ⟨n, hN⟩ := Fin.ext (by show (n + 1) / 16 = n / 16; omega)
    have e2 : (n + 1) % 16 = (keyOf ⟨n, hN⟩).val + 1 := by show (n + 1) % 16 = n % 16 + 1; omega
    rw [e1, e2]
    exact e

theorem found_dq (t : Fin cfg0.N) (h : (keyOf t).val ≠ 0) : DqAt (at4 X) (at4 Y) (at4 Z) (atW W) (dqBefore m c t.val) (pairOf t) (keyOf t).val :=
  dqAt m c h0 h1 h2 h3 t.val (lt64 t) h

/-- The columns of an array of eight heads, 128 columns each. -/
def cols (n : ℕ) (f : Fin 8192 → Fin 8 → Fin n → ℝ) (i : S8192x1024.Idx) : ℝ :=
  padTo n 0 (f ⟨(i 0).val, (i 0).isLt⟩ ⟨(i 1).val / 128, Nat.div_lt_of_lt_mul (i 1).isLt⟩) ⟨(i 1).val % 128, Nat.mod_lt _ (by decide)⟩

omit h0 h1 h2 h3 in
theorem cols_at (n : ℕ) (f : Fin 8192 → Fin 8 → Fin n → ℝ) (i : Fin 8192) (z : Fin 1024) (h : Fin 8) (y : Fin 128) (hz : z.val = h.val * 128 + y.val) :
    cols n f (ix2 i z) = padTo n 0 (f i h) y := by
  have e1 : (⟨z.val / 128, by omega⟩ : Fin 8) = h := Fin.ext (by show z.val / 128 = h.val; omega)
  have e2 : (⟨z.val % 128, by omega⟩ : Fin 128) = y := Fin.ext (by show z.val % 128 = y.val; omega)
  show padTo n 0 (f i ⟨z.val / 128, _⟩) ⟨z.val % 128, _⟩ = _
  rw [e1, e2]

set_option maxHeartbeats 1600000 in
theorem final7 : (dats m 0 c).arrAt 7 cfg0.N = up (cols 96 fun j h x => dK (at4 X) (at4 Y) (at4 Z) (atW W) j h x) := by
  refine (dats m 0 c).arrAt_eq_of_covers 7 _ (by decide +kernel) fun t _ y => ?_
  have ht := lt64 t
  idx_vars y
  have e : ((cfg0.win 7).blk t).view.emb (ix2 y0 y1) = ix2 (pos (keyOf t) y0) (⟨t.val / 16 * 256 + y1.val, by omega⟩ : Fin 1024) := by blk_ext [idx t, pos, keyOf]
  rw [e]
  blk_simp
  rw [after7]
  refine (dkOut_real (reads m c h0 h1 h2 h3 t) (coord1 t) (found_dq m c h0 h1 h2 h3 t) ⟨y1.val / 128, by omega⟩ y0 ⟨y1.val % 128, by omega⟩ y1
    (by show y1.val = y1.val / 128 * 128 + y1.val % 128; omega)).trans ?_
  refine congrArg _ (cols_at 96 _ _ _ _ _ ?_).symm
  show t.val / 16 * 256 + y1.val = (t.val / 16 * 2 + y1.val / 128) * 128 + y1.val % 128
  omega

end Cert.AttnBwdIdeal.Val

end
-- ==== Proof.AttnBwdEnd.lean ====
/- The attention backward's three results, on real arguments: the arrays' columns cut back to their own widths. -/
module

public import proofs.«01_k».proof.Proof.AttnBwdValue

@[expose] public section

set_option maxRecDepth 16384

noncomputable section

namespace Cert.AttnBwdIdeal.Val

open Idealize.ShloMosaic Idealize.ShloMosaic.TcCoe Idealize.ShloMosaic.Tactic Cert.AttnBwdIdeal Cert.AttnBwdIdeal.Gen Cert.RealKit Cert.Attn
open Idealize.SL Idealize.SL.Sem

/-- The three gradients as arrays. -/
def gradQ (X Y : S1x8192x8x96.Idx → ℝ) (Z : S1x8192x8x64.Idx → ℝ) (W : S1x8192x512.Idx → ℝ) (i : S1x8192x8x96.Idx) : ℝ :=
  dQ (at4 X) (at4 Y) (at4 Z) (atW W) (i 1) (i 2) (i 3)
def gradK (X Y : S1x8192x8x96.Idx → ℝ) (Z : S1x8192x8x64.Idx → ℝ) (W : S1x8192x512.Idx → ℝ) (i : S1x8192x8x96.Idx) : ℝ :=
  dK (at4 X) (at4 Y) (at4 Z) (atW W) (i 1) (i 2) (i 3)
def gradV (X Y : S1x8192x8x96.Idx → ℝ) (W : S1x8192x512.Idx → ℝ) (i : S1x8192x8x64.Idx) : ℝ :=
  dV (at4 X) (at4 Y) (atW W) (i 1) (i 2) (i 3)

/-- The first columns of every head. -/
def cut96 (A : FVec Ideal S8192x1024 .f32) : FVec Ideal S1x8192x8x96 .f32 :=
  extractStridedSlice S1x8192x8x96 ![0, 0, 0, 0] (shapeCast S1x8192x8x128 A shapeCasts_S8192x1024_S1x8192x8x128) slices_S1x8192x8x128_S1x8192x8x96_0_0_0_0
def cut64 (A : FVec Ideal S8192x1024 .f32) : FVec Ideal S1x8192x8x64 .f32 :=
  extractStridedSlice S1x8192x8x64 ![0, 0, 0, 0] (shapeCast S1x8192x8x128 A shapeCasts_S8192x1024_S1x8192x8x128) slices_S1x8192x8x128_S1x8192x8x64_0_0_0_0

theorem cut96_eq (A : FVec Ideal S8192x1024 .f32) (i : Fin 8192) (h : Fin 8) (x : Fin 96) : cut96 A (ix4 0 i h x) = A (ix2 i ⟨h.val * 128 + x.val, by omega⟩) := by
  pointwise [cut96]
  blk_ext []
theorem cut64_eq (A : FVec Ideal S8192x1024 .f32) (i : Fin 8192) (h : Fin 8) (x : Fin 64) : cut64 A (ix4 0 i h x) = A (ix2 i ⟨h.val * 128 + x.val, by omega⟩) := by
  pointwise [cut64]
  blk_ext []

theorem cut96_cols (f : Fin 8192 → Fin 8 → Fin 96 → ℝ) : cut96 (up (cols 96 f)) = up fun i => f (i 1) (i 2) (i 3) := by
  funext y
  idx_vars y
  obtain rfl : y0 = 0 := Subsingleton.elim _ _
  rw [cut96_eq]
  refine congrArg _ ((cols_at 96 f y1 _ y2 ⟨y3.val, by omega⟩ rfl).trans ?_)
  exact dif_pos y3.isLt
theorem cut64_cols (f : Fin 8192 → Fin 8 → Fin 64 → ℝ) : cut64 (up (cols 64 f)) = up fun i => f (i 1) (i 2) (i 3) := by
  funext y
  idx_vars y
  obtain rfl : y0 = 0 := Subsingleton.elim _ _
  rw [cut64_eq]
  refine congrArg _ ((cols_at 64 f y1 _ y2 ⟨y3.val, by omega⟩ rfl).trans ?_)
  exact dif_pos y3.isLt

variable (m : (ℓ : Loc nD τ sig) → Buf (Elt Ideal) ℓ) (c : Dev nD)

theorem arr_v57 : Pipeline.withArrays spec0 c (V0 m c) (fun w => (dats m 0 c).arrAt w cfg0.N) (Proc.devRef .tc main_v56_0) = (dats m 0 c).arrAt 6 cfg0.N :=
  Pipeline.withArrays_arr spec0 (by decide) c (V0 m c) (fun w => (dats m 0 c).arrAt w cfg0.N) 6
theorem arr_v59 : Pipeline.withArrays spec0 c (V0 m c) (fun w => (dats m 0 c).arrAt w cfg0.N) (Proc.devRef .tc main_v56_1) = (dats m 0 c).arrAt 7 cfg0.N :=
  Pipeline.withArrays_arr spec0 (by decide) c (V0 m c) (fun w => (dats m 0 c).arrAt w cfg0.N) 7
theorem arr_v61 : Pipeline.withArrays spec0 c (V0 m c) (fun w => (dats m 0 c).arrAt w cfg0.N) (Proc.devRef .tc main_v56_2) = (dats m 0 c).arrAt 8 cfg0.N :=
  Pipeline.withArrays_arr spec0 (by decide) c (V0 m c) (fun w => (dats m 0 c).arrAt w cfg0.N) 8

theorem tail_q : (Pipeline.afterTail₀ cfgs (dats m) 0 (V0 m) [hostOps1] c main_v58 : FVec Ideal S1x8192x8x96 .f32) = cut96 ((dats m 0 c).arrAt 6 cfg0.N) := by
  rw [← arr_v57]
  unfold cut96
  show StableHlo.after (List.flatten [hostOps1]) (Pipeline.withArrays spec0 c (V0 m c) fun w => (dats m 0 c).arrAt w cfg0.N) (Proc.devRef .tc main_v58) = _
  generalize Pipeline.withArrays spec0 c (V0 m c) (fun w => (dats m 0 c).arrAt w cfg0.N) = B
  simp only [hostOps1, List.flatten_cons, List.flatten_nil, List.append_nil]
  after_results_simp
  try rfl
theorem tail_k : (Pipeline.afterTail₀ cfgs (dats m) 0 (V0 m) [hostOps1] c main_v60 : FVec Ideal S1x8192x8x96 .f32) = cut96 ((dats m 0 c).arrAt 7 cfg0.N) := by
  rw [← arr_v59]
  unfold cut96
  show StableHlo.after (List.flatten [hostOps1]) (Pipeline.withArrays spec0 c (V0 m c) fun w => (dats m 0 c).arrAt w cfg0.N) (Proc.devRef .tc main_v60) = _
  generalize Pipeline.withArrays spec0 c (V0 m c) (fun w => (dats m 0 c).arrAt w cfg0.N) = B
  simp only [hostOps1, List.flatten_cons, List.flatten_nil, List.append_nil]
  after_results_simp
  try rfl
theorem tail_v : (Pipeline.afterTail₀ cfgs (dats m) 0 (V0 m) [hostOps1] c main_v62 : FVec Ideal S1x8192x8x64 .f32) = cut64 ((dats m 0 c).arrAt 8 cfg0.N) := by
  rw [← arr_v61]
  unfold cut64
  show StableHlo.after (List.flatten [hostOps1]) (Pipeline.withArrays spec0 c (V0 m c) fun w => (dats m 0 c).arrAt w cfg0.N) (Proc.devRef .tc main_v62) = _
  generalize Pipeline.withArrays spec0 c (V0 m c) (fun w => (dats m 0 c).arrAt w cfg0.N) = B
  simp only [hostOps1, List.flatten_cons, List.flatten_nil, List.append_nil]
  after_results_simp
  try rfl

variable {X Y : S1x8192x8x96.Idx → ℝ} {Z : S1x8192x8x64.Idx → ℝ} {W : S1x8192x512.Idx → ℝ}
variable (h0 : m ((c : Thread nD τ).loc main_arg0) = up X) (h1 : m ((c : Thread nD τ).loc main_arg1) = up Y)
variable (h2 : m ((c : Thread nD τ).loc main_arg2) = up Z) (h3 : m ((c : Thread nD τ).loc main_arg3) = up W)
include h0 h1 h2 h3

set_option maxHeartbeats 1600000 in
theorem final8 : (dats m 0 c).arrAt 8 cfg0.N = up (cols 64 fun j h x => dV (at4 X) (at4 Y) (atW W) j h x) := by
  refine (dats m 0 c).arrAt_eq_of_covers 8 _ (by decide +kernel) fun t _ y => ?_
  have ht := lt64 t
  idx_vars y
  have e : ((cfg0.win 8).blk t).view.emb (ix2 y0 y1) = ix2 (pos (keyOf t) y0) (⟨t.val / 16 * 256 + y1.val, by omega⟩ : Fin 1024) := by blk_ext [idx t, pos, keyOf]
  rw [e]
  blk_simp
  rw [after8]
  refine (dvOut_real (reads m c h0 h1 h2 h3 t) (coord1 t) (found_dq m c h0 h1 h2 h3 t) ⟨y1.val / 128, by omega⟩ y0 ⟨y1.val % 128, by omega⟩ y1
    (by show y1.val = y1.val / 128 * 128 + y1.val % 128; omega)).trans ?_
  refine congrArg _ (cols_at 64 _ _ _ _ _ ?_).symm
  show t.val / 16 * 256 + y1.val = (t.val / 16 * 2 + y1.val / 128) * 128 + y1.val % 128
  omega

omit h0 h1 h2 h3 in
theorem flush6 : ∀ t : Fin cfg0.N, (cfg0.win 6).flush t = true → t.val % 16 = 15 := by decide +kernel

set_option maxHeartbeats 1600000 in
theorem final6 : (dats m 0 c).arrAt 6 cfg0.N = up (cols 96 fun i h x => dQ (at4 X) (at4 Y) (at4 Z) (atW W) i h x) := by
  refine (dats m 0 c).arrAt_eq_of_covers 6 _ (by decide +kernel) fun t hf y => ?_
  have ht := lt64 t
  have hl := flush6 t hf
  idx_vars y
  have e : ((cfg0.win 6).blk t).view.emb (ix2 y0 y1) = ix2 y0 (⟨t.val / 16 * 256 + y1.val, by omega⟩ : Fin 1024) := by blk_ext [idx t]
  rw [e]
  blk_simp
  rw [after6]
  obtain ⟨r, s, rfl⟩ : ∃ (r : Fin 16) (s : Fin 512), y0 = pos r s :=
    ⟨⟨y0.val / 512, by omega⟩, ⟨y0.val % 512, by omega⟩, Fin.ext (by show y0.val = y0.val / 512 * 512 + y0.val % 512; omega)⟩
  refine (dqOut_last (reads m c h0 h1 h2 h3 t) (coord1 t) (found_dq m c h0 h1 h2 h3 t) hl r ⟨y1.val / 128, by omega⟩ s ⟨y1.val % 128, by omega⟩ y1
    (by show y1.val = y1.val / 128 * 128 + y1.val % 128; omega)).trans ?_
  refine congrArg _ (cols_at 96 _ _ _ _ _ ?_).symm
  show t.val / 16 * 256 + y1.val = (t.val / 16 * 2 + y1.val / 128) * 128 + y1.val % 128
  omega

theorem dq_eq : (Pipeline.afterTail₀ cfgs (dats m) 0 (V0 m) [hostOps1] c main_v58 : FVec Ideal S1x8192x8x96 .f32) = up (gradQ X Y Z W) := by
  rw [tail_q, final6 m c h0 h1 h2 h3]
  exact cut96_cols _
theorem dk_eq : (Pipeline.afterTail₀ cfgs (dats m) 0 (V0 m) [hostOps1] c main_v60 : FVec Ideal S1x8192x8x96 .f32) = up (gradK X Y Z W) := by
  rw [tail_k, final7 m c h0 h1 h2 h3]
  exact cut96_cols _
theorem dv_eq : (Pipeline.afterTail₀ cfgs (dats m) 0 (V0 m) [hostOps1] c main_v62 : FVec Ideal S1x8192x8x64 .f32) = up (gradV X Y W) := by
  rw [tail_v, final8 m c h0 h1 h2 h3]
  exact cut64_cols _

end Cert.AttnBwdIdeal.Val

end
-- ==== Proof.AttnBwdRef.lean ====
/- The reference's gradients of causal attention, on real arguments. -/
module

public import proofs.«01_k».proof.Proof.AttnBwdEnd
public import proofs.«01_k».proof.Proof.Gen.AttnBwdRefIdeal.Read

@[expose] public section

set_option maxRecDepth 16384

noncomputable section

namespace Cert.AttnBwdRefIdeal.Val

open Idealize.ShloMosaic Idealize.ShloMosaic.TcCoe Idealize.ShloMosaic.Tactic Cert.AttnBwdRefIdeal Cert.AttnBwdRefIdeal.Read Cert.RealKit Cert.Attn
open Cert.AttnBwdIdeal.Val (at4 atW ofBits_neg_inf gradQ gradK gradV)

variable (X Y : S1x8192x8x96.Idx → ℝ) (Z : S1x8192x8x64.Idx → ℝ) (W : S1x8192x512.Idx → ℝ)

theorem scores_ref (h : Fin 8) (i j : Fin 8192) : val_main_v10_0 (F := Ideal) (up X) (up Y) (ix4 0 h i j) = mscore (at4 X) (at4 Y) h i j := by
  have h1 := i.isLt; have h2 := j.isLt
  pointwise [val_main_v10_0, val_main_v10_1, val_main_v9, val_main_v8, val_main_v7, val_main_v6, val_main_v5, val_main_v4, val_main_v3, val_main_v2,
    val_main_v1, val_main_v0, val_main_cst, val_main_call0_v2, val_main_call0_v0, val_main_cst_0]
  word_cmp
  rw [ofBits_att]
  unfold mscore
  refine if_congr Iff.rfl ?_ ?_
  · simp only [up, ← EReal.coe_mul, coe_sum]; rfl
  · exact ofBits_neg_inf

theorem rowmax_eq (v : FVec Ideal S1x8x8192x8192 .f32) (h : Fin 8) (i : Fin 8192) :
    Host.reduce FloatOps.maximumf v (constant S_ .f32 0xFF800000#32) Gen.reducesTo_S1x8x8192x8192_S1x8x8192_d3 Gen.h_S_ (ix3 0 h i)
      = Finset.univ.sup fun j : Fin 8192 => v (ix4 0 h i j) := by
  pointwise []
  rw [ofBits_neg_inf]
  exact Finset.sup_def.symm

theorem max_ref (h : Fin 8) (i : Fin 8192) : val_main_v11 (F := Ideal) (up X) (up Y) (ix3 0 h i) = Finset.univ.sup fun j => mscore (at4 X) (at4 Y) h i j :=
  (rowmax_eq _ h i).trans (Finset.sup_congr rfl fun j _ => scores_ref X Y h i j)

theorem floor_eq (v : FVec Ideal S1x8x8192 .f32) (h : Fin 8) (i : Fin 8192) :
    broadcastInDim S1x8x8192x1 ![0, 1, 2] Gen.bcast_S1x8x8192_S1x8x8192x1_0_1_2 (maximumf (broadcastInDim S1x8x8192 ![] Gen.bcast_S_S1x8x8192
      (constant (F := Ideal) S_ .f32 0xFF800000#32)) v) (ix4 0 h i 0) = v (ix3 0 h i) := by
  pointwise []
  rw [ofBits_neg_inf]
  exact bot_sup_eq _

theorem shift_eq (q k : FVec Ideal S1x8192x8x96 .f32) (h : Fin 8) (i : Fin 8192) :
    val_main_v28 (F := Ideal) q k (ix4 0 h i 0) = val_main_v11 (F := Ideal) q k (ix3 0 h i) := by
  unfold val_main_v28 val_main_v18 val_main_v17 val_main_cst_3
  exact floor_eq _ h i

theorem exp_eq (q k : FVec Ideal S1x8192x8x96 .f32) (h : Fin 8) (i j : Fin 8192) :
    val_main_v31 (F := Ideal) q k (ix4 0 h i j) = Ideal.exp (val_main_v10_0 (F := Ideal) q k (ix4 0 h i j) - val_main_v28 (F := Ideal) q k (ix4 0 h i 0)) := by
  pointwise [val_main_v31, val_main_v30, val_main_v29]

theorem sum_eq (q k : FVec Ideal S1x8192x8x96 .f32) (h : Fin 8) (i : Fin 8192) :
    val_main_v33 (F := Ideal) q k (ix4 0 h i 0) = ∑ j : Fin 8192, val_main_v31 (F := Ideal) q k (ix4 0 h i j) := by
  pointwise [val_main_v33, val_main_v32, val_main_cst_9]

theorem prob_eq (q k : FVec Ideal S1x8192x8x96 .f32) (h : Fin 8) (i j : Fin 8192) :
    val_main_v35 (F := Ideal) q k (ix4 0 h i j) = Ideal.div (val_main_v31 (F := Ideal) q k (ix4 0 h i j)) (val_main_v33 (F := Ideal) q k (ix4 0 h i 0)) := by
  pointwise [val_main_v35, val_main_v34]

theorem inv_eq (q k : FVec Ideal S1x8192x8x96 .f32) (h : Fin 8) (i : Fin 8192) :
    val_main_v38 (F := Ideal) q k (ix4 0 h i 0)
      = Ideal.div 1 (val_main_v33 (F := Ideal) q k (ix4 0 h i 0) * val_main_v33 (F := Ideal) q k (ix4 0 h i 0)) := by
  pointwise [val_main_v38, val_main_v37, val_main_v36, val_main_cst_10]

theorem ct_eq (w : FVec Ideal S1x8192x512 .f32) (h : Fin 8) (i : Fin 8192) (d : Fin 64) :
    val_main_v43 (F := Ideal) w (ix4 0 h d i) = w (ix3 0 i ⟨h.val * 64 + d.val, by omega⟩) := by
  pointwise [val_main_v43, val_main_v42]

theorem gp_eq (v : FVec Ideal S1x8192x8x64 .f32) (w : FVec Ideal S1x8192x512 .f32) (h : Fin 8) (i j : Fin 8192) :
    val_main_v44 (F := Ideal) v w (ix4 0 h i j) = ∑ d : Fin 64, val_main_v43 (F := Ideal) w (ix4 0 h d i) * v (ix4 0 j h d) := by
  pointwise [val_main_v44]

theorem dv_eq (q k : FVec Ideal S1x8192x8x96 .f32) (w : FVec Ideal S1x8192x512 .f32) (h : Fin 8) (j : Fin 8192) (d : Fin 64) :
    val_main_v46 (F := Ideal) q k w (ix4 0 j h d)
      = ∑ i : Fin 8192, val_main_v43 (F := Ideal) w (ix4 0 h d i) * val_main_v35 (F := Ideal) q k (ix4 0 h i j) := by
  pointwise [val_main_v46, val_main_v45]

/-- A sum over two axes of length one is its only entry. -/
theorem unit_sum (v : FVec Ideal S1x8x8192x1 .f32) (z : EReal) (h : Fin 8) (i : Fin 8192) :
    Ideal.hostReduceAdd Gen.reducesTo_S1x8x8192x1_S8x8192_d0_3 v z (ix2 h i) = z + v (ix4 0 h i 0) := by
  refine congrArg (z + ·) ?_
  refine (Finset.sum_congr (s₂ := {ix4 0 h i 0}) ?_ fun _ _ => rfl).trans (Finset.sum_singleton _ _)
  ext y
  rw [Finset.mem_filter, Finset.mem_singleton]
  idx_vars y
  obtain rfl : y0 = 0 := Subsingleton.elim _ _
  obtain rfl : y3 = 0 := Subsingleton.elim _ _
  constructor
  · rintro ⟨-, e⟩
    have e1 : y1.val = h.val := congrArg Fin.val (congrFun e 0)
    have e2 : y2.val = i.val := congrArg Fin.val (congrFun e 1)
    rw [Fin.ext e1, Fin.ext e2]
  · intro e
    have e1 : y1 = h := congrFun e 1
    have e2 : y2 = i := congrFun e 2
    refine ⟨Finset.mem_univ _, funext fun b => Fin.ext ?_⟩
    subst e1 e2
    fin_cases b <;> rfl

theorem flat_eq (v : FVec Ideal S1x8x8192x8192 .f32) (h : Fin 8) (i : Fin 8192) :
    Host.negf (shapeCast S1x8x8192x1 (Host.reduceAdd v (constant S_ .f32 0#32) Gen.reducesTo_S1x8x8192x8192_S1x8x8192_d3 Gen.h_S_)
      Gen.shapeCasts_S1x8x8192_S1x8x8192x1) (ix4 0 h i 0) = -∑ j : Fin 8192, v (ix4 0 h i j) := by
  pointwise []

theorem weighted_eq (q k : FVec Ideal S1x8192x8x96 .f32) (v : FVec Ideal S1x8192x8x64 .f32) (w : FVec Ideal S1x8192x512 .f32) (h : Fin 8) (i j : Fin 8192) :
    val_main_v49 (F := Ideal) q k v w (ix4 0 h i j) = val_main_v44 (F := Ideal) v w (ix4 0 h i j) * val_main_v38 (F := Ideal) q k (ix4 0 h i 0)
      * val_main_v31 (F := Ideal) q k (ix4 0 h i j) := by
  pointwise [val_main_v49, val_main_v48, val_main_v47]

theorem spread_eq (q k : FVec Ideal S1x8192x8x96 .f32) (v : FVec Ideal S1x8192x8x64 .f32) (w : FVec Ideal S1x8192x512 .f32) (h : Fin 8) (i j : Fin 8192) :
    val_main_v57 (F := Ideal) q k v w (ix4 0 h i j) = val_main_v55 (F := Ideal) q k v w (ix2 h i) := by
  pointwise [val_main_v57, val_main_v56]

theorem mean_eq (q k : FVec Ideal S1x8192x8x96 .f32) (v : FVec Ideal S1x8192x8x64 .f32) (w : FVec Ideal S1x8192x512 .f32) (h : Fin 8) (i j : Fin 8192) :
    val_main_v57 (F := Ideal) q k v w (ix4 0 h i j) = -∑ j : Fin 8192, val_main_v49 (F := Ideal) q k v w (ix4 0 h i j) := by
  refine (spread_eq q k v w h i j).trans ((unit_sum (val_main_v52 (F := Ideal) q k v w) (Ideal.ofBits .f32 0#32) h i).trans ?_)
  rw [Ideal.ofBits_zero_f32, zero_add]
  exact flat_eq (val_main_v49 (F := Ideal) q k v w) h i

theorem ds_eq (q k : FVec Ideal S1x8192x8x96 .f32) (v : FVec Ideal S1x8192x8x64 .f32) (w : FVec Ideal S1x8192x512 .f32) (h : Fin 8) (i j : Fin 8192) :
    val_main_v62 (F := Ideal) q k v w (ix4 0 h i j) = (if j.val ≤ i.val then
      (Ideal.div (val_main_v44 (F := Ideal) v w (ix4 0 h i j)) (val_main_v33 (F := Ideal) q k (ix4 0 h i 0)) + val_main_v57 (F := Ideal) q k v w (ix4 0 h i j))
        * val_main_v31 (F := Ideal) q k (ix4 0 h i j) else 0) * ((att : ℝ) : EReal) := by
  have h1 := i.isLt; have h2 := j.isLt
  pointwise [val_main_v62, val_main_v61, val_main_v60, val_main_v59, val_main_v58, val_main_v54, val_main_v53, val_main_cst_13, val_main_call1_v0, val_main_call1_cst,
    val_main_v10_1, val_main_v9, val_main_v8, val_main_v7, val_main_v6, val_main_v5, val_main_v4, val_main_v3]
  word_cmp
  rw [ofBits_att]
  split
  · rfl
  · rw [zero_mul]

theorem dk_eq (q k : FVec Ideal S1x8192x8x96 .f32) (v : FVec Ideal S1x8192x8x64 .f32) (w : FVec Ideal S1x8192x512 .f32) (h : Fin 8) (j : Fin 8192) (x : Fin 96) :
    val_main_v64 (F := Ideal) q k v w (ix4 0 j h x) = ∑ i : Fin 8192, val_main_v62 (F := Ideal) q k v w (ix4 0 h i j) * q (ix4 0 i h x) := by
  pointwise [val_main_v64, val_main_v63]

theorem dq_eq (q k : FVec Ideal S1x8192x8x96 .f32) (v : FVec Ideal S1x8192x8x64 .f32) (w : FVec Ideal S1x8192x512 .f32) (h : Fin 8) (i : Fin 8192) (x : Fin 96) :
    val_main_v66 (F := Ideal) q k v w (ix4 0 i h x) = ∑ j : Fin 8192, val_main_v62 (F := Ideal) q k v w (ix4 0 h i j) * k (ix4 0 j h x) := by
  pointwise [val_main_v66, val_main_v65]

/-! ## On real arguments -/

section Real
variable {M : ℝ} (h : Fin 8) (i : Fin 8192) (hM : (Finset.univ.sup fun j => mscore (at4 X) (at4 Y) h i j) = (M : EReal))
include hM

theorem exp_ref (j : Fin 8192) : val_main_v31 (F := Ideal) (up X) (up Y) (ix4 0 h i j) = ((ex (at4 X) (at4 Y) h i j * Real.exp (-M) : ℝ) : EReal) := by
  rw [exp_eq, shift_eq, max_ref, hM, scores_ref, exp_mscore]

theorem sum_ref : val_main_v33 (F := Ideal) (up X) (up Y) (ix4 0 h i 0) = ((tot (at4 X) (at4 Y) h i * Real.exp (-M) : ℝ) : EReal) := by
  rw [sum_eq, ← sum_exp, ← coe_sum]
  exact Finset.sum_congr rfl fun j _ => exp_ref X Y h i hM j

end Real

theorem prob_ref (h : Fin 8) (i j : Fin 8192) : val_main_v35 (F := Ideal) (up X) (up Y) (ix4 0 h i j) = ((prob (at4 X) (at4 Y) h i j : ℝ) : EReal) := by
  obtain ⟨M, hM⟩ := rowmax_real (at4 X) (at4 Y) h i
  have ht := mul_pos (tot_pos (at4 X) (at4 Y) h i) (Real.exp_pos (-M))
  rw [prob_eq, exp_ref X Y h i hM, sum_ref X Y h i hM, coe_div ht.ne', prob_shift]

theorem ct_ref (h : Fin 8) (i : Fin 8192) (d : Fin 64) : val_main_v43 (F := Ideal) (up W) (ix4 0 h d i) = ((atW W i h d : ℝ) : EReal) := ct_eq _ h i d

theorem gp_ref (h : Fin 8) (i j : Fin 8192) : val_main_v44 (F := Ideal) (up Z) (up W) (ix4 0 h i j) = ((gp (at4 Z) (atW W) h i j : ℝ) : EReal) := by
  rw [gp_eq, gp, ← coe_sum]
  exact Finset.sum_congr rfl fun d _ => by rw [ct_ref, EReal.coe_mul]; rfl

theorem mean_ref (h : Fin 8) (i j : Fin 8192) {M : ℝ} (hM : (Finset.univ.sup fun j => mscore (at4 X) (at4 Y) h i j) = (M : EReal)) :
    val_main_v57 (F := Ideal) (up X) (up Y) (up Z) (up W) (ix4 0 h i j)
      = ((-(mean (at4 X) (at4 Y) (at4 Z) (atW W) h i / (tot (at4 X) (at4 Y) h i * Real.exp (-M))) : ℝ) : EReal) := by
  have ht := mul_pos (tot_pos (at4 X) (at4 Y) h i) (Real.exp_pos (-M))
  rw [mean_eq, EReal.coe_neg, mean, Finset.sum_div, ← coe_sum]
  refine congrArg _ (Finset.sum_congr rfl fun j _ => ?_)
  rw [weighted_eq, gp_ref, inv_eq, exp_ref X Y h i hM, sum_ref X Y h i hM, coe_one', ← EReal.coe_mul, coe_div (mul_pos ht ht).ne', ← EReal.coe_mul,
    ← EReal.coe_mul, ← prob_shift _ _ _ _ _ M]
  refine congrArg _ ?_
  generalize tot (at4 X) (at4 Y) h i * Real.exp (-M) = T at *
  have hT := ht.ne'
  field_simp

theorem ds_ref (h : Fin 8) (i j : Fin 8192) :
    val_main_v62 (F := Ideal) (up X) (up Y) (up Z) (up W) (ix4 0 h i j) = ((ds (at4 X) (at4 Y) (at4 Z) (atW W) h i j * att : ℝ) : EReal) := by
  obtain ⟨M, hM⟩ := rowmax_real (at4 X) (at4 Y) h i
  have ht := mul_pos (tot_pos (at4 X) (at4 Y) h i) (Real.exp_pos (-M))
  rw [ds_eq, EReal.coe_mul]
  refine congrArg (· * _) ?_
  split
  · rw [gp_ref, mean_ref X Y Z W h i j hM, exp_ref X Y h i hM, sum_ref X Y h i hM, coe_div ht.ne', ← EReal.coe_add, ← EReal.coe_mul]
    refine congrArg _ ?_
    rw [ds, ← prob_shift _ _ _ _ _ M]
    generalize tot (at4 X) (at4 Y) h i * Real.exp (-M) = T at *
    have hT := ht.ne'
    field_simp
    ring
  · rw [ds_later _ _ _ _ _ _ _ (by omega), EReal.coe_zero]

theorem gradV_ref : val_main_v46 (F := Ideal) (up X) (up Y) (up W) = up (gradV X Y W) := by
  funext y
  idx_vars y
  obtain rfl : y0 = 0 := Subsingleton.elim _ _
  rw [dv_eq]
  refine (Finset.sum_congr rfl fun i _ => ?_).trans (coe_sum _ fun i => prob (at4 X) (at4 Y) y2 i y1 * atW W i y2 y3)
  rw [ct_ref, prob_ref, ← EReal.coe_mul, mul_comm]

theorem gradK_ref : val_main_v64 (F := Ideal) (up X) (up Y) (up Z) (up W) = up (gradK X Y Z W) := by
  funext y
  idx_vars y
  obtain rfl : y0 = 0 := Subsingleton.elim _ _
  rw [dk_eq]
  refine (Finset.sum_congr rfl fun i _ => ?_).trans ((coe_sum _ fun i => ds (at4 X) (at4 Y) (at4 Z) (atW W) y2 i y1 * att * at4 X i y2 y3).trans ?_)
  · rw [ds_ref, EReal.coe_mul]; rfl
  · refine congrArg _ (Eq.trans ?_ (Finset.sum_mul _ _ _).symm)
    exact Finset.sum_congr rfl fun i _ => mul_right_comm _ _ _

theorem gradQ_ref : val_main_v66 (F := Ideal) (up X) (up Y) (up Z) (up W) = up (gradQ X Y Z W) := by
  funext y
  idx_vars y
  obtain rfl : y0 = 0 := Subsingleton.elim _ _
  rw [dq_eq]
  refine (Finset.sum_congr rfl fun j _ => ?_).trans ((coe_sum _ fun j => ds (at4 X) (at4 Y) (at4 Z) (atW W) y2 y1 j * att * at4 Y j y2 y3).trans ?_)
  · rw [ds_ref, EReal.coe_mul]; rfl
  · refine congrArg _ (Eq.trans ?_ (Finset.sum_mul _ _ _).symm)
    exact Finset.sum_congr rfl fun j _ => mul_right_comm _ _ _

end Cert.AttnBwdRefIdeal.Val

end
-- ==== Proof.AttnBwdPair.lean ====
/- The claims about the attention's gradient. -/
module

public import proofs.«01_k».proof.Defs
public import proofs.«01_k».proof.Proof.AttnBwdRef
public import proofs.«01_k».proof.Proof.Gen.AttnBwd
public import proofs.«01_k».proof.Proof.Gen.AttnBwdRefIdeal.Run
public import proofs.«01_k».proof.Proof.Gen.Pre_finite_attn_bwd

@[expose] public section

set_option maxRecDepth 65536

noncomputable section

namespace Cert.AttnBwdPair

open Idealize.ShloMosaic Idealize.ShloMosaic.TcCoe Idealize.SL.Sem

/-- At the machine's words a named constant is the word it names. -/
@[reducible] def wordNames : Named Bits := ⟨fun _ _ {φ} w => Scalar.ofBits φ w⟩

/-- The frame, of the text the two programs share. -/
def framed [Named Bits] : Prop :=
  ∀ (m : (ℓ : Loc Cert.AttnBwdIdeal.nD Cert.AttnBwdIdeal.τ Cert.AttnBwdIdeal.sig) → Buf (Elt Bits) ℓ) (g : Dev Cert.AttnBwdIdeal.nD → PrngReg), True →
    θ_run (Cert.AttnBwdIdeal.defs (F := Bits)) (onTc (τ := Cert.AttnBwdIdeal.τ) (Cert.AttnBwdIdeal.main (F := Bits))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

theorem same_text : @framed wordNames = Cert.quiescent_AttnBwd := by
  sl_kernel_rfl

theorem frame_kernel : Cert.quiescent_AttnBwd :=
  same_text ▸ fun m g _ => @Cert.AttnBwdIdeal.Val.frame_run Bits _ wordNames m g

theorem frame_ideal : Cert.quiescent_AttnBwdIdeal := fun m g _ => Cert.AttnBwdIdeal.Val.frame_run m g

theorem frame_ref : Cert.quiescent_AttnBwdRefIdeal := by
  intro m g _
  exact (θ_run _ _ _).mono (fun r h => ⟨fun c => (h c).2.2.2, sem_eq_zero_of_no_sems (by decide) r.2⟩) (Cert.AttnBwdRefIdeal.Value.run (F := Ideal) m g)

theorem preserves : Cert.preserves_AttnBwd_AttnBwdIdeal :=
  ⟨IdealRules.named_const.statement _ _ _ _ _ rfl, IdealRules.named_const.statement _ _ _ _ _ rfl⟩

open Cert.AttnBwdIdeal Cert.RealKit in
/-- Finite arguments are real numbers. -/
theorem finite (m : (ℓ : Loc nD τ sig) → Buf (Elt Ideal) ℓ) (h : Cert.Pre_AttnBwdIdeal_finite_attn_bwd m) (c : Dev nD) :
    ∃ (X Y : S1x8192x8x96.Idx → ℝ) (Z : S1x8192x8x64.Idx → ℝ) (W : S1x8192x512.Idx → ℝ),
      m ((c : Thread nD τ).loc main_arg0) = up X ∧ m ((c : Thread nD τ).loc main_arg1) = up Y ∧ m ((c : Thread nD τ).loc main_arg2) = up Z
      ∧ m ((c : Thread nD τ).loc main_arg3) = up W := by
  have e := congrFun (h c) (fun a => a.elim0)
  dsimp only [Cert.Pre_finite_attn_bwd.fn, Cert.Pre_finite_attn_bwd.fn_part1] at e
  simp only [and_split] at e
  obtain ⟨⟨⟨h0, h1⟩, h2⟩, h3⟩ := e
  exact ⟨_, _, _, _, real_of_all _ _ _ _ _ h0, real_of_all _ _ _ _ _ h1, real_of_all _ _ _ _ _ h2, real_of_all _ _ _ _ _ h3⟩

open Cert.AttnBwdIdeal Cert.RealKit in
theorem value : Cert.algebraic_AttnBwdIdeal_AttnBwdRefIdeal_pre_finite_attn_bwd := by
  intro m g m' g' hpre hagree
  choose X Y Z W hX hY hZ hW using finite m hpre
  refine ⟨fun c => up (Val.gradQ (X c) (Y c) (Z c) (W c)), fun c => up (Val.gradK (X c) (Y c) (Z c) (W c)), fun c => up (Val.gradV (X c) (Y c) (W c)), ?_, ?_⟩
  · refine (θ_run _ _ _).mono (fun r h c => ?_) (θ_run_and (Val.run m g) (Val.frame_run m g))
    obtain ⟨⟨h1, -⟩, h2, -⟩ := h
    exact ⟨((h1 c).2 main_v58 (Pipeline.mem_restRefs_of main_v58 (by decide) (by decide))).trans (Val.dq_eq m c (hX c) (hY c) (hZ c) (hW c)),
      ((h1 c).2 main_v60 (Pipeline.mem_restRefs_of main_v60 (by decide) (by decide))).trans (Val.dk_eq m c (hX c) (hY c) (hZ c) (hW c)),
      ((h1 c).2 main_v62 (Pipeline.mem_restRefs_of main_v62 (by decide) (by decide))).trans (Val.dv_eq m c (hX c) (hY c) (hZ c) (hW c)), h2 c⟩
  · refine (θ_run _ _ _).mono (fun r h c => ?_) (Cert.AttnBwdRefIdeal.Value.run (F := Ideal) m' g')
    obtain ⟨a0, a1, a2, a3⟩ := hagree c
    obtain ⟨h0, h1, h2, hr⟩ := h c
    refine ⟨h0.trans ?_, h1.trans ?_, h2.trans ?_, hr⟩
    · rw [AttnBwdRefIdeal.Read.val_main_v66_eq, a0, a1, a2, a3, hX, hY, hZ, hW]
      exact AttnBwdRefIdeal.Val.gradQ_ref _ _ _ _
    · rw [AttnBwdRefIdeal.Read.val_main_v64_eq, a0, a1, a2, a3, hX, hY, hZ, hW]
      exact AttnBwdRefIdeal.Val.gradK_ref _ _ _ _
    · rw [AttnBwdRefIdeal.Read.val_main_v46_eq, a0, a1, a3, hX, hY, hW]
      exact AttnBwdRefIdeal.Val.gradV_ref _ _ _

end Cert.AttnBwdPair

end
-- ==== Proof.OBwdValue.lean ====
/- What `OBwdIdeal` leaves in its three results, on real arguments. -/
module

public import proofs.«01_k».proof.Defs
public import proofs.«01_k».proof.Proof.Gen.OBwdIdeal.Frame
public import proofs.«01_k».proof.Proof.RealKit

@[expose] public section

set_option maxRecDepth 16384

noncomputable section

namespace Cert.OBwdIdeal.Val

open Idealize.ShloMosaic Idealize.ShloMosaic.TcCoe Idealize.SL.Sem Cert.RealKit
open Idealize.ShloMosaic.Pipeline (Dat)
open Cert.OBwdIdeal Cert.OBwdIdeal.Gen

/-- The gradient of the concatenated heads, a row's rescaled sum of gradient times output, and the padded rows, over the real numbers. -/
def dcat (D : S8192x1024.Idx → ℝ) (W : S1024x1024.Idx → ℝ) (t : Fin 8192) (l : Fin 1024) : ℝ := ∑ k : Fin 1024, D (ix2 t k) * W (ix2 l k)
def dlt (D : S8192x1024.Idx → ℝ) (O : S8192x512.Idx → ℝ) (W : S1024x1024.Idx → ℝ) (t : Fin 8192) (h : Fin 8) : ℝ :=
  ∑ v : Fin 64, dcat D W t ⟨512 + (h.val * 64 + v.val), by omega⟩ * O (ix2 t ⟨h.val * 64 + v.val, by omega⟩)
def padRow (W : S1024x1024.Idx → ℝ) (i : S1024x1024.Idx) : ℝ :=
  if h : (i 0).val % 128 < 64 then W (ix2 ⟨512 + ((i 0).val / 128 * 64 + (i 0).val % 128), by have : (i 0).val < 1024 := (i 0).isLt; omega⟩ (i 1)) else 0

def dpad (D : S8192x1024.Idx → ℝ) (W : S1024x1024.Idx → ℝ) (t : Fin 8192) (l : Fin 1024) : ℝ := ∑ k : Fin 1024, D (ix2 t k) * padRow W (ix2 l k)

theorem dpad_eq (D : S8192x1024.Idx → ℝ) (W : S1024x1024.Idx → ℝ) (t : Fin 8192) (h : Fin 8) (v : Fin 64) (l : Fin 1024) (hl : l.val = h.val * 128 + v.val) :
    dpad D W t l = dcat D W t ⟨512 + (h.val * 64 + v.val), by omega⟩ := by
  refine Finset.sum_congr rfl fun k _ => congrArg _ ?_
  unfold padRow
  rw [dif_pos (show (ix2 l k (0 : Fin 2)).val % 128 < 64 by show l.val % 128 < 64; omega)]
  refine congrArg W (congrArg (fun a => ix2 a k) (Fin.ext ?_))
  show 512 + (l.val / 128 * 64 + l.val % 128) = 512 + (h.val * 64 + v.val)
  omega

theorem sum_low (f : Fin 128 → ℝ) : (∑ k : Fin 128, if k.val < 64 then f k else 0) = ∑ v : Fin 64, f ⟨v.val, by omega⟩ := by
  rw [show (∑ k : Fin 128, if k.val < 64 then f k else 0) = _ from Fin.sum_univ_add (a := 64) (b := 64) (fun k => if k.val < 64 then f k else 0)]
  simp only [Fin.val_castAdd, Fin.is_lt, if_true, Fin.val_natAdd, Nat.not_lt.2 (Nat.le_add_right _ _), if_false, Finset.sum_const_zero, add_zero]
  rfl
theorem sum_high (f : Fin 128 → ℝ) : (∑ k : Fin 128, f k) - (∑ k : Fin 128, if k.val < 64 then f k else 0) = ∑ v : Fin 64, f ⟨64 + v.val, by omega⟩ := by
  rw [sum_low, show (∑ k : Fin 128, f k) = _ from Fin.sum_univ_add (a := 64) (b := 64) f]
  exact add_sub_cancel_left _ _

/-- The two halves' sums of a pair of heads, eight equal rows each. -/
def halves (p : FVec Ideal S512x128 .f32) : FVec Ideal S16x512 .f32 :=
  have v17 : FVec Ideal S512 .f32 := multiReduction .add [1] S512 p 0x00000000#32 reduces_S512x128_S512 (.inl rfl) rfl
  have v18 : FVec Ideal S512x1 .f32 := shapeCast S512x1 v17 shapeCasts_S512_S512x1
  have v20 : FVec Ideal S512x128 .f32 := select k0_pay5 p (broadcast S512x128 (Scalar.ofBits .f32 0x00000000#32))
  have v21 : FVec Ideal S512 .f32 := multiReduction .add [1] S512 v20 0x00000000#32 reduces_S512x128_S512 (.inl rfl) rfl
  have v22 : FVec Ideal S512x1 .f32 := shapeCast S512x1 v21 shapeCasts_S512_S512x1
  have v25 : FVec Ideal S512x128 .f32 := broadcastTo S512x128 (shapeCast S512x1 v22 shapeCasts_S512x1_S512x1) broadcasts_S512x1_S512x128
  have v27 : FVec Ideal S512x128 .f32 := broadcastTo S512x128 (shapeCast S512x1 (subf v18 v22) shapeCasts_S512x1_S512x1) broadcasts_S512x1_S512x128
  have v29 : FVec Ideal S128x512 .f32 := transpose S128x512 [1, 0] (select k0_pay5 v25 v27) transposes_S512x128_p1_0_S128x512
  concatenate S16x512 0 [⟨S8x512, extractStridedSlice S8x512 ![0, 0] v29 slices_S128x512_o0_0_S8x512⟩,
    ⟨S8x512, extractStridedSlice S8x512 ![64, 0] v29 slices_S128x512_o64_0_S8x512⟩] concatenates_S8x512_S8x512_S16x512_d0

theorem mask (r : Fin 512) (l : Fin 128) : k0_pay5 (ix2 r l) = BitVec.ofBool (decide (l.val < 64)) := by
  have := l.isLt
  pointwise [k0_pay5]
  word_cmp

theorem masked (p : FVec Ideal S512x128 .f32) (P : Fin 128 → ℝ) (j : Fin 512) (hp : ∀ k, p (ix2 j k) = P k) (x : Fin 128) :
    Scalar.select (k0_pay5 (ix2 j x)) (p (ix2 j x)) 0 = ((if x.val < 64 then P x else 0 : ℝ) : EReal) := by
  rw [mask, hp]
  by_cases h : x.val < 64 <;> simp [Scalar.select, h]

theorem halves_low (p : FVec Ideal S512x128 .f32) (P : Fin 128 → ℝ) (j : Fin 512) (e : Fin 16) (he : e.val < 8) (hp : ∀ k, p (ix2 j k) = P k) :
    halves p (ix2 e j) = ((∑ v : Fin 64, P ⟨v.val, by omega⟩ : ℝ) : EReal) := by
  pointwise [halves]
  rw [dif_pos (by omega), mask]
  simp only [masked p P j hp]
  simp only [hp, coe_sum, sum_low]
  simp [Scalar.select, show e.val < 64 by omega]
theorem halves_high (p : FVec Ideal S512x128 .f32) (P : Fin 128 → ℝ) (j : Fin 512) (e : Fin 16) (he : ¬ e.val < 8) (hp : ∀ k, p (ix2 j k) = P k) :
    halves p (ix2 e j) = ((∑ v : Fin 64, P ⟨64 + v.val, by omega⟩ : ℝ) : EReal) := by
  pointwise [halves]
  rw [dif_neg (by omega), mask]
  simp only [masked p P j hp]
  simp only [hp, coe_sum, ← EReal.coe_sub, sum_high]
  simp [Scalar.select]

/-- A row of the result, for either half of the pair. -/
theorem halves_apply (p : FVec Ideal S512x128 .f32) (d : Fin 2 → ℝ) (P : Fin 128 → ℝ) (j : Fin 512) (e : Fin 16) (hp : ∀ k, p (ix2 j k) = P k)
    (h0 : ∑ v : Fin 64, P ⟨v.val, by omega⟩ = d 0) (h1 : ∑ v : Fin 64, P ⟨64 + v.val, by omega⟩ = d 1) (s : Fin 2) (hs : s.val = e.val / 8) :
    halves p (ix2 e j) = (d s : EReal) := by
  by_cases he : e.val < 8
  · rw [halves_low p P j e he hp, h0, show s = 0 from Fin.ext (by show s.val = 0; omega)]
  · rw [halves_high p P j e he hp, h1, show s = 1 from Fin.ext (by show s.val = 1; omega)]

theorem pay6_eq (a b o) : k0_pay6 (F := Ideal) a b o = halves (mulf (extractStridedSlice S512x128 ![0, 512] (k0_pay3 a b) slices_S512x1024_o0_512_S512x128) (extractStridedSlice S512x128 ![0, 0] o slices_S512x512_o0_0_S512x128)) := rfl
theorem pay12_eq (a b o) : k0_pay12 (F := Ideal) k0_pay5 (k0_pay8 a b o) (k0_pay9 a b o) = shapeCast S1x16x512 (halves (mulf (extractStridedSlice S512x128 ![0, 640] (k0_pay3 a b) slices_S512x1024_o0_640_S512x128) (extractStridedSlice S512x128 ![0, 128] o slices_S512x512_o0_128_S512x128))) shapeCasts_S16x512_S1x16x512 := rfl
theorem pay13_eq (a o) : k0_pay13 (F := Ideal) a o k0_pay5 = shapeCast S1x16x512 (halves (mulf (extractStridedSlice S512x128 ![0, 768] a slices_S512x1024_o0_768_S512x128) (extractStridedSlice S512x128 ![0, 256] o slices_S512x512_o0_256_S512x128))) shapeCasts_S16x512_S1x16x512 := rfl
theorem pay10_eq (a o) : k0_pay10 (F := Ideal) a o k0_pay5 = halves (mulf (extractStridedSlice S512x128 ![0, 896] a slices_S512x1024_o0_896_S512x128) (extractStridedSlice S512x128 ![0, 384] o slices_S512x512_o0_384_S512x128)) := rfl

theorem pay3_apply (x : FVec Ideal S512x1024 .bf16) (w : FVec Ideal S1024x1024 .bf16) (r : Fin 512) (X : Fin 1024 → ℝ) (W : S1024x1024.Idx → ℝ)
    (hx : ∀ k, x (ix2 r k) = X k) (hw : w = up W) (l : Fin 1024) : k0_pay3 (F := Ideal) x w (ix2 r l) = ((∑ k, X k * W (ix2 l k) : ℝ) : EReal) := by
  subst hw
  pointwise [k0_pay3]
  simp only [hx, ← EReal.coe_mul, coe_sum]

theorem pay4_apply (x : FVec Ideal S512x1024 .bf16) (w : FVec Ideal S1024x1024 .bf16) (r : Fin 512) (X : Fin 1024 → ℝ) (W : S1024x1024.Idx → ℝ)
    (hx : ∀ k, x (ix2 r k) = X k) (hw : w = up W) (l : Fin 1024) : k0_pay2 (F := Ideal) (k0_pay4 x w) (ix2 r l) = ((∑ k, X k * W (ix2 l k) : ℝ) : EReal) := by
  subst hw
  pointwise [k0_pay2, k0_pay4]
  simp only [hx, ← EReal.coe_mul, coe_sum]

/-- The four pairs of heads stacked. -/
theorem stack_apply (a0 a1 a2 a3 : FVec Ideal S16x512 .f32) (y : Fin 4) (e : Fin 16) (j : Fin 512) (R : ℝ)
    (h0 : y = 0 → a0 (ix2 e j) = R) (h1 : y = 1 → a1 (ix2 e j) = R) (h2 : y = 2 → a2 (ix2 e j) = R) (h3 : y = 3 → a3 (ix2 e j) = R) :
    k0_pay1 (F := Ideal) a3 (shapeCast S1x16x512 a0 shapeCasts_S16x512_S1x16x512) (shapeCast S1x16x512 a1 shapeCasts_S16x512_S1x16x512)
      (shapeCast S1x16x512 a2 shapeCasts_S16x512_S1x16x512) (ix3 y e j) = R := by
  fin_cases y
  · refine Eq.trans ?_ (h0 rfl)
    pointwise [k0_pay1]
  · refine Eq.trans ?_ (h1 rfl)
    pointwise [k0_pay1]
  · refine Eq.trans ?_ (h2 rfl)
    pointwise [k0_pay1]
  · refine Eq.trans ?_ (h3 rfl)
    pointwise [k0_pay1]

/-- The products of one pair of heads. -/
theorem pair_apply (a : FVec Ideal S512x1024 .f32) (o : FVec Ideal S512x512 .f32) (A : Fin 1024 → ℝ) (O : Fin 512 → ℝ) (j : Fin 512)
    (ha : ∀ l, a (ix2 j l) = A l) (ho : ∀ l, o (ix2 j l) = O l) (k : Fin 128) :
    mulf (extractStridedSlice S512x128 ![0, 512] a slices_S512x1024_o0_512_S512x128) (extractStridedSlice S512x128 ![0, 0] o slices_S512x512_o0_0_S512x128) (ix2 j k)
      = ((A ⟨512 + (0 + k.val), by omega⟩ * O ⟨0 + k.val, by omega⟩ : ℝ) : EReal)
    ∧ mulf (extractStridedSlice S512x128 ![0, 640] a slices_S512x1024_o0_640_S512x128) (extractStridedSlice S512x128 ![0, 128] o slices_S512x512_o0_128_S512x128) (ix2 j k)
      = ((A ⟨512 + (128 + k.val), by omega⟩ * O ⟨128 + k.val, by omega⟩ : ℝ) : EReal)
    ∧ mulf (extractStridedSlice S512x128 ![0, 768] a slices_S512x1024_o0_768_S512x128) (extractStridedSlice S512x128 ![0, 256] o slices_S512x512_o0_256_S512x128) (ix2 j k)
      = ((A ⟨512 + (256 + k.val), by omega⟩ * O ⟨256 + k.val, by omega⟩ : ℝ) : EReal)
    ∧ mulf (extractStridedSlice S512x128 ![0, 896] a slices_S512x1024_o0_896_S512x128) (extractStridedSlice S512x128 ![0, 384] o slices_S512x512_o0_384_S512x128) (ix2 j k)
      = ((A ⟨512 + (384 + k.val), by omega⟩ * O ⟨384 + k.val, by omega⟩ : ℝ) : EReal) := by
  refine ⟨?_, ?_, ?_, ?_⟩ <;>
  · pointwise []
    simp only [ha, ho, EReal.coe_mul]
    try (congr 3 <;> exact Fin.ext (by first | rfl | (dsimp only; omega)))

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0, t.val] :=
  (by decide +kernel : ∀ t : Fin grid0.N, _)

theorem lt16 (t : Fin cfg0.N) : t.val < 16 := t.isLt.trans_eq N_0

/-- The last rows of the weights, every head's padded to the arrays' width. -/
def padH (W : FVec Ideal S1024x1024 .f32) : FVec Ideal S1024x1024 .bf16 :=
  shapeCast S1024x1024 (pad S8x128x1024 ![0, 0, 0] ![0, 64, 0] ![0, 0, 0] (shapeCast S8x64x1024 (extractStridedSlice S512x1024 ![512, 0] (truncf .bf16 W bitsLt_bf16_f32) slices_S1024x1024_S512x1024_512_0) shapeCasts_S512x1024_S8x64x1024) (sitofp .bf16 (constantI S_ 32 0#32)) pads_S8x64x1024_S8x128x1024_000_0640_000 h_S_) shapeCasts_S8x128x1024_S1024x1024

theorem padH_eq (W : S1024x1024.Idx → ℝ) : padH (up W) = up (padRow W) := by
  funext i
  idx_vars i
  pointwise [padH]
  show _ = ((padRow W (ix2 i0 i1) : ℝ) : EReal)
  unfold padRow
  by_cases h : i0.val % 128 < 64
  · rw [dif_pos ⟨by omega, h⟩, dif_pos (show (ix2 i0 i1 (0 : Fin 2)).val % 128 < 64 from h)]
    rfl
  · rw [dif_neg (fun h' => h h'.2), dif_neg (show ¬ (ix2 i0 i1 (0 : Fin 2)).val % 128 < 64 from h)]
    show ((((0#32 : BitVec 32).toInt : ℝ)) : EReal) = _
    norm_num

theorem V_x : V m c main_v1 = (truncf .bf16 (m ((c : Thread nD τ).loc main_arg0) : FVec Ideal S8192x1024 .f32) bitsLt_bf16_f32 : FVec Ideal S8192x1024 .bf16) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results_simp
  try rfl
theorem V_w : V m c main_v0 = (truncf .bf16 (m ((c : Thread nD τ).loc main_arg2) : FVec Ideal S1024x1024 .f32) bitsLt_bf16_f32 : FVec Ideal S1024x1024 .bf16) := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append]
  after_results_simp
  try rfl
theorem V_p : V m c main_v5 = padH (m ((c : Thread nD τ).loc main_arg2) : FVec Ideal S1024x1024 .f32) := by
  show StableHlo.after (List.flatten [hostOps0, hostOps0_1, hostOps0_2]) (fun b => m (c, b)) (Proc.devRef .tc main_v5) = _
  unfold padH
  simp only [hostOps0, hostOps0_1, hostOps0_2, List.flatten_cons, List.flatten_nil, List.append_nil, List.cons_append, List.nil_append]
  after_results_simp
  try rfl

theorem after4 (t : Fin cfg0.N) : (dats m 0 c).after 4 t = k0_pay3 (iblk m c 0 t) (iblk m c 2 t) := by
  rw [after0_4]; unfold_out out0_4; frame_out
theorem after5 (t : Fin cfg0.N) : (dats m 0 c).after 5 t = k0_pay2 (k0_pay4 (iblk m c 0 t) (iblk m c 3 t)) := by
  rw [after0_5]; unfold_out out0_5; frame_out
theorem after6 (t : Fin cfg0.N) : (dats m 0 c).after 6 t = k0_pay1 (k0_pay10 (k0_pay3 (iblk m c 0 t) (iblk m c 2 t)) (iblk m c 1 t) k0_pay5)
    (k0_pay11 (k0_pay6 (iblk m c 0 t) (iblk m c 2 t) (iblk m c 1 t))) (k0_pay12 k0_pay5 (k0_pay8 (iblk m c 0 t) (iblk m c 2 t) (iblk m c 1 t)) (k0_pay9 (iblk m c 0 t) (iblk m c 2 t) (iblk m c 1 t)))
    (k0_pay13 (k0_pay3 (iblk m c 0 t) (iblk m c 2 t)) (iblk m c 1 t) k0_pay5) := by
  rw [after0_6]; unfold_out out0_6; frame_out

theorem blk_x (t : Fin cfg0.N) (r : Fin 512) (k : Fin 1024) (T : Fin 8192) (hT : T.val = t.val * 512 + r.val) :
    (iblk m c 0 t : FVec Ideal S512x1024 .bf16) (ix2 r k) = (V m c main_v1 : FVec Ideal S8192x1024 .bf16) (ix2 T k) := by blk_ext [iblk, idx t]
theorem blk_o (t : Fin cfg0.N) (r : Fin 512) (k : Fin 512) (T : Fin 8192) (hT : T.val = t.val * 512 + r.val) :
    (iblk m c 1 t : FVec Ideal S512x512 .f32) (ix2 r k) = (V m c main_arg1 : FVec Ideal S8192x512 .f32) (ix2 T k) := by blk_ext [iblk, idx t]
theorem blk_w (t : Fin cfg0.N) : (iblk m c 2 t : FVec Ideal S1024x1024 .bf16) = (V m c main_v0 : FVec Ideal S1024x1024 .bf16) := by
  funext i; idx_vars i; blk_ext [iblk, idx t]
theorem blk_p (t : Fin cfg0.N) : (iblk m c 3 t : FVec Ideal S1024x1024 .bf16) = (V m c main_v5 : FVec Ideal S1024x1024 .bf16) := by
  funext i; idx_vars i; blk_ext [iblk, idx t]

variable {D : S8192x1024.Idx → ℝ} {O : S8192x512.Idx → ℝ} {W : S1024x1024.Idx → ℝ} (hD : m ((c : Thread nD τ).loc main_arg0) = up D)
  (hO : m ((c : Thread nD τ).loc main_arg1) = up O) (hW : m ((c : Thread nD τ).loc main_arg2) = up W)
include hD hO hW

theorem x_real (t : Fin cfg0.N) (r : Fin 512) (k : Fin 1024) (T : Fin 8192) (hT : T.val = t.val * 512 + r.val) :
    (iblk m c 0 t : FVec Ideal S512x1024 .bf16) (ix2 r k) = (D (ix2 T k) : EReal) :=
  (blk_x m c t r k T hT).trans ((congrFun (V_x m c) _).trans (congrFun hD _))
theorem o_real (t : Fin cfg0.N) (r : Fin 512) (k : Fin 512) (T : Fin 8192) (hT : T.val = t.val * 512 + r.val) :
    (iblk m c 1 t : FVec Ideal S512x512 .f32) (ix2 r k) = (O (ix2 T k) : EReal) :=
  (blk_o m c t r k T hT).trans ((congrFun (V_main_arg1 m c) _).trans (congrFun hO _))
theorem w_real (t : Fin cfg0.N) : (iblk m c 2 t : FVec Ideal S1024x1024 .bf16) = up W := (blk_w m c t).trans ((V_w m c).trans hW)
theorem p_real (t : Fin cfg0.N) : (iblk m c 3 t : FVec Ideal S1024x1024 .bf16) = up (padRow W) :=
  (blk_p m c t).trans ((V_p m c).trans ((congrArg padH hW).trans (padH_eq W)))

theorem dcat_real (t : Fin cfg0.N) (r : Fin 512) (T : Fin 8192) (hT : T.val = t.val * 512 + r.val) (l : Fin 1024) :
    k0_pay3 (F := Ideal) (iblk m c 0 t) (iblk m c 2 t) (ix2 r l) = (dcat D W T l : EReal) :=
  pay3_apply _ _ r (fun k => D (ix2 T k)) W (fun k => x_real m c hD hO hW t r k T hT) (w_real m c hD hO hW t) l

set_option maxHeartbeats 1600000 in
theorem final4 : (dats m 0 c).arrAt 4 cfg0.N = up fun i : S8192x1024.Idx => dcat D W (i 0) (i 1) := by
  refine (dats m 0 c).arrAt_eq_of_covers 4 _ (by decide +kernel) fun t _ y => ?_
  have ht := lt16 t
  idx_vars y
  have e : ((cfg0.win 4).blk t).view.emb (ix2 y0 y1) = ix2 (⟨t.val * 512 + y0.val, by omega⟩ : Fin 8192) y1 := by blk_ext [idx t]
  rw [e]
  blk_simp
  rw [after4]
  exact dcat_real m c hD hO hW t y0 _ rfl y1

set_option maxHeartbeats 1600000 in
theorem final5 : (dats m 0 c).arrAt 5 cfg0.N = up fun i : S8192x1024.Idx => dpad D W (i 0) (i 1) := by
  refine (dats m 0 c).arrAt_eq_of_covers 5 _ (by decide +kernel) fun t _ y => ?_
  have ht := lt16 t
  idx_vars y
  have e : ((cfg0.win 5).blk t).view.emb (ix2 y0 y1) = ix2 (⟨t.val * 512 + y0.val, by omega⟩ : Fin 8192) y1 := by blk_ext [idx t]
  rw [e]
  blk_simp
  rw [after5]
  exact pay4_apply _ _ y0 (fun k => D (ix2 _ k)) (padRow W) (fun k => x_real m c hD hO hW t y0 k _ rfl) (p_real m c hD hO hW t) y1

omit hD hO hW in
theorem pair_row (T : Fin 8192) (n b : ℕ) (hn : n < 4) (hb : b = n * 128) (s s' : ℕ) (hs : s < 2) (hs' : s' = s * 64) :
    (∑ v : Fin 64, dcat D W T ⟨512 + (b + (s' + v.val)), by omega⟩ * O (ix2 T ⟨b + (s' + v.val), by omega⟩)) = dlt D O W T ⟨n * 2 + s, by omega⟩ := by
  unfold dlt
  refine Finset.sum_congr rfl fun v _ => ?_
  refine congrArg₂ (· * ·) (congrArg (dcat D W T) (Fin.ext ?_)) (congrArg (fun a => O (ix2 T a)) (Fin.ext ?_)) <;> dsimp only <;> omega

omit hD hO hW in
/-- One pair's rows are the two heads' sums. -/
theorem pair_real (p : FVec Ideal S512x128 .f32) (T : Fin 8192) (n b : ℕ) (hn : n < 4) (hb : b = n * 128) (j : Fin 512) (e : Fin 16)
    (hp : ∀ k : Fin 128, p (ix2 j k) = ((dcat D W T ⟨512 + (b + k.val), by omega⟩ * O (ix2 T ⟨b + k.val, by omega⟩) : ℝ) : EReal)) :
    halves p (ix2 e j) = (dlt D O W T ⟨n * 2 + e.val / 8, by omega⟩ : EReal) := by
  refine (halves_apply p (fun s => dlt D O W T ⟨n * 2 + s.val, by omega⟩) _ j e hp ?_ ?_ ⟨e.val / 8, by omega⟩ rfl)
  · refine Eq.trans (Finset.sum_congr rfl fun v _ => ?_) (pair_row T n b hn hb 0 0 (by omega) (by omega))
    refine congrArg₂ (· * ·) (congrArg (dcat D W T) (Fin.ext ?_)) (congrArg (fun a => O (ix2 T a)) (Fin.ext ?_)) <;> dsimp only <;> omega
  · exact pair_row T n b hn hb 1 64 (by omega) (by omega)

set_option maxHeartbeats 1600000 in
theorem final6 : (dats m 0 c).arrAt 6 cfg0.N = up fun i : S4x16x8192.Idx => dlt D O W (i 2) ⟨(i 0).val * 2 + (i 1).val / 8, by have : (i 0).val < 4 := (i 0).isLt; have : (i 1).val < 16 := (i 1).isLt; omega⟩ := by
  refine (dats m 0 c).arrAt_eq_of_covers 6 _ (by decide +kernel) fun t _ y => ?_
  have ht := lt16 t
  idx_vars y
  have e : ((cfg0.win 6).blk t).view.emb (ix3 y0 y1 y2) = ix3 y0 y1 (⟨t.val * 512 + y2.val, by omega⟩ : Fin 8192) := by blk_ext [idx t]
  rw [e]
  blk_simp
  rw [after6]
  have ha := dcat_real m c hD hO hW t y2 ⟨t.val * 512 + y2.val, by omega⟩ rfl
  have ho : ∀ k, (iblk m c 1 t : FVec Ideal S512x512 .f32) (ix2 y2 k) = _ := fun k => o_real m c hD hO hW t y2 k ⟨t.val * 512 + y2.val, by omega⟩ rfl
  rw [pay6_eq, pay12_eq, pay13_eq, pay10_eq]
  generalize (k0_pay3 (F := Ideal) (iblk m c 0 t) (iblk m c 2 t)) = a at *
  generalize (iblk m c 1 t : FVec Ideal S512x512 .f32) = o at *
  have hq := pair_apply a o _ _ y2 ha ho
  refine stack_apply _ _ _ _ y0 y1 y2 _ ?_ ?_ ?_ ?_
  all_goals
    rintro rfl
  · exact pair_real _ _ 0 0 (by omega) rfl y2 y1 fun k => (hq k).1
  · exact pair_real _ _ 1 128 (by omega) rfl y2 y1 fun k => (hq k).2.1
  · exact pair_real _ _ 2 256 (by omega) rfl y2 y1 fun k => (hq k).2.2.1
  · exact pair_real _ _ 3 384 (by omega) rfl y2 y1 fun k => (hq k).2.2.2

omit hD hO hW

/-- The three results, over the real numbers. -/
def gradCat (D : S8192x1024.Idx → ℝ) (W : S1024x1024.Idx → ℝ) (i : S8192x1024.Idx) : ℝ := dcat D W (i 0) (i 1)
def gradO (D : S8192x1024.Idx → ℝ) (W : S1024x1024.Idx → ℝ) (i : S8192x8x64.Idx) : ℝ :=
  dcat D W (i 0) ⟨512 + ((i 1).val * 64 + (i 2).val), by have : (i 1).val < 8 := (i 1).isLt; have : (i 2).val < 64 := (i 2).isLt; omega⟩
def rowSum (D : S8192x1024.Idx → ℝ) (O : S8192x512.Idx → ℝ) (W : S1024x1024.Idx → ℝ) (i : S8192x8.Idx) : ℝ := dlt D O W (i 0) (i 1)

def cutO (A : FVec Ideal S8192x1024 .bf16) : FVec Ideal S8192x8x64 .f32 :=
  extractStridedSlice S8192x8x64 ![0, 0, 0] (shapeCast S8192x8x128 (extf .f32 A bitsLt_bf16_f32) shapeCasts_S8192x1024_S8192x8x128) slices_S8192x8x128_S8192x8x64_0_0_0
def cutD (A : FVec Ideal S4x16x8192 .f32) : FVec Ideal S8192x8 .f32 :=
  transpose S8192x8 [1, 0] (shapeCast S8x8192 (extractStridedSlice S8x1x8192 ![0, 0, 0] (shapeCast S8x8x8192 A shapeCasts_S4x16x8192_S8x8x8192) slices_S8x8x8192_S8x1x8192_0_0_0) shapeCasts_S8x1x8192_S8x8192) transposes_S8x8192_S8192x8_1_0

theorem cutO_eq (A : FVec Ideal S8192x1024 .bf16) (i : Fin 8192) (h : Fin 8) (x : Fin 64) : cutO A (ix3 i h x) = A (ix2 i ⟨h.val * 128 + x.val, by omega⟩) := by
  pointwise [cutO]
  blk_ext []
theorem cutD_eq (A : FVec Ideal S4x16x8192 .f32) (i : Fin 8192) (h : Fin 8) : cutD A (ix2 i h) = A (ix3 ⟨h.val / 2, by omega⟩ ⟨h.val % 2 * 8, by omega⟩ i) := by
  pointwise [cutD]
  blk_ext []

theorem cutO_real (f : Fin 8192 → Fin 1024 → ℝ) (g : Fin 8192 → Fin 8 → Fin 64 → ℝ) (h : ∀ t h v (l : Fin 1024), l.val = h.val * 128 + v.val → f t l = g t h v) :
    cutO (up fun i : S8192x1024.Idx => f (i 0) (i 1)) = up fun i : S8192x8x64.Idx => g (i 0) (i 1) (i 2) := by
  funext y
  idx_vars y
  rw [cutO_eq]
  exact congrArg _ (h _ _ _ _ rfl)
theorem cutD_real (f : Fin 8192 → Fin 8 → ℝ) (hb : ∀ i : S4x16x8192.Idx, (i 0).val * 2 + (i 1).val / 8 < 8) :
    cutD (up fun i : S4x16x8192.Idx => f (i 2) ⟨(i 0).val * 2 + (i 1).val / 8, hb i⟩) = up fun i : S8192x8.Idx => f (i 0) (i 1) := by
  funext y
  idx_vars y
  rw [cutD_eq]
  refine congrArg _ (congrArg (f y0) (Fin.ext ?_))
  show y1.val / 2 * 2 + y1.val % 2 * 8 / 8 = y1.val
  omega

theorem arr5 : Pipeline.withArrays spec0 c (V0 m c) (fun w => (dats m 0 c).arrAt w cfg0.N) (Proc.devRef .tc main_v6_1) = (dats m 0 c).arrAt 5 cfg0.N :=
  Pipeline.withArrays_arr spec0 (by decide) c (V0 m c) (fun w => (dats m 0 c).arrAt w cfg0.N) 5
theorem arr6 : Pipeline.withArrays spec0 c (V0 m c) (fun w => (dats m 0 c).arrAt w cfg0.N) (Proc.devRef .tc main_v6_2) = (dats m 0 c).arrAt 6 cfg0.N :=
  Pipeline.withArrays_arr spec0 (by decide) c (V0 m c) (fun w => (dats m 0 c).arrAt w cfg0.N) 6

theorem tail_o : (Pipeline.afterTail₀ cfgs (dats m) 0 (V0 m) [hostOps1] c main_v9 : FVec Ideal S8192x8x64 .f32) = cutO ((dats m 0 c).arrAt 5 cfg0.N) := by
  rw [← arr5]
  unfold cutO
  show StableHlo.after (List.flatten [hostOps1]) (Pipeline.withArrays spec0 c (V0 m c) fun w => (dats m 0 c).arrAt w cfg0.N) (Proc.devRef .tc main_v9) = _
  generalize Pipeline.withArrays spec0 c (V0 m c) (fun w => (dats m 0 c).arrAt w cfg0.N) = B
  simp only [hostOps1, List.flatten_cons, List.flatten_nil, List.append_nil]
  after_results_simp
  try rfl
theorem tail_d : (Pipeline.afterTail₀ cfgs (dats m) 0 (V0 m) [hostOps1] c main_v13 : FVec Ideal S8192x8 .f32) = cutD ((dats m 0 c).arrAt 6 cfg0.N) := by
  rw [← arr6]
  unfold cutD
  show StableHlo.after (List.flatten [hostOps1]) (Pipeline.withArrays spec0 c (V0 m c) fun w => (dats m 0 c).arrAt w cfg0.N) (Proc.devRef .tc main_v13) = _
  generalize Pipeline.withArrays spec0 c (V0 m c) (fun w => (dats m 0 c).arrAt w cfg0.N) = B
  simp only [hostOps1, List.flatten_cons, List.flatten_nil, List.append_nil]
  after_results_simp
  try rfl

include hD hO hW

theorem do_eq : (Pipeline.afterTail₀ cfgs (dats m) 0 (V0 m) [hostOps1] c main_v9 : FVec Ideal S8192x8x64 .f32) = up (gradO D W) := by
  rw [tail_o, final5 m c hD hO hW]
  exact cutO_real (dpad D W) (fun t h v => dcat D W t ⟨512 + (h.val * 64 + v.val), by omega⟩) (dpad_eq D W)
theorem dlt_eq : (Pipeline.afterTail₀ cfgs (dats m) 0 (V0 m) [hostOps1] c main_v13 : FVec Ideal S8192x8 .f32) = up (rowSum D O W) := by
  rw [tail_d, final6 m c hD hO hW]
  exact cutD_real (dlt D O W) _

end Cert.OBwdIdeal.Val

end
-- ==== Proof.OBwdRef.lean ====
/- What `OBwdRefIdeal` leaves in its three results, on real arguments. -/
module

public import proofs.«01_k».proof.Proof.OBwdValue
public import proofs.«01_k».proof.Proof.Gen.OBwdRefIdeal.Read

@[expose] public section

set_option maxRecDepth 16384

noncomputable section

namespace Cert.OBwdRefIdeal.Val

open Idealize.ShloMosaic Idealize.ShloMosaic.TcCoe Idealize.SL.Sem Cert.RealKit
open Cert.OBwdRefIdeal Cert.OBwdRefIdeal.Gen Cert.OBwdRefIdeal.Read Cert.OBwdIdeal.Val

variable (D : S8192x1024.Idx → ℝ) (O : S8192x512.Idx → ℝ) (W : S1024x1024.Idx → ℝ)

theorem v2 (t : Fin 8192) (l : Fin 1024) : val_main_v2 (F := Ideal) (up D) (up W) (ix2 t l) = (dcat D W t l : EReal) := by
  pointwise [val_main_v2]
  simp only [← EReal.coe_mul, coe_sum]
  rfl

theorem cat_ref : val_main_v2 (F := Ideal) (up D) (up W) = up (gradCat D W) := by
  funext i
  idx_vars i
  exact v2 D W i0 i1

theorem v4 (t : Fin 8192) (h : Fin 8) (v : Fin 64) : val_main_v4 (F := Ideal) (up D) (up W) (ix3 t h v) = (dcat D W t ⟨512 + (h.val * 64 + v.val), by omega⟩ : EReal) := by
  pointwise [val_main_v4, val_main_v3]
  exact v2 D W _ _

theorem o_ref : val_main_v4 (F := Ideal) (up D) (up W) = up (gradO D W) := by
  funext i
  idx_vars i
  exact v4 D W i0 i1 i2

theorem d_ref : val_main_v7 (F := Ideal) (up D) (up O) (up W) = up (rowSum D O W) := by
  funext i
  idx_vars i
  pointwise [val_main_v7, val_main_v6, val_main_v5, val_main_cst_0]
  simp only [v4, ← EReal.coe_mul, coe_sum]
  rfl

end Cert.OBwdRefIdeal.Val

end
-- ==== Proof.OBwdPair.lean ====
/- The claims about the output projection's gradient and the attention's row sums. -/
module

public import proofs.«01_k».proof.Defs
public import proofs.«01_k».proof.Proof.OBwdRef
public import proofs.«01_k».proof.Proof.Gen.OBwd.Frame
public import proofs.«01_k».proof.Proof.Gen.OBwdRefIdeal.Run
public import proofs.«01_k».proof.Proof.Gen.Pre_finite_o_bwd

@[expose] public section

noncomputable section

namespace Cert.OBwdPair

open Idealize.ShloMosaic Idealize.ShloMosaic.TcCoe Idealize.SL.Sem Cert.RealKit Cert.OBwdIdeal

theorem finite (m : (ℓ : Loc nD τ sig) → Buf (Elt Ideal) ℓ) (h : Cert.Pre_OBwdIdeal_finite_o_bwd m) (c : Dev nD) :
    ∃ (D : S8192x1024.Idx → ℝ) (O : S8192x512.Idx → ℝ) (W : S1024x1024.Idx → ℝ),
      m ((c : Thread nD τ).loc main_arg0) = up D ∧ m ((c : Thread nD τ).loc main_arg1) = up O ∧ m ((c : Thread nD τ).loc main_arg2) = up W := by
  have e := congrFun (h c) (fun a => a.elim0)
  dsimp only [Cert.Pre_finite_o_bwd.fn] at e
  simp only [and_split] at e
  obtain ⟨⟨h0, h1⟩, h2⟩ := e
  exact ⟨_, _, _, real_of_all _ _ _ _ _ h0, real_of_all _ _ _ _ _ h1, real_of_all _ _ _ _ _ h2⟩

theorem value : Cert.algebraic_OBwdIdeal_OBwdRefIdeal_pre_finite_o_bwd := by
  intro m g m' g' hpre hagree
  choose D O W hD hO hW using finite m hpre
  refine ⟨fun c => up (Val.gradCat (D c) (W c)), fun c => up (Val.gradO (D c) (W c)), fun c => up (Val.rowSum (D c) (O c) (W c)), ?_, ?_⟩
  · refine (θ_run _ _ _).mono (fun r h c => ?_) (θ_run_and (Gen.run_main m g) (Gen.frame m g))
    obtain ⟨h1, h2, -⟩ := h
    exact ⟨((h1 c).1 4).trans (Val.final4 m c (hD c) (hO c) (hW c)),
      ((h1 c).2 main_v9 (Pipeline.mem_restRefs_of main_v9 (by decide) (by decide))).trans (Val.do_eq m c (hD c) (hO c) (hW c)),
      ((h1 c).2 main_v13 (Pipeline.mem_restRefs_of main_v13 (by decide) (by decide))).trans (Val.dlt_eq m c (hD c) (hO c) (hW c)), h2 c⟩
  · refine (θ_run _ _ _).mono (fun r h c => ?_) (Cert.OBwdRefIdeal.Value.run (F := Ideal) m' g')
    obtain ⟨a0, a1, a2⟩ := hagree c
    obtain ⟨h0, h1, h2, hr⟩ := h c
    refine ⟨h0.trans ?_, h1.trans ?_, h2.trans ?_, hr⟩
    · rw [a0, a2, hD, hW]
      exact OBwdRefIdeal.Val.cat_ref _ _
    · refine (OBwdRefIdeal.Read.val_main_v4_eq _ _).trans ?_
      rw [a0, a2, hD, hW]
      exact OBwdRefIdeal.Val.o_ref _ _
    · refine (OBwdRefIdeal.Read.val_main_v7_eq _ _ _).trans ?_
      rw [a0, a1, a2, hD, hO, hW]
      exact OBwdRefIdeal.Val.d_ref _ _ _

theorem frame_kernel : Cert.quiescent_OBwd := fun m g _ => Cert.OBwd.Gen.frame m g

theorem frame_ideal : Cert.quiescent_OBwdIdeal := fun m g _ => Gen.frame m g

theorem frame_ref : Cert.quiescent_OBwdRefIdeal := by
  intro m g _
  exact (θ_run _ _ _).mono (fun r h => ⟨fun c => (h c).2.2.2, sem_eq_zero_of_no_sems (by decide) r.2⟩) (Cert.OBwdRefIdeal.Value.run (F := Ideal) m g)

theorem preserves : Cert.preserves_OBwd_OBwdIdeal := trivial

end Cert.OBwdPair

end
-- ==== Proof.RmsKit.lean ====
/- The gradient of a root-mean-square norm over the real numbers, and sums over rows taken block by block. -/
module

public import proofs.«01_k».proof.Proof.RealKit

@[expose] public section

noncomputable section

namespace Cert.RealKit

open Idealize.ShloMosaic

theorem ofBits_neg_half : Ideal.ofBits .f32 0xBF000000#32 = ((-(1 / 2) : ℝ) : EReal) := by
  simp only [Ideal.ofBits, Ideal.ieee, Nat.reduceAdd]
  rw [show BitVec.extractLsb' 31 1 (0xBF000000#32 : BitVec 32) = 1#1 by decide, show (BitVec.extractLsb' 23 8 (0xBF000000#32 : BitVec 32)).toNat = 126 by decide,
    show (BitVec.extractLsb' 0 23 (0xBF000000#32 : BitVec 32)).toNat = 0 by decide]
  norm_num

/-- A row's mean square plus the small constant. -/
def msq {n : ℕ} (d : ℝ) (x : Fin n → ℝ) : ℝ := (∑ k, x k * x k) / d + eps

theorem msq_pos {n : ℕ} {d : ℝ} (hd : 0 < d) (x : Fin n → ℝ) : 0 < msq d x := by
  have h0 : 0 ≤ ∑ k, x k * x k := Finset.sum_nonneg fun k _ => mul_self_nonneg _
  have := eps_pos
  unfold msq
  positivity

theorem coe_msq {n : ℕ} {d : ℝ} (hd : 0 < d) (x : Fin n → ℝ) :
    Ideal.div (∑ k, (x k : EReal) * (x k : EReal)) (d : EReal) + (eps : EReal) = ((msq d x : ℝ) : EReal) := by
  simp only [← EReal.coe_mul, coe_sum]
  rw [coe_div hd.ne', ← EReal.coe_add, msq]

theorem irms_sq {n : ℕ} {d : ℝ} (hd : 0 < d) (x : Fin n → ℝ) : irms d x * irms d x = (msq d x)⁻¹ := by
  unfold irms
  rw [← mul_inv, ← msq, Real.mul_self_sqrt (msq_pos hd x).le]

theorem coe_rsqrt_msq {n : ℕ} {d : ℝ} (hd : 0 < d) (x : Fin n → ℝ) : Ideal.rsqrt ((msq d x : ℝ) : EReal) = ((irms d x : ℝ) : EReal) := by
  rw [coe_rsqrt (msq_pos hd x), irms, msq]

theorem coe_irms_msq {n : ℕ} {d : ℝ} (hd : 0 < d) (x : Fin n → ℝ) :
    Ideal.div ((irms d x : ℝ) : EReal) ((msq d x : ℝ) : EReal) = ((irms d x / msq d x : ℝ) : EReal) := coe_div (msq_pos hd x).ne'

/-- The gradient of a row before the norm, given the gradient after the norm. -/
def rbwd {n : ℕ} (d : ℝ) (x u : Fin n → ℝ) (k : Fin n) : ℝ :=
  irms d x * (u k - x k * irms d x * ((∑ j, u j * (x j * irms d x)) / d))

theorem coe_rbwd {n : ℕ} {d : ℝ} (hd : 0 < d) (x u : Fin n → ℝ) (k : Fin n) :
    ((irms d x : ℝ) : EReal) * (((u k : ℝ) : EReal) - ((x k * irms d x : ℝ) : EReal) * Ideal.div ((∑ j, u j * (x j * irms d x) : ℝ) : EReal) (d : EReal))
      = ((rbwd d x u k : ℝ) : EReal) := by
  rw [coe_div hd.ne', ← EReal.coe_mul, ← EReal.coe_sub, ← EReal.coe_mul, rbwd]

/-- The same gradient as the derivative of the norm's operations gives it. -/
theorem rbwd_plain {n : ℕ} {d : ℝ} (hd : 0 < d) (x u : Fin n → ℝ) (k : Fin n) :
    u k * irms d x + x k * ((∑ j, x j * u j) * (-(1 / 2) * (irms d x / msq d x)) / d) + (∑ j, x j * u j) * (-(1 / 2) * (irms d x / msq d x)) / d * x k
      = rbwd d x u k := by
  have h := irms_sq hd x
  have e : ∑ j, u j * (x j * irms d x) = irms d x * ∑ j, x j * u j := by
    rw [Finset.mul_sum]; exact Finset.sum_congr rfl fun j _ => by ring
  unfold rbwd
  rw [e, div_eq_mul_inv (irms d x), ← h]
  ring

theorem rbwd_add {n : ℕ} {d : ℝ} (hd : 0 < d) (a : ℝ) (x u : Fin n → ℝ) (k : Fin n) :
    a + u k * irms d x + x k * ((∑ j, x j * u j) * (-(1 / 2) * (irms d x / msq d x)) / d) + (∑ j, x j * u j) * (-(1 / 2) * (irms d x / msq d x)) / d * x k
      = a + rbwd d x u k := by
  rw [← rbwd_plain hd]; ring

/-- The sum of a function of the rows below a bound. -/
def rowsTo {N : ℕ} (f : Fin N → ℝ) (n : ℕ) : ℝ := ∑ T ∈ Finset.range n, if h : T < N then f ⟨T, h⟩ else 0

theorem rowsTo_zero {N : ℕ} (f : Fin N → ℝ) : rowsTo f 0 = 0 := rfl

theorem rowsTo_all {N : ℕ} (f : Fin N → ℝ) : rowsTo f N = ∑ T, f T := by
  unfold rowsTo
  rw [Finset.sum_range]
  exact Finset.sum_congr rfl fun T _ => dif_pos T.isLt

theorem rowsTo_step {N : ℕ} (f : Fin N → ℝ) (t b : ℕ) (g : Fin b → ℝ) (hg : ∀ r : Fin b, ∃ h : t * b + r.val < N, g r = f ⟨t * b + r.val, h⟩) :
    rowsTo f ((t + 1) * b) = rowsTo f (t * b) + ∑ r, g r := by
  unfold rowsTo
  rw [Nat.add_mul, Nat.one_mul, Finset.sum_range_add, Finset.sum_range (n := b)]
  congr 1
  refine Finset.sum_congr rfl fun r _ => ?_
  obtain ⟨h, e⟩ := hg r
  rw [dif_pos h, e]

end Cert.RealKit

end
-- ==== Proof.InBwdValue.lean ====
/- What `InBwdIdeal` leaves in its two results, on real arguments. -/
module

public import proofs.«01_k».proof.Defs
public import proofs.«01_k».proof.Proof.Gen.InBwdIdeal.Value
public import proofs.«01_k».proof.Proof.RmsKit

@[expose] public section

set_option maxRecDepth 16384

noncomputable section

namespace Cert.InBwdIdeal.Val

open Idealize.ShloMosaic Idealize.ShloMosaic.TcCoe Idealize.SL.Sem Cert.RealKit
open Idealize.ShloMosaic.Pipeline (Dat)
open Cert.InBwdIdeal Cert.InBwdIdeal.Gen

/-- The gradient of the normalised rows, and the two results, over the real numbers. -/
def dxn (P : S8192x2720.Idx → ℝ) (W : S1024x2720.Idx → ℝ) (t : Fin 8192) (l : Fin 1024) : ℝ := ∑ j : Fin 2720, P (ix2 t j) * W (ix2 l j)
def dx (X : S8192x1024.Idx → ℝ) (G : S1x1024.Idx → ℝ) (W : S1024x2720.Idx → ℝ) (U : S8192x1024.Idx → ℝ) (P : S8192x2720.Idx → ℝ) (t : Fin 8192) (l : Fin 1024) : ℝ :=
  U (ix2 t l) + rbwd 1024 (fun k => X (ix2 t k)) (fun k => dxn P W t k * G (ix2 0 k)) l
def dgt (X : S8192x1024.Idx → ℝ) (W : S1024x2720.Idx → ℝ) (P : S8192x2720.Idx → ℝ) (l : Fin 1024) (t : Fin 8192) : ℝ :=
  dxn P W t l * (X (ix2 t l) * irms 1024 fun k => X (ix2 t k))
def gradX (X : S8192x1024.Idx → ℝ) (G : S1x1024.Idx → ℝ) (W : S1024x2720.Idx → ℝ) (U : S8192x1024.Idx → ℝ) (P : S8192x2720.Idx → ℝ) (i : S8192x1024.Idx) : ℝ :=
  dx X G W U P (i 0) (i 1)
def gradG (X : S8192x1024.Idx → ℝ) (W : S1024x2720.Idx → ℝ) (P : S8192x2720.Idx → ℝ) (i : S1x1024.Idx) : ℝ := ∑ t, dgt X W P (i 1) t

/-- A sum over all columns, in the kernel's four groups of columns. -/
theorem sum_groups (f : Fin 2720 → ℝ) :
    ((∑ k : Fin 2048, f ⟨k.val, by omega⟩) + ∑ k : Fin 256, f ⟨2432 + k.val, by omega⟩)
      + ((∑ k : Fin 384, f ⟨2048 + k.val, by omega⟩) + ∑ k : Fin 128, if h : 64 ≤ k.val ∧ k.val < 96 then f ⟨2624 + k.val, by omega⟩ else 0) = ∑ j, f j := by
  have e1 : ∑ j, f j = _ := Fin.sum_univ_add (a := 2048) (b := 672) f
  have e2 := Fin.sum_univ_add (a := 384) (b := 288) fun j : Fin 672 => f (Fin.natAdd 2048 j)
  have e3 := Fin.sum_univ_add (a := 256) (b := 32) fun j : Fin 288 => f (Fin.natAdd 2048 (Fin.natAdd 384 j))
  have e4 := Fin.sum_univ_add (a := 64) (b := 64) fun k : Fin 128 => if h : 64 ≤ k.val ∧ k.val < 96 then f ⟨2624 + k.val, by omega⟩ else 0
  have e5 := Fin.sum_univ_add (a := 32) (b := 32) fun k : Fin 64 => if h : 64 ≤ 64 + k.val ∧ 64 + k.val < 96 then f ⟨2624 + (64 + k.val), by omega⟩ else 0
  have z1 : ∀ k : Fin 64, (if h : 64 ≤ (Fin.castAdd 64 k).val ∧ (Fin.castAdd 64 k).val < 96 then f ⟨2624 + (Fin.castAdd 64 k).val, by omega⟩ else 0) = 0 :=
    fun k => dif_neg (by rw [Fin.val_castAdd]; omega)
  have z2 : ∀ k : Fin 32, (if h : 64 ≤ 64 + (Fin.natAdd 32 k).val ∧ 64 + (Fin.natAdd 32 k).val < 96 then f ⟨2624 + (64 + (Fin.natAdd 32 k).val), by omega⟩ else 0) = 0 :=
    fun k => dif_neg (by rw [Fin.val_natAdd]; omega)
  have z3 : ∀ k : Fin 32, (if h : 64 ≤ 64 + (Fin.castAdd 32 k).val ∧ 64 + (Fin.castAdd 32 k).val < 96 then f ⟨2624 + (64 + (Fin.castAdd 32 k).val), by omega⟩ else 0)
      = f (Fin.natAdd 2048 (Fin.natAdd 384 (Fin.natAdd 256 k))) := fun k => by
    rw [dif_pos (by rw [Fin.val_castAdd]; omega)]
    refine congrArg f (Fin.ext ?_)
    simp only [Fin.val_castAdd, Fin.val_natAdd]; omega
  simp only [z1, Finset.sum_const_zero, zero_add] at e4
  simp only [z2, z3, Finset.sum_const_zero, add_zero] at e5
  have e6 : ∀ k : Fin 256, f (Fin.natAdd 2048 (Fin.natAdd 384 (Fin.castAdd 32 k))) = f ⟨2432 + k.val, by omega⟩ := fun k =>
    congrArg f (Fin.ext (by simp only [Fin.val_castAdd, Fin.val_natAdd]; omega))
  simp only [e6] at e3
  rw [e1, e2, e3, e4, show (∑ i : Fin 64, if h : 64 ≤ (Fin.natAdd 64 i).val ∧ (Fin.natAdd 64 i).val < 96 then f ⟨2624 + (Fin.natAdd 64 i).val, by omega⟩ else 0) = _ from e5]
  show _ = (∑ k : Fin 2048, f ⟨k.val, by omega⟩) + ((∑ k : Fin 384, f ⟨2048 + k.val, by omega⟩) + _)
  ring

theorem pay5_apply (x0 : FVec Ideal S256x2048 .bf16) (w0 : FVec Ideal S2048x1024 .bf16) (x1 : FVec Ideal S256x256 .bf16) (w1 : FVec Ideal S256x1024 .bf16)
    (x2 : FVec Ideal S256x384 .bf16) (w2 : FVec Ideal S384x1024 .bf16) (x3 : FVec Ideal S256x128 .bf16) (w3 : FVec Ideal S128x1024 .bf16) (r : Fin 256) (l : Fin 1024)
    (A B : Fin 2720 → ℝ) (h0 : ∀ k : Fin 2048, x0 (ix2 r k) = A ⟨k.val, by omega⟩) (h1 : ∀ k : Fin 256, x1 (ix2 r k) = A ⟨2432 + k.val, by omega⟩)
    (h2 : ∀ k : Fin 384, x2 (ix2 r k) = A ⟨2048 + k.val, by omega⟩)
    (h3 : ∀ k : Fin 128, x3 (ix2 r k) = ((if h : 64 ≤ k.val ∧ k.val < 96 then A ⟨2624 + k.val, by omega⟩ else 0 : ℝ) : EReal))
    (g0 : ∀ k : Fin 2048, w0 (ix2 k l) = B ⟨k.val, by omega⟩) (g1 : ∀ k : Fin 256, w1 (ix2 k l) = B ⟨2432 + k.val, by omega⟩)
    (g2 : ∀ k : Fin 384, w2 (ix2 k l) = B ⟨2048 + k.val, by omega⟩)
    (g3 : ∀ k : Fin 128, w3 (ix2 k l) = ((if h : 64 ≤ k.val ∧ k.val < 96 then B ⟨2624 + k.val, by omega⟩ else 0 : ℝ) : EReal)) :
    k0_pay5 (F := Ideal) x0 w0 x1 w1 x2 w2 x3 w3 (ix2 r l) = ((∑ j, A j * B j : ℝ) : EReal) := by
  pointwise [k0_pay5]
  simp only [h0, h1, h2, h3, g0, g1, g2, g3, ← EReal.coe_mul, coe_sum, ← EReal.coe_add]
  rw [← sum_groups fun j => A j * B j]
  refine congrArg (fun s : ℝ => (s : EReal)) (congrArg _ (congrArg _ (Finset.sum_congr rfl fun k _ => ?_)))
  by_cases h : 64 ≤ k.val ∧ k.val < 96 <;> simp only [h, dite_true, dite_false, and_self, mul_zero]

theorem pay6_apply (x : FVec Ideal S256x1024 .f32) (r : Fin 256) (X : Fin 1024 → ℝ) (hx : ∀ k, x (ix2 r k) = X k) :
    k0_pay6 (F := Ideal) x (ix2 r 0) = ((irms 1024 X : ℝ) : EReal) := by
  pointwise [k0_pay6]
  simp only [hx, ofBits_1024, ofBits_eps]
  exact coe_irms (by norm_num) X

theorem pay7_apply (x : FVec Ideal S256x1024 .f32) (r : Fin 256) (X : Fin 1024 → ℝ) (hx : ∀ k, x (ix2 r k) = X k) (l : Fin 1024) :
    k0_pay7 (F := Ideal) x (ix2 r l) = ((irms 1024 X : ℝ) : EReal) := by
  refine Eq.trans ?_ (pay6_apply x r X hx)
  pointwise [k0_pay7]

theorem pay2_apply (d : FVec Ideal S256x1024 .f32) (x : FVec Ideal S256x1024 .f32) (i : FVec Ideal S256x1 .f32) (b u : FVec Ideal S256x1024 .f32) (g : FVec Ideal S1x1024 .f32)
    (r : Fin 256) (D X U G : Fin 1024 → ℝ) (hd : ∀ k, d (ix2 r k) = D k) (hx : ∀ k, x (ix2 r k) = X k) (hi : i (ix2 r 0) = ((irms 1024 X : ℝ) : EReal))
    (hb : ∀ k, b (ix2 r k) = ((irms 1024 X : ℝ) : EReal)) (hu : ∀ k, u (ix2 r k) = U k) (hg : ∀ k, g (ix2 0 k) = G k) (l : Fin 1024) :
    k0_pay2 (F := Ideal) d x i b u g (ix2 r l) = ((U l + rbwd 1024 X (fun k => D k * G k) l : ℝ) : EReal) := by
  pointwise [k0_pay2, k0_pay1]
  simp only [hd, hx, hi, hb, hu, hg, ofBits_1024, ← EReal.coe_mul, coe_sum]
  rw [EReal.coe_add, ← coe_rbwd (by norm_num)]

theorem pay4_apply (d : FVec Ideal S256x1024 .f32) (x : FVec Ideal S256x1024 .f32) (b : FVec Ideal S256x1024 .f32) (a : FVec Ideal S1x1024 .f32)
    (l : Fin 1024) (D X I : Fin 256 → ℝ) (A : ℝ) (hd : ∀ r, d (ix2 r l) = D r) (hx : ∀ r, x (ix2 r l) = X r) (hb : ∀ r, b (ix2 r l) = I r)
    (ha : a (ix2 0 l) = A) : k0_pay4 (F := Ideal) d x b a (ix2 0 l) = ((A + ∑ r, D r * (X r * I r) : ℝ) : EReal) := by
  pointwise [k0_pay4, k0_pay1]
  simp only [hd, hx, hb, ha, ← EReal.coe_mul, coe_sum, ← EReal.coe_add]

theorem pay3_apply (l : Fin 1024) : k0_pay3 (F := Ideal) (ix2 0 l) = ((0 : ℝ) : EReal) := by
  pointwise [k0_pay3]
  exact EReal.coe_zero.symm

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![t.val, 0] ∧ win0_12.index t = ![0, 0] :=
  (by decide +kernel : ∀ t : Fin grid0.N, _)

theorem lt32 (t : Fin cfg0.N) : t.val < 32 := t.isLt.trans_eq N_0

/-- The gradient's last columns between zeros, and the weights' rows in the kernel's order. -/
def padP (P : FVec Ideal S8192x2720 .f32) : FVec Ideal S8192x128 .bf16 :=
  pad S8192x128 ![0, 64] ![0, 32] ![0, 0] (extractStridedSlice S8192x32 ![0, 2688] (truncf .bf16 P bitsLt_bf16_f32) slices_S8192x2720_S8192x32_0_2688) (sitofp .bf16 (constantI S_ 32 0#32)) pads_S8192x32_S8192x128_000_64320 h_S_
def rowsW (W : FVec Ideal S1024x2720 .f32) : FVec Ideal S2816x1024 .bf16 :=
  concatenate S2816x1024 0 [⟨S2048x1024, extractStridedSlice S2048x1024 ![0, 0] (truncf .bf16 (transpose S2720x1024 [1, 0] W transposes_S1024x2720_S2720x1024_1_0) bitsLt_bf16_f32) slices_S2720x1024_S2048x1024_0_0⟩,
    ⟨S256x1024, extractStridedSlice S256x1024 ![2432, 0] (truncf .bf16 (transpose S2720x1024 [1, 0] W transposes_S1024x2720_S2720x1024_1_0) bitsLt_bf16_f32) slices_S2720x1024_S256x1024_2432_0⟩,
    ⟨S384x1024, extractStridedSlice S384x1024 ![2048, 0] (truncf .bf16 (transpose S2720x1024 [1, 0] W transposes_S1024x2720_S2720x1024_1_0) bitsLt_bf16_f32) slices_S2720x1024_S384x1024_2048_0⟩,
    ⟨S64x1024, broadcastInDim S64x1024 ![] bcast_S_S64x1024 (constant S_ .bf16 0x0000#16)⟩,
    ⟨S32x1024, extractStridedSlice S32x1024 ![2688, 0] (truncf .bf16 (transpose S2720x1024 [1, 0] W transposes_S1024x2720_S2720x1024_1_0) bitsLt_bf16_f32) slices_S2720x1024_S32x1024_2688_0⟩,
    ⟨S32x1024, broadcastInDim S32x1024 ![] bcast_S_S32x1024 (constant S_ .bf16 0x0000#16)⟩] concatenates_S2048x1024_S256x1024_S384x1024_S64x1024_S32x1024_S32x1024_S2816x1024_d0

theorem padP_apply (P : S8192x2720.Idx → ℝ) (t : Fin 8192) (k : Fin 128) :
    padP (up P) (ix2 t k) = ((if h : 64 ≤ k.val ∧ k.val < 96 then P (ix2 t ⟨2624 + k.val, by omega⟩) else 0 : ℝ) : EReal) := by
  have := k.isLt
  pointwise [padP]
  by_cases h : 64 ≤ k.val ∧ k.val < 96
  · rw [dif_pos (by omega), dif_pos h]
    refine congrArg (fun j => ((P (ix2 t j) : ℝ) : EReal)) (Fin.ext ?_)
    dsimp only
    omega
  · rw [dif_neg (by omega), dif_neg h]
    show ((((0#32 : BitVec 32).toInt : ℝ)) : EReal) = _
    norm_num

theorem rowsW_0 (W : S1024x2720.Idx → ℝ) (k : Fin 2048) (l : Fin 1024) : extractStridedSlice S2048x1024 ![0, 0] (rowsW (up W)) slices_S2816x1024_S2048x1024_0_0 (ix2 k l) = (W (ix2 l ⟨k.val, by omega⟩) : EReal) := by
  pointwise [rowsW]
theorem rowsW_1 (W : S1024x2720.Idx → ℝ) (k : Fin 256) (l : Fin 1024) : extractStridedSlice S256x1024 ![2048, 0] (rowsW (up W)) slices_S2816x1024_S256x1024_2048_0 (ix2 k l) = (W (ix2 l ⟨2432 + k.val, by omega⟩) : EReal) := by
  pointwise [rowsW]
theorem rowsW_2 (W : S1024x2720.Idx → ℝ) (k : Fin 384) (l : Fin 1024) : extractStridedSlice S384x1024 ![2304, 0] (rowsW (up W)) slices_S2816x1024_S384x1024_2304_0 (ix2 k l) = (W (ix2 l ⟨2048 + k.val, by omega⟩) : EReal) := by
  pointwise [rowsW]
  rw [dif_neg (by omega), dif_neg (by omega), dif_pos (by omega)]
  try blk_ext []
theorem rowsW_3 (W : S1024x2720.Idx → ℝ) (k : Fin 128) (l : Fin 1024) : extractStridedSlice S128x1024 ![2688, 0] (rowsW (up W)) slices_S2816x1024_S128x1024_2688_0 (ix2 k l)
    = ((if h : 64 ≤ k.val ∧ k.val < 96 then W (ix2 l ⟨2624 + k.val, by omega⟩) else 0 : ℝ) : EReal) := by
  have := k.isLt
  pointwise [rowsW]
  rw [dif_neg (by omega), dif_neg (by omega), dif_neg (by omega)]
  by_cases h : 64 ≤ k.val ∧ k.val < 96
  · rw [dif_neg (by omega), dif_pos (by omega), dif_pos h]
    refine congrArg (fun j => ((W (ix2 l j) : ℝ) : EReal)) (Fin.ext ?_)
    dsimp only
    omega
  · rw [dif_neg h]
    by_cases h' : k.val < 64
    · rw [dif_pos (by omega)]; exact EReal.coe_zero.symm
    · rw [dif_neg (by omega), dif_neg (by omega)]; exact EReal.coe_zero.symm

theorem V_0 : V m c main_v1 = (extractStridedSlice S8192x2048 ![0, 0] (truncf .bf16 (m ((c : Thread nD τ).loc main_arg4) : FVec Ideal S8192x2720 .f32) bitsLt_bf16_f32) slices_S8192x2720_S8192x2048_0_0 : FVec Ideal S8192x2048 .bf16) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append]
  after_results_simp
  try rfl
theorem V_1 : V m c main_v2 = (extractStridedSlice S8192x256 ![0, 2432] (truncf .bf16 (m ((c : Thread nD τ).loc main_arg4) : FVec Ideal S8192x2720 .f32) bitsLt_bf16_f32) slices_S8192x2720_S8192x256_0_2432 : FVec Ideal S8192x256 .bf16) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append]
  after_results_simp
  try rfl
theorem V_2 : V m c main_v3 = (extractStridedSlice S8192x384 ![0, 2048] (truncf .bf16 (m ((c : Thread nD τ).loc main_arg4) : FVec Ideal S8192x2720 .f32) bitsLt_bf16_f32) slices_S8192x2720_S8192x384_0_2048 : FVec Ideal S8192x384 .bf16) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_results_simp
  try rfl
theorem V_3 : V m c main_v5 = padP (m ((c : Thread nD τ).loc main_arg4) : FVec Ideal S8192x2720 .f32) := by
  show StableHlo.after (List.flatten [hostOps0, hostOps0_1, hostOps0_2]) (fun b => m (c, b)) (Proc.devRef .tc main_v5) = _
  unfold padP
  simp only [hostOps0, hostOps0_1, hostOps0_2, List.flatten_cons, List.flatten_nil, List.append_nil, List.cons_append, List.nil_append]
  after_results_simp
  try rfl
theorem V_7 : V m c main_v15 = extractStridedSlice S2048x1024 ![0, 0] (rowsW (m ((c : Thread nD τ).loc main_arg2) : FVec Ideal S1024x2720 .f32)) slices_S2816x1024_S2048x1024_0_0 := by
  show StableHlo.after (List.flatten [hostOps0, hostOps0_1, hostOps0_2]) (fun b => m (c, b)) (Proc.devRef .tc main_v15) = _
  unfold rowsW
  simp only [hostOps0, hostOps0_1, hostOps0_2, List.flatten_cons, List.flatten_nil, List.append_nil, List.cons_append, List.nil_append]
  after_results_simp
  try rfl
theorem V_8 : V m c main_v16 = extractStridedSlice S256x1024 ![2048, 0] (rowsW (m ((c : Thread nD τ).loc main_arg2) : FVec Ideal S1024x2720 .f32)) slices_S2816x1024_S256x1024_2048_0 := by
  show StableHlo.after (List.flatten [hostOps0, hostOps0_1, hostOps0_2]) (fun b => m (c, b)) (Proc.devRef .tc main_v16) = _
  unfold rowsW
  simp only [hostOps0, hostOps0_1, hostOps0_2, List.flatten_cons, List.flatten_nil, List.append_nil, List.cons_append, List.nil_append]
  after_results_simp
  try rfl
theorem V_9 : V m c main_v17 = extractStridedSlice S384x1024 ![2304, 0] (rowsW (m ((c : Thread nD τ).loc main_arg2) : FVec Ideal S1024x2720 .f32)) slices_S2816x1024_S384x1024_2304_0 := by
  show StableHlo.after (List.flatten [hostOps0, hostOps0_1, hostOps0_2]) (fun b => m (c, b)) (Proc.devRef .tc main_v17) = _
  unfold rowsW
  simp only [hostOps0, hostOps0_1, hostOps0_2, List.flatten_cons, List.flatten_nil, List.append_nil, List.cons_append, List.nil_append]
  after_results_simp
  try rfl
theorem V_10 : V m c main_v18 = extractStridedSlice S128x1024 ![2688, 0] (rowsW (m ((c : Thread nD τ).loc main_arg2) : FVec Ideal S1024x2720 .f32)) slices_S2816x1024_S128x1024_2688_0 := by
  show StableHlo.after (List.flatten [hostOps0, hostOps0_1, hostOps0_2]) (fun b => m (c, b)) (Proc.devRef .tc main_v18) = _
  unfold rowsW
  simp only [hostOps0, hostOps0_1, hostOps0_2, List.flatten_cons, List.flatten_nil, List.append_nil, List.cons_append, List.nil_append]
  after_results_simp
  try rfl

theorem blk_0 (t : Fin cfg0.N) (r : Fin 256) (k : Fin 2048) (T : Fin 8192) (hT : T.val = t.val * 256 + r.val) :
    (iblk m c 0 t : FVec Ideal S256x2048 .bf16) (ix2 r k) = (V m c main_v1 : FVec Ideal S8192x2048 .bf16) (ix2 T k) := by blk_ext [iblk, idx t]
theorem blk_1 (t : Fin cfg0.N) (r : Fin 256) (k : Fin 256) (T : Fin 8192) (hT : T.val = t.val * 256 + r.val) :
    (iblk m c 1 t : FVec Ideal S256x256 .bf16) (ix2 r k) = (V m c main_v2 : FVec Ideal S8192x256 .bf16) (ix2 T k) := by blk_ext [iblk, idx t]
theorem blk_2 (t : Fin cfg0.N) (r : Fin 256) (k : Fin 384) (T : Fin 8192) (hT : T.val = t.val * 256 + r.val) :
    (iblk m c 2 t : FVec Ideal S256x384 .bf16) (ix2 r k) = (V m c main_v3 : FVec Ideal S8192x384 .bf16) (ix2 T k) := by blk_ext [iblk, idx t]
theorem blk_3 (t : Fin cfg0.N) (r : Fin 256) (k : Fin 128) (T : Fin 8192) (hT : T.val = t.val * 256 + r.val) :
    (iblk m c 3 t : FVec Ideal S256x128 .bf16) (ix2 r k) = (V m c main_v5 : FVec Ideal S8192x128 .bf16) (ix2 T k) := by blk_ext [iblk, idx t]
theorem blk_4 (t : Fin cfg0.N) (r : Fin 256) (k : Fin 1024) (T : Fin 8192) (hT : T.val = t.val * 256 + r.val) :
    (iblk m c 4 t : FVec Ideal S256x1024 .f32) (ix2 r k) = (V m c main_arg3 : FVec Ideal S8192x1024 .f32) (ix2 T k) := by blk_ext [iblk, idx t]
theorem blk_5 (t : Fin cfg0.N) (r : Fin 256) (k : Fin 1024) (T : Fin 8192) (hT : T.val = t.val * 256 + r.val) :
    (iblk m c 5 t : FVec Ideal S256x1024 .f32) (ix2 r k) = (V m c main_arg0 : FVec Ideal S8192x1024 .f32) (ix2 T k) := by blk_ext [iblk, idx t]
theorem blk_6 (t : Fin cfg0.N) (k : Fin 1024) :
    (iblk m c 6 t : FVec Ideal S1x1024 .f32) (ix2 0 k) = (V m c main_arg1 : FVec Ideal S1x1024 .f32) (ix2 0 k) := by blk_ext [iblk, idx t]
theorem blk_7 (t : Fin cfg0.N) (k : Fin 2048) (l : Fin 1024) :
    (iblk m c 7 t : FVec Ideal S2048x1024 .bf16) (ix2 k l) = (V m c main_v15 : FVec Ideal S2048x1024 .bf16) (ix2 k l) := by blk_ext [iblk, idx t]
theorem blk_8 (t : Fin cfg0.N) (k : Fin 256) (l : Fin 1024) :
    (iblk m c 8 t : FVec Ideal S256x1024 .bf16) (ix2 k l) = (V m c main_v16 : FVec Ideal S256x1024 .bf16) (ix2 k l) := by blk_ext [iblk, idx t]
theorem blk_9 (t : Fin cfg0.N) (k : Fin 384) (l : Fin 1024) :
    (iblk m c 9 t : FVec Ideal S384x1024 .bf16) (ix2 k l) = (V m c main_v17 : FVec Ideal S384x1024 .bf16) (ix2 k l) := by blk_ext [iblk, idx t]
theorem blk_10 (t : Fin cfg0.N) (k : Fin 128) (l : Fin 1024) :
    (iblk m c 10 t : FVec Ideal S128x1024 .bf16) (ix2 k l) = (V m c main_v18 : FVec Ideal S128x1024 .bf16) (ix2 k l) := by blk_ext [iblk, idx t]

/-- One step's product, over its blocks. -/
def prodAt (t : Fin cfg0.N) : FVec Ideal S256x1024 .f32 :=
  k0_pay5 (iblk m c 0 t) (iblk m c 7 t) (iblk m c 1 t) (iblk m c 8 t) (iblk m c 2 t) (iblk m c 9 t) (iblk m c 3 t) (iblk m c 10 t)

set_option maxHeartbeats 1600000 in
theorem after11 (t : Fin cfg0.N) : (dats m 0 c).after 11 t
    = k0_pay2 (prodAt m c t) (iblk m c 5 t) (k0_pay6 (iblk m c 5 t)) (k0_pay7 (iblk m c 5 t)) (iblk m c 4 t) (iblk m c 6 t) := by
  rw [after0_11]
  by_cases h : t.val % 32 = 0
  · rw [outsAt0_A m c t h]; unfold prodAt; dsimp only; frame_out
  · rw [outsAt0_B m c t h]; unfold prodAt; dsimp only; frame_out

set_option maxHeartbeats 1600000 in
theorem acc_first (t : Fin cfg0.N) (h : t.val % 32 = 0) : (outsAt0 m c t.val t.isLt).2 = k0_pay4 (prodAt m c t) (iblk m c 5 t) (k0_pay7 (iblk m c 5 t)) (k0_pay3 (F := Ideal)) := by
  rw [outsAt0_A m c t h]; unfold prodAt; dsimp only; frame_out
set_option maxHeartbeats 1600000 in
theorem acc_next (t : Fin cfg0.N) (h : ¬ t.val % 32 = 0) : (outsAt0 m c t.val t.isLt).2
    = k0_pay4 (prodAt m c t) (iblk m c 5 t) (k0_pay7 (iblk m c 5 t)) (outsAt0 m c (t.val - 1) (Nat.lt_of_le_of_lt (Nat.sub_le _ _) t.isLt)).2 := by
  rw [outsAt0_B m c t h]; unfold prodAt; dsimp only; frame_out

variable {X : S8192x1024.Idx → ℝ} {G : S1x1024.Idx → ℝ} {W : S1024x2720.Idx → ℝ} {U : S8192x1024.Idx → ℝ} {P : S8192x2720.Idx → ℝ}
  (hX : m ((c : Thread nD τ).loc main_arg0) = up X) (hG : m ((c : Thread nD τ).loc main_arg1) = up G) (hW : m ((c : Thread nD τ).loc main_arg2) = up W)
  (hU : m ((c : Thread nD τ).loc main_arg3) = up U) (hP : m ((c : Thread nD τ).loc main_arg4) = up P)
include hX hG hW hU hP

theorem x_real (t : Fin cfg0.N) (r : Fin 256) (k : Fin 1024) (T : Fin 8192) (hT : T.val = t.val * 256 + r.val) :
    (iblk m c 5 t : FVec Ideal S256x1024 .f32) (ix2 r k) = (X (ix2 T k) : EReal) :=
  (blk_5 m c t r k T hT).trans ((congrFun (V_main_arg0 m c) _).trans (congrFun hX _))

theorem prod_real (t : Fin cfg0.N) (r : Fin 256) (l : Fin 1024) (T : Fin 8192) (hT : T.val = t.val * 256 + r.val) :
    prodAt m c t (ix2 r l) = (dxn P W T l : EReal) := by
  refine pay5_apply _ _ _ _ _ _ _ _ r l (fun j => P (ix2 T j)) (fun j => W (ix2 l j)) (fun k => ?_) (fun k => ?_) (fun k => ?_) (fun k => ?_)
    (fun k => ?_) (fun k => ?_) (fun k => ?_) (fun k => ?_)
  · refine (blk_0 m c t r k T hT).trans ((congrFun (V_0 m c) _).trans ?_)
    rw [hP]; pointwise []; try blk_ext []
  · refine (blk_1 m c t r k T hT).trans ((congrFun (V_1 m c) _).trans ?_)
    rw [hP]; pointwise []; try blk_ext []
  · refine (blk_2 m c t r k T hT).trans ((congrFun (V_2 m c) _).trans ?_)
    rw [hP]; pointwise []; try blk_ext []
  · refine (blk_3 m c t r k T hT).trans ((congrFun (V_3 m c) _).trans ?_)
    rw [hP]; exact padP_apply P T k
  · refine (blk_7 m c t k l).trans ((congrFun (V_7 m c) _).trans ?_)
    rw [hW]; exact rowsW_0 W k l
  · refine (blk_8 m c t k l).trans ((congrFun (V_8 m c) _).trans ?_)
    rw [hW]; exact rowsW_1 W k l
  · refine (blk_9 m c t k l).trans ((congrFun (V_9 m c) _).trans ?_)
    rw [hW]; exact rowsW_2 W k l
  · refine (blk_10 m c t k l).trans ((congrFun (V_10 m c) _).trans ?_)
    rw [hW]; exact rowsW_3 W k l

set_option maxHeartbeats 1600000 in
theorem final11 : (dats m 0 c).arrAt 11 cfg0.N = up (gradX X G W U P) := by
  refine (dats m 0 c).arrAt_eq_of_covers 11 _ (by decide +kernel) fun t _ y => ?_
  have ht := lt32 t
  idx_vars y
  have e : ((cfg0.win 11).blk t).view.emb (ix2 y0 y1) = ix2 (⟨t.val * 256 + y0.val, by omega⟩ : Fin 8192) y1 := by blk_ext [idx t]
  rw [e]
  blk_simp
  rw [after11]
  have hx := fun k => x_real m c hX hG hW hU hP t y0 k ⟨t.val * 256 + y0.val, by omega⟩ rfl
  exact pay2_apply _ _ _ _ _ _ y0 _ _ (fun k => U (ix2 _ k)) (fun k => G (ix2 0 k)) (fun k => prod_real m c hX hG hW hU hP t y0 k ⟨t.val * 256 + y0.val, by omega⟩ rfl) hx
    (pay6_apply _ y0 _ hx) (pay7_apply _ y0 _ hx) (fun k => (blk_4 m c t y0 k _ rfl).trans ((congrFun (V_main_arg3 m c) _).trans (congrFun hU _)))
    (fun k => (blk_6 m c t k).trans ((congrFun (V_main_arg1 m c) _).trans (congrFun hG _))) y1

/-- The running sum over the rows of the steps so far. -/
theorem acc_real (l : Fin 1024) : ∀ (n : ℕ) (h : n < cfg0.N), (outsAt0 m c n h).2 (ix2 0 l) = ((rowsTo (dgt X W P l) ((n + 1) * 256) : ℝ) : EReal) := by
  have step : ∀ (t : Fin cfg0.N) (a : FVec Ideal S1x1024 .f32), a (ix2 0 l) = ((rowsTo (dgt X W P l) (t.val * 256) : ℝ) : EReal) →
      k0_pay4 (prodAt m c t) (iblk m c 5 t) (k0_pay7 (iblk m c 5 t)) a (ix2 0 l) = ((rowsTo (dgt X W P l) ((t.val + 1) * 256) : ℝ) : EReal) := by
    intro t a ha
    have ht := lt32 t
    rw [pay4_apply _ _ _ a l _ _ _ _ (fun r => prod_real m c hX hG hW hU hP t r l ⟨t.val * 256 + r.val, by omega⟩ rfl)
      (fun r => x_real m c hX hG hW hU hP t r l ⟨t.val * 256 + r.val, by omega⟩ rfl)
      (fun r => pay7_apply _ r _ (fun k => x_real m c hX hG hW hU hP t r k ⟨t.val * 256 + r.val, by omega⟩ rfl) l) ha]
    rw [rowsTo_step (dgt X W P l) t.val 256 _ fun r => ⟨by omega, rfl⟩]
    rfl
  intro n
  induction n with
  | zero =>
    intro h
    rw [acc_first m c ⟨0, h⟩ rfl]
    exact step ⟨0, h⟩ _ ((pay3_apply l).trans (by rw [Nat.zero_mul, rowsTo_zero]))
  | succ n ih =>
    intro h
    have ht := lt32 ⟨n + 1, h⟩
    rw [acc_next m c ⟨n + 1, h⟩ (by dsimp only at ht ⊢; omega)]
    exact step ⟨n + 1, h⟩ _ (ih (Nat.lt_of_succ_lt h))

omit hX hG hW hU hP in
theorem flush12 : ∀ t : Fin cfg0.N, (cfg0.win 12).flush t = true → t.val = 31 := by decide +kernel

set_option maxHeartbeats 1600000 in
theorem final12 : (dats m 0 c).arrAt 12 cfg0.N = up (gradG X W P) := by
  refine (dats m 0 c).arrAt_eq_of_covers 12 _ (by decide +kernel) fun t hf y => ?_
  have ht := flush12 t hf
  idx_vars y
  have e : ((cfg0.win 12).blk t).view.emb (ix2 y0 y1) = ix2 0 y1 := by blk_ext [idx t]
  rw [e]
  blk_simp
  rw [after0_12, show (ix2 y0 y1 : S1x1024.Idx) = ix2 0 y1 by blk_ext []]
  refine (acc_real m c hX hG hW hU hP y1 t.val t.isLt).trans ?_
  rw [ht]
  exact congrArg _ (rowsTo_all (dgt X W P y1))

end Cert.InBwdIdeal.Val

end
-- ==== Proof.InBwdRef.lean ====
/- What `InBwdRefIdeal` leaves in its two results, on real arguments. -/
module

public import proofs.«01_k».proof.Proof.InBwdValue
public import proofs.«01_k».proof.Proof.Gen.InBwdRefIdeal.Read

@[expose] public section

set_option maxRecDepth 16384

noncomputable section

namespace Cert.InBwdRefIdeal.Val

open Idealize.ShloMosaic Idealize.ShloMosaic.TcCoe Idealize.SL.Sem Cert.RealKit
open Cert.InBwdRefIdeal Cert.InBwdRefIdeal.Gen Cert.InBwdRefIdeal.Read Cert.InBwdIdeal.Val

variable (X : S8192x1024.Idx → ℝ) (G : S1x1024.Idx → ℝ) (W : S1024x2720.Idx → ℝ) (U : S8192x1024.Idx → ℝ) (P : S8192x2720.Idx → ℝ)

theorem v7 (t : Fin 8192) : val_main_v7 (F := Ideal) (up X) (ix2 t 0) = ((msq 1024 fun k => X (ix2 t k) : ℝ) : EReal) := by
  pointwise [val_main_v7, val_main_v6, val_main_v5, val_main_v4, val_main_v3, val_main_v2, val_main_v1, val_main_cst, val_main_cst_0, val_main_cst_1]
  simp only [ofBits_1024, ofBits_eps]
  exact coe_msq (by norm_num) _

theorem v8 (t : Fin 8192) : val_main_v8 (F := Ideal) (up X) (ix2 t 0) = ((irms 1024 fun k => X (ix2 t k) : ℝ) : EReal) := by
  pointwise [val_main_v8]
  rw [v7]
  exact coe_rsqrt_msq (by norm_num) _

theorem v18 (t : Fin 8192) (l : Fin 1024) : val_main_v18 (F := Ideal) (up W) (up P) (ix2 t l) = (dxn P W t l : EReal) := by
  pointwise [val_main_v18]
  simp only [← EReal.coe_mul, coe_sum]
  rfl

theorem v23 (t : Fin 8192) (l : Fin 1024) : val_main_v23 (F := Ideal) (up G) (up W) (up P) (ix2 t l) = ((dxn P W t l * G (ix2 0 l) : ℝ) : EReal) := by
  pointwise [val_main_v23, val_main_v22, val_main_v14, val_main_v0]
  rw [v18, ← EReal.coe_mul]

theorem v11 (t : Fin 8192) : val_main_v11 (F := Ideal) (up X) (ix2 t 0)
    = ((-(1 / 2) * (irms 1024 (fun k => X (ix2 t k)) / msq 1024 fun k => X (ix2 t k)) : ℝ) : EReal) := by
  pointwise [val_main_v11, val_main_v10, val_main_v9, val_main_cst_2]
  rw [v8, v7, coe_irms_msq (by norm_num), ofBits_neg_half, ← EReal.coe_mul]

theorem v33 (t : Fin 8192) : val_main_v33 (F := Ideal) (up X) (up G) (up W) (up P) (ix2 t 0)
    = (((∑ k, X (ix2 t k) * (dxn P W t k * G (ix2 0 k))) * (-(1 / 2) * (irms 1024 (fun k => X (ix2 t k)) / msq 1024 fun k => X (ix2 t k))) / 1024 : ℝ) : EReal) := by
  pointwise [val_main_v33, val_main_v32, val_main_v31, val_main_v27, val_main_v26, val_main_v25, val_main_cst_6, val_main_cst_5]
  simp only [v23, v11, ofBits_1024, ← EReal.coe_mul, coe_sum]
  exact coe_div (by norm_num)

theorem x_ref : val_main_v39 (F := Ideal) (up X) (up G) (up W) (up U) (up P) = up (gradX X G W U P) := by
  funext i
  idx_vars i
  pointwise [val_main_v39, val_main_v38, val_main_v37, val_main_v36, val_main_v35, val_main_v34, val_main_v30, val_main_v29, val_main_v28, val_main_cst_7]
  simp only [Fin.sum_univ_one, v33, v23, v8, up, ← EReal.coe_mul, ← EReal.coe_add]
  exact congrArg (fun a : ℝ => (a : EReal)) (rbwd_add (by norm_num) (U (ix2 i0 i1)) (fun k => X (ix2 i0 k)) (fun k => dxn P W i0 k * G (ix2 0 k)) i1)

theorem v20 (l : Fin 1024) : val_main_v20 (F := Ideal) (up X) (up W) (up P) (ix1 l) = ((∑ t, dgt X W P l t : ℝ) : EReal) := by
  pointwise [val_main_v20, val_main_v19, val_main_v13, val_main_v12, val_main_cst_3]
  simp only [v18, v8, ← EReal.coe_mul, coe_sum]
  refine congrArg (fun a : ℝ => (a : EReal)) (Finset.sum_congr rfl fun t _ => ?_)
  unfold dgt
  exact mul_comm _ _

theorem g_ref : val_main_v40 (F := Ideal) (up X) (up W) (up P) = up (gradG X W P) := by
  funext i
  idx_vars i
  pointwise [val_main_v40, val_main_v24, val_main_v21, val_main_cst_4]
  simp only [Fin.sum_univ_one, v20]
  rfl

end Cert.InBwdRefIdeal.Val

end
-- ==== Proof.InBwdPair.lean ====
/- The claims about the gradient through the input projection and its norm. -/
module

public import proofs.«01_k».proof.Defs
public import proofs.«01_k».proof.Proof.InBwdRef
public import proofs.«01_k».proof.Proof.Gen.InBwd.Frame
public import proofs.«01_k».proof.Proof.Gen.InBwdRefIdeal.Run
public import proofs.«01_k».proof.Proof.Gen.Pre_finite_in_bwd

@[expose] public section

noncomputable section

namespace Cert.InBwdPair

open Idealize.ShloMosaic Idealize.ShloMosaic.TcCoe Idealize.SL.Sem Cert.RealKit Cert.InBwdIdeal

theorem finite (m : (ℓ : Loc nD τ sig) → Buf (Elt Ideal) ℓ) (h : Cert.Pre_InBwdIdeal_finite_in_bwd m) (c : Dev nD) :
    ∃ (X : S8192x1024.Idx → ℝ) (G : S1x1024.Idx → ℝ) (W : S1024x2720.Idx → ℝ) (U : S8192x1024.Idx → ℝ) (P : S8192x2720.Idx → ℝ),
      m ((c : Thread nD τ).loc main_arg0) = up X ∧ m ((c : Thread nD τ).loc main_arg1) = up G ∧ m ((c : Thread nD τ).loc main_arg2) = up W
      ∧ m ((c : Thread nD τ).loc main_arg3) = up U ∧ m ((c : Thread nD τ).loc main_arg4) = up P := by
  have e := congrFun (h c) (fun a => a.elim0)
  dsimp only [Cert.Pre_finite_in_bwd.fn, Cert.Pre_finite_in_bwd.fn_part1] at e
  simp only [and_split] at e
  obtain ⟨⟨⟨⟨h0, h1⟩, h2⟩, h3⟩, h4⟩ := e
  exact ⟨_, _, _, _, _, real_of_all _ _ _ _ _ h0, real_of_all _ _ _ _ _ h1, real_of_all _ _ _ _ _ h2, real_of_all _ _ _ _ _ h3, real_of_all _ _ _ _ _ h4⟩

theorem value : Cert.algebraic_InBwdIdeal_InBwdRefIdeal_pre_finite_in_bwd := by
  intro m g m' g' hpre hagree
  choose X G W U P hX hG hW hU hP using finite m hpre
  refine ⟨fun c => up (Val.gradX (X c) (G c) (W c) (U c) (P c)), fun c => up (Val.gradG (X c) (W c) (P c)), ?_, ?_⟩
  · refine (θ_run _ _ _).mono (fun r h c => ?_) (Cert.InBwdIdeal.Value.run_blocks (F := Ideal) m g)
    obtain ⟨h1, h2, hr⟩ := h c
    exact ⟨h1.trans (Val.final11 m c (hX c) (hG c) (hW c) (hU c) (hP c)), h2.trans (Val.final12 m c (hX c) (hG c) (hW c) (hU c) (hP c)), hr⟩
  · refine (θ_run _ _ _).mono (fun r h c => ?_) (Cert.InBwdRefIdeal.Value.run (F := Ideal) m' g')
    obtain ⟨a0, a1, a2, a3, a4⟩ := hagree c
    obtain ⟨h0, h1, hr⟩ := h c
    refine ⟨h0.trans ?_, h1.trans ?_, hr⟩
    · refine (InBwdRefIdeal.Read.val_main_v39_eq _ _).trans ?_
      rw [a0, a1, a2, a3, a4, hX, hG, hW, hU, hP]
      exact InBwdRefIdeal.Val.x_ref _ _ _ _ _
    · refine (InBwdRefIdeal.Read.val_main_v40_eq _ _ _).trans ?_
      rw [a0, a2, a4, hX, hW, hP]
      exact InBwdRefIdeal.Val.g_ref _ _ _

theorem frame_kernel : Cert.quiescent_InBwd := fun m g _ => Cert.InBwd.Gen.frame m g

theorem frame_ideal : Cert.quiescent_InBwdIdeal := fun m g _ => Gen.frame m g

theorem frame_ref : Cert.quiescent_InBwdRefIdeal := by
  intro m g _
  exact (θ_run _ _ _).mono (fun r h => ⟨fun c => (h c).2.2, sem_eq_zero_of_no_sems (by decide) r.2⟩) (Cert.InBwdRefIdeal.Value.run (F := Ideal) m g)

theorem preserves : Cert.preserves_InBwd_InBwdIdeal := trivial

end Cert.InBwdPair

end
-- ==== Proof.FfnInRun.lean ====
/- One run of `FfnInIdeal`: what every buffer outside the regions holds at the end. -/
module

public import proofs.«01_k».proof.Proof.Gen.FfnInIdeal.Frame

@[expose] public section

set_option maxRecDepth 16384

noncomputable section

namespace Cert.FfnInIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnInIdeal Cert.FfnInIdeal.Gen

variable {F : FTy → Type} [FloatOps F]
variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents and every counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.FfnInIdeal.Val

end
-- ==== Proof.FfnInValue.lean ====
/- What `FfnInIdeal` leaves in its four results, on real arguments. -/
module

public import proofs.«01_k».proof.Defs
public import proofs.«01_k».proof.Proof.Gen.FfnInIdeal.Frame
public import proofs.«01_k».proof.Proof.RmsKit

@[expose] public section

set_option maxRecDepth 16384

noncomputable section

namespace Cert.FfnInIdeal.Val

open Idealize.ShloMosaic Idealize.ShloMosaic.TcCoe Idealize.SL.Sem Cert.RealKit
open Idealize.ShloMosaic.Pipeline (Dat)
open Cert.FfnInIdeal Cert.FfnInIdeal.Gen

/-- The mixed rows, the rows after the first norm, and the gradients, over the real numbers. -/
def mix (R M : S8192x512.Idx → ℝ) (W : S1024x1024.Idx → ℝ) (t : Fin 8192) (l : Fin 1024) : ℝ :=
  (∑ k : Fin 512, R (ix2 t k) * W (ix2 ⟨k.val, by omega⟩ l)) + ∑ k : Fin 512, M (ix2 t k) * W (ix2 ⟨512 + k.val, by omega⟩ l)
def hid (X : S8192x1024.Idx → ℝ) (G : S1x1024.Idx → ℝ) (Y : Fin 8192 → Fin 1024 → ℝ) (t : Fin 8192) (l : Fin 1024) : ℝ :=
  X (ix2 t l) + Y t l * irms 1024 (Y t) * G (ix2 0 l)
def dhn (A B : S1024x2816.Idx → ℝ) (DA DB : S8192x2816.Idx → ℝ) (t : Fin 8192) (l : Fin 1024) : ℝ :=
  (∑ n, DA (ix2 t n) * A (ix2 l n)) + ∑ n, DB (ix2 t n) * B (ix2 l n)
def dh (H : Fin 8192 → Fin 1024 → ℝ) (U : S8192x1024.Idx → ℝ) (Q : S1x1024.Idx → ℝ) (E : Fin 8192 → Fin 1024 → ℝ) (t : Fin 8192) (l : Fin 1024) : ℝ :=
  U (ix2 t l) + rbwd 1024 (H t) (fun k => E t k * Q (ix2 0 k)) l
def dm (Y D : Fin 8192 → Fin 1024 → ℝ) (G : S1x1024.Idx → ℝ) (t : Fin 8192) (l : Fin 1024) : ℝ :=
  rbwd 1024 (Y t) (fun k => D t k * G (ix2 0 k)) l
def dgt (Y D : Fin 8192 → Fin 1024 → ℝ) (l : Fin 1024) (t : Fin 8192) : ℝ := D t l * (Y t l * irms 1024 (Y t))

variable (m : (ℓ : Loc nD τ sig) → Buf (Elt Ideal) ℓ) (ρ : Dev nD → PrngReg)

/-- The two feed-forward weights as the kernel packs them. -/
def slabOf (wg wu : FVec Ideal S1024x2816 .f32) : FVec Ideal S8x704x1024 .bf16 :=
  concatenate S8x704x1024 1 [⟨S8x352x1024, shapeCast S8x352x1024 (truncf .bf16 (transpose S2816x1024 [1, 0] wg transposes_S1024x2816_S2816x1024_1_0) bitsLt_bf16_f32) shapeCasts_S2816x1024_S8x352x1024⟩,
    ⟨S8x352x1024, shapeCast S8x352x1024 (truncf .bf16 (transpose S2816x1024 [1, 0] wu transposes_S1024x2816_S2816x1024_1_0) bitsLt_bf16_f32) shapeCasts_S2816x1024_S8x352x1024⟩] concatenates_S8x352x1024_S8x352x1024_S8x704x1024_d1

theorem slab (c : Dev nD) : V1 m ρ c main_v6 = slabOf (m ((c : Thread nD τ).loc main_arg6)) (m ((c : Thread nD τ).loc main_arg7)) := by
  unfold slabOf
  show StableHlo.after hostOps0 (W0 m ρ c) (Proc.devRef .tc main_v6) = _
  after_results_simp
  try rfl

theorem slabOf_gate (wg wu : FVec Ideal S1024x2816 .f32) (n : Fin 2816) (k : Fin 1024) (d : Fin 8) (r : Fin 704)
    (hd : d.val = n.val / 352) (hr : r.val = n.val % 352) : slabOf wg wu (ix3 d r k) = wg (ix2 k n) := by
  have := n.isLt
  pointwise [slabOf]
  rw [dif_pos (by omega)]
  blk_ext []

theorem slabOf_up (wg wu : FVec Ideal S1024x2816 .f32) (n : Fin 2816) (k : Fin 1024) (d : Fin 8) (r : Fin 704)
    (hd : d.val = n.val / 352) (hr : r.val = 352 + n.val % 352) : slabOf wg wu (ix3 d r k) = wu (ix2 k n) := by
  have := n.isLt
  pointwise [slabOf]
  rw [dif_neg (by omega)]
  blk_ext []

/-- An array with a leading dimension of one, read without it. -/
def flatM (Z : S1x8192x512.Idx → ℝ) (i : S8192x512.Idx) : ℝ := Z (ix3 0 (i 0) (i 1))
def flatW (Z : S1x1024x1024.Idx → ℝ) (i : S1024x1024.Idx) : ℝ := Z (ix3 0 (i 0) (i 1))

theorem castM (Z : S1x8192x512.Idx → ℝ) : (shapeCast S8192x512 (up Z : FVec Ideal S1x8192x512 .f32) shapeCasts_S1x8192x512_S8192x512 : FVec Ideal S8192x512 .f32) = up (flatM Z) := by
  funext y
  idx_vars y
  pointwise [flatM]
  try blk_ext []
theorem castW (Z : S1x1024x1024.Idx → ℝ) : (shapeCast S1024x1024 (up Z : FVec Ideal S1x1024x1024 .f32) shapeCasts_S1x1024x1024_S1024x1024 : FVec Ideal S1024x1024 .f32) = up (flatW Z) := by
  funext y
  idx_vars y
  pointwise [flatW]
  try blk_ext []

theorem V_7 (c : Dev nD) : V1 m ρ c main_v8 = (truncf .bf16 (shapeCast S8192x512 (m ((c : Thread nD τ).loc main_arg1) : FVec Ideal S1x8192x512 .f32) shapeCasts_S1x8192x512_S8192x512) bitsLt_bf16_f32 : FVec Ideal S8192x512 .bf16) := by
  show StableHlo.after hostOps0 (W0 m ρ c) (Proc.devRef .tc main_v8) = _
  after_results_simp
  try rfl
theorem V_m (c : Dev nD) : V1 m ρ c main_v9 = (shapeCast S8192x512 (m ((c : Thread nD τ).loc main_arg2) : FVec Ideal S1x8192x512 .f32) shapeCasts_S1x8192x512_S8192x512 : FVec Ideal S8192x512 .f32) := by
  show StableHlo.after hostOps0 (W0 m ρ c) (Proc.devRef .tc main_v9) = _
  after_results_simp
  try rfl
theorem V_9 (c : Dev nD) : V1 m ρ c main_v12 = (extractStridedSlice S512x1024 ![0, 0] (truncf .bf16 (shapeCast S1024x1024 (m ((c : Thread nD τ).loc main_arg3) : FVec Ideal S1x1024x1024 .f32) shapeCasts_S1x1024x1024_S1024x1024) bitsLt_bf16_f32) slices_S1024x1024_S512x1024_0_0 : FVec Ideal S512x1024 .bf16) := by
  show StableHlo.after hostOps0 (W0 m ρ c) (Proc.devRef .tc main_v12) = _
  after_results_simp
  try rfl
theorem V_10 (c : Dev nD) : V1 m ρ c main_v13 = (extractStridedSlice S512x1024 ![512, 0] (truncf .bf16 (shapeCast S1024x1024 (m ((c : Thread nD τ).loc main_arg3) : FVec Ideal S1x1024x1024 .f32) shapeCasts_S1x1024x1024_S1024x1024) bitsLt_bf16_f32) slices_S1024x1024_S512x1024_512_0 : FVec Ideal S512x1024 .bf16) := by
  show StableHlo.after hostOps0 (W0 m ρ c) (Proc.devRef .tc main_v13) = _
  after_results_simp
  try rfl

theorem idx0 : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

section Region0

variable (V : (c : Dev nD) → (b : Ref sig .tc) → Buf (Elt Ideal) ((c : Thread nD τ).loc b)) (c : Dev nD)

theorem blk0_0 (t : Fin cfg0.N) (r : Fin 512) (k : Fin 512) (T : Fin 8192) (hT : T.val = t.val * 512 + r.val) :
    (iblk0 V c 0 t : FVec Ideal S512x512 .bf16) (ix2 r k) = (V c main_v8 : FVec Ideal S8192x512 .bf16) (ix2 T k) := by blk_ext [iblk0, idx0 t]
theorem blk0_1 (t : Fin cfg0.N) (r : Fin 512) (k : Fin 512) (T : Fin 8192) (hT : T.val = t.val * 512 + r.val) :
    (iblk0 V c 1 t : FVec Ideal S512x512 .f32) (ix2 r k) = (V c main_v9 : FVec Ideal S8192x512 .f32) (ix2 T k) := by blk_ext [iblk0, idx0 t]
theorem blk0_2 (t : Fin cfg0.N) (r : Fin 512) (k : Fin 1024) (T : Fin 8192) (hT : T.val = t.val * 512 + r.val) :
    (iblk0 V c 2 t : FVec Ideal S512x1024 .f32) (ix2 r k) = (V c main_arg0 : FVec Ideal S8192x1024 .f32) (ix2 T k) := by blk_ext [iblk0, idx0 t]
theorem blk0_3 (t : Fin cfg0.N) (k : Fin 1024) :
    (iblk0 V c 3 t : FVec Ideal S1x1024 .f32) (ix2 0 k) = (V c main_arg4 : FVec Ideal S1x1024 .f32) (ix2 0 k) := by blk_ext [iblk0, idx0 t]
theorem blk0_4 (t : Fin cfg0.N) (k : Fin 512) (l : Fin 1024) :
    (iblk0 V c 4 t : FVec Ideal S512x1024 .bf16) (ix2 k l) = (V c main_v12 : FVec Ideal S512x1024 .bf16) (ix2 k l) := by blk_ext [iblk0, idx0 t]
theorem blk0_5 (t : Fin cfg0.N) (k : Fin 512) (l : Fin 1024) :
    (iblk0 V c 5 t : FVec Ideal S512x1024 .bf16) (ix2 k l) = (V c main_v13 : FVec Ideal S512x1024 .bf16) (ix2 k l) := by blk_ext [iblk0, idx0 t]

set_option maxHeartbeats 1600000 in
theorem after6 (t : Fin cfg0.N) : (dat0 V c).after 6 t
    = k0_pay3 (k0_pay1 (iblk0 V c 0 t)) (iblk0 V c 4 t) (k0_pay2 (iblk0 V c 1 t)) (iblk0 V c 5 t) := by
  rw [after0_6]
  unfold outsAt0
  dsimp only
  frame_out

set_option maxHeartbeats 1600000 in
theorem after7 (t : Fin cfg0.N) : (dat0 V c).after 7 t
    = k0_pay4 (k0_pay1 (iblk0 V c 0 t)) (iblk0 V c 4 t) (k0_pay2 (iblk0 V c 1 t)) (iblk0 V c 5 t) (iblk0 V c 2 t) (iblk0 V c 3 t) := by
  rw [after0_7]
  unfold outsAt0
  dsimp only
  frame_out

theorem pay3_apply (x : FVec Ideal S512x512 .bf16) (w : FVec Ideal S512x1024 .bf16) (y : FVec Ideal S512x512 .f32) (v : FVec Ideal S512x1024 .bf16)
    (r : Fin 512) (l : Fin 1024) (X Y A B : Fin 512 → ℝ) (hx : ∀ k, x (ix2 r k) = X k) (hy : ∀ k, y (ix2 r k) = Y k)
    (hw : ∀ k, w (ix2 k l) = A k) (hv : ∀ k, v (ix2 k l) = B k) :
    k0_pay3 (F := Ideal) (k0_pay1 (F := Ideal) x) w (k0_pay2 (F := Ideal) y) v (ix2 r l) = (((∑ k, X k * A k) + ∑ k, Y k * B k : ℝ) : EReal) := by
  pointwise [k0_pay3, k0_pay1, k0_pay2]
  simp only [hx, hy, hw, hv, ← EReal.coe_mul, coe_sum, ← EReal.coe_add]

theorem pay4_apply (a : FVec Ideal S512x512 .bf16) (b : FVec Ideal S512x1024 .bf16) (d : FVec Ideal S512x512 .bf16) (e : FVec Ideal S512x1024 .bf16)
    (x : FVec Ideal S512x1024 .f32) (g : FVec Ideal S1x1024 .f32) (r : Fin 512) (Y X G : Fin 1024 → ℝ)
    (hy : ∀ l, k0_pay3 (F := Ideal) a b d e (ix2 r l) = Y l) (hx : ∀ l, x (ix2 r l) = X l) (hg : ∀ l, g (ix2 0 l) = G l) (l : Fin 1024) :
    k0_pay4 (F := Ideal) a b d e x g (ix2 r l) = ((X l + Y l * irms 1024 Y * G l : ℝ) : EReal) := by
  pointwise [k0_pay4]
  simp only [hy, hx, hg, ofBits_1024, ofBits_eps]
  rw [coe_irms (by norm_num)]
  simp only [← EReal.coe_mul, ← EReal.coe_add]

variable {X : S8192x1024.Idx → ℝ} {R M : S8192x512.Idx → ℝ} {W : S1024x1024.Idx → ℝ} {G : S1x1024.Idx → ℝ}
  (hX : V c main_arg0 = up X) (hR : V c main_v8 = up R) (hM : V c main_v9 = up M)
  (hW : ∀ k l, (V c main_v12 : FVec Ideal S512x1024 .bf16) (ix2 k l) = (W (ix2 ⟨k.val, by omega⟩ l) : EReal))
  (hW' : ∀ k l, (V c main_v13 : FVec Ideal S512x1024 .bf16) (ix2 k l) = (W (ix2 ⟨512 + k.val, by omega⟩ l) : EReal)) (hG : V c main_arg4 = up G)
include hX hR hM hW hW' hG

theorem mix_real (t : Fin cfg0.N) (r : Fin 512) (T : Fin 8192) (hT : T.val = t.val * 512 + r.val) (l : Fin 1024) :
    k0_pay3 (F := Ideal) (k0_pay1 (iblk0 V c 0 t)) (iblk0 V c 4 t) (k0_pay2 (iblk0 V c 1 t)) (iblk0 V c 5 t) (ix2 r l) = (mix R M W T l : EReal) :=
  pay3_apply _ _ _ _ r l _ _ _ _ (fun k => (blk0_0 V c t r k T hT).trans (congrFun hR _)) (fun k => (blk0_1 V c t r k T hT).trans (congrFun hM _))
    (fun k => (blk0_4 V c t k l).trans (hW k l)) (fun k => (blk0_5 V c t k l).trans (hW' k l))

set_option maxHeartbeats 1600000 in
theorem final0_6 : (dat0 V c).arrAt 6 cfg0.N = up fun i : S8192x1024.Idx => mix R M W (i 0) (i 1) := by
  refine (dat0 V c).arrAt_eq_of_covers 6 _ (by decide +kernel) fun t _ y => ?_
  have ht : t.val < 16 := t.isLt.trans_eq N_0
  idx_vars y
  have e : ((cfg0.win 6).blk t).view.emb (ix2 y0 y1) = ix2 (⟨t.val * 512 + y0.val, by omega⟩ : Fin 8192) y1 := by blk_ext [idx0 t]
  rw [e]
  blk_simp
  rw [after6]
  exact mix_real V c hX hR hM hW hW' hG t y0 ⟨t.val * 512 + y0.val, by omega⟩ rfl y1

set_option maxHeartbeats 1600000 in
theorem final0_7 : (dat0 V c).arrAt 7 cfg0.N = up fun i : S8192x1024.Idx => hid X G (mix R M W) (i 0) (i 1) := by
  refine (dat0 V c).arrAt_eq_of_covers 7 _ (by decide +kernel) fun t _ y => ?_
  have ht : t.val < 16 := t.isLt.trans_eq N_0
  idx_vars y
  have e : ((cfg0.win 7).blk t).view.emb (ix2 y0 y1) = ix2 (⟨t.val * 512 + y0.val, by omega⟩ : Fin 8192) y1 := by blk_ext [idx0 t]
  rw [e]
  blk_simp
  rw [after7]
  exact pay4_apply _ _ _ _ _ _ y0 _ (fun l => X (ix2 _ l)) (fun l => G (ix2 0 l)) (mix_real V c hX hR hM hW hW' hG t y0 ⟨t.val * 512 + y0.val, by omega⟩ rfl)
    (fun k => (blk0_2 V c t y0 k _ rfl).trans (congrFun hX _)) (fun k => (blk0_3 V c t k).trans (congrFun hG _)) y1

end Region0

theorem idx1 : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![0, 0] ∧ win1_6.index t = ![0, 0] ∧ win1_7.index t = ![0, 0, 0] ∧ win1_8.index t = ![0, 1, 0]
    ∧ win1_9.index t = ![t.val, 0] ∧ win1_10.index t = ![t.val, 0] ∧ win1_11.index t = ![0, 0] ∧ win1_12.index t = ![0, 0] :=
  (by decide +kernel : ∀ t : Fin grid1.N, _)

section Region1

variable (V : (c : Dev nD) → (b : Ref sig .tc) → Buf (Elt Ideal) ((c : Thread nD τ).loc b)) (c : Dev nD)

theorem blk1_0 (t : Fin cfg1.N) (r : Fin 256) (k : Fin 2816) (T : Fin 8192) (hT : T.val = t.val * 256 + r.val) :
    (iblk1 V c 0 t : FVec Ideal S256x2816 .bf16) (ix2 r k) = (V c main_v15 : FVec Ideal S8192x2816 .bf16) (ix2 T k) := by blk_ext [iblk1, idx1 t]
theorem blk1_1 (t : Fin cfg1.N) (r : Fin 256) (k : Fin 2816) (T : Fin 8192) (hT : T.val = t.val * 256 + r.val) :
    (iblk1 V c 1 t : FVec Ideal S256x2816 .bf16) (ix2 r k) = (V c main_v16 : FVec Ideal S8192x2816 .bf16) (ix2 T k) := by blk_ext [iblk1, idx1 t]
theorem blk1_2 (t : Fin cfg1.N) (r : Fin 256) (k : Fin 1024) (T : Fin 8192) (hT : T.val = t.val * 256 + r.val) :
    (iblk1 V c 2 t : FVec Ideal S256x1024 .f32) (ix2 r k) = (V c main_arg8 : FVec Ideal S8192x1024 .f32) (ix2 T k) := by blk_ext [iblk1, idx1 t]
theorem blk1_3 (t : Fin cfg1.N) (r : Fin 256) (k : Fin 1024) (T : Fin 8192) (hT : T.val = t.val * 256 + r.val) :
    (iblk1 V c 3 t : FVec Ideal S256x1024 .f32) (ix2 r k) = (V c main_v14_1 : FVec Ideal S8192x1024 .f32) (ix2 T k) := by blk_ext [iblk1, idx1 t]
theorem blk1_4 (t : Fin cfg1.N) (r : Fin 256) (k : Fin 1024) (T : Fin 8192) (hT : T.val = t.val * 256 + r.val) :
    (iblk1 V c 4 t : FVec Ideal S256x1024 .f32) (ix2 r k) = (V c main_v14_0 : FVec Ideal S8192x1024 .f32) (ix2 T k) := by blk_ext [iblk1, idx1 t]
theorem blk1_5 (t : Fin cfg1.N) (k : Fin 1024) :
    (iblk1 V c 5 t : FVec Ideal S1x1024 .f32) (ix2 0 k) = (V c main_arg5 : FVec Ideal S1x1024 .f32) (ix2 0 k) := by blk_ext [iblk1, idx1 t]
theorem blk1_6 (t : Fin cfg1.N) (k : Fin 1024) :
    (iblk1 V c 6 t : FVec Ideal S1x1024 .f32) (ix2 0 k) = (V c main_arg4 : FVec Ideal S1x1024 .f32) (ix2 0 k) := by blk_ext [iblk1, idx1 t]
theorem blk1_7 (t : Fin cfg1.N) (d : Fin 8) (r : Fin 352) (k : Fin 1024) :
    (iblk1 V c 7 t : FVec Ideal S8x352x1024 .bf16) (ix3 d r k) = (V c main_v6 : FVec Ideal S8x704x1024 .bf16) (ix3 d ⟨r.val, by omega⟩ k) := by blk_ext [iblk1, idx1 t]
theorem blk1_8 (t : Fin cfg1.N) (d : Fin 8) (r : Fin 352) (k : Fin 1024) :
    (iblk1 V c 8 t : FVec Ideal S8x352x1024 .bf16) (ix3 d r k) = (V c main_v6 : FVec Ideal S8x704x1024 .bf16) (ix3 d ⟨352 + r.val, by omega⟩ k) := by blk_ext [iblk1, idx1 t]

/-- One step's gradient of the normalised rows, and of the rows before the norm. -/
def dhnAt (t : Fin cfg1.N) : FVec Ideal S256x1024 .f32 := k1_pay5 (iblk1 V c 0 t) (iblk1 V c 7 t) (iblk1 V c 1 t) (iblk1 V c 8 t)
def dguAt (t : Fin cfg1.N) : FVec Ideal S256x1024 .f32 := k1_pay9 (iblk1 V c 0 t) (iblk1 V c 7 t) (iblk1 V c 1 t) (iblk1 V c 8 t) (iblk1 V c 5 t)
def meanAt (t : Fin cfg1.N) : FVec Ideal S256x1024 .f32 :=
  k1_pay10 (iblk1 V c 0 t) (iblk1 V c 7 t) (iblk1 V c 1 t) (iblk1 V c 8 t) (iblk1 V c 3 t) (iblk1 V c 5 t)

set_option maxHeartbeats 3200000 in
theorem after9 (t : Fin cfg1.N) : (dat1 V c).after 9 t
    = k1_pay11 (k1_pay7 (iblk1 V c 3 t)) (k1_pay8 (iblk1 V c 3 t)) (iblk1 V c 2 t) (dguAt V c t) (meanAt V c t) := by
  rw [after1_9]
  by_cases h : t.val % 32 = 0
  · rw [outsAt1_A V c t h]; unfold dguAt meanAt; dsimp only; frame_out
  · rw [outsAt1_B V c t h]; unfold dguAt meanAt; dsimp only; frame_out

set_option maxHeartbeats 3200000 in
theorem after10 (t : Fin cfg1.N) : (dat1 V c).after 10 t
    = k1_pay17 (k1_pay7 (iblk1 V c 3 t)) (k1_pay8 (iblk1 V c 3 t)) (iblk1 V c 2 t) (dguAt V c t) (meanAt V c t) (iblk1 V c 4 t) (iblk1 V c 6 t) := by
  rw [after1_10]
  by_cases h : t.val % 32 = 0
  · rw [outsAt1_A V c t h]; unfold dguAt meanAt; dsimp only; frame_out
  · rw [outsAt1_B V c t h]; unfold dguAt meanAt; dsimp only; frame_out

set_option maxHeartbeats 3200000 in
theorem acc11_first (t : Fin cfg1.N) (h : t.val % 32 = 0) : (outsAt1 V c t.val t.isLt).2.2.1
    = k1_pay3 (k1_pay15 (dhnAt V c t) (k1_pay8 (iblk1 V c 3 t))) (k1_pay1 (F := Ideal)) := by
  rw [outsAt1_A V c t h]; unfold dhnAt; dsimp only; frame_out
set_option maxHeartbeats 3200000 in
theorem acc11_next (t : Fin cfg1.N) (h : ¬ t.val % 32 = 0) : (outsAt1 V c t.val t.isLt).2.2.1
    = k1_pay3 (k1_pay15 (dhnAt V c t) (k1_pay8 (iblk1 V c 3 t))) (outsAt1 V c (t.val - 1) (Nat.lt_of_le_of_lt (Nat.sub_le _ _) t.isLt)).2.2.1 := by
  rw [outsAt1_B V c t h]; unfold dhnAt; dsimp only; frame_out

/-- One step's column sums for the first norm's gain. -/
def colAt (t : Fin cfg1.N) : FVec Ideal S1x1024 .f32 :=
  k1_pay16 (k1_pay7 (iblk1 V c 3 t)) (k1_pay8 (iblk1 V c 3 t)) (iblk1 V c 2 t) (dguAt V c t) (meanAt V c t) (iblk1 V c 4 t)

set_option maxHeartbeats 3200000 in
theorem acc12_first (t : Fin cfg1.N) (h : t.val % 32 = 0) : (outsAt1 V c t.val t.isLt).2.2.2 = k1_pay4 (colAt V c t) (k1_pay2 (F := Ideal)) := by
  rw [outsAt1_A V c t h]; unfold colAt dguAt meanAt; dsimp only; frame_out
set_option maxHeartbeats 3200000 in
theorem acc12_next (t : Fin cfg1.N) (h : ¬ t.val % 32 = 0) : (outsAt1 V c t.val t.isLt).2.2.2
    = k1_pay4 (colAt V c t) (outsAt1 V c (t.val - 1) (Nat.lt_of_le_of_lt (Nat.sub_le _ _) t.isLt)).2.2.2 := by
  rw [outsAt1_B V c t h]; unfold colAt dguAt meanAt; dsimp only; frame_out

theorem pay5'_apply (x : FVec Ideal S256x2816 .bf16) (w : FVec Ideal S8x352x1024 .bf16) (y : FVec Ideal S256x2816 .bf16) (v : FVec Ideal S8x352x1024 .bf16)
    (r : Fin 256) (l : Fin 1024) (X Y A B : Fin 2816 → ℝ) (hx : ∀ k, x (ix2 r k) = X k) (hy : ∀ k, y (ix2 r k) = Y k)
    (hw : ∀ (n : Fin 2816) h h', w (ix3 ⟨n.val / 352, h⟩ ⟨n.val % 352, h'⟩ l) = A n)
    (hv : ∀ (n : Fin 2816) h h', v (ix3 ⟨n.val / 352, h⟩ ⟨n.val % 352, h'⟩ l) = B n) :
    k1_pay5 (F := Ideal) x w y v (ix2 r l) = (((∑ k, X k * A k) + ∑ k, Y k * B k : ℝ) : EReal) := by
  pointwise [k1_pay5]
  simp only [hx, hy, hw, hv, ← EReal.coe_mul, coe_sum, ← EReal.coe_add]

theorem pay9'_apply (x : FVec Ideal S256x2816 .bf16) (w : FVec Ideal S8x352x1024 .bf16) (y : FVec Ideal S256x2816 .bf16) (v : FVec Ideal S8x352x1024 .bf16)
    (g : FVec Ideal S1x1024 .f32) (r : Fin 256) (l : Fin 1024) (E G : ℝ) (he : k1_pay5 (F := Ideal) x w y v (ix2 r l) = E) (hg : g (ix2 0 l) = G) :
    k1_pay9 (F := Ideal) x w y v g (ix2 r l) = ((E * G : ℝ) : EReal) := by
  pointwise [k1_pay9]
  rw [he, hg, ← EReal.coe_mul]

theorem pay7'_apply (x : FVec Ideal S256x1024 .f32) (r : Fin 256) (X : Fin 1024 → ℝ) (hx : ∀ k, x (ix2 r k) = X k) :
    k1_pay7 (F := Ideal) x (ix2 r 0) = ((irms 1024 X : ℝ) : EReal) := by
  pointwise [k1_pay7, k1_pay6]
  simp only [hx, ofBits_1024, ofBits_eps]
  exact coe_irms (by norm_num) X

theorem pay8'_apply (x : FVec Ideal S256x1024 .f32) (r : Fin 256) (X : Fin 1024 → ℝ) (hx : ∀ k, x (ix2 r k) = X k) (l : Fin 1024) :
    k1_pay8 (F := Ideal) x (ix2 r l) = ((X l * irms 1024 X : ℝ) : EReal) := by
  pointwise [k1_pay8, k1_pay6]
  rw [pay7'_apply x r X hx, hx, ← EReal.coe_mul]

theorem pay10'_apply (x : FVec Ideal S256x2816 .bf16) (w : FVec Ideal S8x352x1024 .bf16) (y : FVec Ideal S256x2816 .bf16) (v : FVec Ideal S8x352x1024 .bf16)
    (h : FVec Ideal S256x1024 .f32) (g : FVec Ideal S1x1024 .f32) (r : Fin 256) (P H : Fin 1024 → ℝ)
    (hp : ∀ k, k1_pay9 (F := Ideal) x w y v g (ix2 r k) = P k) (hh : ∀ k, h (ix2 r k) = H k) (l : Fin 1024) :
    k1_pay10 (F := Ideal) x w y v h g (ix2 r l) = (((∑ j, P j * (H j * irms 1024 H)) / 1024 : ℝ) : EReal) := by
  have h8 := pay8'_apply h r H hh
  pointwise [k1_pay10]
  simp only [hp, h8, ofBits_1024, ← EReal.coe_mul, coe_sum]
  exact coe_div (by norm_num)

theorem pay11'_apply (i : FVec Ideal S256x1 .f32) (n u p s : FVec Ideal S256x1024 .f32) (r : Fin 256) (l : Fin 1024) (H P : Fin 1024 → ℝ) (U : ℝ)
    (hi : i (ix2 r 0) = ((irms 1024 H : ℝ) : EReal)) (hn : n (ix2 r l) = ((H l * irms 1024 H : ℝ) : EReal)) (hu : u (ix2 r l) = U) (hp : p (ix2 r l) = P l)
    (hs : s (ix2 r l) = (((∑ j, P j * (H j * irms 1024 H)) / 1024 : ℝ) : EReal)) :
    k1_pay11 (F := Ideal) i n u p s (ix2 r l) = ((U + rbwd 1024 H P l : ℝ) : EReal) := by
  pointwise [k1_pay11]
  rw [hi, hn, hu, hp, hs]
  simp only [← EReal.coe_mul, ← EReal.coe_sub, ← EReal.coe_add]
  rfl

theorem pay13'_apply (x : FVec Ideal S256x1024 .f32) (r : Fin 256) (X : Fin 1024 → ℝ) (hx : ∀ k, x (ix2 r k) = X k) :
    k1_pay13 (F := Ideal) x (ix2 r 0) = ((irms 1024 X : ℝ) : EReal) := by
  pointwise [k1_pay13, k1_pay12]
  simp only [hx, ofBits_1024, ofBits_eps]
  exact coe_irms (by norm_num) X

theorem pay14'_apply (x : FVec Ideal S256x1024 .f32) (r : Fin 256) (X : Fin 1024 → ℝ) (hx : ∀ k, x (ix2 r k) = X k) (l : Fin 1024) :
    k1_pay14 (F := Ideal) x (ix2 r l) = ((X l * irms 1024 X : ℝ) : EReal) := by
  pointwise [k1_pay14, k1_pay12]
  rw [pay13'_apply x r X hx, hx, ← EReal.coe_mul]

theorem pay17'_apply (i : FVec Ideal S256x1 .f32) (n u p s y : FVec Ideal S256x1024 .f32) (g : FVec Ideal S1x1024 .f32) (r : Fin 256) (D Y G : Fin 1024 → ℝ)
    (hd : ∀ k, k1_pay11 (F := Ideal) i n u p s (ix2 r k) = D k) (hy : ∀ k, y (ix2 r k) = Y k) (hg : ∀ k, g (ix2 0 k) = G k) (l : Fin 1024) :
    k1_pay17 (F := Ideal) i n u p s y g (ix2 r l) = ((rbwd 1024 Y (fun k => D k * G k) l : ℝ) : EReal) := by
  have h13 := pay13'_apply y r Y hy
  have h14 := pay14'_apply y r Y hy
  pointwise [k1_pay17]
  simp only [hd, hg, h13, h14, ofBits_1024, ← EReal.coe_mul, coe_sum]
  exact coe_rbwd (by norm_num) Y _ l

theorem pay15'_apply (d n : FVec Ideal S256x1024 .f32) (a : FVec Ideal S1x1024 .f32) (l : Fin 1024) (D N : Fin 256 → ℝ) (A : ℝ)
    (hd : ∀ r, d (ix2 r l) = D r) (hn : ∀ r, n (ix2 r l) = N r) (ha : a (ix2 0 l) = A) :
    k1_pay3 (F := Ideal) (k1_pay15 d n) a (ix2 0 l) = ((A + ∑ r, D r * N r : ℝ) : EReal) := by
  pointwise [k1_pay3, k1_pay15]
  simp only [hd, hn, ha, ← EReal.coe_mul, coe_sum, ← EReal.coe_add]

theorem pay16'_apply (i : FVec Ideal S256x1 .f32) (n u p s y : FVec Ideal S256x1024 .f32) (a : FVec Ideal S1x1024 .f32) (l : Fin 1024) (D : Fin 256 → ℝ) (Y : Fin 256 → Fin 1024 → ℝ) (A : ℝ)
    (hd : ∀ r, k1_pay11 (F := Ideal) i n u p s (ix2 r l) = D r) (hy : ∀ r k, y (ix2 r k) = Y r k) (ha : a (ix2 0 l) = A) :
    k1_pay4 (F := Ideal) (k1_pay16 i n u p s y) a (ix2 0 l) = ((A + ∑ r, D r * (Y r l * irms 1024 (Y r)) : ℝ) : EReal) := by
  have h14 := fun r => pay14'_apply y r (Y r) (hy r)
  pointwise [k1_pay4, k1_pay16]
  simp only [hd, h14, ha, ← EReal.coe_mul, coe_sum, ← EReal.coe_add]

theorem pay1'_apply (l : Fin 1024) : k1_pay1 (F := Ideal) (ix2 0 l) = ((0 : ℝ) : EReal) := by
  pointwise [k1_pay1]
  exact EReal.coe_zero.symm
theorem pay2'_apply (l : Fin 1024) : k1_pay2 (F := Ideal) (ix2 0 l) = ((0 : ℝ) : EReal) := by
  pointwise [k1_pay2]
  exact EReal.coe_zero.symm

variable {DA DB : S8192x2816.Idx → ℝ} {U : S8192x1024.Idx → ℝ} {H Y : Fin 8192 → Fin 1024 → ℝ} {Q G : S1x1024.Idx → ℝ} {A B : S1024x2816.Idx → ℝ}
  (hDA : V c main_v15 = up DA) (hDB : V c main_v16 = up DB) (hU : V c main_arg8 = up U) (hH : V c main_v14_1 = up fun i : S8192x1024.Idx => H (i 0) (i 1))
  (hY : V c main_v14_0 = up fun i : S8192x1024.Idx => Y (i 0) (i 1)) (hQ : V c main_arg5 = up Q) (hG : V c main_arg4 = up G)
  (hS : V c main_v6 = slabOf (up A) (up B))
include hDA hDB hU hH hY hQ hG hS

theorem h_real (t : Fin cfg1.N) (r : Fin 256) (k : Fin 1024) (T : Fin 8192) (hT : T.val = t.val * 256 + r.val) :
    (iblk1 V c 3 t : FVec Ideal S256x1024 .f32) (ix2 r k) = (H T k : EReal) := (blk1_3 V c t r k T hT).trans (congrFun hH _)
theorem y_real (t : Fin cfg1.N) (r : Fin 256) (k : Fin 1024) (T : Fin 8192) (hT : T.val = t.val * 256 + r.val) :
    (iblk1 V c 4 t : FVec Ideal S256x1024 .f32) (ix2 r k) = (Y T k : EReal) := (blk1_4 V c t r k T hT).trans (congrFun hY _)

theorem dhn_real (t : Fin cfg1.N) (r : Fin 256) (l : Fin 1024) (T : Fin 8192) (hT : T.val = t.val * 256 + r.val) :
    dhnAt V c t (ix2 r l) = (dhn A B DA DB T l : EReal) :=
  pay5'_apply _ _ _ _ r l _ _ (fun n => A (ix2 l n)) (fun n => B (ix2 l n)) (fun k => (blk1_0 V c t r k T hT).trans (congrFun hDA _)) (fun k => (blk1_1 V c t r k T hT).trans (congrFun hDB _))
    (fun n _ _ => (blk1_7 V c t _ _ l).trans ((congrFun hS _).trans (slabOf_gate _ _ n l _ _ rfl rfl)))
    (fun n _ _ => (blk1_8 V c t _ _ l).trans ((congrFun hS _).trans (slabOf_up _ _ n l _ _ rfl rfl)))

theorem dgu_real (t : Fin cfg1.N) (r : Fin 256) (l : Fin 1024) (T : Fin 8192) (hT : T.val = t.val * 256 + r.val) :
    dguAt V c t (ix2 r l) = ((dhn A B DA DB T l * Q (ix2 0 l) : ℝ) : EReal) :=
  pay9'_apply _ _ _ _ _ r l _ _ (dhn_real V c hDA hDB hU hH hY hQ hG hS t r l T hT) ((blk1_5 V c t l).trans (congrFun hQ _))

theorem dh_real (t : Fin cfg1.N) (r : Fin 256) (l : Fin 1024) (T : Fin 8192) (hT : T.val = t.val * 256 + r.val) :
    k1_pay11 (F := Ideal) (k1_pay7 (iblk1 V c 3 t)) (k1_pay8 (iblk1 V c 3 t)) (iblk1 V c 2 t) (dguAt V c t) (meanAt V c t) (ix2 r l)
      = (dh H U Q (dhn A B DA DB) T l : EReal) := by
  have hh := fun k => h_real V c hDA hDB hU hH hY hQ hG hS t r k T hT
  have hp := fun k => dgu_real V c hDA hDB hU hH hY hQ hG hS t r k T hT
  exact pay11'_apply _ _ _ _ _ r l (H T) (fun k => dhn A B DA DB T k * Q (ix2 0 k)) (U (ix2 T l)) (pay7'_apply _ r _ hh) (pay8'_apply _ r _ hh l)
    ((blk1_2 V c t r l T hT).trans (congrFun hU _)) (hp l) (pay10'_apply _ _ _ _ _ _ r _ _ hp hh l)

set_option maxHeartbeats 1600000 in
theorem final1_9 : (dat1 V c).arrAt 9 cfg1.N = up fun i : S8192x1024.Idx => dh H U Q (dhn A B DA DB) (i 0) (i 1) := by
  refine (dat1 V c).arrAt_eq_of_covers 9 _ (by decide +kernel) fun t _ y => ?_
  have ht : t.val < 32 := t.isLt.trans_eq N_1
  idx_vars y
  have e : ((cfg1.win 9).blk t).view.emb (ix2 y0 y1) = ix2 (⟨t.val * 256 + y0.val, by omega⟩ : Fin 8192) y1 := by blk_ext [idx1 t]
  rw [e]
  blk_simp
  rw [after9]
  exact dh_real V c hDA hDB hU hH hY hQ hG hS t y0 y1 ⟨t.val * 256 + y0.val, by omega⟩ rfl

set_option maxHeartbeats 1600000 in
theorem final1_10 : (dat1 V c).arrAt 10 cfg1.N = up fun i : S8192x1024.Idx => dm Y (dh H U Q (dhn A B DA DB)) G (i 0) (i 1) := by
  refine (dat1 V c).arrAt_eq_of_covers 10 _ (by decide +kernel) fun t _ y => ?_
  have ht : t.val < 32 := t.isLt.trans_eq N_1
  idx_vars y
  have e : ((cfg1.win 10).blk t).view.emb (ix2 y0 y1) = ix2 (⟨t.val * 256 + y0.val, by omega⟩ : Fin 8192) y1 := by blk_ext [idx1 t]
  rw [e]
  blk_simp
  rw [after10]
  exact pay17'_apply _ _ _ _ _ _ _ y0 _ _ (fun k => G (ix2 0 k)) (fun k => dh_real V c hDA hDB hU hH hY hQ hG hS t y0 k ⟨t.val * 256 + y0.val, by omega⟩ rfl)
    (fun k => y_real V c hDA hDB hU hH hY hQ hG hS t y0 k ⟨t.val * 256 + y0.val, by omega⟩ rfl) (fun k => (blk1_6 V c t k).trans (congrFun hG _)) y1

/-- The running sums over the rows of the steps so far. -/
theorem acc11_real (l : Fin 1024) : ∀ (n : ℕ) (h : n < cfg1.N), (outsAt1 V c n h).2.2.1 (ix2 0 l) = ((rowsTo (dgt H (dhn A B DA DB) l) ((n + 1) * 256) : ℝ) : EReal) := by
  have step : ∀ (t : Fin cfg1.N) (a : FVec Ideal S1x1024 .f32), a (ix2 0 l) = ((rowsTo (dgt H (dhn A B DA DB) l) (t.val * 256) : ℝ) : EReal) →
      k1_pay3 (k1_pay15 (dhnAt V c t) (k1_pay8 (iblk1 V c 3 t))) a (ix2 0 l) = ((rowsTo (dgt H (dhn A B DA DB) l) ((t.val + 1) * 256) : ℝ) : EReal) := by
    intro t a ha
    have ht : t.val < 32 := t.isLt.trans_eq N_1
    rw [pay15'_apply _ _ a l _ _ _ (fun r => dhn_real V c hDA hDB hU hH hY hQ hG hS t r l ⟨t.val * 256 + r.val, by omega⟩ rfl)
      (fun r => pay8'_apply _ r _ (fun k => h_real V c hDA hDB hU hH hY hQ hG hS t r k ⟨t.val * 256 + r.val, by omega⟩ rfl) l) ha]
    rw [rowsTo_step (dgt H (dhn A B DA DB) l) t.val 256 _ fun r => ⟨by omega, rfl⟩]
    rfl
  intro n
  induction n with
  | zero =>
    intro h
    rw [acc11_first V c ⟨0, h⟩ rfl]
    exact step ⟨0, h⟩ _ ((pay1'_apply l).trans (by rw [Nat.zero_mul, rowsTo_zero]))
  | succ n ih =>
    intro h
    have ht : n + 1 < 32 := h.trans_eq N_1
    rw [acc11_next V c ⟨n + 1, h⟩ (by dsimp only; omega)]
    exact step ⟨n + 1, h⟩ _ (ih (Nat.lt_of_succ_lt h))

theorem acc12_real (l : Fin 1024) : ∀ (n : ℕ) (h : n < cfg1.N), (outsAt1 V c n h).2.2.2 (ix2 0 l)
    = ((rowsTo (dgt Y (dh H U Q (dhn A B DA DB)) l) ((n + 1) * 256) : ℝ) : EReal) := by
  have step : ∀ (t : Fin cfg1.N) (a : FVec Ideal S1x1024 .f32), a (ix2 0 l) = ((rowsTo (dgt Y (dh H U Q (dhn A B DA DB)) l) (t.val * 256) : ℝ) : EReal) →
      k1_pay4 (colAt V c t) a (ix2 0 l) = ((rowsTo (dgt Y (dh H U Q (dhn A B DA DB)) l) ((t.val + 1) * 256) : ℝ) : EReal) := by
    intro t a ha
    have ht : t.val < 32 := t.isLt.trans_eq N_1
    unfold colAt
    rw [pay16'_apply _ _ _ _ _ _ a l _ _ _ (fun r => dh_real V c hDA hDB hU hH hY hQ hG hS t r l ⟨t.val * 256 + r.val, by omega⟩ rfl)
      (fun r k => y_real V c hDA hDB hU hH hY hQ hG hS t r k ⟨t.val * 256 + r.val, by omega⟩ rfl) ha]
    rw [rowsTo_step (dgt Y (dh H U Q (dhn A B DA DB)) l) t.val 256 _ fun r => ⟨by omega, rfl⟩]
    rfl
  intro n
  induction n with
  | zero =>
    intro h
    rw [acc12_first V c ⟨0, h⟩ rfl]
    exact step ⟨0, h⟩ _ ((pay2'_apply l).trans (by rw [Nat.zero_mul, rowsTo_zero]))
  | succ n ih =>
    intro h
    have ht : n + 1 < 32 := h.trans_eq N_1
    rw [acc12_next V c ⟨n + 1, h⟩ (by dsimp only; omega)]
    exact step ⟨n + 1, h⟩ _ (ih (Nat.lt_of_succ_lt h))

omit hDA hDB hU hH hY hQ hG hS in
theorem flush11 : ∀ t : Fin cfg1.N, (cfg1.win 11).flush t = true → t.val = 31 := by decide +kernel
omit hDA hDB hU hH hY hQ hG hS in
theorem flush12 : ∀ t : Fin cfg1.N, (cfg1.win 12).flush t = true → t.val = 31 := by decide +kernel

set_option maxHeartbeats 1600000 in
theorem final1_11 : (dat1 V c).arrAt 11 cfg1.N = up fun i : S1x1024.Idx => ∑ t, dgt H (dhn A B DA DB) (i 1) t := by
  refine (dat1 V c).arrAt_eq_of_covers 11 _ (by decide +kernel) fun t hf y => ?_
  have ht := flush11 t hf
  idx_vars y
  have e : ((cfg1.win 11).blk t).view.emb (ix2 y0 y1) = ix2 0 y1 := by blk_ext [idx1 t]
  rw [e]
  blk_simp
  rw [after1_11, show (ix2 y0 y1 : S1x1024.Idx) = ix2 0 y1 by blk_ext []]
  refine (acc11_real V c hDA hDB hU hH hY hQ hG hS y1 t.val t.isLt).trans ?_
  rw [ht]
  exact congrArg _ (rowsTo_all _)

set_option maxHeartbeats 1600000 in
theorem final1_12 : (dat1 V c).arrAt 12 cfg1.N = up fun i : S1x1024.Idx => ∑ t, dgt Y (dh H U Q (dhn A B DA DB)) (i 1) t := by
  refine (dat1 V c).arrAt_eq_of_covers 12 _ (by decide +kernel) fun t hf y => ?_
  have ht := flush12 t hf
  idx_vars y
  have e : ((cfg1.win 12).blk t).view.emb (ix2 y0 y1) = ix2 0 y1 := by blk_ext [idx1 t]
  rw [e]
  blk_simp
  rw [after1_12, show (ix2 y0 y1 : S1x1024.Idx) = ix2 0 y1 by blk_ext []]
  refine (acc12_real V c hDA hDB hU hH hY hQ hG hS y1 t.val t.isLt).trans ?_
  rw [ht]
  exact congrArg _ (rowsTo_all _)

end Region1

/-- What the forward call leaves in a buffer that no later line writes. -/
theorem kept (c : Dev nD) (r : Ref sig .tc) (h4 : ∀ w : Fin cfg1.W, Pipeline.arrRef spec1 w = r → (cfg1.win w).isOut = false) (h5 : r ∉ hostOps2_W) :
    W5 m ρ c (Proc.devRef .tc r) = V3 m ρ c r :=
  (W5_of m ρ c r h5).trans (W4_of m ρ c r h4)

section Whole

variable {X U : S8192x1024.Idx → ℝ} {R M : S1x8192x512.Idx → ℝ} {W : S1x1024x1024.Idx → ℝ} {G Q : S1x1024.Idx → ℝ} {A B : S1024x2816.Idx → ℝ} {DA DB : S8192x2816.Idx → ℝ} (c : Dev nD)
  (hX : m ((c : Thread nD τ).loc main_arg0) = up X) (hR : m ((c : Thread nD τ).loc main_arg1) = up R) (hM : m ((c : Thread nD τ).loc main_arg2) = up M)
  (hW : m ((c : Thread nD τ).loc main_arg3) = up W) (hG : m ((c : Thread nD τ).loc main_arg4) = up G) (hQ : m ((c : Thread nD τ).loc main_arg5) = up Q)
  (hA : m ((c : Thread nD τ).loc main_arg6) = up A) (hB : m ((c : Thread nD τ).loc main_arg7) = up B) (hU : m ((c : Thread nD τ).loc main_arg8) = up U)
  (hDA : m ((c : Thread nD τ).loc main_arg9) = up DA) (hDB : m ((c : Thread nD τ).loc main_arg10) = up DB)
include hX hR hM hW hG hQ hA hB hU hDA hDB

theorem left : V1 m ρ c main_v8 = up (flatM R) := by
  refine (V_7 m ρ c).trans ?_
  rw [hR, castM]
  rfl
theorem right : V1 m ρ c main_v9 = up (flatM M) := by
  refine (V_m m ρ c).trans ?_
  rw [hM, castM]

theorem V9_real (k : Fin 512) (l : Fin 1024) : (V1 m ρ c main_v12 : FVec Ideal S512x1024 .bf16) (ix2 k l) = (flatW W (ix2 ⟨k.val, by omega⟩ l) : EReal) := by
  refine (congrFun (V_9 m ρ c) _).trans ?_
  rw [hW, castW]; pointwise []; try blk_ext []
theorem V10_real (k : Fin 512) (l : Fin 1024) : (V1 m ρ c main_v13 : FVec Ideal S512x1024 .bf16) (ix2 k l) = (flatW W (ix2 ⟨512 + k.val, by omega⟩ l) : EReal) := by
  refine (congrFun (V_10 m ρ c) _).trans ?_
  rw [hW, castW]; pointwise []; try blk_ext []

theorem mix3 : V3 m ρ c main_v14_0 = up fun i : S8192x1024.Idx => mix (flatM R) (flatM M) (flatW W) (i 0) (i 1) :=
  (W3_of m ρ c main_v14_0 (by decide)).trans ((W2_arr m ρ c 6).trans
    (final0_6 (V1 m ρ) c ((W1_args m ρ c main_arg0 (by decide)).trans hX) (left m ρ c hX hR hM hW hG hQ hA hB hU hDA hDB) (right m ρ c hX hR hM hW hG hQ hA hB hU hDA hDB)
      (V9_real m ρ c hX hR hM hW hG hQ hA hB hU hDA hDB) (V10_real m ρ c hX hR hM hW hG hQ hA hB hU hDA hDB) ((W1_args m ρ c main_arg4 (by decide)).trans hG)))

theorem hid3 : V3 m ρ c main_v14_1 = up fun i : S8192x1024.Idx => hid X G (mix (flatM R) (flatM M) (flatW W)) (i 0) (i 1) :=
  (W3_of m ρ c main_v14_1 (by decide)).trans ((W2_arr m ρ c 7).trans
    (final0_7 (V1 m ρ) c ((W1_args m ρ c main_arg0 (by decide)).trans hX) (left m ρ c hX hR hM hW hG hQ hA hB hU hDA hDB) (right m ρ c hX hR hM hW hG hQ hA hB hU hDA hDB)
      (V9_real m ρ c hX hR hM hW hG hQ hA hB hU hDA hDB) (V10_real m ρ c hX hR hM hW hG hQ hA hB hU hDA hDB) ((W1_args m ρ c main_arg4 (by decide)).trans hG)))

theorem slab3 : V3 m ρ c main_v6 = slabOf (up A) (up B) := by
  refine (W3_of m ρ c main_v6 (by decide)).trans ((W2_of m ρ c main_v6 (by decide)).trans ?_)
  refine (slab m ρ c).trans ?_
  rw [hA, hB]

theorem da3 : V3 m ρ c main_v15 = up DA := by
  have h : W2 m ρ c (Proc.devRef .tc main_arg9) = up DA := (W2_args m ρ c main_arg9 (by decide)).trans hDA
  refine Eq.trans (b := (truncf .bf16 (W2 m ρ c (Proc.devRef .tc main_arg9) : FVec Ideal S8192x2816 .f32) bitsLt_bf16_f32 : FVec Ideal S8192x2816 .bf16)) ?_ h
  show StableHlo.after hostOps1 (W2 m ρ c) (Proc.devRef .tc main_v15) = _
  after_results_simp
  try rfl
theorem db3 : V3 m ρ c main_v16 = up DB := by
  have h : W2 m ρ c (Proc.devRef .tc main_arg10) = up DB := (W2_args m ρ c main_arg10 (by decide)).trans hDB
  refine Eq.trans (b := (truncf .bf16 (W2 m ρ c (Proc.devRef .tc main_arg10) : FVec Ideal S8192x2816 .f32) bitsLt_bf16_f32 : FVec Ideal S8192x2816 .bf16)) ?_ h
  show StableHlo.after hostOps1 (W2 m ρ c) (Proc.devRef .tc main_v16) = _
  after_results_simp
  try rfl

end Whole

/-- The four results, over the real numbers. -/
def gradH (X : S8192x1024.Idx → ℝ) (R M : S8192x512.Idx → ℝ) (W : S1024x1024.Idx → ℝ) (G Q : S1x1024.Idx → ℝ) (A B : S1024x2816.Idx → ℝ) (U : S8192x1024.Idx → ℝ)
    (DA DB : S8192x2816.Idx → ℝ) (t : Fin 8192) (l : Fin 1024) : ℝ := dh (hid X G (mix R M W)) U Q (dhn A B DA DB) t l
def resH (X : S8192x1024.Idx → ℝ) (R M : S8192x512.Idx → ℝ) (W : S1024x1024.Idx → ℝ) (G Q : S1x1024.Idx → ℝ) (A B : S1024x2816.Idx → ℝ) (U : S8192x1024.Idx → ℝ)
    (DA DB : S8192x2816.Idx → ℝ) (i : S8192x1024.Idx) : ℝ := gradH X R M W G Q A B U DA DB (i 0) (i 1)
def resM (X : S8192x1024.Idx → ℝ) (R M : S8192x512.Idx → ℝ) (W : S1024x1024.Idx → ℝ) (G Q : S1x1024.Idx → ℝ) (A B : S1024x2816.Idx → ℝ) (U : S8192x1024.Idx → ℝ)
    (DA DB : S8192x2816.Idx → ℝ) (i : S8192x1024.Idx) : ℝ := dm (mix R M W) (gradH X R M W G Q A B U DA DB) G (i 0) (i 1)
def resG (X : S8192x1024.Idx → ℝ) (R M : S8192x512.Idx → ℝ) (W : S1024x1024.Idx → ℝ) (G Q : S1x1024.Idx → ℝ) (A B : S1024x2816.Idx → ℝ) (U : S8192x1024.Idx → ℝ)
    (DA DB : S8192x2816.Idx → ℝ) (i : S1x1024.Idx) : ℝ := ∑ t, dgt (mix R M W) (gradH X R M W G Q A B U DA DB) (i 1) t
def resQ (X : S8192x1024.Idx → ℝ) (R M : S8192x512.Idx → ℝ) (W : S1024x1024.Idx → ℝ) (G : S1x1024.Idx → ℝ) (A B : S1024x2816.Idx → ℝ)
    (DA DB : S8192x2816.Idx → ℝ) (i : S1x1024.Idx) : ℝ := ∑ t, dgt (hid X G (mix R M W)) (dhn A B DA DB) (i 1) t

section Results

variable {X U : S8192x1024.Idx → ℝ} {R M : S1x8192x512.Idx → ℝ} {W : S1x1024x1024.Idx → ℝ} {G Q : S1x1024.Idx → ℝ} {A B : S1024x2816.Idx → ℝ} {DA DB : S8192x2816.Idx → ℝ} (c : Dev nD)
  (hX : m ((c : Thread nD τ).loc main_arg0) = up X) (hR : m ((c : Thread nD τ).loc main_arg1) = up R) (hM : m ((c : Thread nD τ).loc main_arg2) = up M)
  (hW : m ((c : Thread nD τ).loc main_arg3) = up W) (hG : m ((c : Thread nD τ).loc main_arg4) = up G) (hQ : m ((c : Thread nD τ).loc main_arg5) = up Q)
  (hA : m ((c : Thread nD τ).loc main_arg6) = up A) (hB : m ((c : Thread nD τ).loc main_arg7) = up B) (hU : m ((c : Thread nD τ).loc main_arg8) = up U)
  (hDA : m ((c : Thread nD τ).loc main_arg9) = up DA) (hDB : m ((c : Thread nD τ).loc main_arg10) = up DB)
include hX hR hM hW hG hQ hA hB hU hDA hDB

theorem h_eq : W5 m ρ c (Proc.devRef .tc main_v17_0) = up (resH X (flatM R) (flatM M) (flatW W) G Q A B U DA DB) :=
  (W5_of m ρ c main_v17_0 (by decide)).trans ((W4_arr m ρ c 9).trans
    (final1_9 (V3 m ρ) c (da3 m ρ c hX hR hM hW hG hQ hA hB hU hDA hDB) (db3 m ρ c hX hR hM hW hG hQ hA hB hU hDA hDB) ((W3_args m ρ c main_arg8 (by decide)).trans hU)
      (hid3 m ρ c hX hR hM hW hG hQ hA hB hU hDA hDB) (mix3 m ρ c hX hR hM hW hG hQ hA hB hU hDA hDB) ((W3_args m ρ c main_arg5 (by decide)).trans hQ)
      ((W3_args m ρ c main_arg4 (by decide)).trans hG) (slab3 m ρ c hX hR hM hW hG hQ hA hB hU hDA hDB)))

theorem m_eq : W5 m ρ c (Proc.devRef .tc main_v18) = up (resM X (flatM R) (flatM M) (flatW W) G Q A B U DA DB) := by
  have h : W4 m ρ c (Proc.devRef .tc main_v17_1) = up (resM X (flatM R) (flatM M) (flatW W) G Q A B U DA DB) := (W4_arr m ρ c 10).trans
    (final1_10 (V3 m ρ) c (da3 m ρ c hX hR hM hW hG hQ hA hB hU hDA hDB) (db3 m ρ c hX hR hM hW hG hQ hA hB hU hDA hDB) ((W3_args m ρ c main_arg8 (by decide)).trans hU)
      (hid3 m ρ c hX hR hM hW hG hQ hA hB hU hDA hDB) (mix3 m ρ c hX hR hM hW hG hQ hA hB hU hDA hDB) ((W3_args m ρ c main_arg5 (by decide)).trans hQ)
      ((W3_args m ρ c main_arg4 (by decide)).trans hG) (slab3 m ρ c hX hR hM hW hG hQ hA hB hU hDA hDB))
  refine Eq.trans (b := (extf .f32 (W4 m ρ c (Proc.devRef .tc main_v17_1) : FVec Ideal S8192x1024 .bf16) bitsLt_bf16_f32 : FVec Ideal S8192x1024 .f32)) ?_ h
  show StableHlo.after hostOps2 (W4 m ρ c) (Proc.devRef .tc main_v18) = _
  after_results_simp
  try rfl

theorem g_eq : W5 m ρ c (Proc.devRef .tc main_v17_3) = up (resG X (flatM R) (flatM M) (flatW W) G Q A B U DA DB) :=
  (W5_of m ρ c main_v17_3 (by decide)).trans ((W4_arr m ρ c 12).trans
    (final1_12 (V3 m ρ) c (da3 m ρ c hX hR hM hW hG hQ hA hB hU hDA hDB) (db3 m ρ c hX hR hM hW hG hQ hA hB hU hDA hDB) ((W3_args m ρ c main_arg8 (by decide)).trans hU)
      (hid3 m ρ c hX hR hM hW hG hQ hA hB hU hDA hDB) (mix3 m ρ c hX hR hM hW hG hQ hA hB hU hDA hDB) ((W3_args m ρ c main_arg5 (by decide)).trans hQ)
      ((W3_args m ρ c main_arg4 (by decide)).trans hG) (slab3 m ρ c hX hR hM hW hG hQ hA hB hU hDA hDB)))

theorem q_eq : W5 m ρ c (Proc.devRef .tc main_v17_2) = up (resQ X (flatM R) (flatM M) (flatW W) G A B DA DB) :=
  (W5_of m ρ c main_v17_2 (by decide)).trans ((W4_arr m ρ c 11).trans
    (final1_11 (V3 m ρ) c (da3 m ρ c hX hR hM hW hG hQ hA hB hU hDA hDB) (db3 m ρ c hX hR hM hW hG hQ hA hB hU hDA hDB) ((W3_args m ρ c main_arg8 (by decide)).trans hU)
      (hid3 m ρ c hX hR hM hW hG hQ hA hB hU hDA hDB) (mix3 m ρ c hX hR hM hW hG hQ hA hB hU hDA hDB) ((W3_args m ρ c main_arg5 (by decide)).trans hQ)
      ((W3_args m ρ c main_arg4 (by decide)).trans hG) (slab3 m ρ c hX hR hM hW hG hQ hA hB hU hDA hDB)))

end Results

end Cert.FfnInIdeal.Val

end
-- ==== Proof.FfnInRef.lean ====
/- What `FfnInRefIdeal` leaves in its four results, on real arguments. -/
module

public import proofs.«01_k».proof.Proof.FfnInValue
public import proofs.«01_k».proof.Proof.Gen.FfnInRefIdeal.Read

@[expose] public section

set_option maxRecDepth 16384

noncomputable section

namespace Cert.FfnInRefIdeal.Val

open Idealize.ShloMosaic Idealize.ShloMosaic.TcCoe Idealize.SL.Sem Cert.RealKit
open Cert.FfnInRefIdeal Cert.FfnInRefIdeal.Gen Cert.FfnInRefIdeal.Read Cert.FfnInIdeal.Val

variable (X : S8192x1024.Idx → ℝ) (R M : S1x8192x512.Idx → ℝ) (W : S1x1024x1024.Idx → ℝ) (G Q : S1x1024.Idx → ℝ) (A B : S1024x2816.Idx → ℝ) (U : S8192x1024.Idx → ℝ) (DA DB : S8192x2816.Idx → ℝ)

theorem v2l (t : Fin 8192) (k : Fin 512) : val_main_v2 (F := Ideal) (up R) (up M) (ix2 t ⟨k.val, by omega⟩) = (flatM R (ix2 t k) : EReal) := by
  pointwise [val_main_v2, val_main_v1, val_main_v0]
  try rw [dif_pos (by omega)]
  rfl
theorem v2r (t : Fin 8192) (k : Fin 512) : val_main_v2 (F := Ideal) (up R) (up M) (ix2 t ⟨512 + k.val, by omega⟩) = (flatM M (ix2 t k) : EReal) := by
  pointwise [val_main_v2, val_main_v1, val_main_v0]
  try rw [dif_neg (by omega)]
  rfl
theorem v3 (k l : Fin 1024) : val_main_v3 (F := Ideal) (up W) (ix2 k l) = (flatW W (ix2 k l) : EReal) := congrFun (castW W) (ix2 k l)

theorem v4 (t : Fin 8192) (l : Fin 1024) : val_main_v4 (F := Ideal) (up R) (up M) (up W) (ix2 t l) = (mix (flatM R) (flatM M) (flatW W) t l : EReal) := by
  pointwise [val_main_v4]
  refine (Fin.sum_univ_add (a := 512) (b := 512) _).trans ?_
  have e1 : ∀ k : Fin 512, val_main_v2 (F := Ideal) (up R) (up M) (ix2 t (Fin.castAdd 512 k)) = (flatM R (ix2 t k) : EReal) := fun k => v2l R M t k
  have e2 : ∀ k : Fin 512, val_main_v2 (F := Ideal) (up R) (up M) (ix2 t (Fin.natAdd 512 k)) = (flatM M (ix2 t k) : EReal) := fun k => v2r R M t k
  simp only [e1, e2, v3, ← EReal.coe_mul, coe_sum, ← EReal.coe_add]
  rfl

theorem v12 (t : Fin 8192) : val_main_v12 (F := Ideal) (up R) (up M) (up W) (ix2 t 0) = ((msq 1024 (mix (flatM R) (flatM M) (flatW W) t) : ℝ) : EReal) := by
  pointwise [val_main_v12, val_main_v11, val_main_v10, val_main_v9, val_main_v8, val_main_v7, val_main_v6, val_main_cst_1, val_main_cst_0, val_main_cst]
  simp only [v4, ofBits_1024, ofBits_eps]
  exact coe_msq (by norm_num) _

theorem v13 (t : Fin 8192) : val_main_v13 (F := Ideal) (up R) (up M) (up W) (ix2 t 0) = ((irms 1024 (mix (flatM R) (flatM M) (flatW W) t) : ℝ) : EReal) := by
  pointwise [val_main_v13]
  rw [v12]
  exact coe_rsqrt_msq (by norm_num) _

theorem v16 (t : Fin 8192) : val_main_v16 (F := Ideal) (up R) (up M) (up W) (ix2 t 0) = ((-(1 / 2) * (irms 1024 (mix (flatM R) (flatM M) (flatW W) t) / msq 1024 (mix (flatM R) (flatM M) (flatW W) t)) : ℝ) : EReal) := by
  pointwise [val_main_v16, val_main_v15, val_main_v14, val_main_cst_2]
  rw [v13, v12, coe_irms_msq (by norm_num), ofBits_neg_half, ← EReal.coe_mul]

theorem v18 (t : Fin 8192) (l : Fin 1024) : val_main_v18 (F := Ideal) (up R) (up M) (up W) (ix2 t l) = ((mix (flatM R) (flatM M) (flatW W) t l * irms 1024 (mix (flatM R) (flatM M) (flatW W) t) : ℝ) : EReal) := by
  pointwise [val_main_v18, val_main_v17]
  rw [v4, v13, ← EReal.coe_mul]

theorem v22 (t : Fin 8192) (l : Fin 1024) : val_main_v22 (F := Ideal) (up X) (up R) (up M) (up W) (up G) (ix2 t l) = (hid X G (mix (flatM R) (flatM M) (flatW W)) t l : EReal) := by
  pointwise [val_main_v22, val_main_v21, val_main_v20, val_main_v19, val_main_v5]
  rw [v18, ← EReal.coe_mul, ← EReal.coe_add]
  rfl

theorem v30 (t : Fin 8192) : val_main_v30 (F := Ideal) (up X) (up R) (up M) (up W) (up G) (ix2 t 0) = ((msq 1024 (hid X G (mix (flatM R) (flatM M) (flatW W)) t) : ℝ) : EReal) := by
  pointwise [val_main_v30, val_main_v29, val_main_v28, val_main_v27, val_main_v26, val_main_v25, val_main_v24, val_main_cst_5, val_main_cst_4, val_main_cst_3]
  simp only [v22, ofBits_1024, ofBits_eps]
  exact coe_msq (by norm_num) _

theorem v31 (t : Fin 8192) : val_main_v31 (F := Ideal) (up X) (up R) (up M) (up W) (up G) (ix2 t 0) = ((irms 1024 (hid X G (mix (flatM R) (flatM M) (flatW W)) t) : ℝ) : EReal) := by
  pointwise [val_main_v31]
  rw [v30]
  exact coe_rsqrt_msq (by norm_num) _

theorem v34 (t : Fin 8192) : val_main_v34 (F := Ideal) (up X) (up R) (up M) (up W) (up G) (ix2 t 0) = ((-(1 / 2) * (irms 1024 (hid X G (mix (flatM R) (flatM M) (flatW W)) t) / msq 1024 (hid X G (mix (flatM R) (flatM M) (flatW W)) t)) : ℝ) : EReal) := by
  pointwise [val_main_v34, val_main_v33, val_main_v32, val_main_cst_6]
  rw [v31, v30, coe_irms_msq (by norm_num), ofBits_neg_half, ← EReal.coe_mul]

theorem v44 (t : Fin 8192) (l : Fin 1024) : val_main_v44 (F := Ideal) (up A) (up B) (up DA) (up DB) (ix2 t l) = (dhn A B DA DB t l : EReal) := by
  pointwise [val_main_v44, val_main_v43, val_main_v42]
  simp only [up, ← EReal.coe_mul, coe_sum, ← EReal.coe_add]
  refine congrArg (fun a : ℝ => (a : EReal)) ?_
  unfold dhn
  try rfl
  try exact add_comm _ _

theorem v49 (t : Fin 8192) (l : Fin 1024) : val_main_v49 (F := Ideal) (up Q) (up A) (up B) (up DA) (up DB) (ix2 t l) = ((dhn A B DA DB t l * Q (ix2 0 l) : ℝ) : EReal) := by
  pointwise [val_main_v49, val_main_v48, val_main_v37, val_main_v23]
  rw [v44, ← EReal.coe_mul]

theorem v46 (l : Fin 1024) : val_main_v46 (F := Ideal) (up X) (up R) (up M) (up W) (up G) (up A) (up B) (up DA) (up DB) (ix1 l) = ((∑ t, dgt (hid X G (mix (flatM R) (flatM M) (flatW W))) (dhn A B DA DB) l t : ℝ) : EReal) := by
  pointwise [val_main_v46, val_main_v45, val_main_v36, val_main_v35, val_main_cst_7]
  simp only [v44, v22, v31, ← EReal.coe_mul, coe_sum]
  refine congrArg (fun a : ℝ => (a : EReal)) (Finset.sum_congr rfl fun t _ => ?_)
  unfold dgt
  exact mul_comm _ _

theorem q_ref : val_main_v66 (F := Ideal) (up X) (up R) (up M) (up W) (up G) (up A) (up B) (up DA) (up DB) = up (resQ X (flatM R) (flatM M) (flatW W) G A B DA DB) := by
  funext i
  idx_vars i
  pointwise [val_main_v66, val_main_v50, val_main_v47, val_main_cst_8]
  simp only [Fin.sum_univ_one, v46]
  rfl

theorem v59 (t : Fin 8192) : val_main_v59 (F := Ideal) (up X) (up R) (up M) (up W) (up G) (up Q) (up A) (up B) (up DA) (up DB) (ix2 t 0)
    = (((∑ k, hid X G (mix (flatM R) (flatM M) (flatW W)) t k * (dhn A B DA DB t k * Q (ix2 0 k))) * (-(1 / 2) * (irms 1024 (hid X G (mix (flatM R) (flatM M) (flatW W)) t) / msq 1024 (hid X G (mix (flatM R) (flatM M) (flatW W)) t))) / 1024 : ℝ) : EReal) := by
  pointwise [val_main_v59, val_main_v58, val_main_v57, val_main_v53, val_main_v52, val_main_v51, val_main_cst_10, val_main_cst_9]
  simp only [v49, v34, v22, ofBits_1024, ← EReal.coe_mul, coe_sum]
  exact coe_div (by norm_num)

theorem v65 (t : Fin 8192) (l : Fin 1024) : val_main_v65 (F := Ideal) (up X) (up R) (up M) (up W) (up G) (up Q) (up A) (up B) (up U) (up DA) (up DB) (ix2 t l) = (gradH X (flatM R) (flatM M) (flatW W) G Q A B U DA DB t l : EReal) := by
  pointwise [val_main_v65, val_main_v64, val_main_v63, val_main_v62, val_main_v61, val_main_v60, val_main_v56, val_main_v55, val_main_v54, val_main_cst_11]
  simp only [Fin.sum_univ_one, v59, v49, v31, v22, up, ← EReal.coe_mul, ← EReal.coe_add]
  exact congrArg (fun a : ℝ => (a : EReal)) (rbwd_add (by norm_num) (U (ix2 t l)) (hid X G (mix (flatM R) (flatM M) (flatW W)) t) (fun k => dhn A B DA DB t k * Q (ix2 0 k)) l)

theorem h_ref : val_main_v65 (F := Ideal) (up X) (up R) (up M) (up W) (up G) (up Q) (up A) (up B) (up U) (up DA) (up DB) = up (resH X (flatM R) (flatM M) (flatW W) G Q A B U DA DB) := by
  funext i
  idx_vars i
  exact v65 X R M W G Q A B U DA DB i0 i1

theorem v67 (t : Fin 8192) (l : Fin 1024) : val_main_v67 (F := Ideal) (up X) (up R) (up M) (up W) (up G) (up Q) (up A) (up B) (up U) (up DA) (up DB) (ix2 t l) = (gradH X (flatM R) (flatM M) (flatW W) G Q A B U DA DB t l : EReal) := by
  refine Eq.trans ?_ (v65 X R M W G Q A B U DA DB t l)
  pointwise [val_main_v67]

theorem v69 (l : Fin 1024) : val_main_v69 (F := Ideal) (up X) (up R) (up M) (up W) (up G) (up Q) (up A) (up B) (up U) (up DA) (up DB) (ix1 l) = ((∑ t, dgt (mix (flatM R) (flatM M) (flatW W)) (gradH X (flatM R) (flatM M) (flatW W) G Q A B U DA DB) l t : ℝ) : EReal) := by
  pointwise [val_main_v69, val_main_v68, val_main_cst_12]
  simp only [v67, v18, ← EReal.coe_mul, coe_sum]
  refine congrArg (fun a : ℝ => (a : EReal)) (Finset.sum_congr rfl fun t _ => ?_)
  unfold dgt
  exact mul_comm _ _

theorem g_ref : val_main_v88 (F := Ideal) (up X) (up R) (up M) (up W) (up G) (up Q) (up A) (up B) (up U) (up DA) (up DB) = up (resG X (flatM R) (flatM M) (flatW W) G Q A B U DA DB) := by
  funext i
  idx_vars i
  pointwise [val_main_v88, val_main_v73, val_main_v70, val_main_cst_13]
  simp only [Fin.sum_univ_one, v69]
  rfl

theorem v72 (t : Fin 8192) (l : Fin 1024) : val_main_v72 (F := Ideal) (up X) (up R) (up M) (up W) (up G) (up Q) (up A) (up B) (up U) (up DA) (up DB) (ix2 t l) = ((gradH X (flatM R) (flatM M) (flatW W) G Q A B U DA DB t l * G (ix2 0 l) : ℝ) : EReal) := by
  pointwise [val_main_v72, val_main_v71, val_main_v19, val_main_v5]
  rw [v67, ← EReal.coe_mul]

theorem v81 (t : Fin 8192) : val_main_v81 (F := Ideal) (up X) (up R) (up M) (up W) (up G) (up Q) (up A) (up B) (up U) (up DA) (up DB) (ix2 t 0)
    = (((∑ k, mix (flatM R) (flatM M) (flatW W) t k * (gradH X (flatM R) (flatM M) (flatW W) G Q A B U DA DB t k * G (ix2 0 k))) * (-(1 / 2) * (irms 1024 (mix (flatM R) (flatM M) (flatW W) t) / msq 1024 (mix (flatM R) (flatM M) (flatW W) t))) / 1024 : ℝ) : EReal) := by
  pointwise [val_main_v81, val_main_v80, val_main_v79, val_main_v76, val_main_v75, val_main_v74, val_main_cst_15, val_main_cst_14]
  simp only [v72, v16, v4, ofBits_1024, ← EReal.coe_mul, coe_sum]
  exact coe_div (by norm_num)

theorem m_ref : val_main_v87 (F := Ideal) (up X) (up R) (up M) (up W) (up G) (up Q) (up A) (up B) (up U) (up DA) (up DB) = up (resM X (flatM R) (flatM M) (flatW W) G Q A B U DA DB) := by
  funext i
  idx_vars i
  pointwise [val_main_v87, val_main_v86, val_main_v85, val_main_v84, val_main_v83, val_main_v82, val_main_v78, val_main_v77, val_main_cst_16]
  simp only [Fin.sum_univ_one, v81, v72, v13, v4, ← EReal.coe_mul, ← EReal.coe_add]
  exact congrArg (fun a : ℝ => (a : EReal)) (rbwd_plain (by norm_num) (mix (flatM R) (flatM M) (flatW W) i0) (fun k => gradH X (flatM R) (flatM M) (flatW W) G Q A B U DA DB i0 k * G (ix2 0 k)) i1)

end Cert.FfnInRefIdeal.Val

end
-- ==== Proof.FfnInPair.lean ====
/- The claims about the gradient through the feed-forward input, its norm and the residual before it. -/
module

public import proofs.«01_k».proof.Proof.FfnInRun
public import proofs.«01_k».proof.Proof.FfnInRef
public import proofs.«01_k».proof.Proof.Gen.FfnIn.Frame
public import proofs.«01_k».proof.Proof.Gen.FfnInRefIdeal.Run
public import proofs.«01_k».proof.Proof.Gen.Pre_finite_ffn_in

@[expose] public section

noncomputable section

namespace Cert.FfnInPair

open Idealize.ShloMosaic Idealize.ShloMosaic.TcCoe Idealize.SL.Sem Cert.RealKit Cert.FfnInIdeal Cert.FfnInIdeal.Val

theorem finite (m : (ℓ : Loc nD τ sig) → Buf (Elt Ideal) ℓ) (h : Cert.Pre_FfnInIdeal_finite_ffn_in m) (c : Dev nD) :
    ∃ (X : S8192x1024.Idx → ℝ) (R : S1x8192x512.Idx → ℝ) (M : S1x8192x512.Idx → ℝ) (W : S1x1024x1024.Idx → ℝ) (G : S1x1024.Idx → ℝ) (Q : S1x1024.Idx → ℝ) (A : S1024x2816.Idx → ℝ) (B : S1024x2816.Idx → ℝ) (U : S8192x1024.Idx → ℝ) (DA : S8192x2816.Idx → ℝ) (DB : S8192x2816.Idx → ℝ),
      m ((c : Thread nD τ).loc main_arg0) = up X
      ∧ m ((c : Thread nD τ).loc main_arg1) = up R
      ∧ m ((c : Thread nD τ).loc main_arg2) = up M
      ∧ m ((c : Thread nD τ).loc main_arg3) = up W
      ∧ m ((c : Thread nD τ).loc main_arg4) = up G
      ∧ m ((c : Thread nD τ).loc main_arg5) = up Q
      ∧ m ((c : Thread nD τ).loc main_arg6) = up A
      ∧ m ((c : Thread nD τ).loc main_arg7) = up B
      ∧ m ((c : Thread nD τ).loc main_arg8) = up U
      ∧ m ((c : Thread nD τ).loc main_arg9) = up DA
      ∧ m ((c : Thread nD τ).loc main_arg10) = up DB := by
  have e := congrFun (h c) (fun a => a.elim0)
  dsimp only [Cert.Pre_finite_ffn_in.fn, Cert.Pre_finite_ffn_in.fn_part1, Cert.Pre_finite_ffn_in.fn_part2, Cert.Pre_finite_ffn_in.fn_part3] at e
  simp only [and_split] at e
  obtain ⟨⟨⟨⟨⟨⟨⟨⟨⟨⟨h0, h1⟩, h2⟩, h3⟩, h4⟩, h5⟩, h6⟩, h7⟩, h8⟩, h9⟩, h10⟩ := e
  exact ⟨_, _, _, _, _, _, _, _, _, _, _,
    real_of_all _ _ _ _ _ h0, real_of_all _ _ _ _ _ h1, real_of_all _ _ _ _ _ h2, real_of_all _ _ _ _ _ h3, real_of_all _ _ _ _ _ h4, real_of_all _ _ _ _ _ h5, real_of_all _ _ _ _ _ h6, real_of_all _ _ _ _ _ h7, real_of_all _ _ _ _ _ h8, real_of_all _ _ _ _ _ h9, real_of_all _ _ _ _ _ h10⟩

set_option maxHeartbeats 2000000 in
theorem value : Cert.algebraic_FfnInIdeal_FfnInRefIdeal_pre_finite_ffn_in := by
  intro m g m' g' hpre hagree
  choose X R M W G Q A B U DA DB hX hR hM hW hG hQ hA hB hU hDA hDB using finite m hpre
  refine ⟨fun c => up (resH (X c) (flatM (R c)) (flatM (M c)) (flatW (W c)) (G c) (Q c) (A c) (B c) (U c) (DA c) (DB c)), fun c => up (resM (X c) (flatM (R c)) (flatM (M c)) (flatW (W c)) (G c) (Q c) (A c) (B c) (U c) (DA c) (DB c)),
    fun c => up (resG (X c) (flatM (R c)) (flatM (M c)) (flatW (W c)) (G c) (Q c) (A c) (B c) (U c) (DA c) (DB c)), fun c => up (resQ (X c) (flatM (R c)) (flatM (M c)) (flatW (W c)) (G c) (A c) (B c) (DA c) (DB c)),
    fun c => up fun i : S8192x1024.Idx => mix (flatM (R c)) (flatM (M c)) (flatW (W c)) (i 0) (i 1), fun c => up fun i : S8192x1024.Idx => hid (X c) (G c) (mix (flatM (R c)) (flatM (M c)) (flatW (W c))) (i 0) (i 1), ?_, ?_⟩
  · refine (θ_run _ _ _).mono (fun r h c => ?_) (FfnInIdeal.Val.run (F := Ideal) m g)
    exact ⟨(h.1 c _ (Gen.mem_uc main_v17_0 (by decide))).trans (h_eq m g c (hX c) (hR c) (hM c) (hW c) (hG c) (hQ c) (hA c) (hB c) (hU c) (hDA c) (hDB c)),
      (h.1 c _ (Gen.mem_uc main_v18 (by decide))).trans (m_eq m g c (hX c) (hR c) (hM c) (hW c) (hG c) (hQ c) (hA c) (hB c) (hU c) (hDA c) (hDB c)),
      (h.1 c _ (Gen.mem_uc main_v17_3 (by decide))).trans (g_eq m g c (hX c) (hR c) (hM c) (hW c) (hG c) (hQ c) (hA c) (hB c) (hU c) (hDA c) (hDB c)),
      (h.1 c _ (Gen.mem_uc main_v17_2 (by decide))).trans (q_eq m g c (hX c) (hR c) (hM c) (hW c) (hG c) (hQ c) (hA c) (hB c) (hU c) (hDA c) (hDB c)),
      (h.1 c _ (Gen.mem_uc main_v14_0 (by decide))).trans ((kept m g c main_v14_0 (by decide) (by decide)).trans (mix3 m g c (hX c) (hR c) (hM c) (hW c) (hG c) (hQ c) (hA c) (hB c) (hU c) (hDA c) (hDB c))),
      (h.1 c _ (Gen.mem_uc main_v14_1 (by decide))).trans ((kept m g c main_v14_1 (by decide) (by decide)).trans (hid3 m g c (hX c) (hR c) (hM c) (hW c) (hG c) (hQ c) (hA c) (hB c) (hU c) (hDA c) (hDB c))),
      (h.1 c _ (Gen.mem_uc main_arg0 (by decide))).trans (Gen.W5_main_arg0 m g c),
      (h.1 c _ (Gen.mem_uc main_arg1 (by decide))).trans (Gen.W5_main_arg1 m g c),
      (h.1 c _ (Gen.mem_uc main_arg2 (by decide))).trans (Gen.W5_main_arg2 m g c),
      (h.1 c _ (Gen.mem_uc main_arg3 (by decide))).trans (Gen.W5_main_arg3 m g c),
      (h.1 c _ (Gen.mem_uc main_arg4 (by decide))).trans (Gen.W5_main_arg4 m g c),
      (h.1 c _ (Gen.mem_uc main_arg5 (by decide))).trans (Gen.W5_main_arg5 m g c),
      (h.1 c _ (Gen.mem_uc main_arg6 (by decide))).trans (Gen.W5_main_arg6 m g c),
      (h.1 c _ (Gen.mem_uc main_arg7 (by decide))).trans (Gen.W5_main_arg7 m g c),
      (h.1 c _ (Gen.mem_uc main_arg8 (by decide))).trans (Gen.W5_main_arg8 m g c),
      (h.1 c _ (Gen.mem_uc main_arg9 (by decide))).trans (Gen.W5_main_arg9 m g c),
      (h.1 c _ (Gen.mem_uc main_arg10 (by decide))).trans (Gen.W5_main_arg10 m g c)⟩
  · refine (θ_run _ _ _).mono (fun r h c => ?_) (Cert.FfnInRefIdeal.Value.run (F := Ideal) m' g')
    obtain ⟨a0, a1, a2, a3, a4, a5, a6, a7, a8, a9, a10⟩ := hagree c
    obtain ⟨h0, h1, h2, h3, h4, h5, hr⟩ := h c
    have b0 : StableHlo.launchContents m' c (Proc.devRef .tc FfnInRefIdeal.main_arg0) = up (X c) := a0.trans (hX c)
    have b1 : StableHlo.launchContents m' c (Proc.devRef .tc FfnInRefIdeal.main_arg1) = up (R c) := a1.trans (hR c)
    have b2 : StableHlo.launchContents m' c (Proc.devRef .tc FfnInRefIdeal.main_arg2) = up (M c) := a2.trans (hM c)
    have b3 : StableHlo.launchContents m' c (Proc.devRef .tc FfnInRefIdeal.main_arg3) = up (W c) := a3.trans (hW c)
    have b4 : StableHlo.launchContents m' c (Proc.devRef .tc FfnInRefIdeal.main_arg4) = up (G c) := a4.trans (hG c)
    have b5 : StableHlo.launchContents m' c (Proc.devRef .tc FfnInRefIdeal.main_arg5) = up (Q c) := a5.trans (hQ c)
    have b6 : StableHlo.launchContents m' c (Proc.devRef .tc FfnInRefIdeal.main_arg6) = up (A c) := a6.trans (hA c)
    have b7 : StableHlo.launchContents m' c (Proc.devRef .tc FfnInRefIdeal.main_arg7) = up (B c) := a7.trans (hB c)
    have b8 : StableHlo.launchContents m' c (Proc.devRef .tc FfnInRefIdeal.main_arg8) = up (U c) := a8.trans (hU c)
    have b9 : StableHlo.launchContents m' c (Proc.devRef .tc FfnInRefIdeal.main_arg9) = up (DA c) := a9.trans (hDA c)
    have b10 : StableHlo.launchContents m' c (Proc.devRef .tc FfnInRefIdeal.main_arg10) = up (DB c) := a10.trans (hDB c)
    refine ⟨h0.trans ?_, h1.trans ?_, h2.trans ?_, h3.trans ?_, h4.trans ?_, h5.trans ?_, hr⟩
    · refine (FfnInRefIdeal.Read.val_main_v65_eq (StableHlo.launchContents m' c)).trans ?_
      rw [b0, b1, b2, b3, b4, b5, b6, b7, b8, b9, b10]
      exact FfnInRefIdeal.Val.h_ref _ _ _ _ _ _ _ _ _ _ _
    · refine (FfnInRefIdeal.Read.val_main_v87_eq (StableHlo.launchContents m' c)).trans ?_
      rw [b0, b1, b2, b3, b4, b5, b6, b7, b8, b9, b10]
      exact FfnInRefIdeal.Val.m_ref _ _ _ _ _ _ _ _ _ _ _
    · refine (FfnInRefIdeal.Read.val_main_v88_eq (StableHlo.launchContents m' c)).trans ?_
      rw [b0, b1, b2, b3, b4, b5, b6, b7, b8, b9, b10]
      exact FfnInRefIdeal.Val.g_ref _ _ _ _ _ _ _ _ _ _ _
    · refine (FfnInRefIdeal.Read.val_main_v66_eq (StableHlo.launchContents m' c)).trans ?_
      rw [b0, b1, b2, b3, b4, b6, b7, b9, b10]
      exact FfnInRefIdeal.Val.q_ref _ _ _ _ _ _ _ _ _
    · refine (FfnInRefIdeal.Read.val_main_v4_eq (StableHlo.launchContents m' c)).trans ?_
      rw [b1, b2, b3]
      funext i
      idx_vars i
      exact FfnInRefIdeal.Val.v4 _ _ _ i0 i1
    · refine (FfnInRefIdeal.Read.val_main_v22_eq (StableHlo.launchContents m' c)).trans ?_
      rw [b0, b1, b2, b3, b4]
      funext i
      idx_vars i
      exact FfnInRefIdeal.Val.v22 _ _ _ _ _ i0 i1

theorem frame_kernel : Cert.quiescent_FfnIn := fun m g _ => Cert.FfnIn.Gen.frame m g

theorem frame_ideal : Cert.quiescent_FfnInIdeal := fun m g _ => Gen.frame m g

theorem frame_ref : Cert.quiescent_FfnInRefIdeal := by
  intro m g _
  exact (θ_run _ _ _).mono (fun r h => ⟨fun c => (h c).2.2.2.2.2.2, sem_eq_zero_of_no_sems (by decide) r.2⟩) (Cert.FfnInRefIdeal.Value.run (F := Ideal) m g)

theorem preserves : Cert.preserves_FfnIn_FfnInIdeal := trivial

end Cert.FfnInPair

end
-- ==== Proof.PleLossRun.lean ====
/- One run of `PleLossIdeal`: what every buffer outside the regions holds at the end. -/
module

public import proofs.«01_k».proof.Proof.Gen.PleLossIdeal.Frame

@[expose] public section

set_option maxRecDepth 16384

noncomputable section

namespace Cert.PleLossIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.PleLossIdeal Cert.PleLossIdeal.Gen

variable {F : FTy → Type} [FloatOps F]
variable (m : (ℓ : Loc nD τ sig) → Buf (Elt F) ℓ) (ρ : Dev nD → PrngReg)

-- the launch theorem's implicit arguments are found by unifying its conclusion with this one
set_option backward.isDefEq.respectTransparency.types false in
/-- Every execution ends with each unscoped buffer at the last boundary's contents and every counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.PleLossIdeal.Val

end
-- ==== Proof.PleLossRows.lean ====
/- What `PleLossIdeal` leaves in its results, on real arguments. -/
module

public import proofs.«01_k».proof.Defs
public import proofs.«01_k».proof.Proof.Gen.PleLossIdeal.Frame
public import proofs.«01_k».proof.Proof.RmsKit

@[expose] public section

set_option maxRecDepth 16384

noncomputable section

namespace Cert.PleLossIdeal.Val

open Idealize.ShloMosaic Idealize.ShloMosaic.TcCoe Idealize.SL.Sem Cert.RealKit
open Idealize.ShloMosaic.Pipeline (Dat)
open Cert.PleLossIdeal Cert.PleLossIdeal.Gen

theorem ofBits_half : Ideal.ofBits .f32 0x3F000000#32 = ((1 / 2 : ℝ) : EReal) := by
  rw [ofBits_f32 _ 126 0 (by decide) (by decide) (by decide) (by decide) (by decide)]; norm_num
theorem ofBits_inv1024 : Ideal.ofBits .f32 0x3A800000#32 = ((1 / 1024 : ℝ) : EReal) := by
  rw [ofBits_f32 _ 117 0 (by decide) (by decide) (by decide) (by decide) (by decide)]; norm_num

/-- The ten arguments over the real numbers: the feed-forward activations, the residual, its gain and weight; the per-layer rows, their weight and gain;
the gate's weight and bias; the target. -/
structure Reals where
  F : S8192x2816.Idx → ℝ
  X : S8192x1024.Idx → ℝ
  G : S1x1024.Idx → ℝ
  W : S2816x1024.Idx → ℝ
  P : S8192x256.Idx → ℝ
  E : S256x1024.Idx → ℝ
  L : S1x1024.Idx → ℝ
  Z : S1024x1024.Idx → ℝ
  B : S1x1024.Idx → ℝ
  O : S8192x1024.Idx → ℝ

namespace Reals
variable (a : Reals)
/-- The forward rows: the down product, the residual after its norm, the per-layer product and its normed rows, the gate, and the error. -/
def ff (t : Fin 8192) (l : Fin 1024) : ℝ := ∑ n, a.F (ix2 t n) * a.W (ix2 n l)
def h2 (t : Fin 8192) (l : Fin 1024) : ℝ := a.X (ix2 t l) + a.ff t l * irms 1024 (a.ff t) * a.G (ix2 0 l)
def pe (t : Fin 8192) (l : Fin 1024) : ℝ := ∑ k, a.P (ix2 t k) * a.E (ix2 k l)
def e (t : Fin 8192) (l : Fin 1024) : ℝ := a.pe t l * irms 1024 (a.pe t) * a.L (ix2 0 l)
def z (t : Fin 8192) (l : Fin 1024) : ℝ := (∑ k, a.h2 t k * a.Z (ix2 k l)) + a.B (ix2 0 l)
def gate (t : Fin 8192) (l : Fin 1024) : ℝ := sgm (a.z t l)
def err (t : Fin 8192) (l : Fin 1024) : ℝ := a.h2 t l + a.e t l * a.gate t l - a.O (ix2 t l)
/-- The gradients: of the sum before the loss, of the gated rows, of the gate's argument, of the residual, and of the two products. -/
def dy (t : Fin 8192) (l : Fin 1024) : ℝ := a.err t l * (1 / 1024)
def de (t : Fin 8192) (l : Fin 1024) : ℝ := a.dy t l * a.gate t l
def dz (t : Fin 8192) (l : Fin 1024) : ℝ := a.dy t l * a.e t l * a.gate t l * (1 - a.gate t l)
def dh (t : Fin 8192) (l : Fin 1024) : ℝ := a.dy t l + ∑ k, a.dz t k * a.Z (ix2 l k)
def dpe (t : Fin 8192) (l : Fin 1024) : ℝ := rbwd 1024 (a.pe t) (fun k => a.de t k * a.L (ix2 0 k)) l
def dff (t : Fin 8192) (l : Fin 1024) : ℝ := rbwd 1024 (a.ff t) (fun k => a.dh t k * a.G (ix2 0 k)) l
/-- One row's share of the four column sums. -/
def loss (l : Fin 1024) (t : Fin 8192) : ℝ := 1 / 2 * a.err t l * a.err t l * (1 / 1024)
def gl (l : Fin 1024) (t : Fin 8192) : ℝ := a.de t l * (a.pe t l * irms 1024 (a.pe t))
def gb (l : Fin 1024) (t : Fin 8192) : ℝ := a.dz t l
def gg (l : Fin 1024) (t : Fin 8192) : ℝ := a.dh t l * (a.ff t l * irms 1024 (a.ff t))
end Reals

variable (m : (ℓ : Loc nD τ sig) → Buf (Elt Ideal) ℓ) (ρ : Dev nD → PrngReg)

/-- The down weight below the rows of zeros the kernel packs it with. -/
def slabOf (w : FVec Ideal S2816x1024 .f32) : FVec Ideal S8x1056x1024 .bf16 :=
  concatenate S8x1056x1024 1 [⟨S8x704x1024, broadcastInDim S8x704x1024 ![] bcast_S_S8x704x1024 (constant S_ .bf16 0x0000#16)⟩,
    ⟨S8x352x1024, shapeCast S8x352x1024 (truncf .bf16 w bitsLt_bf16_f32) shapeCasts_S2816x1024_S8x352x1024⟩] concatenates_S8x704x1024_S8x352x1024_S8x1056x1024_d1

theorem slab (c : Dev nD) : V1 m ρ c main_v4 = slabOf (m ((c : Thread nD τ).loc main_arg3)) := by
  unfold slabOf
  show StableHlo.after hostOps0 (W0 m ρ c) (Proc.devRef .tc main_v4) = _
  after_results_simp
  try rfl

theorem slabOf_down (w : FVec Ideal S2816x1024 .f32) (n : Fin 2816) (k : Fin 1024) (d : Fin 8) (r : Fin 1056)
    (hd : d.val = n.val / 352) (hr : r.val = 704 + n.val % 352) : slabOf w (ix3 d r k) = w (ix2 n k) := by
  have := n.isLt
  pointwise [slabOf]
  rw [dif_neg (by omega)]
  blk_ext []

theorem idx0 : ∀ t : Fin cfg0.N, win0_0.index t = ![t.val, 0] ∧ win0_1.index t = ![t.val, 0] ∧ win0_2.index t = ![0, 0] ∧ win0_3.index t = ![0, 2, 0]
    ∧ win0_4.index t = ![t.val, 0] ∧ win0_5.index t = ![t.val, 0] :=
  (by decide +kernel : ∀ t : Fin grid0.N, _)

section Region0

variable (V : (c : Dev nD) → (b : Ref sig .tc) → Buf (Elt Ideal) ((c : Thread nD τ).loc b)) (c : Dev nD)

theorem blk0_0 (t : Fin cfg0.N) (r : Fin 512) (k : Fin 2816) (T : Fin 8192) (hT : T.val = t.val * 512 + r.val) :
    (iblk0 V c 0 t : FVec Ideal S512x2816 .bf16) (ix2 r k) = (V c main_v0 : FVec Ideal S8192x2816 .bf16) (ix2 T k) := by blk_ext [iblk0, idx0 t]
theorem blk0_1 (t : Fin cfg0.N) (r : Fin 512) (k : Fin 1024) (T : Fin 8192) (hT : T.val = t.val * 512 + r.val) :
    (iblk0 V c 1 t : FVec Ideal S512x1024 .f32) (ix2 r k) = (V c main_arg1 : FVec Ideal S8192x1024 .f32) (ix2 T k) := by blk_ext [iblk0, idx0 t]
theorem blk0_2 (t : Fin cfg0.N) (k : Fin 1024) :
    (iblk0 V c 2 t : FVec Ideal S1x1024 .f32) (ix2 0 k) = (V c main_arg2 : FVec Ideal S1x1024 .f32) (ix2 0 k) := by blk_ext [iblk0, idx0 t]
theorem blk0_3 (t : Fin cfg0.N) (d : Fin 8) (r : Fin 352) (k : Fin 1024) :
    (iblk0 V c 3 t : FVec Ideal S8x352x1024 .bf16) (ix3 d r k) = (V c main_v4 : FVec Ideal S8x1056x1024 .bf16) (ix3 d ⟨704 + r.val, by omega⟩ k) := by blk_ext [iblk0, idx0 t]

theorem after4 (t : Fin cfg0.N) : (dat0 V c).after 4 t = k0_pay1 (iblk0 V c 0 t) (iblk0 V c 3 t) := by
  rw [after0_4]; unfold out0_4; frame_out
theorem after5 (t : Fin cfg0.N) : (dat0 V c).after 5 t = k0_pay2 (iblk0 V c 0 t) (iblk0 V c 3 t) (iblk0 V c 1 t) (iblk0 V c 2 t) := by
  rw [after0_5]; unfold out0_5; frame_out

theorem k0_pay1_apply (x : FVec Ideal S512x2816 .bf16) (w : FVec Ideal S8x352x1024 .bf16) (r : Fin 512) (l : Fin 1024) (X A : Fin 2816 → ℝ)
    (hx : ∀ k, x (ix2 r k) = X k) (hw : ∀ (n : Fin 2816) h h', w (ix3 ⟨n.val / 352, h⟩ ⟨n.val % 352, h'⟩ l) = A n) :
    k0_pay1 (F := Ideal) x w (ix2 r l) = ((∑ k, X k * A k : ℝ) : EReal) := by
  pointwise [k0_pay1]
  simp only [hx, hw, ← EReal.coe_mul, coe_sum]

theorem k0_pay2_apply (x : FVec Ideal S512x2816 .bf16) (w : FVec Ideal S8x352x1024 .bf16) (h : FVec Ideal S512x1024 .f32) (g : FVec Ideal S1x1024 .f32) (r : Fin 512)
    (Y H G : Fin 1024 → ℝ) (hy : ∀ l, k0_pay1 (F := Ideal) x w (ix2 r l) = Y l) (hh : ∀ l, h (ix2 r l) = H l) (hg : ∀ l, g (ix2 0 l) = G l) (l : Fin 1024) :
    k0_pay2 (F := Ideal) x w h g (ix2 r l) = ((H l + Y l * irms 1024 Y * G l : ℝ) : EReal) := by
  pointwise [k0_pay2]
  simp only [hy, hh, hg, ofBits_1024, ofBits_eps]
  rw [coe_irms (by norm_num)]
  simp only [← EReal.coe_mul, ← EReal.coe_add]

variable {a : Reals} (hF : V c main_v0 = up a.F) (hX : V c main_arg1 = up a.X) (hG : V c main_arg2 = up a.G) (hS : V c main_v4 = slabOf (up a.W))
include hF hX hG hS

theorem ff_real (t : Fin cfg0.N) (r : Fin 512) (T : Fin 8192) (hT : T.val = t.val * 512 + r.val) (l : Fin 1024) :
    k0_pay1 (F := Ideal) (iblk0 V c 0 t) (iblk0 V c 3 t) (ix2 r l) = (a.ff T l : EReal) :=
  k0_pay1_apply _ _ r l _ (fun n => a.W (ix2 n l)) (fun k => (blk0_0 V c t r k T hT).trans (congrFun hF _))
    (fun n _ _ => (blk0_3 V c t _ _ l).trans ((congrFun hS _).trans (slabOf_down _ n l _ _ rfl rfl)))

set_option maxHeartbeats 1600000 in
theorem final0_4 : (dat0 V c).arrAt 4 cfg0.N = up fun i : S8192x1024.Idx => a.ff (i 0) (i 1) := by
  refine (dat0 V c).arrAt_eq_of_covers 4 _ (by decide +kernel) fun t _ y => ?_
  have ht : t.val < 16 := t.isLt.trans_eq N_0
  idx_vars y
  have e : ((cfg0.win 4).blk t).view.emb (ix2 y0 y1) = ix2 (⟨t.val * 512 + y0.val, by omega⟩ : Fin 8192) y1 := by blk_ext [idx0 t]
  rw [e]
  blk_simp
  rw [after4]
  exact ff_real V c hF hX hG hS t y0 ⟨t.val * 512 + y0.val, by omega⟩ rfl y1

set_option maxHeartbeats 1600000 in
theorem final0_5 : (dat0 V c).arrAt 5 cfg0.N = up fun i : S8192x1024.Idx => a.h2 (i 0) (i 1) := by
  refine (dat0 V c).arrAt_eq_of_covers 5 _ (by decide +kernel) fun t _ y => ?_
  have ht : t.val < 16 := t.isLt.trans_eq N_0
  idx_vars y
  have e : ((cfg0.win 5).blk t).view.emb (ix2 y0 y1) = ix2 (⟨t.val * 512 + y0.val, by omega⟩ : Fin 8192) y1 := by blk_ext [idx0 t]
  rw [e]
  blk_simp
  rw [after5]
  exact k0_pay2_apply _ _ _ _ y0 _ (fun l => a.X (ix2 _ l)) (fun l => a.G (ix2 0 l)) (ff_real V c hF hX hG hS t y0 ⟨t.val * 512 + y0.val, by omega⟩ rfl)
    (fun k => (blk0_1 V c t y0 k _ rfl).trans (congrFun hX _)) (fun k => (blk0_2 V c t k).trans (congrFun hG _)) y1

end Region0

end Cert.PleLossIdeal.Val

end
-- ==== Proof.PleLossStep.lean ====
/- One step of `PleLossIdeal`'s second pass over the rows. -/
module

public import proofs.«01_k».proof.Proof.PleLossRows

@[expose] public section

set_option maxRecDepth 16384

noncomputable section

namespace Cert.PleLossIdeal.Val

open Idealize.ShloMosaic Idealize.ShloMosaic.TcCoe Idealize.SL.Sem Cert.RealKit
open Idealize.ShloMosaic.Pipeline (Dat)
open Cert.PleLossIdeal Cert.PleLossIdeal.Gen

theorem pay14_apply (x : FVec Ideal S512x256 .bf16) (w : FVec Ideal S1024x256 .bf16) (r : Fin 512) (l : Fin 1024) (X A : Fin 256 → ℝ)
    (hx : ∀ k, x (ix2 r k) = X k) (hw : ∀ k, w (ix2 l k) = A k) : k1_pay14 (F := Ideal) x w (ix2 r l) = ((∑ k, X k * A k : ℝ) : EReal) := by
  pointwise [k1_pay14]
  simp only [hx, hw, ← EReal.coe_mul, coe_sum]

theorem pay16_apply (x : FVec Ideal S512x256 .bf16) (w : FVec Ideal S1024x256 .bf16) (r : Fin 512) (Y : Fin 1024 → ℝ)
    (hy : ∀ l, k1_pay14 (F := Ideal) x w (ix2 r l) = Y l) : k1_pay16 (F := Ideal) x w (ix2 r 0) = ((irms 1024 Y : ℝ) : EReal) := by
  pointwise [k1_pay16]
  simp only [hy, ofBits_1024, ofBits_eps]
  exact coe_irms (by norm_num) Y

theorem pay17_apply (x : FVec Ideal S512x256 .bf16) (w : FVec Ideal S1024x256 .bf16) (r : Fin 512) (Y : Fin 1024 → ℝ)
    (hy : ∀ l, k1_pay14 (F := Ideal) x w (ix2 r l) = Y l) (l : Fin 1024) : k1_pay17 (F := Ideal) x w (ix2 r l) = ((Y l * irms 1024 Y : ℝ) : EReal) := by
  pointwise [k1_pay17]
  rw [pay16_apply x w r Y hy, hy, ← EReal.coe_mul]

theorem pay18_apply (x : FVec Ideal S512x256 .bf16) (w : FVec Ideal S1024x256 .bf16) (g : FVec Ideal S1x1024 .f32) (r : Fin 512) (Y G : Fin 1024 → ℝ)
    (hy : ∀ l, k1_pay14 (F := Ideal) x w (ix2 r l) = Y l) (hg : ∀ l, g (ix2 0 l) = G l) (l : Fin 1024) :
    k1_pay18 (F := Ideal) x w g (ix2 r l) = ((Y l * irms 1024 Y * G l : ℝ) : EReal) := by
  pointwise [k1_pay18]
  rw [pay17_apply x w r Y hy, hg, ← EReal.coe_mul]

theorem pay19_apply (x : FVec Ideal S512x1024 .bf16) (w : FVec Ideal S1024x1024 .bf16) (b : FVec Ideal S1x1024 .f32) (r : Fin 512) (l : Fin 1024)
    (X A : Fin 1024 → ℝ) (B : ℝ) (hx : ∀ k, x (ix2 r k) = X k) (hw : ∀ k, w (ix2 k l) = A k) (hb : b (ix2 0 l) = B) :
    k1_pay19 (F := Ideal) x w b (ix2 r l) = Ideal.exp (-(((∑ k, X k * A k) + B : ℝ) : EReal)) := by
  pointwise [k1_pay19]
  simp only [hx, hw, hb, ← EReal.coe_mul, coe_sum, ← EReal.coe_add, zero_sub]

theorem pay20_apply (v : FVec Ideal S512x1024 .f32) (r : Fin 512) (l : Fin 1024) (z : ℝ) (hv : v (ix2 r l) = Ideal.exp (-(z : EReal))) :
    k1_pay20 (F := Ideal) v (ix2 r l) = ((sgm z : ℝ) : EReal) := by
  pointwise [k1_pay20]
  rw [hv, coe_sgm]

section Gate

variable (h o e v : FVec Ideal S512x1024 .f32) (r : Fin 512) (l : Fin 1024) (H O E A : ℝ) (hh : h (ix2 r l) = H) (ho : o (ix2 r l) = O) (he : e (ix2 r l) = E)
  (hv : k1_pay20 (F := Ideal) v (ix2 r l) = A)
include hh ho he hv

theorem pay21_apply : k1_pay21 (F := Ideal) h o e v (ix2 r l) = ((H + E * A - O : ℝ) : EReal) := by
  pointwise [k1_pay21]
  rw [hv, hh, ho, he, ← EReal.coe_mul, ← EReal.coe_add, ← EReal.coe_sub]
theorem pay22_apply : k1_pay22 (F := Ideal) h o e v (ix2 r l) = (((H + E * A - O) * (1 / 1024) : ℝ) : EReal) := by
  pointwise [k1_pay22]
  rw [pay21_apply h o e v r l H O E A hh ho he hv, ofBits_inv1024, ← EReal.coe_mul]
theorem pay23_apply : k1_pay23 (F := Ideal) h o e v (ix2 r l) = (((H + E * A - O) * (1 / 1024) * A : ℝ) : EReal) := by
  pointwise [k1_pay23]
  rw [pay22_apply h o e v r l H O E A hh ho he hv, hv, ← EReal.coe_mul]
theorem pay24_apply : k1_pay24 (F := Ideal) h o e v (ix2 r l) = (((H + E * A - O) * (1 / 1024) * E * A * (1 - A) : ℝ) : EReal) := by
  pointwise [k1_pay24]
  rw [pay22_apply h o e v r l H O E A hh ho he hv, hv, he, ← EReal.coe_one, ← EReal.coe_sub]
  simp only [← EReal.coe_mul]

end Gate

theorem pay25_apply (h o : FVec Ideal S512x1024 .f32) (i : FVec Ideal S512x1 .f32) (n e v : FVec Ideal S512x1024 .f32) (g : FVec Ideal S1x1024 .f32) (r : Fin 512)
    (Y D G : Fin 1024 → ℝ) (hi : i (ix2 r 0) = ((irms 1024 Y : ℝ) : EReal)) (hn : ∀ l, n (ix2 r l) = ((Y l * irms 1024 Y : ℝ) : EReal))
    (hd : ∀ l, k1_pay23 (F := Ideal) h o e v (ix2 r l) = D l) (hg : ∀ l, g (ix2 0 l) = G l) (l : Fin 1024) :
    k1_pay25 (F := Ideal) h o i n e v g (ix2 r l) = ((rbwd 1024 Y (fun k => D k * G k) l : ℝ) : EReal) := by
  pointwise [k1_pay25]
  simp only [hd, hg, hn, hi, ofBits_1024, ← EReal.coe_mul, coe_sum]
  exact coe_rbwd (by norm_num) Y _ l

theorem pay26_apply (h o e v : FVec Ideal S512x1024 .f32) (w : FVec Ideal S1024x1024 .bf16) (r : Fin 512) (l : Fin 1024) (D A : Fin 1024 → ℝ) (Y : ℝ)
    (hy : k1_pay22 (F := Ideal) h o e v (ix2 r l) = Y) (hd : ∀ k, k1_pay24 (F := Ideal) h o e v (ix2 r k) = D k) (hw : ∀ k, w (ix2 l k) = A k) :
    k1_pay26 (F := Ideal) h o e v w (ix2 r l) = ((Y + ∑ k, D k * A k : ℝ) : EReal) := by
  pointwise [k1_pay26]
  simp only [hy, hd, hw, ← EReal.coe_mul, coe_sum, ← EReal.coe_add]

theorem pay28_apply (x : FVec Ideal S512x1024 .f32) (r : Fin 512) (X : Fin 1024 → ℝ) (hx : ∀ k, x (ix2 r k) = X k) :
    k1_pay28 (F := Ideal) x (ix2 r 0) = ((irms 1024 X : ℝ) : EReal) := by
  pointwise [k1_pay28, k1_pay27]
  simp only [hx, ofBits_1024, ofBits_eps]
  exact coe_irms (by norm_num) X

theorem pay30_apply (x : FVec Ideal S512x1024 .f32) (r : Fin 512) (X : Fin 1024 → ℝ) (hx : ∀ k, x (ix2 r k) = X k) (l : Fin 1024) :
    k1_pay30 (F := Ideal) (k1_pay27 (F := Ideal) x) (k1_pay29 (F := Ideal) x) (ix2 r l) = ((X l * irms 1024 X : ℝ) : EReal) := by
  pointwise [k1_pay30, k1_pay29, k1_pay27]
  rw [pay28_apply x r X hx, hx, ← EReal.coe_mul]

theorem pay37_apply (d x : FVec Ideal S512x1024 .f32) (g : FVec Ideal S1x1024 .f32) (r : Fin 512) (X D G : Fin 1024 → ℝ) (hx : ∀ k, x (ix2 r k) = X k)
    (hd : ∀ k, d (ix2 r k) = D k) (hg : ∀ k, g (ix2 0 k) = G k) (l : Fin 1024) :
    k1_pay37 (F := Ideal) d (k1_pay27 (F := Ideal) x) (k1_pay28 (F := Ideal) x) (k1_pay29 (F := Ideal) x) g (ix2 r l) = ((rbwd 1024 X (fun k => D k * G k) l : ℝ) : EReal) := by
  have h28 := pay28_apply x r X hx
  have h30 := pay30_apply x r X hx
  pointwise [k1_pay37]
  simp only [hd, hg, h28, h30, ofBits_1024, ← EReal.coe_mul, coe_sum]
  exact coe_rbwd (by norm_num) X _ l

section Sums

variable (b : FVec Ideal S1x1024 .f32) (l : Fin 1024) (A : ℝ) (hb : b (ix2 0 l) = A)
include hb

theorem pay31_apply (d : FVec Ideal S512x1024 .f32) (D : Fin 512 → ℝ) (hd : ∀ r, d (ix2 r l) = D r) :
    k1_pay5 (F := Ideal) (k1_pay31 (F := Ideal) d) b (ix2 0 l) = ((A + ∑ r, 1 / 2 * D r * D r * (1 / 1024) : ℝ) : EReal) := by
  pointwise [k1_pay5, k1_pay31]
  simp only [hd, hb, ofBits_half, ofBits_inv1024, ← EReal.coe_mul, coe_sum, ← EReal.coe_add]
theorem pay32_apply (n d : FVec Ideal S512x1024 .f32) (N D : Fin 512 → ℝ) (hn : ∀ r, n (ix2 r l) = N r) (hd : ∀ r, d (ix2 r l) = D r) :
    k1_pay6 (F := Ideal) (k1_pay32 (F := Ideal) n d) b (ix2 0 l) = ((A + ∑ r, D r * N r : ℝ) : EReal) := by
  pointwise [k1_pay6, k1_pay32]
  simp only [hn, hd, hb, ← EReal.coe_mul, coe_sum, ← EReal.coe_add]
theorem pay33_apply (d : FVec Ideal S512x1024 .f32) (D : Fin 512 → ℝ) (hd : ∀ r, d (ix2 r l) = D r) :
    k1_pay7 (F := Ideal) (k1_pay33 (F := Ideal) d) b (ix2 0 l) = ((A + ∑ r, D r : ℝ) : EReal) := by
  pointwise [k1_pay7, k1_pay33]
  simp only [hd, hb, coe_sum, ← EReal.coe_add]
theorem pay34_apply (d x : FVec Ideal S512x1024 .f32) (D : Fin 512 → ℝ) (X : Fin 512 → Fin 1024 → ℝ) (hx : ∀ r k, x (ix2 r k) = X r k) (hd : ∀ r, d (ix2 r l) = D r) :
    k1_pay8 (F := Ideal) (k1_pay34 (F := Ideal) d (k1_pay27 (F := Ideal) x) (k1_pay29 (F := Ideal) x)) b (ix2 0 l)
      = ((A + ∑ r, D r * (X r l * irms 1024 (X r)) : ℝ) : EReal) := by
  have h30 := fun r => pay30_apply x r (X r) (hx r)
  pointwise [k1_pay8, k1_pay34]
  simp only [h30, hd, hb, ← EReal.coe_mul, coe_sum, ← EReal.coe_add]

end Sums

theorem zero1 (l : Fin 1024) : k1_pay1 (F := Ideal) (ix2 0 l) = ((0 : ℝ) : EReal) := by
  pointwise [k1_pay1]
  exact EReal.coe_zero.symm
theorem zero2 (l : Fin 1024) : k1_pay2 (F := Ideal) (ix2 0 l) = ((0 : ℝ) : EReal) := by
  pointwise [k1_pay2]
  exact EReal.coe_zero.symm
theorem zero3 (l : Fin 1024) : k1_pay3 (F := Ideal) (ix2 0 l) = ((0 : ℝ) : EReal) := by
  pointwise [k1_pay3]
  exact EReal.coe_zero.symm
theorem zero4 (l : Fin 1024) : k1_pay4 (F := Ideal) (ix2 0 l) = ((0 : ℝ) : EReal) := by
  pointwise [k1_pay4]
  exact EReal.coe_zero.symm

theorem idx1 : ∀ t : Fin cfg1.N, win1_0.index t = ![t.val, 0] ∧ win1_1.index t = ![t.val, 0] ∧ win1_2.index t = ![t.val, 0] ∧ win1_3.index t = ![t.val, 0]
    ∧ win1_4.index t = ![0, 0] ∧ win1_5.index t = ![0, 0] ∧ win1_6.index t = ![0, 0] ∧ win1_7.index t = ![0, 0] ∧ win1_8.index t = ![0, 0] ∧ win1_9.index t = ![0, 0]
    ∧ win1_10.index t = ![t.val, 0] ∧ win1_11.index t = ![t.val, 0] ∧ win1_12.index t = ![t.val, 0] ∧ win1_13.index t = ![t.val, 0] ∧ win1_14.index t = ![t.val, 0]
    ∧ win1_15.index t = ![t.val, 0] ∧ win1_16.index t = ![0, 0] ∧ win1_17.index t = ![0, 0] ∧ win1_18.index t = ![0, 0] ∧ win1_19.index t = ![0, 0] :=
  (by decide +kernel : ∀ t : Fin grid1.N, _)

section Region1

variable (V : (c : Dev nD) → (b : Ref sig .tc) → Buf (Elt Ideal) ((c : Thread nD τ).loc b)) (c : Dev nD)

theorem blk1_0 (t : Fin cfg1.N) (r : Fin 512) (k : Fin 256) (T : Fin 8192) (hT : T.val = t.val * 512 + r.val) :
    (iblk1 V c 0 t : FVec Ideal S512x256 .f32) (ix2 r k) = (V c main_arg4 : FVec Ideal S8192x256 .f32) (ix2 T k) := by blk_ext [iblk1, idx1 t]
theorem blk1_1 (t : Fin cfg1.N) (r : Fin 512) (k : Fin 1024) (T : Fin 8192) (hT : T.val = t.val * 512 + r.val) :
    (iblk1 V c 1 t : FVec Ideal S512x1024 .f32) (ix2 r k) = (V c main_v5_1 : FVec Ideal S8192x1024 .f32) (ix2 T k) := by blk_ext [iblk1, idx1 t]
theorem blk1_2 (t : Fin cfg1.N) (r : Fin 512) (k : Fin 1024) (T : Fin 8192) (hT : T.val = t.val * 512 + r.val) :
    (iblk1 V c 2 t : FVec Ideal S512x1024 .f32) (ix2 r k) = (V c main_arg9 : FVec Ideal S8192x1024 .f32) (ix2 T k) := by blk_ext [iblk1, idx1 t]
theorem blk1_3 (t : Fin cfg1.N) (r : Fin 512) (k : Fin 1024) (T : Fin 8192) (hT : T.val = t.val * 512 + r.val) :
    (iblk1 V c 3 t : FVec Ideal S512x1024 .f32) (ix2 r k) = (V c main_v5_0 : FVec Ideal S8192x1024 .f32) (ix2 T k) := by blk_ext [iblk1, idx1 t]
theorem blk1_4 (t : Fin cfg1.N) (k : Fin 1024) :
    (iblk1 V c 4 t : FVec Ideal S1x1024 .f32) (ix2 0 k) = (V c main_arg6 : FVec Ideal S1x1024 .f32) (ix2 0 k) := by blk_ext [iblk1, idx1 t]
theorem blk1_5 (t : Fin cfg1.N) (k : Fin 1024) :
    (iblk1 V c 5 t : FVec Ideal S1x1024 .f32) (ix2 0 k) = (V c main_arg8 : FVec Ideal S1x1024 .f32) (ix2 0 k) := by blk_ext [iblk1, idx1 t]
theorem blk1_6 (t : Fin cfg1.N) (k : Fin 1024) :
    (iblk1 V c 6 t : FVec Ideal S1x1024 .f32) (ix2 0 k) = (V c main_arg2 : FVec Ideal S1x1024 .f32) (ix2 0 k) := by blk_ext [iblk1, idx1 t]
theorem blk1_7 (t : Fin cfg1.N) (k l : Fin 1024) :
    (iblk1 V c 7 t : FVec Ideal S1024x1024 .bf16) (ix2 k l) = (V c main_v8 : FVec Ideal S1024x1024 .bf16) (ix2 k l) := by blk_ext [iblk1, idx1 t]
theorem blk1_8 (t : Fin cfg1.N) (k : Fin 1024) (l : Fin 256) :
    (iblk1 V c 8 t : FVec Ideal S1024x256 .bf16) (ix2 k l) = (V c main_v7 : FVec Ideal S1024x256 .bf16) (ix2 k l) := by blk_ext [iblk1, idx1 t]
theorem blk1_9 (t : Fin cfg1.N) (k l : Fin 1024) :
    (iblk1 V c 9 t : FVec Ideal S1024x1024 .bf16) (ix2 k l) = (V c main_v8 : FVec Ideal S1024x1024 .bf16) (ix2 k l) := by blk_ext [iblk1, idx1 t]

/-- One step's normed rows (their reciprocal root mean square first), the exponential of the gate's argument, and the residual's gradient. -/
def iAt (t : Fin cfg1.N) : FVec Ideal S512x1 .f32 := k1_pay16 (k1_pay10 (iblk1 V c 0 t)) (iblk1 V c 8 t)
def nAt (t : Fin cfg1.N) : FVec Ideal S512x1024 .f32 := k1_pay17 (k1_pay10 (iblk1 V c 0 t)) (iblk1 V c 8 t)
def eAt (t : Fin cfg1.N) : FVec Ideal S512x1024 .f32 := k1_pay18 (k1_pay10 (iblk1 V c 0 t)) (iblk1 V c 8 t) (iblk1 V c 4 t)
def xAt (t : Fin cfg1.N) : FVec Ideal S512x1024 .f32 := k1_pay19 (k1_pay11 (iblk1 V c 1 t)) (iblk1 V c 9 t) (iblk1 V c 5 t)
def hAt (t : Fin cfg1.N) : FVec Ideal S512x1024 .f32 := k1_pay15 (iblk1 V c 1 t)
def dhAt (t : Fin cfg1.N) : FVec Ideal S512x1024 .f32 := k1_pay26 (hAt V c t) (iblk1 V c 2 t) (eAt V c t) (xAt V c t) (iblk1 V c 7 t)

set_option maxHeartbeats 3200000 in
theorem after10 (t : Fin cfg1.N) : (dat1 V c).after 10 t = k1_pay12 (iblk1 V c 0 t) := by
  rw [after1_10]
  by_cases h : t.val % 16 = 0
  · rw [outsAt1_A V c t h]; dsimp only; frame_out
  · rw [outsAt1_B V c t h]; dsimp only; frame_out
set_option maxHeartbeats 3200000 in
theorem after11 (t : Fin cfg1.N) : (dat1 V c).after 11 t = k1_pay13 (iblk1 V c 1 t) := by
  rw [after1_11]
  by_cases h : t.val % 16 = 0
  · rw [outsAt1_A V c t h]; dsimp only; frame_out
  · rw [outsAt1_B V c t h]; dsimp only; frame_out
set_option maxHeartbeats 3200000 in
theorem after12 (t : Fin cfg1.N) : (dat1 V c).after 12 t = dhAt V c t := by
  rw [after1_12]
  by_cases h : t.val % 16 = 0
  · rw [outsAt1_A V c t h]; unfold dhAt hAt eAt xAt; dsimp only; frame_out
  · rw [outsAt1_B V c t h]; unfold dhAt hAt eAt xAt; dsimp only; frame_out
set_option maxHeartbeats 3200000 in
theorem after13 (t : Fin cfg1.N) : (dat1 V c).after 13 t = k1_pay35 (k1_pay24 (hAt V c t) (iblk1 V c 2 t) (eAt V c t) (xAt V c t)) := by
  rw [after1_13]
  by_cases h : t.val % 16 = 0
  · rw [outsAt1_A V c t h]; unfold hAt eAt xAt; dsimp only; frame_out
  · rw [outsAt1_B V c t h]; unfold hAt eAt xAt; dsimp only; frame_out
set_option maxHeartbeats 3200000 in
theorem after14 (t : Fin cfg1.N) : (dat1 V c).after 14 t
    = k1_pay36 (k1_pay25 (hAt V c t) (iblk1 V c 2 t) (iAt V c t) (nAt V c t) (eAt V c t) (xAt V c t) (iblk1 V c 4 t)) := by
  rw [after1_14]
  by_cases h : t.val % 16 = 0
  · rw [outsAt1_A V c t h]; unfold hAt iAt nAt eAt xAt; dsimp only; frame_out
  · rw [outsAt1_B V c t h]; unfold hAt iAt nAt eAt xAt; dsimp only; frame_out
set_option maxHeartbeats 3200000 in
theorem after15 (t : Fin cfg1.N) : (dat1 V c).after 15 t
    = k1_pay37 (dhAt V c t) (k1_pay27 (iblk1 V c 3 t)) (k1_pay28 (iblk1 V c 3 t)) (k1_pay29 (iblk1 V c 3 t)) (iblk1 V c 6 t) := by
  rw [after1_15]
  by_cases h : t.val % 16 = 0
  · rw [outsAt1_A V c t h]; unfold dhAt hAt eAt xAt; dsimp only; frame_out
  · rw [outsAt1_B V c t h]; unfold dhAt hAt eAt xAt; dsimp only; frame_out

end Region1

end Cert.PleLossIdeal.Val

end
-- ==== Proof.PleLossGrads.lean ====
/- What `PleLossIdeal`'s second pass leaves in its ten arrays, on real arguments. -/
module

public import proofs.«01_k».proof.Proof.PleLossStep

@[expose] public section

set_option maxRecDepth 16384

noncomputable section

namespace Cert.PleLossIdeal.Val

open Idealize.ShloMosaic Idealize.ShloMosaic.TcCoe Idealize.SL.Sem Cert.RealKit
open Idealize.ShloMosaic.Pipeline (Dat)
open Cert.PleLossIdeal Cert.PleLossIdeal.Gen

/-- A running sum over the rows of the steps so far. -/
theorem running (acc : ∀ n, n < cfg1.N → FVec Ideal S1x1024 .f32) (st : Fin cfg1.N → FVec Ideal S1x1024 .f32 → FVec Ideal S1x1024 .f32) (z : FVec Ideal S1x1024 .f32)
    (l : Fin 1024) (f : Fin 8192 → ℝ) (first : ∀ h, acc 0 h = st ⟨0, h⟩ z) (next : ∀ n h, acc (n + 1) h = st ⟨n + 1, h⟩ (acc n (Nat.lt_of_succ_lt h)))
    (hz : z (ix2 0 l) = ((0 : ℝ) : EReal))
    (hst : ∀ (t : Fin cfg1.N) (b : FVec Ideal S1x1024 .f32) (A : ℝ), b (ix2 0 l) = A → ∃ g : Fin 512 → ℝ, st t b (ix2 0 l) = ((A + ∑ r, g r : ℝ) : EReal)
      ∧ ∀ r : Fin 512, ∃ h : t.val * 512 + r.val < 8192, g r = f ⟨t.val * 512 + r.val, h⟩) :
    ∀ n h, acc n h (ix2 0 l) = ((rowsTo f ((n + 1) * 512) : ℝ) : EReal) := by
  have step : ∀ (t : Fin cfg1.N) (b : FVec Ideal S1x1024 .f32), b (ix2 0 l) = ((rowsTo f (t.val * 512) : ℝ) : EReal) →
      st t b (ix2 0 l) = ((rowsTo f ((t.val + 1) * 512) : ℝ) : EReal) := by
    intro t b hb
    obtain ⟨g, hg, hg'⟩ := hst t b _ hb
    rw [hg, rowsTo_step f t.val 512 g hg']
  intro n
  induction n with
  | zero =>
    intro h
    rw [first h]
    exact step ⟨0, h⟩ _ (hz.trans (by rw [Nat.zero_mul, rowsTo_zero]))
  | succ n ih =>
    intro h
    rw [next n h]
    exact step ⟨n + 1, h⟩ _ (ih (Nat.lt_of_succ_lt h))

section Region1

variable (V : (c : Dev nD) → (b : Ref sig .tc) → Buf (Elt Ideal) ((c : Thread nD τ).loc b)) (c : Dev nD)

/-- One step's addition to running sum 1. -/
def st16 (t : Fin cfg1.N) : FVec Ideal S1x1024 .f32 → FVec Ideal S1x1024 .f32 :=
  k1_pay5 (k1_pay31 (k1_pay21 (hAt V c t) (iblk1 V c 2 t) (eAt V c t) (xAt V c t)))
set_option maxHeartbeats 3200000 in
theorem first16 (t : Fin cfg1.N) (h : t.val % 16 = 0) : (outsAt1 V c t.val t.isLt).2.2.2.2.2.2.1 = st16 V c t (k1_pay1 (F := Ideal)) := by
  rw [outsAt1_A V c t h]; unfold st16 hAt eAt xAt; dsimp only; frame_out
set_option maxHeartbeats 3200000 in
theorem next16 (t : Fin cfg1.N) (h : ¬ t.val % 16 = 0) : (outsAt1 V c t.val t.isLt).2.2.2.2.2.2.1
    = st16 V c t (outsAt1 V c (t.val - 1) (Nat.lt_of_le_of_lt (Nat.sub_le _ _) t.isLt)).2.2.2.2.2.2.1 := by
  rw [outsAt1_B V c t h]; unfold st16 hAt eAt xAt; dsimp only; frame_out

/-- One step's addition to running sum 2. -/
def st17 (t : Fin cfg1.N) : FVec Ideal S1x1024 .f32 → FVec Ideal S1x1024 .f32 :=
  k1_pay6 (k1_pay32 (nAt V c t) (k1_pay23 (hAt V c t) (iblk1 V c 2 t) (eAt V c t) (xAt V c t)))
set_option maxHeartbeats 3200000 in
theorem first17 (t : Fin cfg1.N) (h : t.val % 16 = 0) : (outsAt1 V c t.val t.isLt).2.2.2.2.2.2.2.1 = st17 V c t (k1_pay2 (F := Ideal)) := by
  rw [outsAt1_A V c t h]; unfold st17 nAt hAt eAt xAt; dsimp only; frame_out
set_option maxHeartbeats 3200000 in
theorem next17 (t : Fin cfg1.N) (h : ¬ t.val % 16 = 0) : (outsAt1 V c t.val t.isLt).2.2.2.2.2.2.2.1
    = st17 V c t (outsAt1 V c (t.val - 1) (Nat.lt_of_le_of_lt (Nat.sub_le _ _) t.isLt)).2.2.2.2.2.2.2.1 := by
  rw [outsAt1_B V c t h]; unfold st17 nAt hAt eAt xAt; dsimp only; frame_out

/-- One step's addition to running sum 3. -/
def st18 (t : Fin cfg1.N) : FVec Ideal S1x1024 .f32 → FVec Ideal S1x1024 .f32 :=
  k1_pay7 (k1_pay33 (k1_pay24 (hAt V c t) (iblk1 V c 2 t) (eAt V c t) (xAt V c t)))
set_option maxHeartbeats 3200000 in
theorem first18 (t : Fin cfg1.N) (h : t.val % 16 = 0) : (outsAt1 V c t.val t.isLt).2.2.2.2.2.2.2.2.1 = st18 V c t (k1_pay3 (F := Ideal)) := by
  rw [outsAt1_A V c t h]; unfold st18 hAt eAt xAt; dsimp only; frame_out
set_option maxHeartbeats 3200000 in
theorem next18 (t : Fin cfg1.N) (h : ¬ t.val % 16 = 0) : (outsAt1 V c t.val t.isLt).2.2.2.2.2.2.2.2.1
    = st18 V c t (outsAt1 V c (t.val - 1) (Nat.lt_of_le_of_lt (Nat.sub_le _ _) t.isLt)).2.2.2.2.2.2.2.2.1 := by
  rw [outsAt1_B V c t h]; unfold st18 hAt eAt xAt; dsimp only; frame_out

/-- One step's addition to running sum 4. -/
def st19 (t : Fin cfg1.N) : FVec Ideal S1x1024 .f32 → FVec Ideal S1x1024 .f32 :=
  k1_pay8 (k1_pay34 (dhAt V c t) (k1_pay27 (iblk1 V c 3 t)) (k1_pay29 (iblk1 V c 3 t)))
set_option maxHeartbeats 3200000 in
theorem first19 (t : Fin cfg1.N) (h : t.val % 16 = 0) : (outsAt1 V c t.val t.isLt).2.2.2.2.2.2.2.2.2 = st19 V c t (k1_pay4 (F := Ideal)) := by
  rw [outsAt1_A V c t h]; unfold st19 dhAt hAt eAt xAt; dsimp only; frame_out
set_option maxHeartbeats 3200000 in
theorem next19 (t : Fin cfg1.N) (h : ¬ t.val % 16 = 0) : (outsAt1 V c t.val t.isLt).2.2.2.2.2.2.2.2.2
    = st19 V c t (outsAt1 V c (t.val - 1) (Nat.lt_of_le_of_lt (Nat.sub_le _ _) t.isLt)).2.2.2.2.2.2.2.2.2 := by
  rw [outsAt1_B V c t h]; unfold st19 dhAt hAt eAt xAt; dsimp only; frame_out

/-- What the second pass finds in the arrays it reads. -/
structure Reads (a : Reals) : Prop where
  P : V c main_arg4 = up a.P
  H : V c main_v5_1 = up fun i : S8192x1024.Idx => a.h2 (i 0) (i 1)
  O : V c main_arg9 = up a.O
  Y : V c main_v5_0 = up fun i : S8192x1024.Idx => a.ff (i 0) (i 1)
  L : V c main_arg6 = up a.L
  B : V c main_arg8 = up a.B
  G : V c main_arg2 = up a.G
  Z : V c main_v8 = up a.Z
  E : V c main_v7 = up fun i : S1024x256.Idx => a.E (ix2 (i 1) (i 0))

variable {a : Reals} (h : Reads V c a) (t : Fin cfg1.N) (r : Fin 512) (l : Fin 1024) (T : Fin 8192) (hT : T.val = t.val * 512 + r.val)
include h hT

theorem p_real (k : Fin 256) : (iblk1 V c 0 t : FVec Ideal S512x256 .f32) (ix2 r k) = (a.P (ix2 T k) : EReal) := (blk1_0 V c t r k T hT).trans (congrFun h.P _)
theorem p16_real (k : Fin 256) : k1_pay10 (F := Ideal) (iblk1 V c 0 t) (ix2 r k) = (a.P (ix2 T k) : EReal) := by
  refine Eq.trans ?_ (p_real V c h t r T hT k)
  pointwise [k1_pay10]
theorem h_real : hAt V c t (ix2 r l) = (a.h2 T l : EReal) := by
  refine Eq.trans ?_ ((blk1_1 V c t r l T hT).trans (congrFun h.H _))
  pointwise [hAt, k1_pay15]
theorem h16_real : k1_pay11 (F := Ideal) (iblk1 V c 1 t) (ix2 r l) = (a.h2 T l : EReal) := by
  refine Eq.trans ?_ ((blk1_1 V c t r l T hT).trans (congrFun h.H _))
  pointwise [k1_pay11, k1_pay9]
theorem o_real : (iblk1 V c 2 t : FVec Ideal S512x1024 .f32) (ix2 r l) = (a.O (ix2 T l) : EReal) := (blk1_2 V c t r l T hT).trans (congrFun h.O _)
theorem y_real : (iblk1 V c 3 t : FVec Ideal S512x1024 .f32) (ix2 r l) = (a.ff T l : EReal) := (blk1_3 V c t r l T hT).trans (congrFun h.Y _)

theorem pe_real : k1_pay14 (F := Ideal) (k1_pay10 (iblk1 V c 0 t)) (iblk1 V c 8 t) (ix2 r l) = (a.pe T l : EReal) :=
  pay14_apply _ _ r l _ (fun k => a.E (ix2 k l)) (p16_real V c h t r T hT) fun k => (blk1_8 V c t l k).trans (congrFun h.E _)
theorem i_real : iAt V c t (ix2 r 0) = ((irms 1024 (a.pe T) : ℝ) : EReal) := pay16_apply _ _ r _ fun l => pe_real V c h t r l T hT
theorem n_real : nAt V c t (ix2 r l) = ((a.pe T l * irms 1024 (a.pe T) : ℝ) : EReal) := pay17_apply _ _ r _ (fun l => pe_real V c h t r l T hT) l
theorem e_real : eAt V c t (ix2 r l) = (a.e T l : EReal) :=
  pay18_apply _ _ _ r _ (fun k => a.L (ix2 0 k)) (fun l => pe_real V c h t r l T hT) (fun k => (blk1_4 V c t k).trans (congrFun h.L _)) l
theorem gate_real : k1_pay20 (F := Ideal) (xAt V c t) (ix2 r l) = (a.gate T l : EReal) :=
  pay20_apply _ r l (a.z T l) (pay19_apply _ _ _ r l _ (fun k => a.Z (ix2 k l)) _ (fun k => h16_real V c h t r k T hT)
    (fun k => (blk1_9 V c t k l).trans (congrFun h.Z _)) ((blk1_5 V c t l).trans (congrFun h.B _)))

theorem err_real : k1_pay21 (F := Ideal) (hAt V c t) (iblk1 V c 2 t) (eAt V c t) (xAt V c t) (ix2 r l) = (a.err T l : EReal) :=
  pay21_apply _ _ _ _ r l _ _ _ _ (h_real V c h t r l T hT) (o_real V c h t r l T hT) (e_real V c h t r l T hT) (gate_real V c h t r l T hT)
theorem dy_real : k1_pay22 (F := Ideal) (hAt V c t) (iblk1 V c 2 t) (eAt V c t) (xAt V c t) (ix2 r l) = (a.dy T l : EReal) :=
  pay22_apply _ _ _ _ r l _ _ _ _ (h_real V c h t r l T hT) (o_real V c h t r l T hT) (e_real V c h t r l T hT) (gate_real V c h t r l T hT)
theorem de_real : k1_pay23 (F := Ideal) (hAt V c t) (iblk1 V c 2 t) (eAt V c t) (xAt V c t) (ix2 r l) = (a.de T l : EReal) :=
  pay23_apply _ _ _ _ r l _ _ _ _ (h_real V c h t r l T hT) (o_real V c h t r l T hT) (e_real V c h t r l T hT) (gate_real V c h t r l T hT)
theorem dz_real : k1_pay24 (F := Ideal) (hAt V c t) (iblk1 V c 2 t) (eAt V c t) (xAt V c t) (ix2 r l) = (a.dz T l : EReal) :=
  pay24_apply _ _ _ _ r l _ _ _ _ (h_real V c h t r l T hT) (o_real V c h t r l T hT) (e_real V c h t r l T hT) (gate_real V c h t r l T hT)
theorem dpe_real : k1_pay25 (F := Ideal) (hAt V c t) (iblk1 V c 2 t) (iAt V c t) (nAt V c t) (eAt V c t) (xAt V c t) (iblk1 V c 4 t) (ix2 r l) = (a.dpe T l : EReal) :=
  pay25_apply _ _ _ _ _ _ _ r _ _ (fun k => a.L (ix2 0 k)) (i_real V c h t r T hT) (fun k => n_real V c h t r k T hT) (fun k => de_real V c h t r k T hT)
    (fun k => (blk1_4 V c t k).trans (congrFun h.L _)) l
theorem dh_real : dhAt V c t (ix2 r l) = (a.dh T l : EReal) :=
  pay26_apply _ _ _ _ _ r l _ (fun k => a.Z (ix2 l k)) _ (dy_real V c h t r l T hT) (fun k => dz_real V c h t r k T hT)
    (fun k => (blk1_7 V c t l k).trans (congrFun h.Z _))
theorem dff_real : k1_pay37 (F := Ideal) (dhAt V c t) (k1_pay27 (iblk1 V c 3 t)) (k1_pay28 (iblk1 V c 3 t)) (k1_pay29 (iblk1 V c 3 t)) (iblk1 V c 6 t) (ix2 r l)
    = (a.dff T l : EReal) :=
  pay37_apply _ _ _ r _ _ (fun k => a.G (ix2 0 k)) (fun k => y_real V c h t r k T hT) (fun k => dh_real V c h t r k T hT)
    (fun k => (blk1_6 V c t k).trans (congrFun h.G _)) l

omit hT

set_option maxHeartbeats 1600000 in
theorem final1_10 : (dat1 V c).arrAt 10 cfg1.N = up fun i : S8192x256.Idx => a.P i := by
  refine (dat1 V c).arrAt_eq_of_covers 10 _ (by decide +kernel) fun t _ y => ?_
  have ht : t.val < 16 := t.isLt.trans_eq N_1
  idx_vars y
  have e : ((cfg1.win 10).blk t).view.emb (ix2 y0 y1) = ix2 (⟨t.val * 512 + y0.val, by omega⟩ : Fin 8192) y1 := by blk_ext [idx1 t]
  rw [e]
  blk_simp
  rw [after10]
  refine Eq.trans ?_ (p_real V c h t y0 ⟨t.val * 512 + y0.val, by omega⟩ rfl y1)
  pointwise [k1_pay12]

set_option maxHeartbeats 1600000 in
theorem final1_11 : (dat1 V c).arrAt 11 cfg1.N = up fun i : S8192x1024.Idx => a.h2 (i 0) (i 1) := by
  refine (dat1 V c).arrAt_eq_of_covers 11 _ (by decide +kernel) fun t _ y => ?_
  have ht : t.val < 16 := t.isLt.trans_eq N_1
  idx_vars y
  have e : ((cfg1.win 11).blk t).view.emb (ix2 y0 y1) = ix2 (⟨t.val * 512 + y0.val, by omega⟩ : Fin 8192) y1 := by blk_ext [idx1 t]
  rw [e]
  blk_simp
  rw [after11]
  refine Eq.trans ?_ (h16_real V c h t y0 y1 ⟨t.val * 512 + y0.val, by omega⟩ rfl)
  pointwise [k1_pay13, k1_pay11, k1_pay9]

set_option maxHeartbeats 1600000 in
theorem final1_12 : (dat1 V c).arrAt 12 cfg1.N = up fun i : S8192x1024.Idx => a.dh (i 0) (i 1) := by
  refine (dat1 V c).arrAt_eq_of_covers 12 _ (by decide +kernel) fun t _ y => ?_
  have ht : t.val < 16 := t.isLt.trans_eq N_1
  idx_vars y
  have e : ((cfg1.win 12).blk t).view.emb (ix2 y0 y1) = ix2 (⟨t.val * 512 + y0.val, by omega⟩ : Fin 8192) y1 := by blk_ext [idx1 t]
  rw [e]
  blk_simp
  rw [after12]
  exact dh_real V c h t y0 y1 ⟨t.val * 512 + y0.val, by omega⟩ rfl

set_option maxHeartbeats 1600000 in
theorem final1_13 : (dat1 V c).arrAt 13 cfg1.N = up fun i : S8192x1024.Idx => a.dz (i 0) (i 1) := by
  refine (dat1 V c).arrAt_eq_of_covers 13 _ (by decide +kernel) fun t _ y => ?_
  have ht : t.val < 16 := t.isLt.trans_eq N_1
  idx_vars y
  have e : ((cfg1.win 13).blk t).view.emb (ix2 y0 y1) = ix2 (⟨t.val * 512 + y0.val, by omega⟩ : Fin 8192) y1 := by blk_ext [idx1 t]
  rw [e]
  blk_simp
  rw [after13]
  refine Eq.trans ?_ (dz_real V c h t y0 y1 ⟨t.val * 512 + y0.val, by omega⟩ rfl)
  pointwise [k1_pay35]

set_option maxHeartbeats 1600000 in
theorem final1_14 : (dat1 V c).arrAt 14 cfg1.N = up fun i : S8192x1024.Idx => a.dpe (i 0) (i 1) := by
  refine (dat1 V c).arrAt_eq_of_covers 14 _ (by decide +kernel) fun t _ y => ?_
  have ht : t.val < 16 := t.isLt.trans_eq N_1
  idx_vars y
  have e : ((cfg1.win 14).blk t).view.emb (ix2 y0 y1) = ix2 (⟨t.val * 512 + y0.val, by omega⟩ : Fin 8192) y1 := by blk_ext [idx1 t]
  rw [e]
  blk_simp
  rw [after14]
  refine Eq.trans ?_ (dpe_real V c h t y0 y1 ⟨t.val * 512 + y0.val, by omega⟩ rfl)
  pointwise [k1_pay36]

set_option maxHeartbeats 1600000 in
theorem final1_15 : (dat1 V c).arrAt 15 cfg1.N = up fun i : S8192x1024.Idx => a.dff (i 0) (i 1) := by
  refine (dat1 V c).arrAt_eq_of_covers 15 _ (by decide +kernel) fun t _ y => ?_
  have ht : t.val < 16 := t.isLt.trans_eq N_1
  idx_vars y
  have e : ((cfg1.win 15).blk t).view.emb (ix2 y0 y1) = ix2 (⟨t.val * 512 + y0.val, by omega⟩ : Fin 8192) y1 := by blk_ext [idx1 t]
  rw [e]
  blk_simp
  rw [after15]
  exact dff_real V c h t y0 y1 ⟨t.val * 512 + y0.val, by omega⟩ rfl

theorem acc16_real (n : ℕ) (hn : n < cfg1.N) : (outsAt1 V c n hn).2.2.2.2.2.2.1 (ix2 0 l) = ((rowsTo (a.loss l) ((n + 1) * 512) : ℝ) : EReal) :=
  running (fun n hn => (outsAt1 V c n hn).2.2.2.2.2.2.1) (st16 V c) (k1_pay1 (F := Ideal)) l (a.loss l) (fun h0 => first16 V c ⟨0, h0⟩ rfl)
    (fun n h' => next16 V c ⟨n + 1, h'⟩ (by have : n + 1 < 16 := h'.trans_eq N_1; dsimp only; omega)) (zero1 l)
    (fun t b A ha => ⟨_, by
      have ht : t.val < 16 := t.isLt.trans_eq N_1
      exact pay31_apply _ l _ ha _ _ fun r => err_real V c h t r l ⟨t.val * 512 + r.val, by omega⟩ rfl, fun r => ⟨by have ht : t.val < 16 := t.isLt.trans_eq N_1; omega, rfl⟩⟩) n hn

omit h in
theorem flush16 : ∀ t : Fin cfg1.N, (cfg1.win 16).flush t = true → t.val = 15 := by decide +kernel

set_option maxHeartbeats 1600000 in
theorem final1_16 : (dat1 V c).arrAt 16 cfg1.N = up fun i : S1x1024.Idx => ∑ t, a.loss (i 1) t := by
  refine (dat1 V c).arrAt_eq_of_covers 16 _ (by decide +kernel) fun t hf y => ?_
  have ht := flush16 t hf
  idx_vars y
  have e : ((cfg1.win 16).blk t).view.emb (ix2 y0 y1) = ix2 0 y1 := by blk_ext [idx1 t]
  rw [e]
  blk_simp
  rw [after1_16, show (ix2 y0 y1 : S1x1024.Idx) = ix2 0 y1 by blk_ext []]
  refine (acc16_real V c h y1 t.val t.isLt).trans ?_
  rw [ht]
  exact congrArg _ (rowsTo_all _)

theorem acc17_real (n : ℕ) (hn : n < cfg1.N) : (outsAt1 V c n hn).2.2.2.2.2.2.2.1 (ix2 0 l) = ((rowsTo (a.gl l) ((n + 1) * 512) : ℝ) : EReal) :=
  running (fun n hn => (outsAt1 V c n hn).2.2.2.2.2.2.2.1) (st17 V c) (k1_pay2 (F := Ideal)) l (a.gl l) (fun h0 => first17 V c ⟨0, h0⟩ rfl)
    (fun n h' => next17 V c ⟨n + 1, h'⟩ (by have : n + 1 < 16 := h'.trans_eq N_1; dsimp only; omega)) (zero2 l)
    (fun t b A ha => ⟨_, by
      have ht : t.val < 16 := t.isLt.trans_eq N_1
      exact pay32_apply _ l _ ha _ _ _ _ (fun r => n_real V c h t r l ⟨t.val * 512 + r.val, by omega⟩ rfl) fun r => de_real V c h t r l ⟨t.val * 512 + r.val, by omega⟩ rfl, fun r => ⟨by have ht : t.val < 16 := t.isLt.trans_eq N_1; omega, rfl⟩⟩) n hn

omit h in
theorem flush17 : ∀ t : Fin cfg1.N, (cfg1.win 17).flush t = true → t.val = 15 := by decide +kernel

set_option maxHeartbeats 1600000 in
theorem final1_17 : (dat1 V c).arrAt 17 cfg1.N = up fun i : S1x1024.Idx => ∑ t, a.gl (i 1) t := by
  refine (dat1 V c).arrAt_eq_of_covers 17 _ (by decide +kernel) fun t hf y => ?_
  have ht := flush17 t hf
  idx_vars y
  have e : ((cfg1.win 17).blk t).view.emb (ix2 y0 y1) = ix2 0 y1 := by blk_ext [idx1 t]
  rw [e]
  blk_simp
  rw [after1_17, show (ix2 y0 y1 : S1x1024.Idx) = ix2 0 y1 by blk_ext []]
  refine (acc17_real V c h y1 t.val t.isLt).trans ?_
  rw [ht]
  exact congrArg _ (rowsTo_all _)

theorem acc18_real (n : ℕ) (hn : n < cfg1.N) : (outsAt1 V c n hn).2.2.2.2.2.2.2.2.1 (ix2 0 l) = ((rowsTo (a.gb l) ((n + 1) * 512) : ℝ) : EReal) :=
  running (fun n hn => (outsAt1 V c n hn).2.2.2.2.2.2.2.2.1) (st18 V c) (k1_pay3 (F := Ideal)) l (a.gb l) (fun h0 => first18 V c ⟨0, h0⟩ rfl)
    (fun n h' => next18 V c ⟨n + 1, h'⟩ (by have : n + 1 < 16 := h'.trans_eq N_1; dsimp only; omega)) (zero3 l)
    (fun t b A ha => ⟨_, by
      have ht : t.val < 16 := t.isLt.trans_eq N_1
      exact pay33_apply _ l _ ha _ _ fun r => dz_real V c h t r l ⟨t.val * 512 + r.val, by omega⟩ rfl, fun r => ⟨by have ht : t.val < 16 := t.isLt.trans_eq N_1; omega, rfl⟩⟩) n hn

omit h in
theorem flush18 : ∀ t : Fin cfg1.N, (cfg1.win 18).flush t = true → t.val = 15 := by decide +kernel

set_option maxHeartbeats 1600000 in
theorem final1_18 : (dat1 V c).arrAt 18 cfg1.N = up fun i : S1x1024.Idx => ∑ t, a.gb (i 1) t := by
  refine (dat1 V c).arrAt_eq_of_covers 18 _ (by decide +kernel) fun t hf y => ?_
  have ht := flush18 t hf
  idx_vars y
  have e : ((cfg1.win 18).blk t).view.emb (ix2 y0 y1) = ix2 0 y1 := by blk_ext [idx1 t]
  rw [e]
  blk_simp
  rw [after1_18, show (ix2 y0 y1 : S1x1024.Idx) = ix2 0 y1 by blk_ext []]
  refine (acc18_real V c h y1 t.val t.isLt).trans ?_
  rw [ht]
  exact congrArg _ (rowsTo_all _)

theorem acc19_real (n : ℕ) (hn : n < cfg1.N) : (outsAt1 V c n hn).2.2.2.2.2.2.2.2.2 (ix2 0 l) = ((rowsTo (a.gg l) ((n + 1) * 512) : ℝ) : EReal) :=
  running (fun n hn => (outsAt1 V c n hn).2.2.2.2.2.2.2.2.2) (st19 V c) (k1_pay4 (F := Ideal)) l (a.gg l) (fun h0 => first19 V c ⟨0, h0⟩ rfl)
    (fun n h' => next19 V c ⟨n + 1, h'⟩ (by have : n + 1 < 16 := h'.trans_eq N_1; dsimp only; omega)) (zero4 l)
    (fun t b A ha => ⟨_, by
      have ht : t.val < 16 := t.isLt.trans_eq N_1
      exact pay34_apply _ l _ ha _ _ _ _ (fun r k => y_real V c h t r k ⟨t.val * 512 + r.val, by omega⟩ rfl) fun r => dh_real V c h t r l ⟨t.val * 512 + r.val, by omega⟩ rfl, fun r => ⟨by have ht : t.val < 16 := t.isLt.trans_eq N_1; omega, rfl⟩⟩) n hn

omit h in
theorem flush19 : ∀ t : Fin cfg1.N, (cfg1.win 19).flush t = true → t.val = 15 := by decide +kernel

set_option maxHeartbeats 1600000 in
theorem final1_19 : (dat1 V c).arrAt 19 cfg1.N = up fun i : S1x1024.Idx => ∑ t, a.gg (i 1) t := by
  refine (dat1 V c).arrAt_eq_of_covers 19 _ (by decide +kernel) fun t hf y => ?_
  have ht := flush19 t hf
  idx_vars y
  have e : ((cfg1.win 19).blk t).view.emb (ix2 y0 y1) = ix2 0 y1 := by blk_ext [idx1 t]
  rw [e]
  blk_simp
  rw [after1_19, show (ix2 y0 y1 : S1x1024.Idx) = ix2 0 y1 by blk_ext []]
  refine (acc19_real V c h y1 t.val t.isLt).trans ?_
  rw [ht]
  exact congrArg _ (rowsTo_all _)

end Region1

end Cert.PleLossIdeal.Val

end
-- ==== Proof.PleLossValue.lean ====
/- What `PleLossIdeal` leaves in its results, from its arguments. -/
module

public import proofs.«01_k».proof.Proof.PleLossGrads

@[expose] public section

set_option maxRecDepth 16384

noncomputable section

namespace Cert.PleLossIdeal.Val

open Idealize.ShloMosaic Idealize.ShloMosaic.TcCoe Idealize.SL.Sem Cert.RealKit
open Idealize.ShloMosaic.Pipeline (Dat)
open Cert.PleLossIdeal Cert.PleLossIdeal.Gen

variable (m : (ℓ : Loc nD τ sig) → Buf (Elt Ideal) ℓ) (ρ : Dev nD → PrngReg)

/-- The ten arguments are these real arrays. -/
structure Holds (c : Dev nD) (a : Reals) : Prop where
  F : m ((c : Thread nD τ).loc main_arg0) = up a.F
  X : m ((c : Thread nD τ).loc main_arg1) = up a.X
  G : m ((c : Thread nD τ).loc main_arg2) = up a.G
  W : m ((c : Thread nD τ).loc main_arg3) = up a.W
  P : m ((c : Thread nD τ).loc main_arg4) = up a.P
  E : m ((c : Thread nD τ).loc main_arg5) = up a.E
  L : m ((c : Thread nD τ).loc main_arg6) = up a.L
  Z : m ((c : Thread nD τ).loc main_arg7) = up a.Z
  B : m ((c : Thread nD τ).loc main_arg8) = up a.B
  O : m ((c : Thread nD τ).loc main_arg9) = up a.O

variable {m} {a : Reals} {c : Dev nD} (h : Holds m c a)
include h

theorem acts : V1 m ρ c main_v0 = up a.F := by
  refine Eq.trans (b := (truncf .bf16 (m ((c : Thread nD τ).loc main_arg0) : FVec Ideal S8192x2816 .f32) bitsLt_bf16_f32 : FVec Ideal S8192x2816 .bf16)) ?_ h.F
  show StableHlo.after hostOps0 (W0 m ρ c) (Proc.devRef .tc main_v0) = _
  after_results_simp
  try rfl

theorem ff3 : V3 m ρ c main_v5_0 = up fun i : S8192x1024.Idx => a.ff (i 0) (i 1) :=
  (W3_of m ρ c main_v5_0 (by decide)).trans ((W2_arr m ρ c 4).trans
    (final0_4 (V1 m ρ) c (acts ρ h) ((W1_args m ρ c main_arg1 (by decide)).trans h.X) ((W1_args m ρ c main_arg2 (by decide)).trans h.G)
      ((slab m ρ c).trans (congrArg slabOf h.W))))
theorem h3 : V3 m ρ c main_v5_1 = up fun i : S8192x1024.Idx => a.h2 (i 0) (i 1) :=
  (W3_of m ρ c main_v5_1 (by decide)).trans ((W2_arr m ρ c 5).trans
    (final0_5 (V1 m ρ) c (acts ρ h) ((W1_args m ρ c main_arg1 (by decide)).trans h.X) ((W1_args m ρ c main_arg2 (by decide)).trans h.G)
      ((slab m ρ c).trans (congrArg slabOf h.W))))

theorem gate3 : V3 m ρ c main_v8 = up a.Z := by
  have e : W2 m ρ c (Proc.devRef .tc main_arg7) = up a.Z := (W2_args m ρ c main_arg7 (by decide)).trans h.Z
  refine Eq.trans (b := (truncf .bf16 (W2 m ρ c (Proc.devRef .tc main_arg7) : FVec Ideal S1024x1024 .f32) bitsLt_bf16_f32 : FVec Ideal S1024x1024 .bf16)) ?_ e
  show StableHlo.after hostOps1 (W2 m ρ c) (Proc.devRef .tc main_v8) = _
  after_results_simp
  try rfl

theorem ple3 : V3 m ρ c main_v7 = up fun i : S1024x256.Idx => a.E (ix2 (i 1) (i 0)) := by
  have e : W2 m ρ c (Proc.devRef .tc main_arg5) = up a.E := (W2_args m ρ c main_arg5 (by decide)).trans h.E
  refine Eq.trans (b := (truncf .bf16 (transpose S1024x256 [1, 0] (W2 m ρ c (Proc.devRef .tc main_arg5) : FVec Ideal S256x1024 .f32) transposes_S256x1024_S1024x256_1_0) bitsLt_bf16_f32
    : FVec Ideal S1024x256 .bf16)) ?_ ?_
  · show StableHlo.after hostOps1 (W2 m ρ c) (Proc.devRef .tc main_v7) = _
    after_results_simp
    try rfl
  · rw [e]
    funext y
    idx_vars y
    pointwise [up]
    try blk_ext []

theorem reads : Reads (V3 m ρ) c a where
  P := (W3_args m ρ c main_arg4 (by decide)).trans h.P
  H := h3 ρ h
  O := (W3_args m ρ c main_arg9 (by decide)).trans h.O
  Y := ff3 ρ h
  L := (W3_args m ρ c main_arg6 (by decide)).trans h.L
  B := (W3_args m ρ c main_arg8 (by decide)).trans h.B
  G := (W3_args m ρ c main_arg2 (by decide)).trans h.G
  Z := gate3 ρ h
  E := ple3 ρ h

/-- The ten results. -/
theorem loss_eq : W5 m ρ c (Proc.devRef .tc main_v10) = up fun _ : S_.Idx => ∑ l, ∑ t, a.loss l t := by
  have e : W4 m ρ c (Proc.devRef .tc main_v9_6) = up fun i : S1x1024.Idx => ∑ t, a.loss (i 1) t := (W4_arr m ρ c 16).trans (final1_16 (V3 m ρ) c (reads ρ h))
  refine Eq.trans (b := (Host.reduceAdd (W4 m ρ c (Proc.devRef .tc main_v9_6) : FVec Ideal S1x1024 .f32) (constant S_ .f32 0x00000000#32) reducesTo_S1x1024_S_d0_1 h_S_ : FVec Ideal S_ .f32)) ?_ ?_
  · show StableHlo.after hostOps2 (W4 m ρ c) (Proc.devRef .tc main_v10) = _
    after_results_simp
    try rfl
  · rw [e]
    funext y
    pointwise [up]
    simp only [Fin.sum_univ_one, coe_sum]
theorem p_eq : W5 m ρ c (Proc.devRef .tc main_v11) = up fun i : S8192x256.Idx => a.P i := by
  have e : W4 m ρ c (Proc.devRef .tc main_v9_0) = up fun i : S8192x256.Idx => a.P i := (W4_arr m ρ c 10).trans (final1_10 (V3 m ρ) c (reads ρ h))
  refine Eq.trans (b := (extf .f32 (W4 m ρ c (Proc.devRef .tc main_v9_0) : FVec Ideal S8192x256 .bf16) bitsLt_bf16_f32 : FVec Ideal S8192x256 .f32)) ?_ e
  show StableHlo.after hostOps2 (W4 m ρ c) (Proc.devRef .tc main_v11) = _
  after_results_simp
  try rfl
theorem h2_eq : W5 m ρ c (Proc.devRef .tc main_v12) = up fun i : S8192x1024.Idx => a.h2 (i 0) (i 1) := by
  have e : W4 m ρ c (Proc.devRef .tc main_v9_1) = up fun i : S8192x1024.Idx => a.h2 (i 0) (i 1) := (W4_arr m ρ c 11).trans (final1_11 (V3 m ρ) c (reads ρ h))
  refine Eq.trans (b := (extf .f32 (W4 m ρ c (Proc.devRef .tc main_v9_1) : FVec Ideal S8192x1024 .bf16) bitsLt_bf16_f32 : FVec Ideal S8192x1024 .f32)) ?_ e
  show StableHlo.after hostOps2 (W4 m ρ c) (Proc.devRef .tc main_v12) = _
  after_results_simp
  try rfl
theorem dz_eq : W5 m ρ c (Proc.devRef .tc main_v13) = up fun i : S8192x1024.Idx => a.dz (i 0) (i 1) := by
  have e : W4 m ρ c (Proc.devRef .tc main_v9_3) = up fun i : S8192x1024.Idx => a.dz (i 0) (i 1) := (W4_arr m ρ c 13).trans (final1_13 (V3 m ρ) c (reads ρ h))
  refine Eq.trans (b := (extf .f32 (W4 m ρ c (Proc.devRef .tc main_v9_3) : FVec Ideal S8192x1024 .bf16) bitsLt_bf16_f32 : FVec Ideal S8192x1024 .f32)) ?_ e
  show StableHlo.after hostOps2 (W4 m ρ c) (Proc.devRef .tc main_v13) = _
  after_results_simp
  try rfl
theorem dpe_eq : W5 m ρ c (Proc.devRef .tc main_v14) = up fun i : S8192x1024.Idx => a.dpe (i 0) (i 1) := by
  have e : W4 m ρ c (Proc.devRef .tc main_v9_4) = up fun i : S8192x1024.Idx => a.dpe (i 0) (i 1) := (W4_arr m ρ c 14).trans (final1_14 (V3 m ρ) c (reads ρ h))
  refine Eq.trans (b := (extf .f32 (W4 m ρ c (Proc.devRef .tc main_v9_4) : FVec Ideal S8192x1024 .bf16) bitsLt_bf16_f32 : FVec Ideal S8192x1024 .f32)) ?_ e
  show StableHlo.after hostOps2 (W4 m ρ c) (Proc.devRef .tc main_v14) = _
  after_results_simp
  try rfl
theorem dff_eq : W5 m ρ c (Proc.devRef .tc main_v15) = up fun i : S8192x1024.Idx => a.dff (i 0) (i 1) := by
  have e : W4 m ρ c (Proc.devRef .tc main_v9_5) = up fun i : S8192x1024.Idx => a.dff (i 0) (i 1) := (W4_arr m ρ c 15).trans (final1_15 (V3 m ρ) c (reads ρ h))
  refine Eq.trans (b := (extf .f32 (W4 m ρ c (Proc.devRef .tc main_v9_5) : FVec Ideal S8192x1024 .bf16) bitsLt_bf16_f32 : FVec Ideal S8192x1024 .f32)) ?_ e
  show StableHlo.after hostOps2 (W4 m ρ c) (Proc.devRef .tc main_v15) = _
  after_results_simp
  try rfl
theorem dh_eq : W5 m ρ c (Proc.devRef .tc main_v9_2) = up fun i : S8192x1024.Idx => a.dh (i 0) (i 1) :=
  (W5_of m ρ c main_v9_2 (by decide)).trans ((W4_arr m ρ c 12).trans (final1_12 (V3 m ρ) c (reads ρ h)))
theorem gl_eq : W5 m ρ c (Proc.devRef .tc main_v9_7) = up fun i : S1x1024.Idx => ∑ t, a.gl (i 1) t :=
  (W5_of m ρ c main_v9_7 (by decide)).trans ((W4_arr m ρ c 17).trans (final1_17 (V3 m ρ) c (reads ρ h)))
theorem gb_eq : W5 m ρ c (Proc.devRef .tc main_v9_8) = up fun i : S1x1024.Idx => ∑ t, a.gb (i 1) t :=
  (W5_of m ρ c main_v9_8 (by decide)).trans ((W4_arr m ρ c 18).trans (final1_18 (V3 m ρ) c (reads ρ h)))
theorem gg_eq : W5 m ρ c (Proc.devRef .tc main_v9_9) = up fun i : S1x1024.Idx => ∑ t, a.gg (i 1) t :=
  (W5_of m ρ c main_v9_9 (by decide)).trans ((W4_arr m ρ c 19).trans (final1_19 (V3 m ρ) c (reads ρ h)))

end Cert.PleLossIdeal.Val

end
-- ==== Proof.PleLossRef.lean ====
/- What `PleLossRefIdeal` leaves in its results, on real arguments. -/
module

public import proofs.«01_k».proof.Proof.PleLossValue
public import proofs.«01_k».proof.Proof.Gen.PleLossRefIdeal.Read

@[expose] public section

set_option maxRecDepth 16384

noncomputable section

namespace Cert.PleLossRefIdeal.Val

open Idealize.ShloMosaic Idealize.ShloMosaic.TcCoe Idealize.SL.Sem Cert.RealKit
open Cert.PleLossRefIdeal Cert.PleLossRefIdeal.Gen Cert.PleLossRefIdeal.Read Cert.PleLossIdeal.Val

theorem ofBits_two : Ideal.ofBits .f32 0x40000000#32 = ((2 : ℝ) : EReal) := by
  rw [ofBits_f32 _ 128 0 (by decide) (by decide) (by decide) (by decide) (by decide)]; norm_num

variable (a : Reals)

theorem v0 (t : Fin 8192) (l : Fin 1024) : val_main_v0 (F := Ideal) (up a.F) (up a.W) (ix2 t l) = (a.ff t l : EReal) := by
  pointwise [val_main_v0]
  simp only [up, ← EReal.coe_mul, coe_sum]
  rfl
theorem v10 (t : Fin 8192) : val_main_v10 (F := Ideal) (up a.F) (up a.W) (ix2 t 0) = ((msq 1024 (a.ff t) : ℝ) : EReal) := by
  pointwise [val_main_v10, val_main_v9, val_main_v8, val_main_v7, val_main_v6, val_main_v5, val_main_v4, val_main_cst_2, val_main_cst_1, val_main_cst_0]
  simp only [v0, ofBits_1024, ofBits_eps]
  exact coe_msq (by norm_num) _
theorem v11 (t : Fin 8192) : val_main_v11 (F := Ideal) (up a.F) (up a.W) (ix2 t 0) = ((irms 1024 (a.ff t) : ℝ) : EReal) := by
  pointwise [val_main_v11]
  rw [v10]
  exact coe_rsqrt_msq (by norm_num) _
theorem v14 (t : Fin 8192) : val_main_v14 (F := Ideal) (up a.F) (up a.W) (ix2 t 0) = ((-(1 / 2) * (irms 1024 (a.ff t) / msq 1024 (a.ff t)) : ℝ) : EReal) := by
  pointwise [val_main_v14, val_main_v13, val_main_v12, val_main_cst_3]
  rw [v11, v10, coe_irms_msq (by norm_num), ofBits_neg_half, ← EReal.coe_mul]
theorem v16 (t : Fin 8192) (l : Fin 1024) : val_main_v16 (F := Ideal) (up a.F) (up a.W) (ix2 t l) = ((a.ff t l * irms 1024 (a.ff t) : ℝ) : EReal) := by
  pointwise [val_main_v16, val_main_v15]
  rw [v0, v11, ← EReal.coe_mul]

theorem v1 (t : Fin 8192) (l : Fin 1024) : val_main_v1 (F := Ideal) (up a.P) (up a.E) (ix2 t l) = (a.pe t l : EReal) := by
  pointwise [val_main_v1]
  simp only [up, ← EReal.coe_mul, coe_sum]
  rfl
theorem v28 (t : Fin 8192) : val_main_v28 (F := Ideal) (up a.P) (up a.E) (ix2 t 0) = ((msq 1024 (a.pe t) : ℝ) : EReal) := by
  pointwise [val_main_v28, val_main_v27, val_main_v26, val_main_v25, val_main_v24, val_main_v23, val_main_v22, val_main_cst_6, val_main_cst_5, val_main_cst_4]
  simp only [v1, ofBits_1024, ofBits_eps]
  exact coe_msq (by norm_num) _
theorem v29 (t : Fin 8192) : val_main_v29 (F := Ideal) (up a.P) (up a.E) (ix2 t 0) = ((irms 1024 (a.pe t) : ℝ) : EReal) := by
  pointwise [val_main_v29]
  rw [v28]
  exact coe_rsqrt_msq (by norm_num) _
theorem v32 (t : Fin 8192) : val_main_v32 (F := Ideal) (up a.P) (up a.E) (ix2 t 0) = ((-(1 / 2) * (irms 1024 (a.pe t) / msq 1024 (a.pe t)) : ℝ) : EReal) := by
  pointwise [val_main_v32, val_main_v31, val_main_v30, val_main_cst_7]
  rw [v29, v28, coe_irms_msq (by norm_num), ofBits_neg_half, ← EReal.coe_mul]
theorem v34 (t : Fin 8192) (l : Fin 1024) : val_main_v34 (F := Ideal) (up a.P) (up a.E) (ix2 t l) = ((a.pe t l * irms 1024 (a.pe t) : ℝ) : EReal) := by
  pointwise [val_main_v34, val_main_v33]
  rw [v1, v29, ← EReal.coe_mul]

theorem v20 (t : Fin 8192) (l : Fin 1024) : val_main_v20 (F := Ideal) (up a.F) (up a.X) (up a.G) (up a.W) (ix2 t l) = (a.h2 t l : EReal) := by
  pointwise [val_main_v20, val_main_v19, val_main_v18, val_main_v17, val_main_v3]
  rw [v16, ← EReal.coe_mul, ← EReal.coe_add]
  rfl
theorem v37 (t : Fin 8192) (l : Fin 1024) : val_main_v37 (F := Ideal) (up a.P) (up a.E) (up a.L) (ix2 t l) = (a.e t l : EReal) := by
  pointwise [val_main_v37, val_main_v36, val_main_v35, val_main_v21]
  rw [v34, ← EReal.coe_mul]
  rfl
theorem v45 (t : Fin 8192) (l : Fin 1024) : val_main_v45 (F := Ideal) (up a.F) (up a.X) (up a.G) (up a.W) (up a.Z) (up a.B) (ix2 t l) = Ideal.exp (-(a.z t l : EReal)) := by
  pointwise [val_main_v45, val_main_v44, val_main_v43, val_main_v42, val_main_v41, val_main_v40, val_main_v39, val_main_v38, val_main_v2, val_main_cst]
  simp only [v20, up, ← EReal.coe_mul, coe_sum, ← EReal.coe_add, add_zero]
  rfl
theorem v49 (t : Fin 8192) (l : Fin 1024) : val_main_v49 (F := Ideal) (up a.F) (up a.X) (up a.G) (up a.W) (up a.Z) (up a.B) (ix2 t l) = (a.gate t l : EReal) := by
  pointwise [val_main_v49, val_main_v48, val_main_v47, val_main_v46, val_main_cst_9, val_main_cst_8]
  rw [v45]
  exact coe_sgm _
theorem v55 (t : Fin 8192) (l : Fin 1024) : val_main_v55 (F := Ideal) (up a.F) (up a.X) (up a.G) (up a.W) (up a.P) (up a.E) (up a.L) (up a.Z) (up a.B) (up a.O) (ix2 t l) = (a.err t l : EReal) := by
  pointwise [val_main_v55, val_main_v54, val_main_v53]
  rw [v20, v37, v49, ← EReal.coe_mul, ← EReal.coe_add]
  exact (EReal.coe_sub _ _).symm

theorem v61 (t : Fin 8192) : val_main_v61 (F := Ideal) (up a.F) (up a.X) (up a.G) (up a.W) (up a.P) (up a.E) (up a.L) (up a.Z) (up a.B) (up a.O) (ix1 t) = (((∑ l, a.err t l * a.err t l) / 1024 : ℝ) : EReal) := by
  pointwise [val_main_v61, val_main_v60, val_main_v59, val_main_v56, val_main_cst_13, val_main_cst_12]
  simp only [v55, ofBits_1024, ← EReal.coe_mul, coe_sum]
  exact coe_div (by norm_num)
theorem loss_ref : val_main_v63 (F := Ideal) (up a.F) (up a.X) (up a.G) (up a.W) (up a.P) (up a.E) (up a.L) (up a.Z) (up a.B) (up a.O) = up fun _ : S_.Idx => ∑ l, ∑ t, a.loss l t := by
  funext i
  pointwise [val_main_v63, val_main_v62, val_main_cst_15, val_main_cst_14]
  simp only [v61, ofBits_half, coe_sum, ← EReal.coe_mul]
  refine congrArg (fun b : ℝ => (b : EReal)) ?_
  rw [Finset.sum_comm, Finset.mul_sum]
  refine Finset.sum_congr rfl fun t _ => ?_
  rw [Finset.sum_div, Finset.mul_sum]
  refine Finset.sum_congr rfl fun l _ => ?_
  unfold Reals.loss
  ring

theorem v67 (t : Fin 8192) : val_main_v67 (F := Ideal) (ix1 t) = ((1 / 2 * (1 / 1024) : ℝ) : EReal) := by
  pointwise [val_main_v67, val_main_v66, val_main_v65, val_main_v64, val_main_cst_18, val_main_cst_16, val_main_cst_17]
  simp only [ofBits_half, ofBits_1024, mul_one]
  rw [coe_div (by norm_num)]
  norm_num
theorem v69 (t : Fin 8192) (l : Fin 1024) : val_main_v69 (F := Ideal) (up a.F) (up a.X) (up a.G) (up a.W) (up a.P) (up a.E) (up a.L) (up a.Z) (up a.B) (up a.O) (ix2 t l) = (a.dy t l : EReal) := by
  pointwise [val_main_v69, val_main_v68, val_main_v58, val_main_v57, val_main_cst_11]
  rw [v67, v55, ofBits_two, ← EReal.coe_mul, ← EReal.coe_mul]
  refine congrArg (fun b : ℝ => (b : EReal)) ?_
  unfold Reals.dy
  ring
theorem v72 (t : Fin 8192) (l : Fin 1024) : val_main_v72 (F := Ideal) (up a.F) (up a.X) (up a.G) (up a.W) (up a.P) (up a.E) (up a.L) (up a.Z) (up a.B) (up a.O) (ix2 t l) = (a.dz t l : EReal) := by
  pointwise [val_main_v72, val_main_v70, val_main_v52, val_main_v51, val_main_v50, val_main_cst_10]
  rw [v69, v37, v49, ← EReal.coe_one, ← EReal.coe_sub]
  simp only [← EReal.coe_mul]
  refine congrArg (fun b : ℝ => (b : EReal)) ?_
  unfold Reals.dz
  ring
theorem dz_ref : val_main_v72 (F := Ideal) (up a.F) (up a.X) (up a.G) (up a.W) (up a.P) (up a.E) (up a.L) (up a.Z) (up a.B) (up a.O) = up fun i : S8192x1024.Idx => a.dz (i 0) (i 1) := by
  funext i
  idx_vars i
  exact v72 a i0 i1
theorem v71 (t : Fin 8192) (l : Fin 1024) : val_main_v71 (F := Ideal) (up a.F) (up a.X) (up a.G) (up a.W) (up a.P) (up a.E) (up a.L) (up a.Z) (up a.B) (up a.O) (ix2 t l) = (a.de t l : EReal) := by
  pointwise [val_main_v71]
  rw [v69, v49, ← EReal.coe_mul]
  rfl
theorem gb_ref : val_main_v76 (F := Ideal) (up a.F) (up a.X) (up a.G) (up a.W) (up a.P) (up a.E) (up a.L) (up a.Z) (up a.B) (up a.O) = up fun i : S1x1024.Idx => ∑ t, a.gb (i 1) t := by
  funext i
  idx_vars i
  pointwise [val_main_v76, val_main_v75, val_main_v74, val_main_v73, val_main_cst_20, val_main_cst_19]
  simp only [Fin.sum_univ_one, v72, coe_sum]
  rfl
theorem v78 (t : Fin 8192) (l : Fin 1024) : val_main_v78 (F := Ideal) (up a.F) (up a.X) (up a.G) (up a.W) (up a.P) (up a.E) (up a.L) (up a.Z) (up a.B) (up a.O) (ix2 t l) = (a.dh t l : EReal) := by
  pointwise [val_main_v78, val_main_v77]
  simp only [v69, v72, up, ← EReal.coe_mul, coe_sum, ← EReal.coe_add]
  rfl
theorem dh_ref : val_main_v78 (F := Ideal) (up a.F) (up a.X) (up a.G) (up a.W) (up a.P) (up a.E) (up a.L) (up a.Z) (up a.B) (up a.O) = up fun i : S8192x1024.Idx => a.dh (i 0) (i 1) := by
  funext i
  idx_vars i
  exact v78 a i0 i1
theorem h2_ref : val_main_v20 (F := Ideal) (up a.F) (up a.X) (up a.G) (up a.W) = up fun i : S8192x1024.Idx => a.h2 (i 0) (i 1) := by
  funext i
  idx_vars i
  exact v20 a i0 i1

theorem gl_ref : val_main_v99 (F := Ideal) (up a.F) (up a.X) (up a.G) (up a.W) (up a.P) (up a.E) (up a.L) (up a.Z) (up a.B) (up a.O) = up fun i : S1x1024.Idx => ∑ t, a.gl (i 1) t := by
  funext i
  idx_vars i
  pointwise [val_main_v99, val_main_v84, val_main_v81, val_main_v80, val_main_v79, val_main_cst_22, val_main_cst_21]
  simp only [Fin.sum_univ_one, v34, v71, ← EReal.coe_mul, coe_sum]
  refine congrArg (fun b : ℝ => (b : EReal)) (Finset.sum_congr rfl fun t _ => ?_)
  unfold Reals.gl
  exact mul_comm _ _
theorem v83 (t : Fin 8192) (l : Fin 1024) : val_main_v83 (F := Ideal) (up a.F) (up a.X) (up a.G) (up a.W) (up a.P) (up a.E) (up a.L) (up a.Z) (up a.B) (up a.O) (ix2 t l) = ((a.de t l * a.L (ix2 0 l) : ℝ) : EReal) := by
  pointwise [val_main_v83, val_main_v82, val_main_v35, val_main_v21]
  rw [v71, ← EReal.coe_mul]
theorem v92 (t : Fin 8192) : val_main_v92 (F := Ideal) (up a.F) (up a.X) (up a.G) (up a.W) (up a.P) (up a.E) (up a.L) (up a.Z) (up a.B) (up a.O) (ix2 t 0)
    = (((∑ k, a.pe t k * (a.de t k * a.L (ix2 0 k))) * (-(1 / 2) * (irms 1024 (a.pe t) / msq 1024 (a.pe t))) / 1024 : ℝ) : EReal) := by
  pointwise [val_main_v92, val_main_v91, val_main_v90, val_main_v87, val_main_v86, val_main_v85, val_main_cst_24, val_main_cst_23]
  simp only [v83, v32, v1, ofBits_1024, ← EReal.coe_mul, coe_sum]
  exact coe_div (by norm_num)
theorem dpe_ref : val_main_v98 (F := Ideal) (up a.F) (up a.X) (up a.G) (up a.W) (up a.P) (up a.E) (up a.L) (up a.Z) (up a.B) (up a.O) = up fun i : S8192x1024.Idx => a.dpe (i 0) (i 1) := by
  funext i
  idx_vars i
  pointwise [val_main_v98, val_main_v97, val_main_v96, val_main_v95, val_main_v94, val_main_v93, val_main_v89, val_main_v88, val_main_cst_25]
  simp only [Fin.sum_univ_one, v92, v83, v29, v1, ← EReal.coe_mul, ← EReal.coe_add]
  exact congrArg (fun b : ℝ => (b : EReal)) (rbwd_plain (by norm_num) (a.pe i0) (fun k => a.de i0 k * a.L (ix2 0 k)) i1)

theorem gg_ref : val_main_v120 (F := Ideal) (up a.F) (up a.X) (up a.G) (up a.W) (up a.P) (up a.E) (up a.L) (up a.Z) (up a.B) (up a.O) = up fun i : S1x1024.Idx => ∑ t, a.gg (i 1) t := by
  funext i
  idx_vars i
  pointwise [val_main_v120, val_main_v105, val_main_v102, val_main_v101, val_main_v100, val_main_cst_27, val_main_cst_26]
  simp only [Fin.sum_univ_one, v16, v78, ← EReal.coe_mul, coe_sum]
  refine congrArg (fun b : ℝ => (b : EReal)) (Finset.sum_congr rfl fun t _ => ?_)
  unfold Reals.gg
  exact mul_comm _ _
theorem v104 (t : Fin 8192) (l : Fin 1024) : val_main_v104 (F := Ideal) (up a.F) (up a.X) (up a.G) (up a.W) (up a.P) (up a.E) (up a.L) (up a.Z) (up a.B) (up a.O) (ix2 t l) = ((a.dh t l * a.G (ix2 0 l) : ℝ) : EReal) := by
  pointwise [val_main_v104, val_main_v103, val_main_v17, val_main_v3]
  rw [v78, ← EReal.coe_mul]
theorem v113 (t : Fin 8192) : val_main_v113 (F := Ideal) (up a.F) (up a.X) (up a.G) (up a.W) (up a.P) (up a.E) (up a.L) (up a.Z) (up a.B) (up a.O) (ix2 t 0)
    = (((∑ k, a.ff t k * (a.dh t k * a.G (ix2 0 k))) * (-(1 / 2) * (irms 1024 (a.ff t) / msq 1024 (a.ff t))) / 1024 : ℝ) : EReal) := by
  pointwise [val_main_v113, val_main_v112, val_main_v111, val_main_v108, val_main_v107, val_main_v106, val_main_cst_29, val_main_cst_28]
  simp only [v104, v14, v0, ofBits_1024, ← EReal.coe_mul, coe_sum]
  exact coe_div (by norm_num)
theorem dff_ref : val_main_v119 (F := Ideal) (up a.F) (up a.X) (up a.G) (up a.W) (up a.P) (up a.E) (up a.L) (up a.Z) (up a.B) (up a.O) = up fun i : S8192x1024.Idx => a.dff (i 0) (i 1) := by
  funext i
  idx_vars i
  pointwise [val_main_v119, val_main_v118, val_main_v117, val_main_v116, val_main_v115, val_main_v114, val_main_v110, val_main_v109, val_main_cst_30]
  simp only [Fin.sum_univ_one, v113, v104, v11, v0, ← EReal.coe_mul, ← EReal.coe_add]
  exact congrArg (fun b : ℝ => (b : EReal)) (rbwd_plain (by norm_num) (a.ff i0) (fun k => a.dh i0 k * a.G (ix2 0 k)) i1)

end Cert.PleLossRefIdeal.Val

end
-- ==== Proof.PleLossPair.lean ====
/- The claims about the loss and the per-layer gate: the last feed-forward product, its norm, and the gradients back to both products. -/
module

public import proofs.«01_k».proof.Proof.PleLossRun
public import proofs.«01_k».proof.Proof.PleLossRef
public import proofs.«01_k».proof.Proof.Gen.PleLoss.Frame
public import proofs.«01_k».proof.Proof.Gen.PleLossRefIdeal.Run
public import proofs.«01_k».proof.Proof.Gen.Pre_finite_ple_loss

@[expose] public section

noncomputable section

namespace Cert.PleLossPair

open Idealize.ShloMosaic Idealize.ShloMosaic.TcCoe Idealize.SL.Sem Cert.RealKit Cert.PleLossIdeal Cert.PleLossIdeal.Val

theorem finite (m : (ℓ : Loc nD τ sig) → Buf (Elt Ideal) ℓ) (h : Cert.Pre_PleLossIdeal_finite_ple_loss m) (c : Dev nD) : ∃ a : Reals, Holds m c a := by
  have e := congrFun (h c) (fun a => a.elim0)
  dsimp only [Cert.Pre_finite_ple_loss.fn, Cert.Pre_finite_ple_loss.fn_part1, Cert.Pre_finite_ple_loss.fn_part2] at e
  simp only [and_split] at e
  obtain ⟨⟨⟨⟨⟨⟨⟨⟨⟨h0, h1⟩, h2⟩, h3⟩, h4⟩, h5⟩, h6⟩, h7⟩, h8⟩, h9⟩ := e
  exact ⟨⟨_, _, _, _, _, _, _, _, _, _⟩, real_of_all _ _ _ _ _ h0,
    real_of_all _ _ _ _ _ h1,
    real_of_all _ _ _ _ _ h2,
    real_of_all _ _ _ _ _ h3,
    real_of_all _ _ _ _ _ h4,
    real_of_all _ _ _ _ _ h5,
    real_of_all _ _ _ _ _ h6,
    real_of_all _ _ _ _ _ h7,
    real_of_all _ _ _ _ _ h8,
    real_of_all _ _ _ _ _ h9⟩

set_option maxHeartbeats 2000000 in
theorem value : Cert.algebraic_PleLossIdeal_PleLossRefIdeal_pre_finite_ple_loss := by
  intro m g m' g' hpre hagree
  choose a h using finite m hpre
  refine ⟨fun c => up fun _ => ∑ l, ∑ t, (a c).loss l t,
    fun c => up fun i => (a c).P i,
    fun c => up fun i => (a c).h2 (i 0) (i 1),
    fun c => up fun i => (a c).dh (i 0) (i 1),
    fun c => up fun i => (a c).dz (i 0) (i 1),
    fun c => up fun i => (a c).dpe (i 0) (i 1),
    fun c => up fun i => (a c).dff (i 0) (i 1),
    fun c => up fun i => ∑ t, (a c).gl (i 1) t,
    fun c => up fun i => ∑ t, (a c).gb (i 1) t,
    fun c => up fun i => ∑ t, (a c).gg (i 1) t, ?_, ?_⟩
  · refine (θ_run _ _ _).mono (fun r hr c => ?_) (PleLossIdeal.Val.run (F := Ideal) m g)
    exact ⟨(hr.1 c _ (Gen.mem_uc main_v10 (by decide))).trans (loss_eq g (h c)),
      (hr.1 c _ (Gen.mem_uc main_v11 (by decide))).trans (p_eq g (h c)),
      (hr.1 c _ (Gen.mem_uc main_v12 (by decide))).trans (h2_eq g (h c)),
      (hr.1 c _ (Gen.mem_uc main_v9_2 (by decide))).trans (dh_eq g (h c)),
      (hr.1 c _ (Gen.mem_uc main_v13 (by decide))).trans (dz_eq g (h c)),
      (hr.1 c _ (Gen.mem_uc main_v14 (by decide))).trans (dpe_eq g (h c)),
      (hr.1 c _ (Gen.mem_uc main_v15 (by decide))).trans (dff_eq g (h c)),
      (hr.1 c _ (Gen.mem_uc main_v9_7 (by decide))).trans (gl_eq g (h c)),
      (hr.1 c _ (Gen.mem_uc main_v9_8 (by decide))).trans (gb_eq g (h c)),
      (hr.1 c _ (Gen.mem_uc main_v9_9 (by decide))).trans (gg_eq g (h c)),
      (hr.1 c _ (Gen.mem_uc main_arg0 (by decide))).trans (Gen.W5_main_arg0 m g c),
      (hr.1 c _ (Gen.mem_uc main_arg1 (by decide))).trans (Gen.W5_main_arg1 m g c),
      (hr.1 c _ (Gen.mem_uc main_arg2 (by decide))).trans (Gen.W5_main_arg2 m g c),
      (hr.1 c _ (Gen.mem_uc main_arg3 (by decide))).trans (Gen.W5_main_arg3 m g c),
      (hr.1 c _ (Gen.mem_uc main_arg4 (by decide))).trans (Gen.W5_main_arg4 m g c),
      (hr.1 c _ (Gen.mem_uc main_arg5 (by decide))).trans (Gen.W5_main_arg5 m g c),
      (hr.1 c _ (Gen.mem_uc main_arg6 (by decide))).trans (Gen.W5_main_arg6 m g c),
      (hr.1 c _ (Gen.mem_uc main_arg7 (by decide))).trans (Gen.W5_main_arg7 m g c),
      (hr.1 c _ (Gen.mem_uc main_arg8 (by decide))).trans (Gen.W5_main_arg8 m g c),
      (hr.1 c _ (Gen.mem_uc main_arg9 (by decide))).trans (Gen.W5_main_arg9 m g c)⟩
  · refine (θ_run _ _ _).mono (fun r hr c => ?_) (Cert.PleLossRefIdeal.Value.run (F := Ideal) m' g')
    obtain ⟨a0, a1, a2, a3, a4, a5, a6, a7, a8, a9⟩ := hagree c
    obtain ⟨h0, h1, h2, h3, h4, h5, h6, h7, h8, h9, hb⟩ := hr c
    have b0 := a0.trans (h c).F
    have b1 := a1.trans (h c).X
    have b2 := a2.trans (h c).G
    have b3 := a3.trans (h c).W
    have b4 := a4.trans (h c).P
    have b5 := a5.trans (h c).E
    have b6 := a6.trans (h c).L
    have b7 := a7.trans (h c).Z
    have b8 := a8.trans (h c).B
    have b9 := a9.trans (h c).O
    refine ⟨h0.trans ?_, h1.trans b4, h2.trans ?_, h3.trans ?_, h4.trans ?_, h5.trans ?_, h6.trans ?_, h7.trans ?_, h8.trans ?_, h9.trans ?_, hb⟩
    · refine (PleLossRefIdeal.Read.val_main_v63_eq _ _).trans ?_
      rw [b0, b1, b2, b3, b4, b5, b6, b7, b8, b9]
      exact PleLossRefIdeal.Val.loss_ref (a c)
    · refine (PleLossRefIdeal.Read.val_main_v20_eq _ _ _ _).trans ?_
      rw [b0, b1, b2, b3]
      exact PleLossRefIdeal.Val.h2_ref (a c)
    · refine (PleLossRefIdeal.Read.val_main_v78_eq _ _).trans ?_
      rw [b0, b1, b2, b3, b4, b5, b6, b7, b8, b9]
      exact PleLossRefIdeal.Val.dh_ref (a c)
    · refine (PleLossRefIdeal.Read.val_main_v72_eq _ _).trans ?_
      rw [b0, b1, b2, b3, b4, b5, b6, b7, b8, b9]
      exact PleLossRefIdeal.Val.dz_ref (a c)
    · refine (PleLossRefIdeal.Read.val_main_v98_eq _ _).trans ?_
      rw [b0, b1, b2, b3, b4, b5, b6, b7, b8, b9]
      exact PleLossRefIdeal.Val.dpe_ref (a c)
    · refine (PleLossRefIdeal.Read.val_main_v119_eq _ _).trans ?_
      rw [b0, b1, b2, b3, b4, b5, b6, b7, b8, b9]
      exact PleLossRefIdeal.Val.dff_ref (a c)
    · refine (PleLossRefIdeal.Read.val_main_v99_eq _ _).trans ?_
      rw [b0, b1, b2, b3, b4, b5, b6, b7, b8, b9]
      exact PleLossRefIdeal.Val.gl_ref (a c)
    · refine (PleLossRefIdeal.Read.val_main_v76_eq _ _).trans ?_
      rw [b0, b1, b2, b3, b4, b5, b6, b7, b8, b9]
      exact PleLossRefIdeal.Val.gb_ref (a c)
    · refine (PleLossRefIdeal.Read.val_main_v120_eq _ _).trans ?_
      rw [b0, b1, b2, b3, b4, b5, b6, b7, b8, b9]
      exact PleLossRefIdeal.Val.gg_ref (a c)

theorem frame_kernel : Cert.quiescent_PleLoss := fun m g _ => Cert.PleLoss.Gen.frame m g

theorem frame_ideal : Cert.quiescent_PleLossIdeal := fun m g _ => Gen.frame m g

theorem frame_ref : Cert.quiescent_PleLossRefIdeal := by
  intro m g _
  exact (θ_run _ _ _).mono (fun r h => ⟨fun c => (h c).2.2.2.2.2.2.2.2.2.2, sem_eq_zero_of_no_sems (by decide) r.2⟩) (Cert.PleLossRefIdeal.Value.run (F := Ideal) m g)

theorem preserves : Cert.preserves_PleLoss_PleLossIdeal := trivial

end Cert.PleLossPair

end
-- ==== Proof.QkvBwdRope.lean ====
/- The rotary's gradient over the real numbers, and the values `QkvBwdIdeal`'s body computes from real rows. -/
module

public import proofs.«01_k».proof.Proof.Gen.QkvBwdIdeal.Frame
public import proofs.«01_k».proof.Proof.RmsKit

@[expose] public section

set_option maxRecDepth 16384

noncomputable section

namespace Cert.QkvBwdIdeal.Val

open Idealize.ShloMosaic Idealize.ShloMosaic.TcCoe Idealize.SL.Sem Cert.RealKit
open Cert.QkvBwdIdeal Cert.QkvBwdIdeal.Gen

theorem ofBits_384 : Ideal.ofBits .f32 0x43C00000#32 = ((384 : ℝ) : EReal) := by
  rw [ofBits_f32 _ 135 4194304 (by decide) (by decide) (by decide) (by decide) (by decide)]; norm_num
theorem ofBits_256 : Ideal.ofBits .f32 0x43800000#32 = ((256 : ℝ) : EReal) := by
  rw [ofBits_f32 _ 135 0 (by decide) (by decide) (by decide) (by decide) (by decide)]; norm_num
theorem ofBits_16 : Ideal.ofBits .f32 0x41800000#32 = ((16 : ℝ) : EReal) := by
  rw [ofBits_f32 _ 131 0 (by decide) (by decide) (by decide) (by decide) (by decide)]; norm_num
theorem ofBits_64 : Ideal.ofBits .f32 0x42800000#32 = ((64 : ℝ) : EReal) := by
  rw [ofBits_f32 _ 133 0 (by decide) (by decide) (by decide) (by decide) (by decide)]; norm_num
theorem ofBits_10000 : Ideal.ofBits .f32 0x461C4000#32 = ((10000 : ℝ) : EReal) := by
  rw [ofBits_f32 _ 140 1851392 (by decide) (by decide) (by decide) (by decide) (by decide)]; norm_num
theorem ofBits_1 : Ideal.ofBits .f32 0x3F800000#32 = ((1 : ℝ) : EReal) := by
  rw [ofBits_f32 _ 127 0 (by decide) (by decide) (by decide) (by decide) (by decide)]; norm_num

/-- The ten arguments, nine of them real. -/
structure Reals where
  Q : S1x8192x384.Idx → ℝ
  K : S1x8192x256.Idx → ℝ
  P : S1x8192.Idx → BitVec 32
  gq : S1x384.Idx → ℝ
  Wq : S384x768.Idx → ℝ
  gk : S1x256.Idx → ℝ
  Wk : S256x1024.Idx → ℝ
  Dq : S1x8192x8x96.Idx → ℝ
  Dk : S1x8192x8x96.Idx → ℝ
  Dv : S1x8192x8x64.Idx → ℝ

namespace Reals

variable (a : Reals) (t : Fin 8192)

/-- A row's rotary angles, and the transposed rotation of lanes 64 to 95 by them. -/
def ang (j : ℕ) : ℝ := ((a.P (ix2 0 t)).toInt : ℝ) * (1 / Real.rpow 10000 ((j : ℝ) / 16))
def rot (y : ℕ → ℝ) (l : ℕ) : ℝ :=
  if l < 64 then y l else if l < 80 then y l * Real.cos (a.ang t (l - 64)) + y (l + 16) * Real.sin (a.ang t (l - 64))
  else if l < 96 then y l * Real.cos (a.ang t (l - 80)) - y (l - 16) * Real.sin (a.ang t (l - 80)) else 0

/-- A head's row of each of the three gradients and of the two projections, zero beyond its lanes. -/
def dq (h l : ℕ) : ℝ := if hl : h < 8 ∧ l < 96 then a.Dq (ix4 0 t ⟨h, hl.1⟩ ⟨l, hl.2⟩) else 0
def dk (h l : ℕ) : ℝ := if hl : h < 8 ∧ l < 96 then a.Dk (ix4 0 t ⟨h, hl.1⟩ ⟨l, hl.2⟩) else 0
def dv (h l : ℕ) : ℝ := if hl : h < 8 ∧ l < 64 then a.Dv (ix4 0 t ⟨h, hl.1⟩ ⟨l, hl.2⟩) else 0
def wq (j : Fin 384) (h l : ℕ) : ℝ := if hl : h < 8 ∧ l < 96 then a.Wq (ix2 j ⟨h * 96 + l, by omega⟩) else 0
def wk (j : Fin 256) (h l : ℕ) : ℝ := if hl : h < 8 ∧ l < 128 then a.Wk (ix2 j ⟨h * 128 + l, by omega⟩) else 0

/-- The gradients of the projected heads, of the shared rotary row, and of the two normed rows. -/
def dqh (h l : ℕ) : ℝ := a.rot t (a.dq t h) l
def dkn (h l : ℕ) : ℝ := if l < 64 then a.dk t h l else 0
def dkr (l : ℕ) : ℝ := if 64 ≤ l ∧ l < 96 then a.rot t (fun l => ∑ h : Fin 8, a.dk t h.val l) l else 0
def dcqn (j : Fin 384) : ℝ := ∑ h : Fin 8, ∑ l : Fin 96, a.dqh t h.val l.val * a.wq j h.val l.val
def dckvn (j : Fin 256) : ℝ := (∑ h : Fin 8, ∑ l : Fin 64, a.dk t h.val l.val * a.wk j h.val l.val) + ∑ h : Fin 8, ∑ l : Fin 64, a.dv t h.val l.val * a.wk j h.val (64 + l.val)

def q (k : Fin 384) : ℝ := a.Q (ix3 0 t k)
def kv (k : Fin 256) : ℝ := a.K (ix3 0 t k)
def dcq (k : Fin 384) : ℝ := rbwd 384 (a.q t) (fun j => a.dcqn t j * a.gq (ix2 0 j)) k
def dckv (k : Fin 256) : ℝ := rbwd 256 (a.kv t) (fun j => a.dckvn t j * a.gk (ix2 0 j)) k
def gainQ (k : Fin 384) (t : Fin 8192) : ℝ := a.dcqn t k * (a.q t k * irms 384 (a.q t))
def gainK (k : Fin 256) (t : Fin 8192) : ℝ := a.dckvn t k * (a.kv t k * irms 256 (a.kv t))

/-- The three tables of a row, lane by lane. -/
def tabA (l : ℕ) : ℝ := if l < 64 then 1 else if l < 80 then Real.cos (a.ang t (l - 64)) else if l < 96 then Real.cos (a.ang t (l - 80)) else 0
def tabB (l : ℕ) : ℝ := if 64 ≤ l ∧ l < 80 then -Real.sin (a.ang t (l - 64)) else 0
def tabC (l : ℕ) : ℝ := if 80 ≤ l ∧ l < 96 then Real.sin (a.ang t (l - 80)) else 0

/-- A row times the three tables, two of the products rotated round the lanes. -/
def turn (y : ℕ → ℝ) (l : ℕ) : ℝ := y l * a.tabA t l + y ((l + 112) % 128) * a.tabB t ((l + 112) % 128) + y ((l + 16) % 128) * a.tabC t ((l + 16) % 128)

theorem turn_eq (y : ℕ → ℝ) (l : ℕ) (hl : l < 128) : a.turn t y l = a.rot t y l := by
  unfold turn rot tabA tabB tabC
  by_cases h1 : l < 64
  · rw [if_pos h1, if_pos h1, if_neg (by omega), if_neg (by omega)]; ring
  by_cases h2 : l < 80
  · rw [if_neg h1, if_pos h2, if_neg h1, if_pos h2, if_neg (by omega), if_pos (by omega), show (l + 16) % 128 = l + 16 by omega, show l + 16 - 80 = l - 64 by omega]; ring
  by_cases h3 : l < 96
  · rw [if_neg h1, if_neg h2, if_pos h3, if_neg h1, if_neg h2, if_pos h3, if_pos (by omega), if_neg (by omega), show (l + 112) % 128 = l - 16 by omega,
      show l - 16 - 64 = l - 80 by omega]; ring
  · rw [if_neg h1, if_neg h2, if_neg h3, if_neg h1, if_neg h2, if_neg h3, if_neg (by omega), if_neg (by omega)]; ring

theorem rot_congr (y z : ℕ → ℝ) (l : ℕ) (hl : 64 ≤ l) (h : ∀ k, 64 ≤ k → k < 96 → y k = z k) : a.rot t y l = a.rot t z l := by
  have n1 : ¬ l < 64 := by omega
  unfold rot
  rw [if_neg n1, if_neg n1]
  by_cases h2 : l < 80
  · rw [if_pos h2, if_pos h2, h l hl (by omega), h (l + 16) (by omega) (by omega)]
  rw [if_neg h2, if_neg h2]
  by_cases h3 : l < 96
  · rw [if_pos h3, if_pos h3, h l hl h3, h (l - 16) (by omega) (by omega)]
  · rw [if_neg h3, if_neg h3]

end Reals

/-- A sum over the lanes of eight heads, head by head. -/
theorem sum_heads (n N : ℕ) (hN : 8 * n = N) (f : Fin N → ℝ) : ∑ c, f c = ∑ h : Fin 8, ∑ l : Fin n, f ⟨h.val * n + l.val, by
    have := h.isLt; have := l.isLt; subst hN; nlinarith⟩ := by
  subst hN
  rw [← finProdFinEquiv.sum_comp, Fintype.sum_prod_type]
  refine Finset.sum_congr rfl fun h _ => Finset.sum_congr rfl fun l _ => congrArg f (Fin.ext ?_)
  show l.val + n * h.val = h.val * n + l.val
  ring

/-- The same sum over 128 padded lanes a head. -/
theorem sum_pad (m k : ℕ) (hm : m + k = 128) (F : ℕ → ℕ → ℝ) (hz : ∀ h l, m ≤ l → l < 128 → F h l = 0) :
    ∑ c : Fin 1024, F (c.val / 128) (c.val % 128) = ∑ h : Fin 8, ∑ l : Fin m, F h.val l.val := by
  rw [sum_heads 128 1024 rfl]
  refine Finset.sum_congr rfl fun h _ => ?_
  have e : ∀ l : Fin 128, F ((h.val * 128 + l.val) / 128) ((h.val * 128 + l.val) % 128) = F h.val l.val := fun l => by
    have := l.isLt
    rw [show (h.val * 128 + l.val) / 128 = h.val by omega, show (h.val * 128 + l.val) % 128 = l.val by omega]
  simp only [e]
  rw [← Finset.sum_range (F h.val), ← Finset.sum_range (F h.val), ← hm, Finset.sum_range_add,
    Finset.sum_eq_zero (s := Finset.range k) fun l hl => hz h.val (m + l) (by omega) (by have := Finset.mem_range.1 hl; omega), add_zero]

/-- The turn of any slab. -/
def turnAt (v A B C : FVec Ideal S512x128 .f32) : FVec Ideal S512x128 .f32 :=
  addf (addf (mulf v A) (dynamicRotate 1 16#32 none (mulf v B) rotates_S512x128_d1)) (dynamicRotate 1 112#32 none (mulf v C) rotates_S512x128_d1)

theorem turnAt_apply (a : Reals) (t : Fin 8192) (v A B C : FVec Ideal S512x128 .f32) (r : Fin 512) (y : ℕ → ℝ) (hv : ∀ l : Fin 128, v (ix2 r l) = y l.val)
    (hA : ∀ l : Fin 128, A (ix2 r l) = a.tabA t l.val) (hB : ∀ l : Fin 128, B (ix2 r l) = a.tabB t l.val) (hC : ∀ l : Fin 128, C (ix2 r l) = a.tabC t l.val) (l : Fin 128) :
    turnAt v A B C (ix2 r l) = (a.rot t y l.val : EReal) := by
  rw [← a.turn_eq t y l.val l.isLt, Reals.turn]
  have e1 : ∀ (h : (l.val + 112) % 128 < 128), v (ix2 r ⟨(l.val + 112) % 128, h⟩) * B (ix2 r ⟨(l.val + 112) % 128, h⟩)
      = ((y ((l.val + 112) % 128) * a.tabB t ((l.val + 112) % 128) : ℝ) : EReal) := fun h => by rw [hv, hB, EReal.coe_mul]
  have e2 : ∀ (h : (l.val + 16) % 128 < 128), v (ix2 r ⟨(l.val + 16) % 128, h⟩) * C (ix2 r ⟨(l.val + 16) % 128, h⟩)
      = ((y ((l.val + 16) % 128) * a.tabC t ((l.val + 16) % 128) : ℝ) : EReal) := fun h => by rw [hv, hC, EReal.coe_mul]
  pointwise [turnAt]
  rw [EReal.coe_add, EReal.coe_add, ← e1 (Nat.mod_lt _ (by norm_num)), ← e2 (Nat.mod_lt _ (by norm_num)), EReal.coe_mul, ← hv, ← hA]
  simp only [show l.val + 128 - 16 = l.val + 112 by omega, show l.val + 128 - 112 = l.val + 16 by omega]

theorem cat8 (v0 v1 v2 v3 v4 v5 v6 v7 : FVec Ideal S512x128 .f32) (r : Fin 512) (f : ℕ → EReal)
    (h0 : ∀ l : Fin 128, v0 (ix2 r l) = f (0 + l.val)) (h1 : ∀ l : Fin 128, v1 (ix2 r l) = f (128 + l.val)) (h2 : ∀ l : Fin 128, v2 (ix2 r l) = f (256 + l.val))
    (h3 : ∀ l : Fin 128, v3 (ix2 r l) = f (384 + l.val)) (h4 : ∀ l : Fin 128, v4 (ix2 r l) = f (512 + l.val)) (h5 : ∀ l : Fin 128, v5 (ix2 r l) = f (640 + l.val))
    (h6 : ∀ l : Fin 128, v6 (ix2 r l) = f (768 + l.val)) (h7 : ∀ l : Fin 128, v7 (ix2 r l) = f (896 + l.val)) (c : Fin 1024) :
    concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩]
      concatenates_S512x128_S512x128_S512x128_S512x128_S512x128_S512x128_S512x128_S512x128_S512x1024_d1 (ix2 r c) = f c.val := by
  pointwise []
  have hc := c.isLt
  by_cases g0 : c.val < 128
  · rw [dif_pos (by omega)]; exact (h0 _).trans (congrArg f (by dsimp only; omega))
  by_cases g1 : c.val < 256
  · rw [dif_neg (by omega), dif_pos (by omega)]; exact (h1 _).trans (congrArg f (by dsimp only; omega))
  by_cases g2 : c.val < 384
  · rw [dif_neg (by omega), dif_neg (by omega), dif_pos (by omega)]; exact (h2 _).trans (congrArg f (by dsimp only; omega))
  by_cases g3 : c.val < 512
  · rw [dif_neg (by omega), dif_neg (by omega), dif_neg (by omega), dif_pos (by omega)]; exact (h3 _).trans (congrArg f (by dsimp only; omega))
  by_cases g4 : c.val < 640
  · rw [dif_neg (by omega), dif_neg (by omega), dif_neg (by omega), dif_neg (by omega), dif_pos (by omega)]; exact (h4 _).trans (congrArg f (by dsimp only; omega))
  by_cases g5 : c.val < 768
  · rw [dif_neg (by omega), dif_neg (by omega), dif_neg (by omega), dif_neg (by omega), dif_neg (by omega), dif_pos (by omega)]; exact (h5 _).trans (congrArg f (by dsimp only; omega))
  by_cases g6 : c.val < 896
  · rw [dif_neg (by omega), dif_neg (by omega), dif_neg (by omega), dif_neg (by omega), dif_neg (by omega), dif_neg (by omega), dif_pos (by omega)]; exact (h6 _).trans (congrArg f (by dsimp only; omega))
  · rw [dif_neg (by omega), dif_neg (by omega), dif_neg (by omega), dif_neg (by omega), dif_neg (by omega), dif_neg (by omega), dif_neg (by omega)]; exact (h7 _).trans (congrArg f (by dsimp only; omega))

/-- A function of every head's slab, the results side by side. -/
def slabs (f : FVec Ideal S512x128 .f32 → FVec Ideal S512x128 .f32) (y : FVec Ideal S512x1024 .f32) : FVec Ideal S512x1024 .f32 :=
  concatenate S512x1024 1 [⟨S512x128, f (extractStridedSlice S512x128 ![0, 0] y slices_S512x1024_o0_0_S512x128)⟩, ⟨S512x128, f (extractStridedSlice S512x128 ![0, 128] y slices_S512x1024_o0_128_S512x128)⟩,
    ⟨S512x128, f (extractStridedSlice S512x128 ![0, 256] y slices_S512x1024_o0_256_S512x128)⟩, ⟨S512x128, f (extractStridedSlice S512x128 ![0, 384] y slices_S512x1024_o0_384_S512x128)⟩,
    ⟨S512x128, f (extractStridedSlice S512x128 ![0, 512] y slices_S512x1024_o0_512_S512x128)⟩, ⟨S512x128, f (extractStridedSlice S512x128 ![0, 640] y slices_S512x1024_o0_640_S512x128)⟩,
    ⟨S512x128, f (extractStridedSlice S512x128 ![0, 768] y slices_S512x1024_o0_768_S512x128)⟩, ⟨S512x128, f (extractStridedSlice S512x128 ![0, 896] y slices_S512x1024_o0_896_S512x128)⟩]
    concatenates_S512x128_S512x128_S512x128_S512x128_S512x128_S512x128_S512x128_S512x128_S512x1024_d1

theorem mask_apply (r : Fin 512) (l : Fin 128) : k0_pay11 (ix2 r l) = BitVec.ofBool (decide (l.val < 64)) := by
  have := l.isLt
  pointwise [k0_pay11]
  word_cmp

theorem cut_apply (o : ℕ) (hs) (x : FVec Ideal S512x1024 .f32) (r : Fin 512) (F : ℕ → ℕ → ℝ) (hx : ∀ c : Fin 1024, x (ix2 r c) = (F (c.val / 128) (c.val % 128) : EReal))
    (h : ℕ) (ho : o = h * 128) (hh : h < 8) (l : Fin 128) : extractStridedSlice S512x128 ![0, o] x hs (ix2 r l) = (F h l.val : EReal) := by
  have hl := l.isLt
  have e : extractStridedSlice S512x128 ![0, o] x hs (ix2 r l) = x (ix2 r ⟨o + l.val, by omega⟩) := by
    pointwise []
    try blk_ext []
  rw [e, hx]
  show (F ((o + l.val) / 128) ((o + l.val) % 128) : EReal) = _
  rw [show (o + l.val) / 128 = h by omega, show (o + l.val) % 128 = l.val by omega]

theorem slabs_apply (f : FVec Ideal S512x128 .f32 → FVec Ideal S512x128 .f32) (y : FVec Ideal S512x1024 .f32) (r : Fin 512) (F G : ℕ → ℕ → ℝ)
    (hy : ∀ c : Fin 1024, y (ix2 r c) = (F (c.val / 128) (c.val % 128) : EReal))
    (hf : ∀ v h, (∀ l : Fin 128, v (ix2 r l) = (F h l.val : EReal)) → ∀ l : Fin 128, f v (ix2 r l) = (G h l.val : EReal)) (c : Fin 1024) :
    slabs f y (ix2 r c) = (G (c.val / 128) (c.val % 128) : EReal) := by
  have key : ∀ (o h : ℕ) (hs) (ho : o = h * 128) (hh : h < 8) (l : Fin 128), f (extractStridedSlice S512x128 ![0, o] y hs) (ix2 r l)
      = (G ((o + l.val) / 128) ((o + l.val) % 128) : EReal) := by
    intro o h hs ho hh l
    have hl := l.isLt
    rw [show (o + l.val) / 128 = h by omega, show (o + l.val) % 128 = l.val by omega]
    exact hf _ h (cut_apply o hs y r F hy h ho hh) l
  exact cat8 _ _ _ _ _ _ _ _ r (fun c => (G (c / 128) (c % 128) : EReal)) (key 0 0 _ rfl (by norm_num)) (key 128 1 _ rfl (by norm_num)) (key 256 2 _ rfl (by norm_num))
    (key 384 3 _ rfl (by norm_num)) (key 512 4 _ rfl (by norm_num)) (key 640 5 _ rfl (by norm_num)) (key 768 6 _ rfl (by norm_num)) (key 896 7 _ rfl (by norm_num)) c

/-- The lanes below 64 of a slab, and the others. -/
theorem low_apply (v : FVec Ideal S512x128 .f32) (r : Fin 512) (y : ℕ → ℝ) (hv : ∀ l : Fin 128, v (ix2 r l) = (y l.val : EReal)) (l : Fin 128) :
    select k0_pay11 v (broadcast S512x128 (Scalar.ofBits .f32 0x00000000#32)) (ix2 r l) = ((if l.val < 64 then y l.val else 0 : ℝ) : EReal) := by
  pointwise []
  rw [mask_apply, hv]
  by_cases h : l.val < 64 <;> simp [Scalar.select, h]
theorem high_apply (v : FVec Ideal S512x128 .f32) (r : Fin 512) (y : ℕ → ℝ) (hv : ∀ l : Fin 128, v (ix2 r l) = (y l.val : EReal)) (l : Fin 128) :
    select k0_pay11 (broadcast S512x128 (Scalar.ofBits .f32 0x00000000#32)) v (ix2 r l) = ((if l.val < 64 then 0 else y l.val : ℝ) : EReal) := by
  pointwise []
  rw [mask_apply, hv]
  by_cases h : l.val < 64 <;> simp [Scalar.select, h]

section Rows

variable (a : Reals) (t : Fin 8192) (r : Fin 512)

/-- The three arrays of padded heads and the shared rotary row, from the blocks. -/
def dqhAt (x : FVec Ideal S512x1024 .f32) (A B C : FVec Ideal S512x128 .f32) : FVec Ideal S512x1024 .f32 :=
  k0_pay39 (k0_pay5 x) (k0_pay8 A) (k0_pay9 B) (k0_pay10 C) (k0_pay12 x A B C) (k0_pay19 (k0_pay17 x A B) (k0_pay18 x C))
    (k0_pay22 (k0_pay5 x) (k0_pay8 A) (k0_pay9 B) (k0_pay10 C)) (k0_pay25 (k0_pay5 x) (k0_pay8 A) (k0_pay9 B) (k0_pay10 C))
    (k0_pay30 (k0_pay5 x) (k0_pay8 A) (k0_pay9 B) (k0_pay10 C)) (k0_pay33 (k0_pay5 x) (k0_pay8 A) (k0_pay9 B) (k0_pay10 C))
    (k0_pay37 (k0_pay5 x) (k0_pay8 A) (k0_pay9 B) (k0_pay10 C))
def dknAt (x : FVec Ideal S512x1024 .f32) : FVec Ideal S512x1024 .f32 :=
  k0_pay40 (k0_pay6 x) k0_pay11 (k0_pay13 x) (k0_pay20 (k0_pay6 x) k0_pay11) (k0_pay23 (k0_pay6 x) k0_pay11) (k0_pay26 (k0_pay6 x) k0_pay11)
    (k0_pay31 (k0_pay6 x) k0_pay11) (k0_pay34 (k0_pay6 x) k0_pay11) (k0_pay38 (k0_pay6 x)) (Scalar.ofBits .f32 0x00000000#32)
def dvnAt (x : FVec Ideal S512x1024 .f32) : FVec Ideal S512x1024 .f32 :=
  k0_pay41 (k0_pay7 x) k0_pay11 (k0_pay15 x) (k0_pay21 (k0_pay7 x) k0_pay11) (k0_pay24 (k0_pay7 x) k0_pay11)
    (k0_pay29 k0_pay11 (k0_pay28 (k0_pay7 x)) (Scalar.ofBits .f32 0x00000000#32)) (k0_pay32 (k0_pay7 x) k0_pay11) (k0_pay36 (k0_pay7 x) k0_pay11)
def dkrAt (x : FVec Ideal S512x1024 .f32) (A B C : FVec Ideal S512x128 .f32) : FVec Ideal S512x128 .f32 :=
  k0_pay42 (k0_pay6 x) (k0_pay8 A) (k0_pay9 B) (k0_pay10 C) (iota .tc S512x128 32 [1] iota_S512x128_d1_w32) k0_pay11
    (k0_pay35 (k0_pay6 x) k0_pay11 (k0_pay27 (k0_pay6 x) k0_pay11 (k0_pay14 x)))

variable (x : FVec Ideal S512x1024 .f32) (A B C : FVec Ideal S512x128 .f32)

theorem dqhAt_apply (hx : ∀ c : Fin 1024, x (ix2 r c) = (a.dq t (c.val / 128) (c.val % 128) : EReal))
    (hA : ∀ l : Fin 128, A (ix2 r l) = (a.tabA t l.val : EReal)) (hB : ∀ l : Fin 128, B (ix2 r l) = (a.tabB t l.val : EReal)) (hC : ∀ l : Fin 128, C (ix2 r l) = (a.tabC t l.val : EReal))
    (c : Fin 1024) : dqhAt x A B C (ix2 r c) = (a.dqh t (c.val / 128) (c.val % 128) : EReal) := by
  have h5 : k0_pay5 x = x := shapeCast_self _ _
  have h8 : k0_pay8 A = A := shapeCast_self _ _
  have h9 : k0_pay9 B = B := shapeCast_self _ _
  have h10 : k0_pay10 C = C := shapeCast_self _ _
  have e : dqhAt x A B C = slabs (fun v => turnAt v (k0_pay8 A) (k0_pay9 B) (k0_pay10 C)) (k0_pay5 x) := rfl
  rw [e, h5, h8, h9, h10]
  exact slabs_apply _ x r (a.dq t) (a.dqh t) hx (fun v h hv l => turnAt_apply a t v A B C r _ hv hA hB hC l) c

theorem dknAt_apply (hx : ∀ c : Fin 1024, x (ix2 r c) = (a.dk t (c.val / 128) (c.val % 128) : EReal)) (c : Fin 1024) :
    dknAt x (ix2 r c) = (a.dkn t (c.val / 128) (c.val % 128) : EReal) := by
  have h6 : k0_pay6 x = x := shapeCast_self _ _
  have e : dknAt x = slabs (fun v => select k0_pay11 v (broadcast S512x128 (Scalar.ofBits .f32 0x00000000#32))) (k0_pay6 x) := rfl
  rw [e, h6]
  exact slabs_apply _ x r (a.dk t) (a.dkn t) hx (fun v h hv l => low_apply v r _ hv l) c

theorem dv_low (h l : ℕ) : (if l < 64 then a.dv t h l else 0) = a.dv t h l := by
  unfold Reals.dv
  by_cases hl : l < 64
  · rw [if_pos hl]
  · rw [if_neg hl, dif_neg (by omega)]

theorem dvnAt_apply (hx : ∀ c : Fin 1024, x (ix2 r c) = (a.dv t (c.val / 128) (c.val % 128) : EReal)) (c : Fin 1024) :
    dvnAt x (ix2 r c) = (a.dv t (c.val / 128) (c.val % 128) : EReal) := by
  have h7 : k0_pay7 x = x := shapeCast_self _ _
  have e : dvnAt x = slabs (fun v => select k0_pay11 v (broadcast S512x128 (Scalar.ofBits .f32 0x00000000#32))) (k0_pay7 x) := rfl
  rw [e, h7]
  exact slabs_apply _ x r (a.dv t) (a.dv t) hx (fun v h hv l => (low_apply v r _ hv l).trans (by rw [dv_low])) c

/-- The sum of the eight heads' upper lanes. -/
def highs (y : FVec Ideal S512x1024 .f32) : FVec Ideal S512x128 .f32 :=
  have z : FVec Ideal S512x128 .f32 := broadcast S512x128 (Scalar.ofBits .f32 0x00000000#32)
  addf (addf (addf (addf (addf (addf (addf (addf z (select k0_pay11 z (extractStridedSlice S512x128 ![0, 0] y slices_S512x1024_o0_0_S512x128)))
    (select k0_pay11 z (extractStridedSlice S512x128 ![0, 128] y slices_S512x1024_o0_128_S512x128))) (select k0_pay11 z (extractStridedSlice S512x128 ![0, 256] y slices_S512x1024_o0_256_S512x128)))
    (select k0_pay11 z (extractStridedSlice S512x128 ![0, 384] y slices_S512x1024_o0_384_S512x128))) (select k0_pay11 z (extractStridedSlice S512x128 ![0, 512] y slices_S512x1024_o0_512_S512x128)))
    (select k0_pay11 z (extractStridedSlice S512x128 ![0, 640] y slices_S512x1024_o0_640_S512x128))) (select k0_pay11 z (extractStridedSlice S512x128 ![0, 768] y slices_S512x1024_o0_768_S512x128)))
    (select k0_pay11 z (extractStridedSlice S512x128 ![0, 896] y slices_S512x1024_o0_896_S512x128))

theorem highs_apply (F : ℕ → ℕ → ℝ) (hx : ∀ c : Fin 1024, x (ix2 r c) = (F (c.val / 128) (c.val % 128) : EReal)) (l : Fin 128) :
    highs x (ix2 r l) = ((if l.val < 64 then 0 else ∑ h : Fin 8, F h.val l.val : ℝ) : EReal) := by
  have key : ∀ (o h : ℕ) (hs) (ho : o = h * 128) (hh : h < 8), select k0_pay11 (broadcast S512x128 (Scalar.ofBits .f32 0x00000000#32)) (extractStridedSlice S512x128 ![0, o] x hs) (ix2 r l)
      = ((if l.val < 64 then 0 else F h l.val : ℝ) : EReal) := fun o h hs ho hh => high_apply _ r (F h) (cut_apply o hs x r F hx h ho hh) l
  unfold highs
  rw [addf_apply, addf_apply, addf_apply, addf_apply, addf_apply, addf_apply, addf_apply, addf_apply, key _ 0 _ rfl (by norm_num), key 128 1 _ rfl (by norm_num), key 256 2 _ rfl (by norm_num), key 384 3 _ rfl (by norm_num), key 512 4 _ rfl (by norm_num),
    key 640 5 _ rfl (by norm_num), key 768 6 _ rfl (by norm_num), key 896 7 _ rfl (by norm_num)]
  rw [show (broadcast S512x128 (Scalar.ofBits .f32 0x00000000#32) : FVec Ideal S512x128 .f32) (ix2 r l) = ((0 : ℝ) : EReal) from by pointwise []; exact EReal.coe_zero.symm]
  simp only [Ideal.addf_def, ← EReal.coe_add, Fin.sum_univ_eight]
  by_cases h : l.val < 64
  · simp [h]
  · simp [h]

theorem dkrAt_apply (hx : ∀ c : Fin 1024, x (ix2 r c) = (a.dk t (c.val / 128) (c.val % 128) : EReal))
    (hA : ∀ l : Fin 128, A (ix2 r l) = (a.tabA t l.val : EReal)) (hB : ∀ l : Fin 128, B (ix2 r l) = (a.tabB t l.val : EReal)) (hC : ∀ l : Fin 128, C (ix2 r l) = (a.tabC t l.val : EReal))
    (l : Fin 128) : dkrAt x A B C (ix2 r l) = (a.dkr t l.val : EReal) := by
  have h6 : k0_pay6 x = x := shapeCast_self _ _
  have h8 : k0_pay8 A = A := shapeCast_self _ _
  have h9 : k0_pay9 B = B := shapeCast_self _ _
  have h10 : k0_pay10 C = C := shapeCast_self _ _
  have hl := l.isLt
  have e : dkrAt x A B C = select (andi (cmpi .sge (iota .tc S512x128 32 [1] iota_S512x128_d1_w32) (broadcast S512x128 64#32))
      (cmpi .slt (iota .tc S512x128 32 [1] iota_S512x128_d1_w32) (broadcast S512x128 96#32)))
      (turnAt (highs (k0_pay6 x)) (k0_pay8 A) (k0_pay9 B) (k0_pay10 C)) (broadcast S512x128 (Scalar.ofBits .f32 0x00000000#32)) := rfl
  rw [e, h6, h8, h9, h10]
  have ht := turnAt_apply a t _ A B C r (fun l => if l < 64 then 0 else ∑ h : Fin 8, a.dk t h.val l) (highs_apply r x (a.dk t) hx) hA hB hC l
  have hm : andi (cmpi .sge (iota .tc S512x128 32 [1] iota_S512x128_d1_w32) (broadcast S512x128 64#32))
      (cmpi .slt (iota .tc S512x128 32 [1] iota_S512x128_d1_w32) (broadcast S512x128 96#32)) (ix2 r l) = BitVec.ofBool (decide (64 ≤ l.val ∧ l.val < 96)) := by
    pointwise []
    word_cmp
    simp only [Bool.decide_and]
  show Scalar.select (andi (cmpi .sge (iota .tc S512x128 32 [1] iota_S512x128_d1_w32) (broadcast S512x128 64#32))
      (cmpi .slt (iota .tc S512x128 32 [1] iota_S512x128_d1_w32) (broadcast S512x128 96#32)) (ix2 r l)) (turnAt (highs x) A B C (ix2 r l)) (Ideal.ofBits .f32 0x00000000#32) = _
  rw [hm, ht, Reals.dkr]
  by_cases h : 64 ≤ l.val ∧ l.val < 96
  · rw [if_pos h, a.rot_congr t _ (fun l => ∑ h : Fin 8, a.dk t h.val l) l.val h.1 fun k h1 h2 => if_neg (by omega)]
    simp [Scalar.select, h]
  · rw [if_neg h]
    simp [Scalar.select, h]

end Rows

end Cert.QkvBwdIdeal.Val

end
-- ==== Proof.QkvBwdRows.lean ====
/- The values `QkvBwdIdeal`'s body computes after its products, from real rows. -/
module

public import proofs.«01_k».proof.Proof.QkvBwdRope

@[expose] public section

set_option maxRecDepth 16384

noncomputable section

namespace Cert.QkvBwdIdeal.Val

open Idealize.ShloMosaic Idealize.ShloMosaic.TcCoe Idealize.SL.Sem Cert.RealKit
open Cert.QkvBwdIdeal Cert.QkvBwdIdeal.Gen

/-- The products with the transposed, padded projections. -/
theorem pay51_apply (x : FVec Ideal S512x1024 .bf16) (w : FVec Ideal S1024x384 .bf16) (r : Fin 512) (j : Fin 384) (X A : Fin 1024 → ℝ)
    (hx : ∀ c, x (ix2 r c) = X c) (hw : ∀ c, w (ix2 c j) = A c) : k0_pay51 (F := Ideal) x w (ix2 r j) = ((∑ c, X c * A c : ℝ) : EReal) := by
  pointwise [k0_pay51]
  simp only [hx, hw, ← EReal.coe_mul, coe_sum]
theorem pay52_apply (x : FVec Ideal S512x1024 .bf16) (w : FVec Ideal S1024x256 .bf16) (y : FVec Ideal S512x1024 .bf16) (v : FVec Ideal S1024x256 .bf16) (r : Fin 512) (j : Fin 256)
    (X A Y B : Fin 1024 → ℝ) (hx : ∀ c, x (ix2 r c) = X c) (hw : ∀ c, w (ix2 c j) = A c) (hy : ∀ c, y (ix2 r c) = Y c) (hv : ∀ c, v (ix2 c j) = B c) :
    k0_pay52 (F := Ideal) x w y v (ix2 r j) = (((∑ c, X c * A c) + ∑ c, Y c * B c : ℝ) : EReal) := by
  pointwise [k0_pay52]
  simp only [hx, hw, hy, hv, ← EReal.coe_mul, coe_sum, ← EReal.coe_add]

theorem dcqn_eq (a : Reals) (t : Fin 8192) (j : Fin 384) :
    ∑ c : Fin 1024, a.dqh t (c.val / 128) (c.val % 128) * a.wq j (c.val / 128) (c.val % 128) = a.dcqn t j :=
  sum_pad 96 32 rfl (fun h l => a.dqh t h l * a.wq j h l) fun h l hl _ => by
    show a.dqh t h l * a.wq j h l = 0
    rw [Reals.wq, dif_neg (by omega), mul_zero]
theorem dckvn_eq (a : Reals) (t : Fin 8192) (j : Fin 256) :
    (∑ c : Fin 1024, a.dkn t (c.val / 128) (c.val % 128) * (if c.val % 128 < 64 then a.wk j (c.val / 128) (c.val % 128) else 0))
      + ∑ c : Fin 1024, a.dv t (c.val / 128) (c.val % 128) * (if c.val % 128 < 64 then a.wk j (c.val / 128) (64 + c.val % 128) else 0) = a.dckvn t j := by
  unfold Reals.dckvn
  congr 1
  · refine (sum_pad 64 64 rfl (fun h l => a.dkn t h l * (if l < 64 then a.wk j h l else 0)) fun h l hl _ => ?_).trans ?_
    · show a.dkn t h l * (if l < 64 then a.wk j h l else 0) = 0
      rw [if_neg (by omega), mul_zero]
    · refine Finset.sum_congr rfl fun h _ => Finset.sum_congr rfl fun l _ => ?_
      show a.dkn t h.val l.val * (if l.val < 64 then a.wk j h.val l.val else 0) = _
      rw [Reals.dkn, if_pos l.isLt, if_pos l.isLt]
  · refine (sum_pad 64 64 rfl (fun h l => a.dv t h l * (if l < 64 then a.wk j h (64 + l) else 0)) fun h l hl _ => ?_).trans ?_
    · show a.dv t h l * (if l < 64 then a.wk j h (64 + l) else 0) = 0
      rw [if_neg (by omega), mul_zero]
    · refine Finset.sum_congr rfl fun h _ => Finset.sum_congr rfl fun l _ => ?_
      show a.dv t h.val l.val * (if l.val < 64 then a.wk j h.val (64 + l.val) else 0) = _
      rw [if_pos l.isLt]

/-- The two norms' rows, and the gradients through them. -/
theorem pay54_apply (x : FVec Ideal S512x384 .f32) (r : Fin 512) (X : Fin 384 → ℝ) (hx : ∀ k, x (ix2 r k) = X k) : k0_pay54 (F := Ideal) x (ix2 r 0) = ((irms 384 X : ℝ) : EReal) := by
  pointwise [k0_pay54, k0_pay53]
  simp only [hx, ofBits_384, ofBits_eps]
  exact coe_irms (by norm_num) X
theorem pay55_apply (x : FVec Ideal S512x384 .f32) (r : Fin 512) (X : Fin 384 → ℝ) (hx : ∀ k, x (ix2 r k) = X k) (k : Fin 384) :
    k0_pay55 (F := Ideal) x (ix2 r k) = ((X k * irms 384 X : ℝ) : EReal) := by
  pointwise [k0_pay55, k0_pay53]
  rw [pay54_apply x r X hx, hx, ← EReal.coe_mul]
theorem pay58_apply (x : FVec Ideal S512x256 .f32) (r : Fin 512) (X : Fin 256 → ℝ) (hx : ∀ k, x (ix2 r k) = X k) : k0_pay58 (F := Ideal) (k0_pay57 x) (ix2 r 0) = ((irms 256 X : ℝ) : EReal) := by
  pointwise [k0_pay58, k0_pay57, k0_pay56]
  simp only [hx, ofBits_256, ofBits_eps]
  exact coe_irms (by norm_num) X
theorem pay59_apply (x : FVec Ideal S512x256 .f32) (r : Fin 512) (X : Fin 256 → ℝ) (hx : ∀ k, x (ix2 r k) = X k) (k : Fin 256) :
    k0_pay59 (F := Ideal) (k0_pay56 x) (k0_pay57 x) (ix2 r k) = ((X k * irms 256 X : ℝ) : EReal) := by
  pointwise [k0_pay59, k0_pay56]
  rw [pay58_apply x r X hx, hx, ← EReal.coe_mul]

theorem pay62_apply (d : FVec Ideal S512x384 .f32) (x : FVec Ideal S512x384 .f32) (g : FVec Ideal S1x384 .f32) (r : Fin 512) (X D G : Fin 384 → ℝ) (hx : ∀ k, x (ix2 r k) = X k)
    (hd : ∀ k, d (ix2 r k) = D k) (hg : ∀ k, g (ix2 0 k) = G k) (k : Fin 384) :
    k0_pay62 (F := Ideal) d (k0_pay54 x) (k0_pay55 x) g (ix2 r k) = ((rbwd 384 X (fun k => D k * G k) k : ℝ) : EReal) := by
  have h1 := pay54_apply x r X hx
  have h2 := pay55_apply x r X hx
  pointwise [k0_pay62]
  simp only [hd, hg, h1, h2, ofBits_384, ← EReal.coe_mul, coe_sum]
  exact coe_rbwd (by norm_num) X _ k
theorem pay63_apply (d : FVec Ideal S512x256 .f32) (x : FVec Ideal S512x256 .f32) (g : FVec Ideal S1x256 .f32) (r : Fin 512) (X D G : Fin 256 → ℝ) (hx : ∀ k, x (ix2 r k) = X k)
    (hd : ∀ k, d (ix2 r k) = D k) (hg : ∀ k, g (ix2 0 k) = G k) (k : Fin 256) :
    k0_pay63 (F := Ideal) d (k0_pay56 x) (k0_pay57 x) g (ix2 r k) = ((rbwd 256 X (fun k => D k * G k) k : ℝ) : EReal) := by
  have h1 := pay58_apply x r X hx
  have h2 := pay59_apply x r X hx
  pointwise [k0_pay63]
  simp only [hd, hg, h1, h2, ofBits_256, ← EReal.coe_mul, coe_sum]
  exact coe_rbwd (by norm_num) X _ k

/-- One step's addition to each of the two running sums. -/
theorem pay60_apply (b : FVec Ideal S1x384 .f32) (l : Fin 384) (A : ℝ) (hb : b (ix2 0 l) = A) (n d : FVec Ideal S512x384 .f32) (N D : Fin 512 → ℝ)
    (hn : ∀ r, n (ix2 r l) = N r) (hd : ∀ r, d (ix2 r l) = D r) : k0_pay3 (F := Ideal) (k0_pay60 (F := Ideal) d n) b (ix2 0 l) = ((A + ∑ r, D r * N r : ℝ) : EReal) := by
  pointwise [k0_pay3, k0_pay60]
  simp only [hn, hd, hb, ← EReal.coe_mul, coe_sum, ← EReal.coe_add]
theorem pay61_apply (b : FVec Ideal S1x256 .f32) (l : Fin 256) (A : ℝ) (hb : b (ix2 0 l) = A) (x : FVec Ideal S512x256 .f32) (d : FVec Ideal S512x256 .f32) (N D : Fin 512 → ℝ)
    (hn : ∀ r, k0_pay59 (F := Ideal) (k0_pay56 x) (k0_pay57 x) (ix2 r l) = N r) (hd : ∀ r, d (ix2 r l) = D r) :
    k0_pay4 (F := Ideal) (k0_pay61 (F := Ideal) d (k0_pay56 x) (k0_pay57 x)) b (ix2 0 l) = ((A + ∑ r, D r * N r : ℝ) : EReal) := by
  pointwise [k0_pay4, k0_pay61]
  simp only [hn, hd, hb, ← EReal.coe_mul, coe_sum, ← EReal.coe_add]
theorem zero1 (l : Fin 384) : k0_pay1 (F := Ideal) (ix2 0 l) = ((0 : ℝ) : EReal) := by
  pointwise [k0_pay1]
  exact EReal.coe_zero.symm
theorem zero2 (l : Fin 256) : k0_pay2 (F := Ideal) (ix2 0 l) = ((0 : ℝ) : EReal) := by
  pointwise [k0_pay2]
  exact EReal.coe_zero.symm

end Cert.QkvBwdIdeal.Val

end
-- ==== Proof.QkvBwdStep.lean ====
/- What one step of `QkvBwdIdeal` leaves in the buffers it writes. -/
module

public import proofs.«01_k».proof.Proof.QkvBwdRows

@[expose] public section

set_option maxRecDepth 16384

noncomputable section

namespace Cert.QkvBwdIdeal.Val

open Idealize.ShloMosaic Idealize.ShloMosaic.TcCoe Idealize.SL.Sem Cert.RealKit
open Idealize.ShloMosaic.Pipeline (Dat)
open Cert.QkvBwdIdeal Cert.QkvBwdIdeal.Gen

theorem turned16 (a b c d e f g h i j k) : k0_pay43 (F := Ideal) a b c d e f g h i j k = truncf .bf16 (k0_pay39 a b c d e f g h i j k) bitsLt_bf16_f32 := rfl

variable (m : (ℓ : Loc nD τ sig) → Buf (Elt Ideal) ℓ) (c : Dev nD) (t : Fin cfg0.N)

/-- The blocks of a step, and the arrays computed from them. -/
def turned : FVec Ideal S512x1024 .f32 := dqhAt (iblk m c 0 t) (iblk m c 3 t) (iblk m c 4 t) (iblk m c 5 t)
def keys : FVec Ideal S512x1024 .f32 := dknAt (iblk m c 1 t)
def values : FVec Ideal S512x1024 .f32 := dvnAt (iblk m c 2 t)
def shared : FVec Ideal S512x128 .f32 := dkrAt (iblk m c 1 t) (iblk m c 3 t) (iblk m c 4 t) (iblk m c 5 t)
def gradQ : FVec Ideal S512x384 .f32 := k0_pay51 (k0_pay44 (truncf .bf16 (turned m c t) bitsLt_bf16_f32)) (iblk m c 10 t)
def gradK : FVec Ideal S512x256 .f32 := k0_pay52 (k0_pay45 (keys m c t)) (iblk m c 11 t) (k0_pay46 (values m c t)) (iblk m c 12 t)

set_option maxHeartbeats 3200000 in
theorem after13 : (dats m 0 c).after 13 t = k0_pay47 (turned m c t) := by
  rw [after0_13]
  by_cases h : t.val % 16 = 0
  · rw [outsAt0_A m c t h]; unfold turned dqhAt; dsimp only; frame_out
  · rw [outsAt0_B m c t h]; unfold turned dqhAt; dsimp only; frame_out
set_option maxHeartbeats 3200000 in
theorem after14 : (dats m 0 c).after 14 t = k0_pay48 (keys m c t) := by
  rw [after0_14]
  by_cases h : t.val % 16 = 0
  · rw [outsAt0_A m c t h]; unfold keys dknAt; dsimp only; frame_out
  · rw [outsAt0_B m c t h]; unfold keys dknAt; dsimp only; frame_out
set_option maxHeartbeats 3200000 in
theorem after15 : (dats m 0 c).after 15 t = k0_pay49 (values m c t) := by
  rw [after0_15]
  by_cases h : t.val % 16 = 0
  · rw [outsAt0_A m c t h]; unfold values dvnAt; dsimp only; frame_out
  · rw [outsAt0_B m c t h]; unfold values dvnAt; dsimp only; frame_out
set_option maxHeartbeats 3200000 in
theorem after16 : (dats m 0 c).after 16 t = k0_pay50 (shared m c t) := by
  rw [after0_16]
  by_cases h : t.val % 16 = 0
  · rw [outsAt0_A m c t h]; unfold shared dkrAt; dsimp only; frame_out
  · rw [outsAt0_B m c t h]; unfold shared dkrAt; dsimp only; frame_out
set_option maxHeartbeats 3200000 in
theorem after19 : (dats m 0 c).after 19 t = k0_pay62 (gradQ m c t) (k0_pay54 (X0_6 m c t)) (k0_pay55 (X0_6 m c t)) (iblk m c 8 t) := by
  rw [after0_19]
  by_cases h : t.val % 16 = 0
  · rw [outsAt0_A m c t h]; unfold gradQ turned dqhAt; dsimp only; frame_out; rw [turned16]
  · rw [outsAt0_B m c t h]; unfold gradQ turned dqhAt; dsimp only; frame_out; rw [turned16]
set_option maxHeartbeats 3200000 in
theorem after20 : (dats m 0 c).after 20 t = k0_pay63 (gradK m c t) (k0_pay56 (iblk m c 7 t)) (k0_pay57 (iblk m c 7 t)) (iblk m c 9 t) := by
  rw [after0_20]
  by_cases h : t.val % 16 = 0
  · rw [outsAt0_A m c t h]; unfold gradK keys values dknAt dvnAt; dsimp only; frame_out
  · rw [outsAt0_B m c t h]; unfold gradK keys values dknAt dvnAt; dsimp only; frame_out
/-- One step's addition to running sum 1. -/
def st17 : FVec Ideal S1x384 .f32 → FVec Ideal S1x384 .f32 := k0_pay3 (k0_pay60 (gradQ m c t) (k0_pay55 (X0_6 m c t)))
set_option maxHeartbeats 3200000 in
theorem first17 (h : t.val % 16 = 0) : (outsAt0 m c t.val t.isLt).2.2.2.2.1 = st17 m c t (k0_pay1 (F := Ideal)) := by
  rw [outsAt0_A m c t h]; unfold st17 gradQ turned dqhAt; dsimp only; frame_out; rw [turned16]
set_option maxHeartbeats 3200000 in
theorem next17 (h : ¬ t.val % 16 = 0) : (outsAt0 m c t.val t.isLt).2.2.2.2.1
    = st17 m c t (outsAt0 m c (t.val - 1) (Nat.lt_of_le_of_lt (Nat.sub_le _ _) t.isLt)).2.2.2.2.1 := by
  rw [outsAt0_B m c t h]; unfold st17 gradQ turned dqhAt; dsimp only; frame_out; rw [turned16]
/-- One step's addition to running sum 2. -/
def st18 : FVec Ideal S1x256 .f32 → FVec Ideal S1x256 .f32 := k0_pay4 (k0_pay61 (gradK m c t) (k0_pay56 (iblk m c 7 t)) (k0_pay57 (iblk m c 7 t)))
set_option maxHeartbeats 3200000 in
theorem first18 (h : t.val % 16 = 0) : (outsAt0 m c t.val t.isLt).2.2.2.2.2.1 = st18 m c t (k0_pay2 (F := Ideal)) := by
  rw [outsAt0_A m c t h]; unfold st18 gradK keys values dknAt dvnAt; dsimp only; frame_out
set_option maxHeartbeats 3200000 in
theorem next18 (h : ¬ t.val % 16 = 0) : (outsAt0 m c t.val t.isLt).2.2.2.2.2.1
    = st18 m c t (outsAt0 m c (t.val - 1) (Nat.lt_of_le_of_lt (Nat.sub_le _ _) t.isLt)).2.2.2.2.2.1 := by
  rw [outsAt0_B m c t h]; unfold st18 gradK keys values dknAt dvnAt; dsimp only; frame_out

end Cert.QkvBwdIdeal.Val

end
-- ==== Proof.QkvBwdHost.lean ====
/- The arrays `QkvBwdIdeal`'s host lines prepare, on real arguments. -/
module

public import proofs.«01_k».proof.Defs
public import proofs.«01_k».proof.Proof.QkvBwdRows

@[expose] public section

set_option maxRecDepth 16384

noncomputable section

namespace Cert.QkvBwdIdeal.Val

open Idealize.ShloMosaic Idealize.ShloMosaic.TcCoe Idealize.SL.Sem Cert.RealKit
open Cert.QkvBwdIdeal Cert.QkvBwdIdeal.Gen

/-- Float and integer words spread over a shape. -/
def spread16 (w : BitVec 32) : FVec Ideal S16 .f32 := broadcastInDim S16 ![] bcast_S_S16 (constant S_ .f32 w)
def spread64 (w : BitVec 32) : FVec Ideal S64 .f32 := broadcastInDim S64 ![] bcast_S_S64 (constant S_ .f32 w)
def spread (w : BitVec 32) : FVec Ideal S8192x128 .f32 := broadcastInDim S8192x128 ![] bcast_S_S8192x128 (constant S_ .f32 w)
def word (w : BitVec 32) : IVec S8192x128 32 := broadcastInDim S8192x128 ![] bcast_S_S8192x128 (constantI S_ 32 w)

/-- The frequencies of the lanes, and the angles. -/
def inv16 : FVec Ideal S16 .f32 := Host.divf (spread16 0x3F800000#32) (Host.powf (spread16 0x461C4000#32) (Host.divf (sitofp .f32 (iotaInDim S16 32 0)) (spread16 0x41800000#32)))
def inv64 : FVec Ideal S64 .f32 := Host.divf (spread64 0x3F800000#32) (Host.powf (spread64 0x461C4000#32) (Host.divf (sitofp .f32 (iotaInDim S64 32 0)) (spread64 0x42800000#32)))
def lanes : FVec Ideal S128 .f32 :=
  concatenate S128 0 [⟨S64, inv64⟩, ⟨S16, inv16⟩, ⟨S16, inv16⟩, ⟨S32, broadcastInDim S32 ![] bcast_S_S32 (constant S_ .f32 0x00000000#32)⟩] concatenates_S64_S16_S16_S32_S128_d0
def angles (P : IVec S1x8192 32) : FVec Ideal S8192x128 .f32 :=
  mulf (broadcastInDim S8192x128 ![0, 1] bcast_S8192x1_S8192x128_0_1 (shapeCast S8192x1 (sitofp .f32 P) shapeCasts_S1x8192_S8192x1))
    (broadcastInDim S8192x128 ![0, 1] bcast_S1x128_S8192x128_0_1 (shapeCast S1x128 lanes shapeCasts_S128_S1x128))
def lane : IVec S8192x128 32 := iotaInDim S8192x128 32 1

/-- The three tables. -/
def tableA (P : IVec S1x8192 32) : FVec Ideal S8192x128 .f32 :=
  select (cmpi .slt lane (word 64#32)) (spread 0x3F800000#32) (select (andi (cmpi .sge lane (word 64#32)) (cmpi .slt lane (word 96#32))) (Host.cos (angles P)) (spread 0x00000000#32))
def tableB (P : IVec S1x8192 32) : FVec Ideal S8192x128 .f32 :=
  select (andi (cmpi .sge lane (word 64#32)) (cmpi .slt lane (word 80#32))) (Host.negf (Host.sin (angles P))) (spread 0x00000000#32)
def tableC (P : IVec S1x8192 32) : FVec Ideal S8192x128 .f32 :=
  select (andi (cmpi .sge lane (word 80#32)) (cmpi .slt lane (word 96#32))) (Host.sin (angles P)) (spread 0x00000000#32)

/-- The latent rows among zeros, the padded gradients, and the transposed, padded projections. -/
def latents (Q : FVec Ideal S1x8192x384 .f32) (K : FVec Ideal S1x8192x256 .f32) : FVec Ideal S8192x2816 .f32 :=
  concatenate S8192x2816 1 [⟨S8192x2048, broadcastInDim S8192x2048 ![] bcast_S_S8192x2048 (constant S_ .f32 0x00000000#32)⟩, ⟨S8192x256, shapeCast S8192x256 K shapeCasts_S1x8192x256_S8192x256⟩,
    ⟨S8192x384, shapeCast S8192x384 Q shapeCasts_S1x8192x384_S8192x384⟩, ⟨S8192x128, spread 0x00000000#32⟩] concatenates_S8192x2048_S8192x256_S8192x384_S8192x128_S8192x2816_d1
def pad96 (D : FVec Ideal S1x8192x8x96 .f32) : FVec Ideal S8192x1024 .f32 :=
  shapeCast S8192x1024 (pad S8192x8x128 ![0, 0, 0] ![0, 0, 32] ![0, 0, 0] (shapeCast S8192x8x96 D shapeCasts_S1x8192x8x96_S8192x8x96) (sitofp .f32 (constantI S_ 32 0#32))
    pads_S8192x8x96_S8192x8x128_000_000_0320 h_S_) shapeCasts_S8192x8x128_S8192x1024
def pad64 (D : FVec Ideal S1x8192x8x64 .f32) : FVec Ideal S8192x1024 .f32 :=
  shapeCast S8192x1024 (pad S8192x8x128 ![0, 0, 0] ![0, 0, 64] ![0, 0, 0] (shapeCast S8192x8x64 D shapeCasts_S1x8192x8x64_S8192x8x64) (sitofp .f32 (constantI S_ 32 0#32))
    pads_S8192x8x64_S8192x8x128_000_000_0640 h_S_) shapeCasts_S8192x8x128_S8192x1024
def rowsQ (W : FVec Ideal S384x768 .f32) : FVec Ideal S1024x384 .bf16 :=
  shapeCast S1024x384 (pad S8x128x384 ![0, 0, 0] ![0, 32, 0] ![0, 0, 0] (shapeCast S8x96x384 (truncf .bf16 (transpose S768x384 [1, 0] W transposes_S384x768_S768x384_1_0) bitsLt_bf16_f32)
    shapeCasts_S768x384_S8x96x384) (sitofp .bf16 (constantI S_ 32 0#32)) pads_S8x96x384_S8x128x384_000_0320_000 h_S_) shapeCasts_S8x128x384_S1024x384
def heads (W : FVec Ideal S256x1024 .f32) : FVec Ideal S8x128x256 .bf16 :=
  shapeCast S8x128x256 (truncf .bf16 (transpose S1024x256 [1, 0] W transposes_S256x1024_S1024x256_1_0) bitsLt_bf16_f32) shapeCasts_S1024x256_S8x128x256
def rowsK (W : FVec Ideal S256x1024 .f32) : FVec Ideal S1024x256 .bf16 :=
  shapeCast S1024x256 (pad S8x128x256 ![0, 0, 0] ![0, 64, 0] ![0, 0, 0] (extractStridedSlice S8x64x256 ![0, 0, 0] (heads W) slices_S8x128x256_S8x64x256_0_0_0)
    (sitofp .bf16 (constantI S_ 32 0#32)) pads_S8x64x256_S8x128x256_000_0640_000 h_S_) shapeCasts_S8x128x256_S1024x256
def rowsV (W : FVec Ideal S256x1024 .f32) : FVec Ideal S1024x256 .bf16 :=
  shapeCast S1024x256 (pad S8x128x256 ![0, 0, 0] ![0, 64, 0] ![0, 0, 0] (extractStridedSlice S8x64x256 ![0, 64, 0] (heads W) slices_S8x128x256_S8x64x256_0_64_0)
    (sitofp .bf16 (constantI S_ 32 0#32)) pads_S8x64x256_S8x128x256_000_0640_000 h_S_) shapeCasts_S8x128x256_S1024x256

section Contents

variable (m : (ℓ : Loc nD τ sig) → Buf (Elt Ideal) ℓ) (c : Dev nD)

set_option maxHeartbeats 3200000 in
theorem V_tableA : V m c main_v38 = (tableA (m ((c : Thread nD τ).loc main_arg2) : IVec S1x8192 32) : FVec Ideal S8192x128 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v38) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_tableB : V m c main_v45 = (tableB (m ((c : Thread nD τ).loc main_arg2) : IVec S1x8192 32) : FVec Ideal S8192x128 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v45) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_tableC : V m c main_v51 = (tableC (m ((c : Thread nD τ).loc main_arg2) : IVec S1x8192 32) : FVec Ideal S8192x128 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v51) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_latents : V m c main_v56 = (latents (m ((c : Thread nD τ).loc main_arg0) : FVec Ideal S1x8192x384 .f32) (m ((c : Thread nD τ).loc main_arg1) : FVec Ideal S1x8192x256 .f32) : FVec Ideal S8192x2816 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v56) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_dq : V m c main_v59 = (pad96 (m ((c : Thread nD τ).loc main_arg7) : FVec Ideal S1x8192x8x96 .f32) : FVec Ideal S8192x1024 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v59) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_dk : V m c main_v62 = (pad96 (m ((c : Thread nD τ).loc main_arg8) : FVec Ideal S1x8192x8x96 .f32) : FVec Ideal S8192x1024 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v62) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_dv : V m c main_v65 = (pad64 (m ((c : Thread nD τ).loc main_arg9) : FVec Ideal S1x8192x8x64 .f32) : FVec Ideal S8192x1024 .f32) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v65) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_rowsQ : V m c main_v73 = (rowsQ (m ((c : Thread nD τ).loc main_arg4) : FVec Ideal S384x768 .f32) : FVec Ideal S1024x384 .bf16) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v73) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_rowsK : V m c main_v76 = (rowsK (m ((c : Thread nD τ).loc main_arg6) : FVec Ideal S256x1024 .f32) : FVec Ideal S1024x256 .bf16) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v76) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl
set_option maxHeartbeats 3200000 in
theorem V_rowsV : V m c main_v79 = (rowsV (m ((c : Thread nD τ).loc main_arg6) : FVec Ideal S256x1024 .f32) : FVec Ideal S1024x256 .bf16) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b)) (Proc.devRef .tc main_v79) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append]
  after_results_simp
  try rfl

end Contents

end Cert.QkvBwdIdeal.Val

end
-- ==== Proof.QkvBwdTables.lean ====
/- The entries of the arrays `QkvBwdIdeal`'s host lines prepare, over the real numbers. -/
module

public import proofs.«01_k».proof.Proof.QkvBwdHost

@[expose] public section

set_option maxRecDepth 16384

noncomputable section

namespace Cert.QkvBwdIdeal.Val

open Idealize.ShloMosaic Idealize.ShloMosaic.TcCoe Idealize.SL.Sem Cert.RealKit
open Cert.QkvBwdIdeal Cert.QkvBwdIdeal.Gen

/-- A rotary frequency. -/
theorem coe_freq (j : ℝ) : Ideal.div ((1 : ℝ) : EReal) (Ideal.pow ((10000 : ℝ) : EReal) (Ideal.div (j : EReal) ((16 : ℝ) : EReal))) = ((1 / Real.rpow 10000 (j / 16) : ℝ) : EReal) := by
  rw [coe_div (by norm_num)]
  show Ideal.div ((1 : ℝ) : EReal) ((Real.rpow 10000 (j / 16) : ℝ) : EReal) = _
  exact coe_div (Real.rpow_pos_of_pos (by norm_num) _).ne'

theorem inv16_apply (j : Fin 16) : inv16 (ix1 j) = ((1 / Real.rpow 10000 ((j.val : ℝ) / 16) : ℝ) : EReal) := by
  have e : (BitVec.ofNat 32 j.val).toInt = (j.val : ℤ) := by
    have := j.isLt
    rw [BitVec.toInt_eq_toNat_cond, BitVec.toNat_ofNat, Nat.mod_eq_of_lt (by omega), if_pos (by omega)]
  pointwise [inv16, spread16]
  rw [ofBits_16, ofBits_10000]
  show Ideal.div ((1 : ℝ) : EReal) (Ideal.pow ((10000 : ℝ) : EReal) (Ideal.div ((((BitVec.ofNat 32 j.val).toInt : ℝ)) : EReal) ((16 : ℝ) : EReal))) = _
  rw [e]
  exact coe_freq _

theorem lanes_low (l : Fin 128) (h : 64 ≤ l.val) (h' : l.val < 80) : lanes (ix1 l) = inv16 (ix1 ⟨l.val - 64, by omega⟩) := by
  pointwise [lanes]
  rw [dif_neg (by omega), dif_pos (by omega)]
theorem lanes_high (l : Fin 128) (h : 80 ≤ l.val) (h' : l.val < 96) : lanes (ix1 l) = inv16 (ix1 ⟨l.val - 80, by omega⟩) := by
  pointwise [lanes]
  rw [dif_neg (by omega), dif_neg (by omega), dif_pos (by omega)]
  exact congrArg (fun x => inv16 (ix1 x)) (Fin.ext (by dsimp only; omega))

variable (a : Reals) (t : Fin 8192)

theorem angles_apply (l : Fin 128) (R : ℝ) (h : lanes (ix1 l) = (R : EReal)) : angles a.P (ix2 t l) = ((((a.P (ix2 0 t)).toInt : ℝ) * R : ℝ) : EReal) := by
  pointwise [angles]
  rw [EReal.coe_mul, ← h]
  rfl

theorem angles_low (l : Fin 128) (h : 64 ≤ l.val) (h' : l.val < 80) : angles a.P (ix2 t l) = (a.ang t (l.val - 64) : EReal) :=
  angles_apply a t l _ ((lanes_low l h h').trans (inv16_apply _))
theorem angles_high (l : Fin 128) (h : 80 ≤ l.val) (h' : l.val < 96) : angles a.P (ix2 t l) = (a.ang t (l.val - 80) : EReal) :=
  angles_apply a t l _ ((lanes_high l h h').trans (inv16_apply _))

/-- The tests of a lane against two words. -/
theorem below (n : ℕ) (hn : n < 1024) (l : Fin 128) : cmpi .slt lane (word (BitVec.ofNat 32 n)) (ix2 t l) = BitVec.ofBool (decide (l.val < n)) := by
  have := l.isLt
  pointwise [lane, word]
  word_cmp
theorem within (n k : ℕ) (hn : n < 1024) (hk : k < 1024) (l : Fin 128) :
    andi (cmpi .sge lane (word (BitVec.ofNat 32 n))) (cmpi .slt lane (word (BitVec.ofNat 32 k))) (ix2 t l) = BitVec.ofBool (decide (n ≤ l.val ∧ l.val < k)) := by
  have := l.isLt
  pointwise [lane, word]
  word_cmp
  simp only [Bool.decide_and]

theorem tableC_apply (l : Fin 128) : tableC a.P (ix2 t l) = (a.tabC t l.val : EReal) := by
  show Scalar.select (andi (cmpi .sge lane (word 80#32)) (cmpi .slt lane (word 96#32)) (ix2 t l)) (Ideal.sin (angles a.P (ix2 t l))) (Ideal.ofBits .f32 0x00000000#32) = _
  rw [within t 80 96 (by norm_num) (by norm_num), Reals.tabC]
  by_cases h : 80 ≤ l.val ∧ l.val < 96
  · rw [if_pos h, angles_high a t l h.1 h.2, Ideal.sin_coe]; simp [Scalar.select, h]
  · rw [if_neg h]; simp [Scalar.select, h]
theorem tableB_apply (l : Fin 128) : tableB a.P (ix2 t l) = (a.tabB t l.val : EReal) := by
  show Scalar.select (andi (cmpi .sge lane (word 64#32)) (cmpi .slt lane (word 80#32)) (ix2 t l)) (-(Ideal.sin (angles a.P (ix2 t l)))) (Ideal.ofBits .f32 0x00000000#32) = _
  rw [within t 64 80 (by norm_num) (by norm_num), Reals.tabB]
  by_cases h : 64 ≤ l.val ∧ l.val < 80
  · rw [if_pos h, angles_low a t l h.1 h.2, Ideal.sin_coe, ← EReal.coe_neg]; simp [Scalar.select, h]
  · rw [if_neg h]; simp [Scalar.select, h]
theorem tableA_apply (l : Fin 128) : tableA a.P (ix2 t l) = (a.tabA t l.val : EReal) := by
  show Scalar.select (cmpi .slt lane (word 64#32) (ix2 t l)) (Ideal.ofBits .f32 0x3F800000#32) (Scalar.select (andi (cmpi .sge lane (word 64#32)) (cmpi .slt lane (word 96#32)) (ix2 t l))
    (Ideal.cos (angles a.P (ix2 t l))) (Ideal.ofBits .f32 0x00000000#32)) = _
  rw [within t 64 96 (by norm_num) (by norm_num), below t 64 (by norm_num), ofBits_1, Reals.tabA]
  by_cases h1 : l.val < 64
  · rw [if_pos h1]; simp [Scalar.select, h1]
  rw [if_neg h1]
  by_cases h2 : l.val < 80
  · rw [if_pos h2, angles_low a t l (by omega) h2, Ideal.cos_coe]; simp [Scalar.select, h1, show 64 ≤ l.val ∧ l.val < 96 by omega]
  rw [if_neg h2]
  by_cases h3 : l.val < 96
  · rw [if_pos h3, angles_high a t l (by omega) h3, Ideal.cos_coe]; simp [Scalar.select, h1, show 64 ≤ l.val ∧ l.val < 96 by omega]
  · rw [if_neg h3]; simp [Scalar.select, h1, h3]

/-- The latent rows, the padded gradients and the padded projections. -/
theorem latents_q (k : Fin 384) (x : Fin 2816) (hx : x.val = 2304 + k.val) : latents (up a.Q) (up a.K) (ix2 t x) = (a.q t k : EReal) := by
  pointwise [latents]
  rw [dif_neg (by omega), dif_neg (by omega), dif_pos (by omega)]
  refine congrArg (fun j => (a.Q (ix3 0 t j) : EReal)) (Fin.ext ?_)
  show x.val - 2048 - 256 = k.val
  omega
theorem latents_kv (k : Fin 256) (x : Fin 2816) (hx : x.val = 2048 + k.val) : latents (up a.Q) (up a.K) (ix2 t x) = (a.kv t k : EReal) := by
  pointwise [latents]
  rw [dif_neg (by omega), dif_pos (by omega)]
  refine congrArg (fun j => (a.K (ix3 0 t j) : EReal)) (Fin.ext ?_)
  show x.val - 2048 = k.val
  omega

theorem zero_word : ((((0#32 : BitVec 32).toInt : ℝ)) : EReal) = ((0 : ℝ) : EReal) := by norm_num

theorem pad96_apply (D : S1x8192x8x96.Idx → ℝ) (c : Fin 1024) :
    pad96 (up D) (ix2 t c) = ((if h : c.val / 128 < 8 ∧ c.val % 128 < 96 then D (ix4 0 t ⟨c.val / 128, h.1⟩ ⟨c.val % 128, h.2⟩) else 0 : ℝ) : EReal) := by
  have hc := c.isLt
  pointwise [pad96]
  by_cases h : c.val % 128 < 96
  · rw [dif_pos ⟨by omega, h⟩, dif_pos (show c.val / 128 < 8 ∧ c.val % 128 < 96 from ⟨by omega, h⟩)]
  · rw [dif_neg (by omega), dif_neg (by omega)]
    exact zero_word
theorem pad64_apply (D : S1x8192x8x64.Idx → ℝ) (c : Fin 1024) :
    pad64 (up D) (ix2 t c) = ((if h : c.val / 128 < 8 ∧ c.val % 128 < 64 then D (ix4 0 t ⟨c.val / 128, h.1⟩ ⟨c.val % 128, h.2⟩) else 0 : ℝ) : EReal) := by
  have hc := c.isLt
  pointwise [pad64]
  by_cases h : c.val % 128 < 64
  · rw [dif_pos ⟨by omega, h⟩, dif_pos (show c.val / 128 < 8 ∧ c.val % 128 < 64 from ⟨by omega, h⟩)]
  · rw [dif_neg (by omega), dif_neg (by omega)]
    exact zero_word

theorem rowsQ_apply (c : Fin 1024) (j : Fin 384) : rowsQ (up a.Wq) (ix2 c j) = (a.wq j (c.val / 128) (c.val % 128) : EReal) := by
  have hc := c.isLt
  pointwise [rowsQ]
  rw [Reals.wq]
  by_cases h : c.val % 128 < 96
  · rw [dif_pos ⟨by omega, h⟩, dif_pos (show c.val / 128 < 8 ∧ c.val % 128 < 96 from ⟨by omega, h⟩)]
  · rw [dif_neg (by omega), dif_neg (by omega)]
    exact zero_word
theorem rowsK_apply (c : Fin 1024) (j : Fin 256) : rowsK (up a.Wk) (ix2 c j) = ((if c.val % 128 < 64 then a.wk j (c.val / 128) (c.val % 128) else 0 : ℝ) : EReal) := by
  have hc := c.isLt
  pointwise [rowsK, heads]
  rw [Reals.wk]
  by_cases h : c.val % 128 < 64
  · rw [dif_pos ⟨by omega, h⟩, if_pos h, dif_pos (show c.val / 128 < 8 ∧ c.val % 128 < 128 from ⟨by omega, by omega⟩)]
    exact congrArg (fun x => (a.Wk (ix2 j x) : EReal)) (Fin.ext (by dsimp only; omega))
  · rw [dif_neg (by omega), if_neg h]
    exact zero_word
set_option maxHeartbeats 1600000 in
theorem rowsV_apply (c : Fin 1024) (j : Fin 256) : rowsV (up a.Wk) (ix2 c j) = ((if c.val % 128 < 64 then a.wk j (c.val / 128) (64 + c.val % 128) else 0 : ℝ) : EReal) := by
  have hc := c.isLt
  pointwise [rowsV, heads]
  rw [Reals.wk]
  by_cases h : c.val % 128 < 64
  · rw [dif_pos ⟨by omega, h⟩, if_pos h, dif_pos (show c.val / 128 < 8 ∧ 64 + c.val % 128 < 128 from ⟨by omega, by omega⟩)]
  · rw [dif_neg (by omega), if_neg h]
    exact zero_word

end Cert.QkvBwdIdeal.Val

end
-- ==== Proof.QkvBwdValue.lean ====
/- What `QkvBwdIdeal`'s pass leaves in its eight arrays, on real arguments. -/
module

public import proofs.«01_k».proof.Proof.QkvBwdStep
public import proofs.«01_k».proof.Proof.QkvBwdTables

@[expose] public section

set_option maxRecDepth 16384

noncomputable section

namespace Cert.QkvBwdIdeal.Val

open Idealize.ShloMosaic Idealize.ShloMosaic.TcCoe Idealize.SL.Sem Cert.RealKit
open Idealize.ShloMosaic.Pipeline (Dat)
open Cert.QkvBwdIdeal Cert.QkvBwdIdeal.Gen

/-- A running sum over the rows of the steps so far. -/
theorem running {S : Shape} (acc : ∀ n, n < cfg0.N → FVec Ideal S .f32) (st : Fin cfg0.N → FVec Ideal S .f32 → FVec Ideal S .f32) (z : FVec Ideal S .f32)
    (i : S.Idx) (f : Fin 8192 → ℝ) (first : ∀ h, acc 0 h = st ⟨0, h⟩ z) (next : ∀ n h, acc (n + 1) h = st ⟨n + 1, h⟩ (acc n (Nat.lt_of_succ_lt h)))
    (hz : z i = ((0 : ℝ) : EReal))
    (hst : ∀ (t : Fin cfg0.N) (b : FVec Ideal S .f32) (A : ℝ), b i = A → ∃ g : Fin 512 → ℝ, st t b i = ((A + ∑ r, g r : ℝ) : EReal)
      ∧ ∀ r : Fin 512, ∃ h : t.val * 512 + r.val < 8192, g r = f ⟨t.val * 512 + r.val, h⟩) :
    ∀ n h, acc n h i = ((rowsTo f ((n + 1) * 512) : ℝ) : EReal) := by
  have step : ∀ (t : Fin cfg0.N) (b : FVec Ideal S .f32), b i = ((rowsTo f (t.val * 512) : ℝ) : EReal) →
      st t b i = ((rowsTo f ((t.val + 1) * 512) : ℝ) : EReal) := by
    intro t b hb
    obtain ⟨g, hg, hg'⟩ := hst t b _ hb
    rw [hg, rowsTo_step f t.val 512 g hg']
  intro n
  induction n with
  | zero =>
    intro h
    rw [first h]
    exact step ⟨0, h⟩ _ (hz.trans (by rw [Nat.zero_mul, rowsTo_zero]))
  | succ n ih =>
    intro h
    rw [next n h]
    exact step ⟨n + 1, h⟩ _ (ih (Nat.lt_of_succ_lt h))

/-- Storing a block changes nothing. -/
theorem pay44_apply (x : FVec Ideal S512x1024 .f32) (i : S512x1024.Idx) : k0_pay44 (F := Ideal) (truncf .bf16 x bitsLt_bf16_f32) i = x i := by idx_vars i; pointwise [k0_pay44]
theorem pay45_apply (x : FVec Ideal S512x1024 .f32) (i : S512x1024.Idx) : k0_pay45 (F := Ideal) x i = x i := by idx_vars i; pointwise [k0_pay45]
theorem pay46_apply (x : FVec Ideal S512x1024 .f32) (i : S512x1024.Idx) : k0_pay46 (F := Ideal) x i = x i := by idx_vars i; pointwise [k0_pay46]
theorem pay47_apply (x : FVec Ideal S512x1024 .f32) (i : S512x1024.Idx) : k0_pay47 (F := Ideal) x i = x i := by idx_vars i; pointwise [k0_pay47]
theorem pay48_apply (x : FVec Ideal S512x1024 .f32) (i : S512x1024.Idx) : k0_pay48 (F := Ideal) x i = x i := by idx_vars i; pointwise [k0_pay48]
theorem pay49_apply (x : FVec Ideal S512x1024 .f32) (i : S512x1024.Idx) : k0_pay49 (F := Ideal) x i = x i := by idx_vars i; pointwise [k0_pay49]
theorem pay50_apply (x : FVec Ideal S512x128 .f32) (i : S512x128.Idx) : k0_pay50 (F := Ideal) x i = x i := by idx_vars i; pointwise [k0_pay50]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 6] ∧ win0_7.index t = ![t.val, 8] ∧ win0_8.index t = ![0, 0]
    ∧ win0_9.index t = ![0, 0] ∧ win0_10.index t = ![0, 0] ∧ win0_11.index t = ![0, 0] ∧ win0_12.index t = ![0, 0] ∧ win0_13.index t = ![t.val, 0]
    ∧ win0_14.index t = ![t.val, 0] ∧ win0_15.index t = ![t.val, 0] ∧ win0_16.index t = ![t.val, 0] ∧ win0_17.index t = ![0, 0] ∧ win0_18.index t = ![0, 0]
    ∧ win0_19.index t = ![t.val, 0] ∧ win0_20.index t = ![t.val, 0] :=
  (by decide +kernel : ∀ t : Fin grid0.N, _)

theorem lt16 (t : Fin cfg0.N) : t.val < 16 := t.isLt.trans_eq N_0

/-- The arguments of a launch are these. -/
structure Reads (a : Reals) : Prop where
  q : m ((c : Thread nD τ).loc main_arg0) = up a.Q
  k : m ((c : Thread nD τ).loc main_arg1) = up a.K
  p : m ((c : Thread nD τ).loc main_arg2) = a.P
  gq : m ((c : Thread nD τ).loc main_arg3) = up a.gq
  wq : m ((c : Thread nD τ).loc main_arg4) = up a.Wq
  gk : m ((c : Thread nD τ).loc main_arg5) = up a.gk
  wk : m ((c : Thread nD τ).loc main_arg6) = up a.Wk
  dq : m ((c : Thread nD τ).loc main_arg7) = up a.Dq
  dk : m ((c : Thread nD τ).loc main_arg8) = up a.Dk
  dv : m ((c : Thread nD τ).loc main_arg9) = up a.Dv

variable {a : Reals} (h : Reads m c a) (t : Fin cfg0.N)
include h

section Rows

variable (r : Fin 512) (T : Fin 8192) (hT : T.val = t.val * 512 + r.val)
include hT

theorem dq_real (l : Fin 1024) : (iblk m c 0 t : FVec Ideal S512x1024 .f32) (ix2 r l) = (a.dq T (l.val / 128) (l.val % 128) : EReal) := by
  refine Eq.trans (b := (V m c main_v59 : FVec Ideal S8192x1024 .f32) (ix2 T l)) (by blk_ext [iblk, idx t]) ?_
  rw [V_dq m c, h.dq]
  exact pad96_apply T a.Dq l
theorem dk_real (l : Fin 1024) : (iblk m c 1 t : FVec Ideal S512x1024 .f32) (ix2 r l) = (a.dk T (l.val / 128) (l.val % 128) : EReal) := by
  refine Eq.trans (b := (V m c main_v62 : FVec Ideal S8192x1024 .f32) (ix2 T l)) (by blk_ext [iblk, idx t]) ?_
  rw [V_dk m c, h.dk]
  exact pad96_apply T a.Dk l
theorem dv_real (l : Fin 1024) : (iblk m c 2 t : FVec Ideal S512x1024 .f32) (ix2 r l) = (a.dv T (l.val / 128) (l.val % 128) : EReal) := by
  refine Eq.trans (b := (V m c main_v65 : FVec Ideal S8192x1024 .f32) (ix2 T l)) (by blk_ext [iblk, idx t]) ?_
  rw [V_dv m c, h.dv]
  exact pad64_apply T a.Dv l
theorem tableA_real (l : Fin 128) : (iblk m c 3 t : FVec Ideal S512x128 .f32) (ix2 r l) = (a.tabA T l.val : EReal) := by
  refine Eq.trans (b := (V m c main_v38 : FVec Ideal S8192x128 .f32) (ix2 T l)) (by blk_ext [iblk, idx t]) ?_
  rw [V_tableA m c, h.p]
  exact tableA_apply a T l
theorem tableB_real (l : Fin 128) : (iblk m c 4 t : FVec Ideal S512x128 .f32) (ix2 r l) = (a.tabB T l.val : EReal) := by
  refine Eq.trans (b := (V m c main_v45 : FVec Ideal S8192x128 .f32) (ix2 T l)) (by blk_ext [iblk, idx t]) ?_
  rw [V_tableB m c, h.p]
  exact tableB_apply a T l
theorem tableC_real (l : Fin 128) : (iblk m c 5 t : FVec Ideal S512x128 .f32) (ix2 r l) = (a.tabC T l.val : EReal) := by
  refine Eq.trans (b := (V m c main_v51 : FVec Ideal S8192x128 .f32) (ix2 T l)) (by blk_ext [iblk, idx t]) ?_
  rw [V_tableC m c, h.p]
  exact tableC_apply a T l
theorem q_real (l : Fin 384) : (X0_6 m c t : FVec Ideal S512x384 .f32) (ix2 r l) = (a.q T l : EReal) := by
  have e : (X0_6 m c t : FVec Ideal S512x384 .f32) (ix2 r l) = (V m c main_v56 : FVec Ideal S8192x2816 .f32) (ix2 T ⟨2304 + l.val, by omega⟩) := by
    unfold X0_6 Pipeline.Window.fill
    rw [dif_pos (moved0_6 t _)]
    blk_ext [iblk, idx t]
  rw [e, V_latents m c, h.q, h.k]
  exact latents_q a T l _ rfl
theorem kv_real (l : Fin 256) : (iblk m c 7 t : FVec Ideal S512x256 .f32) (ix2 r l) = (a.kv T l : EReal) := by
  refine Eq.trans (b := (V m c main_v56 : FVec Ideal S8192x2816 .f32) (ix2 T ⟨2048 + l.val, by omega⟩)) (by blk_ext [iblk, idx t]) ?_
  rw [V_latents m c, h.q, h.k]
  exact latents_kv a T l _ rfl

end Rows

theorem gq_real (l : Fin 384) : (iblk m c 8 t : FVec Ideal S1x384 .f32) (ix2 0 l) = (a.gq (ix2 0 l) : EReal) := by
  refine Eq.trans (b := (V m c main_arg3 : FVec Ideal S1x384 .f32) (ix2 0 l)) (by blk_ext [iblk, idx t]) ?_
  exact (congrFun (V_main_arg3 m c) _).trans (congrFun h.gq _)
theorem gk_real (l : Fin 256) : (iblk m c 9 t : FVec Ideal S1x256 .f32) (ix2 0 l) = (a.gk (ix2 0 l) : EReal) := by
  refine Eq.trans (b := (V m c main_arg5 : FVec Ideal S1x256 .f32) (ix2 0 l)) (by blk_ext [iblk, idx t]) ?_
  exact (congrFun (V_main_arg5 m c) _).trans (congrFun h.gk _)
theorem rowsQ_real (l : Fin 1024) (j : Fin 384) : (iblk m c 10 t : FVec Ideal S1024x384 .bf16) (ix2 l j) = ((a.wq j (l.val / 128) (l.val % 128) : ℝ) : EReal) := by
  refine Eq.trans (b := (V m c main_v73 : FVec Ideal S1024x384 .bf16) (ix2 l j)) (by blk_ext [iblk, idx t]) ?_
  rw [V_rowsQ m c, h.wq]
  exact rowsQ_apply a l j
theorem rowsK_real (l : Fin 1024) (j : Fin 256) : (iblk m c 11 t : FVec Ideal S1024x256 .bf16) (ix2 l j) = ((if l.val % 128 < 64 then a.wk j (l.val / 128) (l.val % 128) else 0 : ℝ) : EReal) := by
  refine Eq.trans (b := (V m c main_v76 : FVec Ideal S1024x256 .bf16) (ix2 l j)) (by blk_ext [iblk, idx t]) ?_
  rw [V_rowsK m c, h.wk]
  exact rowsK_apply a l j
theorem rowsV_real (l : Fin 1024) (j : Fin 256) : (iblk m c 12 t : FVec Ideal S1024x256 .bf16) (ix2 l j) = ((if l.val % 128 < 64 then a.wk j (l.val / 128) (64 + l.val % 128) else 0 : ℝ) : EReal) := by
  refine Eq.trans (b := (V m c main_v79 : FVec Ideal S1024x256 .bf16) (ix2 l j)) (by blk_ext [iblk, idx t]) ?_
  rw [V_rowsV m c, h.wk]
  exact rowsV_apply a l j

section Results

variable (r : Fin 512) (T : Fin 8192) (hT : T.val = t.val * 512 + r.val)
include hT

theorem turned_real (l : Fin 1024) : turned m c t (ix2 r l) = (a.dqh T (l.val / 128) (l.val % 128) : EReal) :=
  dqhAt_apply a T r _ _ _ _ (dq_real m c h t r T hT) (tableA_real m c h t r T hT) (tableB_real m c h t r T hT) (tableC_real m c h t r T hT) l
theorem keys_real (l : Fin 1024) : keys m c t (ix2 r l) = (a.dkn T (l.val / 128) (l.val % 128) : EReal) :=
  dknAt_apply a T r _ (dk_real m c h t r T hT) l
theorem values_real (l : Fin 1024) : values m c t (ix2 r l) = (a.dv T (l.val / 128) (l.val % 128) : EReal) :=
  dvnAt_apply a T r _ (dv_real m c h t r T hT) l
theorem shared_real (l : Fin 128) : shared m c t (ix2 r l) = (a.dkr T l.val : EReal) :=
  dkrAt_apply a T r _ _ _ _ (dk_real m c h t r T hT) (tableA_real m c h t r T hT) (tableB_real m c h t r T hT) (tableC_real m c h t r T hT) l
theorem gradQ_real (j : Fin 384) : gradQ m c t (ix2 r j) = (a.dcqn T j : EReal) :=
  (pay51_apply _ _ r j _ _ (fun l => (pay44_apply _ _).trans (turned_real m c h t r T hT l)) (fun l => rowsQ_real m c h t l j)).trans (congrArg _ (dcqn_eq a T j))
theorem gradK_real (j : Fin 256) : gradK m c t (ix2 r j) = (a.dckvn T j : EReal) :=
  (pay52_apply _ _ _ _ r j _ _ _ _ (fun l => (pay45_apply _ _).trans (keys_real m c h t r T hT l)) (fun l => rowsK_real m c h t l j)
    (fun l => (pay46_apply _ _).trans (values_real m c h t r T hT l)) (fun l => rowsV_real m c h t l j)).trans (congrArg _ (dckvn_eq a T j))

end Results

omit t in
set_option maxHeartbeats 1600000 in
theorem final13 : (dats m 0 c).arrAt 13 cfg0.N = up fun i : S8192x1024.Idx => a.dqh (i 0) ((i 1).val / 128) ((i 1).val % 128) := by
  refine (dats m 0 c).arrAt_eq_of_covers 13 _ (by decide +kernel) fun t _ y => ?_
  have ht := lt16 t
  idx_vars y
  have e : ((cfg0.win 13).blk t).view.emb (ix2 y0 y1) = ix2 (⟨t.val * 512 + y0.val, by omega⟩ : Fin 8192) y1 := by blk_ext [idx t]
  rw [e]
  blk_simp
  rw [after13]
  exact (pay47_apply _ _).trans (turned_real m c h t y0 _ rfl y1)
omit t in
set_option maxHeartbeats 1600000 in
theorem final14 : (dats m 0 c).arrAt 14 cfg0.N = up fun i : S8192x1024.Idx => a.dkn (i 0) ((i 1).val / 128) ((i 1).val % 128) := by
  refine (dats m 0 c).arrAt_eq_of_covers 14 _ (by decide +kernel) fun t _ y => ?_
  have ht := lt16 t
  idx_vars y
  have e : ((cfg0.win 14).blk t).view.emb (ix2 y0 y1) = ix2 (⟨t.val * 512 + y0.val, by omega⟩ : Fin 8192) y1 := by blk_ext [idx t]
  rw [e]
  blk_simp
  rw [after14]
  exact (pay48_apply _ _).trans (keys_real m c h t y0 _ rfl y1)
omit t in
set_option maxHeartbeats 1600000 in
theorem final15 : (dats m 0 c).arrAt 15 cfg0.N = up fun i : S8192x1024.Idx => a.dv (i 0) ((i 1).val / 128) ((i 1).val % 128) := by
  refine (dats m 0 c).arrAt_eq_of_covers 15 _ (by decide +kernel) fun t _ y => ?_
  have ht := lt16 t
  idx_vars y
  have e : ((cfg0.win 15).blk t).view.emb (ix2 y0 y1) = ix2 (⟨t.val * 512 + y0.val, by omega⟩ : Fin 8192) y1 := by blk_ext [idx t]
  rw [e]
  blk_simp
  rw [after15]
  exact (pay49_apply _ _).trans (values_real m c h t y0 _ rfl y1)
omit t in
set_option maxHeartbeats 1600000 in
theorem final16 : (dats m 0 c).arrAt 16 cfg0.N = up fun i : S8192x128.Idx => a.dkr (i 0) (i 1).val := by
  refine (dats m 0 c).arrAt_eq_of_covers 16 _ (by decide +kernel) fun t _ y => ?_
  have ht := lt16 t
  idx_vars y
  have e : ((cfg0.win 16).blk t).view.emb (ix2 y0 y1) = ix2 (⟨t.val * 512 + y0.val, by omega⟩ : Fin 8192) y1 := by blk_ext [idx t]
  rw [e]
  blk_simp
  rw [after16]
  exact (pay50_apply _ _).trans (shared_real m c h t y0 _ rfl y1)
omit t in
set_option maxHeartbeats 1600000 in
theorem final19 : (dats m 0 c).arrAt 19 cfg0.N = up fun i : S8192x384.Idx => a.dcq (i 0) (i 1) := by
  refine (dats m 0 c).arrAt_eq_of_covers 19 _ (by decide +kernel) fun t _ y => ?_
  have ht := lt16 t
  idx_vars y
  have e : ((cfg0.win 19).blk t).view.emb (ix2 y0 y1) = ix2 (⟨t.val * 512 + y0.val, by omega⟩ : Fin 8192) y1 := by blk_ext [idx t]
  rw [e]
  blk_simp
  rw [after19]
  exact pay62_apply _ _ _ y0 (a.q _) _ _ (q_real m c h t y0 _ rfl) (gradQ_real m c h t y0 _ rfl) (gq_real m c h t) y1
omit t in
set_option maxHeartbeats 1600000 in
theorem final20 : (dats m 0 c).arrAt 20 cfg0.N = up fun i : S8192x256.Idx => a.dckv (i 0) (i 1) := by
  refine (dats m 0 c).arrAt_eq_of_covers 20 _ (by decide +kernel) fun t _ y => ?_
  have ht := lt16 t
  idx_vars y
  have e : ((cfg0.win 20).blk t).view.emb (ix2 y0 y1) = ix2 (⟨t.val * 512 + y0.val, by omega⟩ : Fin 8192) y1 := by blk_ext [idx t]
  rw [e]
  blk_simp
  rw [after20]
  exact pay63_apply _ _ _ y0 (a.kv _) _ _ (kv_real m c h t y0 _ rfl) (gradK_real m c h t y0 _ rfl) (gk_real m c h t) y1

omit t in
theorem acc17_real (l : Fin 384) (n : ℕ) (hn : n < cfg0.N) : (outsAt0 m c n hn).2.2.2.2.1 (ix2 0 l) = ((rowsTo (a.gainQ l) ((n + 1) * 512) : ℝ) : EReal) :=
  running (fun n hn => (outsAt0 m c n hn).2.2.2.2.1) (st17 m c) (k0_pay1 (F := Ideal)) (ix2 0 l) (a.gainQ l) (fun h0 => first17 m c ⟨0, h0⟩ rfl)
    (fun n h' => next17 m c ⟨n + 1, h'⟩ (by have : n + 1 < 16 := h'.trans_eq N_0; dsimp only; omega)) (zero1 l)
    (fun t b A hb => ⟨_, by
      have ht := lt16 t
      exact pay60_apply _ l _ hb _ _ _ _ (fun r => pay55_apply _ r _ (q_real m c h t r ⟨t.val * 512 + r.val, by omega⟩ rfl) l) fun r => gradQ_real m c h t r ⟨t.val * 512 + r.val, by omega⟩ rfl l, fun r => ⟨by have ht := lt16 t; omega, rfl⟩⟩) n hn

omit h t in
theorem flush17 : ∀ t : Fin cfg0.N, (cfg0.win 17).flush t = true → t.val = 15 := by decide +kernel

omit t in
set_option maxHeartbeats 1600000 in
theorem final17 : (dats m 0 c).arrAt 17 cfg0.N = up fun i : S1x384.Idx => ∑ t, a.gainQ (i 1) t := by
  refine (dats m 0 c).arrAt_eq_of_covers 17 _ (by decide +kernel) fun t hf y => ?_
  have ht := flush17 t hf
  idx_vars y
  have e : ((cfg0.win 17).blk t).view.emb (ix2 y0 y1) = ix2 0 y1 := by blk_ext [idx t]
  rw [e]
  blk_simp
  rw [after0_17, show (ix2 y0 y1 : S1x384.Idx) = ix2 0 y1 by blk_ext []]
  refine (acc17_real m c h y1 t.val t.isLt).trans ?_
  rw [ht]
  exact congrArg _ (rowsTo_all _)

omit t in
theorem acc18_real (l : Fin 256) (n : ℕ) (hn : n < cfg0.N) : (outsAt0 m c n hn).2.2.2.2.2.1 (ix2 0 l) = ((rowsTo (a.gainK l) ((n + 1) * 512) : ℝ) : EReal) :=
  running (fun n hn => (outsAt0 m c n hn).2.2.2.2.2.1) (st18 m c) (k0_pay2 (F := Ideal)) (ix2 0 l) (a.gainK l) (fun h0 => first18 m c ⟨0, h0⟩ rfl)
    (fun n h' => next18 m c ⟨n + 1, h'⟩ (by have : n + 1 < 16 := h'.trans_eq N_0; dsimp only; omega)) (zero2 l)
    (fun t b A hb => ⟨_, by
      have ht := lt16 t
      exact pay61_apply _ l _ hb _ _ _ _ (fun r => pay59_apply _ r _ (kv_real m c h t r ⟨t.val * 512 + r.val, by omega⟩ rfl) l) fun r => gradK_real m c h t r ⟨t.val * 512 + r.val, by omega⟩ rfl l, fun r => ⟨by have ht := lt16 t; omega, rfl⟩⟩) n hn

omit h t in
theorem flush18 : ∀ t : Fin cfg0.N, (cfg0.win 18).flush t = true → t.val = 15 := by decide +kernel

omit t in
set_option maxHeartbeats 1600000 in
theorem final18 : (dats m 0 c).arrAt 18 cfg0.N = up fun i : S1x256.Idx => ∑ t, a.gainK (i 1) t := by
  refine (dats m 0 c).arrAt_eq_of_covers 18 _ (by decide +kernel) fun t hf y => ?_
  have ht := flush18 t hf
  idx_vars y
  have e : ((cfg0.win 18).blk t).view.emb (ix2 y0 y1) = ix2 0 y1 := by blk_ext [idx t]
  rw [e]
  blk_simp
  rw [after0_18, show (ix2 y0 y1 : S1x256.Idx) = ix2 0 y1 by blk_ext []]
  refine (acc18_real m c h y1 t.val t.isLt).trans ?_
  rw [ht]
  exact congrArg _ (rowsTo_all _)

end Cert.QkvBwdIdeal.Val

end
-- ==== Proof.QkvBwdTail.lean ====
/- `QkvBwdIdeal`'s eight results, on real arguments. -/
module

public import proofs.«01_k».proof.Proof.QkvBwdValue

@[expose] public section

set_option maxRecDepth 16384

noncomputable section

namespace Cert.QkvBwdIdeal.Val

open Idealize.ShloMosaic Idealize.ShloMosaic.TcCoe Idealize.SL.Sem Cert.RealKit
open Idealize.ShloMosaic.Pipeline (Dat)
open Cert.QkvBwdIdeal Cert.QkvBwdIdeal.Gen

/-- What the last host lines do to an array of the pass. -/
def wideQ (x : FVec Ideal S8192x384 .bf16) : FVec Ideal S1x8192x384 .f32 := broadcastInDim S1x8192x384 ![1, 2] bcast_S8192x384_S1x8192x384_1_2 (extf .f32 x bitsLt_bf16_f32)
def wideK (x : FVec Ideal S8192x256 .bf16) : FVec Ideal S1x8192x256 .f32 := broadcastInDim S1x8192x256 ![1, 2] bcast_S8192x256_S1x8192x256_1_2 (extf .f32 x bitsLt_bf16_f32)
def lanes32 (x : FVec Ideal S8192x128 .bf16) : FVec Ideal S1x8192x32 .f32 :=
  broadcastInDim S1x8192x32 ![1, 2] bcast_S8192x32_S1x8192x32_1_2 (extractStridedSlice S8192x32 ![0, 64] (extf .f32 x bitsLt_bf16_f32) slices_S8192x128_S8192x32_0_64)
def lanes96 (x : FVec Ideal S8192x1024 .bf16) : FVec Ideal S1x8192x8x96 .f32 :=
  extractStridedSlice S1x8192x8x96 ![0, 0, 0, 0] (shapeCast S1x8192x8x128 (extf .f32 x bitsLt_bf16_f32) shapeCasts_S8192x1024_S1x8192x8x128) slices_S1x8192x8x128_S1x8192x8x96_0_0_0_0
def lanes64 (x : FVec Ideal S8192x1024 .bf16) : FVec Ideal S1x8192x8x64 .f32 :=
  extractStridedSlice S1x8192x8x64 ![0, 0, 0, 0] (shapeCast S1x8192x8x128 (extf .f32 x bitsLt_bf16_f32) shapeCasts_S8192x1024_S1x8192x8x128) slices_S1x8192x8x128_S1x8192x8x64_0_0_0_0

theorem wideQ_up (f : Fin 8192 → Fin 384 → ℝ) : wideQ (up fun i : S8192x384.Idx => f (i 0) (i 1)) = up fun i : S1x8192x384.Idx => f (i 1) (i 2) := by
  funext i; idx_vars i; pointwise [wideQ]; rfl
theorem wideK_up (f : Fin 8192 → Fin 256 → ℝ) : wideK (up fun i : S8192x256.Idx => f (i 0) (i 1)) = up fun i : S1x8192x256.Idx => f (i 1) (i 2) := by
  funext i; idx_vars i; pointwise [wideK]; rfl
theorem lanes32_up (f : Fin 8192 → ℕ → ℝ) : lanes32 (up fun i : S8192x128.Idx => f (i 0) (i 1).val) = up fun i : S1x8192x32.Idx => f (i 1) (64 + (i 2).val) := by
  funext i; idx_vars i; pointwise [lanes32]; rfl
theorem same (f : Fin 8192 → ℕ → ℕ → ℝ) {t t' : Fin 8192} {p p' l l' : ℕ} (ht : t = t') (hp : p = p') (hl : l = l') : (f t p l : EReal) = (f t' p' l' : EReal) := by
  subst ht hp hl; rfl
theorem lanes96_up (f : Fin 8192 → ℕ → ℕ → ℝ) : lanes96 (up fun i : S8192x1024.Idx => f (i 0) ((i 1).val / 128) ((i 1).val % 128))
    = up fun i : S1x8192x8x96.Idx => f (i 1) (i 2).val (i 3).val := by
  funext i; idx_vars i; pointwise [lanes96]
  refine same f rfl ?_ ?_
  · show (i2.val * 128 + i3.val) / 128 = i2.val
    omega
  · show (i2.val * 128 + i3.val) % 128 = i3.val
    omega
theorem lanes64_up (f : Fin 8192 → ℕ → ℕ → ℝ) : lanes64 (up fun i : S8192x1024.Idx => f (i 0) ((i 1).val / 128) ((i 1).val % 128))
    = up fun i : S1x8192x8x64.Idx => f (i 1) (i 2).val (i 3).val := by
  funext i; idx_vars i; pointwise [lanes64]
  refine same f rfl ?_ ?_
  · show (i2.val * 128 + i3.val) / 128 = i2.val
    omega
  · show (i2.val * 128 + i3.val) % 128 = i3.val
    omega

variable (m : (ℓ : Loc nD τ sig) → Buf (Elt Ideal) ℓ) (c : Dev nD)

theorem tailDq : (Pipeline.afterTail₀ cfgs (dats m) 0 (V0 m) [hostOps1] c main_v90 : FVec Ideal S1x8192x8x96 .f32) = lanes96 ((dats m 0 c).arrAt 13 cfg0.N) := by
  have e : Pipeline.withArrays spec0 c (V0 m c) (fun w => (dats m 0 c).arrAt w cfg0.N) (Proc.devRef .tc main_v80_0) = (dats m 0 c).arrAt 13 cfg0.N :=
    (dats m 0 c).withArrays_arrAt sharedIn0 (V0 m c) (A_eq m c) 13
  rw [← e]
  unfold lanes96
  show StableHlo.after (List.flatten [hostOps1]) (Pipeline.withArrays spec0 c (V0 m c) fun w => (dats m 0 c).arrAt w cfg0.N) (Proc.devRef .tc main_v90) = _
  generalize Pipeline.withArrays spec0 c (V0 m c) (fun w => (dats m 0 c).arrAt w cfg0.N) = B
  simp only [hostOps1, List.flatten_cons, List.flatten_nil, List.append_nil]
  after_results_simp
  try rfl
theorem tailDkn : (Pipeline.afterTail₀ cfgs (dats m) 0 (V0 m) [hostOps1] c main_v93 : FVec Ideal S1x8192x8x64 .f32) = lanes64 ((dats m 0 c).arrAt 14 cfg0.N) := by
  have e : Pipeline.withArrays spec0 c (V0 m c) (fun w => (dats m 0 c).arrAt w cfg0.N) (Proc.devRef .tc main_v80_1) = (dats m 0 c).arrAt 14 cfg0.N :=
    (dats m 0 c).withArrays_arrAt sharedIn0 (V0 m c) (A_eq m c) 14
  rw [← e]
  unfold lanes64
  show StableHlo.after (List.flatten [hostOps1]) (Pipeline.withArrays spec0 c (V0 m c) fun w => (dats m 0 c).arrAt w cfg0.N) (Proc.devRef .tc main_v93) = _
  generalize Pipeline.withArrays spec0 c (V0 m c) (fun w => (dats m 0 c).arrAt w cfg0.N) = B
  simp only [hostOps1, List.flatten_cons, List.flatten_nil, List.append_nil]
  after_results_simp
  try rfl
theorem tailDvn : (Pipeline.afterTail₀ cfgs (dats m) 0 (V0 m) [hostOps1] c main_v96 : FVec Ideal S1x8192x8x64 .f32) = lanes64 ((dats m 0 c).arrAt 15 cfg0.N) := by
  have e : Pipeline.withArrays spec0 c (V0 m c) (fun w => (dats m 0 c).arrAt w cfg0.N) (Proc.devRef .tc main_v80_2) = (dats m 0 c).arrAt 15 cfg0.N :=
    (dats m 0 c).withArrays_arrAt sharedIn0 (V0 m c) (A_eq m c) 15
  rw [← e]
  unfold lanes64
  show StableHlo.after (List.flatten [hostOps1]) (Pipeline.withArrays spec0 c (V0 m c) fun w => (dats m 0 c).arrAt w cfg0.N) (Proc.devRef .tc main_v96) = _
  generalize Pipeline.withArrays spec0 c (V0 m c) (fun w => (dats m 0 c).arrAt w cfg0.N) = B
  simp only [hostOps1, List.flatten_cons, List.flatten_nil, List.append_nil]
  after_results_simp
  try rfl
theorem tailDkr : (Pipeline.afterTail₀ cfgs (dats m) 0 (V0 m) [hostOps1] c main_v87 : FVec Ideal S1x8192x32 .f32) = lanes32 ((dats m 0 c).arrAt 16 cfg0.N) := by
  have e : Pipeline.withArrays spec0 c (V0 m c) (fun w => (dats m 0 c).arrAt w cfg0.N) (Proc.devRef .tc main_v80_3) = (dats m 0 c).arrAt 16 cfg0.N :=
    (dats m 0 c).withArrays_arrAt sharedIn0 (V0 m c) (A_eq m c) 16
  rw [← e]
  unfold lanes32
  show StableHlo.after (List.flatten [hostOps1]) (Pipeline.withArrays spec0 c (V0 m c) fun w => (dats m 0 c).arrAt w cfg0.N) (Proc.devRef .tc main_v87) = _
  generalize Pipeline.withArrays spec0 c (V0 m c) (fun w => (dats m 0 c).arrAt w cfg0.N) = B
  simp only [hostOps1, List.flatten_cons, List.flatten_nil, List.append_nil]
  after_results_simp
  try rfl
theorem tailDcq : (Pipeline.afterTail₀ cfgs (dats m) 0 (V0 m) [hostOps1] c main_v82 : FVec Ideal S1x8192x384 .f32) = wideQ ((dats m 0 c).arrAt 19 cfg0.N) := by
  have e : Pipeline.withArrays spec0 c (V0 m c) (fun w => (dats m 0 c).arrAt w cfg0.N) (Proc.devRef .tc main_v80_6) = (dats m 0 c).arrAt 19 cfg0.N :=
    (dats m 0 c).withArrays_arrAt sharedIn0 (V0 m c) (A_eq m c) 19
  rw [← e]
  unfold wideQ
  show StableHlo.after (List.flatten [hostOps1]) (Pipeline.withArrays spec0 c (V0 m c) fun w => (dats m 0 c).arrAt w cfg0.N) (Proc.devRef .tc main_v82) = _
  generalize Pipeline.withArrays spec0 c (V0 m c) (fun w => (dats m 0 c).arrAt w cfg0.N) = B
  simp only [hostOps1, List.flatten_cons, List.flatten_nil, List.append_nil]
  after_results_simp
  try rfl
theorem tailDckv : (Pipeline.afterTail₀ cfgs (dats m) 0 (V0 m) [hostOps1] c main_v84 : FVec Ideal S1x8192x256 .f32) = wideK ((dats m 0 c).arrAt 20 cfg0.N) := by
  have e : Pipeline.withArrays spec0 c (V0 m c) (fun w => (dats m 0 c).arrAt w cfg0.N) (Proc.devRef .tc main_v80_7) = (dats m 0 c).arrAt 20 cfg0.N :=
    (dats m 0 c).withArrays_arrAt sharedIn0 (V0 m c) (A_eq m c) 20
  rw [← e]
  unfold wideK
  show StableHlo.after (List.flatten [hostOps1]) (Pipeline.withArrays spec0 c (V0 m c) fun w => (dats m 0 c).arrAt w cfg0.N) (Proc.devRef .tc main_v84) = _
  generalize Pipeline.withArrays spec0 c (V0 m c) (fun w => (dats m 0 c).arrAt w cfg0.N) = B
  simp only [hostOps1, List.flatten_cons, List.flatten_nil, List.append_nil]
  after_results_simp
  try rfl

variable {a : Reals} (h : Reads m c a)
include h

theorem resultDq : (Pipeline.afterTail₀ cfgs (dats m) 0 (V0 m) [hostOps1] c main_v90 : FVec Ideal S1x8192x8x96 .f32) = up fun i : S1x8192x8x96.Idx => a.dqh (i 1) (i 2).val (i 3).val := by
  rw [tailDq, final13 m c h]
  exact lanes96_up (fun t p l => a.dqh t p l)
theorem resultDkn : (Pipeline.afterTail₀ cfgs (dats m) 0 (V0 m) [hostOps1] c main_v93 : FVec Ideal S1x8192x8x64 .f32) = up fun i : S1x8192x8x64.Idx => a.dkn (i 1) (i 2).val (i 3).val := by
  rw [tailDkn, final14 m c h]
  exact lanes64_up (fun t p l => a.dkn t p l)
theorem resultDvn : (Pipeline.afterTail₀ cfgs (dats m) 0 (V0 m) [hostOps1] c main_v96 : FVec Ideal S1x8192x8x64 .f32) = up fun i : S1x8192x8x64.Idx => a.dv (i 1) (i 2).val (i 3).val := by
  rw [tailDvn, final15 m c h]
  exact lanes64_up (fun t p l => a.dv t p l)
theorem resultDkr : (Pipeline.afterTail₀ cfgs (dats m) 0 (V0 m) [hostOps1] c main_v87 : FVec Ideal S1x8192x32 .f32) = up fun i : S1x8192x32.Idx => a.dkr (i 1) (64 + (i 2).val) := by
  rw [tailDkr, final16 m c h]
  exact lanes32_up (fun t l => a.dkr t l)
theorem resultDcq : (Pipeline.afterTail₀ cfgs (dats m) 0 (V0 m) [hostOps1] c main_v82 : FVec Ideal S1x8192x384 .f32) = up fun i : S1x8192x384.Idx => a.dcq (i 1) (i 2) := by
  rw [tailDcq, final19 m c h]
  exact wideQ_up (fun t l => a.dcq t l)
theorem resultDckv : (Pipeline.afterTail₀ cfgs (dats m) 0 (V0 m) [hostOps1] c main_v84 : FVec Ideal S1x8192x256 .f32) = up fun i : S1x8192x256.Idx => a.dckv (i 1) (i 2) := by
  rw [tailDckv, final20 m c h]
  exact wideK_up (fun t l => a.dckv t l)

end Cert.QkvBwdIdeal.Val

end
-- ==== Proof.QkvBwdRef.lean ====
/- What `QkvBwdRefIdeal` leaves in its eight results, on real arguments. -/
module

public import proofs.«01_k».proof.Proof.QkvBwdTables
public import proofs.«01_k».proof.Proof.Gen.QkvBwdRefIdeal.Read

@[expose] public section

set_option maxRecDepth 16384

noncomputable section

namespace Cert.QkvBwdRefIdeal.Val

open Idealize.ShloMosaic Idealize.ShloMosaic.TcCoe Idealize.SL.Sem Cert.RealKit
open Cert.QkvBwdRefIdeal Cert.QkvBwdRefIdeal.Gen Cert.QkvBwdRefIdeal.Read Cert.QkvBwdIdeal.Val

/-- A sum over several axes, where only one of them is longer than one. -/
theorem sum_drop {s t : Shape} {axes : List (Fin s.rank)} (h : s.ReducesTo axes t) (v : s.Idx → EReal) (z : EReal) (j : t.Idx) {n : ℕ} (e : Fin n → s.Idx)
    (inj : Function.Injective e) (mem : ∀ k, h.drop (e k) = j) (all : ∀ y, h.drop y = j → ∃ k, e k = y) : Ideal.hostReduceAdd h v z j = z + ∑ k, v (e k) := by
  refine congrArg (z + ·) (Eq.trans (Finset.sum_congr (s₂ := Finset.univ.image e) ?_ fun _ _ => rfl) (Finset.sum_image fun _ _ _ _ h' => inj h'))
  ext y
  rw [Finset.mem_filter, Finset.mem_image]
  constructor
  · rintro ⟨-, hy⟩
    obtain ⟨k, hk⟩ := all y hy
    exact ⟨k, Finset.mem_univ _, hk⟩
  · rintro ⟨k, -, hk⟩
    exact ⟨Finset.mem_univ _, hk ▸ mem k⟩

theorem heads_sum (v : FVec Ideal S1x8192x8x32 .f32) (z : EReal) (t : Fin 8192) (l : Fin 32) :
    Ideal.hostReduceAdd reducesTo_S1x8192x8x32_S8192x32_d0_2 v z (ix2 t l) = z + ∑ h : Fin 8, v (ix4 0 t h l) :=
  sum_drop _ v z _ (fun h => ix4 0 t h l) (fun a b e => congrFun e 2) (fun k => funext fun b => Fin.ext (by fin_cases b <;> rfl)) fun y e => by
    idx_vars y
    have e1 : y1.val = t.val := congrArg Fin.val (congrFun e 0)
    have e2 : y3.val = l.val := congrArg Fin.val (congrFun e 1)
    exact ⟨y2, by rw [Subsingleton.elim y0 0, Fin.ext e1, Fin.ext e2]⟩
theorem lane_sum (v : FVec Ideal S1x8192x1x32 .f32) (z : EReal) (t : Fin 8192) (l : Fin 32) :
    Ideal.hostReduceAdd reducesTo_S1x8192x1x32_S8192x32_d0_2 v z (ix2 t l) = z + ∑ h : Fin 1, v (ix4 0 t h l) :=
  sum_drop _ v z _ (fun h => ix4 0 t h l) (fun a b e => congrFun e 2) (fun k => funext fun b => Fin.ext (by fin_cases b <;> rfl)) fun y e => by
    idx_vars y
    have e1 : y1.val = t.val := congrArg Fin.val (congrFun e 0)
    have e2 : y3.val = l.val := congrArg Fin.val (congrFun e 1)
    exact ⟨y2, by rw [Subsingleton.elim y0 0, Fin.ext e1, Fin.ext e2]⟩
theorem row_sum (v : FVec Ideal S1x8192x1 .f32) (z : EReal) (t : Fin 8192) :
    Ideal.hostReduceAdd reducesTo_S1x8192x1_S8192_d0_2 v z (ix1 t) = z + ∑ h : Fin 1, v (ix3 0 t h) :=
  sum_drop _ v z _ (fun h => ix3 0 t h) (fun a b e => congrFun e 2) (fun k => funext fun b => Fin.ext (by fin_cases b <;> rfl)) fun y e => by
    idx_vars y
    have e1 : y1.val = t.val := congrArg Fin.val (congrFun e 0)
    exact ⟨y2, by rw [Subsingleton.elim y0 0, Fin.ext e1]⟩
theorem sumQ (v : FVec Ideal S1x1x384 .f32) (z : EReal) (l : Fin 384) :
    Ideal.hostReduceAdd reducesTo_S1x1x384_S384_d0_1 v z (ix1 l) = z + ∑ h : Fin 1, v (ix3 0 h l) :=
  sum_drop _ v z _ (fun h => ix3 0 h l) (fun a b e => congrFun e 1) (fun k => funext fun b => Fin.ext (by fin_cases b <;> rfl)) fun y e => by
    idx_vars y
    have e1 : y2.val = l.val := congrArg Fin.val (congrFun e 0)
    exact ⟨y1, by rw [Subsingleton.elim y0 0, Fin.ext e1]⟩
theorem sumK (v : FVec Ideal S1x1x256 .f32) (z : EReal) (l : Fin 256) :
    Ideal.hostReduceAdd reducesTo_S1x1x256_S256_d0_1 v z (ix1 l) = z + ∑ h : Fin 1, v (ix3 0 h l) :=
  sum_drop _ v z _ (fun h => ix3 0 h l) (fun a b e => congrFun e 1) (fun k => funext fun b => Fin.ext (by fin_cases b <;> rfl)) fun y e => by
    idx_vars y
    have e1 : y2.val = l.val := congrArg Fin.val (congrFun e 0)
    exact ⟨y1, by rw [Subsingleton.elim y0 0, Fin.ext e1]⟩

variable (a : Reals) (t : Fin 8192)

/-- Angles, cosines and sines; the second copy is the first. -/
theorem v31 (j : Fin 16) : val_main_v31 (F := Ideal) (ix1 j) = ((1 / Real.rpow 10000 ((j.val : ℝ) / 16) : ℝ) : EReal) := by
  have e : (BitVec.ofNat 32 j.val).toInt = (j.val : ℤ) := by
    have := j.isLt
    rw [BitVec.toInt_eq_toNat_cond, BitVec.toNat_ofNat, Nat.mod_eq_of_lt (by omega), if_pos (by omega)]
  pointwise [val_main_v31, val_main_v30, val_main_v29, val_main_v28, val_main_v27, val_main_v26, val_main_v25, val_main_cst_8, val_main_cst_7, val_main_cst_6]
  rw [ofBits_16, ofBits_10000]
  show Ideal.div ((1 : ℝ) : EReal) (Ideal.pow ((10000 : ℝ) : EReal) (Ideal.div ((((BitVec.ofNat 32 j.val).toInt : ℝ)) : EReal) ((16 : ℝ) : EReal))) = _
  rw [e]
  exact coe_freq _
theorem v37 (j : Fin 16) : val_main_v37 (F := Ideal) a.P (ix3 0 t j) = ((a.ang t j.val : ℝ) : EReal) := by
  pointwise [val_main_v37, val_main_v36, val_main_v35, val_main_v34, val_main_v33, val_main_v32]
  rw [v31, Reals.ang, EReal.coe_mul]
  rfl
theorem v39 (j : Fin 16) : val_main_v39 (F := Ideal) a.P (ix4 0 t 0 j) = ((Real.cos (a.ang t j.val) : ℝ) : EReal) := by
  pointwise [val_main_v39, val_main_v38]
  rw [v37]
  rfl
theorem v41 (j : Fin 16) : val_main_v41 (F := Ideal) a.P (ix4 0 t 0 j) = ((Real.sin (a.ang t j.val) : ℝ) : EReal) := by
  pointwise [val_main_v41, val_main_v40]
  rw [v37]
  rfl
theorem again_c : val_main_v91 (F := Ideal) a.P = val_main_v39 (F := Ideal) a.P := rfl
theorem again_s : val_main_v93 (F := Ideal) a.P = val_main_v41 (F := Ideal) a.P := rfl

/-- The three gradients' entries. -/
theorem dq_in (h : Fin 8) (l : ℕ) (hl : l < 96) : a.Dq (ix4 0 t h ⟨l, hl⟩) = a.dq t h.val l := by rw [Reals.dq, dif_pos ⟨h.isLt, hl⟩]
theorem dk_in (h : Fin 8) (l : ℕ) (hl : l < 96) : a.Dk (ix4 0 t h ⟨l, hl⟩) = a.dk t h.val l := by rw [Reals.dk, dif_pos ⟨h.isLt, hl⟩]
theorem dv_in (h : Fin 8) (l : ℕ) (hl : l < 64) : a.Dv (ix4 0 t h ⟨l, hl⟩) = a.dv t h.val l := by rw [Reals.dv, dif_pos ⟨h.isLt, hl⟩]

/-- The transposed rotation of a row: lanes below 64, the first and the second half of the rotary lanes. -/
theorem rot_low (y : ℕ → ℝ) (l : ℕ) (h : l < 64) : a.rot t y l = y l := by rw [Reals.rot, if_pos h]
theorem rot_first (y : ℕ → ℝ) (j : ℕ) (h : j < 16) : a.rot t y (64 + j) = y (80 + j) * Real.sin (a.ang t j) + y (64 + j) * Real.cos (a.ang t j) := by
  rw [Reals.rot, if_neg (by omega), if_pos (by omega), show 64 + j + 16 = 80 + j by omega, show 64 + j - 64 = j by omega]; ring
theorem rot_second (y : ℕ → ℝ) (j : ℕ) (h : j < 16) : a.rot t y (80 + j) = y (80 + j) * Real.cos (a.ang t j) + -y (64 + j) * Real.sin (a.ang t j) := by
  have n1 : ¬ 80 + j < 64 := by omega
  have n2 : ¬ 80 + j < 80 := by omega
  rw [Reals.rot, if_neg n1, if_neg n2, if_pos (by omega), show 80 + j - 16 = 64 + j by omega, show 80 + j - 80 = j by omega]; ring

theorem v154 (h : Fin 8) (j : Fin 16) : val_main_v154 (F := Ideal) (up a.Dq) (ix4 0 t h j) = (a.dq t h.val (64 + j.val) : EReal) := by
  pointwise [val_main_v154, val_main_v153]
  exact congrArg (fun x : ℝ => (x : EReal)) ((congrArg (fun x => a.Dq (ix4 0 t h x)) (Fin.ext rfl)).trans (dq_in a t h (64 + j.val) (by omega)))
theorem v155 (h : Fin 8) (j : Fin 16) : val_main_v155 (F := Ideal) (up a.Dq) (ix4 0 t h j) = (a.dq t h.val (80 + j.val) : EReal) := by
  pointwise [val_main_v155, val_main_v153]
  exact congrArg (fun x : ℝ => (x : EReal)) ((congrArg (fun x => a.Dq (ix4 0 t h x)) (Fin.ext (by dsimp only; omega))).trans (dq_in a t h (80 + j.val) (by omega)))
theorem v163 (h : Fin 8) (j : Fin 16) : val_main_v163 (F := Ideal) a.P (up a.Dq) (ix4 0 t h j) = (a.dqh t h.val (80 + j.val) : EReal) := by
  pointwise [val_main_v163, val_main_v162, val_main_v161, val_main_v160, val_main_v159, val_main_v158]
  rw [v154, v155, v39, v41, Reals.dqh, rot_second a t _ _ j.isLt]
  simp only [EReal.coe_add, EReal.coe_mul, EReal.coe_neg]
theorem v166 (h : Fin 8) (j : Fin 16) : val_main_v166 (F := Ideal) a.P (up a.Dq) (ix4 0 t h j) = (a.dqh t h.val (64 + j.val) : EReal) := by
  pointwise [val_main_v166, val_main_v165, val_main_v164, val_main_v157, val_main_v156]
  rw [v154, v155, v39, v41, Reals.dqh, rot_first a t _ _ j.isLt]
  simp only [EReal.coe_add, EReal.coe_mul]
theorem v152 (h : Fin 8) (l : Fin 64) : val_main_v152 (F := Ideal) (up a.Dq) (ix4 0 t h l) = (a.dqh t h.val l.val : EReal) := by
  pointwise [val_main_v152]
  rw [Reals.dqh, rot_low a t _ _ l.isLt]
  exact congrArg (fun x : ℝ => (x : EReal)) (dq_in a t h l.val (by omega))
theorem v172 (h : Fin 8) (l : Fin 96) : val_main_v172 (F := Ideal) a.P (up a.Dq) (ix4 0 t h l) = (a.dqh t h.val l.val : EReal) := by
  have hl := l.isLt
  pointwise [val_main_v172, val_main_v171, val_main_v170, val_main_v169, val_main_v168, val_main_v167, val_main_cst_30, val_main_cst_29, val_main_cst_28, val_main_cst_27]
  by_cases h1 : l.val < 64
  · have n1 : ¬ (64 ≤ l.val ∧ l.val - 64 < 32) := by omega
    rw [dif_neg n1, dif_pos h1, v152, zero_add]
  by_cases h2 : l.val < 80
  · have p1 : 64 ≤ l.val ∧ l.val - 64 < 32 := by omega
    have n2 : ¬ (16 ≤ l.val - 64 ∧ l.val - 64 - 16 < 16) := by omega
    have p2 : l.val - 64 < 16 := by omega
    rw [dif_pos p1, dif_neg n2, dif_pos p2, dif_neg h1, v166, zero_add, add_zero]
    dsimp only
    rw [show 64 + (l.val - 64) = l.val by omega]
  · have p1 : 64 ≤ l.val ∧ l.val - 64 < 32 := by omega
    have p2 : 16 ≤ l.val - 64 ∧ l.val - 64 - 16 < 16 := by omega
    have n2 : ¬ l.val - 64 < 16 := by omega
    rw [dif_pos p1, dif_pos p2]
    simp only [dif_neg h1, dif_neg n2]
    rw [v163 a t h ⟨l.val - 64 - 16, p2.2⟩, add_zero, add_zero]
    dsimp only
    rw [show 80 + (l.val - 64 - 16) = l.val by omega]

theorem v109 (h : Fin 8) (l : Fin 32) : val_main_v109 (F := Ideal) (up a.Dk) (ix4 0 t h l) = (a.dk t h.val (64 + l.val) : EReal) := by
  pointwise [val_main_v109]
  exact congrArg (fun x : ℝ => (x : EReal)) (dk_in a t h (64 + l.val) (by omega))
theorem v111 (l : Fin 32) : val_main_v111 (F := Ideal) (up a.Dk) (ix4 0 t 0 l) = ((∑ h : Fin 8, a.dk t h.val (64 + l.val) : ℝ) : EReal) := by
  pointwise [val_main_v111]
  refine (heads_sum (val_main_v109 (F := Ideal) (up a.Dk)) _ t l).trans ?_
  pointwise [val_main_v110, val_main_cst_17]
  simp only [v109, coe_sum]
/-- The shared rotary row. -/
theorem v114 (j : Fin 16) : val_main_v114 (F := Ideal) (up a.Dk) (ix4 0 t 0 j) = ((∑ h : Fin 8, a.dk t h.val (64 + j.val) : ℝ) : EReal) := by
  pointwise [val_main_v114]
  exact v111 a t ⟨j.val, by omega⟩
theorem v115 (j : Fin 16) : val_main_v115 (F := Ideal) (up a.Dk) (ix4 0 t 0 j) = ((∑ h : Fin 8, a.dk t h.val (80 + j.val) : ℝ) : EReal) := by
  pointwise [val_main_v115]
  refine (v111 a t ⟨16 + j.val, by omega⟩).trans ?_
  dsimp only
  rw [show 64 + (16 + j.val) = 80 + j.val by omega]
theorem v120 (j : Fin 16) : val_main_v120 (F := Ideal) a.P (up a.Dk) (ix4 0 t 0 j) = (a.dkr t (80 + j.val) : EReal) := by
  have hj := j.isLt
  pointwise [val_main_v120, val_main_v119, val_main_v118, val_main_v117]
  rw [again_c, again_s, v114, v115, v39, v41, Reals.dkr, if_pos (by omega), rot_second a t _ _ j.isLt]
  simp only [EReal.coe_add, EReal.coe_mul, EReal.coe_neg]
theorem v122 (j : Fin 16) : val_main_v122 (F := Ideal) a.P (up a.Dk) (ix4 0 t 0 j) = (a.dkr t (64 + j.val) : EReal) := by
  have hj := j.isLt
  pointwise [val_main_v122, val_main_v121, val_main_v116]
  rw [again_c, again_s, v114, v115, v39, v41, Reals.dkr, if_pos (by omega), rot_first a t _ _ j.isLt]
  simp only [EReal.coe_add, EReal.coe_mul]
theorem v125 (l : Fin 32) : val_main_v125 (F := Ideal) a.P (up a.Dk) (ix4 0 t 0 l) = (a.dkr t (64 + l.val) : EReal) := by
  have hl := l.isLt
  pointwise [val_main_v125, val_main_v124, val_main_v123, val_main_cst_20, val_main_cst_19]
  by_cases h2 : l.val < 16
  · have n2 : ¬ (16 ≤ l.val ∧ l.val - 16 < 16) := by omega
    rw [dif_neg n2, dif_pos h2, v122, zero_add]
  · have p2 : 16 ≤ l.val ∧ l.val - 16 < 16 := by omega
    rw [dif_pos p2, dif_neg h2, v120, add_zero]
    dsimp only
    rw [show 80 + (l.val - 16) = 64 + l.val by omega]
theorem v127 (l : Fin 32) : val_main_v127 (F := Ideal) a.P (up a.Dk) (ix3 0 t l) = (a.dkr t (64 + l.val) : EReal) := by
  pointwise [val_main_v127]
  refine (lane_sum (val_main_v125 (F := Ideal) a.P (up a.Dk)) _ t l).trans ?_
  pointwise [val_main_v126, val_main_cst_21]
  simp only [Fin.sum_univ_one]
  exact v125 a t l

/-- A head's row of the second projection's gradient. -/
def both (h l : ℕ) : ℝ := if l < 64 then a.dk t h l else a.dv t h (l - 64)
theorem v113 (h : Fin 8) (l : Fin 128) : val_main_v113 (F := Ideal) (up a.Dk) (up a.Dv) (ix4 0 t h l) = (both a t h.val l.val : EReal) := by
  have hl := l.isLt
  unfold both
  pointwise [val_main_v113, val_main_v112, val_main_v108, val_main_v107, val_main_cst_18, val_main_cst_16]
  by_cases h1 : l.val < 64
  · have n1 : ¬ (64 ≤ l.val ∧ l.val - 64 < 64) := by omega
    rw [dif_neg n1, dif_pos h1, if_pos h1, zero_add]
    exact congrArg (fun x : ℝ => (x : EReal)) (dk_in a t h l.val (by omega))
  · have p1 : 64 ≤ l.val ∧ l.val - 64 < 64 := by omega
    rw [dif_pos p1, dif_neg h1, if_neg h1, add_zero]
    exact congrArg (fun x : ℝ => (x : EReal)) (dv_in a t h (l.val - 64) (by omega))
theorem v128 (c : Fin 1024) : val_main_v128 (F := Ideal) (up a.Dk) (up a.Dv) (ix3 0 t c) = (both a t (c.val / 128) (c.val % 128) : EReal) := by
  pointwise [val_main_v128]
  exact v113 a t ⟨c.val / 128, by omega⟩ ⟨c.val % 128, by omega⟩
theorem v173 (c : Fin 768) : val_main_v173 (F := Ideal) a.P (up a.Dq) (ix3 0 t c) = (a.dqh t (c.val / 96) (c.val % 96) : EReal) := by
  pointwise [val_main_v173]
  exact v172 a t ⟨c.val / 96, by omega⟩ ⟨c.val % 96, by omega⟩
theorem wq_in (j : Fin 384) (c : Fin 768) : a.Wq (ix2 j c) = a.wq j (c.val / 96) (c.val % 96) := by
  have := c.isLt
  rw [Reals.wq, dif_pos ⟨by omega, by omega⟩]
  exact congrArg (fun x => a.Wq (ix2 j x)) (Fin.ext (by dsimp only; omega))
theorem wk_in (j : Fin 256) (c : Fin 1024) : a.Wk (ix2 j c) = a.wk j (c.val / 128) (c.val % 128) := by
  have := c.isLt
  rw [Reals.wk, dif_pos ⟨by omega, by omega⟩]
  exact congrArg (fun x => a.Wk (ix2 j x)) (Fin.ext (by dsimp only; omega))
theorem v174 (j : Fin 384) : val_main_v174 (F := Ideal) a.P (up a.Wq) (up a.Dq) (ix3 0 t j) = (a.dcqn t j : EReal) := by
  pointwise [val_main_v174]
  simp only [v173, up, wq_in, ← EReal.coe_mul, coe_sum]
  refine congrArg (fun x : ℝ => (x : EReal)) ?_
  rw [sum_heads 96 768 rfl]
  refine Finset.sum_congr rfl fun h _ => Finset.sum_congr rfl fun l _ => ?_
  have := l.isLt
  dsimp only
  rw [show (h.val * 96 + l.val) / 96 = h.val by omega, show (h.val * 96 + l.val) % 96 = l.val by omega]
theorem v129 (j : Fin 256) : val_main_v129 (F := Ideal) (up a.Wk) (up a.Dk) (up a.Dv) (ix3 0 t j) = (a.dckvn t j : EReal) := by
  pointwise [val_main_v129]
  simp only [v128, up, wk_in, ← EReal.coe_mul, coe_sum]
  refine congrArg (fun x : ℝ => (x : EReal)) ?_
  rw [sum_pad 128 0 rfl (fun h l => both a t h l * a.wk j h l) fun h l hl hl' => absurd hl (by omega), Reals.dckvn, ← Finset.sum_add_distrib]
  refine Finset.sum_congr rfl fun h _ => (Fin.sum_univ_add (a := 64) (b := 64) _).trans (congrArg₂ (· + ·) ?_ ?_)
  · refine Finset.sum_congr rfl fun l _ => ?_
    show both a t h.val l.val * a.wk j h.val l.val = _
    rw [both, if_pos l.isLt]
  · refine Finset.sum_congr rfl fun l _ => ?_
    show both a t h.val (64 + l.val) * a.wk j h.val (64 + l.val) = _
    rw [both, if_neg (by omega), show 64 + l.val - 64 = l.val by omega]

/-- The norm of a row of width 384, and its gradients. -/
theorem v10 : val_main_v10 (F := Ideal) (up a.Q) (ix3 0 t 0) = ((msq 384 (a.q t) : ℝ) : EReal) := by
  pointwise [val_main_v10, val_main_v9, val_main_v8, val_main_v7, val_main_v6, val_main_v5, val_main_v4, val_main_cst_4, val_main_cst_3, val_main_cst_2]
  simp only [ofBits_384, ofBits_eps]
  exact coe_msq (by norm_num) _
theorem v11 : val_main_v11 (F := Ideal) (up a.Q) (ix3 0 t 0) = ((irms 384 (a.q t) : ℝ) : EReal) := by
  pointwise [val_main_v11]
  rw [v10]
  exact coe_rsqrt_msq (by norm_num) _
theorem v14 : val_main_v14 (F := Ideal) (up a.Q) (ix3 0 t 0) = ((-(1 / 2) * (irms 384 (a.q t) / msq 384 (a.q t)) : ℝ) : EReal) := by
  pointwise [val_main_v14, val_main_v13, val_main_v12, val_main_cst_5]
  rw [v11, v10, coe_irms_msq (by norm_num), ofBits_neg_half, ← EReal.coe_mul]
theorem v179 (k : Fin 384) : val_main_v179 (F := Ideal) a.P (up a.gq) (up a.Wq) (up a.Dq) (ix3 0 t k) = ((a.dcqn t k * a.gq (ix2 0 k) : ℝ) : EReal) := by
  pointwise [val_main_v179, val_main_v178, val_main_v17, val_main_v3]
  rw [v174, EReal.coe_mul]
theorem v188 : val_main_v188 (F := Ideal) (up a.Q) a.P (up a.gq) (up a.Wq) (up a.Dq) (ix3 0 t 0)
    = (((∑ k, a.q t k * (a.dcqn t k * a.gq (ix2 0 k))) * (-(1 / 2) * (irms 384 (a.q t) / msq 384 (a.q t))) / 384 : ℝ) : EReal) := by
  have e : ∀ k : Fin 384, up a.Q (ix3 0 t k) = (a.q t k : EReal) := fun _ => rfl
  pointwise [val_main_v188, val_main_v187, val_main_v186, val_main_v183, val_main_v182, val_main_v181, val_main_cst_34, val_main_cst_33]
  simp only [e, v179, v14, ofBits_384, ← EReal.coe_mul, coe_sum]
  exact coe_div (by norm_num)
theorem v190 : val_main_v190 (F := Ideal) (up a.Q) a.P (up a.gq) (up a.Wq) (up a.Dq) (ix2 0 t)
    = (((∑ k, a.q t k * (a.dcqn t k * a.gq (ix2 0 k))) * (-(1 / 2) * (irms 384 (a.q t) / msq 384 (a.q t))) / 384 : ℝ) : EReal) := by
  pointwise [val_main_v190]
  refine (row_sum (val_main_v188 (F := Ideal) (up a.Q) a.P (up a.gq) (up a.Wq) (up a.Dq)) _ t).trans ?_
  pointwise [val_main_v189, val_main_cst_35]
  simp only [Fin.sum_univ_one]
  exact v188 a t
theorem v195 (k : Fin 384) : val_main_v195 (F := Ideal) (up a.Q) a.P (up a.gq) (up a.Wq) (up a.Dq) (ix3 0 t k) = (a.dcq t k : EReal) := by
  have e : ∀ k : Fin 384, up a.Q (ix3 0 t k) = (a.q t k : EReal) := fun _ => rfl
  pointwise [val_main_v195, val_main_v194, val_main_v193, val_main_v192, val_main_v191, val_main_v185, val_main_v184]
  simp only [e, v190, v179, v11, ← EReal.coe_mul, ← EReal.coe_add]
  exact congrArg (fun x : ℝ => (x : EReal)) (rbwd_plain (by norm_num) (a.q t) (fun k => a.dcqn t k * a.gq (ix2 0 k)) k)
omit t in
theorem v177 (k : Fin 384) : val_main_v177 (F := Ideal) (up a.Q) a.P (up a.Wq) (up a.Dq) (ix3 0 0 k) = ((∑ t, a.gainQ k t : ℝ) : EReal) := by
  have e : ∀ t (k : Fin 384), up a.Q (ix3 0 t k) = (a.q t k : EReal) := fun _ _ => rfl
  pointwise [val_main_v177, val_main_v176, val_main_v175, val_main_v16, val_main_v15, val_main_cst_31]
  simp only [e, v174, v11, ← EReal.coe_mul, coe_sum]
  exact congrArg (fun x : ℝ => (x : EReal)) (Finset.sum_congr rfl fun t _ => mul_comm _ _)
omit t in
theorem v196 (k : Fin 384) : val_main_v196 (F := Ideal) (up a.Q) a.P (up a.Wq) (up a.Dq) (ix2 0 k) = ((∑ t, a.gainQ k t : ℝ) : EReal) := by
  pointwise [val_main_v196]
  refine (sumQ (val_main_v177 (F := Ideal) (up a.Q) a.P (up a.Wq) (up a.Dq)) _ k).trans ?_
  pointwise [val_main_v180, val_main_cst_32]
  simp only [Fin.sum_univ_one]
  exact v177 a k

/-- The norm of a row of width 256, and its gradients. -/
theorem v63 : val_main_v63 (F := Ideal) (up a.K) (ix3 0 t 0) = ((msq 256 (a.kv t) : ℝ) : EReal) := by
  pointwise [val_main_v63, val_main_v62, val_main_v61, val_main_v60, val_main_v59, val_main_v58, val_main_v57, val_main_cst_11, val_main_cst_10, val_main_cst_9]
  simp only [ofBits_256, ofBits_eps]
  exact coe_msq (by norm_num) _
theorem v64 : val_main_v64 (F := Ideal) (up a.K) (ix3 0 t 0) = ((irms 256 (a.kv t) : ℝ) : EReal) := by
  pointwise [val_main_v64]
  rw [v63]
  exact coe_rsqrt_msq (by norm_num) _
theorem v67 : val_main_v67 (F := Ideal) (up a.K) (ix3 0 t 0) = ((-(1 / 2) * (irms 256 (a.kv t) / msq 256 (a.kv t)) : ℝ) : EReal) := by
  pointwise [val_main_v67, val_main_v66, val_main_v65, val_main_cst_12]
  rw [v64, v63, coe_irms_msq (by norm_num), ofBits_neg_half, ← EReal.coe_mul]
theorem v134 (k : Fin 256) : val_main_v134 (F := Ideal) (up a.gk) (up a.Wk) (up a.Dk) (up a.Dv) (ix3 0 t k) = ((a.dckvn t k * a.gk (ix2 0 k) : ℝ) : EReal) := by
  pointwise [val_main_v134, val_main_v133, val_main_v70, val_main_v56]
  rw [v129, EReal.coe_mul]
theorem v143 : val_main_v143 (F := Ideal) (up a.K) (up a.gk) (up a.Wk) (up a.Dk) (up a.Dv) (ix3 0 t 0)
    = (((∑ k, a.kv t k * (a.dckvn t k * a.gk (ix2 0 k))) * (-(1 / 2) * (irms 256 (a.kv t) / msq 256 (a.kv t))) / 256 : ℝ) : EReal) := by
  have e : ∀ k : Fin 256, up a.K (ix3 0 t k) = (a.kv t k : EReal) := fun _ => rfl
  pointwise [val_main_v143, val_main_v142, val_main_v141, val_main_v138, val_main_v137, val_main_v136, val_main_cst_25, val_main_cst_24]
  simp only [e, v134, v67, ofBits_256, ← EReal.coe_mul, coe_sum]
  exact coe_div (by norm_num)
theorem v145 : val_main_v145 (F := Ideal) (up a.K) (up a.gk) (up a.Wk) (up a.Dk) (up a.Dv) (ix2 0 t)
    = (((∑ k, a.kv t k * (a.dckvn t k * a.gk (ix2 0 k))) * (-(1 / 2) * (irms 256 (a.kv t) / msq 256 (a.kv t))) / 256 : ℝ) : EReal) := by
  pointwise [val_main_v145]
  refine (row_sum (val_main_v143 (F := Ideal) (up a.K) (up a.gk) (up a.Wk) (up a.Dk) (up a.Dv)) _ t).trans ?_
  pointwise [val_main_v144, val_main_cst_26]
  simp only [Fin.sum_univ_one]
  exact v143 a t
theorem v150 (k : Fin 256) : val_main_v150 (F := Ideal) (up a.K) (up a.gk) (up a.Wk) (up a.Dk) (up a.Dv) (ix3 0 t k) = (a.dckv t k : EReal) := by
  have e : ∀ k : Fin 256, up a.K (ix3 0 t k) = (a.kv t k : EReal) := fun _ => rfl
  pointwise [val_main_v150, val_main_v149, val_main_v148, val_main_v147, val_main_v146, val_main_v140, val_main_v139]
  simp only [e, v145, v134, v64, ← EReal.coe_mul, ← EReal.coe_add]
  exact congrArg (fun x : ℝ => (x : EReal)) (rbwd_plain (by norm_num) (a.kv t) (fun k => a.dckvn t k * a.gk (ix2 0 k)) k)
omit t in
theorem v132 (k : Fin 256) : val_main_v132 (F := Ideal) (up a.K) (up a.Wk) (up a.Dk) (up a.Dv) (ix3 0 0 k) = ((∑ t, a.gainK k t : ℝ) : EReal) := by
  have e : ∀ t (k : Fin 256), up a.K (ix3 0 t k) = (a.kv t k : EReal) := fun _ _ => rfl
  pointwise [val_main_v132, val_main_v131, val_main_v130, val_main_v69, val_main_v68, val_main_cst_22]
  simp only [e, v129, v64, ← EReal.coe_mul, coe_sum]
  exact congrArg (fun x : ℝ => (x : EReal)) (Finset.sum_congr rfl fun t _ => mul_comm _ _)
omit t in
theorem v151 (k : Fin 256) : val_main_v151 (F := Ideal) (up a.K) (up a.Wk) (up a.Dk) (up a.Dv) (ix2 0 k) = ((∑ t, a.gainK k t : ℝ) : EReal) := by
  pointwise [val_main_v151]
  refine (sumK (val_main_v132 (F := Ideal) (up a.K) (up a.Wk) (up a.Dk) (up a.Dv)) _ k).trans ?_
  pointwise [val_main_v135, val_main_cst_23]
  simp only [Fin.sum_univ_one]
  exact v132 a k

omit t

/-- The eight results. -/
theorem dcq_ref : val_main_v195 (F := Ideal) (up a.Q) a.P (up a.gq) (up a.Wq) (up a.Dq) = up fun i : S1x8192x384.Idx => a.dcq (i 1) (i 2) := by
  funext i
  idx_vars i
  rw [Subsingleton.elim i0 0]
  exact v195 a i1 i2
theorem dckv_ref : val_main_v150 (F := Ideal) (up a.K) (up a.gk) (up a.Wk) (up a.Dk) (up a.Dv) = up fun i : S1x8192x256.Idx => a.dckv (i 1) (i 2) := by
  funext i
  idx_vars i
  rw [Subsingleton.elim i0 0]
  exact v150 a i1 i2
theorem dkr_ref : val_main_v127 (F := Ideal) a.P (up a.Dk) = up fun i : S1x8192x32.Idx => a.dkr (i 1) (64 + (i 2).val) := by
  funext i
  idx_vars i
  rw [Subsingleton.elim i0 0]
  exact v127 a i1 i2
theorem gq_ref : val_main_v196 (F := Ideal) (up a.Q) a.P (up a.Wq) (up a.Dq) = up fun i : S1x384.Idx => ∑ t, a.gainQ (i 1) t := by
  funext i
  idx_vars i
  rw [Subsingleton.elim i0 0]
  exact v196 a i1
theorem gk_ref : val_main_v151 (F := Ideal) (up a.K) (up a.Wk) (up a.Dk) (up a.Dv) = up fun i : S1x256.Idx => ∑ t, a.gainK (i 1) t := by
  funext i
  idx_vars i
  rw [Subsingleton.elim i0 0]
  exact v151 a i1
theorem dqh_ref : val_main_v172 (F := Ideal) a.P (up a.Dq) = up fun i : S1x8192x8x96.Idx => a.dqh (i 1) (i 2).val (i 3).val := by
  funext i
  idx_vars i
  rw [Subsingleton.elim i0 0]
  exact v172 a i1 i2 i3
theorem dkn_ref : val_main_v197 (F := Ideal) (up a.Dk) (up a.Dv) = up fun i : S1x8192x8x64.Idx => a.dkn (i 1) (i 2).val (i 3).val := by
  funext i
  idx_vars i
  have e : a.dkn i1 i2.val i3.val = both a i1 i2.val i3.val := by rw [Reals.dkn, both, if_pos i3.isLt, if_pos i3.isLt]
  pointwise [val_main_v197]
  rw [Subsingleton.elim i0 0]
  exact (v113 a i1 i2 ⟨i3.val, by omega⟩).trans (congrArg _ e.symm)
theorem dvn_ref : val_main_v198 (F := Ideal) (up a.Dk) (up a.Dv) = up fun i : S1x8192x8x64.Idx => a.dv (i 1) (i 2).val (i 3).val := by
  funext i
  idx_vars i
  have e : a.dv i1 i2.val i3.val = both a i1 i2.val (64 + i3.val) := by rw [both, if_neg (by omega), show 64 + i3.val - 64 = i3.val by omega]
  pointwise [val_main_v198]
  rw [Subsingleton.elim i0 0]
  exact (v113 a i1 i2 ⟨64 + i3.val, by omega⟩).trans (congrArg _ e.symm)

end Cert.QkvBwdRefIdeal.Val

end
-- ==== Proof.QkvBwdPair.lean ====
/- The claims about the gradient through the attention's rotary, head norms and projections. -/
module

public import proofs.«01_k».proof.Defs
public import proofs.«01_k».proof.Proof.QkvBwdTail
public import proofs.«01_k».proof.Proof.QkvBwdRef
public import proofs.«01_k».proof.Proof.Gen.QkvBwd.Frame
public import proofs.«01_k».proof.Proof.Gen.QkvBwdRefIdeal.Run
public import proofs.«01_k».proof.Proof.Gen.Pre_finite_qkv_bwd

@[expose] public section

noncomputable section

namespace Cert.QkvBwdPair

open Idealize.ShloMosaic Idealize.ShloMosaic.TcCoe Idealize.SL.Sem Cert.RealKit Cert.QkvBwdIdeal Cert.QkvBwdIdeal.Val

theorem finite (m : (ℓ : Loc nD τ sig) → Buf (Elt Ideal) ℓ) (h : Cert.Pre_QkvBwdIdeal_finite_qkv_bwd m) (c : Dev nD) : ∃ a : Reals, Reads m c a := by
  have e := congrFun (h c) (fun a => a.elim0)
  dsimp only [Cert.Pre_finite_qkv_bwd.fn, Cert.Pre_finite_qkv_bwd.fn_part1, Cert.Pre_finite_qkv_bwd.fn_part2] at e
  simp only [and_split] at e
  obtain ⟨⟨⟨⟨⟨⟨⟨⟨h0, h1⟩, h3⟩, h4⟩, h5⟩, h6⟩, h7⟩, h8⟩, h9⟩ := e
  exact ⟨⟨_, _, _, _, _, _, _, _, _, _⟩, real_of_all _ _ _ _ _ h0,
    real_of_all _ _ _ _ _ h1,
    rfl,
    real_of_all _ _ _ _ _ h3,
    real_of_all _ _ _ _ _ h4,
    real_of_all _ _ _ _ _ h5,
    real_of_all _ _ _ _ _ h6,
    real_of_all _ _ _ _ _ h7,
    real_of_all _ _ _ _ _ h8,
    real_of_all _ _ _ _ _ h9⟩

set_option maxHeartbeats 2000000 in
theorem value : Cert.algebraic_QkvBwdIdeal_QkvBwdRefIdeal_pre_finite_qkv_bwd := by
  intro m g m' g' hpre hagree
  choose a h using finite m hpre
  refine ⟨fun c => up fun i => (a c).dcq (i 1) (i 2),
    fun c => up fun i => (a c).dckv (i 1) (i 2),
    fun c => up fun i => (a c).dkr (i 1) (64 + (i 2).val),
    fun c => up fun i => ∑ t, (a c).gainQ (i 1) t,
    fun c => up fun i => ∑ t, (a c).gainK (i 1) t,
    fun c => up fun i => (a c).dqh (i 1) (i 2).val (i 3).val,
    fun c => up fun i => (a c).dkn (i 1) (i 2).val (i 3).val,
    fun c => up fun i => (a c).dv (i 1) (i 2).val (i 3).val, ?_, ?_⟩
  · refine (θ_run _ _ _).mono (fun r hr c => ?_) (θ_run_and (Gen.run_main m g) (Gen.frame m g))
    obtain ⟨h1, h2, -⟩ := hr
    exact ⟨((h1 c).2 main_v82 (Pipeline.mem_restRefs_of main_v82 (by decide) (by decide))).trans (resultDcq m c (h c)),
      ((h1 c).2 main_v84 (Pipeline.mem_restRefs_of main_v84 (by decide) (by decide))).trans (resultDckv m c (h c)),
      ((h1 c).2 main_v87 (Pipeline.mem_restRefs_of main_v87 (by decide) (by decide))).trans (resultDkr m c (h c)),
      ((h1 c).1 17).trans (final17 m c (h c)),
      ((h1 c).1 18).trans (final18 m c (h c)),
      ((h1 c).2 main_v90 (Pipeline.mem_restRefs_of main_v90 (by decide) (by decide))).trans (resultDq m c (h c)),
      ((h1 c).2 main_v93 (Pipeline.mem_restRefs_of main_v93 (by decide) (by decide))).trans (resultDkn m c (h c)),
      ((h1 c).2 main_v96 (Pipeline.mem_restRefs_of main_v96 (by decide) (by decide))).trans (resultDvn m c (h c)), h2 c⟩
  · refine (θ_run _ _ _).mono (fun r hr c => ?_) (Cert.QkvBwdRefIdeal.Value.run (F := Ideal) m' g')
    obtain ⟨a0, a1, a2, a3, a4, a5, a6, a7, a8, a9⟩ := hagree c
    obtain ⟨h0, h1, h2, h3, h4, h5, h6, h7, hb⟩ := hr c
    have b0 : StableHlo.launchContents m' c (Proc.devRef .tc Cert.QkvBwdRefIdeal.main_arg0) = up (a c).Q := a0.trans (h c).q
    have b1 : StableHlo.launchContents m' c (Proc.devRef .tc Cert.QkvBwdRefIdeal.main_arg1) = up (a c).K := a1.trans (h c).k
    have b2 : StableHlo.launchContents m' c (Proc.devRef .tc Cert.QkvBwdRefIdeal.main_arg2) = (a c).P := a2.trans (h c).p
    have b3 : StableHlo.launchContents m' c (Proc.devRef .tc Cert.QkvBwdRefIdeal.main_arg3) = up (a c).gq := a3.trans (h c).gq
    have b4 : StableHlo.launchContents m' c (Proc.devRef .tc Cert.QkvBwdRefIdeal.main_arg4) = up (a c).Wq := a4.trans (h c).wq
    have b5 : StableHlo.launchContents m' c (Proc.devRef .tc Cert.QkvBwdRefIdeal.main_arg5) = up (a c).gk := a5.trans (h c).gk
    have b6 : StableHlo.launchContents m' c (Proc.devRef .tc Cert.QkvBwdRefIdeal.main_arg6) = up (a c).Wk := a6.trans (h c).wk
    have b7 : StableHlo.launchContents m' c (Proc.devRef .tc Cert.QkvBwdRefIdeal.main_arg7) = up (a c).Dq := a7.trans (h c).dq
    have b8 : StableHlo.launchContents m' c (Proc.devRef .tc Cert.QkvBwdRefIdeal.main_arg8) = up (a c).Dk := a8.trans (h c).dk
    have b9 : StableHlo.launchContents m' c (Proc.devRef .tc Cert.QkvBwdRefIdeal.main_arg9) = up (a c).Dv := a9.trans (h c).dv
    refine ⟨h0.trans ?_, h1.trans ?_, h2.trans ?_, h3.trans ?_, h4.trans ?_, h5.trans ?_, h6.trans ?_, h7.trans ?_, hb⟩
    · refine (QkvBwdRefIdeal.Read.val_main_v195_eq (StableHlo.launchContents m' c)).trans ?_
      rw [b0, b2, b3, b4, b7]
      exact QkvBwdRefIdeal.Val.dcq_ref (a c)
    · refine (QkvBwdRefIdeal.Read.val_main_v150_eq (StableHlo.launchContents m' c)).trans ?_
      rw [b1, b5, b6, b8, b9]
      exact QkvBwdRefIdeal.Val.dckv_ref (a c)
    · refine (QkvBwdRefIdeal.Read.val_main_v127_eq (StableHlo.launchContents m' c)).trans ?_
      rw [b2, b8]
      exact QkvBwdRefIdeal.Val.dkr_ref (a c)
    · refine (QkvBwdRefIdeal.Read.val_main_v196_eq (StableHlo.launchContents m' c)).trans ?_
      rw [b0, b2, b4, b7]
      exact QkvBwdRefIdeal.Val.gq_ref (a c)
    · refine (QkvBwdRefIdeal.Read.val_main_v151_eq (StableHlo.launchContents m' c)).trans ?_
      rw [b1, b6, b8, b9]
      exact QkvBwdRefIdeal.Val.gk_ref (a c)
    · refine (QkvBwdRefIdeal.Read.val_main_v172_eq (StableHlo.launchContents m' c)).trans ?_
      rw [b2, b7]
      exact QkvBwdRefIdeal.Val.dqh_ref (a c)
    · refine (QkvBwdRefIdeal.Read.val_main_v197_eq (StableHlo.launchContents m' c)).trans ?_
      rw [b8, b9]
      exact QkvBwdRefIdeal.Val.dkn_ref (a c)
    · refine (QkvBwdRefIdeal.Read.val_main_v198_eq (StableHlo.launchContents m' c)).trans ?_
      rw [b8, b9]
      exact QkvBwdRefIdeal.Val.dvn_ref (a c)

theorem frame_kernel : Cert.quiescent_QkvBwd := fun m g _ => Cert.QkvBwd.Gen.frame m g

theorem frame_ideal : Cert.quiescent_QkvBwdIdeal := fun m g _ => Gen.frame m g

theorem frame_ref : Cert.quiescent_QkvBwdRefIdeal := by
  intro m g _
  exact (θ_run _ _ _).mono (fun r h => ⟨fun c => (h c).2.2.2.2.2.2.2.2, sem_eq_zero_of_no_sems (by decide) r.2⟩) (Cert.QkvBwdRefIdeal.Value.run (F := Ideal) m g)

theorem preserves : Cert.preserves_QkvBwd_QkvBwdIdeal := trivial

end Cert.QkvBwdPair

end
-- ==== Proof.InProjValue.lean ====
/- What `InProjIdeal` leaves in its two results. -/
module

public import proofs.«01_k».proof.Defs
public import proofs.«01_k».proof.Proof.Gen.InProjIdeal.Frame
public import proofs.«01_k».proof.Proof.RealKit

@[expose] public section

set_option maxRecDepth 16384

noncomputable section

namespace Cert.InProjIdeal.Val

open Idealize.ShloMosaic Idealize.ShloMosaic.TcCoe Idealize.SL.Sem Cert.RealKit
open Idealize.ShloMosaic.Pipeline (Dat)
open Cert.InProjIdeal Cert.InProjIdeal.Gen

/-- The normalised rows and their projection. -/
def xn (X : FVec Ideal S8192x1024 .f32) (G : FVec Ideal S1x1024 .f32) (t : Fin 8192) (k : Fin 1024) : EReal :=
  X (ix2 t k) * Ideal.rsqrt (Ideal.div (∑ l : Fin 1024, X (ix2 t l) * X (ix2 t l)) (Ideal.ofBits .f32 0x44800000#32) + Ideal.ofBits .f32 0x358637BD#32) * G (ix2 0 k)
def normed (X : FVec Ideal S8192x1024 .f32) (G : FVec Ideal S1x1024 .f32) : FVec Ideal S8192x1024 .f32 := fun i => xn X G (i 0) (i 1)
def projd (X : FVec Ideal S8192x1024 .f32) (G : FVec Ideal S1x1024 .f32) (W : FVec Ideal S1024x2720 .f32) : FVec Ideal S8192x2720 .f32 :=
  fun i => ∑ k : Fin 1024, xn X G (i 0) k * W (ix2 k (i 1))

/-- The projection's weights, transposed and regrouped as the kernel reads them. -/
def wideOf (w : FVec Ideal S1024x2720 .f32) : FVec Ideal S2816x1024 .bf16 :=
  have t : FVec Ideal S2720x1024 .bf16 := truncf .bf16 (transpose S2720x1024 [1, 0] w transposes_S1024x2720_S2720x1024_1_0) bitsLt_bf16_f32
  concatenate S2816x1024 0 [⟨S2048x1024, extractStridedSlice S2048x1024 ![0, 0] t slices_S2720x1024_S2048x1024_0_0⟩,
    ⟨S256x1024, extractStridedSlice S256x1024 ![2432, 0] t slices_S2720x1024_S256x1024_2432_0⟩,
    ⟨S384x1024, extractStridedSlice S384x1024 ![2048, 0] t slices_S2720x1024_S384x1024_2048_0⟩,
    ⟨S64x1024, broadcastInDim S64x1024 ![] bcast_S_S64x1024 (constant S_ .bf16 0x0000#16)⟩,
    ⟨S32x1024, extractStridedSlice S32x1024 ![2688, 0] t slices_S2720x1024_S32x1024_2688_0⟩,
    ⟨S32x1024, broadcastInDim S32x1024 ![] bcast_S_S32x1024 (constant S_ .bf16 0x0000#16)⟩]
    concatenates_S2048x1024_S256x1024_S384x1024_S64x1024_S32x1024_S32x1024_S2816x1024_d0

theorem wideOf_0 (w : FVec Ideal S1024x2720 .f32) (n : Fin 2816) (k : Fin 1024) (j : Fin 2720) (hn : n.val < 2048) (hj : n.val = j.val) :
    wideOf w (ix2 n k) = w (ix2 k j) := by
  pointwise [wideOf]
  rw [dif_pos (by omega)]
  blk_ext []
theorem wideOf_1 (w : FVec Ideal S1024x2720 .f32) (n : Fin 2816) (k : Fin 1024) (j : Fin 2720) (hn : 2432 ≤ j.val) (hn' : j.val < 2688) (hj : n.val + 384 = j.val) :
    wideOf w (ix2 n k) = w (ix2 k j) := by
  pointwise [wideOf]
  rw [dif_neg (by omega), dif_pos (by omega)]
  blk_ext []
theorem wideOf_2 (w : FVec Ideal S1024x2720 .f32) (n : Fin 2816) (k : Fin 1024) (j : Fin 2720) (hn : 2048 ≤ j.val) (hn' : j.val < 2432) (hj : n.val = j.val + 256) :
    wideOf w (ix2 n k) = w (ix2 k j) := by
  pointwise [wideOf]
  rw [dif_neg (by omega), dif_neg (by omega), dif_pos (by omega)]
  blk_ext []
theorem wideOf_4 (w : FVec Ideal S1024x2720 .f32) (n : Fin 2816) (k : Fin 1024) (j : Fin 2720) (hn : 2688 ≤ j.val) (hj : n.val = j.val + 64) :
    wideOf w (ix2 n k) = w (ix2 k j) := by
  have := j.isLt
  pointwise [wideOf]
  rw [dif_neg (by omega), dif_neg (by omega), dif_neg (by omega), dif_neg (by omega), dif_pos (by omega)]
  blk_ext []

theorem pay1_apply (x : FVec Ideal S512x1024 .f32) (g : FVec Ideal S1x1024 .f32) (X : FVec Ideal S8192x1024 .f32) (G : FVec Ideal S1x1024 .f32) (r : Fin 512) (t : Fin 8192)
    (hx : ∀ k, x (ix2 r k) = X (ix2 t k)) (hg : ∀ k, g (ix2 0 k) = G (ix2 0 k)) (k : Fin 1024) : k0_pay1 (F := Ideal) x g (ix2 r k) = xn X G t k := by
  pointwise [k0_pay1]
  simp only [hx, hg]
  rfl

theorem pay4_apply (n : FVec Ideal S512x1024 .bf16) (w : FVec Ideal S2816x1024 .bf16) (r : Fin 512) (N : Fin 1024 → EReal) (hn : ∀ k, n (ix2 r k) = N k) (j : Fin 2816) :
    k0_pay4 (F := Ideal) n w (ix2 r j) = ∑ k : Fin 1024, N k * w (ix2 j k) := by
  pointwise [k0_pay4]
  simp only [hn]

/-- The result's columns, taken back from the regrouped order. -/
def cutP (A : FVec Ideal S8192x2816 .f32) : FVec Ideal S8192x2720 .f32 :=
  concatenate S8192x2720 1 [⟨S8192x2048, extractStridedSlice S8192x2048 ![0, 0] A slices_S8192x2816_S8192x2048_0_0⟩,
    ⟨S8192x384, extractStridedSlice S8192x384 ![0, 2304] A slices_S8192x2816_S8192x384_0_2304⟩,
    ⟨S8192x256, extractStridedSlice S8192x256 ![0, 2048] A slices_S8192x2816_S8192x256_0_2048⟩,
    ⟨S8192x32, extractStridedSlice S8192x32 ![0, 2752] A slices_S8192x2816_S8192x32_0_2752⟩]
    concatenates_S8192x2048_S8192x384_S8192x256_S8192x32_S8192x2720_d1

theorem cutP_apply (A : FVec Ideal S8192x2816 .f32) (t : Fin 8192) (j : Fin 2720) (R : EReal)
    (h0 : ∀ n : Fin 2816, j.val < 2048 → n.val = j.val → A (ix2 t n) = R)
    (h1 : ∀ n : Fin 2816, 2048 ≤ j.val → j.val < 2432 → n.val = j.val + 256 → A (ix2 t n) = R)
    (h2 : ∀ n : Fin 2816, 2432 ≤ j.val → j.val < 2688 → n.val + 384 = j.val → A (ix2 t n) = R)
    (h3 : ∀ n : Fin 2816, 2688 ≤ j.val → n.val = j.val + 64 → A (ix2 t n) = R) : cutP A (ix2 t j) = R := by
  have := j.isLt
  by_cases c0 : j.val < 2048
  · refine Eq.trans ?_ (h0 ⟨j.val, by omega⟩ c0 rfl)
    pointwise [cutP]
    rw [dif_pos (by omega)]
    blk_ext []
  by_cases c1 : j.val < 2432
  · refine Eq.trans ?_ (h1 ⟨j.val + 256, by omega⟩ (by omega) c1 rfl)
    pointwise [cutP]
    rw [dif_neg (by omega), dif_pos (by omega)]
    blk_ext []
  by_cases c2 : j.val < 2688
  · refine Eq.trans ?_ (h2 ⟨j.val - 384, by omega⟩ (by omega) c2 (by dsimp only; omega))
    pointwise [cutP]
    rw [dif_neg (by omega), dif_neg (by omega), dif_pos (by omega)]
    blk_ext []
  · refine Eq.trans ?_ (h3 ⟨j.val + 64, by omega⟩ (by omega) rfl)
    pointwise [cutP]
    rw [dif_neg (by omega), dif_neg (by omega), dif_neg (by omega)]
    blk_ext []

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

theorem lt16 (t : Fin cfg0.N) : t.val < 16 := t.isLt.trans_eq N_0

theorem V_w : V m c main_v8 = wideOf (m ((c : Thread nD τ).loc main_arg2) : FVec Ideal S1024x2720 .f32) := by
  show StableHlo.after (List.flatten [hostOps0]) (fun b => m (c, b)) (Proc.devRef .tc main_v8) = _
  unfold wideOf
  simp only [hostOps0, List.flatten_cons, List.flatten_nil, List.append_nil]
  after_results_simp
  try rfl

theorem after3 (t : Fin cfg0.N) : (dats m 0 c).after 3 t = k0_pay3 (iblk m c 0 t) (iblk m c 1 t) := by
  rw [after0_3]; unfold outsAt0; dsimp only; frame_out
theorem after4 (t : Fin cfg0.N) : (dats m 0 c).after 4 t = k0_pay4 (k0_pay2 (iblk m c 0 t) (iblk m c 1 t)) (iblk m c 2 t) := by
  rw [after0_4]; unfold outsAt0; dsimp only; frame_out

theorem blk_x (t : Fin cfg0.N) (r : Fin 512) (k : Fin 1024) (T : Fin 8192) (hT : T.val = t.val * 512 + r.val) :
    (iblk m c 0 t : FVec Ideal S512x1024 .f32) (ix2 r k) = (V m c main_arg0 : FVec Ideal S8192x1024 .f32) (ix2 T k) := by blk_ext [iblk, idx t]
theorem blk_g (t : Fin cfg0.N) (k : Fin 1024) :
    (iblk m c 1 t : FVec Ideal S1x1024 .f32) (ix2 0 k) = (V m c main_arg1 : FVec Ideal S1x1024 .f32) (ix2 0 k) := by blk_ext [iblk, idx t]
theorem blk_w (t : Fin cfg0.N) : (iblk m c 2 t : FVec Ideal S2816x1024 .bf16) = (V m c main_v8 : FVec Ideal S2816x1024 .bf16) := by
  funext i; idx_vars i; blk_ext [iblk, idx t]

theorem nrm (t : Fin cfg0.N) (r : Fin 512) (T : Fin 8192) (hT : T.val = t.val * 512 + r.val) (k : Fin 1024) :
    k0_pay1 (F := Ideal) (iblk m c 0 t) (iblk m c 1 t) (ix2 r k) = xn (m ((c : Thread nD τ).loc main_arg0)) (m ((c : Thread nD τ).loc main_arg1)) T k :=
  pay1_apply _ _ _ _ r T (fun k => (blk_x m c t r k T hT).trans (congrFun (V_main_arg0 m c) _)) (fun k => (blk_g m c t k).trans (congrFun (V_main_arg1 m c) _)) k

set_option maxHeartbeats 1600000 in
theorem final3 : (dats m 0 c).arrAt 3 cfg0.N = normed (m ((c : Thread nD τ).loc main_arg0)) (m ((c : Thread nD τ).loc main_arg1)) := by
  refine (dats m 0 c).arrAt_eq_of_covers 3 _ (by decide +kernel) fun t _ y => ?_
  have ht := lt16 t
  idx_vars y
  have e : ((cfg0.win 3).blk t).view.emb (ix2 y0 y1) = ix2 (⟨t.val * 512 + y0.val, by omega⟩ : Fin 8192) y1 := by blk_ext [idx t]
  rw [e]
  blk_simp
  rw [after3]
  refine Eq.trans (b := k0_pay1 (F := Ideal) (iblk m c 0 t) (iblk m c 1 t) (ix2 y0 y1)) ?_ (nrm m c t y0 ⟨t.val * 512 + y0.val, by omega⟩ rfl y1)
  pointwise [k0_pay3]

set_option maxHeartbeats 1600000 in
theorem final4 : (dats m 0 c).arrAt 4 cfg0.N = fun i : S8192x2816.Idx => ∑ k : Fin 1024, xn (m ((c : Thread nD τ).loc main_arg0)) (m ((c : Thread nD τ).loc main_arg1)) (i 0) k * wideOf (m ((c : Thread nD τ).loc main_arg2)) (ix2 (i 1) k) := by
  refine (dats m 0 c).arrAt_eq_of_covers 4 _ (by decide +kernel) fun t _ y => ?_
  have ht := lt16 t
  idx_vars y
  have e : ((cfg0.win 4).blk t).view.emb (ix2 y0 y1) = ix2 (⟨t.val * 512 + y0.val, by omega⟩ : Fin 8192) y1 := by blk_ext [idx t]
  rw [e]
  blk_simp
  rw [after4, blk_w, V_w]
  refine pay4_apply _ _ y0 (xn (m ((c : Thread nD τ).loc main_arg0)) (m ((c : Thread nD τ).loc main_arg1)) ⟨t.val * 512 + y0.val, by omega⟩) (fun k => ?_) y1
  refine Eq.trans (b := k0_pay1 (F := Ideal) (iblk m c 0 t) (iblk m c 1 t) (ix2 y0 k)) ?_ (nrm m c t y0 ⟨t.val * 512 + y0.val, by omega⟩ rfl k)
  pointwise [k0_pay2]

theorem arr3 : Pipeline.withArrays spec0 c (V0 m c) (fun w => (dats m 0 c).arrAt w cfg0.N) (Proc.devRef .tc main_v9_0) = (dats m 0 c).arrAt 3 cfg0.N :=
  Pipeline.withArrays_arr spec0 (by decide) c (V0 m c) (fun w => (dats m 0 c).arrAt w cfg0.N) 3
theorem arr4 : Pipeline.withArrays spec0 c (V0 m c) (fun w => (dats m 0 c).arrAt w cfg0.N) (Proc.devRef .tc main_v9_1) = (dats m 0 c).arrAt 4 cfg0.N :=
  Pipeline.withArrays_arr spec0 (by decide) c (V0 m c) (fun w => (dats m 0 c).arrAt w cfg0.N) 4

/-- The normalised rows in the results' type. -/
def wideX (A : FVec Ideal S8192x1024 .bf16) : FVec Ideal S8192x1024 .f32 := extf .f32 A bitsLt_bf16_f32

theorem tail_x : (Pipeline.afterTail₀ cfgs (dats m) 0 (V0 m) [hostOps1] c main_v10 : FVec Ideal S8192x1024 .f32)
    = wideX ((dats m 0 c).arrAt 3 cfg0.N) := by
  rw [← arr3]
  unfold wideX
  show StableHlo.after (List.flatten [hostOps1]) (Pipeline.withArrays spec0 c (V0 m c) fun w => (dats m 0 c).arrAt w cfg0.N) (Proc.devRef .tc main_v10) = _
  generalize Pipeline.withArrays spec0 c (V0 m c) (fun w => (dats m 0 c).arrAt w cfg0.N) = B
  simp only [hostOps1, List.flatten_cons, List.flatten_nil, List.append_nil]
  after_results_simp
  try rfl
theorem tail_p : (Pipeline.afterTail₀ cfgs (dats m) 0 (V0 m) [hostOps1] c main_v15 : FVec Ideal S8192x2720 .f32) = cutP ((dats m 0 c).arrAt 4 cfg0.N) := by
  rw [← arr4]
  unfold cutP
  show StableHlo.after (List.flatten [hostOps1]) (Pipeline.withArrays spec0 c (V0 m c) fun w => (dats m 0 c).arrAt w cfg0.N) (Proc.devRef .tc main_v15) = _
  generalize Pipeline.withArrays spec0 c (V0 m c) (fun w => (dats m 0 c).arrAt w cfg0.N) = B
  simp only [hostOps1, List.flatten_cons, List.flatten_nil, List.append_nil]
  after_results_simp
  try rfl

theorem xn_eq : (Pipeline.afterTail₀ cfgs (dats m) 0 (V0 m) [hostOps1] c main_v10 : FVec Ideal S8192x1024 .f32) = normed (m ((c : Thread nD τ).loc main_arg0)) (m ((c : Thread nD τ).loc main_arg1)) := by
  rw [tail_x, final3 m c]
  rfl

theorem proj_eq : (Pipeline.afterTail₀ cfgs (dats m) 0 (V0 m) [hostOps1] c main_v15 : FVec Ideal S8192x2720 .f32) = projd (m ((c : Thread nD τ).loc main_arg0)) (m ((c : Thread nD τ).loc main_arg1)) (m ((c : Thread nD τ).loc main_arg2)) := by
  rw [tail_p, final4 m c]
  funext i
  idx_vars i
  refine cutP_apply _ i0 i1 _ (fun n a b => ?_) (fun n a a' b => ?_) (fun n a a' b => ?_) (fun n a b => ?_)
  · exact Finset.sum_congr rfl fun k _ => congrArg _ (wideOf_0 _ n k i1 (by omega) b)
  · exact Finset.sum_congr rfl fun k _ => congrArg _ (wideOf_2 _ n k i1 a a' b)
  · exact Finset.sum_congr rfl fun k _ => congrArg _ (wideOf_1 _ n k i1 a a' b)
  · exact Finset.sum_congr rfl fun k _ => congrArg _ (wideOf_4 _ n k i1 a b)

end Cert.InProjIdeal.Val

end
-- ==== Proof.InProjRef.lean ====
/- What `InProjRefIdeal` leaves in its two results. -/
module

public import proofs.«01_k».proof.Proof.InProjValue
public import proofs.«01_k».proof.Proof.Gen.InProjRefIdeal.Read

@[expose] public section

set_option maxRecDepth 16384

noncomputable section

namespace Cert.InProjRefIdeal.Val

open Idealize.ShloMosaic Idealize.ShloMosaic.TcCoe Idealize.SL.Sem Cert.RealKit
open Cert.InProjRefIdeal Cert.InProjRefIdeal.Gen Cert.InProjRefIdeal.Read Cert.InProjIdeal.Val

variable (X : FVec Ideal S8192x1024 .f32) (G : FVec Ideal S1x1024 .f32) (W : FVec Ideal S1024x2720 .f32)

theorem v13 (t : Fin 8192) (k : Fin 1024) : val_main_v13 (F := Ideal) X G (ix2 t k) = xn X G t k := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem x_ref : val_main_v13 (F := Ideal) X G = normed X G := by
  funext i
  idx_vars i
  exact v13 X G i0 i1

theorem p_ref : val_main_v14 (F := Ideal) X G W = projd X G W := by
  funext i
  idx_vars i
  pointwise [val_main_v14]
  simp only [v13]
  rfl

end Cert.InProjRefIdeal.Val

end
-- ==== Proof.InProjPair.lean ====
/- The claims about the input projection. -/
module

public import proofs.«01_k».proof.Defs
public import proofs.«01_k».proof.Proof.InProjRef
public import proofs.«01_k».proof.Proof.Gen.InProj.Frame
public import proofs.«01_k».proof.Proof.Gen.InProjRefIdeal.Run

@[expose] public section

noncomputable section

namespace Cert.InProjPair

open Idealize.ShloMosaic Idealize.ShloMosaic.TcCoe Idealize.SL.Sem Cert.RealKit Cert.InProjIdeal

theorem value : Cert.algebraic_InProjIdeal_InProjRefIdeal := by
  intro m g m' g' hpre hagree
  refine ⟨fun c => Val.normed (m ((c : Thread nD τ).loc main_arg0)) (m ((c : Thread nD τ).loc main_arg1)), fun c => Val.projd (m ((c : Thread nD τ).loc main_arg0)) (m ((c : Thread nD τ).loc main_arg1)) (m ((c : Thread nD τ).loc main_arg2)), ?_, ?_⟩
  · refine (θ_run _ _ _).mono (fun r h c => ?_) (θ_run_and (Gen.run_main m g) (Gen.frame m g))
    obtain ⟨h1, h2, -⟩ := h
    exact ⟨((h1 c).2 main_v10 (Pipeline.mem_restRefs_of main_v10 (by decide) (by decide))).trans (Val.xn_eq m c),
      ((h1 c).2 main_v15 (Pipeline.mem_restRefs_of main_v15 (by decide) (by decide))).trans (Val.proj_eq m c), h2 c⟩
  · refine (θ_run _ _ _).mono (fun r h c => ?_) (Cert.InProjRefIdeal.Value.run (F := Ideal) m' g')
    obtain ⟨a0, a1, a2⟩ := hagree c
    obtain ⟨h0, h1, hr⟩ := h c
    refine ⟨h0.trans ?_, h1.trans ?_, hr⟩
    · refine (InProjRefIdeal.Read.val_main_v13_eq _ _).trans ?_
      rw [a0, a1]
      exact InProjRefIdeal.Val.x_ref _ _
    · refine (InProjRefIdeal.Read.val_main_v14_eq _ _ _).trans ?_
      rw [a0, a1, a2]
      exact InProjRefIdeal.Val.p_ref _ _ _

theorem frame_kernel : Cert.quiescent_InProj := fun m g _ => Cert.InProj.Gen.frame m g

theorem frame_ideal : Cert.quiescent_InProjIdeal := fun m g _ => Gen.frame m g

theorem frame_ref : Cert.quiescent_InProjRefIdeal := by
  intro m g _
  exact (θ_run _ _ _).mono (fun r h => ⟨fun c => (h c).2.2, sem_eq_zero_of_no_sems (by decide) r.2⟩) (Cert.InProjRefIdeal.Value.run (F := Ideal) m g)

theorem preserves : Cert.preserves_InProj_InProjIdeal := trivial

end Cert.InProjPair

end
-- ==== Proof.lean ====
/- Every claim of the certificate, pair by pair: the programs' facts, their frames, then what each pair preserves and computes. -/
module

public import proofs.«01_k».proof.Defs
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMid.Frame
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import proofs.«01_k».proof.Proof.Gen.FfnMidRefIdeal
public import proofs.«01_k».proof.Proof.Gen.FfnMidRefIdeal.Run
public import proofs.«01_k».proof.Proof.Gen.FfnMidRefIdeal.Read
public import proofs.«01_k».proof.Proof.Gen.Pre_finite_ffn_mid
public import proofs.«01_k».proof.Proof.FfnMidPair
public import proofs.«01_k».proof.Proof.Gen.AttnBwd
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_finite_attn_bwd
public import proofs.«01_k».proof.Proof.AttnBwdPair
public import proofs.«01_k».proof.Proof.Gen.OBwd
public import proofs.«01_k».proof.Proof.Gen.OBwd.Skeleton
public import proofs.«01_k».proof.Proof.Gen.OBwd.Launch
public import proofs.«01_k».proof.Proof.Gen.OBwd.Points
public import proofs.«01_k».proof.Proof.Gen.OBwd.Frame
public import proofs.«01_k».proof.Proof.Gen.OBwdIdeal
public import proofs.«01_k».proof.Proof.Gen.OBwdIdeal.Skeleton
public import proofs.«01_k».proof.Proof.Gen.OBwdIdeal.Launch
public import proofs.«01_k».proof.Proof.Gen.OBwdIdeal.Points
public import proofs.«01_k».proof.Proof.Gen.OBwdIdeal.Frame
public import proofs.«01_k».proof.Proof.Gen.OBwdRefIdeal
public import proofs.«01_k».proof.Proof.Gen.OBwdRefIdeal.Run
public import proofs.«01_k».proof.Proof.Gen.OBwdRefIdeal.Read
public import proofs.«01_k».proof.Proof.Gen.Pre_finite_o_bwd
public import proofs.«01_k».proof.Proof.OBwdPair
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.Pre_finite_in_bwd
public import proofs.«01_k».proof.Proof.InBwdPair
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.Pre_finite_ffn_in
public import proofs.«01_k».proof.Proof.FfnInPair
public import proofs.«01_k».proof.Proof.Gen.PleLoss
public import proofs.«01_k».proof.Proof.Gen.PleLoss.Skeleton
public import proofs.«01_k».proof.Proof.Gen.PleLoss.Launch
public import proofs.«01_k».proof.Proof.Gen.PleLoss.Points
public import proofs.«01_k».proof.Proof.Gen.PleLoss.Frame
public import proofs.«01_k».proof.Proof.Gen.PleLossIdeal
public import proofs.«01_k».proof.Proof.Gen.PleLossIdeal.Skeleton
public import proofs.«01_k».proof.Proof.Gen.PleLossIdeal.Launch
public import proofs.«01_k».proof.Proof.Gen.PleLossIdeal.Points
public import proofs.«01_k».proof.Proof.Gen.PleLossIdeal.Frame
public import proofs.«01_k».proof.Proof.Gen.PleLossRefIdeal
public import proofs.«01_k».proof.Proof.Gen.PleLossRefIdeal.Run
public import proofs.«01_k».proof.Proof.Gen.PleLossRefIdeal.Read
public import proofs.«01_k».proof.Proof.Gen.Pre_finite_ple_loss
public import proofs.«01_k».proof.Proof.PleLossPair
public import proofs.«01_k».proof.Proof.Gen.QkvBwd
public import proofs.«01_k».proof.Proof.Gen.QkvBwd.Skeleton
public import proofs.«01_k».proof.Proof.Gen.QkvBwd.Launch
public import proofs.«01_k».proof.Proof.Gen.QkvBwd.Points
public import proofs.«01_k».proof.Proof.Gen.QkvBwd.Frame
public import proofs.«01_k».proof.Proof.Gen.QkvBwdIdeal
public import proofs.«01_k».proof.Proof.Gen.QkvBwdIdeal.Skeleton
public import proofs.«01_k».proof.Proof.Gen.QkvBwdIdeal.Launch
public import proofs.«01_k».proof.Proof.Gen.QkvBwdIdeal.Points
public import proofs.«01_k».proof.Proof.Gen.QkvBwdIdeal.Frame
public import proofs.«01_k».proof.Proof.Gen.QkvBwdRefIdeal
public import proofs.«01_k».proof.Proof.Gen.QkvBwdRefIdeal.Run
public import proofs.«01_k».proof.Proof.Gen.QkvBwdRefIdeal.Read
public import proofs.«01_k».proof.Proof.Gen.Pre_finite_qkv_bwd
public import proofs.«01_k».proof.Proof.QkvBwdPair
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.InProjPair
public import Idealize.ShloMosaic.Adequacy
public import Idealize.ShloMosaic.Init

@[expose] public section

noncomputable section

namespace Cert.Proof

theorem claim : Cert.Claim :=
  ⟨Cert.FfnMid.Gen.facts,
    Cert.FfnMidIdeal.Gen.facts,
    Cert.FfnMidRefIdeal.Gen.facts,
    Cert.AttnBwd.Gen.facts,
    Cert.AttnBwdIdeal.Gen.facts,
    Cert.AttnBwdRefIdeal.Gen.facts,
    Cert.OBwd.Gen.facts,
    Cert.OBwdIdeal.Gen.facts,
    Cert.OBwdRefIdeal.Gen.facts,
    Cert.InBwd.Gen.facts,
    Cert.InBwdIdeal.Gen.facts,
    Cert.InBwdRefIdeal.Gen.facts,
    Cert.FfnIn.Gen.facts,
    Cert.FfnInIdeal.Gen.facts,
    Cert.FfnInRefIdeal.Gen.facts,
    Cert.PleLoss.Gen.facts,
    Cert.PleLossIdeal.Gen.facts,
    Cert.PleLossRefIdeal.Gen.facts,
    Cert.QkvBwd.Gen.facts,
    Cert.QkvBwdIdeal.Gen.facts,
    Cert.QkvBwdRefIdeal.Gen.facts,
    Cert.InProj.Gen.facts,
    Cert.InProjIdeal.Gen.facts,
    Cert.InProjRefIdeal.Gen.facts,
    Cert.Pre_finite_ffn_mid.Gen.facts,
    Cert.Pre_finite_attn_bwd.Gen.facts,
    Cert.Pre_finite_o_bwd.Gen.facts,
    Cert.Pre_finite_in_bwd.Gen.facts,
    Cert.Pre_finite_ffn_in.Gen.facts,
    Cert.Pre_finite_ple_loss.Gen.facts,
    Cert.Pre_finite_qkv_bwd.Gen.facts,
    Cert.FfnMidPair.frame_kernel,
    Cert.FfnMidPair.frame_ideal,
    fun m g _ => Cert.FfnMidPair.frame_ideal m g trivial,
    Cert.FfnMidPair.frame_ref,
    fun m g _ => Cert.FfnMidPair.frame_ref m g trivial,
    Cert.AttnBwdPair.frame_kernel,
    Cert.AttnBwdPair.frame_ideal,
    fun m g _ => Cert.AttnBwdPair.frame_ideal m g trivial,
    Cert.AttnBwdPair.frame_ref,
    fun m g _ => Cert.AttnBwdPair.frame_ref m g trivial,
    Cert.OBwdPair.frame_kernel,
    Cert.OBwdPair.frame_ideal,
    fun m g _ => Cert.OBwdPair.frame_ideal m g trivial,
    Cert.OBwdPair.frame_ref,
    fun m g _ => Cert.OBwdPair.frame_ref m g trivial,
    Cert.InBwdPair.frame_kernel,
    Cert.InBwdPair.frame_ideal,
    fun m g _ => Cert.InBwdPair.frame_ideal m g trivial,
    Cert.InBwdPair.frame_ref,
    fun m g _ => Cert.InBwdPair.frame_ref m g trivial,
    Cert.FfnInPair.frame_kernel,
    Cert.FfnInPair.frame_ideal,
    fun m g _ => Cert.FfnInPair.frame_ideal m g trivial,
    Cert.FfnInPair.frame_ref,
    fun m g _ => Cert.FfnInPair.frame_ref m g trivial,
    Cert.PleLossPair.frame_kernel,
    Cert.PleLossPair.frame_ideal,
    fun m g _ => Cert.PleLossPair.frame_ideal m g trivial,
    Cert.PleLossPair.frame_ref,
    fun m g _ => Cert.PleLossPair.frame_ref m g trivial,
    Cert.QkvBwdPair.frame_kernel,
    Cert.QkvBwdPair.frame_ideal,
    fun m g _ => Cert.QkvBwdPair.frame_ideal m g trivial,
    Cert.QkvBwdPair.frame_ref,
    fun m g _ => Cert.QkvBwdPair.frame_ref m g trivial,
    Cert.InProjPair.frame_kernel,
    Cert.InProjPair.frame_ideal,
    Cert.InProjPair.frame_ref,
    Cert.FfnMidPair.preserves,
    Cert.FfnMidPair.value,
    Cert.AttnBwdPair.preserves,
    Cert.AttnBwdPair.value,
    Cert.OBwdPair.preserves,
    Cert.OBwdPair.value,
    Cert.InBwdPair.preserves,
    Cert.InBwdPair.value,
    Cert.FfnInPair.preserves,
    Cert.FfnInPair.value,
    Cert.PleLossPair.preserves,
    Cert.PleLossPair.value,
    Cert.QkvBwdPair.preserves,
    Cert.QkvBwdPair.value,
    Cert.InProjPair.preserves,
    Cert.InProjPair.value⟩

end Cert.Proof

end
